-- ==== Defs.lean ====
def Pre_ProjA (m : (ℓ : Loc Cert.ProjA.nD Cert.ProjA.τ Cert.ProjA.sig) → Buf (Elt Bits) ℓ) : Prop :=
  True

def Pre_ProjAIdeal (m : (ℓ : Loc Cert.ProjAIdeal.nD Cert.ProjAIdeal.τ Cert.ProjAIdeal.sig) → Buf (Elt Ideal) ℓ) : Prop :=
  True

def Pre_ProjARefIdeal (m : (ℓ : Loc Cert.ProjARefIdeal.nD Cert.ProjARefIdeal.τ Cert.ProjARefIdeal.sig) → Buf (Elt Ideal) ℓ) : Prop :=
  True

def Pre_ProjAS (m : (ℓ : Loc Cert.ProjAS.nD Cert.ProjAS.τ Cert.ProjAS.sig) → Buf (Elt Bits) ℓ) : Prop :=
  True

def Pre_ProjASIdeal (m : (ℓ : Loc Cert.ProjASIdeal.nD Cert.ProjASIdeal.τ Cert.ProjASIdeal.sig) → Buf (Elt Ideal) ℓ) : Prop :=
  True

def Pre_ProjASRefIdeal (m : (ℓ : Loc Cert.ProjASRefIdeal.nD Cert.ProjASRefIdeal.τ Cert.ProjASRefIdeal.sig) → Buf (Elt Ideal) ℓ) : Prop :=
  True

def Pre_ProjB (m : (ℓ : Loc Cert.ProjB.nD Cert.ProjB.τ Cert.ProjB.sig) → Buf (Elt Bits) ℓ) : Prop :=
  True

def Pre_ProjBIdeal (m : (ℓ : Loc Cert.ProjBIdeal.nD Cert.ProjBIdeal.τ Cert.ProjBIdeal.sig) → Buf (Elt Ideal) ℓ) : Prop :=
  True

def Pre_ProjBRefIdeal (m : (ℓ : Loc Cert.ProjBRefIdeal.nD Cert.ProjBRefIdeal.τ Cert.ProjBRefIdeal.sig) → Buf (Elt Ideal) ℓ) : Prop :=
  True

def Pre_MemKv0 (m : (ℓ : Loc Cert.MemKv0.nD Cert.MemKv0.τ Cert.MemKv0.sig) → Buf (Elt Bits) ℓ) : Prop :=
  True

def Pre_MemKv0Ideal (m : (ℓ : Loc Cert.MemKv0Ideal.nD Cert.MemKv0Ideal.τ Cert.MemKv0Ideal.sig) → Buf (Elt Ideal) ℓ) : Prop :=
  True

def Pre_MemKv0RefIdeal (m : (ℓ : Loc Cert.MemKv0RefIdeal.nD Cert.MemKv0RefIdeal.τ Cert.MemKv0RefIdeal.sig) → Buf (Elt Ideal) ℓ) : Prop :=
  True

def Pre_MemKv1 (m : (ℓ : Loc Cert.MemKv1.nD Cert.MemKv1.τ Cert.MemKv1.sig) → Buf (Elt Bits) ℓ) : Prop :=
  True

def Pre_MemKv1Ideal (m : (ℓ : Loc Cert.MemKv1Ideal.nD Cert.MemKv1Ideal.τ Cert.MemKv1Ideal.sig) → Buf (Elt Ideal) ℓ) : Prop :=
  True

def Pre_MemKv1RefIdeal (m : (ℓ : Loc Cert.MemKv1RefIdeal.nD Cert.MemKv1RefIdeal.τ Cert.MemKv1RefIdeal.sig) → Buf (Elt Ideal) ℓ) : Prop :=
  True

def Pre_MemAttn (m : (ℓ : Loc Cert.MemAttn.nD Cert.MemAttn.τ Cert.MemAttn.sig) → Buf (Elt Bits) ℓ) : Prop :=
  True

def Pre_MemAttnIdeal (m : (ℓ : Loc Cert.MemAttnIdeal.nD Cert.MemAttnIdeal.τ Cert.MemAttnIdeal.sig) → Buf (Elt Ideal) ℓ) : Prop :=
  True

def Pre_MemAttnRefIdeal (m : (ℓ : Loc Cert.MemAttnRefIdeal.nD Cert.MemAttnRefIdeal.τ Cert.MemAttnRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Scores (m : (ℓ : Loc Cert.Scores.nD Cert.Scores.τ Cert.Scores.sig) → Buf (Elt Bits) ℓ) : Prop :=
  True

def Pre_ScoresIdeal (m : (ℓ : Loc Cert.ScoresIdeal.nD Cert.ScoresIdeal.τ Cert.ScoresIdeal.sig) → Buf (Elt Ideal) ℓ) : Prop :=
  True

def Pre_ScoresRefIdeal (m : (ℓ : Loc Cert.ScoresRefIdeal.nD Cert.ScoresRefIdeal.τ Cert.ScoresRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attn [hPre_finite_attn : Cert.Pre_finite_attn.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1))) = (fun _ => 1#1)

def Pre_HgrnS (m : (ℓ : Loc Cert.HgrnS.nD Cert.HgrnS.τ Cert.HgrnS.sig) → Buf (Elt Bits) ℓ) : Prop :=
  True

def Pre_HgrnSIdeal (m : (ℓ : Loc Cert.HgrnSIdeal.nD Cert.HgrnSIdeal.τ Cert.HgrnSIdeal.sig) → Buf (Elt Ideal) ℓ) : Prop :=
  True

def Pre_HgrnSIdeal_finite_lower_s [hPre_finite_lower_s : Cert.Pre_finite_lower_s.Facts] (m : (ℓ : Loc Cert.HgrnSIdeal.nD Cert.HgrnSIdeal.τ Cert.HgrnSIdeal.sig) → Buf (Elt Ideal) ℓ) : Prop :=
  ∀ c : Dev Cert.HgrnSIdeal.nD,
    (Cert.Pre_finite_lower_s.fn (F := Ideal) (m ((c.tc : Thread Cert.HgrnSIdeal.nD Cert.HgrnSIdeal.τ).loc Cert.HgrnSIdeal.main_arg0)) (m ((c.tc : Thread Cert.HgrnSIdeal.nD Cert.HgrnSIdeal.τ).loc Cert.HgrnSIdeal.main_arg1)) (m ((c.tc : Thread Cert.HgrnSIdeal.nD Cert.HgrnSIdeal.τ).loc Cert.HgrnSIdeal.main_arg2)) (m ((c.tc : Thread Cert.HgrnSIdeal.nD Cert.HgrnSIdeal.τ).loc Cert.HgrnSIdeal.main_arg3))) = (fun _ => 1#1)

def Pre_HgrnSRefIdeal (m : (ℓ : Loc Cert.HgrnSRefIdeal.nD Cert.HgrnSRefIdeal.τ Cert.HgrnSRefIdeal.sig) → Buf (Elt Ideal) ℓ) : Prop :=
  True

def Pre_HgrnSRefIdeal_finite_lower_s [hPre_finite_lower_s : Cert.Pre_finite_lower_s.Facts] (m : (ℓ : Loc Cert.HgrnSRefIdeal.nD Cert.HgrnSRefIdeal.τ Cert.HgrnSRefIdeal.sig) → Buf (Elt Ideal) ℓ) : Prop :=
  ∀ c : Dev Cert.HgrnSRefIdeal.nD,
    (Cert.Pre_finite_lower_s.fn (F := Ideal) (m ((c.tc : Thread Cert.HgrnSRefIdeal.nD Cert.HgrnSRefIdeal.τ).loc Cert.HgrnSRefIdeal.main_arg0)) (m ((c.tc : Thread Cert.HgrnSRefIdeal.nD Cert.HgrnSRefIdeal.τ).loc Cert.HgrnSRefIdeal.main_arg1)) (m ((c.tc : Thread Cert.HgrnSRefIdeal.nD Cert.HgrnSRefIdeal.τ).loc Cert.HgrnSRefIdeal.main_arg2)) (m ((c.tc : Thread Cert.HgrnSRefIdeal.nD Cert.HgrnSRefIdeal.τ).loc Cert.HgrnSRefIdeal.main_arg3))) = (fun _ => 1#1)

def Pre_HgrnP (m : (ℓ : Loc Cert.HgrnP.nD Cert.HgrnP.τ Cert.HgrnP.sig) → Buf (Elt Bits) ℓ) : Prop :=
  True

def Pre_HgrnPIdeal (m : (ℓ : Loc Cert.HgrnPIdeal.nD Cert.HgrnPIdeal.τ Cert.HgrnPIdeal.sig) → Buf (Elt Ideal) ℓ) : Prop :=
  True

def Pre_HgrnPIdeal_finite_lower_p [hPre_finite_lower_p : Cert.Pre_finite_lower_p.Facts] (m : (ℓ : Loc Cert.HgrnPIdeal.nD Cert.HgrnPIdeal.τ Cert.HgrnPIdeal.sig) → Buf (Elt Ideal) ℓ) : Prop :=
  ∀ c : Dev Cert.HgrnPIdeal.nD,
    (Cert.Pre_finite_lower_p.fn (F := Ideal) (m ((c.tc : Thread Cert.HgrnPIdeal.nD Cert.HgrnPIdeal.τ).loc Cert.HgrnPIdeal.main_arg0)) (m ((c.tc : Thread Cert.HgrnPIdeal.nD Cert.HgrnPIdeal.τ).loc Cert.HgrnPIdeal.main_arg1)) (m ((c.tc : Thread Cert.HgrnPIdeal.nD Cert.HgrnPIdeal.τ).loc Cert.HgrnPIdeal.main_arg2))) = (fun _ => 1#1)

def Pre_HgrnPRefIdeal (m : (ℓ : Loc Cert.HgrnPRefIdeal.nD Cert.HgrnPRefIdeal.τ Cert.HgrnPRefIdeal.sig) → Buf (Elt Ideal) ℓ) : Prop :=
  True

def Pre_HgrnPRefIdeal_finite_lower_p [hPre_finite_lower_p : Cert.Pre_finite_lower_p.Facts] (m : (ℓ : Loc Cert.HgrnPRefIdeal.nD Cert.HgrnPRefIdeal.τ Cert.HgrnPRefIdeal.sig) → Buf (Elt Ideal) ℓ) : Prop :=
  ∀ c : Dev Cert.HgrnPRefIdeal.nD,
    (Cert.Pre_finite_lower_p.fn (F := Ideal) (m ((c.tc : Thread Cert.HgrnPRefIdeal.nD Cert.HgrnPRefIdeal.τ).loc Cert.HgrnPRefIdeal.main_arg0)) (m ((c.tc : Thread Cert.HgrnPRefIdeal.nD Cert.HgrnPRefIdeal.τ).loc Cert.HgrnPRefIdeal.main_arg1)) (m ((c.tc : Thread Cert.HgrnPRefIdeal.nD Cert.HgrnPRefIdeal.τ).loc Cert.HgrnPRefIdeal.main_arg2))) = (fun _ => 1#1)

def Pre_Peer (m : (ℓ : Loc Cert.Peer.nD Cert.Peer.τ Cert.Peer.sig) → Buf (Elt Bits) ℓ) : Prop :=
  True

def Pre_PeerIdeal (m : (ℓ : Loc Cert.PeerIdeal.nD Cert.PeerIdeal.τ Cert.PeerIdeal.sig) → Buf (Elt Ideal) ℓ) : Prop :=
  True

def Pre_PeerRefIdeal (m : (ℓ : Loc Cert.PeerRefIdeal.nD Cert.PeerRefIdeal.τ Cert.PeerRefIdeal.sig) → Buf (Elt Ideal) ℓ) : Prop :=
  True

def Pre_PeerS (m : (ℓ : Loc Cert.PeerS.nD Cert.PeerS.τ Cert.PeerS.sig) → Buf (Elt Bits) ℓ) : Prop :=
  True

def Pre_PeerSIdeal (m : (ℓ : Loc Cert.PeerSIdeal.nD Cert.PeerSIdeal.τ Cert.PeerSIdeal.sig) → Buf (Elt Ideal) ℓ) : Prop :=
  True

def Pre_PeerSRefIdeal (m : (ℓ : Loc Cert.PeerSRefIdeal.nD Cert.PeerSRefIdeal.τ Cert.PeerSRefIdeal.sig) → Buf (Elt Ideal) ℓ) : Prop :=
  True

def quiescent_ProjA [hProjA : Cert.ProjA.Facts] : Prop :=
  ∀ (m : (ℓ : Loc Cert.ProjA.nD Cert.ProjA.τ Cert.ProjA.sig) → Buf (Elt Bits) ℓ) (g : Dev Cert.ProjA.nD → PrngReg), Pre_ProjA m →
    θ_run (Cert.ProjA.defs (F := Bits)) (onTc (τ := Cert.ProjA.τ) (Cert.ProjA.main (F := Bits))) ⟨m, fun _ => 0, g⟩ (fun r => (∀ c : Dev Cert.ProjA.nD,
      r.2.mem ((c.tc : Thread Cert.ProjA.nD Cert.ProjA.τ).loc Cert.ProjA.main_arg0) = m ((c.tc : Thread Cert.ProjA.nD Cert.ProjA.τ).loc Cert.ProjA.main_arg0)
      ∧ r.2.mem ((c.tc : Thread Cert.ProjA.nD Cert.ProjA.τ).loc Cert.ProjA.main_arg1) = m ((c.tc : Thread Cert.ProjA.nD Cert.ProjA.τ).loc Cert.ProjA.main_arg1)
      ∧ r.2.mem ((c.tc : Thread Cert.ProjA.nD Cert.ProjA.τ).loc Cert.ProjA.main_arg2) = m ((c.tc : Thread Cert.ProjA.nD Cert.ProjA.τ).loc Cert.ProjA.main_arg2))
      ∧ r.2.sem = fun _ => 0)

def quiescent_ProjAIdeal [hProjAIdeal : Cert.ProjAIdeal.Facts] : Prop :=
  ∀ (m : (ℓ : Loc Cert.ProjAIdeal.nD Cert.ProjAIdeal.τ Cert.ProjAIdeal.sig) → Buf (Elt Ideal) ℓ) (g : Dev Cert.ProjAIdeal.nD → PrngReg), Pre_ProjAIdeal m →
    θ_run (Cert.ProjAIdeal.defs (F := Ideal)) (onTc (τ := Cert.ProjAIdeal.τ) (Cert.ProjAIdeal.main (F := Ideal))) ⟨m, fun _ => 0, g⟩ (fun r => (∀ c : Dev Cert.ProjAIdeal.nD,
      r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
      ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1)
      ∧ r.2.mem ((c.tc : Thread Cert.ProjAIdeal.nD Cert.ProjAIdeal.τ).loc Cert.ProjAIdeal.main_arg2) = m ((c.tc : Thread Cert.ProjAIdeal.nD Cert.ProjAIdeal.τ).loc Cert.ProjAIdeal.main_arg2))
      ∧ r.2.sem = fun _ => 0)

def quiescent_ProjARefIdeal [hProjARefIdeal : Cert.ProjARefIdeal.Facts] : Prop :=
  ∀ (m : (ℓ : Loc Cert.ProjARefIdeal.nD Cert.ProjARefIdeal.τ Cert.ProjARefIdeal.sig) → Buf (Elt Ideal) ℓ) (g : Dev Cert.ProjARefIdeal.nD → PrngReg), Pre_ProjARefIdeal m →
    θ_run (Cert.ProjARefIdeal.defs (F := Ideal)) (onTc (τ := Cert.ProjARefIdeal.τ) (Cert.ProjARefIdeal.main (F := Ideal))) ⟨m, fun _ => 0, g⟩ (fun r => (∀ c : Dev Cert.ProjARefIdeal.nD,
      r.2.mem ((c.tc : Thread Cert.ProjARefIdeal.nD Cert.ProjARefIdeal.τ).loc Cert.ProjARefIdeal.main_arg0) = m ((c.tc : Thread Cert.ProjARefIdeal.nD Cert.ProjARefIdeal.τ).loc Cert.ProjARefIdeal.main_arg0)
      ∧ r.2.mem ((c.tc : Thread Cert.ProjARefIdeal.nD Cert.ProjARefIdeal.τ).loc Cert.ProjARefIdeal.main_arg1) = m ((c.tc : Thread Cert.ProjARefIdeal.nD Cert.ProjARefIdeal.τ).loc Cert.ProjARefIdeal.main_arg1)
      ∧ r.2.mem ((c.tc : Thread Cert.ProjARefIdeal.nD Cert.ProjARefIdeal.τ).loc Cert.ProjARefIdeal.main_arg2) = m ((c.tc : Thread Cert.ProjARefIdeal.nD Cert.ProjARefIdeal.τ).loc Cert.ProjARefIdeal.main_arg2))
      ∧ r.2.sem = fun _ => 0)

def quiescent_ProjAS [hProjAS : Cert.ProjAS.Facts] : Prop :=
  ∀ (m : (ℓ : Loc Cert.ProjAS.nD Cert.ProjAS.τ Cert.ProjAS.sig) → Buf (Elt Bits) ℓ) (g : Dev Cert.ProjAS.nD → PrngReg), Pre_ProjAS m →
    θ_run (Cert.ProjAS.defs (F := Bits)) (onTc (τ := Cert.ProjAS.τ) (Cert.ProjAS.main (F := Bits))) ⟨m, fun _ => 0, g⟩ (fun r => (∀ c : Dev Cert.ProjAS.nD,
      r.2.mem ((c.tc : Thread Cert.ProjAS.nD Cert.ProjAS.τ).loc Cert.ProjAS.main_arg0) = m ((c.tc : Thread Cert.ProjAS.nD Cert.ProjAS.τ).loc Cert.ProjAS.main_arg0)
      ∧ r.2.mem ((c.tc : Thread Cert.ProjAS.nD Cert.ProjAS.τ).loc Cert.ProjAS.main_arg1) = m ((c.tc : Thread Cert.ProjAS.nD Cert.ProjAS.τ).loc Cert.ProjAS.main_arg1)
      ∧ r.2.mem ((c.tc : Thread Cert.ProjAS.nD Cert.ProjAS.τ).loc Cert.ProjAS.main_arg2) = m ((c.tc : Thread Cert.ProjAS.nD Cert.ProjAS.τ).loc Cert.ProjAS.main_arg2))
      ∧ r.2.sem = fun _ => 0)

def quiescent_ProjASIdeal [hProjASIdeal : Cert.ProjASIdeal.Facts] : Prop :=
  ∀ (m : (ℓ : Loc Cert.ProjASIdeal.nD Cert.ProjASIdeal.τ Cert.ProjASIdeal.sig) → Buf (Elt Ideal) ℓ) (g : Dev Cert.ProjASIdeal.nD → PrngReg), Pre_ProjASIdeal m →
    θ_run (Cert.ProjASIdeal.defs (F := Ideal)) (onTc (τ := Cert.ProjASIdeal.τ) (Cert.ProjASIdeal.main (F := Ideal))) ⟨m, fun _ => 0, g⟩ (fun r => (∀ c : Dev Cert.ProjASIdeal.nD,
      r.2.mem ((c.tc : Thread Cert.ProjASIdeal.nD Cert.ProjASIdeal.τ).loc Cert.ProjASIdeal.main_arg0) = m ((c.tc : Thread Cert.ProjASIdeal.nD Cert.ProjASIdeal.τ).loc Cert.ProjASIdeal.main_arg0)
      ∧ r.2.mem ((c.tc : Thread Cert.ProjASIdeal.nD Cert.ProjASIdeal.τ).loc Cert.ProjASIdeal.main_arg1) = m ((c.tc : Thread Cert.ProjASIdeal.nD Cert.ProjASIdeal.τ).loc Cert.ProjASIdeal.main_arg1)
      ∧ r.2.mem ((c.tc : Thread Cert.ProjASIdeal.nD Cert.ProjASIdeal.τ).loc Cert.ProjASIdeal.main_arg2) = m ((c.tc : Thread Cert.ProjASIdeal.nD Cert.ProjASIdeal.τ).loc Cert.ProjASIdeal.main_arg2))
      ∧ r.2.sem = fun _ => 0)

def quiescent_ProjASRefIdeal [hProjASRefIdeal : Cert.ProjASRefIdeal.Facts] : Prop :=
  ∀ (m : (ℓ : Loc Cert.ProjASRefIdeal.nD Cert.ProjASRefIdeal.τ Cert.ProjASRefIdeal.sig) → Buf (Elt Ideal) ℓ) (g : Dev Cert.ProjASRefIdeal.nD → PrngReg), Pre_ProjASRefIdeal m →
    θ_run (Cert.ProjASRefIdeal.defs (F := Ideal)) (onTc (τ := Cert.ProjASRefIdeal.τ) (Cert.ProjASRefIdeal.main (F := Ideal))) ⟨m, fun _ => 0, g⟩ (fun r => (∀ c : Dev Cert.ProjASRefIdeal.nD,
      r.2.mem ((c.tc : Thread Cert.ProjASRefIdeal.nD Cert.ProjASRefIdeal.τ).loc Cert.ProjASRefIdeal.main_arg0) = m ((c.tc : Thread Cert.ProjASRefIdeal.nD Cert.ProjASRefIdeal.τ).loc Cert.ProjASRefIdeal.main_arg0)
      ∧ r.2.mem ((c.tc : Thread Cert.ProjASRefIdeal.nD Cert.ProjASRefIdeal.τ).loc Cert.ProjASRefIdeal.main_arg1) = m ((c.tc : Thread Cert.ProjASRefIdeal.nD Cert.ProjASRefIdeal.τ).loc Cert.ProjASRefIdeal.main_arg1)
      ∧ r.2.mem ((c.tc : Thread Cert.ProjASRefIdeal.nD Cert.ProjASRefIdeal.τ).loc Cert.ProjASRefIdeal.main_arg2) = m ((c.tc : Thread Cert.ProjASRefIdeal.nD Cert.ProjASRefIdeal.τ).loc Cert.ProjASRefIdeal.main_arg2))
      ∧ r.2.sem = fun _ => 0)

def quiescent_ProjB [hProjB : Cert.ProjB.Facts] : Prop :=
  ∀ (m : (ℓ : Loc Cert.ProjB.nD Cert.ProjB.τ Cert.ProjB.sig) → Buf (Elt Bits) ℓ) (g : Dev Cert.ProjB.nD → PrngReg), Pre_ProjB m →
    θ_run (Cert.ProjB.defs (F := Bits)) (onTc (τ := Cert.ProjB.τ) (Cert.ProjB.main (F := Bits))) ⟨m, fun _ => 0, g⟩ (fun r => (∀ c : Dev Cert.ProjB.nD,
      r.2.mem ((c.tc : Thread Cert.ProjB.nD Cert.ProjB.τ).loc Cert.ProjB.main_arg0) = m ((c.tc : Thread Cert.ProjB.nD Cert.ProjB.τ).loc Cert.ProjB.main_arg0)
      ∧ r.2.mem ((c.tc : Thread Cert.ProjB.nD Cert.ProjB.τ).loc Cert.ProjB.main_arg1) = m ((c.tc : Thread Cert.ProjB.nD Cert.ProjB.τ).loc Cert.ProjB.main_arg1)
      ∧ r.2.mem ((c.tc : Thread Cert.ProjB.nD Cert.ProjB.τ).loc Cert.ProjB.main_arg2) = m ((c.tc : Thread Cert.ProjB.nD Cert.ProjB.τ).loc Cert.ProjB.main_arg2))
      ∧ r.2.sem = fun _ => 0)

def quiescent_ProjBIdeal [hProjBIdeal : Cert.ProjBIdeal.Facts] : Prop :=
  ∀ (m : (ℓ : Loc Cert.ProjBIdeal.nD Cert.ProjBIdeal.τ Cert.ProjBIdeal.sig) → Buf (Elt Ideal) ℓ) (g : Dev Cert.ProjBIdeal.nD → PrngReg), Pre_ProjBIdeal m →
    θ_run (Cert.ProjBIdeal.defs (F := Ideal)) (onTc (τ := Cert.ProjBIdeal.τ) (Cert.ProjBIdeal.main (F := Ideal))) ⟨m, fun _ => 0, g⟩ (fun r => (∀ c : Dev Cert.ProjBIdeal.nD,
      r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
      ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1)
      ∧ r.2.mem ((c.tc : Thread Cert.ProjBIdeal.nD Cert.ProjBIdeal.τ).loc Cert.ProjBIdeal.main_arg2) = m ((c.tc : Thread Cert.ProjBIdeal.nD Cert.ProjBIdeal.τ).loc Cert.ProjBIdeal.main_arg2))
      ∧ r.2.sem = fun _ => 0)

def quiescent_ProjBRefIdeal [hProjBRefIdeal : Cert.ProjBRefIdeal.Facts] : Prop :=
  ∀ (m : (ℓ : Loc Cert.ProjBRefIdeal.nD Cert.ProjBRefIdeal.τ Cert.ProjBRefIdeal.sig) → Buf (Elt Ideal) ℓ) (g : Dev Cert.ProjBRefIdeal.nD → PrngReg), Pre_ProjBRefIdeal m →
    θ_run (Cert.ProjBRefIdeal.defs (F := Ideal)) (onTc (τ := Cert.ProjBRefIdeal.τ) (Cert.ProjBRefIdeal.main (F := Ideal))) ⟨m, fun _ => 0, g⟩ (fun r => (∀ c : Dev Cert.ProjBRefIdeal.nD,
      r.2.mem ((c.tc : Thread Cert.ProjBRefIdeal.nD Cert.ProjBRefIdeal.τ).loc Cert.ProjBRefIdeal.main_arg0) = m ((c.tc : Thread Cert.ProjBRefIdeal.nD Cert.ProjBRefIdeal.τ).loc Cert.ProjBRefIdeal.main_arg0)
      ∧ r.2.mem ((c.tc : Thread Cert.ProjBRefIdeal.nD Cert.ProjBRefIdeal.τ).loc Cert.ProjBRefIdeal.main_arg1) = m ((c.tc : Thread Cert.ProjBRefIdeal.nD Cert.ProjBRefIdeal.τ).loc Cert.ProjBRefIdeal.main_arg1)
      ∧ r.2.mem ((c.tc : Thread Cert.ProjBRefIdeal.nD Cert.ProjBRefIdeal.τ).loc Cert.ProjBRefIdeal.main_arg2) = m ((c.tc : Thread Cert.ProjBRefIdeal.nD Cert.ProjBRefIdeal.τ).loc Cert.ProjBRefIdeal.main_arg2))
      ∧ r.2.sem = fun _ => 0)

def quiescent_MemKv0 [hMemKv0 : Cert.MemKv0.Facts] : Prop :=
  ∀ (m : (ℓ : Loc Cert.MemKv0.nD Cert.MemKv0.τ Cert.MemKv0.sig) → Buf (Elt Bits) ℓ) (g : Dev Cert.MemKv0.nD → PrngReg), Pre_MemKv0 m →
    θ_run (Cert.MemKv0.defs (F := Bits)) (onTc (τ := Cert.MemKv0.τ) (Cert.MemKv0.main (F := Bits))) ⟨m, fun _ => 0, g⟩ (fun r => (∀ c : Dev Cert.MemKv0.nD,
      r.2.mem ((c.tc : Thread Cert.MemKv0.nD Cert.MemKv0.τ).loc Cert.MemKv0.main_arg0) = m ((c.tc : Thread Cert.MemKv0.nD Cert.MemKv0.τ).loc Cert.MemKv0.main_arg0)
      ∧ r.2.mem ((c.tc : Thread Cert.MemKv0.nD Cert.MemKv0.τ).loc Cert.MemKv0.main_arg1) = m ((c.tc : Thread Cert.MemKv0.nD Cert.MemKv0.τ).loc Cert.MemKv0.main_arg1)
      ∧ r.2.mem ((c.tc : Thread Cert.MemKv0.nD Cert.MemKv0.τ).loc Cert.MemKv0.main_arg2) = m ((c.tc : Thread Cert.MemKv0.nD Cert.MemKv0.τ).loc Cert.MemKv0.main_arg2))
      ∧ r.2.sem = fun _ => 0)

def quiescent_MemKv0Ideal [hMemKv0Ideal : Cert.MemKv0Ideal.Facts] : Prop :=
  ∀ (m : (ℓ : Loc Cert.MemKv0Ideal.nD Cert.MemKv0Ideal.τ Cert.MemKv0Ideal.sig) → Buf (Elt Ideal) ℓ) (g : Dev Cert.MemKv0Ideal.nD → PrngReg), Pre_MemKv0Ideal m →
    θ_run (Cert.MemKv0Ideal.defs (F := Ideal)) (onTc (τ := Cert.MemKv0Ideal.τ) (Cert.MemKv0Ideal.main (F := Ideal))) ⟨m, fun _ => 0, g⟩ (fun r => (∀ c : Dev Cert.MemKv0Ideal.nD,
      r.2.mem ((c.tc : Thread Cert.MemKv0Ideal.nD Cert.MemKv0Ideal.τ).loc Cert.MemKv0Ideal.main_arg0) = m ((c.tc : Thread Cert.MemKv0Ideal.nD Cert.MemKv0Ideal.τ).loc Cert.MemKv0Ideal.main_arg0)
      ∧ r.2.mem ((c.tc : Thread Cert.MemKv0Ideal.nD Cert.MemKv0Ideal.τ).loc Cert.MemKv0Ideal.main_arg1) = m ((c.tc : Thread Cert.MemKv0Ideal.nD Cert.MemKv0Ideal.τ).loc Cert.MemKv0Ideal.main_arg1)
      ∧ r.2.mem ((c.tc : Thread Cert.MemKv0Ideal.nD Cert.MemKv0Ideal.τ).loc Cert.MemKv0Ideal.main_arg2) = m ((c.tc : Thread Cert.MemKv0Ideal.nD Cert.MemKv0Ideal.τ).loc Cert.MemKv0Ideal.main_arg2))
      ∧ r.2.sem = fun _ => 0)

def quiescent_MemKv0RefIdeal [hMemKv0RefIdeal : Cert.MemKv0RefIdeal.Facts] : Prop :=
  ∀ (m : (ℓ : Loc Cert.MemKv0RefIdeal.nD Cert.MemKv0RefIdeal.τ Cert.MemKv0RefIdeal.sig) → Buf (Elt Ideal) ℓ) (g : Dev Cert.MemKv0RefIdeal.nD → PrngReg), Pre_MemKv0RefIdeal m →
    θ_run (Cert.MemKv0RefIdeal.defs (F := Ideal)) (onTc (τ := Cert.MemKv0RefIdeal.τ) (Cert.MemKv0RefIdeal.main (F := Ideal))) ⟨m, fun _ => 0, g⟩ (fun r => (∀ c : Dev Cert.MemKv0RefIdeal.nD,
      r.2.mem ((c.tc : Thread Cert.MemKv0RefIdeal.nD Cert.MemKv0RefIdeal.τ).loc Cert.MemKv0RefIdeal.main_arg0) = m ((c.tc : Thread Cert.MemKv0RefIdeal.nD Cert.MemKv0RefIdeal.τ).loc Cert.MemKv0RefIdeal.main_arg0)
      ∧ r.2.mem ((c.tc : Thread Cert.MemKv0RefIdeal.nD Cert.MemKv0RefIdeal.τ).loc Cert.MemKv0RefIdeal.main_arg1) = m ((c.tc : Thread Cert.MemKv0RefIdeal.nD Cert.MemKv0RefIdeal.τ).loc Cert.MemKv0RefIdeal.main_arg1)
      ∧ r.2.mem ((c.tc : Thread Cert.MemKv0RefIdeal.nD Cert.MemKv0RefIdeal.τ).loc Cert.MemKv0RefIdeal.main_arg2) = m ((c.tc : Thread Cert.MemKv0RefIdeal.nD Cert.MemKv0RefIdeal.τ).loc Cert.MemKv0RefIdeal.main_arg2))
      ∧ r.2.sem = fun _ => 0)

def quiescent_MemKv1 [hMemKv1 : Cert.MemKv1.Facts] : Prop :=
  ∀ (m : (ℓ : Loc Cert.MemKv1.nD Cert.MemKv1.τ Cert.MemKv1.sig) → Buf (Elt Bits) ℓ) (g : Dev Cert.MemKv1.nD → PrngReg), Pre_MemKv1 m →
    θ_run (Cert.MemKv1.defs (F := Bits)) (onTc (τ := Cert.MemKv1.τ) (Cert.MemKv1.main (F := Bits))) ⟨m, fun _ => 0, g⟩ (fun r => (∀ c : Dev Cert.MemKv1.nD,
      r.2.mem ((c.tc : Thread Cert.MemKv1.nD Cert.MemKv1.τ).loc Cert.MemKv1.main_arg0) = m ((c.tc : Thread Cert.MemKv1.nD Cert.MemKv1.τ).loc Cert.MemKv1.main_arg0)
      ∧ r.2.mem ((c.tc : Thread Cert.MemKv1.nD Cert.MemKv1.τ).loc Cert.MemKv1.main_arg1) = m ((c.tc : Thread Cert.MemKv1.nD Cert.MemKv1.τ).loc Cert.MemKv1.main_arg1)
      ∧ r.2.mem ((c.tc : Thread Cert.MemKv1.nD Cert.MemKv1.τ).loc Cert.MemKv1.main_arg2) = m ((c.tc : Thread Cert.MemKv1.nD Cert.MemKv1.τ).loc Cert.MemKv1.main_arg2))
      ∧ r.2.sem = fun _ => 0)

def quiescent_MemKv1Ideal [hMemKv1Ideal : Cert.MemKv1Ideal.Facts] : Prop :=
  ∀ (m : (ℓ : Loc Cert.MemKv1Ideal.nD Cert.MemKv1Ideal.τ Cert.MemKv1Ideal.sig) → Buf (Elt Ideal) ℓ) (g : Dev Cert.MemKv1Ideal.nD → PrngReg), Pre_MemKv1Ideal m →
    θ_run (Cert.MemKv1Ideal.defs (F := Ideal)) (onTc (τ := Cert.MemKv1Ideal.τ) (Cert.MemKv1Ideal.main (F := Ideal))) ⟨m, fun _ => 0, g⟩ (fun r => (∀ c : Dev Cert.MemKv1Ideal.nD,
      r.2.mem ((c.tc : Thread Cert.MemKv1Ideal.nD Cert.MemKv1Ideal.τ).loc Cert.MemKv1Ideal.main_arg0) = m ((c.tc : Thread Cert.MemKv1Ideal.nD Cert.MemKv1Ideal.τ).loc Cert.MemKv1Ideal.main_arg0)
      ∧ r.2.mem ((c.tc : Thread Cert.MemKv1Ideal.nD Cert.MemKv1Ideal.τ).loc Cert.MemKv1Ideal.main_arg1) = m ((c.tc : Thread Cert.MemKv1Ideal.nD Cert.MemKv1Ideal.τ).loc Cert.MemKv1Ideal.main_arg1)
      ∧ r.2.mem ((c.tc : Thread Cert.MemKv1Ideal.nD Cert.MemKv1Ideal.τ).loc Cert.MemKv1Ideal.main_arg2) = m ((c.tc : Thread Cert.MemKv1Ideal.nD Cert.MemKv1Ideal.τ).loc Cert.MemKv1Ideal.main_arg2))
      ∧ r.2.sem = fun _ => 0)

def quiescent_MemKv1RefIdeal [hMemKv1RefIdeal : Cert.MemKv1RefIdeal.Facts] : Prop :=
  ∀ (m : (ℓ : Loc Cert.MemKv1RefIdeal.nD Cert.MemKv1RefIdeal.τ Cert.MemKv1RefIdeal.sig) → Buf (Elt Ideal) ℓ) (g : Dev Cert.MemKv1RefIdeal.nD → PrngReg), Pre_MemKv1RefIdeal m →
    θ_run (Cert.MemKv1RefIdeal.defs (F := Ideal)) (onTc (τ := Cert.MemKv1RefIdeal.τ) (Cert.MemKv1RefIdeal.main (F := Ideal))) ⟨m, fun _ => 0, g⟩ (fun r => (∀ c : Dev Cert.MemKv1RefIdeal.nD,
      r.2.mem ((c.tc : Thread Cert.MemKv1RefIdeal.nD Cert.MemKv1RefIdeal.τ).loc Cert.MemKv1RefIdeal.main_arg0) = m ((c.tc : Thread Cert.MemKv1RefIdeal.nD Cert.MemKv1RefIdeal.τ).loc Cert.MemKv1RefIdeal.main_arg0)
      ∧ r.2.mem ((c.tc : Thread Cert.MemKv1RefIdeal.nD Cert.MemKv1RefIdeal.τ).loc Cert.MemKv1RefIdeal.main_arg1) = m ((c.tc : Thread Cert.MemKv1RefIdeal.nD Cert.MemKv1RefIdeal.τ).loc Cert.MemKv1RefIdeal.main_arg1)
      ∧ r.2.mem ((c.tc : Thread Cert.MemKv1RefIdeal.nD Cert.MemKv1RefIdeal.τ).loc Cert.MemKv1RefIdeal.main_arg2) = m ((c.tc : Thread Cert.MemKv1RefIdeal.nD Cert.MemKv1RefIdeal.τ).loc Cert.MemKv1RefIdeal.main_arg2))
      ∧ r.2.sem = fun _ => 0)

def quiescent_MemAttn [hMemAttn : Cert.MemAttn.Facts] : Prop :=
  ∀ (m : (ℓ : Loc Cert.MemAttn.nD Cert.MemAttn.τ Cert.MemAttn.sig) → Buf (Elt Bits) ℓ) (g : Dev Cert.MemAttn.nD → PrngReg), Pre_MemAttn m →
    θ_run (Cert.MemAttn.defs (F := Bits)) (onTc (τ := Cert.MemAttn.τ) (Cert.MemAttn.main (F := Bits))) ⟨m, fun _ => 0, g⟩ (fun r => (∀ c : Dev Cert.MemAttn.nD,
      r.2.mem ((c.tc : Thread Cert.MemAttn.nD Cert.MemAttn.τ).loc Cert.MemAttn.main_arg0) = m ((c.tc : Thread Cert.MemAttn.nD Cert.MemAttn.τ).loc Cert.MemAttn.main_arg0)
      ∧ r.2.mem ((c.tc : Thread Cert.MemAttn.nD Cert.MemAttn.τ).loc Cert.MemAttn.main_arg1) = m ((c.tc : Thread Cert.MemAttn.nD Cert.MemAttn.τ).loc Cert.MemAttn.main_arg1))
      ∧ r.2.sem = fun _ => 0)

def quiescent_MemAttnIdeal [hMemAttnIdeal : Cert.MemAttnIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1))
      ∧ r.2.sem = fun _ => 0)

def quiescent_MemAttnRefIdeal [hMemAttnRefIdeal : Cert.MemAttnRefIdeal.Facts] : Prop :=
  ∀ (m : (ℓ : Loc Cert.MemAttnRefIdeal.nD Cert.MemAttnRefIdeal.τ Cert.MemAttnRefIdeal.sig) → Buf (Elt Ideal) ℓ) (g : Dev Cert.MemAttnRefIdeal.nD → PrngReg), Pre_MemAttnRefIdeal m →
    θ_run (Cert.MemAttnRefIdeal.defs (F := Ideal)) (onTc (τ := Cert.MemAttnRefIdeal.τ) (Cert.MemAttnRefIdeal.main (F := Ideal))) ⟨m, fun _ => 0, g⟩ (fun r => (∀ c : Dev Cert.MemAttnRefIdeal.nD,
      r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
      ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_Scores [hScores : Cert.Scores.Facts] : Prop :=
  ∀ (m : (ℓ : Loc Cert.Scores.nD Cert.Scores.τ Cert.Scores.sig) → Buf (Elt Bits) ℓ) (g : Dev Cert.Scores.nD → PrngReg), Pre_Scores m →
    θ_run (Cert.Scores.defs (F := Bits)) (onTc (τ := Cert.Scores.τ) (Cert.Scores.main (F := Bits))) ⟨m, fun _ => 0, g⟩ (fun r => (∀ c : Dev Cert.Scores.nD,
      r.2.mem ((c.tc : Thread Cert.Scores.nD Cert.Scores.τ).loc Cert.Scores.main_arg0) = m ((c.tc : Thread Cert.Scores.nD Cert.Scores.τ).loc Cert.Scores.main_arg0)
      ∧ r.2.mem ((c.tc : Thread Cert.Scores.nD Cert.Scores.τ).loc Cert.Scores.main_arg1) = m ((c.tc : Thread Cert.Scores.nD Cert.Scores.τ).loc Cert.Scores.main_arg1)
      ∧ r.2.mem ((c.tc : Thread Cert.Scores.nD Cert.Scores.τ).loc Cert.Scores.main_arg2) = m ((c.tc : Thread Cert.Scores.nD Cert.Scores.τ).loc Cert.Scores.main_arg2))
      ∧ r.2.sem = fun _ => 0)

def quiescent_ScoresIdeal [hScoresIdeal : Cert.ScoresIdeal.Facts] : Prop :=
  ∀ (m : (ℓ : Loc Cert.ScoresIdeal.nD Cert.ScoresIdeal.τ Cert.ScoresIdeal.sig) → Buf (Elt Ideal) ℓ) (g : Dev Cert.ScoresIdeal.nD → PrngReg), Pre_ScoresIdeal m →
    θ_run (Cert.ScoresIdeal.defs (F := Ideal)) (onTc (τ := Cert.ScoresIdeal.τ) (Cert.ScoresIdeal.main (F := Ideal))) ⟨m, fun _ => 0, g⟩ (fun r => (∀ c : Dev Cert.ScoresIdeal.nD,
      r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
      ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
      ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2))
      ∧ r.2.sem = fun _ => 0)

def quiescent_ScoresRefIdeal [hScoresRefIdeal : Cert.ScoresRefIdeal.Facts] : Prop :=
  ∀ (m : (ℓ : Loc Cert.ScoresRefIdeal.nD Cert.ScoresRefIdeal.τ Cert.ScoresRefIdeal.sig) → Buf (Elt Ideal) ℓ) (g : Dev Cert.ScoresRefIdeal.nD → PrngReg), Pre_ScoresRefIdeal m →
    θ_run (Cert.ScoresRefIdeal.defs (F := Ideal)) (onTc (τ := Cert.ScoresRefIdeal.τ) (Cert.ScoresRefIdeal.main (F := Ideal))) ⟨m, fun _ => 0, g⟩ (fun r => (∀ c : Dev Cert.ScoresRefIdeal.nD,
      r.2.mem ((c.tc : Thread Cert.ScoresRefIdeal.nD Cert.ScoresRefIdeal.τ).loc Cert.ScoresRefIdeal.main_arg0) = m ((c.tc : Thread Cert.ScoresRefIdeal.nD Cert.ScoresRefIdeal.τ).loc Cert.ScoresRefIdeal.main_arg0)
      ∧ r.2.mem ((c.tc : Thread Cert.ScoresRefIdeal.nD Cert.ScoresRefIdeal.τ).loc Cert.ScoresRefIdeal.main_arg1) = m ((c.tc : Thread Cert.ScoresRefIdeal.nD Cert.ScoresRefIdeal.τ).loc Cert.ScoresRefIdeal.main_arg1)
      ∧ r.2.mem ((c.tc : Thread Cert.ScoresRefIdeal.nD Cert.ScoresRefIdeal.τ).loc Cert.ScoresRefIdeal.main_arg2) = m ((c.tc : Thread Cert.ScoresRefIdeal.nD Cert.ScoresRefIdeal.τ).loc Cert.ScoresRefIdeal.main_arg2))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnIdeal_pre_finite_attn [hAttnIdeal : Cert.AttnIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attn m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_HgrnS [hHgrnS : Cert.HgrnS.Facts] : Prop :=
  ∀ (m : (ℓ : Loc Cert.HgrnS.nD Cert.HgrnS.τ Cert.HgrnS.sig) → Buf (Elt Bits) ℓ) (g : Dev Cert.HgrnS.nD → PrngReg), Pre_HgrnS m →
    θ_run (Cert.HgrnS.defs (F := Bits)) (onTc (τ := Cert.HgrnS.τ) (Cert.HgrnS.main (F := Bits))) ⟨m, fun _ => 0, g⟩ (fun r => (∀ c : Dev Cert.HgrnS.nD,
      r.2.mem ((c.tc : Thread Cert.HgrnS.nD Cert.HgrnS.τ).loc Cert.HgrnS.main_arg0) = m ((c.tc : Thread Cert.HgrnS.nD Cert.HgrnS.τ).loc Cert.HgrnS.main_arg0)
      ∧ r.2.mem ((c.tc : Thread Cert.HgrnS.nD Cert.HgrnS.τ).loc Cert.HgrnS.main_arg1) = m ((c.tc : Thread Cert.HgrnS.nD Cert.HgrnS.τ).loc Cert.HgrnS.main_arg1)
      ∧ r.2.mem ((c.tc : Thread Cert.HgrnS.nD Cert.HgrnS.τ).loc Cert.HgrnS.main_arg2) = m ((c.tc : Thread Cert.HgrnS.nD Cert.HgrnS.τ).loc Cert.HgrnS.main_arg2)
      ∧ r.2.mem ((c.tc : Thread Cert.HgrnS.nD Cert.HgrnS.τ).loc Cert.HgrnS.main_arg3) = m ((c.tc : Thread Cert.HgrnS.nD Cert.HgrnS.τ).loc Cert.HgrnS.main_arg3))
      ∧ r.2.sem = fun _ => 0)

def quiescent_HgrnSIdeal [hHgrnSIdeal : Cert.HgrnSIdeal.Facts] : Prop :=
  ∀ (m : (ℓ : Loc Cert.HgrnSIdeal.nD Cert.HgrnSIdeal.τ Cert.HgrnSIdeal.sig) → Buf (Elt Ideal) ℓ) (g : Dev Cert.HgrnSIdeal.nD → PrngReg), Pre_HgrnSIdeal m →
    θ_run (Cert.HgrnSIdeal.defs (F := Ideal)) (onTc (τ := Cert.HgrnSIdeal.τ) (Cert.HgrnSIdeal.main (F := Ideal))) ⟨m, fun _ => 0, g⟩ (fun r => (∀ c : Dev Cert.HgrnSIdeal.nD,
      r.2.mem ((c.tc : Thread Cert.HgrnSIdeal.nD Cert.HgrnSIdeal.τ).loc Cert.HgrnSIdeal.main_arg0) = m ((c.tc : Thread Cert.HgrnSIdeal.nD Cert.HgrnSIdeal.τ).loc Cert.HgrnSIdeal.main_arg0)
      ∧ r.2.mem ((c.tc : Thread Cert.HgrnSIdeal.nD Cert.HgrnSIdeal.τ).loc Cert.HgrnSIdeal.main_arg1) = m ((c.tc : Thread Cert.HgrnSIdeal.nD Cert.HgrnSIdeal.τ).loc Cert.HgrnSIdeal.main_arg1)
      ∧ r.2.mem ((c.tc : Thread Cert.HgrnSIdeal.nD Cert.HgrnSIdeal.τ).loc Cert.HgrnSIdeal.main_arg2) = m ((c.tc : Thread Cert.HgrnSIdeal.nD Cert.HgrnSIdeal.τ).loc Cert.HgrnSIdeal.main_arg2)
      ∧ r.2.mem ((c.tc : Thread Cert.HgrnSIdeal.nD Cert.HgrnSIdeal.τ).loc Cert.HgrnSIdeal.main_arg3) = m ((c.tc : Thread Cert.HgrnSIdeal.nD Cert.HgrnSIdeal.τ).loc Cert.HgrnSIdeal.main_arg3))
      ∧ r.2.sem = fun _ => 0)

def quiescent_HgrnSIdeal_pre_finite_lower_s [hHgrnSIdeal : Cert.HgrnSIdeal.Facts] [hPre_finite_lower_s : Cert.Pre_finite_lower_s.Facts] : Prop :=
  ∀ (m : (ℓ : Loc Cert.HgrnSIdeal.nD Cert.HgrnSIdeal.τ Cert.HgrnSIdeal.sig) → Buf (Elt Ideal) ℓ) (g : Dev Cert.HgrnSIdeal.nD → PrngReg), Pre_HgrnSIdeal_finite_lower_s m →
    θ_run (Cert.HgrnSIdeal.defs (F := Ideal)) (onTc (τ := Cert.HgrnSIdeal.τ) (Cert.HgrnSIdeal.main (F := Ideal))) ⟨m, fun _ => 0, g⟩ (fun r => (∀ c : Dev Cert.HgrnSIdeal.nD,
      r.2.mem ((c.tc : Thread Cert.HgrnSIdeal.nD Cert.HgrnSIdeal.τ).loc Cert.HgrnSIdeal.main_arg0) = m ((c.tc : Thread Cert.HgrnSIdeal.nD Cert.HgrnSIdeal.τ).loc Cert.HgrnSIdeal.main_arg0)
      ∧ r.2.mem ((c.tc : Thread Cert.HgrnSIdeal.nD Cert.HgrnSIdeal.τ).loc Cert.HgrnSIdeal.main_arg1) = m ((c.tc : Thread Cert.HgrnSIdeal.nD Cert.HgrnSIdeal.τ).loc Cert.HgrnSIdeal.main_arg1)
      ∧ r.2.mem ((c.tc : Thread Cert.HgrnSIdeal.nD Cert.HgrnSIdeal.τ).loc Cert.HgrnSIdeal.main_arg2) = m ((c.tc : Thread Cert.HgrnSIdeal.nD Cert.HgrnSIdeal.τ).loc Cert.HgrnSIdeal.main_arg2)
      ∧ r.2.mem ((c.tc : Thread Cert.HgrnSIdeal.nD Cert.HgrnSIdeal.τ).loc Cert.HgrnSIdeal.main_arg3) = m ((c.tc : Thread Cert.HgrnSIdeal.nD Cert.HgrnSIdeal.τ).loc Cert.HgrnSIdeal.main_arg3))
      ∧ r.2.sem = fun _ => 0)

def quiescent_HgrnSRefIdeal [hHgrnSRefIdeal : Cert.HgrnSRefIdeal.Facts] : Prop :=
  ∀ (m : (ℓ : Loc Cert.HgrnSRefIdeal.nD Cert.HgrnSRefIdeal.τ Cert.HgrnSRefIdeal.sig) → Buf (Elt Ideal) ℓ) (g : Dev Cert.HgrnSRefIdeal.nD → PrngReg), Pre_HgrnSRefIdeal m →
    θ_run (Cert.HgrnSRefIdeal.defs (F := Ideal)) (onTc (τ := Cert.HgrnSRefIdeal.τ) (Cert.HgrnSRefIdeal.main (F := Ideal))) ⟨m, fun _ => 0, g⟩ (fun r => (∀ c : Dev Cert.HgrnSRefIdeal.nD,
      r.2.mem ((c.tc : Thread Cert.HgrnSRefIdeal.nD Cert.HgrnSRefIdeal.τ).loc Cert.HgrnSRefIdeal.main_arg0) = m ((c.tc : Thread Cert.HgrnSRefIdeal.nD Cert.HgrnSRefIdeal.τ).loc Cert.HgrnSRefIdeal.main_arg0)
      ∧ r.2.mem ((c.tc : Thread Cert.HgrnSRefIdeal.nD Cert.HgrnSRefIdeal.τ).loc Cert.HgrnSRefIdeal.main_arg1) = m ((c.tc : Thread Cert.HgrnSRefIdeal.nD Cert.HgrnSRefIdeal.τ).loc Cert.HgrnSRefIdeal.main_arg1)
      ∧ r.2.mem ((c.tc : Thread Cert.HgrnSRefIdeal.nD Cert.HgrnSRefIdeal.τ).loc Cert.HgrnSRefIdeal.main_arg2) = m ((c.tc : Thread Cert.HgrnSRefIdeal.nD Cert.HgrnSRefIdeal.τ).loc Cert.HgrnSRefIdeal.main_arg2)
      ∧ r.2.mem ((c.tc : Thread Cert.HgrnSRefIdeal.nD Cert.HgrnSRefIdeal.τ).loc Cert.HgrnSRefIdeal.main_arg3) = m ((c.tc : Thread Cert.HgrnSRefIdeal.nD Cert.HgrnSRefIdeal.τ).loc Cert.HgrnSRefIdeal.main_arg3))
      ∧ r.2.sem = fun _ => 0)

def quiescent_HgrnSRefIdeal_pre_finite_lower_s [hHgrnSRefIdeal : Cert.HgrnSRefIdeal.Facts] [hPre_finite_lower_s : Cert.Pre_finite_lower_s.Facts] : Prop :=
  ∀ (m : (ℓ : Loc Cert.HgrnSRefIdeal.nD Cert.HgrnSRefIdeal.τ Cert.HgrnSRefIdeal.sig) → Buf (Elt Ideal) ℓ) (g : Dev Cert.HgrnSRefIdeal.nD → PrngReg), Pre_HgrnSRefIdeal_finite_lower_s m →
    θ_run (Cert.HgrnSRefIdeal.defs (F := Ideal)) (onTc (τ := Cert.HgrnSRefIdeal.τ) (Cert.HgrnSRefIdeal.main (F := Ideal))) ⟨m, fun _ => 0, g⟩ (fun r => (∀ c : Dev Cert.HgrnSRefIdeal.nD,
      r.2.mem ((c.tc : Thread Cert.HgrnSRefIdeal.nD Cert.HgrnSRefIdeal.τ).loc Cert.HgrnSRefIdeal.main_arg0) = m ((c.tc : Thread Cert.HgrnSRefIdeal.nD Cert.HgrnSRefIdeal.τ).loc Cert.HgrnSRefIdeal.main_arg0)
      ∧ r.2.mem ((c.tc : Thread Cert.HgrnSRefIdeal.nD Cert.HgrnSRefIdeal.τ).loc Cert.HgrnSRefIdeal.main_arg1) = m ((c.tc : Thread Cert.HgrnSRefIdeal.nD Cert.HgrnSRefIdeal.τ).loc Cert.HgrnSRefIdeal.main_arg1)
      ∧ r.2.mem ((c.tc : Thread Cert.HgrnSRefIdeal.nD Cert.HgrnSRefIdeal.τ).loc Cert.HgrnSRefIdeal.main_arg2) = m ((c.tc : Thread Cert.HgrnSRefIdeal.nD Cert.HgrnSRefIdeal.τ).loc Cert.HgrnSRefIdeal.main_arg2)
      ∧ r.2.mem ((c.tc : Thread Cert.HgrnSRefIdeal.nD Cert.HgrnSRefIdeal.τ).loc Cert.HgrnSRefIdeal.main_arg3) = m ((c.tc : Thread Cert.HgrnSRefIdeal.nD Cert.HgrnSRefIdeal.τ).loc Cert.HgrnSRefIdeal.main_arg3))
      ∧ r.2.sem = fun _ => 0)

def quiescent_HgrnP [hHgrnP : Cert.HgrnP.Facts] : Prop :=
  ∀ (m : (ℓ : Loc Cert.HgrnP.nD Cert.HgrnP.τ Cert.HgrnP.sig) → Buf (Elt Bits) ℓ) (g : Dev Cert.HgrnP.nD → PrngReg), Pre_HgrnP m →
    θ_run (Cert.HgrnP.defs (F := Bits)) (onTc (τ := Cert.HgrnP.τ) (Cert.HgrnP.main (F := Bits))) ⟨m, fun _ => 0, g⟩ (fun r => (∀ c : Dev Cert.HgrnP.nD,
      r.2.mem ((c.tc : Thread Cert.HgrnP.nD Cert.HgrnP.τ).loc Cert.HgrnP.main_arg0) = m ((c.tc : Thread Cert.HgrnP.nD Cert.HgrnP.τ).loc Cert.HgrnP.main_arg0)
      ∧ r.2.mem ((c.tc : Thread Cert.HgrnP.nD Cert.HgrnP.τ).loc Cert.HgrnP.main_arg1) = m ((c.tc : Thread Cert.HgrnP.nD Cert.HgrnP.τ).loc Cert.HgrnP.main_arg1)
      ∧ r.2.mem ((c.tc : Thread Cert.HgrnP.nD Cert.HgrnP.τ).loc Cert.HgrnP.main_arg2) = m ((c.tc : Thread Cert.HgrnP.nD Cert.HgrnP.τ).loc Cert.HgrnP.main_arg2))
      ∧ r.2.sem = fun _ => 0)

def quiescent_HgrnPIdeal [hHgrnPIdeal : Cert.HgrnPIdeal.Facts] : Prop :=
  ∀ (m : (ℓ : Loc Cert.HgrnPIdeal.nD Cert.HgrnPIdeal.τ Cert.HgrnPIdeal.sig) → Buf (Elt Ideal) ℓ) (g : Dev Cert.HgrnPIdeal.nD → PrngReg), Pre_HgrnPIdeal m →
    θ_run (Cert.HgrnPIdeal.defs (F := Ideal)) (onTc (τ := Cert.HgrnPIdeal.τ) (Cert.HgrnPIdeal.main (F := Ideal))) ⟨m, fun _ => 0, g⟩ (fun r => (∀ c : Dev Cert.HgrnPIdeal.nD,
      r.2.mem ((c.tc : Thread Cert.HgrnPIdeal.nD Cert.HgrnPIdeal.τ).loc Cert.HgrnPIdeal.main_arg0) = m ((c.tc : Thread Cert.HgrnPIdeal.nD Cert.HgrnPIdeal.τ).loc Cert.HgrnPIdeal.main_arg0)
      ∧ r.2.mem ((c.tc : Thread Cert.HgrnPIdeal.nD Cert.HgrnPIdeal.τ).loc Cert.HgrnPIdeal.main_arg1) = m ((c.tc : Thread Cert.HgrnPIdeal.nD Cert.HgrnPIdeal.τ).loc Cert.HgrnPIdeal.main_arg1)
      ∧ r.2.mem ((c.tc : Thread Cert.HgrnPIdeal.nD Cert.HgrnPIdeal.τ).loc Cert.HgrnPIdeal.main_arg2) = m ((c.tc : Thread Cert.HgrnPIdeal.nD Cert.HgrnPIdeal.τ).loc Cert.HgrnPIdeal.main_arg2))
      ∧ r.2.sem = fun _ => 0)

def quiescent_HgrnPIdeal_pre_finite_lower_p [hHgrnPIdeal : Cert.HgrnPIdeal.Facts] [hPre_finite_lower_p : Cert.Pre_finite_lower_p.Facts] : Prop :=
  ∀ (m : (ℓ : Loc Cert.HgrnPIdeal.nD Cert.HgrnPIdeal.τ Cert.HgrnPIdeal.sig) → Buf (Elt Ideal) ℓ) (g : Dev Cert.HgrnPIdeal.nD → PrngReg), Pre_HgrnPIdeal_finite_lower_p m →
    θ_run (Cert.HgrnPIdeal.defs (F := Ideal)) (onTc (τ := Cert.HgrnPIdeal.τ) (Cert.HgrnPIdeal.main (F := Ideal))) ⟨m, fun _ => 0, g⟩ (fun r => (∀ c : Dev Cert.HgrnPIdeal.nD,
      r.2.mem ((c.tc : Thread Cert.HgrnPIdeal.nD Cert.HgrnPIdeal.τ).loc Cert.HgrnPIdeal.main_arg0) = m ((c.tc : Thread Cert.HgrnPIdeal.nD Cert.HgrnPIdeal.τ).loc Cert.HgrnPIdeal.main_arg0)
      ∧ r.2.mem ((c.tc : Thread Cert.HgrnPIdeal.nD Cert.HgrnPIdeal.τ).loc Cert.HgrnPIdeal.main_arg1) = m ((c.tc : Thread Cert.HgrnPIdeal.nD Cert.HgrnPIdeal.τ).loc Cert.HgrnPIdeal.main_arg1)
      ∧ r.2.mem ((c.tc : Thread Cert.HgrnPIdeal.nD Cert.HgrnPIdeal.τ).loc Cert.HgrnPIdeal.main_arg2) = m ((c.tc : Thread Cert.HgrnPIdeal.nD Cert.HgrnPIdeal.τ).loc Cert.HgrnPIdeal.main_arg2))
      ∧ r.2.sem = fun _ => 0)

def quiescent_HgrnPRefIdeal [hHgrnPRefIdeal : Cert.HgrnPRefIdeal.Facts] : Prop :=
  ∀ (m : (ℓ : Loc Cert.HgrnPRefIdeal.nD Cert.HgrnPRefIdeal.τ Cert.HgrnPRefIdeal.sig) → Buf (Elt Ideal) ℓ) (g : Dev Cert.HgrnPRefIdeal.nD → PrngReg), Pre_HgrnPRefIdeal m →
    θ_run (Cert.HgrnPRefIdeal.defs (F := Ideal)) (onTc (τ := Cert.HgrnPRefIdeal.τ) (Cert.HgrnPRefIdeal.main (F := Ideal))) ⟨m, fun _ => 0, g⟩ (fun r => (∀ c : Dev Cert.HgrnPRefIdeal.nD,
      r.2.mem ((c.tc : Thread Cert.HgrnPRefIdeal.nD Cert.HgrnPRefIdeal.τ).loc Cert.HgrnPRefIdeal.main_arg0) = m ((c.tc : Thread Cert.HgrnPRefIdeal.nD Cert.HgrnPRefIdeal.τ).loc Cert.HgrnPRefIdeal.main_arg0)
      ∧ r.2.mem ((c.tc : Thread Cert.HgrnPRefIdeal.nD Cert.HgrnPRefIdeal.τ).loc Cert.HgrnPRefIdeal.main_arg1) = m ((c.tc : Thread Cert.HgrnPRefIdeal.nD Cert.HgrnPRefIdeal.τ).loc Cert.HgrnPRefIdeal.main_arg1)
      ∧ r.2.mem ((c.tc : Thread Cert.HgrnPRefIdeal.nD Cert.HgrnPRefIdeal.τ).loc Cert.HgrnPRefIdeal.main_arg2) = m ((c.tc : Thread Cert.HgrnPRefIdeal.nD Cert.HgrnPRefIdeal.τ).loc Cert.HgrnPRefIdeal.main_arg2))
      ∧ r.2.sem = fun _ => 0)

def quiescent_HgrnPRefIdeal_pre_finite_lower_p [hHgrnPRefIdeal : Cert.HgrnPRefIdeal.Facts] [hPre_finite_lower_p : Cert.Pre_finite_lower_p.Facts] : Prop :=
  ∀ (m : (ℓ : Loc Cert.HgrnPRefIdeal.nD Cert.HgrnPRefIdeal.τ Cert.HgrnPRefIdeal.sig) → Buf (Elt Ideal) ℓ) (g : Dev Cert.HgrnPRefIdeal.nD → PrngReg), Pre_HgrnPRefIdeal_finite_lower_p m →
    θ_run (Cert.HgrnPRefIdeal.defs (F := Ideal)) (onTc (τ := Cert.HgrnPRefIdeal.τ) (Cert.HgrnPRefIdeal.main (F := Ideal))) ⟨m, fun _ => 0, g⟩ (fun r => (∀ c : Dev Cert.HgrnPRefIdeal.nD,
      r.2.mem ((c.tc : Thread Cert.HgrnPRefIdeal.nD Cert.HgrnPRefIdeal.τ).loc Cert.HgrnPRefIdeal.main_arg0) = m ((c.tc : Thread Cert.HgrnPRefIdeal.nD Cert.HgrnPRefIdeal.τ).loc Cert.HgrnPRefIdeal.main_arg0)
      ∧ r.2.mem ((c.tc : Thread Cert.HgrnPRefIdeal.nD Cert.HgrnPRefIdeal.τ).loc Cert.HgrnPRefIdeal.main_arg1) = m ((c.tc : Thread Cert.HgrnPRefIdeal.nD Cert.HgrnPRefIdeal.τ).loc Cert.HgrnPRefIdeal.main_arg1)
      ∧ r.2.mem ((c.tc : Thread Cert.HgrnPRefIdeal.nD Cert.HgrnPRefIdeal.τ).loc Cert.HgrnPRefIdeal.main_arg2) = m ((c.tc : Thread Cert.HgrnPRefIdeal.nD Cert.HgrnPRefIdeal.τ).loc Cert.HgrnPRefIdeal.main_arg2))
      ∧ r.2.sem = fun _ => 0)

def quiescent_Peer [hPeer : Cert.Peer.Facts] : Prop :=
  ∀ (m : (ℓ : Loc Cert.Peer.nD Cert.Peer.τ Cert.Peer.sig) → Buf (Elt Bits) ℓ) (g : Dev Cert.Peer.nD → PrngReg), Pre_Peer m →
    θ_run (Cert.Peer.defs (F := Bits)) (onTc (τ := Cert.Peer.τ) (Cert.Peer.main (F := Bits))) ⟨m, fun _ => 0, g⟩ (fun r => (∀ c : Dev Cert.Peer.nD,
      r.2.mem ((c.tc : Thread Cert.Peer.nD Cert.Peer.τ).loc Cert.Peer.main_arg0) = m ((c.tc : Thread Cert.Peer.nD Cert.Peer.τ).loc Cert.Peer.main_arg0)
      ∧ r.2.mem ((c.tc : Thread Cert.Peer.nD Cert.Peer.τ).loc Cert.Peer.main_arg1) = m ((c.tc : Thread Cert.Peer.nD Cert.Peer.τ).loc Cert.Peer.main_arg1)
      ∧ r.2.mem ((c.tc : Thread Cert.Peer.nD Cert.Peer.τ).loc Cert.Peer.main_arg2) = m ((c.tc : Thread Cert.Peer.nD Cert.Peer.τ).loc Cert.Peer.main_arg2)
      ∧ r.2.mem ((c.tc : Thread Cert.Peer.nD Cert.Peer.τ).loc Cert.Peer.main_arg3) = m ((c.tc : Thread Cert.Peer.nD Cert.Peer.τ).loc Cert.Peer.main_arg3)
      ∧ r.2.mem ((c.tc : Thread Cert.Peer.nD Cert.Peer.τ).loc Cert.Peer.main_arg4) = m ((c.tc : Thread Cert.Peer.nD Cert.Peer.τ).loc Cert.Peer.main_arg4)
      ∧ r.2.mem ((c.tc : Thread Cert.Peer.nD Cert.Peer.τ).loc Cert.Peer.main_arg5) = m ((c.tc : Thread Cert.Peer.nD Cert.Peer.τ).loc Cert.Peer.main_arg5)
      ∧ r.2.mem ((c.tc : Thread Cert.Peer.nD Cert.Peer.τ).loc Cert.Peer.main_arg6) = m ((c.tc : Thread Cert.Peer.nD Cert.Peer.τ).loc Cert.Peer.main_arg6)
      ∧ r.2.mem ((c.tc : Thread Cert.Peer.nD Cert.Peer.τ).loc Cert.Peer.main_arg7) = m ((c.tc : Thread Cert.Peer.nD Cert.Peer.τ).loc Cert.Peer.main_arg7)
      ∧ r.2.mem ((c.tc : Thread Cert.Peer.nD Cert.Peer.τ).loc Cert.Peer.main_arg8) = m ((c.tc : Thread Cert.Peer.nD Cert.Peer.τ).loc Cert.Peer.main_arg8))
      ∧ r.2.sem = fun _ => 0)

def quiescent_PeerIdeal [hPeerIdeal : Cert.PeerIdeal.Facts] : Prop :=
  ∀ (m : (ℓ : Loc Cert.PeerIdeal.nD Cert.PeerIdeal.τ Cert.PeerIdeal.sig) → Buf (Elt Ideal) ℓ) (g : Dev Cert.PeerIdeal.nD → PrngReg), Pre_PeerIdeal m →
    θ_run (Cert.PeerIdeal.defs (F := Ideal)) (onTc (τ := Cert.PeerIdeal.τ) (Cert.PeerIdeal.main (F := Ideal))) ⟨m, fun _ => 0, g⟩ (fun r => (∀ c : Dev Cert.PeerIdeal.nD,
      r.2.mem ((c.tc : Thread Cert.PeerIdeal.nD Cert.PeerIdeal.τ).loc Cert.PeerIdeal.main_arg0) = m ((c.tc : Thread Cert.PeerIdeal.nD Cert.PeerIdeal.τ).loc Cert.PeerIdeal.main_arg0)
      ∧ r.2.mem ((c.tc : Thread Cert.PeerIdeal.nD Cert.PeerIdeal.τ).loc Cert.PeerIdeal.main_arg1) = m ((c.tc : Thread Cert.PeerIdeal.nD Cert.PeerIdeal.τ).loc Cert.PeerIdeal.main_arg1)
      ∧ r.2.mem ((c.tc : Thread Cert.PeerIdeal.nD Cert.PeerIdeal.τ).loc Cert.PeerIdeal.main_arg2) = m ((c.tc : Thread Cert.PeerIdeal.nD Cert.PeerIdeal.τ).loc Cert.PeerIdeal.main_arg2)
      ∧ r.2.mem ((c.tc : Thread Cert.PeerIdeal.nD Cert.PeerIdeal.τ).loc Cert.PeerIdeal.main_arg3) = m ((c.tc : Thread Cert.PeerIdeal.nD Cert.PeerIdeal.τ).loc Cert.PeerIdeal.main_arg3)
      ∧ r.2.mem ((c.tc : Thread Cert.PeerIdeal.nD Cert.PeerIdeal.τ).loc Cert.PeerIdeal.main_arg4) = m ((c.tc : Thread Cert.PeerIdeal.nD Cert.PeerIdeal.τ).loc Cert.PeerIdeal.main_arg4)
      ∧ r.2.mem ((c.tc : Thread Cert.PeerIdeal.nD Cert.PeerIdeal.τ).loc Cert.PeerIdeal.main_arg5) = m ((c.tc : Thread Cert.PeerIdeal.nD Cert.PeerIdeal.τ).loc Cert.PeerIdeal.main_arg5)
      ∧ r.2.mem ((c.tc : Thread Cert.PeerIdeal.nD Cert.PeerIdeal.τ).loc Cert.PeerIdeal.main_arg6) = m ((c.tc : Thread Cert.PeerIdeal.nD Cert.PeerIdeal.τ).loc Cert.PeerIdeal.main_arg6)
      ∧ r.2.mem ((c.tc : Thread Cert.PeerIdeal.nD Cert.PeerIdeal.τ).loc Cert.PeerIdeal.main_arg7) = m ((c.tc : Thread Cert.PeerIdeal.nD Cert.PeerIdeal.τ).loc Cert.PeerIdeal.main_arg7)
      ∧ r.2.mem ((c.tc : Thread Cert.PeerIdeal.nD Cert.PeerIdeal.τ).loc Cert.PeerIdeal.main_arg8) = m ((c.tc : Thread Cert.PeerIdeal.nD Cert.PeerIdeal.τ).loc Cert.PeerIdeal.main_arg8))
      ∧ r.2.sem = fun _ => 0)

def quiescent_PeerRefIdeal [hPeerRefIdeal : Cert.PeerRefIdeal.Facts] : Prop :=
  ∀ (m : (ℓ : Loc Cert.PeerRefIdeal.nD Cert.PeerRefIdeal.τ Cert.PeerRefIdeal.sig) → Buf (Elt Ideal) ℓ) (g : Dev Cert.PeerRefIdeal.nD → PrngReg), Pre_PeerRefIdeal m →
    θ_run (Cert.PeerRefIdeal.defs (F := Ideal)) (onTc (τ := Cert.PeerRefIdeal.τ) (Cert.PeerRefIdeal.main (F := Ideal))) ⟨m, fun _ => 0, g⟩ (fun r => (∀ c : Dev Cert.PeerRefIdeal.nD,
      r.2.mem ((c.tc : Thread Cert.PeerRefIdeal.nD Cert.PeerRefIdeal.τ).loc Cert.PeerRefIdeal.main_arg0) = m ((c.tc : Thread Cert.PeerRefIdeal.nD Cert.PeerRefIdeal.τ).loc Cert.PeerRefIdeal.main_arg0)
      ∧ r.2.mem ((c.tc : Thread Cert.PeerRefIdeal.nD Cert.PeerRefIdeal.τ).loc Cert.PeerRefIdeal.main_arg1) = m ((c.tc : Thread Cert.PeerRefIdeal.nD Cert.PeerRefIdeal.τ).loc Cert.PeerRefIdeal.main_arg1)
      ∧ r.2.mem ((c.tc : Thread Cert.PeerRefIdeal.nD Cert.PeerRefIdeal.τ).loc Cert.PeerRefIdeal.main_arg2) = m ((c.tc : Thread Cert.PeerRefIdeal.nD Cert.PeerRefIdeal.τ).loc Cert.PeerRefIdeal.main_arg2)
      ∧ r.2.mem ((c.tc : Thread Cert.PeerRefIdeal.nD Cert.PeerRefIdeal.τ).loc Cert.PeerRefIdeal.main_arg3) = m ((c.tc : Thread Cert.PeerRefIdeal.nD Cert.PeerRefIdeal.τ).loc Cert.PeerRefIdeal.main_arg3)
      ∧ r.2.mem ((c.tc : Thread Cert.PeerRefIdeal.nD Cert.PeerRefIdeal.τ).loc Cert.PeerRefIdeal.main_arg4) = m ((c.tc : Thread Cert.PeerRefIdeal.nD Cert.PeerRefIdeal.τ).loc Cert.PeerRefIdeal.main_arg4)
      ∧ r.2.mem ((c.tc : Thread Cert.PeerRefIdeal.nD Cert.PeerRefIdeal.τ).loc Cert.PeerRefIdeal.main_arg5) = m ((c.tc : Thread Cert.PeerRefIdeal.nD Cert.PeerRefIdeal.τ).loc Cert.PeerRefIdeal.main_arg5)
      ∧ r.2.mem ((c.tc : Thread Cert.PeerRefIdeal.nD Cert.PeerRefIdeal.τ).loc Cert.PeerRefIdeal.main_arg6) = m ((c.tc : Thread Cert.PeerRefIdeal.nD Cert.PeerRefIdeal.τ).loc Cert.PeerRefIdeal.main_arg6)
      ∧ r.2.mem ((c.tc : Thread Cert.PeerRefIdeal.nD Cert.PeerRefIdeal.τ).loc Cert.PeerRefIdeal.main_arg7) = m ((c.tc : Thread Cert.PeerRefIdeal.nD Cert.PeerRefIdeal.τ).loc Cert.PeerRefIdeal.main_arg7)
      ∧ r.2.mem ((c.tc : Thread Cert.PeerRefIdeal.nD Cert.PeerRefIdeal.τ).loc Cert.PeerRefIdeal.main_arg8) = m ((c.tc : Thread Cert.PeerRefIdeal.nD Cert.PeerRefIdeal.τ).loc Cert.PeerRefIdeal.main_arg8))
      ∧ r.2.sem = fun _ => 0)

def quiescent_PeerS [hPeerS : Cert.PeerS.Facts] : Prop :=
  ∀ (m : (ℓ : Loc Cert.PeerS.nD Cert.PeerS.τ Cert.PeerS.sig) → Buf (Elt Bits) ℓ) (g : Dev Cert.PeerS.nD → PrngReg), Pre_PeerS m →
    θ_run (Cert.PeerS.defs (F := Bits)) (onTc (τ := Cert.PeerS.τ) (Cert.PeerS.main (F := Bits))) ⟨m, fun _ => 0, g⟩ (fun r => (∀ c : Dev Cert.PeerS.nD,
      r.2.mem ((c.tc : Thread Cert.PeerS.nD Cert.PeerS.τ).loc Cert.PeerS.main_arg0) = m ((c.tc : Thread Cert.PeerS.nD Cert.PeerS.τ).loc Cert.PeerS.main_arg0)
      ∧ r.2.mem ((c.tc : Thread Cert.PeerS.nD Cert.PeerS.τ).loc Cert.PeerS.main_arg1) = m ((c.tc : Thread Cert.PeerS.nD Cert.PeerS.τ).loc Cert.PeerS.main_arg1)
      ∧ r.2.mem ((c.tc : Thread Cert.PeerS.nD Cert.PeerS.τ).loc Cert.PeerS.main_arg2) = m ((c.tc : Thread Cert.PeerS.nD Cert.PeerS.τ).loc Cert.PeerS.main_arg2)
      ∧ r.2.mem ((c.tc : Thread Cert.PeerS.nD Cert.PeerS.τ).loc Cert.PeerS.main_arg3) = m ((c.tc : Thread Cert.PeerS.nD Cert.PeerS.τ).loc Cert.PeerS.main_arg3)
      ∧ r.2.mem ((c.tc : Thread Cert.PeerS.nD Cert.PeerS.τ).loc Cert.PeerS.main_arg4) = m ((c.tc : Thread Cert.PeerS.nD Cert.PeerS.τ).loc Cert.PeerS.main_arg4)
      ∧ r.2.mem ((c.tc : Thread Cert.PeerS.nD Cert.PeerS.τ).loc Cert.PeerS.main_arg5) = m ((c.tc : Thread Cert.PeerS.nD Cert.PeerS.τ).loc Cert.PeerS.main_arg5)
      ∧ r.2.mem ((c.tc : Thread Cert.PeerS.nD Cert.PeerS.τ).loc Cert.PeerS.main_arg6) = m ((c.tc : Thread Cert.PeerS.nD Cert.PeerS.τ).loc Cert.PeerS.main_arg6)
      ∧ r.2.mem ((c.tc : Thread Cert.PeerS.nD Cert.PeerS.τ).loc Cert.PeerS.main_arg7) = m ((c.tc : Thread Cert.PeerS.nD Cert.PeerS.τ).loc Cert.PeerS.main_arg7)
      ∧ r.2.mem ((c.tc : Thread Cert.PeerS.nD Cert.PeerS.τ).loc Cert.PeerS.main_arg8) = m ((c.tc : Thread Cert.PeerS.nD Cert.PeerS.τ).loc Cert.PeerS.main_arg8))
      ∧ r.2.sem = fun _ => 0)

def quiescent_PeerSIdeal [hPeerSIdeal : Cert.PeerSIdeal.Facts] : Prop :=
  ∀ (m : (ℓ : Loc Cert.PeerSIdeal.nD Cert.PeerSIdeal.τ Cert.PeerSIdeal.sig) → Buf (Elt Ideal) ℓ) (g : Dev Cert.PeerSIdeal.nD → PrngReg), Pre_PeerSIdeal m →
    θ_run (Cert.PeerSIdeal.defs (F := Ideal)) (onTc (τ := Cert.PeerSIdeal.τ) (Cert.PeerSIdeal.main (F := Ideal))) ⟨m, fun _ => 0, g⟩ (fun r => (∀ c : Dev Cert.PeerSIdeal.nD,
      r.2.mem ((c.tc : Thread Cert.PeerSIdeal.nD Cert.PeerSIdeal.τ).loc Cert.PeerSIdeal.main_arg0) = m ((c.tc : Thread Cert.PeerSIdeal.nD Cert.PeerSIdeal.τ).loc Cert.PeerSIdeal.main_arg0)
      ∧ r.2.mem ((c.tc : Thread Cert.PeerSIdeal.nD Cert.PeerSIdeal.τ).loc Cert.PeerSIdeal.main_arg1) = m ((c.tc : Thread Cert.PeerSIdeal.nD Cert.PeerSIdeal.τ).loc Cert.PeerSIdeal.main_arg1)
      ∧ r.2.mem ((c.tc : Thread Cert.PeerSIdeal.nD Cert.PeerSIdeal.τ).loc Cert.PeerSIdeal.main_arg2) = m ((c.tc : Thread Cert.PeerSIdeal.nD Cert.PeerSIdeal.τ).loc Cert.PeerSIdeal.main_arg2)
      ∧ r.2.mem ((c.tc : Thread Cert.PeerSIdeal.nD Cert.PeerSIdeal.τ).loc Cert.PeerSIdeal.main_arg3) = m ((c.tc : Thread Cert.PeerSIdeal.nD Cert.PeerSIdeal.τ).loc Cert.PeerSIdeal.main_arg3)
      ∧ r.2.mem ((c.tc : Thread Cert.PeerSIdeal.nD Cert.PeerSIdeal.τ).loc Cert.PeerSIdeal.main_arg4) = m ((c.tc : Thread Cert.PeerSIdeal.nD Cert.PeerSIdeal.τ).loc Cert.PeerSIdeal.main_arg4)
      ∧ r.2.mem ((c.tc : Thread Cert.PeerSIdeal.nD Cert.PeerSIdeal.τ).loc Cert.PeerSIdeal.main_arg5) = m ((c.tc : Thread Cert.PeerSIdeal.nD Cert.PeerSIdeal.τ).loc Cert.PeerSIdeal.main_arg5)
      ∧ r.2.mem ((c.tc : Thread Cert.PeerSIdeal.nD Cert.PeerSIdeal.τ).loc Cert.PeerSIdeal.main_arg6) = m ((c.tc : Thread Cert.PeerSIdeal.nD Cert.PeerSIdeal.τ).loc Cert.PeerSIdeal.main_arg6)
      ∧ r.2.mem ((c.tc : Thread Cert.PeerSIdeal.nD Cert.PeerSIdeal.τ).loc Cert.PeerSIdeal.main_arg7) = m ((c.tc : Thread Cert.PeerSIdeal.nD Cert.PeerSIdeal.τ).loc Cert.PeerSIdeal.main_arg7)
      ∧ r.2.mem ((c.tc : Thread Cert.PeerSIdeal.nD Cert.PeerSIdeal.τ).loc Cert.PeerSIdeal.main_arg8) = m ((c.tc : Thread Cert.PeerSIdeal.nD Cert.PeerSIdeal.τ).loc Cert.PeerSIdeal.main_arg8))
      ∧ r.2.sem = fun _ => 0)

def quiescent_PeerSRefIdeal [hPeerSRefIdeal : Cert.PeerSRefIdeal.Facts] : Prop :=
  ∀ (m : (ℓ : Loc Cert.PeerSRefIdeal.nD Cert.PeerSRefIdeal.τ Cert.PeerSRefIdeal.sig) → Buf (Elt Ideal) ℓ) (g : Dev Cert.PeerSRefIdeal.nD → PrngReg), Pre_PeerSRefIdeal m →
    θ_run (Cert.PeerSRefIdeal.defs (F := Ideal)) (onTc (τ := Cert.PeerSRefIdeal.τ) (Cert.PeerSRefIdeal.main (F := Ideal))) ⟨m, fun _ => 0, g⟩ (fun r => (∀ c : Dev Cert.PeerSRefIdeal.nD,
      r.2.mem ((c.tc : Thread Cert.PeerSRefIdeal.nD Cert.PeerSRefIdeal.τ).loc Cert.PeerSRefIdeal.main_arg0) = m ((c.tc : Thread Cert.PeerSRefIdeal.nD Cert.PeerSRefIdeal.τ).loc Cert.PeerSRefIdeal.main_arg0)
      ∧ r.2.mem ((c.tc : Thread Cert.PeerSRefIdeal.nD Cert.PeerSRefIdeal.τ).loc Cert.PeerSRefIdeal.main_arg1) = m ((c.tc : Thread Cert.PeerSRefIdeal.nD Cert.PeerSRefIdeal.τ).loc Cert.PeerSRefIdeal.main_arg1)
      ∧ r.2.mem ((c.tc : Thread Cert.PeerSRefIdeal.nD Cert.PeerSRefIdeal.τ).loc Cert.PeerSRefIdeal.main_arg2) = m ((c.tc : Thread Cert.PeerSRefIdeal.nD Cert.PeerSRefIdeal.τ).loc Cert.PeerSRefIdeal.main_arg2)
      ∧ r.2.mem ((c.tc : Thread Cert.PeerSRefIdeal.nD Cert.PeerSRefIdeal.τ).loc Cert.PeerSRefIdeal.main_arg3) = m ((c.tc : Thread Cert.PeerSRefIdeal.nD Cert.PeerSRefIdeal.τ).loc Cert.PeerSRefIdeal.main_arg3)
      ∧ r.2.mem ((c.tc : Thread Cert.PeerSRefIdeal.nD Cert.PeerSRefIdeal.τ).loc Cert.PeerSRefIdeal.main_arg4) = m ((c.tc : Thread Cert.PeerSRefIdeal.nD Cert.PeerSRefIdeal.τ).loc Cert.PeerSRefIdeal.main_arg4)
      ∧ r.2.mem ((c.tc : Thread Cert.PeerSRefIdeal.nD Cert.PeerSRefIdeal.τ).loc Cert.PeerSRefIdeal.main_arg5) = m ((c.tc : Thread Cert.PeerSRefIdeal.nD Cert.PeerSRefIdeal.τ).loc Cert.PeerSRefIdeal.main_arg5)
      ∧ r.2.mem ((c.tc : Thread Cert.PeerSRefIdeal.nD Cert.PeerSRefIdeal.τ).loc Cert.PeerSRefIdeal.main_arg6) = m ((c.tc : Thread Cert.PeerSRefIdeal.nD Cert.PeerSRefIdeal.τ).loc Cert.PeerSRefIdeal.main_arg6)
      ∧ r.2.mem ((c.tc : Thread Cert.PeerSRefIdeal.nD Cert.PeerSRefIdeal.τ).loc Cert.PeerSRefIdeal.main_arg7) = m ((c.tc : Thread Cert.PeerSRefIdeal.nD Cert.PeerSRefIdeal.τ).loc Cert.PeerSRefIdeal.main_arg7)
      ∧ r.2.mem ((c.tc : Thread Cert.PeerSRefIdeal.nD Cert.PeerSRefIdeal.τ).loc Cert.PeerSRefIdeal.main_arg8) = m ((c.tc : Thread Cert.PeerSRefIdeal.nD Cert.PeerSRefIdeal.τ).loc Cert.PeerSRefIdeal.main_arg8))
      ∧ r.2.sem = fun _ => 0)

def preserves_ProjA_ProjAIdeal : Prop :=
  True

def algebraic_ProjAIdeal_ProjARefIdeal [hProjAIdeal : Cert.ProjAIdeal.Facts] [hProjARefIdeal : Cert.ProjARefIdeal.Facts] : Prop :=
  ∀ (m : (ℓ : Loc Cert.ProjAIdeal.nD Cert.ProjAIdeal.τ Cert.ProjAIdeal.sig) → Buf (Elt Ideal) ℓ) (g : Dev Cert.ProjAIdeal.nD → PrngReg)
    (m' : (ℓ : Loc Cert.ProjARefIdeal.nD Cert.ProjARefIdeal.τ Cert.ProjARefIdeal.sig) → Buf (Elt Ideal) ℓ) (g' : Dev Cert.ProjARefIdeal.nD → PrngReg), Pre_ProjAIdeal m →
    (∀ c : Dev Cert.ProjAIdeal.nD,
      m' ((c.tc : Thread Cert.ProjARefIdeal.nD Cert.ProjARefIdeal.τ).loc Cert.ProjARefIdeal.main_arg0) = m ((c.tc : Thread Cert.ProjAIdeal.nD Cert.ProjAIdeal.τ).loc Cert.ProjAIdeal.main_arg0)
      ∧ m' ((c.tc : Thread Cert.ProjARefIdeal.nD Cert.ProjARefIdeal.τ).loc Cert.ProjARefIdeal.main_arg1) = m ((c.tc : Thread Cert.ProjAIdeal.nD Cert.ProjAIdeal.τ).loc Cert.ProjAIdeal.main_arg1)
      ∧ m' ((c.tc : Thread Cert.ProjARefIdeal.nD Cert.ProjARefIdeal.τ).loc Cert.ProjARefIdeal.main_arg2) = m ((c.tc : Thread Cert.ProjAIdeal.nD Cert.ProjAIdeal.τ).loc Cert.ProjAIdeal.main_arg2)) →
    ∃ (v0 : (c : Dev Cert.ProjAIdeal.nD) → Buf (Elt Ideal) ((c.tc : Thread Cert.ProjAIdeal.nD Cert.ProjAIdeal.τ).loc Cert.ProjAIdeal.main_v3)),
      θ_run (Cert.ProjAIdeal.defs (F := Ideal)) (onTc (τ := Cert.ProjAIdeal.τ) (Cert.ProjAIdeal.main (F := Ideal))) ⟨m, fun _ => 0, g⟩ (fun r => ∀ c : Dev Cert.ProjAIdeal.nD,
          r.2.mem ((c.tc : Thread Cert.ProjAIdeal.nD Cert.ProjAIdeal.τ).loc Cert.ProjAIdeal.main_v3) = v0 c
          ∧ r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
          ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1)
          ∧ r.2.mem ((c.tc : Thread Cert.ProjAIdeal.nD Cert.ProjAIdeal.τ).loc Cert.ProjAIdeal.main_arg2) = m ((c.tc : Thread Cert.ProjAIdeal.nD Cert.ProjAIdeal.τ).loc Cert.ProjAIdeal.main_arg2))
      ∧ θ_run (Cert.ProjARefIdeal.defs (F := Ideal)) (onTc (τ := Cert.ProjARefIdeal.τ) (Cert.ProjARefIdeal.main (F := Ideal))) ⟨m', fun _ => 0, g'⟩ (fun r => ∀ c : Dev Cert.ProjARefIdeal.nD,
          r.2.mem ((c.tc : Thread Cert.ProjARefIdeal.nD Cert.ProjARefIdeal.τ).loc Cert.ProjARefIdeal.main_v15) = v0 c
          ∧ r.2.mem ((c.tc : Thread Cert.ProjARefIdeal.nD Cert.ProjARefIdeal.τ).loc Cert.ProjARefIdeal.main_arg0) = m' ((c.tc : Thread Cert.ProjARefIdeal.nD Cert.ProjARefIdeal.τ).loc Cert.ProjARefIdeal.main_arg0)
          ∧ r.2.mem ((c.tc : Thread Cert.ProjARefIdeal.nD Cert.ProjARefIdeal.τ).loc Cert.ProjARefIdeal.main_arg1) = m' ((c.tc : Thread Cert.ProjARefIdeal.nD Cert.ProjARefIdeal.τ).loc Cert.ProjARefIdeal.main_arg1)
          ∧ r.2.mem ((c.tc : Thread Cert.ProjARefIdeal.nD Cert.ProjARefIdeal.τ).loc Cert.ProjARefIdeal.main_arg2) = m' ((c.tc : Thread Cert.ProjARefIdeal.nD Cert.ProjARefIdeal.τ).loc Cert.ProjARefIdeal.main_arg2))

def preserves_ProjAS_ProjASIdeal : Prop :=
  True

def algebraic_ProjASIdeal_ProjASRefIdeal [hProjASIdeal : Cert.ProjASIdeal.Facts] [hProjASRefIdeal : Cert.ProjASRefIdeal.Facts] : Prop :=
  ∀ (m : (ℓ : Loc Cert.ProjASIdeal.nD Cert.ProjASIdeal.τ Cert.ProjASIdeal.sig) → Buf (Elt Ideal) ℓ) (g : Dev Cert.ProjASIdeal.nD → PrngReg)
    (m' : (ℓ : Loc Cert.ProjASRefIdeal.nD Cert.ProjASRefIdeal.τ Cert.ProjASRefIdeal.sig) → Buf (Elt Ideal) ℓ) (g' : Dev Cert.ProjASRefIdeal.nD → PrngReg), Pre_ProjASIdeal m →
    (∀ c : Dev Cert.ProjASIdeal.nD,
      m' ((c.tc : Thread Cert.ProjASRefIdeal.nD Cert.ProjASRefIdeal.τ).loc Cert.ProjASRefIdeal.main_arg0) = m ((c.tc : Thread Cert.ProjASIdeal.nD Cert.ProjASIdeal.τ).loc Cert.ProjASIdeal.main_arg0)
      ∧ m' ((c.tc : Thread Cert.ProjASRefIdeal.nD Cert.ProjASRefIdeal.τ).loc Cert.ProjASRefIdeal.main_arg1) = m ((c.tc : Thread Cert.ProjASIdeal.nD Cert.ProjASIdeal.τ).loc Cert.ProjASIdeal.main_arg1)
      ∧ m' ((c.tc : Thread Cert.ProjASRefIdeal.nD Cert.ProjASRefIdeal.τ).loc Cert.ProjASRefIdeal.main_arg2) = m ((c.tc : Thread Cert.ProjASIdeal.nD Cert.ProjASIdeal.τ).loc Cert.ProjASIdeal.main_arg2)) →
    ∃ (v0 : (c : Dev Cert.ProjASIdeal.nD) → Buf (Elt Ideal) ((c.tc : Thread Cert.ProjASIdeal.nD Cert.ProjASIdeal.τ).loc Cert.ProjASIdeal.main_v3)),
      θ_run (Cert.ProjASIdeal.defs (F := Ideal)) (onTc (τ := Cert.ProjASIdeal.τ) (Cert.ProjASIdeal.main (F := Ideal))) ⟨m, fun _ => 0, g⟩ (fun r => ∀ c : Dev Cert.ProjASIdeal.nD,
          r.2.mem ((c.tc : Thread Cert.ProjASIdeal.nD Cert.ProjASIdeal.τ).loc Cert.ProjASIdeal.main_v3) = v0 c
          ∧ r.2.mem ((c.tc : Thread Cert.ProjASIdeal.nD Cert.ProjASIdeal.τ).loc Cert.ProjASIdeal.main_arg0) = m ((c.tc : Thread Cert.ProjASIdeal.nD Cert.ProjASIdeal.τ).loc Cert.ProjASIdeal.main_arg0)
          ∧ r.2.mem ((c.tc : Thread Cert.ProjASIdeal.nD Cert.ProjASIdeal.τ).loc Cert.ProjASIdeal.main_arg1) = m ((c.tc : Thread Cert.ProjASIdeal.nD Cert.ProjASIdeal.τ).loc Cert.ProjASIdeal.main_arg1)
          ∧ r.2.mem ((c.tc : Thread Cert.ProjASIdeal.nD Cert.ProjASIdeal.τ).loc Cert.ProjASIdeal.main_arg2) = m ((c.tc : Thread Cert.ProjASIdeal.nD Cert.ProjASIdeal.τ).loc Cert.ProjASIdeal.main_arg2))
      ∧ θ_run (Cert.ProjASRefIdeal.defs (F := Ideal)) (onTc (τ := Cert.ProjASRefIdeal.τ) (Cert.ProjASRefIdeal.main (F := Ideal))) ⟨m', fun _ => 0, g'⟩ (fun r => ∀ c : Dev Cert.ProjASRefIdeal.nD,
          r.2.mem ((c.tc : Thread Cert.ProjASRefIdeal.nD Cert.ProjASRefIdeal.τ).loc Cert.ProjASRefIdeal.main_v15) = v0 c
          ∧ r.2.mem ((c.tc : Thread Cert.ProjASRefIdeal.nD Cert.ProjASRefIdeal.τ).loc Cert.ProjASRefIdeal.main_arg0) = m' ((c.tc : Thread Cert.ProjASRefIdeal.nD Cert.ProjASRefIdeal.τ).loc Cert.ProjASRefIdeal.main_arg0)
          ∧ r.2.mem ((c.tc : Thread Cert.ProjASRefIdeal.nD Cert.ProjASRefIdeal.τ).loc Cert.ProjASRefIdeal.main_arg1) = m' ((c.tc : Thread Cert.ProjASRefIdeal.nD Cert.ProjASRefIdeal.τ).loc Cert.ProjASRefIdeal.main_arg1)
          ∧ r.2.mem ((c.tc : Thread Cert.ProjASRefIdeal.nD Cert.ProjASRefIdeal.τ).loc Cert.ProjASRefIdeal.main_arg2) = m' ((c.tc : Thread Cert.ProjASRefIdeal.nD Cert.ProjASRefIdeal.τ).loc Cert.ProjASRefIdeal.main_arg2))

def preserves_ProjB_ProjBIdeal : Prop :=
  True

def algebraic_ProjBIdeal_ProjBRefIdeal [hProjBIdeal : Cert.ProjBIdeal.Facts] [hProjBRefIdeal : Cert.ProjBRefIdeal.Facts] : Prop :=
  ∀ (m : (ℓ : Loc Cert.ProjBIdeal.nD Cert.ProjBIdeal.τ Cert.ProjBIdeal.sig) → Buf (Elt Ideal) ℓ) (g : Dev Cert.ProjBIdeal.nD → PrngReg)
    (m' : (ℓ : Loc Cert.ProjBRefIdeal.nD Cert.ProjBRefIdeal.τ Cert.ProjBRefIdeal.sig) → Buf (Elt Ideal) ℓ) (g' : Dev Cert.ProjBRefIdeal.nD → PrngReg), Pre_ProjBIdeal m →
    (∀ c : Dev Cert.ProjBIdeal.nD,
      m' ((c.tc : Thread Cert.ProjBRefIdeal.nD Cert.ProjBRefIdeal.τ).loc Cert.ProjBRefIdeal.main_arg0) = m ((c.tc : Thread Cert.ProjBIdeal.nD Cert.ProjBIdeal.τ).loc Cert.ProjBIdeal.main_arg0)
      ∧ m' ((c.tc : Thread Cert.ProjBRefIdeal.nD Cert.ProjBRefIdeal.τ).loc Cert.ProjBRefIdeal.main_arg1) = m ((c.tc : Thread Cert.ProjBIdeal.nD Cert.ProjBIdeal.τ).loc Cert.ProjBIdeal.main_arg1)
      ∧ m' ((c.tc : Thread Cert.ProjBRefIdeal.nD Cert.ProjBRefIdeal.τ).loc Cert.ProjBRefIdeal.main_arg2) = m ((c.tc : Thread Cert.ProjBIdeal.nD Cert.ProjBIdeal.τ).loc Cert.ProjBIdeal.main_arg2)) →
    ∃ (v0 : (c : Dev Cert.ProjBIdeal.nD) → Buf (Elt Ideal) ((c.tc : Thread Cert.ProjBIdeal.nD Cert.ProjBIdeal.τ).loc Cert.ProjBIdeal.main_v3)),
      θ_run (Cert.ProjBIdeal.defs (F := Ideal)) (onTc (τ := Cert.ProjBIdeal.τ) (Cert.ProjBIdeal.main (F := Ideal))) ⟨m, fun _ => 0, g⟩ (fun r => ∀ c : Dev Cert.ProjBIdeal.nD,
          r.2.mem ((c.tc : Thread Cert.ProjBIdeal.nD Cert.ProjBIdeal.τ).loc Cert.ProjBIdeal.main_v3) = v0 c
          ∧ r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
          ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1)
          ∧ r.2.mem ((c.tc : Thread Cert.ProjBIdeal.nD Cert.ProjBIdeal.τ).loc Cert.ProjBIdeal.main_arg2) = m ((c.tc : Thread Cert.ProjBIdeal.nD Cert.ProjBIdeal.τ).loc Cert.ProjBIdeal.main_arg2))
      ∧ θ_run (Cert.ProjBRefIdeal.defs (F := Ideal)) (onTc (τ := Cert.ProjBRefIdeal.τ) (Cert.ProjBRefIdeal.main (F := Ideal))) ⟨m', fun _ => 0, g'⟩ (fun r => ∀ c : Dev Cert.ProjBRefIdeal.nD,
          r.2.mem ((c.tc : Thread Cert.ProjBRefIdeal.nD Cert.ProjBRefIdeal.τ).loc Cert.ProjBRefIdeal.main_v15) = v0 c
          ∧ r.2.mem ((c.tc : Thread Cert.ProjBRefIdeal.nD Cert.ProjBRefIdeal.τ).loc Cert.ProjBRefIdeal.main_arg0) = m' ((c.tc : Thread Cert.ProjBRefIdeal.nD Cert.ProjBRefIdeal.τ).loc Cert.ProjBRefIdeal.main_arg0)
          ∧ r.2.mem ((c.tc : Thread Cert.ProjBRefIdeal.nD Cert.ProjBRefIdeal.τ).loc Cert.ProjBRefIdeal.main_arg1) = m' ((c.tc : Thread Cert.ProjBRefIdeal.nD Cert.ProjBRefIdeal.τ).loc Cert.ProjBRefIdeal.main_arg1)
          ∧ r.2.mem ((c.tc : Thread Cert.ProjBRefIdeal.nD Cert.ProjBRefIdeal.τ).loc Cert.ProjBRefIdeal.main_arg2) = m' ((c.tc : Thread Cert.ProjBRefIdeal.nD Cert.ProjBRefIdeal.τ).loc Cert.ProjBRefIdeal.main_arg2))

def preserves_MemKv0_MemKv0Ideal : Prop :=
  True

def algebraic_MemKv0Ideal_MemKv0RefIdeal [hMemKv0Ideal : Cert.MemKv0Ideal.Facts] [hMemKv0RefIdeal : Cert.MemKv0RefIdeal.Facts] : Prop :=
  ∀ (m : (ℓ : Loc Cert.MemKv0Ideal.nD Cert.MemKv0Ideal.τ Cert.MemKv0Ideal.sig) → Buf (Elt Ideal) ℓ) (g : Dev Cert.MemKv0Ideal.nD → PrngReg)
    (m' : (ℓ : Loc Cert.MemKv0RefIdeal.nD Cert.MemKv0RefIdeal.τ Cert.MemKv0RefIdeal.sig) → Buf (Elt Ideal) ℓ) (g' : Dev Cert.MemKv0RefIdeal.nD → PrngReg), Pre_MemKv0Ideal m →
    (∀ c : Dev Cert.MemKv0Ideal.nD,
      m' ((c.tc : Thread Cert.MemKv0RefIdeal.nD Cert.MemKv0RefIdeal.τ).loc Cert.MemKv0RefIdeal.main_arg0) = m ((c.tc : Thread Cert.MemKv0Ideal.nD Cert.MemKv0Ideal.τ).loc Cert.MemKv0Ideal.main_arg0)
      ∧ m' ((c.tc : Thread Cert.MemKv0RefIdeal.nD Cert.MemKv0RefIdeal.τ).loc Cert.MemKv0RefIdeal.main_arg1) = m ((c.tc : Thread Cert.MemKv0Ideal.nD Cert.MemKv0Ideal.τ).loc Cert.MemKv0Ideal.main_arg1)
      ∧ m' ((c.tc : Thread Cert.MemKv0RefIdeal.nD Cert.MemKv0RefIdeal.τ).loc Cert.MemKv0RefIdeal.main_arg2) = m ((c.tc : Thread Cert.MemKv0Ideal.nD Cert.MemKv0Ideal.τ).loc Cert.MemKv0Ideal.main_arg2)) →
    ∃ (v0 : (c : Dev Cert.MemKv0Ideal.nD) → Buf (Elt Ideal) ((c.tc : Thread Cert.MemKv0Ideal.nD Cert.MemKv0Ideal.τ).loc Cert.MemKv0Ideal.main_v5)),
      θ_run (Cert.MemKv0Ideal.defs (F := Ideal)) (onTc (τ := Cert.MemKv0Ideal.τ) (Cert.MemKv0Ideal.main (F := Ideal))) ⟨m, fun _ => 0, g⟩ (fun r => ∀ c : Dev Cert.MemKv0Ideal.nD,
          r.2.mem ((c.tc : Thread Cert.MemKv0Ideal.nD Cert.MemKv0Ideal.τ).loc Cert.MemKv0Ideal.main_v5) = v0 c
          ∧ r.2.mem ((c.tc : Thread Cert.MemKv0Ideal.nD Cert.MemKv0Ideal.τ).loc Cert.MemKv0Ideal.main_arg0) = m ((c.tc : Thread Cert.MemKv0Ideal.nD Cert.MemKv0Ideal.τ).loc Cert.MemKv0Ideal.main_arg0)
          ∧ r.2.mem ((c.tc : Thread Cert.MemKv0Ideal.nD Cert.MemKv0Ideal.τ).loc Cert.MemKv0Ideal.main_arg1) = m ((c.tc : Thread Cert.MemKv0Ideal.nD Cert.MemKv0Ideal.τ).loc Cert.MemKv0Ideal.main_arg1)
          ∧ r.2.mem ((c.tc : Thread Cert.MemKv0Ideal.nD Cert.MemKv0Ideal.τ).loc Cert.MemKv0Ideal.main_arg2) = m ((c.tc : Thread Cert.MemKv0Ideal.nD Cert.MemKv0Ideal.τ).loc Cert.MemKv0Ideal.main_arg2))
      ∧ θ_run (Cert.MemKv0RefIdeal.defs (F := Ideal)) (onTc (τ := Cert.MemKv0RefIdeal.τ) (Cert.MemKv0RefIdeal.main (F := Ideal))) ⟨m', fun _ => 0, g'⟩ (fun r => ∀ c : Dev Cert.MemKv0RefIdeal.nD,
          r.2.mem ((c.tc : Thread Cert.MemKv0RefIdeal.nD Cert.MemKv0RefIdeal.τ).loc Cert.MemKv0RefIdeal.main_v18) = v0 c
          ∧ r.2.mem ((c.tc : Thread Cert.MemKv0RefIdeal.nD Cert.MemKv0RefIdeal.τ).loc Cert.MemKv0RefIdeal.main_arg0) = m' ((c.tc : Thread Cert.MemKv0RefIdeal.nD Cert.MemKv0RefIdeal.τ).loc Cert.MemKv0RefIdeal.main_arg0)
          ∧ r.2.mem ((c.tc : Thread Cert.MemKv0RefIdeal.nD Cert.MemKv0RefIdeal.τ).loc Cert.MemKv0RefIdeal.main_arg1) = m' ((c.tc : Thread Cert.MemKv0RefIdeal.nD Cert.MemKv0RefIdeal.τ).loc Cert.MemKv0RefIdeal.main_arg1)
          ∧ r.2.mem ((c.tc : Thread Cert.MemKv0RefIdeal.nD Cert.MemKv0RefIdeal.τ).loc Cert.MemKv0RefIdeal.main_arg2) = m' ((c.tc : Thread Cert.MemKv0RefIdeal.nD Cert.MemKv0RefIdeal.τ).loc Cert.MemKv0RefIdeal.main_arg2))

def preserves_MemKv1_MemKv1Ideal : Prop :=
  True

def algebraic_MemKv1Ideal_MemKv1RefIdeal [hMemKv1Ideal : Cert.MemKv1Ideal.Facts] [hMemKv1RefIdeal : Cert.MemKv1RefIdeal.Facts] : Prop :=
  ∀ (m : (ℓ : Loc Cert.MemKv1Ideal.nD Cert.MemKv1Ideal.τ Cert.MemKv1Ideal.sig) → Buf (Elt Ideal) ℓ) (g : Dev Cert.MemKv1Ideal.nD → PrngReg)
    (m' : (ℓ : Loc Cert.MemKv1RefIdeal.nD Cert.MemKv1RefIdeal.τ Cert.MemKv1RefIdeal.sig) → Buf (Elt Ideal) ℓ) (g' : Dev Cert.MemKv1RefIdeal.nD → PrngReg), Pre_MemKv1Ideal m →
    (∀ c : Dev Cert.MemKv1Ideal.nD,
      m' ((c.tc : Thread Cert.MemKv1RefIdeal.nD Cert.MemKv1RefIdeal.τ).loc Cert.MemKv1RefIdeal.main_arg0) = m ((c.tc : Thread Cert.MemKv1Ideal.nD Cert.MemKv1Ideal.τ).loc Cert.MemKv1Ideal.main_arg0)
      ∧ m' ((c.tc : Thread Cert.MemKv1RefIdeal.nD Cert.MemKv1RefIdeal.τ).loc Cert.MemKv1RefIdeal.main_arg1) = m ((c.tc : Thread Cert.MemKv1Ideal.nD Cert.MemKv1Ideal.τ).loc Cert.MemKv1Ideal.main_arg1)
      ∧ m' ((c.tc : Thread Cert.MemKv1RefIdeal.nD Cert.MemKv1RefIdeal.τ).loc Cert.MemKv1RefIdeal.main_arg2) = m ((c.tc : Thread Cert.MemKv1Ideal.nD Cert.MemKv1Ideal.τ).loc Cert.MemKv1Ideal.main_arg2)) →
    ∃ (v0 : (c : Dev Cert.MemKv1Ideal.nD) → Buf (Elt Ideal) ((c.tc : Thread Cert.MemKv1Ideal.nD Cert.MemKv1Ideal.τ).loc Cert.MemKv1Ideal.main_v5)),
      θ_run (Cert.MemKv1Ideal.defs (F := Ideal)) (onTc (τ := Cert.MemKv1Ideal.τ) (Cert.MemKv1Ideal.main (F := Ideal))) ⟨m, fun _ => 0, g⟩ (fun r => ∀ c : Dev Cert.MemKv1Ideal.nD,
          r.2.mem ((c.tc : Thread Cert.MemKv1Ideal.nD Cert.MemKv1Ideal.τ).loc Cert.MemKv1Ideal.main_v5) = v0 c
          ∧ r.2.mem ((c.tc : Thread Cert.MemKv1Ideal.nD Cert.MemKv1Ideal.τ).loc Cert.MemKv1Ideal.main_arg0) = m ((c.tc : Thread Cert.MemKv1Ideal.nD Cert.MemKv1Ideal.τ).loc Cert.MemKv1Ideal.main_arg0)
          ∧ r.2.mem ((c.tc : Thread Cert.MemKv1Ideal.nD Cert.MemKv1Ideal.τ).loc Cert.MemKv1Ideal.main_arg1) = m ((c.tc : Thread Cert.MemKv1Ideal.nD Cert.MemKv1Ideal.τ).loc Cert.MemKv1Ideal.main_arg1)
          ∧ r.2.mem ((c.tc : Thread Cert.MemKv1Ideal.nD Cert.MemKv1Ideal.τ).loc Cert.MemKv1Ideal.main_arg2) = m ((c.tc : Thread Cert.MemKv1Ideal.nD Cert.MemKv1Ideal.τ).loc Cert.MemKv1Ideal.main_arg2))
      ∧ θ_run (Cert.MemKv1RefIdeal.defs (F := Ideal)) (onTc (τ := Cert.MemKv1RefIdeal.τ) (Cert.MemKv1RefIdeal.main (F := Ideal))) ⟨m', fun _ => 0, g'⟩ (fun r => ∀ c : Dev Cert.MemKv1RefIdeal.nD,
          r.2.mem ((c.tc : Thread Cert.MemKv1RefIdeal.nD Cert.MemKv1RefIdeal.τ).loc Cert.MemKv1RefIdeal.main_v18) = v0 c
          ∧ r.2.mem ((c.tc : Thread Cert.MemKv1RefIdeal.nD Cert.MemKv1RefIdeal.τ).loc Cert.MemKv1RefIdeal.main_arg0) = m' ((c.tc : Thread Cert.MemKv1RefIdeal.nD Cert.MemKv1RefIdeal.τ).loc Cert.MemKv1RefIdeal.main_arg0)
          ∧ r.2.mem ((c.tc : Thread Cert.MemKv1RefIdeal.nD Cert.MemKv1RefIdeal.τ).loc Cert.MemKv1RefIdeal.main_arg1) = m' ((c.tc : Thread Cert.MemKv1RefIdeal.nD Cert.MemKv1RefIdeal.τ).loc Cert.MemKv1RefIdeal.main_arg1)
          ∧ r.2.mem ((c.tc : Thread Cert.MemKv1RefIdeal.nD Cert.MemKv1RefIdeal.τ).loc Cert.MemKv1RefIdeal.main_arg2) = m' ((c.tc : Thread Cert.MemKv1RefIdeal.nD Cert.MemKv1RefIdeal.τ).loc Cert.MemKv1RefIdeal.main_arg2))

def preserves_MemAttn_MemAttnIdeal : Prop :=
  True

def algebraic_MemAttnIdeal_MemAttnRefIdeal [hMemAttnIdeal : Cert.MemAttnIdeal.Facts] [hMemAttnRefIdeal : Cert.MemAttnRefIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg)
    (m' : (ℓ : Loc Cert.MemAttnRefIdeal.nD Cert.MemAttnRefIdeal.τ Cert.MemAttnRefIdeal.sig) → Buf (Elt Ideal) ℓ) (g' : Dev Cert.MemAttnRefIdeal.nD → PrngReg), Pre_MemAttnIdeal m →
    (∀ c : Dev Cert.MemAttnIdeal.nD,
      m' ((c.tc : Thread Cert.MemAttnRefIdeal.nD Cert.MemAttnRefIdeal.τ).loc Cert.MemAttnRefIdeal.main_arg0) = m ((c.tc : Thread Cert.MemAttnIdeal.nD Cert.MemAttnIdeal.τ).loc Cert.MemAttnIdeal.main_arg0)
      ∧ m' ((c.tc : Thread Cert.MemAttnRefIdeal.nD Cert.MemAttnRefIdeal.τ).loc Cert.MemAttnRefIdeal.main_arg1) = m ((c.tc : Thread Cert.MemAttnIdeal.nD Cert.MemAttnIdeal.τ).loc Cert.MemAttnIdeal.main_arg1)) →
    ∃ (v0 : (c : Dev Cert.MemAttnIdeal.nD) → Buf (Elt Ideal) ((c.tc : Thread Cert.MemAttnIdeal.nD Cert.MemAttnIdeal.τ).loc Cert.MemAttnIdeal.main_v0)),
      θ_run (Cert.MemAttnIdeal.defs (F := Ideal)) (onTc (τ := Cert.MemAttnIdeal.τ) (Cert.MemAttnIdeal.main (F := Ideal))) ⟨m, fun _ => 0, g⟩ (fun r => ∀ c : Dev Cert.MemAttnIdeal.nD,
          r.2.mem ((c.tc : Thread Cert.MemAttnIdeal.nD Cert.MemAttnIdeal.τ).loc Cert.MemAttnIdeal.main_v0) = v0 c
          ∧ r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
          ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1))
      ∧ θ_run (Cert.MemAttnRefIdeal.defs (F := Ideal)) (onTc (τ := Cert.MemAttnRefIdeal.τ) (Cert.MemAttnRefIdeal.main (F := Ideal))) ⟨m', fun _ => 0, g'⟩ (fun r => ∀ c : Dev Cert.MemAttnRefIdeal.nD,
          r.2.mem ((c.tc : Thread Cert.MemAttnRefIdeal.nD Cert.MemAttnRefIdeal.τ).loc Cert.MemAttnRefIdeal.main_v23) = v0 c
          ∧ r.2.mem ((c.tc : Thread Cert.MemAttnRefIdeal.nD Cert.MemAttnRefIdeal.τ).loc Cert.MemAttnRefIdeal.main_arg0) = m' ((c.tc : Thread Cert.MemAttnRefIdeal.nD Cert.MemAttnRefIdeal.τ).loc Cert.MemAttnRefIdeal.main_arg0)
          ∧ r.2.mem ((c.tc : Thread Cert.MemAttnRefIdeal.nD Cert.MemAttnRefIdeal.τ).loc Cert.MemAttnRefIdeal.main_arg1) = m' ((c.tc : Thread Cert.MemAttnRefIdeal.nD Cert.MemAttnRefIdeal.τ).loc Cert.MemAttnRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v2_0)) (v1 : (c : Dev Cert.OutProjIdeal.nD) → Buf (Elt Ideal) ((c.tc : Thread Cert.OutProjIdeal.nD Cert.OutProjIdeal.τ).loc Cert.OutProjIdeal.main_v2_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2_0) = v0 c
          ∧ r.2.mem ((c.tc : Thread Cert.OutProjIdeal.nD Cert.OutProjIdeal.τ).loc Cert.OutProjIdeal.main_v2_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v4) = v0 c
          ∧ r.2.mem ((c.tc : Thread Cert.OutProjRefIdeal.nD Cert.OutProjRefIdeal.τ).loc Cert.OutProjRefIdeal.main_v19) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_Scores_ScoresIdeal : Prop :=
  True

def algebraic_ScoresIdeal_ScoresRefIdeal [hScoresIdeal : Cert.ScoresIdeal.Facts] [hScoresRefIdeal : Cert.ScoresRefIdeal.Facts] : Prop :=
  ∀ (m : (ℓ : Loc Cert.ScoresIdeal.nD Cert.ScoresIdeal.τ Cert.ScoresIdeal.sig) → Buf (Elt Ideal) ℓ) (g : Dev Cert.ScoresIdeal.nD → PrngReg)
    (m' : (ℓ : Loc Cert.ScoresRefIdeal.nD Cert.ScoresRefIdeal.τ Cert.ScoresRefIdeal.sig) → Buf (Elt Ideal) ℓ) (g' : Dev Cert.ScoresRefIdeal.nD → PrngReg), Pre_ScoresIdeal m →
    (∀ c : Dev Cert.ScoresIdeal.nD,
      m' ((c.tc : Thread Cert.ScoresRefIdeal.nD Cert.ScoresRefIdeal.τ).loc Cert.ScoresRefIdeal.main_arg0) = m ((c.tc : Thread Cert.ScoresIdeal.nD Cert.ScoresIdeal.τ).loc Cert.ScoresIdeal.main_arg0)
      ∧ m' ((c.tc : Thread Cert.ScoresRefIdeal.nD Cert.ScoresRefIdeal.τ).loc Cert.ScoresRefIdeal.main_arg1) = m ((c.tc : Thread Cert.ScoresIdeal.nD Cert.ScoresIdeal.τ).loc Cert.ScoresIdeal.main_arg1)
      ∧ m' ((c.tc : Thread Cert.ScoresRefIdeal.nD Cert.ScoresRefIdeal.τ).loc Cert.ScoresRefIdeal.main_arg2) = m ((c.tc : Thread Cert.ScoresIdeal.nD Cert.ScoresIdeal.τ).loc Cert.ScoresIdeal.main_arg2)) →
    ∃ (v0 : (c : Dev Cert.ScoresIdeal.nD) → Buf (Elt Ideal) ((c.tc : Thread Cert.ScoresIdeal.nD Cert.ScoresIdeal.τ).loc Cert.ScoresIdeal.main_v5)),
      θ_run (Cert.ScoresIdeal.defs (F := Ideal)) (onTc (τ := Cert.ScoresIdeal.τ) (Cert.ScoresIdeal.main (F := Ideal))) ⟨m, fun _ => 0, g⟩ (fun r => ∀ c : Dev Cert.ScoresIdeal.nD,
          r.2.mem ((c.tc : Thread Cert.ScoresIdeal.nD Cert.ScoresIdeal.τ).loc Cert.ScoresIdeal.main_v5) = v0 c
          ∧ r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
          ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
          ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2))
      ∧ θ_run (Cert.ScoresRefIdeal.defs (F := Ideal)) (onTc (τ := Cert.ScoresRefIdeal.τ) (Cert.ScoresRefIdeal.main (F := Ideal))) ⟨m', fun _ => 0, g'⟩ (fun r => ∀ c : Dev Cert.ScoresRefIdeal.nD,
          r.2.mem ((c.tc : Thread Cert.ScoresRefIdeal.nD Cert.ScoresRefIdeal.τ).loc Cert.ScoresRefIdeal.main_v9) = v0 c
          ∧ r.2.mem ((c.tc : Thread Cert.ScoresRefIdeal.nD Cert.ScoresRefIdeal.τ).loc Cert.ScoresRefIdeal.main_arg0) = m' ((c.tc : Thread Cert.ScoresRefIdeal.nD Cert.ScoresRefIdeal.τ).loc Cert.ScoresRefIdeal.main_arg0)
          ∧ r.2.mem ((c.tc : Thread Cert.ScoresRefIdeal.nD Cert.ScoresRefIdeal.τ).loc Cert.ScoresRefIdeal.main_arg1) = m' ((c.tc : Thread Cert.ScoresRefIdeal.nD Cert.ScoresRefIdeal.τ).loc Cert.ScoresRefIdeal.main_arg1)
          ∧ r.2.mem ((c.tc : Thread Cert.ScoresRefIdeal.nD Cert.ScoresRefIdeal.τ).loc Cert.ScoresRefIdeal.main_arg2) = m' ((c.tc : Thread Cert.ScoresRefIdeal.nD Cert.ScoresRefIdeal.τ).loc Cert.ScoresRefIdeal.main_arg2))

def preserves_Attn_AttnIdeal : Prop :=
  IdealRules.named_const.Statement Cert.AttnIdeal.κ "mask" .f32 0xF149F2CA#32 ⊥

def algebraic_AttnIdeal_AttnRefIdeal_pre_finite_attn [hAttnIdeal : Cert.AttnIdeal.Facts] [hAttnRefIdeal : Cert.AttnRefIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attn m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)) →
    ∃ (v0 : (c : Dev Cert.AttnIdeal.nD) → Buf (Elt Ideal) ((c.tc : Thread Cert.AttnIdeal.nD Cert.AttnIdeal.τ).loc Cert.AttnIdeal.main_v5)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v5) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v83) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1))

def preserves_HgrnS_HgrnSIdeal : Prop :=
  True

def algebraic_HgrnSIdeal_HgrnSRefIdeal_pre_finite_lower_s [hHgrnSIdeal : Cert.HgrnSIdeal.Facts] [hHgrnSRefIdeal : Cert.HgrnSRefIdeal.Facts] [hPre_finite_lower_s : Cert.Pre_finite_lower_s.Facts] : Prop :=
  ∀ (m : (ℓ : Loc Cert.HgrnSIdeal.nD Cert.HgrnSIdeal.τ Cert.HgrnSIdeal.sig) → Buf (Elt Ideal) ℓ) (g : Dev Cert.HgrnSIdeal.nD → PrngReg)
    (m' : (ℓ : Loc Cert.HgrnSRefIdeal.nD Cert.HgrnSRefIdeal.τ Cert.HgrnSRefIdeal.sig) → Buf (Elt Ideal) ℓ) (g' : Dev Cert.HgrnSRefIdeal.nD → PrngReg), Pre_HgrnSIdeal_finite_lower_s m →
    (∀ c : Dev Cert.HgrnSIdeal.nD,
      m' ((c.tc : Thread Cert.HgrnSRefIdeal.nD Cert.HgrnSRefIdeal.τ).loc Cert.HgrnSRefIdeal.main_arg0) = m ((c.tc : Thread Cert.HgrnSIdeal.nD Cert.HgrnSIdeal.τ).loc Cert.HgrnSIdeal.main_arg0)
      ∧ m' ((c.tc : Thread Cert.HgrnSRefIdeal.nD Cert.HgrnSRefIdeal.τ).loc Cert.HgrnSRefIdeal.main_arg1) = m ((c.tc : Thread Cert.HgrnSIdeal.nD Cert.HgrnSIdeal.τ).loc Cert.HgrnSIdeal.main_arg1)
      ∧ m' ((c.tc : Thread Cert.HgrnSRefIdeal.nD Cert.HgrnSRefIdeal.τ).loc Cert.HgrnSRefIdeal.main_arg2) = m ((c.tc : Thread Cert.HgrnSIdeal.nD Cert.HgrnSIdeal.τ).loc Cert.HgrnSIdeal.main_arg2)
      ∧ m' ((c.tc : Thread Cert.HgrnSRefIdeal.nD Cert.HgrnSRefIdeal.τ).loc Cert.HgrnSRefIdeal.main_arg3) = m ((c.tc : Thread Cert.HgrnSIdeal.nD Cert.HgrnSIdeal.τ).loc Cert.HgrnSIdeal.main_arg3)) →
    ∃ (v0 : (c : Dev Cert.HgrnSIdeal.nD) → Buf (Elt Ideal) ((c.tc : Thread Cert.HgrnSIdeal.nD Cert.HgrnSIdeal.τ).loc Cert.HgrnSIdeal.main_v1_1)),
      θ_run (Cert.HgrnSIdeal.defs (F := Ideal)) (onTc (τ := Cert.HgrnSIdeal.τ) (Cert.HgrnSIdeal.main (F := Ideal))) ⟨m, fun _ => 0, g⟩ (fun r => ∀ c : Dev Cert.HgrnSIdeal.nD,
          r.2.mem ((c.tc : Thread Cert.HgrnSIdeal.nD Cert.HgrnSIdeal.τ).loc Cert.HgrnSIdeal.main_v1_1) = v0 c
          ∧ r.2.mem ((c.tc : Thread Cert.HgrnSIdeal.nD Cert.HgrnSIdeal.τ).loc Cert.HgrnSIdeal.main_arg0) = m ((c.tc : Thread Cert.HgrnSIdeal.nD Cert.HgrnSIdeal.τ).loc Cert.HgrnSIdeal.main_arg0)
          ∧ r.2.mem ((c.tc : Thread Cert.HgrnSIdeal.nD Cert.HgrnSIdeal.τ).loc Cert.HgrnSIdeal.main_arg1) = m ((c.tc : Thread Cert.HgrnSIdeal.nD Cert.HgrnSIdeal.τ).loc Cert.HgrnSIdeal.main_arg1)
          ∧ r.2.mem ((c.tc : Thread Cert.HgrnSIdeal.nD Cert.HgrnSIdeal.τ).loc Cert.HgrnSIdeal.main_arg2) = m ((c.tc : Thread Cert.HgrnSIdeal.nD Cert.HgrnSIdeal.τ).loc Cert.HgrnSIdeal.main_arg2)
          ∧ r.2.mem ((c.tc : Thread Cert.HgrnSIdeal.nD Cert.HgrnSIdeal.τ).loc Cert.HgrnSIdeal.main_arg3) = m ((c.tc : Thread Cert.HgrnSIdeal.nD Cert.HgrnSIdeal.τ).loc Cert.HgrnSIdeal.main_arg3))
      ∧ θ_run (Cert.HgrnSRefIdeal.defs (F := Ideal)) (onTc (τ := Cert.HgrnSRefIdeal.τ) (Cert.HgrnSRefIdeal.main (F := Ideal))) ⟨m', fun _ => 0, g'⟩ (fun r => ∀ c : Dev Cert.HgrnSRefIdeal.nD,
          r.2.mem ((c.tc : Thread Cert.HgrnSRefIdeal.nD Cert.HgrnSRefIdeal.τ).loc Cert.HgrnSRefIdeal.main_v71) = v0 c
          ∧ r.2.mem ((c.tc : Thread Cert.HgrnSRefIdeal.nD Cert.HgrnSRefIdeal.τ).loc Cert.HgrnSRefIdeal.main_arg0) = m' ((c.tc : Thread Cert.HgrnSRefIdeal.nD Cert.HgrnSRefIdeal.τ).loc Cert.HgrnSRefIdeal.main_arg0)
          ∧ r.2.mem ((c.tc : Thread Cert.HgrnSRefIdeal.nD Cert.HgrnSRefIdeal.τ).loc Cert.HgrnSRefIdeal.main_arg1) = m' ((c.tc : Thread Cert.HgrnSRefIdeal.nD Cert.HgrnSRefIdeal.τ).loc Cert.HgrnSRefIdeal.main_arg1)
          ∧ r.2.mem ((c.tc : Thread Cert.HgrnSRefIdeal.nD Cert.HgrnSRefIdeal.τ).loc Cert.HgrnSRefIdeal.main_arg2) = m' ((c.tc : Thread Cert.HgrnSRefIdeal.nD Cert.HgrnSRefIdeal.τ).loc Cert.HgrnSRefIdeal.main_arg2)
          ∧ r.2.mem ((c.tc : Thread Cert.HgrnSRefIdeal.nD Cert.HgrnSRefIdeal.τ).loc Cert.HgrnSRefIdeal.main_arg3) = m' ((c.tc : Thread Cert.HgrnSRefIdeal.nD Cert.HgrnSRefIdeal.τ).loc Cert.HgrnSRefIdeal.main_arg3))

def preserves_HgrnP_HgrnPIdeal : Prop :=
  True

def algebraic_HgrnPIdeal_HgrnPRefIdeal_pre_finite_lower_p [hHgrnPIdeal : Cert.HgrnPIdeal.Facts] [hHgrnPRefIdeal : Cert.HgrnPRefIdeal.Facts] [hPre_finite_lower_p : Cert.Pre_finite_lower_p.Facts] : Prop :=
  ∀ (m : (ℓ : Loc Cert.HgrnPIdeal.nD Cert.HgrnPIdeal.τ Cert.HgrnPIdeal.sig) → Buf (Elt Ideal) ℓ) (g : Dev Cert.HgrnPIdeal.nD → PrngReg)
    (m' : (ℓ : Loc Cert.HgrnPRefIdeal.nD Cert.HgrnPRefIdeal.τ Cert.HgrnPRefIdeal.sig) → Buf (Elt Ideal) ℓ) (g' : Dev Cert.HgrnPRefIdeal.nD → PrngReg), Pre_HgrnPIdeal_finite_lower_p m →
    (∀ c : Dev Cert.HgrnPIdeal.nD,
      m' ((c.tc : Thread Cert.HgrnPRefIdeal.nD Cert.HgrnPRefIdeal.τ).loc Cert.HgrnPRefIdeal.main_arg0) = m ((c.tc : Thread Cert.HgrnPIdeal.nD Cert.HgrnPIdeal.τ).loc Cert.HgrnPIdeal.main_arg0)
      ∧ m' ((c.tc : Thread Cert.HgrnPRefIdeal.nD Cert.HgrnPRefIdeal.τ).loc Cert.HgrnPRefIdeal.main_arg1) = m ((c.tc : Thread Cert.HgrnPIdeal.nD Cert.HgrnPIdeal.τ).loc Cert.HgrnPIdeal.main_arg1)
      ∧ m' ((c.tc : Thread Cert.HgrnPRefIdeal.nD Cert.HgrnPRefIdeal.τ).loc Cert.HgrnPRefIdeal.main_arg2) = m ((c.tc : Thread Cert.HgrnPIdeal.nD Cert.HgrnPIdeal.τ).loc Cert.HgrnPIdeal.main_arg2)) →
    ∃ (v0 : (c : Dev Cert.HgrnPIdeal.nD) → Buf (Elt Ideal) ((c.tc : Thread Cert.HgrnPIdeal.nD Cert.HgrnPIdeal.τ).loc Cert.HgrnPIdeal.main_v1_1)),
      θ_run (Cert.HgrnPIdeal.defs (F := Ideal)) (onTc (τ := Cert.HgrnPIdeal.τ) (Cert.HgrnPIdeal.main (F := Ideal))) ⟨m, fun _ => 0, g⟩ (fun r => ∀ c : Dev Cert.HgrnPIdeal.nD,
          r.2.mem ((c.tc : Thread Cert.HgrnPIdeal.nD Cert.HgrnPIdeal.τ).loc Cert.HgrnPIdeal.main_v1_1) = v0 c
          ∧ r.2.mem ((c.tc : Thread Cert.HgrnPIdeal.nD Cert.HgrnPIdeal.τ).loc Cert.HgrnPIdeal.main_arg0) = m ((c.tc : Thread Cert.HgrnPIdeal.nD Cert.HgrnPIdeal.τ).loc Cert.HgrnPIdeal.main_arg0)
          ∧ r.2.mem ((c.tc : Thread Cert.HgrnPIdeal.nD Cert.HgrnPIdeal.τ).loc Cert.HgrnPIdeal.main_arg1) = m ((c.tc : Thread Cert.HgrnPIdeal.nD Cert.HgrnPIdeal.τ).loc Cert.HgrnPIdeal.main_arg1)
          ∧ r.2.mem ((c.tc : Thread Cert.HgrnPIdeal.nD Cert.HgrnPIdeal.τ).loc Cert.HgrnPIdeal.main_arg2) = m ((c.tc : Thread Cert.HgrnPIdeal.nD Cert.HgrnPIdeal.τ).loc Cert.HgrnPIdeal.main_arg2))
      ∧ θ_run (Cert.HgrnPRefIdeal.defs (F := Ideal)) (onTc (τ := Cert.HgrnPRefIdeal.τ) (Cert.HgrnPRefIdeal.main (F := Ideal))) ⟨m', fun _ => 0, g'⟩ (fun r => ∀ c : Dev Cert.HgrnPRefIdeal.nD,
          r.2.mem ((c.tc : Thread Cert.HgrnPRefIdeal.nD Cert.HgrnPRefIdeal.τ).loc Cert.HgrnPRefIdeal.main_v62_4) = v0 c
          ∧ r.2.mem ((c.tc : Thread Cert.HgrnPRefIdeal.nD Cert.HgrnPRefIdeal.τ).loc Cert.HgrnPRefIdeal.main_arg0) = m' ((c.tc : Thread Cert.HgrnPRefIdeal.nD Cert.HgrnPRefIdeal.τ).loc Cert.HgrnPRefIdeal.main_arg0)
          ∧ r.2.mem ((c.tc : Thread Cert.HgrnPRefIdeal.nD Cert.HgrnPRefIdeal.τ).loc Cert.HgrnPRefIdeal.main_arg1) = m' ((c.tc : Thread Cert.HgrnPRefIdeal.nD Cert.HgrnPRefIdeal.τ).loc Cert.HgrnPRefIdeal.main_arg1)
          ∧ r.2.mem ((c.tc : Thread Cert.HgrnPRefIdeal.nD Cert.HgrnPRefIdeal.τ).loc Cert.HgrnPRefIdeal.main_arg2) = m' ((c.tc : Thread Cert.HgrnPRefIdeal.nD Cert.HgrnPRefIdeal.τ).loc Cert.HgrnPRefIdeal.main_arg2))

def preserves_Peer_PeerIdeal : Prop :=
  IdealRules.shift_out.By16TwiceStatement Cert.PeerIdeal.S1x256

def algebraic_PeerIdeal_PeerRefIdeal [hPeerIdeal : Cert.PeerIdeal.Facts] [hPeerRefIdeal : Cert.PeerRefIdeal.Facts] : Prop :=
  ∀ (m : (ℓ : Loc Cert.PeerIdeal.nD Cert.PeerIdeal.τ Cert.PeerIdeal.sig) → Buf (Elt Ideal) ℓ) (g : Dev Cert.PeerIdeal.nD → PrngReg)
    (m' : (ℓ : Loc Cert.PeerRefIdeal.nD Cert.PeerRefIdeal.τ Cert.PeerRefIdeal.sig) → Buf (Elt Ideal) ℓ) (g' : Dev Cert.PeerRefIdeal.nD → PrngReg), Pre_PeerIdeal m →
    (∀ c : Dev Cert.PeerIdeal.nD,
      m' ((c.tc : Thread Cert.PeerRefIdeal.nD Cert.PeerRefIdeal.τ).loc Cert.PeerRefIdeal.main_arg0) = m ((c.tc : Thread Cert.PeerIdeal.nD Cert.PeerIdeal.τ).loc Cert.PeerIdeal.main_arg0)
      ∧ m' ((c.tc : Thread Cert.PeerRefIdeal.nD Cert.PeerRefIdeal.τ).loc Cert.PeerRefIdeal.main_arg1) = m ((c.tc : Thread Cert.PeerIdeal.nD Cert.PeerIdeal.τ).loc Cert.PeerIdeal.main_arg1)
      ∧ m' ((c.tc : Thread Cert.PeerRefIdeal.nD Cert.PeerRefIdeal.τ).loc Cert.PeerRefIdeal.main_arg2) = m ((c.tc : Thread Cert.PeerIdeal.nD Cert.PeerIdeal.τ).loc Cert.PeerIdeal.main_arg2)
      ∧ m' ((c.tc : Thread Cert.PeerRefIdeal.nD Cert.PeerRefIdeal.τ).loc Cert.PeerRefIdeal.main_arg3) = m ((c.tc : Thread Cert.PeerIdeal.nD Cert.PeerIdeal.τ).loc Cert.PeerIdeal.main_arg3)
      ∧ m' ((c.tc : Thread Cert.PeerRefIdeal.nD Cert.PeerRefIdeal.τ).loc Cert.PeerRefIdeal.main_arg4) = m ((c.tc : Thread Cert.PeerIdeal.nD Cert.PeerIdeal.τ).loc Cert.PeerIdeal.main_arg4)
      ∧ m' ((c.tc : Thread Cert.PeerRefIdeal.nD Cert.PeerRefIdeal.τ).loc Cert.PeerRefIdeal.main_arg5) = m ((c.tc : Thread Cert.PeerIdeal.nD Cert.PeerIdeal.τ).loc Cert.PeerIdeal.main_arg5)
      ∧ m' ((c.tc : Thread Cert.PeerRefIdeal.nD Cert.PeerRefIdeal.τ).loc Cert.PeerRefIdeal.main_arg6) = m ((c.tc : Thread Cert.PeerIdeal.nD Cert.PeerIdeal.τ).loc Cert.PeerIdeal.main_arg6)
      ∧ m' ((c.tc : Thread Cert.PeerRefIdeal.nD Cert.PeerRefIdeal.τ).loc Cert.PeerRefIdeal.main_arg7) = m ((c.tc : Thread Cert.PeerIdeal.nD Cert.PeerIdeal.τ).loc Cert.PeerIdeal.main_arg7)
      ∧ m' ((c.tc : Thread Cert.PeerRefIdeal.nD Cert.PeerRefIdeal.τ).loc Cert.PeerRefIdeal.main_arg8) = m ((c.tc : Thread Cert.PeerIdeal.nD Cert.PeerIdeal.τ).loc Cert.PeerIdeal.main_arg8)) →
    ∃ (v0 : (c : Dev Cert.PeerIdeal.nD) → Buf (Elt Ideal) ((c.tc : Thread Cert.PeerIdeal.nD Cert.PeerIdeal.τ).loc Cert.PeerIdeal.main_v4)),
      θ_run (Cert.PeerIdeal.defs (F := Ideal)) (onTc (τ := Cert.PeerIdeal.τ) (Cert.PeerIdeal.main (F := Ideal))) ⟨m, fun _ => 0, g⟩ (fun r => ∀ c : Dev Cert.PeerIdeal.nD,
          r.2.mem ((c.tc : Thread Cert.PeerIdeal.nD Cert.PeerIdeal.τ).loc Cert.PeerIdeal.main_v4) = v0 c
          ∧ r.2.mem ((c.tc : Thread Cert.PeerIdeal.nD Cert.PeerIdeal.τ).loc Cert.PeerIdeal.main_arg0) = m ((c.tc : Thread Cert.PeerIdeal.nD Cert.PeerIdeal.τ).loc Cert.PeerIdeal.main_arg0)
          ∧ r.2.mem ((c.tc : Thread Cert.PeerIdeal.nD Cert.PeerIdeal.τ).loc Cert.PeerIdeal.main_arg1) = m ((c.tc : Thread Cert.PeerIdeal.nD Cert.PeerIdeal.τ).loc Cert.PeerIdeal.main_arg1)
          ∧ r.2.mem ((c.tc : Thread Cert.PeerIdeal.nD Cert.PeerIdeal.τ).loc Cert.PeerIdeal.main_arg2) = m ((c.tc : Thread Cert.PeerIdeal.nD Cert.PeerIdeal.τ).loc Cert.PeerIdeal.main_arg2)
          ∧ r.2.mem ((c.tc : Thread Cert.PeerIdeal.nD Cert.PeerIdeal.τ).loc Cert.PeerIdeal.main_arg3) = m ((c.tc : Thread Cert.PeerIdeal.nD Cert.PeerIdeal.τ).loc Cert.PeerIdeal.main_arg3)
          ∧ r.2.mem ((c.tc : Thread Cert.PeerIdeal.nD Cert.PeerIdeal.τ).loc Cert.PeerIdeal.main_arg4) = m ((c.tc : Thread Cert.PeerIdeal.nD Cert.PeerIdeal.τ).loc Cert.PeerIdeal.main_arg4)
          ∧ r.2.mem ((c.tc : Thread Cert.PeerIdeal.nD Cert.PeerIdeal.τ).loc Cert.PeerIdeal.main_arg5) = m ((c.tc : Thread Cert.PeerIdeal.nD Cert.PeerIdeal.τ).loc Cert.PeerIdeal.main_arg5)
          ∧ r.2.mem ((c.tc : Thread Cert.PeerIdeal.nD Cert.PeerIdeal.τ).loc Cert.PeerIdeal.main_arg6) = m ((c.tc : Thread Cert.PeerIdeal.nD Cert.PeerIdeal.τ).loc Cert.PeerIdeal.main_arg6)
          ∧ r.2.mem ((c.tc : Thread Cert.PeerIdeal.nD Cert.PeerIdeal.τ).loc Cert.PeerIdeal.main_arg7) = m ((c.tc : Thread Cert.PeerIdeal.nD Cert.PeerIdeal.τ).loc Cert.PeerIdeal.main_arg7)
          ∧ r.2.mem ((c.tc : Thread Cert.PeerIdeal.nD Cert.PeerIdeal.τ).loc Cert.PeerIdeal.main_arg8) = m ((c.tc : Thread Cert.PeerIdeal.nD Cert.PeerIdeal.τ).loc Cert.PeerIdeal.main_arg8))
      ∧ θ_run (Cert.PeerRefIdeal.defs (F := Ideal)) (onTc (τ := Cert.PeerRefIdeal.τ) (Cert.PeerRefIdeal.main (F := Ideal))) ⟨m', fun _ => 0, g'⟩ (fun r => ∀ c : Dev Cert.PeerRefIdeal.nD,
          r.2.mem ((c.tc : Thread Cert.PeerRefIdeal.nD Cert.PeerRefIdeal.τ).loc Cert.PeerRefIdeal.main_v41) = v0 c
          ∧ r.2.mem ((c.tc : Thread Cert.PeerRefIdeal.nD Cert.PeerRefIdeal.τ).loc Cert.PeerRefIdeal.main_arg0) = m' ((c.tc : Thread Cert.PeerRefIdeal.nD Cert.PeerRefIdeal.τ).loc Cert.PeerRefIdeal.main_arg0)
          ∧ r.2.mem ((c.tc : Thread Cert.PeerRefIdeal.nD Cert.PeerRefIdeal.τ).loc Cert.PeerRefIdeal.main_arg1) = m' ((c.tc : Thread Cert.PeerRefIdeal.nD Cert.PeerRefIdeal.τ).loc Cert.PeerRefIdeal.main_arg1)
          ∧ r.2.mem ((c.tc : Thread Cert.PeerRefIdeal.nD Cert.PeerRefIdeal.τ).loc Cert.PeerRefIdeal.main_arg2) = m' ((c.tc : Thread Cert.PeerRefIdeal.nD Cert.PeerRefIdeal.τ).loc Cert.PeerRefIdeal.main_arg2)
          ∧ r.2.mem ((c.tc : Thread Cert.PeerRefIdeal.nD Cert.PeerRefIdeal.τ).loc Cert.PeerRefIdeal.main_arg3) = m' ((c.tc : Thread Cert.PeerRefIdeal.nD Cert.PeerRefIdeal.τ).loc Cert.PeerRefIdeal.main_arg3)
          ∧ r.2.mem ((c.tc : Thread Cert.PeerRefIdeal.nD Cert.PeerRefIdeal.τ).loc Cert.PeerRefIdeal.main_arg4) = m' ((c.tc : Thread Cert.PeerRefIdeal.nD Cert.PeerRefIdeal.τ).loc Cert.PeerRefIdeal.main_arg4)
          ∧ r.2.mem ((c.tc : Thread Cert.PeerRefIdeal.nD Cert.PeerRefIdeal.τ).loc Cert.PeerRefIdeal.main_arg5) = m' ((c.tc : Thread Cert.PeerRefIdeal.nD Cert.PeerRefIdeal.τ).loc Cert.PeerRefIdeal.main_arg5)
          ∧ r.2.mem ((c.tc : Thread Cert.PeerRefIdeal.nD Cert.PeerRefIdeal.τ).loc Cert.PeerRefIdeal.main_arg6) = m' ((c.tc : Thread Cert.PeerRefIdeal.nD Cert.PeerRefIdeal.τ).loc Cert.PeerRefIdeal.main_arg6)
          ∧ r.2.mem ((c.tc : Thread Cert.PeerRefIdeal.nD Cert.PeerRefIdeal.τ).loc Cert.PeerRefIdeal.main_arg7) = m' ((c.tc : Thread Cert.PeerRefIdeal.nD Cert.PeerRefIdeal.τ).loc Cert.PeerRefIdeal.main_arg7)
          ∧ r.2.mem ((c.tc : Thread Cert.PeerRefIdeal.nD Cert.PeerRefIdeal.τ).loc Cert.PeerRefIdeal.main_arg8) = m' ((c.tc : Thread Cert.PeerRefIdeal.nD Cert.PeerRefIdeal.τ).loc Cert.PeerRefIdeal.main_arg8))

def preserves_PeerS_PeerSIdeal : Prop :=
  IdealRules.shift_out.By16TwiceStatement Cert.PeerSIdeal.S1x256

def algebraic_PeerSIdeal_PeerSRefIdeal [hPeerSIdeal : Cert.PeerSIdeal.Facts] [hPeerSRefIdeal : Cert.PeerSRefIdeal.Facts] : Prop :=
  ∀ (m : (ℓ : Loc Cert.PeerSIdeal.nD Cert.PeerSIdeal.τ Cert.PeerSIdeal.sig) → Buf (Elt Ideal) ℓ) (g : Dev Cert.PeerSIdeal.nD → PrngReg)
    (m' : (ℓ : Loc Cert.PeerSRefIdeal.nD Cert.PeerSRefIdeal.τ Cert.PeerSRefIdeal.sig) → Buf (Elt Ideal) ℓ) (g' : Dev Cert.PeerSRefIdeal.nD → PrngReg), Pre_PeerSIdeal m →
    (∀ c : Dev Cert.PeerSIdeal.nD,
      m' ((c.tc : Thread Cert.PeerSRefIdeal.nD Cert.PeerSRefIdeal.τ).loc Cert.PeerSRefIdeal.main_arg0) = m ((c.tc : Thread Cert.PeerSIdeal.nD Cert.PeerSIdeal.τ).loc Cert.PeerSIdeal.main_arg0)
      ∧ m' ((c.tc : Thread Cert.PeerSRefIdeal.nD Cert.PeerSRefIdeal.τ).loc Cert.PeerSRefIdeal.main_arg1) = m ((c.tc : Thread Cert.PeerSIdeal.nD Cert.PeerSIdeal.τ).loc Cert.PeerSIdeal.main_arg1)
      ∧ m' ((c.tc : Thread Cert.PeerSRefIdeal.nD Cert.PeerSRefIdeal.τ).loc Cert.PeerSRefIdeal.main_arg2) = m ((c.tc : Thread Cert.PeerSIdeal.nD Cert.PeerSIdeal.τ).loc Cert.PeerSIdeal.main_arg2)
      ∧ m' ((c.tc : Thread Cert.PeerSRefIdeal.nD Cert.PeerSRefIdeal.τ).loc Cert.PeerSRefIdeal.main_arg3) = m ((c.tc : Thread Cert.PeerSIdeal.nD Cert.PeerSIdeal.τ).loc Cert.PeerSIdeal.main_arg3)
      ∧ m' ((c.tc : Thread Cert.PeerSRefIdeal.nD Cert.PeerSRefIdeal.τ).loc Cert.PeerSRefIdeal.main_arg4) = m ((c.tc : Thread Cert.PeerSIdeal.nD Cert.PeerSIdeal.τ).loc Cert.PeerSIdeal.main_arg4)
      ∧ m' ((c.tc : Thread Cert.PeerSRefIdeal.nD Cert.PeerSRefIdeal.τ).loc Cert.PeerSRefIdeal.main_arg5) = m ((c.tc : Thread Cert.PeerSIdeal.nD Cert.PeerSIdeal.τ).loc Cert.PeerSIdeal.main_arg5)
      ∧ m' ((c.tc : Thread Cert.PeerSRefIdeal.nD Cert.PeerSRefIdeal.τ).loc Cert.PeerSRefIdeal.main_arg6) = m ((c.tc : Thread Cert.PeerSIdeal.nD Cert.PeerSIdeal.τ).loc Cert.PeerSIdeal.main_arg6)
      ∧ m' ((c.tc : Thread Cert.PeerSRefIdeal.nD Cert.PeerSRefIdeal.τ).loc Cert.PeerSRefIdeal.main_arg7) = m ((c.tc : Thread Cert.PeerSIdeal.nD Cert.PeerSIdeal.τ).loc Cert.PeerSIdeal.main_arg7)
      ∧ m' ((c.tc : Thread Cert.PeerSRefIdeal.nD Cert.PeerSRefIdeal.τ).loc Cert.PeerSRefIdeal.main_arg8) = m ((c.tc : Thread Cert.PeerSIdeal.nD Cert.PeerSIdeal.τ).loc Cert.PeerSIdeal.main_arg8)) →
    ∃ (v0 : (c : Dev Cert.PeerSIdeal.nD) → Buf (Elt Ideal) ((c.tc : Thread Cert.PeerSIdeal.nD Cert.PeerSIdeal.τ).loc Cert.PeerSIdeal.main_v4)),
      θ_run (Cert.PeerSIdeal.defs (F := Ideal)) (onTc (τ := Cert.PeerSIdeal.τ) (Cert.PeerSIdeal.main (F := Ideal))) ⟨m, fun _ => 0, g⟩ (fun r => ∀ c : Dev Cert.PeerSIdeal.nD,
          r.2.mem ((c.tc : Thread Cert.PeerSIdeal.nD Cert.PeerSIdeal.τ).loc Cert.PeerSIdeal.main_v4) = v0 c
          ∧ r.2.mem ((c.tc : Thread Cert.PeerSIdeal.nD Cert.PeerSIdeal.τ).loc Cert.PeerSIdeal.main_arg0) = m ((c.tc : Thread Cert.PeerSIdeal.nD Cert.PeerSIdeal.τ).loc Cert.PeerSIdeal.main_arg0)
          ∧ r.2.mem ((c.tc : Thread Cert.PeerSIdeal.nD Cert.PeerSIdeal.τ).loc Cert.PeerSIdeal.main_arg1) = m ((c.tc : Thread Cert.PeerSIdeal.nD Cert.PeerSIdeal.τ).loc Cert.PeerSIdeal.main_arg1)
          ∧ r.2.mem ((c.tc : Thread Cert.PeerSIdeal.nD Cert.PeerSIdeal.τ).loc Cert.PeerSIdeal.main_arg2) = m ((c.tc : Thread Cert.PeerSIdeal.nD Cert.PeerSIdeal.τ).loc Cert.PeerSIdeal.main_arg2)
          ∧ r.2.mem ((c.tc : Thread Cert.PeerSIdeal.nD Cert.PeerSIdeal.τ).loc Cert.PeerSIdeal.main_arg3) = m ((c.tc : Thread Cert.PeerSIdeal.nD Cert.PeerSIdeal.τ).loc Cert.PeerSIdeal.main_arg3)
          ∧ r.2.mem ((c.tc : Thread Cert.PeerSIdeal.nD Cert.PeerSIdeal.τ).loc Cert.PeerSIdeal.main_arg4) = m ((c.tc : Thread Cert.PeerSIdeal.nD Cert.PeerSIdeal.τ).loc Cert.PeerSIdeal.main_arg4)
          ∧ r.2.mem ((c.tc : Thread Cert.PeerSIdeal.nD Cert.PeerSIdeal.τ).loc Cert.PeerSIdeal.main_arg5) = m ((c.tc : Thread Cert.PeerSIdeal.nD Cert.PeerSIdeal.τ).loc Cert.PeerSIdeal.main_arg5)
          ∧ r.2.mem ((c.tc : Thread Cert.PeerSIdeal.nD Cert.PeerSIdeal.τ).loc Cert.PeerSIdeal.main_arg6) = m ((c.tc : Thread Cert.PeerSIdeal.nD Cert.PeerSIdeal.τ).loc Cert.PeerSIdeal.main_arg6)
          ∧ r.2.mem ((c.tc : Thread Cert.PeerSIdeal.nD Cert.PeerSIdeal.τ).loc Cert.PeerSIdeal.main_arg7) = m ((c.tc : Thread Cert.PeerSIdeal.nD Cert.PeerSIdeal.τ).loc Cert.PeerSIdeal.main_arg7)
          ∧ r.2.mem ((c.tc : Thread Cert.PeerSIdeal.nD Cert.PeerSIdeal.τ).loc Cert.PeerSIdeal.main_arg8) = m ((c.tc : Thread Cert.PeerSIdeal.nD Cert.PeerSIdeal.τ).loc Cert.PeerSIdeal.main_arg8))
      ∧ θ_run (Cert.PeerSRefIdeal.defs (F := Ideal)) (onTc (τ := Cert.PeerSRefIdeal.τ) (Cert.PeerSRefIdeal.main (F := Ideal))) ⟨m', fun _ => 0, g'⟩ (fun r => ∀ c : Dev Cert.PeerSRefIdeal.nD,
          r.2.mem ((c.tc : Thread Cert.PeerSRefIdeal.nD Cert.PeerSRefIdeal.τ).loc Cert.PeerSRefIdeal.main_v41) = v0 c
          ∧ r.2.mem ((c.tc : Thread Cert.PeerSRefIdeal.nD Cert.PeerSRefIdeal.τ).loc Cert.PeerSRefIdeal.main_arg0) = m' ((c.tc : Thread Cert.PeerSRefIdeal.nD Cert.PeerSRefIdeal.τ).loc Cert.PeerSRefIdeal.main_arg0)
          ∧ r.2.mem ((c.tc : Thread Cert.PeerSRefIdeal.nD Cert.PeerSRefIdeal.τ).loc Cert.PeerSRefIdeal.main_arg1) = m' ((c.tc : Thread Cert.PeerSRefIdeal.nD Cert.PeerSRefIdeal.τ).loc Cert.PeerSRefIdeal.main_arg1)
          ∧ r.2.mem ((c.tc : Thread Cert.PeerSRefIdeal.nD Cert.PeerSRefIdeal.τ).loc Cert.PeerSRefIdeal.main_arg2) = m' ((c.tc : Thread Cert.PeerSRefIdeal.nD Cert.PeerSRefIdeal.τ).loc Cert.PeerSRefIdeal.main_arg2)
          ∧ r.2.mem ((c.tc : Thread Cert.PeerSRefIdeal.nD Cert.PeerSRefIdeal.τ).loc Cert.PeerSRefIdeal.main_arg3) = m' ((c.tc : Thread Cert.PeerSRefIdeal.nD Cert.PeerSRefIdeal.τ).loc Cert.PeerSRefIdeal.main_arg3)
          ∧ r.2.mem ((c.tc : Thread Cert.PeerSRefIdeal.nD Cert.PeerSRefIdeal.τ).loc Cert.PeerSRefIdeal.main_arg4) = m' ((c.tc : Thread Cert.PeerSRefIdeal.nD Cert.PeerSRefIdeal.τ).loc Cert.PeerSRefIdeal.main_arg4)
          ∧ r.2.mem ((c.tc : Thread Cert.PeerSRefIdeal.nD Cert.PeerSRefIdeal.τ).loc Cert.PeerSRefIdeal.main_arg5) = m' ((c.tc : Thread Cert.PeerSRefIdeal.nD Cert.PeerSRefIdeal.τ).loc Cert.PeerSRefIdeal.main_arg5)
          ∧ r.2.mem ((c.tc : Thread Cert.PeerSRefIdeal.nD Cert.PeerSRefIdeal.τ).loc Cert.PeerSRefIdeal.main_arg6) = m' ((c.tc : Thread Cert.PeerSRefIdeal.nD Cert.PeerSRefIdeal.τ).loc Cert.PeerSRefIdeal.main_arg6)
          ∧ r.2.mem ((c.tc : Thread Cert.PeerSRefIdeal.nD Cert.PeerSRefIdeal.τ).loc Cert.PeerSRefIdeal.main_arg7) = m' ((c.tc : Thread Cert.PeerSRefIdeal.nD Cert.PeerSRefIdeal.τ).loc Cert.PeerSRefIdeal.main_arg7)
          ∧ r.2.mem ((c.tc : Thread Cert.PeerSRefIdeal.nD Cert.PeerSRefIdeal.τ).loc Cert.PeerSRefIdeal.main_arg8) = m' ((c.tc : Thread Cert.PeerSRefIdeal.nD Cert.PeerSRefIdeal.τ).loc Cert.PeerSRefIdeal.main_arg8))

def Claim : Prop :=
  ∃ (hProjA : Cert.ProjA.Facts) (hProjAIdeal : Cert.ProjAIdeal.Facts) (hProjARefIdeal : Cert.ProjARefIdeal.Facts) (hProjAS : Cert.ProjAS.Facts) (hProjASIdeal : Cert.ProjASIdeal.Facts) (hProjASRefIdeal : Cert.ProjASRefIdeal.Facts) (hProjB : Cert.ProjB.Facts) (hProjBIdeal : Cert.ProjBIdeal.Facts) (hProjBRefIdeal : Cert.ProjBRefIdeal.Facts) (hMemKv0 : Cert.MemKv0.Facts) (hMemKv0Ideal : Cert.MemKv0Ideal.Facts) (hMemKv0RefIdeal : Cert.MemKv0RefIdeal.Facts) (hMemKv1 : Cert.MemKv1.Facts) (hMemKv1Ideal : Cert.MemKv1Ideal.Facts) (hMemKv1RefIdeal : Cert.MemKv1RefIdeal.Facts) (hMemAttn : Cert.MemAttn.Facts) (hMemAttnIdeal : Cert.MemAttnIdeal.Facts) (hMemAttnRefIdeal : Cert.MemAttnRefIdeal.Facts) (hOutProj : Cert.OutProj.Facts) (hOutProjIdeal : Cert.OutProjIdeal.Facts) (hOutProjRefIdeal : Cert.OutProjRefIdeal.Facts) (hScores : Cert.Scores.Facts) (hScoresIdeal : Cert.ScoresIdeal.Facts) (hScoresRefIdeal : Cert.ScoresRefIdeal.Facts) (hAttn : Cert.Attn.Facts) (hAttnIdeal : Cert.AttnIdeal.Facts) (hAttnRefIdeal : Cert.AttnRefIdeal.Facts) (hHgrnS : Cert.HgrnS.Facts) (hHgrnSIdeal : Cert.HgrnSIdeal.Facts) (hHgrnSRefIdeal : Cert.HgrnSRefIdeal.Facts) (hHgrnP : Cert.HgrnP.Facts) (hHgrnPIdeal : Cert.HgrnPIdeal.Facts) (hHgrnPRefIdeal : Cert.HgrnPRefIdeal.Facts) (hPeer : Cert.Peer.Facts) (hPeerIdeal : Cert.PeerIdeal.Facts) (hPeerRefIdeal : Cert.PeerRefIdeal.Facts) (hPeerS : Cert.PeerS.Facts) (hPeerSIdeal : Cert.PeerSIdeal.Facts) (hPeerSRefIdeal : Cert.PeerSRefIdeal.Facts) (hPre_finite_attn : Cert.Pre_finite_attn.Facts) (hPre_finite_lower_s : Cert.Pre_finite_lower_s.Facts) (hPre_finite_lower_p : Cert.Pre_finite_lower_p.Facts),
    quiescent_ProjA (hProjA := hProjA)
    ∧ quiescent_ProjAIdeal (hProjAIdeal := hProjAIdeal)
    ∧ quiescent_ProjARefIdeal (hProjARefIdeal := hProjARefIdeal)
    ∧ quiescent_ProjAS (hProjAS := hProjAS)
    ∧ quiescent_ProjASIdeal (hProjASIdeal := hProjASIdeal)
    ∧ quiescent_ProjASRefIdeal (hProjASRefIdeal := hProjASRefIdeal)
    ∧ quiescent_ProjB (hProjB := hProjB)
    ∧ quiescent_ProjBIdeal (hProjBIdeal := hProjBIdeal)
    ∧ quiescent_ProjBRefIdeal (hProjBRefIdeal := hProjBRefIdeal)
    ∧ quiescent_MemKv0 (hMemKv0 := hMemKv0)
    ∧ quiescent_MemKv0Ideal (hMemKv0Ideal := hMemKv0Ideal)
    ∧ quiescent_MemKv0RefIdeal (hMemKv0RefIdeal := hMemKv0RefIdeal)
    ∧ quiescent_MemKv1 (hMemKv1 := hMemKv1)
    ∧ quiescent_MemKv1Ideal (hMemKv1Ideal := hMemKv1Ideal)
    ∧ quiescent_MemKv1RefIdeal (hMemKv1RefIdeal := hMemKv1RefIdeal)
    ∧ quiescent_MemAttn (hMemAttn := hMemAttn)
    ∧ quiescent_MemAttnIdeal (hMemAttnIdeal := hMemAttnIdeal)
    ∧ quiescent_MemAttnRefIdeal (hMemAttnRefIdeal := hMemAttnRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Scores (hScores := hScores)
    ∧ quiescent_ScoresIdeal (hScoresIdeal := hScoresIdeal)
    ∧ quiescent_ScoresRefIdeal (hScoresRefIdeal := hScoresRefIdeal)
    ∧ quiescent_Attn (hAttn := hAttn)
    ∧ quiescent_AttnIdeal (hAttnIdeal := hAttnIdeal)
    ∧ quiescent_AttnIdeal_pre_finite_attn (hAttnIdeal := hAttnIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ quiescent_HgrnS (hHgrnS := hHgrnS)
    ∧ quiescent_HgrnSIdeal (hHgrnSIdeal := hHgrnSIdeal)
    ∧ quiescent_HgrnSIdeal_pre_finite_lower_s (hHgrnSIdeal := hHgrnSIdeal) (hPre_finite_lower_s := hPre_finite_lower_s)
    ∧ quiescent_HgrnSRefIdeal (hHgrnSRefIdeal := hHgrnSRefIdeal)
    ∧ quiescent_HgrnSRefIdeal_pre_finite_lower_s (hHgrnSRefIdeal := hHgrnSRefIdeal) (hPre_finite_lower_s := hPre_finite_lower_s)
    ∧ quiescent_HgrnP (hHgrnP := hHgrnP)
    ∧ quiescent_HgrnPIdeal (hHgrnPIdeal := hHgrnPIdeal)
    ∧ quiescent_HgrnPIdeal_pre_finite_lower_p (hHgrnPIdeal := hHgrnPIdeal) (hPre_finite_lower_p := hPre_finite_lower_p)
    ∧ quiescent_HgrnPRefIdeal (hHgrnPRefIdeal := hHgrnPRefIdeal)
    ∧ quiescent_HgrnPRefIdeal_pre_finite_lower_p (hHgrnPRefIdeal := hHgrnPRefIdeal) (hPre_finite_lower_p := hPre_finite_lower_p)
    ∧ quiescent_Peer (hPeer := hPeer)
    ∧ quiescent_PeerIdeal (hPeerIdeal := hPeerIdeal)
    ∧ quiescent_PeerRefIdeal (hPeerRefIdeal := hPeerRefIdeal)
    ∧ quiescent_PeerS (hPeerS := hPeerS)
    ∧ quiescent_PeerSIdeal (hPeerSIdeal := hPeerSIdeal)
    ∧ quiescent_PeerSRefIdeal (hPeerSRefIdeal := hPeerSRefIdeal)
    ∧ preserves_ProjA_ProjAIdeal
    ∧ algebraic_ProjAIdeal_ProjARefIdeal (hProjAIdeal := hProjAIdeal) (hProjARefIdeal := hProjARefIdeal)
    ∧ preserves_ProjAS_ProjASIdeal
    ∧ algebraic_ProjASIdeal_ProjASRefIdeal (hProjASIdeal := hProjASIdeal) (hProjASRefIdeal := hProjASRefIdeal)
    ∧ preserves_ProjB_ProjBIdeal
    ∧ algebraic_ProjBIdeal_ProjBRefIdeal (hProjBIdeal := hProjBIdeal) (hProjBRefIdeal := hProjBRefIdeal)
    ∧ preserves_MemKv0_MemKv0Ideal
    ∧ algebraic_MemKv0Ideal_MemKv0RefIdeal (hMemKv0Ideal := hMemKv0Ideal) (hMemKv0RefIdeal := hMemKv0RefIdeal)
    ∧ preserves_MemKv1_MemKv1Ideal
    ∧ algebraic_MemKv1Ideal_MemKv1RefIdeal (hMemKv1Ideal := hMemKv1Ideal) (hMemKv1RefIdeal := hMemKv1RefIdeal)
    ∧ preserves_MemAttn_MemAttnIdeal
    ∧ algebraic_MemAttnIdeal_MemAttnRefIdeal (hMemAttnIdeal := hMemAttnIdeal) (hMemAttnRefIdeal := hMemAttnRefIdeal)
    ∧ preserves_OutProj_OutProjIdeal
    ∧ algebraic_OutProjIdeal_OutProjRefIdeal (hOutProjIdeal := hOutProjIdeal) (hOutProjRefIdeal := hOutProjRefIdeal)
    ∧ preserves_Scores_ScoresIdeal
    ∧ algebraic_ScoresIdeal_ScoresRefIdeal (hScoresIdeal := hScoresIdeal) (hScoresRefIdeal := hScoresRefIdeal)
    ∧ preserves_Attn_AttnIdeal
    ∧ algebraic_AttnIdeal_AttnRefIdeal_pre_finite_attn (hAttnIdeal := hAttnIdeal) (hAttnRefIdeal := hAttnRefIdeal) (hPre_finite_attn := hPre_finite_attn)
    ∧ preserves_HgrnS_HgrnSIdeal
    ∧ algebraic_HgrnSIdeal_HgrnSRefIdeal_pre_finite_lower_s (hHgrnSIdeal := hHgrnSIdeal) (hHgrnSRefIdeal := hHgrnSRefIdeal) (hPre_finite_lower_s := hPre_finite_lower_s)
    ∧ preserves_HgrnP_HgrnPIdeal
    ∧ algebraic_HgrnPIdeal_HgrnPRefIdeal_pre_finite_lower_p (hHgrnPIdeal := hHgrnPIdeal) (hHgrnPRefIdeal := hHgrnPRefIdeal) (hPre_finite_lower_p := hPre_finite_lower_p)
    ∧ preserves_Peer_PeerIdeal
    ∧ algebraic_PeerIdeal_PeerRefIdeal (hPeerIdeal := hPeerIdeal) (hPeerRefIdeal := hPeerRefIdeal)
    ∧ preserves_PeerS_PeerSIdeal
    ∧ algebraic_PeerSIdeal_PeerSRefIdeal (hPeerSIdeal := hPeerSIdeal) (hPeerSRefIdeal := hPeerSRefIdeal)
-- ==== Pre_finite_attn.lean ====
abbrev S4x2048x5120 : Shape := ⟨3, ![4, 2048, 5120]⟩
abbrev S12x64x576 : Shape := ⟨3, ![12, 64, 576]⟩
abbrev S_ : Shape := ⟨0, ![]⟩

class Facts : Prop where
  bcast_S_S4x2048x5120 : S_.BroadcastsInDim S4x2048x5120 (![] : Fin 0 → Fin S4x2048x5120.rank)
  reducesTo_S4x2048x5120_S_d0_1_2 : S4x2048x5120.ReducesTo [0, 1, 2] S_
  h_S_ : 0 < S_.numel
  bcast_S_S12x64x576 : S_.BroadcastsInDim S12x64x576 (![] : Fin 0 → Fin S12x64x576.rank)
  reducesTo_S12x64x576_S_d0_1_2 : S12x64x576.ReducesTo [0, 1, 2] S_

variable [Facts]

def fn {F : FTy → Type} [FloatOps F] (main_arg0 : FVec F S4x2048x5120 .f32) (main_arg1 : FVec F S12x64x576 .f32) : IVec S_ 1 :=
  let main_v0 : FVec F S4x2048x5120 .f32 := Host.absf main_arg0
  let main_cst : FVec F S_ .f32 := constant S_ .f32 0x7F800000#32
  let main_v1 : FVec F S4x2048x5120 .f32 := broadcastInDim S4x2048x5120 ![] bcast_S_S4x2048x5120 main_cst
  let main_v2 : IVec S4x2048x5120 1 := cmpf .olt main_v0 main_v1
  let main_c : IVec S_ 1 := constantI S_ 1 1#1
  let main_v3 : IVec S_ 1 := (fun x v => Host.reduce IntOp.andi x v reducesTo_S4x2048x5120_S_d0_1_2 h_S_) main_v2 main_c
  let main_v4 : FVec F S12x64x576 .f32 := Host.absf main_arg1
  let main_cst_0 : FVec F S_ .f32 := constant S_ .f32 0x7F800000#32
  let main_v5 : FVec F S12x64x576 .f32 := broadcastInDim S12x64x576 ![] bcast_S_S12x64x576 main_cst_0
  let main_v6 : IVec S12x64x576 1 := cmpf .olt main_v4 main_v5
  let main_c_1 : IVec S_ 1 := constantI S_ 1 1#1
  let main_v7 : IVec S_ 1 := (fun x v => Host.reduce IntOp.andi x v reducesTo_S12x64x576_S_d0_1_2 h_S_) main_v6 main_c_1
  let main_v8 : IVec S_ 1 := andi main_v3 main_v7
  main_v8
-- ==== Pre_finite_lower_p.lean ====
abbrev S4x2048x6656 : Shape := ⟨3, ![4, 2048, 6656]⟩
abbrev S2x1536 : Shape := ⟨2, ![2, 1536]⟩
abbrev S1536 : Shape := ⟨1, ![1536]⟩
abbrev S_ : Shape := ⟨0, ![]⟩

class Facts : Prop where
  bcast_S_S2x1536 : S_.BroadcastsInDim S2x1536 (![] : Fin 0 → Fin S2x1536.rank)
  reducesTo_S2x1536_S_d0_1 : S2x1536.ReducesTo [0, 1] S_
  h_S_ : 0 < S_.numel

variable [Facts]

def fn {F : FTy → Type} [FloatOps F] (main_arg0 : FVec F S4x2048x6656 .f32) (main_arg1 : FVec F S2x1536 .f32) (main_arg2 : FVec F S1536 .f32) : IVec S_ 1 :=
  let main_v0 : FVec F S2x1536 .f32 := Host.absf main_arg1
  let main_cst : FVec F S_ .f32 := constant S_ .f32 0x7F800000#32
  let main_v1 : FVec F S2x1536 .f32 := broadcastInDim S2x1536 ![] bcast_S_S2x1536 main_cst
  let main_v2 : IVec S2x1536 1 := cmpf .olt main_v0 main_v1
  let main_c : IVec S_ 1 := constantI S_ 1 1#1
  let main_v3 : IVec S_ 1 := (fun x v => Host.reduce IntOp.andi x v reducesTo_S2x1536_S_d0_1 h_S_) main_v2 main_c
  main_v3
-- ==== Pre_finite_lower_s.lean ====
abbrev S32x32x6656 : Shape := ⟨3, ![32, 32, 6656]⟩
abbrev S2x1536 : Shape := ⟨2, ![2, 1536]⟩
abbrev S1536 : Shape := ⟨1, ![1536]⟩
abbrev S1x32x12x128x128 : Shape := ⟨5, ![1, 32, 12, 128, 128]⟩
abbrev S_ : Shape := ⟨0, ![]⟩

class Facts : Prop where
  bcast_S_S2x1536 : S_.BroadcastsInDim S2x1536 (![] : Fin 0 → Fin S2x1536.rank)
  reducesTo_S2x1536_S_d0_1 : S2x1536.ReducesTo [0, 1] S_
  h_S_ : 0 < S_.numel

variable [Facts]

def fn {F : FTy → Type} [FloatOps F] (main_arg0 : FVec F S32x32x6656 .f32) (main_arg1 : FVec F S2x1536 .f32) (main_arg2 : FVec F S1536 .f32) (main_arg3 : FVec F S1x32x12x128x128 .f32) : IVec S_ 1 :=
  let main_v0 : FVec F S2x1536 .f32 := Host.absf main_arg1
  let main_cst : FVec F S_ .f32 := constant S_ .f32 0x7F800000#32
  let main_v1 : FVec F S2x1536 .f32 := broadcastInDim S2x1536 ![] bcast_S_S2x1536 main_cst
  let main_v2 : IVec S2x1536 1 := cmpf .olt main_v0 main_v1
  let main_c : IVec S_ 1 := constantI S_ 1 1#1
  let main_v3 : IVec S_ 1 := (fun x v => Host.reduce IntOp.andi x v reducesTo_S2x1536_S_d0_1 h_S_) main_v2 main_c
  main_v3
-- ==== ProjA.lean ====
abbrev S4x2048x2048 : Shape := ⟨3, ![4, 2048, 2048]⟩
abbrev S2048 : Shape := ⟨1, ![2048]⟩
abbrev S1x2048x5120 : Shape := ⟨3, ![1, 2048, 5120]⟩
abbrev S8192x2048 : Shape := ⟨2, ![8192, 2048]⟩
abbrev S1x2048 : Shape := ⟨2, ![1, 2048]⟩
abbrev S8192x5120 : Shape := ⟨2, ![8192, 5120]⟩
abbrev S1024x2048 : Shape := ⟨2, ![1024, 2048]⟩
abbrev S1x2048x1280 : Shape := ⟨3, ![1, 2048, 1280]⟩
abbrev S1024x1280 : Shape := ⟨2, ![1024, 1280]⟩
abbrev S1024 : Shape := ⟨1, ![1024]⟩
abbrev S1024x1 : Shape := ⟨2, ![1024, 1]⟩
abbrev S2048x1280 : Shape := ⟨2, ![2048, 1280]⟩

abbrev nBuf : Space → Nat
  | .hbm => 7
  | .vmem => 8
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S1x2048x5120, .f32⟩
  | .hbm, ⟨3, _⟩ => ⟨S8192x2048, .f32⟩
  | .hbm, ⟨4, _⟩ => ⟨S1x2048x5120, .bf16⟩
  | .hbm, ⟨5, _⟩ => ⟨S1x2048, .f32⟩
  | .hbm, ⟨6, _⟩ => ⟨S8192x5120, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1280, .bf16⟩
  | .local _ .vmem, ⟨4, _⟩ => ⟨S1x2048x1280, .bf16⟩
  | .local _ .vmem, ⟨5, _⟩ => ⟨S1024x1280, .f32⟩
  | .local _ .vmem, ⟨6, _⟩ => ⟨S1024x1280, .f32⟩
  | .local _ .vmem, ⟨7, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjAIdeal.lean ====
abbrev S4x2048x2048 : Shape := ⟨3, ![4, 2048, 2048]⟩
abbrev S2048 : Shape := ⟨1, ![2048]⟩
abbrev S1x2048x5120 : Shape := ⟨3, ![1, 2048, 5120]⟩
abbrev S8192x2048 : Shape := ⟨2, ![8192, 2048]⟩
abbrev S1x2048 : Shape := ⟨2, ![1, 2048]⟩
abbrev S8192x5120 : Shape := ⟨2, ![8192, 5120]⟩
abbrev S1024x2048 : Shape := ⟨2, ![1024, 2048]⟩
abbrev S1x2048x1280 : Shape := ⟨3, ![1, 2048, 1280]⟩
abbrev S1024x1280 : Shape := ⟨2, ![1024, 1280]⟩
abbrev S1024 : Shape := ⟨1, ![1024]⟩
abbrev S1024x1 : Shape := ⟨2, ![1024, 1]⟩
abbrev S2048x1280 : Shape := ⟨2, ![2048, 1280]⟩

abbrev nBuf : Space → Nat
  | .hbm => 7
  | .vmem => 8
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S1x2048x5120, .f32⟩
  | .hbm, ⟨3, _⟩ => ⟨S8192x2048, .f32⟩
  | .hbm, ⟨4, _⟩ => ⟨S1x2048x5120, .bf16⟩
  | .hbm, ⟨5, _⟩ => ⟨S1x2048, .f32⟩
  | .hbm, ⟨6, _⟩ => ⟨S8192x5120, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1280, .bf16⟩
  | .local _ .vmem, ⟨4, _⟩ => ⟨S1x2048x1280, .bf16⟩
  | .local _ .vmem, ⟨5, _⟩ => ⟨S1024x1280, .f32⟩
  | .local _ .vmem, ⟨6, _⟩ => ⟨S1024x1280, .f32⟩
  | .local _ .vmem, ⟨7, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjARefIdeal.lean ====
abbrev S4x2048x2048 : Shape := ⟨3, ![4, 2048, 2048]⟩
abbrev S2048 : Shape := ⟨1, ![2048]⟩
abbrev S1x2048x5120 : Shape := ⟨3, ![1, 2048, 5120]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S2048x5120 : Shape := ⟨2, ![2048, 5120]⟩
abbrev S4x2048x5120 : Shape := ⟨3, ![4, 2048, 5120]⟩
abbrev S8192x5120 : Shape := ⟨2, ![8192, 5120]⟩

abbrev nBuf : Space → Nat
  | .hbm => 22
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S1x2048x5120, .f32⟩
  | .hbm, ⟨3, _⟩ => ⟨S4x2048x2048, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x2048, .f32⟩
  | .hbm, ⟨15, _⟩ => ⟨S4x2048x2048, .f32⟩
  | .hbm, ⟨16, _⟩ => ⟨S1x1x2048, .f32⟩
  | .hbm, ⟨17, _⟩ => ⟨S4x2048x2048, .f32⟩
  | .hbm, ⟨18, _⟩ => ⟨S4x2048x2048, .f32⟩
  | .hbm, ⟨19, _⟩ => ⟨S2048x5120, .f32⟩
  | .hbm, ⟨20, _⟩ => ⟨S4x2048x5120, .f32⟩
  | .hbm, ⟨21, _⟩ => ⟨S8192x5120, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== ProjAS.lean ====
abbrev S32x32x2048 : Shape := ⟨3, ![32, 32, 2048]⟩
abbrev S2048 : Shape := ⟨1, ![2048]⟩
abbrev S1x2048x5120 : Shape := ⟨3, ![1, 2048, 5120]⟩
abbrev S1024x2048 : Shape := ⟨2, ![1024, 2048]⟩
abbrev S1x2048 : Shape := ⟨2, ![1, 2048]⟩
abbrev S1024x5120 : Shape := ⟨2, ![1024, 5120]⟩
abbrev S1x2048x1280 : Shape := ⟨3, ![1, 2048, 1280]⟩
abbrev S1024x1280 : Shape := ⟨2, ![1024, 1280]⟩
abbrev S1024 : Shape := ⟨1, ![1024]⟩
abbrev S1024x1 : Shape := ⟨2, ![1024, 1]⟩
abbrev S2048x1280 : Shape := ⟨2, ![2048, 1280]⟩

abbrev nBuf : Space → Nat
  | .hbm => 7
  | .vmem => 7
  | .smem => 0
  | _ => 0

abbrev bufTy : (tb : Table) → Fin (tcTables nBuf tb) → BufTy
  | .hbm, ⟨0, _⟩ => ⟨S32x32x2048, .f32⟩
  | .hbm, ⟨1, _⟩ => ⟨S2048, .f32⟩
  | .hbm, ⟨2, _⟩ => ⟨S1x2048x5120, .f32⟩
  | .hbm, ⟨3, _⟩ => ⟨S1024x2048, .f32⟩
  | .hbm, ⟨4, _⟩ => ⟨S1x2048x5120, .bf16⟩
  | .hbm, ⟨5, _⟩ => ⟨S1x2048, .f32⟩
  | .hbm, ⟨6, _⟩ => ⟨S1024x5120, .f32⟩
  | .local _ .vmem, ⟨0, _⟩ => ⟨S1024x2048, .f32⟩
  | .local _ .vmem, ⟨1, _⟩ => ⟨S1x2048, .f32⟩
  | .local _ .vmem, ⟨2, _⟩ => ⟨S1x2048x1280, .bf16⟩
  | .local _ .vmem, ⟨3, _⟩ => ⟨S1x2048x1280, .bf16⟩
  | .local _ .vmem, ⟨4, _⟩ => ⟨S1024x1280, .f32⟩
  | .local _ .vmem, ⟨5, _⟩ => ⟨S1024x1280, .f32⟩
  | .local _ .vmem, ⟨6, _⟩ => ⟨S1024x2048, .bf16⟩
  | _, _ => ⟨S32x32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjASIdeal.lean ====
abbrev S32x32x2048 : Shape := ⟨3, ![32, 32, 2048]⟩
abbrev S2048 : Shape := ⟨1, ![2048]⟩
abbrev S1x2048x5120 : Shape := ⟨3, ![1, 2048, 5120]⟩
abbrev S1024x2048 : Shape := ⟨2, ![1024, 2048]⟩
abbrev S1x2048 : Shape := ⟨2, ![1, 2048]⟩
abbrev S1024x5120 : Shape := ⟨2, ![1024, 5120]⟩
abbrev S1x2048x1280 : Shape := ⟨3, ![1, 2048, 1280]⟩
abbrev S1024x1280 : Shape := ⟨2, ![1024, 1280]⟩
abbrev S1024 : Shape := ⟨1, ![1024]⟩
abbrev S1024x1 : Shape := ⟨2, ![1024, 1]⟩
abbrev S2048x1280 : Shape := ⟨2, ![2048, 1280]⟩

abbrev nBuf : Space → Nat
  | .hbm => 7
  | .vmem => 7
  | .smem => 0
  | _ => 0

abbrev bufTy : (tb : Table) → Fin (tcTables nBuf tb) → BufTy
  | .hbm, ⟨0, _⟩ => ⟨S32x32x2048, .f32⟩
  | .hbm, ⟨1, _⟩ => ⟨S2048, .f32⟩
  | .hbm, ⟨2, _⟩ => ⟨S1x2048x5120, .f32⟩
  | .hbm, ⟨3, _⟩ => ⟨S1024x2048, .f32⟩
  | .hbm, ⟨4, _⟩ => ⟨S1x2048x5120, .bf16⟩
  | .hbm, ⟨5, _⟩ => ⟨S1x2048, .f32⟩
  | .hbm, ⟨6, _⟩ => ⟨S1024x5120, .f32⟩
  | .local _ .vmem, ⟨0, _⟩ => ⟨S1024x2048, .f32⟩
  | .local _ .vmem, ⟨1, _⟩ => ⟨S1x2048, .f32⟩
  | .local _ .vmem, ⟨2, _⟩ => ⟨S1x2048x1280, .bf16⟩
  | .local _ .vmem, ⟨3, _⟩ => ⟨S1x2048x1280, .bf16⟩
  | .local _ .vmem, ⟨4, _⟩ => ⟨S1024x1280, .f32⟩
  | .local _ .vmem, ⟨5, _⟩ => ⟨S1024x1280, .f32⟩
  | .local _ .vmem, ⟨6, _⟩ => ⟨S1024x2048, .bf16⟩
  | _, _ => ⟨S32x32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjASRefIdeal.lean ====
abbrev S32x32x2048 : Shape := ⟨3, ![32, 32, 2048]⟩
abbrev S2048 : Shape := ⟨1, ![2048]⟩
abbrev S1x2048x5120 : Shape := ⟨3, ![1, 2048, 5120]⟩
abbrev S_ : Shape := ⟨0, ![]⟩
abbrev S32x32 : Shape := ⟨2, ![32, 32]⟩
abbrev S32x32x1 : Shape := ⟨3, ![32, 32, 1]⟩
abbrev S1x1x2048 : Shape := ⟨3, ![1, 1, 2048]⟩
abbrev S2048x5120 : Shape := ⟨2, ![2048, 5120]⟩
abbrev S32x32x5120 : Shape := ⟨3, ![32, 32, 5120]⟩
abbrev S1024x5120 : Shape := ⟨2, ![1024, 5120]⟩

abbrev nBuf : Space → Nat
  | .hbm => 22
  | .vmem => 0
  | .smem => 0
  | _ => 0

abbrev bufTy : (tb : Table) → Fin (tcTables nBuf tb) → BufTy
  | .hbm, ⟨0, _⟩ => ⟨S32x32x2048, .f32⟩
  | .hbm, ⟨1, _⟩ => ⟨S2048, .f32⟩
  | .hbm, ⟨2, _⟩ => ⟨S1x2048x5120, .f32⟩
  | .hbm, ⟨3, _⟩ => ⟨S32x32x2048, .f32⟩
  | .hbm, ⟨4, _⟩ => ⟨S_, .f32⟩
  | .hbm, ⟨5, _⟩ => ⟨S32x32, .f32⟩
  | .hbm, ⟨6, _⟩ => ⟨S32x32x1, .f32⟩
  | .hbm, ⟨7, _⟩ => ⟨S_, .f32⟩
  | .hbm, ⟨8, _⟩ => ⟨S32x32x1, .f32⟩
  | .hbm, ⟨9, _⟩ => ⟨S32x32x1, .f32⟩
  | .hbm, ⟨10, _⟩ => ⟨S_, .f32⟩
  | .hbm, ⟨11, _⟩ => ⟨S32x32x1, .f32⟩
  | .hbm, ⟨12, _⟩ => ⟨S32x32x1, .f32⟩
  | .hbm, ⟨13, _⟩ => ⟨S32x32x1, .f32⟩
  | .hbm, ⟨14, _⟩ => ⟨S32x32x2048, .f32⟩
  | .hbm, ⟨15, _⟩ => ⟨S32x32x2048, .f32⟩
  | .hbm, ⟨16, _⟩ => ⟨S1x1x2048, .f32⟩
  | .hbm, ⟨17, _⟩ => ⟨S32x32x2048, .f32⟩
  | .hbm, ⟨18, _⟩ => ⟨S32x32x2048, .f32⟩
  | .hbm, ⟨19, _⟩ => ⟨S2048x5120, .f32⟩
  | .hbm, ⟨20, _⟩ => ⟨S32x32x5120, .f32⟩
  | .hbm, ⟨21, _⟩ => ⟨S1024x5120, .f32⟩
  | _, _ => ⟨S32x32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== ProjB.lean ====
abbrev S4x2048x2048 : Shape := ⟨3, ![4, 2048, 2048]⟩
abbrev S2048 : Shape := ⟨1, ![2048]⟩
abbrev S1x2048x6656 : Shape := ⟨3, ![1, 2048, 6656]⟩
abbrev S8192x2048 : Shape := ⟨2, ![8192, 2048]⟩
abbrev S1x2048 : Shape := ⟨2, ![1, 2048]⟩
abbrev S8192x6656 : Shape := ⟨2, ![8192, 6656]⟩
abbrev S1024x2048 : Shape := ⟨2, ![1024, 2048]⟩
abbrev S1x2048x1664 : Shape := ⟨3, ![1, 2048, 1664]⟩
abbrev S1024x1664 : Shape := ⟨2, ![1024, 1664]⟩
abbrev S1024 : Shape := ⟨1, ![1024]⟩
abbrev S1024x1 : Shape := ⟨2, ![1024, 1]⟩
abbrev S2048x1664 : Shape := ⟨2, ![2048, 1664]⟩

abbrev nBuf : Space → Nat
  | .hbm => 7
  | .vmem => 8
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S1x2048x6656, .f32⟩
  | .hbm, ⟨3, _⟩ => ⟨S8192x2048, .f32⟩
  | .hbm, ⟨4, _⟩ => ⟨S1x2048x6656, .bf16⟩
  | .hbm, ⟨5, _⟩ => ⟨S1x2048, .f32⟩
  | .hbm, ⟨6, _⟩ => ⟨S8192x6656, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1664, .bf16⟩
  | .local _ .vmem, ⟨4, _⟩ => ⟨S1x2048x1664, .bf16⟩
  | .local _ .vmem, ⟨5, _⟩ => ⟨S1024x1664, .f32⟩
  | .local _ .vmem, ⟨6, _⟩ => ⟨S1024x1664, .f32⟩
  | .local _ .vmem, ⟨7, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1664 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1664 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjBRefIdeal.lean ====
abbrev S4x2048x2048 : Shape := ⟨3, ![4, 2048, 2048]⟩
abbrev S2048 : Shape := ⟨1, ![2048]⟩
abbrev S1x2048x6656 : Shape := ⟨3, ![1, 2048, 6656]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S2048x6656 : Shape := ⟨2, ![2048, 6656]⟩
abbrev S4x2048x6656 : Shape := ⟨3, ![4, 2048, 6656]⟩
abbrev S8192x6656 : Shape := ⟨2, ![8192, 6656]⟩

abbrev nBuf : Space → Nat
  | .hbm => 22
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S1x2048x6656, .f32⟩
  | .hbm, ⟨3, _⟩ => ⟨S4x2048x2048, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x2048, .f32⟩
  | .hbm, ⟨15, _⟩ => ⟨S4x2048x2048, .f32⟩
  | .hbm, ⟨16, _⟩ => ⟨S1x1x2048, .f32⟩
  | .hbm, ⟨17, _⟩ => ⟨S4x2048x2048, .f32⟩
  | .hbm, ⟨18, _⟩ => ⟨S4x2048x2048, .f32⟩
  | .hbm, ⟨19, _⟩ => ⟨S2048x6656, .f32⟩
  | .hbm, ⟨20, _⟩ => ⟨S4x2048x6656, .f32⟩
  | .hbm, ⟨21, _⟩ => ⟨S8192x6656, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== MemKv0.lean ====
abbrev S4x256x2048 : Shape := ⟨3, ![4, 256, 2048]⟩
abbrev S2x2048 : Shape := ⟨2, ![2, 2048]⟩
abbrev S2x2048x1024 : Shape := ⟨3, ![2, 2048, 1024]⟩
abbrev S1024x2048 : Shape := ⟨2, ![1024, 2048]⟩
abbrev S1x2048 : Shape := ⟨2, ![1, 2048]⟩
abbrev S2048 : Shape := ⟨1, ![2048]⟩
abbrev S1024x1024 : Shape := ⟨2, ![1024, 1024]⟩
abbrev S1x2048x1024 : Shape := ⟨3, ![1, 2048, 1024]⟩
abbrev S1024 : Shape := ⟨1, ![1024]⟩
abbrev S1024x1 : Shape := ⟨2, ![1024, 1]⟩
abbrev S2048x1024 : Shape := ⟨2, ![2048, 1024]⟩

abbrev nBuf : Space → Nat
  | .hbm => 9
  | .vmem => 5
  | .smem => 0
  | _ => 0

abbrev bufTy : (tb : Table) → Fin (tcTables nBuf tb) → BufTy
  | .hbm, ⟨0, _⟩ => ⟨S4x256x2048, .f32⟩
  | .hbm, ⟨1, _⟩ => ⟨S2x2048, .f32⟩
  | .hbm, ⟨2, _⟩ => ⟨S2x2048x1024, .f32⟩
  | .hbm, ⟨3, _⟩ => ⟨S1024x2048, .f32⟩
  | .hbm, ⟨4, _⟩ => ⟨S1x2048, .f32⟩
  | .hbm, ⟨5, _⟩ => ⟨S2048, .f32⟩
  | .hbm, ⟨6, _⟩ => ⟨S2x2048x1024, .bf16⟩
  | .hbm, ⟨7, _⟩ => ⟨S1x2048, .f32⟩
  | .hbm, ⟨8, _⟩ => ⟨S1024x1024, .f32⟩
  | .local _ .vmem, ⟨0, _⟩ => ⟨S1024x2048, .f32⟩
  | .local _ .vmem, ⟨1, _⟩ => ⟨S1x2048, .f32⟩
  | .local _ .vmem, ⟨2, _⟩ => ⟨S1x2048x1024, .bf16⟩
  | .local _ .vmem, ⟨3, _⟩ => ⟨S1024x1024, .f32⟩
  | .local _ .vmem, ⟨4, _⟩ => ⟨S1024x2048, .bf16⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]
-- ==== MemKv0RefIdeal.lean ====
abbrev S4x256x2048 : Shape := ⟨3, ![4, 256, 2048]⟩
abbrev S2x2048 : Shape := ⟨2, ![2, 2048]⟩
abbrev S2x2048x1024 : Shape := ⟨3, ![2, 2048, 1024]⟩
abbrev S1x2048 : Shape := ⟨2, ![1, 2048]⟩
abbrev S2048 : Shape := ⟨1, ![2048]⟩
abbrev S_ : Shape := ⟨0, ![]⟩
abbrev S4x256 : Shape := ⟨2, ![4, 256]⟩
abbrev S4x256x1 : Shape := ⟨3, ![4, 256, 1]⟩
abbrev S1x1x2048 : Shape := ⟨3, ![1, 1, 2048]⟩
abbrev S1x2048x1024 : Shape := ⟨3, ![1, 2048, 1024]⟩
abbrev S2048x1024 : Shape := ⟨2, ![2048, 1024]⟩
abbrev S4x256x1024 : Shape := ⟨3, ![4, 256, 1024]⟩
abbrev S1024x1024 : Shape := ⟨2, ![1024, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S2x2048, .f32⟩
  | .hbm, ⟨2, _⟩ => ⟨S2x2048x1024, .f32⟩
  | .hbm, ⟨3, _⟩ => ⟨S1x2048, .f32⟩
  | .hbm, ⟨4, _⟩ => ⟨S2048, .f32⟩
  | .hbm, ⟨5, _⟩ => ⟨S4x256x2048, .f32⟩
  | .hbm, ⟨6, _⟩ => ⟨S_, .f32⟩
  | .hbm, ⟨7, _⟩ => ⟨S4x256, .f32⟩
  | .hbm, ⟨8, _⟩ => ⟨S4x256x1, .f32⟩
  | .hbm, ⟨9, _⟩ => ⟨S_, .f32⟩
  | .hbm, ⟨10, _⟩ => ⟨S4x256x1, .f32⟩
  | .hbm, ⟨11, _⟩ => ⟨S4x256x1, .f32⟩
  | .hbm, ⟨12, _⟩ => ⟨S_, .f32⟩
  | .hbm, ⟨13, _⟩ => ⟨S4x256x1, .f32⟩
  | .hbm, ⟨14, _⟩ => ⟨S4x256x1, .f32⟩
  | .hbm, ⟨15, _⟩ => ⟨S4x256x1, .f32⟩
  | .hbm, ⟨16, _⟩ => ⟨S4x256x2048, .f32⟩
  | .hbm, ⟨17, _⟩ => ⟨S4x256x2048, .f32⟩
  | .hbm, ⟨18, _⟩ => ⟨S1x1x2048, .f32⟩
  | .hbm, ⟨19, _⟩ => ⟨S4x256x2048, .f32⟩
  | .hbm, ⟨20, _⟩ => ⟨S4x256x2048, .f32⟩
  | .hbm, ⟨21, _⟩ => ⟨S1x2048x1024, .f32⟩
  | .hbm, ⟨22, _⟩ => ⟨S2048x1024, .f32⟩
  | .hbm, ⟨23, _⟩ => ⟨S4x256x1024, .f32⟩
  | .hbm, ⟨24, _⟩ => ⟨S1024x1024, .f32⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== MemKv1.lean ====
abbrev S4x256x2048 : Shape := ⟨3, ![4, 256, 2048]⟩
abbrev S2x2048 : Shape := ⟨2, ![2, 2048]⟩
abbrev S2x2048x1024 : Shape := ⟨3, ![2, 2048, 1024]⟩
abbrev S1024x2048 : Shape := ⟨2, ![1024, 2048]⟩
abbrev S1x2048 : Shape := ⟨2, ![1, 2048]⟩
abbrev S2048 : Shape := ⟨1, ![2048]⟩
abbrev S1024x1024 : Shape := ⟨2, ![1024, 1024]⟩
abbrev S1x2048x1024 : Shape := ⟨3, ![1, 2048, 1024]⟩
abbrev S1024 : Shape := ⟨1, ![1024]⟩
abbrev S1024x1 : Shape := ⟨2, ![1024, 1]⟩
abbrev S2048x1024 : Shape := ⟨2, ![2048, 1024]⟩

abbrev nBuf : Space → Nat
  | .hbm => 9
  | .vmem => 5
  | .smem => 0
  | _ => 0

abbrev bufTy : (tb : Table) → Fin (tcTables nBuf tb) → BufTy
  | .hbm, ⟨0, _⟩ => ⟨S4x256x2048, .f32⟩
  | .hbm, ⟨1, _⟩ => ⟨S2x2048, .f32⟩
  | .hbm, ⟨2, _⟩ => ⟨S2x2048x1024, .f32⟩
  | .hbm, ⟨3, _⟩ => ⟨S1024x2048, .f32⟩
  | .hbm, ⟨4, _⟩ => ⟨S1x2048, .f32⟩
  | .hbm, ⟨5, _⟩ => ⟨S2048, .f32⟩
  | .hbm, ⟨6, _⟩ => ⟨S2x2048x1024, .bf16⟩
  | .hbm, ⟨7, _⟩ => ⟨S1x2048, .f32⟩
  | .hbm, ⟨8, _⟩ => ⟨S1024x1024, .f32⟩
  | .local _ .vmem, ⟨0, _⟩ => ⟨S1024x2048, .f32⟩
  | .local _ .vmem, ⟨1, _⟩ => ⟨S1x2048, .f32⟩
  | .local _ .vmem, ⟨2, _⟩ => ⟨S1x2048x1024, .bf16⟩
  | .local _ .vmem, ⟨3, _⟩ => ⟨S1024x1024, .f32⟩
  | .local _ .vmem, ⟨4, _⟩ => ⟨S1024x2048, .bf16⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]
-- ==== MemKv1RefIdeal.lean ====
abbrev S4x256x2048 : Shape := ⟨3, ![4, 256, 2048]⟩
abbrev S2x2048 : Shape := ⟨2, ![2, 2048]⟩
abbrev S2x2048x1024 : Shape := ⟨3, ![2, 2048, 1024]⟩
abbrev S1x2048 : Shape := ⟨2, ![1, 2048]⟩
abbrev S2048 : Shape := ⟨1, ![2048]⟩
abbrev S_ : Shape := ⟨0, ![]⟩
abbrev S4x256 : Shape := ⟨2, ![4, 256]⟩
abbrev S4x256x1 : Shape := ⟨3, ![4, 256, 1]⟩
abbrev S1x1x2048 : Shape := ⟨3, ![1, 1, 2048]⟩
abbrev S1x2048x1024 : Shape := ⟨3, ![1, 2048, 1024]⟩
abbrev S2048x1024 : Shape := ⟨2, ![2048, 1024]⟩
abbrev S4x256x1024 : Shape := ⟨3, ![4, 256, 1024]⟩
abbrev S1024x1024 : Shape := ⟨2, ![1024, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S2x2048, .f32⟩
  | .hbm, ⟨2, _⟩ => ⟨S2x2048x1024, .f32⟩
  | .hbm, ⟨3, _⟩ => ⟨S1x2048, .f32⟩
  | .hbm, ⟨4, _⟩ => ⟨S2048, .f32⟩
  | .hbm, ⟨5, _⟩ => ⟨S4x256x2048, .f32⟩
  | .hbm, ⟨6, _⟩ => ⟨S_, .f32⟩
  | .hbm, ⟨7, _⟩ => ⟨S4x256, .f32⟩
  | .hbm, ⟨8, _⟩ => ⟨S4x256x1, .f32⟩
  | .hbm, ⟨9, _⟩ => ⟨S_, .f32⟩
  | .hbm, ⟨10, _⟩ => ⟨S4x256x1, .f32⟩
  | .hbm, ⟨11, _⟩ => ⟨S4x256x1, .f32⟩
  | .hbm, ⟨12, _⟩ => ⟨S_, .f32⟩
  | .hbm, ⟨13, _⟩ => ⟨S4x256x1, .f32⟩
  | .hbm, ⟨14, _⟩ => ⟨S4x256x1, .f32⟩
  | .hbm, ⟨15, _⟩ => ⟨S4x256x1, .f32⟩
  | .hbm, ⟨16, _⟩ => ⟨S4x256x2048, .f32⟩
  | .hbm, ⟨17, _⟩ => ⟨S4x256x2048, .f32⟩
  | .hbm, ⟨18, _⟩ => ⟨S1x1x2048, .f32⟩
  | .hbm, ⟨19, _⟩ => ⟨S4x256x2048, .f32⟩
  | .hbm, ⟨20, _⟩ => ⟨S4x256x2048, .f32⟩
  | .hbm, ⟨21, _⟩ => ⟨S1x2048x1024, .f32⟩
  | .hbm, ⟨22, _⟩ => ⟨S2048x1024, .f32⟩
  | .hbm, ⟨23, _⟩ => ⟨S4x256x1024, .f32⟩
  | .hbm, ⟨24, _⟩ => ⟨S1024x1024, .f32⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== MemAttn.lean ====
abbrev S4x2048x5120 : Shape := ⟨3, ![4, 2048, 5120]⟩
abbrev S4x256x1024 : Shape := ⟨3, ![4, 256, 1024]⟩
abbrev S4x2048x512 : Shape := ⟨3, ![4, 2048, 512]⟩
abbrev S1x512x512 : Shape := ⟨3, ![1, 512, 512]⟩
abbrev S1x256x512 : Shape := ⟨3, ![1, 256, 512]⟩
abbrev S1x256x128 : Shape := ⟨3, ![1, 256, 128]⟩
abbrev S256x128 : Shape := ⟨2, ![256, 128]⟩
abbrev S1x512x128 : Shape := ⟨3, ![1, 512, 128]⟩
abbrev S512x128 : Shape := ⟨2, ![512, 128]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 8
  | .smem => 0
  | _ => 0

abbrev bufTy : (tb : Table) → Fin (tcTables nBuf tb) → BufTy
  | .hbm, ⟨0, _⟩ => ⟨S4x2048x5120, .f32⟩
  | .hbm, ⟨1, _⟩ => ⟨S4x256x1024, .f32⟩
  | .hbm, ⟨2, _⟩ => ⟨S4x2048x512, .bf16⟩
  | .local _ .vmem, ⟨0, _⟩ => ⟨S1x512x512, .f32⟩
  | .local _ .vmem, ⟨1, _⟩ => ⟨S1x512x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x512x512, .bf16⟩
  | .local _ .vmem, ⟨7, _⟩ => ⟨S1x512x512, .bf16⟩
  | _, _ => ⟨S4x2048x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemAttnRefIdeal.lean ====
abbrev S4x2048x5120 : Shape := ⟨3, ![4, 2048, 5120]⟩
abbrev S4x256x1024 : Shape := ⟨3, ![4, 256, 1024]⟩
abbrev S4x256x512 : Shape := ⟨3, ![4, 256, 512]⟩
abbrev S4x2048x512 : Shape := ⟨3, ![4, 2048, 512]⟩
abbrev S4x2048x4x128 : Shape := ⟨4, ![4, 2048, 4, 128]⟩
abbrev S4x256x4x128 : Shape := ⟨4, ![4, 256, 4, 128]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x128x2048 : Shape := ⟨4, ![4, 4, 128, 2048]⟩

abbrev nBuf : Space → Nat
  | .hbm => 30
  | .vmem => 0
  | .smem => 0
  | _ => 0

abbrev bufTy : (tb : Table) → Fin (tcTables nBuf tb) → BufTy
  | .hbm, ⟨0, _⟩ => ⟨S4x2048x5120, .f32⟩
  | .hbm, ⟨1, _⟩ => ⟨S4x256x1024, .f32⟩
  | .hbm, ⟨2, _⟩ => ⟨S4x256x512, .f32⟩
  | .hbm, ⟨3, _⟩ => ⟨S4x256x512, .f32⟩
  | .hbm, ⟨4, _⟩ => ⟨S4x2048x512, .f32⟩
  | .hbm, ⟨5, _⟩ => ⟨S4x2048x4x128, .f32⟩
  | .hbm, ⟨6, _⟩ => ⟨S4x256x4x128, .f32⟩
  | .hbm, ⟨7, _⟩ => ⟨S4x256x4x128, .f32⟩
  | .hbm, ⟨8, _⟩ => ⟨S4x4x2048x256, .f32⟩
  | .hbm, ⟨9, _⟩ => ⟨S_, .f32⟩
  | .hbm, ⟨10, _⟩ => ⟨S4x4x2048x256, .f32⟩
  | .hbm, ⟨11, _⟩ => ⟨S4x4x2048x256, .f32⟩
  | .hbm, ⟨12, _⟩ => ⟨S_, .f32⟩
  | .hbm, ⟨13, _⟩ => ⟨S4x4x2048, .f32⟩
  | .hbm, ⟨14, _⟩ => ⟨S_, .f32⟩
  | .hbm, ⟨15, _⟩ => ⟨S4x4x2048, .f32⟩
  | .hbm, ⟨16, _⟩ => ⟨S4x4x2048, .f32⟩
  | .hbm, ⟨17, _⟩ => ⟨S4x4x2048x1, .f32⟩
  | .hbm, ⟨18, _⟩ => ⟨S4x4x2048x256, .f32⟩
  | .hbm, ⟨19, _⟩ => ⟨S4x4x2048x256, .f32⟩
  | .hbm, ⟨20, _⟩ => ⟨S4x4x2048x256, .f32⟩
  | .hbm, ⟨21, _⟩ => ⟨S_, .f32⟩
  | .hbm, ⟨22, _⟩ => ⟨S4x4x2048, .f32⟩
  | .hbm, ⟨23, _⟩ => ⟨S4x4x2048x1, .f32⟩
  | .hbm, ⟨24, _⟩ => ⟨S4x4x2048x256, .f32⟩
  | .hbm, ⟨25, _⟩ => ⟨S4x4x2048x256, .f32⟩
  | .hbm, ⟨26, _⟩ => ⟨S4x4x128x2048, .f32⟩
  | .hbm, ⟨27, _⟩ => ⟨S4x2048x4x128, .f32⟩
  | .hbm, ⟨28, _⟩ => ⟨S4x2048x512, .f32⟩
  | .hbm, ⟨29, _⟩ => ⟨S4x2048x512, .bf16⟩
  | _, _ => ⟨S4x2048x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== OutProj.lean ====
abbrev S8192x1536 : Shape := ⟨2, ![8192, 1536]⟩
abbrev S8192x512 : Shape := ⟨2, ![8192, 512]⟩
abbrev S1x2048x2048 : Shape := ⟨3, ![1, 2048, 2048]⟩
abbrev S8192x2048 : Shape := ⟨2, ![8192, 2048]⟩
abbrev S2048 : Shape := ⟨1, ![2048]⟩
abbrev S1x2048 : Shape := ⟨2, ![1, 2048]⟩
abbrev S2048x8192 : Shape := ⟨2, ![2048, 8192]⟩
abbrev S512x1536 : Shape := ⟨2, ![512, 1536]⟩
abbrev S512x512 : Shape := ⟨2, ![512, 512]⟩
abbrev S1x1536x2048 : Shape := ⟨3, ![1, 1536, 2048]⟩
abbrev S1x512x2048 : Shape := ⟨3, ![1, 512, 2048]⟩
abbrev S512x2048 : Shape := ⟨2, ![512, 2048]⟩
abbrev S2048x512 : Shape := ⟨2, ![2048, 512]⟩
abbrev S1536x2048 : Shape := ⟨2, ![1536, 2048]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S8192x1536, .bf16⟩
  | .hbm, ⟨1, _⟩ => ⟨S8192x512, .bf16⟩
  | .hbm, ⟨2, _⟩ => ⟨S1x2048x2048, .f32⟩
  | .hbm, ⟨3, _⟩ => ⟨S8192x2048, .f32⟩
  | .hbm, ⟨4, _⟩ => ⟨S2048, .f32⟩
  | .hbm, ⟨5, _⟩ => ⟨S1x2048x2048, .bf16⟩
  | .hbm, ⟨6, _⟩ => ⟨S1x2048, .f32⟩
  | .hbm, ⟨7, _⟩ => ⟨S8192x2048, .f32⟩
  | .hbm, ⟨8, _⟩ => ⟨S2048x8192, .bf16⟩
  | .local _ .vmem, ⟨0, _⟩ => ⟨S512x1536, .bf16⟩
  | .local _ .vmem, ⟨1, _⟩ => ⟨S512x1536, .bf16⟩
  | .local _ .vmem, ⟨2, _⟩ => ⟨S512x512, .bf16⟩
  | .local _ .vmem, ⟨3, _⟩ => ⟨S512x512, .bf16⟩
  | .local _ .vmem, ⟨4, _⟩ => ⟨S1x1536x2048, .bf16⟩
  | .local _ .vmem, ⟨5, _⟩ => ⟨S1x512x2048, .bf16⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S2048x512, .bf16⟩
  | .local _ .vmem, ⟨12, _⟩ => ⟨S2048x512, .bf16⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  let c0_i32_1 : BitVec 32 := 0#32
  ![c0_i32.toNat, c3_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1536x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutProjRefIdeal.lean ====
abbrev S8192x1536 : Shape := ⟨2, ![8192, 1536]⟩
abbrev S8192x512 : Shape := ⟨2, ![8192, 512]⟩
abbrev S1x2048x2048 : Shape := ⟨3, ![1, 2048, 2048]⟩
abbrev S8192x2048 : Shape := ⟨2, ![8192, 2048]⟩
abbrev S2048 : Shape := ⟨1, ![2048]⟩
abbrev S2048x2048 : Shape := ⟨2, ![2048, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2048x8192 : Shape := ⟨2, ![2048, 8192]⟩

abbrev nBuf : Space → Nat
  | .hbm => 28
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x512, .bf16⟩
  | .hbm, ⟨2, _⟩ => ⟨S1x2048x2048, .f32⟩
  | .hbm, ⟨3, _⟩ => ⟨S8192x2048, .f32⟩
  | .hbm, ⟨4, _⟩ => ⟨S2048, .f32⟩
  | .hbm, ⟨5, _⟩ => ⟨S8192x2048, .bf16⟩
  | .hbm, ⟨6, _⟩ => ⟨S8192x2048, .f32⟩
  | .hbm, ⟨7, _⟩ => ⟨S2048x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S2048x8192, .f32⟩
  | .hbm, ⟨27, _⟩ => ⟨S2048x8192, .bf16⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Scores.lean ====
abbrev S8192x2048 : Shape := ⟨2, ![8192, 2048]⟩
abbrev S2x2048x2048 : Shape := ⟨3, ![2, 2048, 2048]⟩
abbrev S2x2x8x128x128 : Shape := ⟨5, ![2, 2, 8, 128, 128]⟩
abbrev S2048x8192 : Shape := ⟨2, ![2048, 8192]⟩
abbrev S16x128x8192 : Shape := ⟨3, ![16, 128, 8192]⟩
abbrev S2048x512 : Shape := ⟨2, ![2048, 512]⟩
abbrev S1x2048x2048 : Shape := ⟨3, ![1, 2048, 2048]⟩
abbrev S1x2x8x128x128 : Shape := ⟨5, ![1, 2, 8, 128, 128]⟩
abbrev S16x128x512 : Shape := ⟨3, ![16, 128, 512]⟩
abbrev S2048x2048 : Shape := ⟨2, ![2048, 2048]⟩
abbrev S1x1x1x128x128 : Shape := ⟨5, ![1, 1, 1, 128, 128]⟩
abbrev S128x128 : Shape := ⟨2, ![128, 128]⟩
abbrev S128x512 : Shape := ⟨2, ![128, 512]⟩
abbrev S1x128x512 : Shape := ⟨3, ![1, 128, 512]⟩

abbrev nBuf : Space → Nat
  | .hbm => 9
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2x2048x2048, .f32⟩
  | .hbm, ⟨2, _⟩ => ⟨S2x2x8x128x128, .f32⟩
  | .hbm, ⟨3, _⟩ => ⟨S2048x8192, .f32⟩
  | .hbm, ⟨4, _⟩ => ⟨S2048x8192, .bf16⟩
  | .hbm, ⟨5, _⟩ => ⟨S2x2048x2048, .f32⟩
  | .hbm, ⟨6, _⟩ => ⟨S2x2048x2048, .bf16⟩
  | .hbm, ⟨7, _⟩ => ⟨S2x2x8x128x128, .bf16⟩
  | .hbm, ⟨8, _⟩ => ⟨S16x128x8192, .f32⟩
  | .local _ .vmem, ⟨0, _⟩ => ⟨S2048x512, .bf16⟩
  | .local _ .vmem, ⟨1, _⟩ => ⟨S2048x512, .bf16⟩
  | .local _ .vmem, ⟨2, _⟩ => ⟨S1x2048x2048, .bf16⟩
  | .local _ .vmem, ⟨3, _⟩ => ⟨S1x2x8x128x128, .bf16⟩
  | .local _ .vmem, ⟨4, _⟩ => ⟨S16x128x512, .f32⟩
  | .local _ .vmem, ⟨5, _⟩ => ⟨S16x128x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2x8x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ScoresRefIdeal.lean ====
abbrev S8192x2048 : Shape := ⟨2, ![8192, 2048]⟩
abbrev S2x2048x2048 : Shape := ⟨3, ![2, 2048, 2048]⟩
abbrev S2x2x8x128x128 : Shape := ⟨5, ![2, 2, 8, 128, 128]⟩
abbrev S1x2048x2048 : Shape := ⟨3, ![1, 2048, 2048]⟩
abbrev S2048x2048 : Shape := ⟨2, ![2048, 2048]⟩
abbrev S8192x8x2x128 : Shape := ⟨4, ![8192, 8, 2, 128]⟩
abbrev S1x2x8x128x128 : Shape := ⟨5, ![1, 2, 8, 128, 128]⟩
abbrev S2x8x128x128 : Shape := ⟨4, ![2, 8, 128, 128]⟩
abbrev S8x2x128x8192 : Shape := ⟨4, ![8, 2, 128, 8192]⟩
abbrev S16x128x8192 : Shape := ⟨3, ![16, 128, 8192]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x2048x2048, .f32⟩
  | .hbm, ⟨2, _⟩ => ⟨S2x2x8x128x128, .f32⟩
  | .hbm, ⟨3, _⟩ => ⟨S1x2048x2048, .f32⟩
  | .hbm, ⟨4, _⟩ => ⟨S2048x2048, .f32⟩
  | .hbm, ⟨5, _⟩ => ⟨S8192x2048, .f32⟩
  | .hbm, ⟨6, _⟩ => ⟨S8192x8x2x128, .f32⟩
  | .hbm, ⟨7, _⟩ => ⟨S1x2x8x128x128, .f32⟩
  | .hbm, ⟨8, _⟩ => ⟨S2x8x128x128, .f32⟩
  | .hbm, ⟨9, _⟩ => ⟨S8x2x128x8192, .f32⟩
  | .hbm, ⟨10, _⟩ => ⟨S8192x8x2x128, .f32⟩
  | .hbm, ⟨11, _⟩ => ⟨S8x2x128x8192, .f32⟩
  | .hbm, ⟨12, _⟩ => ⟨S16x128x8192, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Attn.lean ====
abbrev S4x2048x5120 : Shape := ⟨3, ![4, 2048, 5120]⟩
abbrev S12x64x576 : Shape := ⟨3, ![12, 64, 576]⟩
abbrev S_ : Shape := ⟨0, ![]⟩
abbrev S12x64x768 : Shape := ⟨3, ![12, 64, 768]⟩
abbrev S12x256x768 : Shape := ⟨3, ![12, 256, 768]⟩
abbrev S4x2048x1536 : Shape := ⟨3, ![4, 2048, 1536]⟩
abbrev S1x256x1536 : Shape := ⟨3, ![1, 256, 1536]⟩
abbrev S256x768 : Shape := ⟨2, ![256, 768]⟩
abbrev S1x256x128 : Shape := ⟨3, ![1, 256, 128]⟩
abbrev S256x128 : Shape := ⟨2, ![256, 128]⟩
abbrev S768x128 : Shape := ⟨2, ![768, 128]⟩
abbrev S1x256x768 : Shape := ⟨3, ![1, 256, 768]⟩
abbrev S256 : Shape := ⟨1, ![256]⟩
abbrev S256x1 : Shape := ⟨2, ![256, 1]⟩

abbrev nBuf : Space → Nat
  | .hbm => 16
  | .vmem => 17
  | .smem => 0
  | _ => 0

abbrev bufTy : (tb : Table) → Fin (tcTables nBuf tb) → BufTy
  | .hbm, ⟨0, _⟩ => ⟨S4x2048x5120, .f32⟩
  | .hbm, ⟨1, _⟩ => ⟨S12x64x576, .f32⟩
  | .hbm, ⟨2, _⟩ => ⟨S_, .f32⟩
  | .hbm, ⟨3, _⟩ => ⟨S_, .f32⟩
  | .hbm, ⟨4, _⟩ => ⟨S12x64x768, .f32⟩
  | .hbm, ⟨5, _⟩ => ⟨S_, .f32⟩
  | .hbm, ⟨6, _⟩ => ⟨S_, .f32⟩
  | .hbm, ⟨7, _⟩ => ⟨S12x64x768, .f32⟩
  | .hbm, ⟨8, _⟩ => ⟨S_, .f32⟩
  | .hbm, ⟨9, _⟩ => ⟨S_, .f32⟩
  | .hbm, ⟨10, _⟩ => ⟨S12x64x768, .f32⟩
  | .hbm, ⟨11, _⟩ => ⟨S_, .f32⟩
  | .hbm, ⟨12, _⟩ => ⟨S_, .f32⟩
  | .hbm, ⟨13, _⟩ => ⟨S12x64x768, .f32⟩
  | .hbm, ⟨14, _⟩ => ⟨S12x256x768, .f32⟩
  | .hbm, ⟨15, _⟩ => ⟨S4x2048x1536, .bf16⟩
  | .local _ .vmem, ⟨0, _⟩ => ⟨S1x256x1536, .f32⟩
  | .local _ .vmem, ⟨1, _⟩ => ⟨S1x256x1536, .f32⟩
  | .local _ .vmem, ⟨2, _⟩ => ⟨S1x256x1536, .f32⟩
  | .local _ .vmem, ⟨3, _⟩ => ⟨S1x256x1536, .f32⟩
  | .local _ .vmem, ⟨4, _⟩ => ⟨S1x256x1536, .f32⟩
  | .local _ .vmem, ⟨5, _⟩ => ⟨S1x256x1536, .f32⟩
  | .local _ .vmem, ⟨6, _⟩ => ⟨S1x256x1536, .f32⟩
  | .local _ .vmem, ⟨7, _⟩ => ⟨S1x256x1536, .f32⟩
  | .local _ .vmem, ⟨8, _⟩ => ⟨S1x256x1536, .f32⟩
  | .local _ .vmem, ⟨9, _⟩ => ⟨S1x256x1536, .f32⟩
  | .local _ .vmem, ⟨10, _⟩ => ⟨S1x256x1536, .f32⟩
  | .local _ .vmem, ⟨11, _⟩ => ⟨S1x256x1536, .f32⟩
  | .local _ .vmem, ⟨12, _⟩ => ⟨S1x256x1536, .f32⟩
  | .local _ .vmem, ⟨13, _⟩ => ⟨S1x256x1536, .f32⟩
  | .local _ .vmem, ⟨14, _⟩ => ⟨S12x256x768, .f32⟩
  | .local _ .vmem, ⟨15, _⟩ => ⟨S1x256x1536, .bf16⟩
  | .local _ .vmem, ⟨16, _⟩ => ⟨S1x256x1536, .bf16⟩
  | _, _ => ⟨S4x2048x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_call0_v0 : Ref sig .tc := ⟨.hbm, 3, rfl⟩
abbrev main_v0 : Ref sig .tc := ⟨.hbm, 4, rfl⟩
abbrev main_cst_0 : Ref sig .tc := ⟨.hbm, 5, rfl⟩
abbrev main_call1_v0 : Ref sig .tc := ⟨.hbm, 6, rfl⟩
abbrev main_v1 : Ref sig .tc := ⟨.hbm, 7, rfl⟩
abbrev main_cst_1 : Ref sig .tc := ⟨.hbm, 8, rfl⟩
abbrev main_call2_v0 : Ref sig .tc := ⟨.hbm, 9, rfl⟩
abbrev main_v2 : Ref sig .tc := ⟨.hbm, 10, rfl⟩
abbrev main_cst_2 : Ref sig .tc := ⟨.hbm, 11, rfl⟩
abbrev main_call3_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![4, 1, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c2_i32_0 : BitVec 32 := 2#32
  let v1 : BitVec 32 := Scalar.subi v0 c2_i32_0
  let c0_i32 : BitVec 32 := 0#32
  let v2 : BitVec 32 := Scalar.maxsi v1 c0_i32
  let c0_i32_1 : BitVec 32 := 0#32
  let v3 : BitVec 32 := Scalar.addi c0_i32_1 arg1
  let c0_i32_2 : BitVec 32 := 0#32
  ![arg0.toNat, v2.toNat, v3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c2_i32 : BitVec 32 := 2#32
  let v1 : BitVec 32 := Scalar.subi v0 c2_i32
  let c0_i32_0 : BitVec 32 := 0#32
  let v2 : BitVec 32 := Scalar.maxsi v1 c0_i32_0
  let c1_i32 : BitVec 32 := 1#32
  let v3 : BitVec 32 := Scalar.addi c1_i32 arg1
  let c0_i32_1 : BitVec 32 := 0#32
  ![arg0.toNat, v2.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c2_i32 : BitVec 32 := 2#32
  let v1 : BitVec 32 := Scalar.subi v0 c2_i32
  let c0_i32 : BitVec 32 := 0#32
  let v2 : BitVec 32 := Scalar.maxsi v1 c0_i32
  let c1_i32_0 : BitVec 32 := 1#32
  let v3 : BitVec 32 := Scalar.addi c1_i32_0 arg1
  let c0_i32_1 : BitVec 32 := 0#32
  ![arg0.toNat, v2.toNat, v3.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c2_i32_0 : BitVec 32 := 2#32
  let v1 : BitVec 32 := Scalar.subi v0 c2_i32_0
  let c0_i32 : BitVec 32 := 0#32
  let v2 : BitVec 32 := Scalar.maxsi v1 c0_i32
  let c1_i32 : BitVec 32 := 1#32
  let v3 : BitVec 32 := Scalar.addi c1_i32 arg1
  let c0_i32_1 : BitVec 32 := 0#32
  ![arg0.toNat, v2.toNat, v3.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c2_i32 : BitVec 32 := 2#32
  let v1 : BitVec 32 := Scalar.subi v0 c2_i32
  let c0_i32_0 : BitVec 32 := 0#32
  let v2 : BitVec 32 := Scalar.maxsi v1 c0_i32_0
  let c2_i32_1 : BitVec 32 := 2#32
  let v3 : BitVec 32 := Scalar.addi c2_i32_1 arg1
  let c0_i32_2 : BitVec 32 := 0#32
  ![arg0.toNat, v2.toNat, v3.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c2_i32 : BitVec 32 := 2#32
  let v1 : BitVec 32 := Scalar.subi v0 c2_i32
  let c0_i32 : BitVec 32 := 0#32
  let v2 : BitVec 32 := Scalar.maxsi v1 c0_i32
  let c2_i32_0 : BitVec 32 := 2#32
  let v3 : BitVec 32 := Scalar.addi c2_i32_0 arg1
  let c0_i32_1 : BitVec 32 := 0#32
  ![arg0.toNat, v2.toNat, v3.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c2_i32_0 : BitVec 32 := 2#32
  let v1 : BitVec 32 := Scalar.subi v0 c2_i32_0
  let c0_i32 : BitVec 32 := 0#32
  let v2 : BitVec 32 := Scalar.maxsi v1 c0_i32
  let c2_i32_1 : BitVec 32 := 2#32
  let v3 : BitVec 32 := Scalar.addi c2_i32_1 arg1
  let c0_i32_2 : BitVec 32 := 0#32
  ![arg0.toNat, v2.toNat, v3.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 1 → Memref sig .tc .vmem S12x256x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]

abbrev stage0_8 : Fin 2 → Memref sig .tc .vmem S1x256x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== AttnIdeal.lean ====
variable {F : FTy → Type} [FloatOps F] [Named F]
def κ : String → Option EReal := fun
  | "mask" => some ⊥
  | _ => none
-- ==== AttnRefIdeal.lean ====
abbrev S4x2048x5120 : Shape := ⟨3, ![4, 2048, 5120]⟩
abbrev S12x64x576 : Shape := ⟨3, ![12, 64, 576]⟩
abbrev S4x2048x1536 : Shape := ⟨3, ![4, 2048, 1536]⟩
abbrev S4x2048x12x128 : Shape := ⟨4, ![4, 2048, 12, 128]⟩
abbrev S_ : Shape := ⟨0, ![]⟩
abbrev S4x2560x12x128 : Shape := ⟨4, ![4, 2560, 12, 128]⟩
abbrev S4x32x64x12x128 : Shape := ⟨5, ![4, 32, 64, 12, 128]⟩
abbrev S32 : Shape := ⟨1, ![32]⟩
abbrev S32x1 : Shape := ⟨2, ![32, 1]⟩
abbrev S576 : Shape := ⟨1, ![576]⟩
abbrev S1x576 : Shape := ⟨2, ![1, 576]⟩
abbrev S32x576 : Shape := ⟨2, ![32, 576]⟩
abbrev S32x576x1 : Shape := ⟨3, ![32, 576, 1]⟩
abbrev S4x32x576x12x128 : Shape := ⟨5, ![4, 32, 576, 12, 128]⟩
abbrev S64 : Shape := ⟨1, ![64]⟩
abbrev S1x64 : Shape := ⟨2, ![1, 64]⟩
abbrev S32x64 : Shape := ⟨2, ![32, 64]⟩
abbrev S32x64x1 : Shape := ⟨3, ![32, 64, 1]⟩
abbrev S32x1x576 : Shape := ⟨3, ![32, 1, 576]⟩
abbrev S32x64x576 : Shape := ⟨3, ![32, 64, 576]⟩
abbrev S4x32x12x64x576 : Shape := ⟨5, ![4, 32, 12, 64, 576]⟩
abbrev S32x1x64x576 : Shape := ⟨4, ![32, 1, 64, 576]⟩
abbrev S1x1x12x64x576 : Shape := ⟨5, ![1, 1, 12, 64, 576]⟩
abbrev S4x32x12x64 : Shape := ⟨4, ![4, 32, 12, 64]⟩
abbrev S4x32x12x64x1 : Shape := ⟨5, ![4, 32, 12, 64, 1]⟩
abbrev S4x32x12x128x64 : Shape := ⟨5, ![4, 32, 12, 128, 64]⟩

abbrev nBuf : Space → Nat
  | .hbm => 141
  | .vmem => 0
  | .smem => 0
  | _ => 0

abbrev hbmTy0_0 (i : Nat) : BufTy := match i % 128 with
  | 0 => ⟨S4x2048x5120, .f32⟩
  | 1 => ⟨S12x64x576, .f32⟩
  | 2 => ⟨S4x2048x1536, .f32⟩
  | 3 => ⟨S4x2048x12x128, .f32⟩
  | 4 => ⟨S4x2048x1536, .f32⟩
  | 5 => ⟨S4x2048x12x128, .f32⟩
  | 6 => ⟨S4x2048x1536, .f32⟩
  | 7 => ⟨S4x2048x12x128, .f32⟩
  | 8 => ⟨S_, .i32⟩
  | 9 => ⟨S_, .f32⟩
  | 10 => ⟨S4x2560x12x128, .f32⟩
  | 11 => ⟨S_, .i32⟩
  | 12 => ⟨S_, .f32⟩
  | 13 => ⟨S4x2560x12x128, .f32⟩
  | 14 => ⟨S4x32x64x12x128, .f32⟩
  | 15 => ⟨S32, .i32⟩
  | 16 => ⟨S32x1, .i32⟩
  | 17 => ⟨S_, .i32⟩
  | 18 => ⟨S32x1, .i32⟩
  | 19 => ⟨S32x1, .i32⟩
  | 20 => ⟨S576, .i32⟩
  | 21 => ⟨S1x576, .i32⟩
  | 22 => ⟨S32x576, .i32⟩
  | 23 => ⟨S32x576, .i32⟩
  | 24 => ⟨S32x576, .i32⟩
  | 25 => ⟨S_, .i32⟩
  | 26 => ⟨S32x576, .i32⟩
  | 27 => ⟨S32x576, .i1⟩
  | 28 => ⟨S_, .i32⟩
  | 29 => ⟨S32x576, .i32⟩
  | 30 => ⟨S32x576, .i32⟩
  | 31 => ⟨S32x576, .i32⟩
  | 32 => ⟨S32x576x1, .i32⟩
  | 33 => ⟨S4x32x576x12x128, .f32⟩
  | 34 => ⟨S_, .i32⟩
  | 35 => ⟨S32x576, .i32⟩
  | 36 => ⟨S32x576, .i1⟩
  | 37 => ⟨S_, .i32⟩
  | 38 => ⟨S32x576, .i32⟩
  | 39 => ⟨S32x576, .i32⟩
  | 40 => ⟨S32x576, .i32⟩
  | 41 => ⟨S32x576x1, .i32⟩
  | 42 => ⟨S4x32x576x12x128, .f32⟩
  | 43 => ⟨S32, .i32⟩
  | 44 => ⟨S32x1, .i32⟩
  | 45 => ⟨S_, .i32⟩
  | 46 => ⟨S32x1, .i32⟩
  | 47 => ⟨S32x1, .i32⟩
  | 48 => ⟨S64, .i32⟩
  | 49 => ⟨S1x64, .i32⟩
  | 50 => ⟨S32x64, .i32⟩
  | 51 => ⟨S32x64, .i32⟩
  | 52 => ⟨S32x64, .i32⟩
  | 53 => ⟨S_, .i32⟩
  | 54 => ⟨S32x576, .i32⟩
  | 55 => ⟨S32x576, .i32⟩
  | 56 => ⟨S32x64x1, .i32⟩
  | 57 => ⟨S_, .i32⟩
  | 58 => ⟨S_, .i32⟩
  | 59 => ⟨S32x64x1, .i32⟩
  | 60 => ⟨S32x64x1, .i32⟩
  | 61 => ⟨S32x64x1, .i32⟩
  | 62 => ⟨S_, .i32⟩
  | 63 => ⟨S32x64x1, .i32⟩
  | 64 => ⟨S32x64x1, .i1⟩
  | 65 => ⟨S32x64x1, .i32⟩
  | 66 => ⟨S32x64x1, .i32⟩
  | 67 => ⟨S_, .i32⟩
  | 68 => ⟨S32x64x1, .i32⟩
  | 69 => ⟨S32x64x1, .i1⟩
  | 70 => ⟨S32x64x1, .i1⟩
  | 71 => ⟨S_, .i32⟩
  | 72 => ⟨S32x64x1, .i32⟩
  | 73 => ⟨S32x64x1, .i32⟩
  | 74 => ⟨S32x64x1, .i32⟩
  | 75 => ⟨S32x1x576, .i32⟩
  | 76 => ⟨S_, .i32⟩
  | 77 => ⟨S_, .i32⟩
  | 78 => ⟨S32x1x576, .i32⟩
  | 79 => ⟨S32x1x576, .i32⟩
  | 80 => ⟨S32x1x576, .i32⟩
  | 81 => ⟨S_, .i32⟩
  | 82 => ⟨S32x1x576, .i32⟩
  | 83 => ⟨S32x1x576, .i1⟩
  | 84 => ⟨S32x1x576, .i32⟩
  | 85 => ⟨S32x1x576, .i32⟩
  | 86 => ⟨S_, .i32⟩
  | 87 => ⟨S32x1x576, .i32⟩
  | 88 => ⟨S32x1x576, .i1⟩
  | 89 => ⟨S32x1x576, .i1⟩
  | 90 => ⟨S_, .i32⟩
  | 91 => ⟨S32x1x576, .i32⟩
  | 92 => ⟨S32x1x576, .i32⟩
  | 93 => ⟨S32x1x576, .i32⟩
  | 94 => ⟨S32x1x576, .i32⟩
  | 95 => ⟨S_, .i32⟩
  | 96 => ⟨S32x1x576, .i32⟩
  | 97 => ⟨S32x1x576, .i1⟩
  | 98 => ⟨S32x64x576, .i32⟩
  | 99 => ⟨S32x64x576, .i32⟩
  | 100 => ⟨S32x64x576, .i1⟩
  | 101 => ⟨S32x64x576, .i1⟩
  | 102 => ⟨S32x64x576, .i1⟩
  | 103 => ⟨S_, .i32⟩
  | 104 => ⟨S32x64x1, .i32⟩
  | 105 => ⟨S32x64x1, .i32⟩
  | 106 => ⟨S32x64x576, .i32⟩
  | 107 => ⟨S32x64x576, .i32⟩
  | 108 => ⟨S32x64x576, .i1⟩
  | 109 => ⟨S32x64x576, .i1⟩
  | 110 => ⟨S4x32x12x64x576, .f32⟩
  | 111 => ⟨S_, .f32⟩
  | 112 => ⟨S4x32x12x64x576, .f32⟩
  | 113 => ⟨S4x32x12x64x576, .f32⟩
  | 114 => ⟨S32x1x64x576, .i1⟩
  | 115 => ⟨S1x1x12x64x576, .f32⟩
  | 116 => ⟨S4x32x12x64x576, .f32⟩
  | 117 => ⟨S4x32x12x64x576, .f32⟩
  | 118 => ⟨S_, .f32⟩
  | 119 => ⟨S_, .f32⟩
  | 120 => ⟨S4x32x12x64x576, .i1⟩
  | 121 => ⟨S4x32x12x64x576, .f32⟩
  | 122 => ⟨S4x32x12x64x576, .f32⟩
  | 123 => ⟨S_, .f32⟩
  | 124 => ⟨S4x32x12x64, .f32⟩
  | 125 => ⟨S_, .f32⟩
  | 126 => ⟨S4x32x12x64, .f32⟩
  | 127 => ⟨S4x32x12x64, .f32⟩
  | _ => ⟨S4x2048x5120, .f32⟩

abbrev hbmTy0_1 (i : Nat) : BufTy := match i % 128 with
  | 0 => ⟨S4x32x12x64x1, .f32⟩
  | 1 => ⟨S4x32x12x64x576, .f32⟩
  | 2 => ⟨S4x32x12x64x576, .f32⟩
  | 3 => ⟨S4x32x12x64x576, .f32⟩
  | 4 => ⟨S_, .f32⟩
  | 5 => ⟨S4x32x12x64, .f32⟩
  | 6 => ⟨S4x32x12x64x1, .f32⟩
  | 7 => ⟨S4x32x12x64x576, .f32⟩
  | 8 => ⟨S4x32x12x64x576, .f32⟩
  | 9 => ⟨S4x32x12x128x64, .f32⟩
  | 10 => ⟨S4x32x64x12x128, .f32⟩
  | 11 => ⟨S4x2048x1536, .f32⟩
  | 12 => ⟨S4x2048x1536, .bf16⟩
  | _ => ⟨S4x2048x5120, .f32⟩

abbrev hbmTy (i : Nat) : BufTy := match i / 128 with
  | 0 => hbmTy0_0 i
  | 1 => hbmTy0_1 i
  | _ => ⟨S4x2048x5120, .f32⟩

abbrev bufTy : (tb : Table) → Fin (tcTables nBuf tb) → BufTy
  | .hbm, ⟨i, _⟩ => hbmTy i
  | _, _ => ⟨S4x2048x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩
abbrev main_c_0 : Ref sig .tc := ⟨.hbm, 11, rfl⟩
abbrev main_call1_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_2 : Ref sig .tc := ⟨.hbm, 25, rfl⟩
abbrev main_v18 : Ref sig .tc := ⟨.hbm, 26, rfl⟩
abbrev main_v19 : Ref sig .tc := ⟨.hbm, 27, rfl⟩
abbrev main_c_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_4 : Ref sig .tc := ⟨.hbm, 34, rfl⟩
abbrev main_v25 : Ref sig .tc := ⟨.hbm, 35, rfl⟩
abbrev main_v26 : Ref sig .tc := ⟨.hbm, 36, rfl⟩
abbrev main_c_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c_6 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_c_7 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_c_8 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_v5 : Ref sig .tc := ⟨.hbm, 63, rfl⟩
abbrev main_call2_v6 : Ref sig .tc := ⟨.hbm, 64, rfl⟩
abbrev main_call2_v7 : Ref sig .tc := ⟨.hbm, 65, rfl⟩
abbrev main_call2_v8 : Ref sig .tc := ⟨.hbm, 66, rfl⟩
abbrev main_call2_c : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_c_0 : Ref sig .tc := ⟨.hbm, 71, rfl⟩
abbrev main_call2_v12 : Ref sig .tc := ⟨.hbm, 72, rfl⟩
abbrev main_call2_v13 : Ref sig .tc := ⟨.hbm, 73, rfl⟩
abbrev main_v44 : Ref sig .tc := ⟨.hbm, 74, rfl⟩
abbrev main_v45 : Ref sig .tc := ⟨.hbm, 75, rfl⟩
abbrev main_c_9 : Ref sig .tc := ⟨.hbm, 76, rfl⟩
abbrev main_call3_v0 : Ref sig .tc := ⟨.hbm, 77, rfl⟩
abbrev main_call3_v1 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_call3_v5 : Ref sig .tc := ⟨.hbm, 82, rfl⟩
abbrev main_call3_v6 : Ref sig .tc := ⟨.hbm, 83, rfl⟩
abbrev main_call3_v7 : Ref sig .tc := ⟨.hbm, 84, rfl⟩
abbrev main_call3_v8 : Ref sig .tc := ⟨.hbm, 85, rfl⟩
abbrev main_call3_c : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_c_0 : Ref sig .tc := ⟨.hbm, 90, rfl⟩
abbrev main_call3_v12 : Ref sig .tc := ⟨.hbm, 91, rfl⟩
abbrev main_call3_v13 : Ref sig .tc := ⟨.hbm, 92, rfl⟩
abbrev main_v46 : Ref sig .tc := ⟨.hbm, 93, rfl⟩
abbrev main_v47 : Ref sig .tc := ⟨.hbm, 94, rfl⟩
abbrev main_c_10 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_c_11 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_cst : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_cst_12 : Ref sig .tc := ⟨.hbm, 118, rfl⟩
abbrev main_call4_v0 : Ref sig .tc := ⟨.hbm, 119, rfl⟩
abbrev main_call4_v1 : Ref sig .tc := ⟨.hbm, 120, rfl⟩
abbrev main_call4_v2 : Ref sig .tc := ⟨.hbm, 121, rfl⟩
abbrev main_v68 : Ref sig .tc := ⟨.hbm, 122, rfl⟩
abbrev main_cst_13 : Ref sig .tc := ⟨.hbm, 123, rfl⟩
abbrev main_v69 : Ref sig .tc := ⟨.hbm, 124, rfl⟩
abbrev main_cst_14 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_cst_15 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩

abbrev nD : Nat := 1
abbrev τ : Topo := Topo.v7x

variable {F : FTy → Type} [FloatOps F]
-- ==== HgrnS.lean ====
abbrev S32x32x6656 : Shape := ⟨3, ![32, 32, 6656]⟩
abbrev S2x1536 : Shape := ⟨2, ![2, 1536]⟩
abbrev S1536 : Shape := ⟨1, ![1536]⟩
abbrev S1x32x12x128x128 : Shape := ⟨5, ![1, 32, 12, 128, 128]⟩
abbrev S1x1536 : Shape := ⟨2, ![1, 1536]⟩
abbrev S32x32x1536 : Shape := ⟨3, ![32, 32, 1536]⟩
abbrev S32x12x128x128 : Shape := ⟨4, ![32, 12, 128, 128]⟩
abbrev S1x32x1536 : Shape := ⟨3, ![1, 32, 1536]⟩
abbrev S1x1x12x128x128 : Shape := ⟨5, ![1, 1, 12, 128, 128]⟩
abbrev S1x12x128x128 : Shape := ⟨4, ![1, 12, 128, 128]⟩
abbrev S12x128x128 : Shape := ⟨3, ![12, 128, 128]⟩
abbrev S1x1x1x128x128 : Shape := ⟨5, ![1, 1, 1, 128, 128]⟩
abbrev S128x128 : Shape := ⟨2, ![128, 128]⟩
abbrev S1x128x128 : Shape := ⟨3, ![1, 128, 128]⟩
abbrev S32x32 : Shape := ⟨2, ![32, 32]⟩
abbrev S32x128 : Shape := ⟨2, ![32, 128]⟩
abbrev S1x32x128 : Shape := ⟨3, ![1, 32, 128]⟩
abbrev S2x128 : Shape := ⟨2, ![2, 128]⟩
abbrev S128 : Shape := ⟨1, ![128]⟩
abbrev S1x128 : Shape := ⟨2, ![1, 128]⟩
abbrev S32 : Shape := ⟨1, ![32]⟩
abbrev S32x1 : Shape := ⟨2, ![32, 1]⟩
abbrev S24x128 : Shape := ⟨2, ![24, 128]⟩
abbrev S8x128 : Shape := ⟨2, ![8, 128]⟩
abbrev S8x384 : Shape := ⟨2, ![8, 384]⟩
abbrev S16x128 : Shape := ⟨2, ![16, 128]⟩
abbrev S32x384 : Shape := ⟨2, ![32, 384]⟩
abbrev S1x1x128x128 : Shape := ⟨4, ![1, 1, 128, 128]⟩

abbrev nBuf : Space → Nat
  | .hbm => 7
  | .vmem => 17
  | .smem => 0
  | _ => 0

abbrev bufTy : (tb : Table) → Fin (tcTables nBuf tb) → BufTy
  | .hbm, ⟨0, _⟩ => ⟨S32x32x6656, .f32⟩
  | .hbm, ⟨1, _⟩ => ⟨S2x1536, .f32⟩
  | .hbm, ⟨2, _⟩ => ⟨S1536, .f32⟩
  | .hbm, ⟨3, _⟩ => ⟨S1x32x12x128x128, .f32⟩
  | .hbm, ⟨4, _⟩ => ⟨S1x1536, .f32⟩
  | .hbm, ⟨5, _⟩ => ⟨S32x32x1536, .bf16⟩
  | .hbm, ⟨6, _⟩ => ⟨S32x12x128x128, .f32⟩
  | .local _ .vmem, ⟨0, _⟩ => ⟨S1x32x1536, .f32⟩
  | .local _ .vmem, ⟨1, _⟩ => ⟨S1x32x1536, .f32⟩
  | .local _ .vmem, ⟨2, _⟩ => ⟨S1x32x1536, .f32⟩
  | .local _ .vmem, ⟨3, _⟩ => ⟨S1x32x1536, .f32⟩
  | .local _ .vmem, ⟨4, _⟩ => ⟨S1x32x1536, .f32⟩
  | .local _ .vmem, ⟨5, _⟩ => ⟨S1x32x1536, .f32⟩
  | .local _ .vmem, ⟨6, _⟩ => ⟨S1x32x1536, .f32⟩
  | .local _ .vmem, ⟨7, _⟩ => ⟨S1x32x1536, .f32⟩
  | .local _ .vmem, ⟨8, _⟩ => ⟨S2x1536, .f32⟩
  | .local _ .vmem, ⟨9, _⟩ => ⟨S1x1536, .f32⟩
  | .local _ .vmem, ⟨10, _⟩ => ⟨S1x1x12x128x128, .f32⟩
  | .local _ .vmem, ⟨11, _⟩ => ⟨S1x1x12x128x128, .f32⟩
  | .local _ .vmem, ⟨12, _⟩ => ⟨S1x32x1536, .bf16⟩
  | .local _ .vmem, ⟨13, _⟩ => ⟨S1x32x1536, .bf16⟩
  | .local _ .vmem, ⟨14, _⟩ => ⟨S1x12x128x128, .f32⟩
  | .local _ .vmem, ⟨15, _⟩ => ⟨S1x12x128x128, .f32⟩
  | .local _ .vmem, ⟨16, _⟩ => ⟨S12x128x128, .f32⟩
  | _, _ => ⟨S32x32x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![32, 1, 1], ![false, false, false]⟩

def k0_cond2 (i : grid0.Coords) : BitVec 1 :=
  let arg2 : BitVec 32 := BitVec.ofNat 32 (i 2).val
  let c0_i32_1242 : BitVec 32 := 0#32
  let v3723 : BitVec 1 := Scalar.cmpi .eq arg2 c0_i32_1242
  let v3724 : BitVec 32 := Scalar.extui v3723
  let c0_i32_1243 : BitVec 32 := 0#32
  let v3725 : BitVec 1 := Scalar.cmpi .ne v3724 c0_i32_1243
  v3725

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg1
  let c0_i32 : BitVec 32 := 0#32
  ![arg0.toNat, arg2.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x32x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x32x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x32x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S2x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S1x1x12x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x32x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x12x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== HgrnSRefIdeal.lean ====
abbrev S32x32x6656 : Shape := ⟨3, ![32, 32, 6656]⟩
abbrev S2x1536 : Shape := ⟨2, ![2, 1536]⟩
abbrev S1536 : Shape := ⟨1, ![1536]⟩
abbrev S1x32x12x128x128 : Shape := ⟨5, ![1, 32, 12, 128, 128]⟩
abbrev S32x12x128x128 : Shape := ⟨4, ![32, 12, 128, 128]⟩
abbrev S_ : Shape := ⟨0, ![]⟩
abbrev S1x1536 : Shape := ⟨2, ![1, 1536]⟩
abbrev S32x32x1536 : Shape := ⟨3, ![32, 32, 1536]⟩
abbrev S1x1x1536 : Shape := ⟨3, ![1, 1, 1536]⟩
abbrev S32x32x12x128 : Shape := ⟨4, ![32, 32, 12, 128]⟩
abbrev S32x1x12x128 : Shape := ⟨4, ![32, 1, 12, 128]⟩
abbrev S32x12x128 : Shape := ⟨3, ![32, 12, 128]⟩
abbrev S32x12x128x1 : Shape := ⟨4, ![32, 12, 128, 1]⟩

abbrev nBuf : Space → Nat
  | .hbm => 101
  | .vmem => 0
  | .smem => 0
  | _ => 0

abbrev bufTy : (tb : Table) → Fin (tcTables nBuf tb) → BufTy
  | .hbm, ⟨0, _⟩ => ⟨S32x32x6656, .f32⟩
  | .hbm, ⟨1, _⟩ => ⟨S2x1536, .f32⟩
  | .hbm, ⟨2, _⟩ => ⟨S1536, .f32⟩
  | .hbm, ⟨3, _⟩ => ⟨S1x32x12x128x128, .f32⟩
  | .hbm, ⟨4, _⟩ => ⟨S32x12x128x128, .f32⟩
  | .hbm, ⟨5, _⟩ => ⟨S_, .f32⟩
  | .hbm, ⟨6, _⟩ => ⟨S1536, .f32⟩
  | .hbm, ⟨7, _⟩ => ⟨S_, .f32⟩
  | .hbm, ⟨8, _⟩ => ⟨S1536, .f32⟩
  | .hbm, ⟨9, _⟩ => ⟨S1536, .f32⟩
  | .hbm, ⟨10, _⟩ => ⟨S1x1536, .f32⟩
  | .hbm, ⟨11, _⟩ => ⟨S2x1536, .f32⟩
  | .hbm, ⟨12, _⟩ => ⟨S2x1536, .f32⟩
  | .hbm, ⟨13, _⟩ => ⟨S2x1536, .f32⟩
  | .hbm, ⟨14, _⟩ => ⟨S_, .f32⟩
  | .hbm, ⟨15, _⟩ => ⟨S1536, .f32⟩
  | .hbm, ⟨16, _⟩ => ⟨S1x1536, .f32⟩
  | .hbm, ⟨17, _⟩ => ⟨S2x1536, .f32⟩
  | .hbm, ⟨18, _⟩ => ⟨S2x1536, .f32⟩
  | .hbm, ⟨19, _⟩ => ⟨S_, .f32⟩
  | .hbm, ⟨20, _⟩ => ⟨S_, .f32⟩
  | .hbm, ⟨21, _⟩ => ⟨S2x1536, .f32⟩
  | .hbm, ⟨22, _⟩ => ⟨S1x1536, .f32⟩
  | .hbm, ⟨23, _⟩ => ⟨S1536, .f32⟩
  | .hbm, ⟨24, _⟩ => ⟨S1x1536, .f32⟩
  | .hbm, ⟨25, _⟩ => ⟨S2x1536, .f32⟩
  | .hbm, ⟨26, _⟩ => ⟨S2x1536, .f32⟩
  | .hbm, ⟨27, _⟩ => ⟨S1x1536, .f32⟩
  | .hbm, ⟨28, _⟩ => ⟨S1536, .f32⟩
  | .hbm, ⟨29, _⟩ => ⟨S32x32x1536, .f32⟩
  | .hbm, ⟨30, _⟩ => ⟨S32x32x1536, .f32⟩
  | .hbm, ⟨31, _⟩ => ⟨S1536, .f32⟩
  | .hbm, ⟨32, _⟩ => ⟨S1536, .f32⟩
  | .hbm, ⟨33, _⟩ => ⟨S1536, .f32⟩
  | .hbm, ⟨34, _⟩ => ⟨S32x32x1536, .f32⟩
  | .hbm, ⟨35, _⟩ => ⟨S_, .f32⟩
  | .hbm, ⟨36, _⟩ => ⟨S32x32x1536, .f32⟩
  | .hbm, ⟨37, _⟩ => ⟨S32x32x1536, .f32⟩
  | .hbm, ⟨38, _⟩ => ⟨S32x32x1536, .f32⟩
  | .hbm, ⟨39, _⟩ => ⟨S32x32x1536, .f32⟩
  | .hbm, ⟨40, _⟩ => ⟨S32x32x1536, .i1⟩
  | .hbm, ⟨41, _⟩ => ⟨S32x32x1536, .f32⟩
  | .hbm, ⟨42, _⟩ => ⟨S32x32x1536, .f32⟩
  | .hbm, ⟨43, _⟩ => ⟨S32x32x1536, .f32⟩
  | .hbm, ⟨44, _⟩ => ⟨S32x32x1536, .f32⟩
  | .hbm, ⟨45, _⟩ => ⟨S32x32x1536, .f32⟩
  | .hbm, ⟨46, _⟩ => ⟨S32x32x1536, .f32⟩
  | .hbm, ⟨47, _⟩ => ⟨S32x32x1536, .f32⟩
  | .hbm, ⟨48, _⟩ => ⟨S32x32x1536, .f32⟩
  | .hbm, ⟨49, _⟩ => ⟨S32x32x1536, .f32⟩
  | .hbm, ⟨50, _⟩ => ⟨S1x1x1536, .f32⟩
  | .hbm, ⟨51, _⟩ => ⟨S32x32x1536, .f32⟩
  | .hbm, ⟨52, _⟩ => ⟨S32x32x1536, .f32⟩
  | .hbm, ⟨53, _⟩ => ⟨S1x1x1536, .f32⟩
  | .hbm, ⟨54, _⟩ => ⟨S32x32x1536, .f32⟩
  | .hbm, ⟨55, _⟩ => ⟨S32x32x1536, .f32⟩
  | .hbm, ⟨56, _⟩ => ⟨S32x32x1536, .f32⟩
  | .hbm, ⟨57, _⟩ => ⟨S32x32x1536, .f32⟩
  | .hbm, ⟨58, _⟩ => ⟨S32x32x1536, .i1⟩
  | .hbm, ⟨59, _⟩ => ⟨S32x32x1536, .f32⟩
  | .hbm, ⟨60, _⟩ => ⟨S32x32x1536, .f32⟩
  | .hbm, ⟨61, _⟩ => ⟨S32x32x1536, .f32⟩
  | .hbm, ⟨62, _⟩ => ⟨S32x32x1536, .f32⟩
  | .hbm, ⟨63, _⟩ => ⟨S32x32x1536, .f32⟩
  | .hbm, ⟨64, _⟩ => ⟨S32x32x1536, .f32⟩
  | .hbm, ⟨65, _⟩ => ⟨S32x32x1536, .f32⟩
  | .hbm, ⟨66, _⟩ => ⟨S32x32x1536, .f32⟩
  | .hbm, ⟨67, _⟩ => ⟨S_, .f32⟩
  | .hbm, ⟨68, _⟩ => ⟨S1536, .f32⟩
  | .hbm, ⟨69, _⟩ => ⟨S1536, .f32⟩
  | .hbm, ⟨70, _⟩ => ⟨S32x32x1536, .f32⟩
  | .hbm, ⟨71, _⟩ => ⟨S32x32x1536, .f32⟩
  | .hbm, ⟨72, _⟩ => ⟨S32x32x1536, .f32⟩
  | .hbm, ⟨73, _⟩ => ⟨S_, .f32⟩
  | .hbm, ⟨74, _⟩ => ⟨S32x32x1536, .f32⟩
  | .hbm, ⟨75, _⟩ => ⟨S32x32x1536, .f32⟩
  | .hbm, ⟨76, _⟩ => ⟨S_, .f32⟩
  | .hbm, ⟨77, _⟩ => ⟨S32x32x1536, .f32⟩
  | .hbm, ⟨78, _⟩ => ⟨S32x32x1536, .f32⟩
  | .hbm, ⟨79, _⟩ => ⟨S1x1x1536, .f32⟩
  | .hbm, ⟨80, _⟩ => ⟨S32x32x1536, .f32⟩
  | .hbm, ⟨81, _⟩ => ⟨S32x32x1536, .f32⟩
  | .hbm, ⟨82, _⟩ => ⟨S32x32x12x128, .f32⟩
  | .hbm, ⟨83, _⟩ => ⟨S32x32x12x128, .f32⟩
  | .hbm, ⟨84, _⟩ => ⟨S32x32x12x128, .f32⟩
  | .hbm, ⟨85, _⟩ => ⟨S_, .f32⟩
  | .hbm, ⟨86, _⟩ => ⟨S_, .f32⟩
  | .hbm, ⟨87, _⟩ => ⟨S32x32x12x128, .f32⟩
  | .hbm, ⟨88, _⟩ => ⟨S32x1x12x128, .f32⟩
  | .hbm, ⟨89, _⟩ => ⟨S32x12x128, .f32⟩
  | .hbm, ⟨90, _⟩ => ⟨S32x1x12x128, .f32⟩
  | .hbm, ⟨91, _⟩ => ⟨S32x32x12x128, .f32⟩
  | .hbm, ⟨92, _⟩ => ⟨S32x32x12x128, .f32⟩
  | .hbm, ⟨93, _⟩ => ⟨S32x32x12x128, .f32⟩
  | .hbm, ⟨94, _⟩ => ⟨S32x32x12x128, .f32⟩
  | .hbm, ⟨95, _⟩ => ⟨S32x12x128, .f32⟩
  | .hbm, ⟨96, _⟩ => ⟨S32x12x128x1, .f32⟩
  | .hbm, ⟨97, _⟩ => ⟨S32x12x128x128, .f32⟩
  | .hbm, ⟨98, _⟩ => ⟨S32x12x128x128, .f32⟩
  | .hbm, ⟨99, _⟩ => ⟨S32x12x128x128, .f32⟩
  | .hbm, ⟨100, _⟩ => ⟨S32x12x128x128, .f32⟩
  | _, _ => ⟨S32x32x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_call0_cst : Ref sig .tc := ⟨.hbm, 19, rfl⟩
abbrev main_call0_call0_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_call1_v0 : Ref sig .tc := ⟨.hbm, 34, rfl⟩
abbrev main_call1_call0_cst : Ref sig .tc := ⟨.hbm, 35, rfl⟩
abbrev main_call1_call0_v0 : Ref sig .tc := ⟨.hbm, 36, rfl⟩
abbrev main_call1_call0_v1 : Ref sig .tc := ⟨.hbm, 37, rfl⟩
abbrev main_call1_call0_v2 : Ref sig .tc := ⟨.hbm, 38, rfl⟩
abbrev main_call1_call0_v3 : Ref sig .tc := ⟨.hbm, 39, rfl⟩
abbrev main_call1_call0_v4 : Ref sig .tc := ⟨.hbm, 40, rfl⟩
abbrev main_call1_call0_v5 : Ref sig .tc := ⟨.hbm, 41, rfl⟩
abbrev main_call1_call0_v6 : Ref sig .tc := ⟨.hbm, 42, rfl⟩
abbrev main_call1_call0_v7 : Ref sig .tc := ⟨.hbm, 43, rfl⟩
abbrev main_call1_call0_v8 : Ref sig .tc := ⟨.hbm, 44, rfl⟩
abbrev main_call1_call0_v9 : Ref sig .tc := ⟨.hbm, 45, rfl⟩
abbrev main_call1_call0_v10 : Ref sig .tc := ⟨.hbm, 46, rfl⟩
abbrev main_call1_call0_v11 : Ref sig .tc := ⟨.hbm, 47, rfl⟩
abbrev main_call1_v1 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_2 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_3 : Ref sig .tc := ⟨.hbm, 73, rfl⟩
abbrev main_v48 : Ref sig .tc := ⟨.hbm, 74, rfl⟩
abbrev main_v49 : Ref sig .tc := ⟨.hbm, 75, rfl⟩
abbrev main_cst_4 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_call2_call0_cst : Ref sig .tc := ⟨.hbm, 85, rfl⟩
abbrev main_call2_call0_v0 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩

abbrev nD : Nat := 1
abbrev τ : Topo := Topo.v7x

variable {F : FTy → Type} [FloatOps F]
-- ==== HgrnP.lean ====
abbrev S4x2048x6656 : Shape := ⟨3, ![4, 2048, 6656]⟩
abbrev S2x1536 : Shape := ⟨2, ![2, 1536]⟩
abbrev S1536 : Shape := ⟨1, ![1536]⟩
abbrev S1x1536 : Shape := ⟨2, ![1, 1536]⟩
abbrev S4x2048x1536 : Shape := ⟨3, ![4, 2048, 1536]⟩
abbrev S4x12x128x128 : Shape := ⟨4, ![4, 12, 128, 128]⟩
abbrev S1x64x1536 : Shape := ⟨3, ![1, 64, 1536]⟩
abbrev S1x12x128x128 : Shape := ⟨4, ![1, 12, 128, 128]⟩
abbrev S12x128x128 : Shape := ⟨3, ![12, 128, 128]⟩
abbrev S128x128 : Shape := ⟨2, ![128, 128]⟩
abbrev S1x128x128 : Shape := ⟨3, ![1, 128, 128]⟩
abbrev S64x64 : Shape := ⟨2, ![64, 64]⟩
abbrev S64x128 : Shape := ⟨2, ![64, 128]⟩
abbrev S1x64x128 : Shape := ⟨3, ![1, 64, 128]⟩
abbrev S2x128 : Shape := ⟨2, ![2, 128]⟩
abbrev S128 : Shape := ⟨1, ![128]⟩
abbrev S1x128 : Shape := ⟨2, ![1, 128]⟩
abbrev S64 : Shape := ⟨1, ![64]⟩
abbrev S64x1 : Shape := ⟨2, ![64, 1]⟩
abbrev S56x128 : Shape := ⟨2, ![56, 128]⟩
abbrev S8x128 : Shape := ⟨2, ![8, 128]⟩
abbrev S8x896 : Shape := ⟨2, ![8, 896]⟩
abbrev S48x128 : Shape := ⟨2, ![48, 128]⟩
abbrev S16x128 : Shape := ⟨2, ![16, 128]⟩
abbrev S40x128 : Shape := ⟨2, ![40, 128]⟩
abbrev S24x128 : Shape := ⟨2, ![24, 128]⟩
abbrev S32x128 : Shape := ⟨2, ![32, 128]⟩
abbrev S64x896 : Shape := ⟨2, ![64, 896]⟩
abbrev S1x1x128x128 : Shape := ⟨4, ![1, 1, 128, 128]⟩

abbrev nBuf : Space → Nat
  | .hbm => 6
  | .vmem => 15
  | .smem => 0
  | _ => 0

abbrev bufTy : (tb : Table) → Fin (tcTables nBuf tb) → BufTy
  | .hbm, ⟨0, _⟩ => ⟨S4x2048x6656, .f32⟩
  | .hbm, ⟨1, _⟩ => ⟨S2x1536, .f32⟩
  | .hbm, ⟨2, _⟩ => ⟨S1536, .f32⟩
  | .hbm, ⟨3, _⟩ => ⟨S1x1536, .f32⟩
  | .hbm, ⟨4, _⟩ => ⟨S4x2048x1536, .bf16⟩
  | .hbm, ⟨5, _⟩ => ⟨S4x12x128x128, .f32⟩
  | .local _ .vmem, ⟨0, _⟩ => ⟨S1x64x1536, .f32⟩
  | .local _ .vmem, ⟨1, _⟩ => ⟨S1x64x1536, .f32⟩
  | .local _ .vmem, ⟨2, _⟩ => ⟨S1x64x1536, .f32⟩
  | .local _ .vmem, ⟨3, _⟩ => ⟨S1x64x1536, .f32⟩
  | .local _ .vmem, ⟨4, _⟩ => ⟨S1x64x1536, .f32⟩
  | .local _ .vmem, ⟨5, _⟩ => ⟨S1x64x1536, .f32⟩
  | .local _ .vmem, ⟨6, _⟩ => ⟨S1x64x1536, .f32⟩
  | .local _ .vmem, ⟨7, _⟩ => ⟨S1x64x1536, .f32⟩
  | .local _ .vmem, ⟨8, _⟩ => ⟨S2x1536, .f32⟩
  | .local _ .vmem, ⟨9, _⟩ => ⟨S1x1536, .f32⟩
  | .local _ .vmem, ⟨10, _⟩ => ⟨S1x64x1536, .bf16⟩
  | .local _ .vmem, ⟨11, _⟩ => ⟨S1x64x1536, .bf16⟩
  | .local _ .vmem, ⟨12, _⟩ => ⟨S1x12x128x128, .f32⟩
  | .local _ .vmem, ⟨13, _⟩ => ⟨S1x12x128x128, .f32⟩
  | .local _ .vmem, ⟨14, _⟩ => ⟨S12x128x128, .f32⟩
  | _, _ => ⟨S4x2048x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![4, 1, 32], ![false, false, false]⟩

def k0_cond2 (i : grid0.Coords) : BitVec 1 :=
  let arg2 : BitVec 32 := BitVec.ofNat 32 (i 2).val
  let c31_i32 : BitVec 32 := 31#32
  let v4851 : BitVec 1 := Scalar.cmpi .eq arg2 c31_i32
  let v4852 : BitVec 32 := Scalar.extui v4851
  let c0_i32_1469 : BitVec 32 := 0#32
  let v4853 : BitVec 1 := Scalar.cmpi .ne v4852 c0_i32_1469
  v4853

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg1
  let c0_i32 : BitVec 32 := 0#32
  ![arg0.toNat, arg2.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x64x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x64x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x64x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x64x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S2x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S1x64x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x12x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== HgrnPRefIdeal.lean ====
abbrev S4x2048x6656 : Shape := ⟨3, ![4, 2048, 6656]⟩
abbrev S2x1536 : Shape := ⟨2, ![2, 1536]⟩
abbrev S1536 : Shape := ⟨1, ![1536]⟩
abbrev S_ : Shape := ⟨0, ![]⟩
abbrev S1x1536 : Shape := ⟨2, ![1, 1536]⟩
abbrev S4x2048x1536 : Shape := ⟨3, ![4, 2048, 1536]⟩
abbrev S1x1x1536 : Shape := ⟨3, ![1, 1, 1536]⟩
abbrev S4x12x128x128 : Shape := ⟨4, ![4, 12, 128, 128]⟩
abbrev S4x32x64x12x128 : Shape := ⟨5, ![4, 32, 64, 12, 128]⟩
abbrev S32x4x64x12x128 : Shape := ⟨5, ![32, 4, 64, 12, 128]⟩
abbrev S1x4x64x12x128 : Shape := ⟨5, ![1, 4, 64, 12, 128]⟩
abbrev S4x64x12x128 : Shape := ⟨4, ![4, 64, 12, 128]⟩
abbrev S4x1x12x128 : Shape := ⟨4, ![4, 1, 12, 128]⟩
abbrev S4x12x128 : Shape := ⟨3, ![4, 12, 128]⟩
abbrev S4x12x128x1 : Shape := ⟨4, ![4, 12, 128, 1]⟩

abbrev nBuf : Space → Nat
  | .hbm => 131
  | .vmem => 0
  | .smem => 0
  | _ => 0

abbrev hbmTy0_0 (i : Nat) : BufTy := match i % 128 with
  | 0 => ⟨S4x2048x6656, .f32⟩
  | 1 => ⟨S2x1536, .f32⟩
  | 2 => ⟨S1536, .f32⟩
  | 3 => ⟨S_, .f32⟩
  | 4 => ⟨S1536, .f32⟩
  | 5 => ⟨S_, .f32⟩
  | 6 => ⟨S1536, .f32⟩
  | 7 => ⟨S1536, .f32⟩
  | 8 => ⟨S1x1536, .f32⟩
  | 9 => ⟨S2x1536, .f32⟩
  | 10 => ⟨S2x1536, .f32⟩
  | 11 => ⟨S2x1536, .f32⟩
  | 12 => ⟨S_, .f32⟩
  | 13 => ⟨S1536, .f32⟩
  | 14 => ⟨S1x1536, .f32⟩
  | 15 => ⟨S2x1536, .f32⟩
  | 16 => ⟨S2x1536, .f32⟩
  | 17 => ⟨S_, .f32⟩
  | 18 => ⟨S_, .f32⟩
  | 19 => ⟨S2x1536, .f32⟩
  | 20 => ⟨S1x1536, .f32⟩
  | 21 => ⟨S1536, .f32⟩
  | 22 => ⟨S1x1536, .f32⟩
  | 23 => ⟨S2x1536, .f32⟩
  | 24 => ⟨S2x1536, .f32⟩
  | 25 => ⟨S1x1536, .f32⟩
  | 26 => ⟨S1536, .f32⟩
  | 27 => ⟨S4x2048x1536, .f32⟩
  | 28 => ⟨S4x2048x1536, .f32⟩
  | 29 => ⟨S1536, .f32⟩
  | 30 => ⟨S1536, .f32⟩
  | 31 => ⟨S1536, .f32⟩
  | 32 => ⟨S4x2048x1536, .f32⟩
  | 33 => ⟨S_, .f32⟩
  | 34 => ⟨S4x2048x1536, .f32⟩
  | 35 => ⟨S4x2048x1536, .f32⟩
  | 36 => ⟨S4x2048x1536, .f32⟩
  | 37 => ⟨S4x2048x1536, .f32⟩
  | 38 => ⟨S4x2048x1536, .i1⟩
  | 39 => ⟨S4x2048x1536, .f32⟩
  | 40 => ⟨S4x2048x1536, .f32⟩
  | 41 => ⟨S4x2048x1536, .f32⟩
  | 42 => ⟨S4x2048x1536, .f32⟩
  | 43 => ⟨S4x2048x1536, .f32⟩
  | 44 => ⟨S4x2048x1536, .f32⟩
  | 45 => ⟨S4x2048x1536, .f32⟩
  | 46 => ⟨S4x2048x1536, .f32⟩
  | 47 => ⟨S1x1x1536, .f32⟩
  | 48 => ⟨S4x2048x1536, .f32⟩
  | 49 => ⟨S4x2048x1536, .f32⟩
  | 50 => ⟨S1x1x1536, .f32⟩
  | 51 => ⟨S4x2048x1536, .f32⟩
  | 52 => ⟨S4x2048x1536, .f32⟩
  | 53 => ⟨S4x2048x1536, .f32⟩
  | 54 => ⟨S4x2048x1536, .f32⟩
  | 55 => ⟨S4x2048x1536, .i1⟩
  | 56 => ⟨S4x2048x1536, .f32⟩
  | 57 => ⟨S4x2048x1536, .f32⟩
  | 58 => ⟨S4x2048x1536, .f32⟩
  | 59 => ⟨S4x2048x1536, .f32⟩
  | 60 => ⟨S4x2048x1536, .f32⟩
  | 61 => ⟨S4x2048x1536, .f32⟩
  | 62 => ⟨S4x2048x1536, .f32⟩
  | 63 => ⟨S4x2048x1536, .f32⟩
  | 64 => ⟨S_, .f32⟩
  | 65 => ⟨S1536, .f32⟩
  | 66 => ⟨S1536, .f32⟩
  | 67 => ⟨S4x2048x1536, .f32⟩
  | 68 => ⟨S4x2048x1536, .f32⟩
  | 69 => ⟨S4x2048x1536, .f32⟩
  | 70 => ⟨S_, .f32⟩
  | 71 => ⟨S4x2048x1536, .f32⟩
  | 72 => ⟨S4x2048x1536, .f32⟩
  | 73 => ⟨S_, .f32⟩
  | 74 => ⟨S4x2048x1536, .f32⟩
  | 75 => ⟨S4x2048x1536, .f32⟩
  | 76 => ⟨S1x1x1536, .f32⟩
  | 77 => ⟨S4x2048x1536, .f32⟩
  | 78 => ⟨S4x2048x1536, .f32⟩
  | 79 => ⟨S_, .f32⟩
  | 80 => ⟨S4x12x128x128, .f32⟩
  | 81 => ⟨S4x32x64x12x128, .f32⟩
  | 82 => ⟨S32x4x64x12x128, .f32⟩
  | 83 => ⟨S4x32x64x12x128, .f32⟩
  | 84 => ⟨S32x4x64x12x128, .f32⟩
  | 85 => ⟨S4x32x64x12x128, .f32⟩
  | 86 => ⟨S32x4x64x12x128, .f32⟩
  | 87 => ⟨S_, .i32⟩
  | 88 => ⟨S32x4x64x12x128, .f32⟩
  | 89 => ⟨S32x4x64x12x128, .f32⟩
  | 90 => ⟨S32x4x64x12x128, .f32⟩
  | 91 => ⟨S_, .i32⟩
  | 92 => ⟨S4x12x128x128, .f32⟩
  | 93 => ⟨S_, .i32⟩
  | 94 => ⟨S_, .i1⟩
  | 95 => ⟨S_, .i32⟩
  | 96 => ⟨S_, .i32⟩
  | 97 => ⟨S_, .i32⟩
  | 98 => ⟨S_, .i32⟩
  | 99 => ⟨S1x4x64x12x128, .f32⟩
  | 100 => ⟨S4x64x12x128, .f32⟩
  | 101 => ⟨S_, .i32⟩
  | 102 => ⟨S_, .i32⟩
  | 103 => ⟨S_, .i32⟩
  | 104 => ⟨S_, .i32⟩
  | 105 => ⟨S1x4x64x12x128, .f32⟩
  | 106 => ⟨S4x64x12x128, .f32⟩
  | 107 => ⟨S_, .i32⟩
  | 108 => ⟨S_, .i32⟩
  | 109 => ⟨S_, .i32⟩
  | 110 => ⟨S_, .i32⟩
  | 111 => ⟨S1x4x64x12x128, .f32⟩
  | 112 => ⟨S4x64x12x128, .f32⟩
  | 113 => ⟨S_, .f32⟩
  | 114 => ⟨S_, .f32⟩
  | 115 => ⟨S4x64x12x128, .f32⟩
  | 116 => ⟨S4x1x12x128, .f32⟩
  | 117 => ⟨S4x12x128, .f32⟩
  | 118 => ⟨S4x1x12x128, .f32⟩
  | 119 => ⟨S4x64x12x128, .f32⟩
  | 120 => ⟨S4x64x12x128, .f32⟩
  | 121 => ⟨S4x64x12x128, .f32⟩
  | 122 => ⟨S4x64x12x128, .f32⟩
  | 123 => ⟨S4x12x128, .f32⟩
  | 124 => ⟨S4x12x128x1, .f32⟩
  | 125 => ⟨S4x12x128x128, .f32⟩
  | 126 => ⟨S4x12x128x128, .f32⟩
  | 127 => ⟨S4x12x128x128, .f32⟩
  | _ => ⟨S4x2048x6656, .f32⟩

abbrev hbmTy0_1 (i : Nat) : BufTy := match i % 128 with
  | 0 => ⟨S4x12x128x128, .f32⟩
  | 1 => ⟨S_, .i32⟩
  | 2 => ⟨S_, .i32⟩
  | _ => ⟨S4x2048x6656, .f32⟩

abbrev hbmTy (i : Nat) : BufTy := match i / 128 with
  | 0 => hbmTy0_0 i
  | 1 => hbmTy0_1 i
  | _ => ⟨S4x2048x6656, .f32⟩

abbrev bufTy : (tb : Table) → Fin (tcTables nBuf tb) → BufTy
  | .hbm, ⟨i, _⟩ => hbmTy i
  | _, _ => ⟨S4x2048x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_call0_cst : Ref sig .tc := ⟨.hbm, 17, rfl⟩
abbrev main_call0_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_call1_cst : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_2 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_3 : Ref sig .tc := ⟨.hbm, 70, rfl⟩
abbrev main_v48 : Ref sig .tc := ⟨.hbm, 71, rfl⟩
abbrev main_v49 : Ref sig .tc := ⟨.hbm, 72, rfl⟩
abbrev main_cst_4 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_5 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c : Ref sig .tc := ⟨.hbm, 87, rfl⟩
abbrev main_v62_0 : Ref sig .tc := ⟨.hbm, 88, rfl⟩
abbrev main_v62_1 : Ref sig .tc := ⟨.hbm, 89, rfl⟩
abbrev main_v62_2 : Ref sig .tc := ⟨.hbm, 90, rfl⟩
abbrev main_v62_3 : Ref sig .tc := ⟨.hbm, 91, rfl⟩
abbrev main_v62_4 : Ref sig .tc := ⟨.hbm, 92, rfl⟩
abbrev main_while0c_c_10 : Ref sig .tc := ⟨.hbm, 93, rfl⟩
abbrev main_while0c_v63 : Ref sig .tc := ⟨.hbm, 94, rfl⟩
abbrev main_while0b_call2_c : Ref sig .tc := ⟨.hbm, 95, rfl⟩
abbrev main_while0b_call2_c_0 : Ref sig .tc := ⟨.hbm, 96, rfl⟩
abbrev main_while0b_call2_c_1 : Ref sig .tc := ⟨.hbm, 97, rfl⟩
abbrev main_while0b_call2_c_2 : Ref sig .tc := ⟨.hbm, 98, rfl⟩
abbrev main_while0b_call2_v0 : Ref sig .tc := ⟨.hbm, 99, rfl⟩
abbrev main_while0b_v63 : Ref sig .tc := ⟨.hbm, 100, rfl⟩
abbrev main_while0b_call3_c : Ref sig .tc := ⟨.hbm, 101, rfl⟩
abbrev main_while0b_call3_c_0 : Ref sig .tc := ⟨.hbm, 102, rfl⟩
abbrev main_while0b_call3_c_1 : Ref sig .tc := ⟨.hbm, 103, rfl⟩
abbrev main_while0b_call3_c_2 : Ref sig .tc := ⟨.hbm, 104, rfl⟩
abbrev main_while0b_call3_v0 : Ref sig .tc := ⟨.hbm, 105, rfl⟩
abbrev main_while0b_v64 : Ref sig .tc := ⟨.hbm, 106, rfl⟩
abbrev main_while0b_call4_c : Ref sig .tc := ⟨.hbm, 107, rfl⟩
abbrev main_while0b_call4_c_0 : Ref sig .tc := ⟨.hbm, 108, rfl⟩
abbrev main_while0b_call4_c_1 : Ref sig .tc := ⟨.hbm, 109, rfl⟩
abbrev main_while0b_call4_c_2 : Ref sig .tc := ⟨.hbm, 110, rfl⟩
abbrev main_while0b_call4_v0 : Ref sig .tc := ⟨.hbm, 111, rfl⟩
abbrev main_while0b_v65 : Ref sig .tc := ⟨.hbm, 112, rfl⟩
abbrev main_while0b_call5_call0_cst : Ref sig .tc := ⟨.hbm, 113, rfl⟩
abbrev main_while0b_call5_call0_v0 : Ref sig .tc := ⟨.hbm, 114, rfl⟩
abbrev main_while0b_v66 : Ref sig .tc := ⟨.hbm, 115, rfl⟩
abbrev main_while0b_v67 : Ref sig .tc := ⟨.hbm, 116, rfl⟩
abbrev main_while0b_v68 : Ref sig .tc := ⟨.hbm, 117, rfl⟩
abbrev main_while0b_v69 : Ref sig .tc := ⟨.hbm, 118, rfl⟩
abbrev main_while0b_v70 : Ref sig .tc := ⟨.hbm, 119, rfl⟩
abbrev main_while0b_v71 : Ref sig .tc := ⟨.hbm, 120, rfl⟩
abbrev main_while0b_v72 : Ref sig .tc := ⟨.hbm, 121, rfl⟩
abbrev main_while0b_v73 : Ref sig .tc := ⟨.hbm, 122, rfl⟩
abbrev main_while0b_v74 : Ref sig .tc := ⟨.hbm, 123, rfl⟩
abbrev main_while0b_v75 : Ref sig .tc := ⟨.hbm, 124, rfl⟩
abbrev main_while0b_v76 : Ref sig .tc := ⟨.hbm, 125, rfl⟩
abbrev main_while0b_v77 : Ref sig .tc := ⟨.hbm, 126, rfl⟩
abbrev main_while0b_v78 : Ref sig .tc := ⟨.hbm, 127, rfl⟩
abbrev main_while0b_v79 : Ref sig .tc := ⟨.hbm, 128, rfl⟩
abbrev main_while0b_c_10 : Ref sig .tc := ⟨.hbm, 129, rfl⟩
abbrev main_while0b_v80 : Ref sig .tc := ⟨.hbm, 130, rfl⟩

abbrev nD : Nat := 1
abbrev τ : Topo := Topo.v7x

variable {F : FTy → Type} [FloatOps F]

abbrev main_while0_count : Scf.Loop 32 := ⟨0#32, 32#32, 1#32⟩
-- ==== Peer.lean ====
abbrev S2048x8192 : Shape := ⟨2, ![2048, 8192]⟩
abbrev S2x16384x2048 : Shape := ⟨3, ![2, 16384, 2048]⟩
abbrev S8x128x8192 : Shape := ⟨3, ![8, 128, 8192]⟩
abbrev S8192x2048 : Shape := ⟨2, ![8192, 2048]⟩
abbrev S2048 : Shape := ⟨1, ![2048]⟩
abbrev S2x2048x16384 : Shape := ⟨3, ![2, 2048, 16384]⟩
abbrev S1x2048 : Shape := ⟨2, ![1, 2048]⟩
abbrev S2048x512 : Shape := ⟨2, ![2048, 512]⟩
abbrev S1x1024x2048 : Shape := ⟨3, ![1, 1024, 2048]⟩
abbrev S1x512x2048 : Shape := ⟨3, ![1, 512, 2048]⟩
abbrev S1x2048x1024 : Shape := ⟨3, ![1, 2048, 1024]⟩
abbrev S8x128x512 : Shape := ⟨3, ![8, 128, 512]⟩
abbrev S8x8x512 : Shape := ⟨3, ![8, 8, 512]⟩
abbrev S512x2048 : Shape := ⟨2, ![512, 2048]⟩
abbrev S2x512x512 : Shape := ⟨3, ![2, 512, 512]⟩
abbrev S512x512 : Shape := ⟨2, ![512, 512]⟩
abbrev S1x512x512 : Shape := ⟨3, ![1, 512, 512]⟩
abbrev S1x256 : Shape := ⟨2, ![1, 256]⟩
abbrev S128x256 : Shape := ⟨2, ![128, 256]⟩
abbrev S1x1x256 : Shape := ⟨3, ![1, 1, 256]⟩
abbrev S1x128x256 : Shape := ⟨3, ![1, 128, 256]⟩
abbrev S1x2048x512 : Shape := ⟨3, ![1, 2048, 512]⟩
abbrev S512 : Shape := ⟨1, ![512]⟩
abbrev S512x1 : Shape := ⟨2, ![512, 1]⟩

abbrev nBuf : Space → Nat
  | .hbm => 14
  | .vmem => 24
  | .smem => 0
  | _ => 0

abbrev bufTy : (tb : Table) → Fin (tcTables nBuf tb) → BufTy
  | .hbm, ⟨0, _⟩ => ⟨S2048x8192, .bf16⟩
  | .hbm, ⟨1, _⟩ => ⟨S2x16384x2048, .f32⟩
  | .hbm, ⟨2, _⟩ => ⟨S2x16384x2048, .f32⟩
  | .hbm, ⟨3, _⟩ => ⟨S8x128x8192, .bf16⟩
  | .hbm, ⟨4, _⟩ => ⟨S8x128x8192, .bf16⟩
  | .hbm, ⟨5, _⟩ => ⟨S8x128x8192, .f32⟩
  | .hbm, ⟨6, _⟩ => ⟨S8x128x8192, .f32⟩
  | .hbm, ⟨7, _⟩ => ⟨S8192x2048, .f32⟩
  | .hbm, ⟨8, _⟩ => ⟨S2048, .f32⟩
  | .hbm, ⟨9, _⟩ => ⟨S2x2048x16384, .f32⟩
  | .hbm, ⟨10, _⟩ => ⟨S2x2048x16384, .bf16⟩
  | .hbm, ⟨11, _⟩ => ⟨S2x16384x2048, .bf16⟩
  | .hbm, ⟨12, _⟩ => ⟨S1x2048, .f32⟩
  | .hbm, ⟨13, _⟩ => ⟨S8192x2048, .f32⟩
  | .local _ .vmem, ⟨0, _⟩ => ⟨S2048x512, .bf16⟩
  | .local _ .vmem, ⟨1, _⟩ => ⟨S2048x512, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x512x2048, .bf16⟩
  | .local _ .vmem, ⟨5, _⟩ => ⟨S1x512x2048, .bf16⟩
  | .local _ .vmem, ⟨6, _⟩ => ⟨S1x2048x1024, .bf16⟩
  | .local _ .vmem, ⟨7, _⟩ => ⟨S1x2048x1024, .bf16⟩
  | .local _ .vmem, ⟨8, _⟩ => ⟨S8x128x512, .bf16⟩
  | .local _ .vmem, ⟨9, _⟩ => ⟨S8x128x512, .bf16⟩
  | .local _ .vmem, ⟨10, _⟩ => ⟨S8x128x512, .bf16⟩
  | .local _ .vmem, ⟨11, _⟩ => ⟨S8x128x512, .bf16⟩
  | .local _ .vmem, ⟨12, _⟩ => ⟨S8x8x512, .f32⟩
  | .local _ .vmem, ⟨13, _⟩ => ⟨S8x8x512, .f32⟩
  | .local _ .vmem, ⟨14, _⟩ => ⟨S8x8x512, .f32⟩
  | .local _ .vmem, ⟨15, _⟩ => ⟨S8x8x512, .f32⟩
  | .local _ .vmem, ⟨16, _⟩ => ⟨S512x2048, .f32⟩
  | .local _ .vmem, ⟨17, _⟩ => ⟨S512x2048, .f32⟩
  | .local _ .vmem, ⟨18, _⟩ => ⟨S1x2048, .f32⟩
  | .local _ .vmem, ⟨19, _⟩ => ⟨S512x2048, .f32⟩
  | .local _ .vmem, ⟨20, _⟩ => ⟨S512x2048, .f32⟩
  | .local _ .vmem, ⟨21, _⟩ => ⟨S2048x512, .f32⟩
  | .local _ .vmem, ⟨22, _⟩ => ⟨S2x512x512, .f32⟩
  | .local _ .vmem, ⟨23, _⟩ => ⟨S2x512x512, .bf16⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20

abbrev nD : Nat := 1
abbrev τ : Topo := Topo.v7x

variable {F : FTy → Type} [BitOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v2759 : BitVec 1 := Scalar.cmpi .eq arg1 c15_i32
  let v2760 : BitVec 32 := Scalar.extui v2759
  let c0_i32_1855 : BitVec 32 := 0#32
  let v2761 : BitVec 1 := Scalar.cmpi .ne v2760 c0_i32_1855
  v2761

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c2_i32 : BitVec 32 := 2#32
  let v1 : BitVec 32 := Scalar.muli v0 c2_i32
  let c31_i32 : BitVec 32 := 31#32
  let v2 : BitVec 32 := Scalar.minsi v1 c31_i32
  let c1_i32_0 : BitVec 32 := 1#32
  let c0_i32 : BitVec 32 := 0#32
  let c0_i32_1 : BitVec 32 := 0#32
  ![c1_i32_0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== PeerIdeal.lean ====
abbrev S2048x8192 : Shape := ⟨2, ![2048, 8192]⟩
abbrev S2x16384x2048 : Shape := ⟨3, ![2, 16384, 2048]⟩
abbrev S8x128x8192 : Shape := ⟨3, ![8, 128, 8192]⟩
abbrev S8192x2048 : Shape := ⟨2, ![8192, 2048]⟩
abbrev S2048 : Shape := ⟨1, ![2048]⟩
abbrev S2x2048x16384 : Shape := ⟨3, ![2, 2048, 16384]⟩
abbrev S1x2048 : Shape := ⟨2, ![1, 2048]⟩
abbrev S2048x512 : Shape := ⟨2, ![2048, 512]⟩
abbrev S1x1024x2048 : Shape := ⟨3, ![1, 1024, 2048]⟩
abbrev S1x512x2048 : Shape := ⟨3, ![1, 512, 2048]⟩
abbrev S1x2048x1024 : Shape := ⟨3, ![1, 2048, 1024]⟩
abbrev S8x128x512 : Shape := ⟨3, ![8, 128, 512]⟩
abbrev S8x8x512 : Shape := ⟨3, ![8, 8, 512]⟩
abbrev S512x2048 : Shape := ⟨2, ![512, 2048]⟩
abbrev S2x512x512 : Shape := ⟨3, ![2, 512, 512]⟩
abbrev S512x512 : Shape := ⟨2, ![512, 512]⟩
abbrev S1x512x512 : Shape := ⟨3, ![1, 512, 512]⟩
abbrev S1x256 : Shape := ⟨2, ![1, 256]⟩
abbrev S128x256 : Shape := ⟨2, ![128, 256]⟩
abbrev S1x1x256 : Shape := ⟨3, ![1, 1, 256]⟩
abbrev S1x128x256 : Shape := ⟨3, ![1, 128, 256]⟩
abbrev S1x2048x512 : Shape := ⟨3, ![1, 2048, 512]⟩
abbrev S512 : Shape := ⟨1, ![512]⟩
abbrev S512x1 : Shape := ⟨2, ![512, 1]⟩

abbrev nBuf : Space → Nat
  | .hbm => 14
  | .vmem => 24
  | .smem => 0
  | _ => 0

abbrev bufTy : (tb : Table) → Fin (tcTables nBuf tb) → BufTy
  | .hbm, ⟨0, _⟩ => ⟨S2048x8192, .bf16⟩
  | .hbm, ⟨1, _⟩ => ⟨S2x16384x2048, .f32⟩
  | .hbm, ⟨2, _⟩ => ⟨S2x16384x2048, .f32⟩
  | .hbm, ⟨3, _⟩ => ⟨S8x128x8192, .bf16⟩
  | .hbm, ⟨4, _⟩ => ⟨S8x128x8192, .bf16⟩
  | .hbm, ⟨5, _⟩ => ⟨S8x128x8192, .f32⟩
  | .hbm, ⟨6, _⟩ => ⟨S8x128x8192, .f32⟩
  | .hbm, ⟨7, _⟩ => ⟨S8192x2048, .f32⟩
  | .hbm, ⟨8, _⟩ => ⟨S2048, .f32⟩
  | .hbm, ⟨9, _⟩ => ⟨S2x2048x16384, .f32⟩
  | .hbm, ⟨10, _⟩ => ⟨S2x2048x16384, .bf16⟩
  | .hbm, ⟨11, _⟩ => ⟨S2x16384x2048, .bf16⟩
  | .hbm, ⟨12, _⟩ => ⟨S1x2048, .f32⟩
  | .hbm, ⟨13, _⟩ => ⟨S8192x2048, .f32⟩
  | .local _ .vmem, ⟨0, _⟩ => ⟨S2048x512, .bf16⟩
  | .local _ .vmem, ⟨1, _⟩ => ⟨S2048x512, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x512x2048, .bf16⟩
  | .local _ .vmem, ⟨5, _⟩ => ⟨S1x512x2048, .bf16⟩
  | .local _ .vmem, ⟨6, _⟩ => ⟨S1x2048x1024, .bf16⟩
  | .local _ .vmem, ⟨7, _⟩ => ⟨S1x2048x1024, .bf16⟩
  | .local _ .vmem, ⟨8, _⟩ => ⟨S8x128x512, .bf16⟩
  | .local _ .vmem, ⟨9, _⟩ => ⟨S8x128x512, .bf16⟩
  | .local _ .vmem, ⟨10, _⟩ => ⟨S8x128x512, .bf16⟩
  | .local _ .vmem, ⟨11, _⟩ => ⟨S8x128x512, .bf16⟩
  | .local _ .vmem, ⟨12, _⟩ => ⟨S8x8x512, .f32⟩
  | .local _ .vmem, ⟨13, _⟩ => ⟨S8x8x512, .f32⟩
  | .local _ .vmem, ⟨14, _⟩ => ⟨S8x8x512, .f32⟩
  | .local _ .vmem, ⟨15, _⟩ => ⟨S8x8x512, .f32⟩
  | .local _ .vmem, ⟨16, _⟩ => ⟨S512x2048, .f32⟩
  | .local _ .vmem, ⟨17, _⟩ => ⟨S512x2048, .f32⟩
  | .local _ .vmem, ⟨18, _⟩ => ⟨S1x2048, .f32⟩
  | .local _ .vmem, ⟨19, _⟩ => ⟨S512x2048, .f32⟩
  | .local _ .vmem, ⟨20, _⟩ => ⟨S512x2048, .f32⟩
  | .local _ .vmem, ⟨21, _⟩ => ⟨S2048x512, .f32⟩
  | .local _ .vmem, ⟨22, _⟩ => ⟨S2x512x512, .f32⟩
  | .local _ .vmem, ⟨23, _⟩ => ⟨S2x512x512, .bf16⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v2759 : BitVec 1 := Scalar.cmpi .eq arg1 c15_i32
  let v2760 : BitVec 32 := Scalar.extui v2759
  let c0_i32_1855 : BitVec 32 := 0#32
  let v2761 : BitVec 1 := Scalar.cmpi .ne v2760 c0_i32_1855
  v2761

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c2_i32 : BitVec 32 := 2#32
  let v1 : BitVec 32 := Scalar.muli v0 c2_i32
  let c31_i32 : BitVec 32 := 31#32
  let v2 : BitVec 32 := Scalar.minsi v1 c31_i32
  let c1_i32_0 : BitVec 32 := 1#32
  let c0_i32 : BitVec 32 := 0#32
  let c0_i32_1 : BitVec 32 := 0#32
  ![c1_i32_0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== PeerRefIdeal.lean ====
abbrev S2048x8192 : Shape := ⟨2, ![2048, 8192]⟩
abbrev S2x16384x2048 : Shape := ⟨3, ![2, 16384, 2048]⟩
abbrev S8x128x8192 : Shape := ⟨3, ![8, 128, 8192]⟩
abbrev S8192x2048 : Shape := ⟨2, ![8192, 2048]⟩
abbrev S2048 : Shape := ⟨1, ![2048]⟩
abbrev S8x1x128x8192 : Shape := ⟨4, ![8, 1, 128, 8192]⟩
abbrev S8x128x1x8192 : Shape := ⟨4, ![8, 128, 1, 8192]⟩
abbrev S8x128x128x8192 : Shape := ⟨4, ![8, 128, 128, 8192]⟩
abbrev S_ : Shape := ⟨0, ![]⟩
abbrev S128x128x8192 : Shape := ⟨3, ![128, 128, 8192]⟩
abbrev S16384x8192 : Shape := ⟨2, ![16384, 8192]⟩
abbrev S1x16384x2048 : Shape := ⟨3, ![1, 16384, 2048]⟩
abbrev S16384x2048 : Shape := ⟨2, ![16384, 2048]⟩
abbrev S8192 : Shape := ⟨1, ![8192]⟩
abbrev S8192x1 : Shape := ⟨2, ![8192, 1]⟩
abbrev S1x2048 : Shape := ⟨2, ![1, 2048]⟩

abbrev nBuf : Space → Nat
  | .hbm => 61
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S2x16384x2048, .f32⟩
  | .hbm, ⟨2, _⟩ => ⟨S2x16384x2048, .f32⟩
  | .hbm, ⟨3, _⟩ => ⟨S8x128x8192, .bf16⟩
  | .hbm, ⟨4, _⟩ => ⟨S8x128x8192, .bf16⟩
  | .hbm, ⟨5, _⟩ => ⟨S8x128x8192, .f32⟩
  | .hbm, ⟨6, _⟩ => ⟨S8x128x8192, .f32⟩
  | .hbm, ⟨7, _⟩ => ⟨S8192x2048, .f32⟩
  | .hbm, ⟨8, _⟩ => ⟨S2048, .f32⟩
  | .hbm, ⟨9, _⟩ => ⟨S8x1x128x8192, .bf16⟩
  | .hbm, ⟨10, _⟩ => ⟨S8x1x128x8192, .f32⟩
  | .hbm, ⟨11, _⟩ => ⟨S8x128x1x8192, .f32⟩
  | .hbm, ⟨12, _⟩ => ⟨S8x128x128x8192, .f32⟩
  | .hbm, ⟨13, _⟩ => ⟨S8x128x128x8192, .f32⟩
  | .hbm, ⟨14, _⟩ => ⟨S8x128x128x8192, .i1⟩
  | .hbm, ⟨15, _⟩ => ⟨S8x1x128x8192, .bf16⟩
  | .hbm, ⟨16, _⟩ => ⟨S8x1x128x8192, .f32⟩
  | .hbm, ⟨17, _⟩ => ⟨S_, .f32⟩
  | .hbm, ⟨18, _⟩ => ⟨S_, .f32⟩
  | .hbm, ⟨19, _⟩ => ⟨S8x128x128x8192, .f32⟩
  | .hbm, ⟨20, _⟩ => ⟨S8x128x128x8192, .f32⟩
  | .hbm, ⟨21, _⟩ => ⟨S8x128x128x8192, .f32⟩
  | .hbm, ⟨22, _⟩ => ⟨S8x128x1x8192, .f32⟩
  | .hbm, ⟨23, _⟩ => ⟨S8x128x128x8192, .f32⟩
  | .hbm, ⟨24, _⟩ => ⟨S8x128x128x8192, .f32⟩
  | .hbm, ⟨25, _⟩ => ⟨S_, .f32⟩
  | .hbm, ⟨26, _⟩ => ⟨S128x128x8192, .f32⟩
  | .hbm, ⟨27, _⟩ => ⟨S16384x8192, .f32⟩
  | .hbm, ⟨28, _⟩ => ⟨S1x16384x2048, .f32⟩
  | .hbm, ⟨29, _⟩ => ⟨S16384x2048, .f32⟩
  | .hbm, ⟨30, _⟩ => ⟨S16384x8192, .f32⟩
  | .hbm, ⟨31, _⟩ => ⟨S_, .f32⟩
  | .hbm, ⟨32, _⟩ => ⟨S16384x8192, .f32⟩
  | .hbm, ⟨33, _⟩ => ⟨S16384x8192, .f32⟩
  | .hbm, ⟨34, _⟩ => ⟨S16384x8192, .f32⟩
  | .hbm, ⟨35, _⟩ => ⟨S_, .f32⟩
  | .hbm, ⟨36, _⟩ => ⟨S16384x8192, .f32⟩
  | .hbm, ⟨37, _⟩ => ⟨S16384x8192, .f32⟩
  | .hbm, ⟨38, _⟩ => ⟨S16384x8192, .f32⟩
  | .hbm, ⟨39, _⟩ => ⟨S16384x8192, .f32⟩
  | .hbm, ⟨40, _⟩ => ⟨S16384x8192, .f32⟩
  | .hbm, ⟨41, _⟩ => ⟨S1x16384x2048, .f32⟩
  | .hbm, ⟨42, _⟩ => ⟨S16384x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S8192x1, .f32⟩
  | .hbm, ⟨56, _⟩ => ⟨S8192x2048, .f32⟩
  | .hbm, ⟨57, _⟩ => ⟨S8192x2048, .f32⟩
  | .hbm, ⟨58, _⟩ => ⟨S1x2048, .f32⟩
  | .hbm, ⟨59, _⟩ => ⟨S8192x2048, .f32⟩
  | .hbm, ⟨60, _⟩ => ⟨S8192x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_3 : Ref sig .tc := ⟨.hbm, 46, rfl⟩
abbrev main_v30 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩

abbrev nD : Nat := 1
abbrev τ : Topo := Topo.v7x

variable {F : FTy → Type} [FloatOps F]
-- ==== PeerS.lean ====
abbrev S2048x1024 : Shape := ⟨2, ![2048, 1024]⟩
abbrev S2x16384x2048 : Shape := ⟨3, ![2, 16384, 2048]⟩
abbrev S8x128x1024 : Shape := ⟨3, ![8, 128, 1024]⟩
abbrev S1024x2048 : Shape := ⟨2, ![1024, 2048]⟩
abbrev S2048 : Shape := ⟨1, ![2048]⟩
abbrev S2x2048x16384 : Shape := ⟨3, ![2, 2048, 16384]⟩
abbrev S1x2048 : Shape := ⟨2, ![1, 2048]⟩
abbrev S2048x512 : Shape := ⟨2, ![2048, 512]⟩
abbrev S1x1024x2048 : Shape := ⟨3, ![1, 1024, 2048]⟩
abbrev S1x512x2048 : Shape := ⟨3, ![1, 512, 2048]⟩
abbrev S1x2048x1024 : Shape := ⟨3, ![1, 2048, 1024]⟩
abbrev S8x128x512 : Shape := ⟨3, ![8, 128, 512]⟩
abbrev S8x8x512 : Shape := ⟨3, ![8, 8, 512]⟩
abbrev S512x2048 : Shape := ⟨2, ![512, 2048]⟩
abbrev S2x512x512 : Shape := ⟨3, ![2, 512, 512]⟩
abbrev S512x512 : Shape := ⟨2, ![512, 512]⟩
abbrev S1x512x512 : Shape := ⟨3, ![1, 512, 512]⟩
abbrev S1x256 : Shape := ⟨2, ![1, 256]⟩
abbrev S128x256 : Shape := ⟨2, ![128, 256]⟩
abbrev S1x1x256 : Shape := ⟨3, ![1, 1, 256]⟩
abbrev S1x128x256 : Shape := ⟨3, ![1, 128, 256]⟩
abbrev S1x2048x512 : Shape := ⟨3, ![1, 2048, 512]⟩
abbrev S512 : Shape := ⟨1, ![512]⟩
abbrev S512x1 : Shape := ⟨2, ![512, 1]⟩

abbrev nBuf : Space → Nat
  | .hbm => 14
  | .vmem => 24
  | .smem => 0
  | _ => 0

abbrev bufTy : (tb : Table) → Fin (tcTables nBuf tb) → BufTy
  | .hbm, ⟨0, _⟩ => ⟨S2048x1024, .bf16⟩
  | .hbm, ⟨1, _⟩ => ⟨S2x16384x2048, .f32⟩
  | .hbm, ⟨2, _⟩ => ⟨S2x16384x2048, .f32⟩
  | .hbm, ⟨3, _⟩ => ⟨S8x128x1024, .bf16⟩
  | .hbm, ⟨4, _⟩ => ⟨S8x128x1024, .bf16⟩
  | .hbm, ⟨5, _⟩ => ⟨S8x128x1024, .f32⟩
  | .hbm, ⟨6, _⟩ => ⟨S8x128x1024, .f32⟩
  | .hbm, ⟨7, _⟩ => ⟨S1024x2048, .f32⟩
  | .hbm, ⟨8, _⟩ => ⟨S2048, .f32⟩
  | .hbm, ⟨9, _⟩ => ⟨S2x2048x16384, .f32⟩
  | .hbm, ⟨10, _⟩ => ⟨S2x2048x16384, .bf16⟩
  | .hbm, ⟨11, _⟩ => ⟨S2x16384x2048, .bf16⟩
  | .hbm, ⟨12, _⟩ => ⟨S1x2048, .f32⟩
  | .hbm, ⟨13, _⟩ => ⟨S1024x2048, .f32⟩
  | .local _ .vmem, ⟨0, _⟩ => ⟨S2048x512, .bf16⟩
  | .local _ .vmem, ⟨1, _⟩ => ⟨S2048x512, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x512x2048, .bf16⟩
  | .local _ .vmem, ⟨5, _⟩ => ⟨S1x512x2048, .bf16⟩
  | .local _ .vmem, ⟨6, _⟩ => ⟨S1x2048x1024, .bf16⟩
  | .local _ .vmem, ⟨7, _⟩ => ⟨S1x2048x1024, .bf16⟩
  | .local _ .vmem, ⟨8, _⟩ => ⟨S8x128x512, .bf16⟩
  | .local _ .vmem, ⟨9, _⟩ => ⟨S8x128x512, .bf16⟩
  | .local _ .vmem, ⟨10, _⟩ => ⟨S8x128x512, .bf16⟩
  | .local _ .vmem, ⟨11, _⟩ => ⟨S8x128x512, .bf16⟩
  | .local _ .vmem, ⟨12, _⟩ => ⟨S8x8x512, .f32⟩
  | .local _ .vmem, ⟨13, _⟩ => ⟨S8x8x512, .f32⟩
  | .local _ .vmem, ⟨14, _⟩ => ⟨S8x8x512, .f32⟩
  | .local _ .vmem, ⟨15, _⟩ => ⟨S8x8x512, .f32⟩
  | .local _ .vmem, ⟨16, _⟩ => ⟨S512x2048, .f32⟩
  | .local _ .vmem, ⟨17, _⟩ => ⟨S512x2048, .f32⟩
  | .local _ .vmem, ⟨18, _⟩ => ⟨S1x2048, .f32⟩
  | .local _ .vmem, ⟨19, _⟩ => ⟨S512x2048, .f32⟩
  | .local _ .vmem, ⟨20, _⟩ => ⟨S512x2048, .f32⟩
  | .local _ .vmem, ⟨21, _⟩ => ⟨S2048x512, .f32⟩
  | .local _ .vmem, ⟨22, _⟩ => ⟨S2x512x512, .f32⟩
  | .local _ .vmem, ⟨23, _⟩ => ⟨S2x512x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20

abbrev nD : Nat := 1
abbrev τ : Topo := Topo.v7x

variable {F : FTy → Type} [BitOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v2759 : BitVec 1 := Scalar.cmpi .eq arg1 c15_i32
  let v2760 : BitVec 32 := Scalar.extui v2759
  let c0_i32_1855 : BitVec 32 := 0#32
  let v2761 : BitVec 1 := Scalar.cmpi .ne v2760 c0_i32_1855
  v2761

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c2_i32 : BitVec 32 := 2#32
  let v1 : BitVec 32 := Scalar.muli v0 c2_i32
  let c31_i32 : BitVec 32 := 31#32
  let v2 : BitVec 32 := Scalar.minsi v1 c31_i32
  let c1_i32_0 : BitVec 32 := 1#32
  let c0_i32 : BitVec 32 := 0#32
  let c0_i32_1 : BitVec 32 := 0#32
  ![c1_i32_0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== PeerSIdeal.lean ====
variable {F : FTy → Type} [FloatOps F]
-- ==== PeerSRefIdeal.lean ====
abbrev S2048x1024 : Shape := ⟨2, ![2048, 1024]⟩
abbrev S2x16384x2048 : Shape := ⟨3, ![2, 16384, 2048]⟩
abbrev S8x128x1024 : Shape := ⟨3, ![8, 128, 1024]⟩
abbrev S1024x2048 : Shape := ⟨2, ![1024, 2048]⟩
abbrev S2048 : Shape := ⟨1, ![2048]⟩
abbrev S8x1x128x1024 : Shape := ⟨4, ![8, 1, 128, 1024]⟩
abbrev S8x128x1x1024 : Shape := ⟨4, ![8, 128, 1, 1024]⟩
abbrev S8x128x128x1024 : Shape := ⟨4, ![8, 128, 128, 1024]⟩
abbrev S_ : Shape := ⟨0, ![]⟩
abbrev S128x128x1024 : Shape := ⟨3, ![128, 128, 1024]⟩
abbrev S16384x1024 : Shape := ⟨2, ![16384, 1024]⟩
abbrev S1x16384x2048 : Shape := ⟨3, ![1, 16384, 2048]⟩
abbrev S16384x2048 : Shape := ⟨2, ![16384, 2048]⟩
abbrev S1024 : Shape := ⟨1, ![1024]⟩
abbrev S1024x1 : Shape := ⟨2, ![1024, 1]⟩
abbrev S1x2048 : Shape := ⟨2, ![1, 2048]⟩

abbrev nBuf : Space → Nat
  | .hbm => 61
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2x16384x2048, .f32⟩
  | .hbm, ⟨2, _⟩ => ⟨S2x16384x2048, .f32⟩
  | .hbm, ⟨3, _⟩ => ⟨S8x128x1024, .bf16⟩
  | .hbm, ⟨4, _⟩ => ⟨S8x128x1024, .bf16⟩
  | .hbm, ⟨5, _⟩ => ⟨S8x128x1024, .f32⟩
  | .hbm, ⟨6, _⟩ => ⟨S8x128x1024, .f32⟩
  | .hbm, ⟨7, _⟩ => ⟨S1024x2048, .f32⟩
  | .hbm, ⟨8, _⟩ => ⟨S2048, .f32⟩
  | .hbm, ⟨9, _⟩ => ⟨S8x1x128x1024, .bf16⟩
  | .hbm, ⟨10, _⟩ => ⟨S8x1x128x1024, .f32⟩
  | .hbm, ⟨11, _⟩ => ⟨S8x128x1x1024, .f32⟩
  | .hbm, ⟨12, _⟩ => ⟨S8x128x128x1024, .f32⟩
  | .hbm, ⟨13, _⟩ => ⟨S8x128x128x1024, .f32⟩
  | .hbm, ⟨14, _⟩ => ⟨S8x128x128x1024, .i1⟩
  | .hbm, ⟨15, _⟩ => ⟨S8x1x128x1024, .bf16⟩
  | .hbm, ⟨16, _⟩ => ⟨S8x1x128x1024, .f32⟩
  | .hbm, ⟨17, _⟩ => ⟨S_, .f32⟩
  | .hbm, ⟨18, _⟩ => ⟨S_, .f32⟩
  | .hbm, ⟨19, _⟩ => ⟨S8x128x128x1024, .f32⟩
  | .hbm, ⟨20, _⟩ => ⟨S8x128x128x1024, .f32⟩
  | .hbm, ⟨21, _⟩ => ⟨S8x128x128x1024, .f32⟩
  | .hbm, ⟨22, _⟩ => ⟨S8x128x1x1024, .f32⟩
  | .hbm, ⟨23, _⟩ => ⟨S8x128x128x1024, .f32⟩
  | .hbm, ⟨24, _⟩ => ⟨S8x128x128x1024, .f32⟩
  | .hbm, ⟨25, _⟩ => ⟨S_, .f32⟩
  | .hbm, ⟨26, _⟩ => ⟨S128x128x1024, .f32⟩
  | .hbm, ⟨27, _⟩ => ⟨S16384x1024, .f32⟩
  | .hbm, ⟨28, _⟩ => ⟨S1x16384x2048, .f32⟩
  | .hbm, ⟨29, _⟩ => ⟨S16384x2048, .f32⟩
  | .hbm, ⟨30, _⟩ => ⟨S16384x1024, .f32⟩
  | .hbm, ⟨31, _⟩ => ⟨S_, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S1x16384x2048, .f32⟩
  | .hbm, ⟨42, _⟩ => ⟨S16384x2048, .f32⟩
  | .hbm, ⟨43, _⟩ => ⟨S1024x2048, .f32⟩
  | .hbm, ⟨44, _⟩ => ⟨S1024x2048, .f32⟩
  | .hbm, ⟨45, _⟩ => ⟨S1024x2048, .f32⟩
  | .hbm, ⟨46, _⟩ => ⟨S_, .f32⟩
  | .hbm, ⟨47, _⟩ => ⟨S1024, .f32⟩
  | .hbm, ⟨48, _⟩ => ⟨S1024x1, .f32⟩
  | .hbm, ⟨49, _⟩ => ⟨S_, .f32⟩
  | .hbm, ⟨50, _⟩ => ⟨S1024x1, .f32⟩
  | .hbm, ⟨51, _⟩ => ⟨S1024x1, .f32⟩
  | .hbm, ⟨52, _⟩ => ⟨S_, .f32⟩
  | .hbm, ⟨53, _⟩ => ⟨S1024x1, .f32⟩
  | .hbm, ⟨54, _⟩ => ⟨S1024x1, .f32⟩
  | .hbm, ⟨55, _⟩ => ⟨S1024x1, .f32⟩
  | .hbm, ⟨56, _⟩ => ⟨S1024x2048, .f32⟩
  | .hbm, ⟨57, _⟩ => ⟨S1024x2048, .f32⟩
  | .hbm, ⟨58, _⟩ => ⟨S1x2048, .f32⟩
  | .hbm, ⟨59, _⟩ => ⟨S1024x2048, .f32⟩
  | .hbm, ⟨60, _⟩ => ⟨S1024x2048, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_3 : Ref sig .tc := ⟨.hbm, 46, rfl⟩
abbrev main_v30 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩

abbrev nD : Nat := 1
abbrev τ : Topo := Topo.v7x

variable {F : FTy → Type} [FloatOps F]
-- ==== Proof.Project.lean ====
module

public import Idealize.ShloMosaic.Lib.Pointwise

@[expose] public section

noncomputable section

/-! The projection of one normalised row, at any extent: what the kernels' row blocks and the references' whole arrays
    both come to. -/

namespace Cert.Project

open Idealize.ShloMosaic

/-- One entry of a row scaled by the root of its mean square, then by the gain. -/
def normed (x g : Fin 2048 → EReal) (j : Fin 2048) : EReal :=
  x j * Ideal.rsqrt (Ideal.div (∑ k, x k * x k) (Ideal.ofBits .f32 0x45000000#32) + Ideal.ofBits .f32 0x358637BD#32) * g j

/-- The normalised row against one column of the weights. -/
def col (x g w : Fin 2048 → EReal) : EReal := ∑ j, normed x g j * w j

end Cert.Project
-- ==== Proof.ProjAKernel.lean ====
module

public import proofs.«01_k».proof.Proof.Gen.ProjAIdeal.Value
public import Idealize.ShloMosaic.Lib.Pointwise
public import Idealize.ShloMosaic.Lib.Pipeline.ValueKit.Point
public import proofs.«01_k».proof.Proof.Project

@[expose] public section

noncomputable section

/-! What the projection kernel leaves in its result array: at every index the projection of the normalised row. -/

namespace Cert.ProjAIdeal.Hand

open Cert.ProjAIdeal Cert.ProjAIdeal.Gen
open Idealize.ShloMosaic Idealize.ShloMosaic.TcCoe Idealize.SL.Sem

theorem pay1_apply (x : Vec Ideal S1024x2048 .f32) (g : Vec Ideal S1x2048 .f32) (y : S1024x2048.Idx) :
    k0_pay1 (F := Ideal) x g y = Project.normed (fun j => x (ix2 (y 0) j)) (fun j => g (ix2 0 j)) (y 1) := by
  pointwise [k0_pay1, Project.normed]

theorem pay2_apply (s : Vec Ideal S1024x2048 .bf16) (w : Vec Ideal S1x2048x1280 .bf16) (y : S1024x1280.Idx) :
    k0_pay2 (F := Ideal) s w y = ∑ j : Fin 2048, s (ix2 (y 0) j) * w (ix3 0 j (y 1)) := by
  pointwise [k0_pay2]

variable (m : (ℓ : Loc nD τ sig) → Buf (Elt Ideal) ℓ)

theorem row_same : ∀ t : Fin cfg0.N, ¬t.val % 4 = 0 → ∀ h : t.val - 1 < cfg0.N,
    win0_0.index t = win0_0.index ⟨t.val - 1, h⟩ ∧ win0_1.index t = win0_1.index ⟨t.val - 1, h⟩ :=
  (by decide +kernel : ∀ t : Fin grid0.N, ¬t.val % 4 = 0 → ∀ h : t.val - 1 < grid0.N,
    win0_0.index t = win0_0.index ⟨t.val - 1, h⟩ ∧ win0_1.index t = win0_1.index ⟨t.val - 1, h⟩)

/-- The scratch after point `t`: the normalised row block of that point. -/
theorem scratch_eq (c : Dev nD) : ∀ (n : ℕ) (hn : n < cfg0.N),
    (outsAt0 m c n hn).2 = k0_pay1 (F := Ideal) (iblk m c 0 ⟨n, hn⟩) (iblk m c 1 ⟨n, hn⟩) := by
  intro n
  induction n with
  | zero =>
    intro hn
    have h := outsAt0_A m c ⟨0, hn⟩ (Nat.zero_mod _)
    dsimp only at h
    rw [h]; frame_out
  | succ n ih =>
    intro hn
    by_cases h0 : (n + 1) % 4 = 0
    · have h := outsAt0_A m c ⟨n + 1, hn⟩ h0
      dsimp only at h
      rw [h]; frame_out
    · have h := outsAt0_B m c ⟨n + 1, hn⟩ h0
      dsimp only at h
      rw [h]
      refine (ih (Nat.lt_of_succ_lt hn)).trans ?_
      have e := row_same ⟨n + 1, hn⟩ h0 (Nat.lt_of_succ_lt hn)
      have e1 : win0_0.index ⟨n, Nat.lt_of_succ_lt hn⟩ = win0_0.index ⟨n + 1, hn⟩ := e.1.symm
      have e2 : win0_1.index ⟨n, Nat.lt_of_succ_lt hn⟩ = win0_1.index ⟨n + 1, hn⟩ := e.2.symm
      refine congrArg₂ _ (funext fun y => ?_) (funext fun y => ?_)
      · blk_ext [iblk, e1]
      · blk_ext [iblk, e2]

/-- The result block of point `t`. -/
theorem out_eq (c : Dev nD) (t : Fin cfg0.N) :
    (outsAt0 m c t.val t.isLt).1
      = k0_pay2 (F := Ideal) (k0_pay1 (F := Ideal) (iblk m c 0 t) (iblk m c 1 t)) (iblk m c 2 t) := by
  rw [← scratch_eq m c t.val t.isLt]
  by_cases h0 : t.val % 4 = 0
  · rw [outsAt0_A m c t h0]
    frame_out
  · rw [outsAt0_B m c t h0]
    frame_out
    exact congrArg (k0_pay2 (F := Ideal) · (iblk m c 2 t)) ((Memref.isWhole_whole cc0_scratch0).read_unread _)

/-! The windows' index maps, and the arrays the windows read. -/

theorem idx_x : ∀ t : Fin cfg0.N, win0_0.index t = ![win0_3.index t 0, 0] :=
  (by decide +kernel : ∀ t : Fin grid0.N, win0_0.index t = ![win0_3.index t 0, 0])
theorem idx_g : ∀ t : Fin cfg0.N, win0_1.index t = ![0, 0] :=
  (by decide +kernel : ∀ t : Fin grid0.N, win0_1.index t = ![0, 0])
theorem idx_w : ∀ t : Fin cfg0.N, win0_2.index t = ![0, 0, win0_3.index t 1] :=
  (by decide +kernel : ∀ t : Fin grid0.N, win0_2.index t = ![0, 0, win0_3.index t 1])

theorem read_x (c : Dev nD) (i : S8192x2048.Idx) :
    V m c main_v0 i = m ((c : Thread nD τ).loc main_arg0)
      (ix3 ⟨(i 0).val / 2048, by have : (i 0).val < 8192 := (i 0).isLt; omega⟩ ⟨(i 0).val % 2048, by omega⟩ (i 1)) := by
  entry_read
  pointwise

theorem read_g (c : Dev nD) (i : S1x2048.Idx) : V m c main_v2 i = m ((c : Thread nD τ).loc main_arg1) (ix1 (i 1)) := by
  entry_read
  pointwise

theorem read_w (c : Dev nD) (i : S1x2048x5120.Idx) : V m c main_v1 i = m ((c : Thread nD τ).loc main_arg2) i := by
  entry_read
  pointwise

/-- The whole result as a function of the three arguments. -/
def result (x : Vec Ideal S4x2048x2048 .f32) (g : Vec Ideal S2048 .f32) (w : Vec Ideal S1x2048x5120 .f32)
    (i : S8192x5120.Idx) : EReal :=
  Project.col (fun j => x (ix3 ⟨(i 0).val / 2048, by have : (i 0).val < 8192 := (i 0).isLt; omega⟩
      ⟨(i 0).val % 2048, by omega⟩ j)) (fun j => g (ix1 j)) (fun j => w (ix3 0 j (i 1)))

theorem final_o (c : Dev nD) :
    (dats m 0 c).arrAt 3 cfg0.N
      = result (m ((c : Thread nD τ).loc main_arg0)) (m ((c : Thread nD τ).loc main_arg1))
          (m ((c : Thread nD τ).loc main_arg2)) := by
  refine (dats m 0 c).arrAt_eq_of_covers 3 _ (by decide +kernel) fun t hf y => ?_
  blk_simp
  rw [after0_3, out_eq, pay2_apply]
  unfold result Project.col
  refine Finset.sum_congr (M := EReal) rfl fun j _ => ?_
  rw [pay1_apply]
  have ex := idx_x t
  have eg := idx_g t
  have ew := idx_w t
  refine congrArg₂ (· * ·) (congrFun (congrArg₂ Project.normed (funext fun k => ?_) (funext fun k => ?_)) j) ?_
  · blk_simp [iblk]
    rw [read_x]
    refine congrArg _ ?_
    blk_ext [ex]
  · blk_simp [iblk]
    rw [read_g]
    refine congrArg _ ?_
    blk_ext [eg]
  · blk_simp [iblk]
    rw [read_w]
    refine congrArg _ ?_
    blk_ext [ew]

end Cert.ProjAIdeal.Hand
-- ==== Proof.ProjAClaim.lean ====
module

public import proofs.«01_k».proof.Defs
public import proofs.«01_k».proof.Proof.Gen.ProjARefIdeal.Read
public import proofs.«01_k».proof.Proof.ProjAKernel

@[expose] public section

/-! The projection's kernel and its reference end with the same array. -/

namespace Cert.ProjAClaim

open Idealize.ShloMosaic Idealize.ShloMosaic.TcCoe Idealize.SL.Sem
open Cert.ProjARefIdeal Cert.ProjARefIdeal.Gen Cert.ProjARefIdeal.Read

/-- The reference's normalised array at an index. -/
theorem normed_apply (x0 : Vec Ideal S4x2048x2048 .f32) (x1 : Vec Ideal S2048 .f32) (b : Fin 4) (t j : Fin 2048) :
    val_main_v12 (F := Ideal) x0 x1 (ix3 b t j)
      = Project.normed (fun j => x0 (ix3 b t j)) (fun j => x1 (ix1 j)) j := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1,
    Project.normed]

theorem reference_eq (x0 : Vec Ideal S4x2048x2048 .f32) (x1 : Vec Ideal S2048 .f32) (x2 : Vec Ideal S1x2048x5120 .f32) :
    val_main_v15 (F := Ideal) x0 x1 x2 = Cert.ProjAIdeal.Hand.result x0 x1 x2 := by
  funext i
  rw [val_main_v15_apply, val_main_v14_apply]
  unfold Cert.ProjAIdeal.Hand.result Project.col
  refine Finset.sum_congr rfl fun j _ => ?_
  rw [← normed_apply, val_main_v13_apply]
  refine congrArg₂ (· * ·) (congrArg _ ?_) (congrArg _ ?_)
  · funext a
    match a with
    | ⟨0, _⟩ => refine Fin.ext ?_; simp [ix3]; omega
    | ⟨1, _⟩ => refine Fin.ext ?_; simp [ix3]; omega
    | ⟨2, _⟩ => refine Fin.ext ?_; simp [ix3]
  · funext a
    match a with
    | ⟨0, _⟩ => refine Fin.ext ?_; simp [ix3]
    | ⟨1, _⟩ => refine Fin.ext ?_; simp [ix3]; omega
    | ⟨2, _⟩ => refine Fin.ext ?_; simp [ix3]; omega

theorem algebraic : Cert.algebraic_ProjAIdeal_ProjARefIdeal := by
  intro m g m' g' _ h
  refine ⟨fun c => Cert.ProjAIdeal.Hand.result (m ((c.tc : Thread Cert.ProjAIdeal.nD Cert.ProjAIdeal.τ).loc Cert.ProjAIdeal.main_arg0))
    (m ((c.tc : Thread Cert.ProjAIdeal.nD Cert.ProjAIdeal.τ).loc Cert.ProjAIdeal.main_arg1))
    (m ((c.tc : Thread Cert.ProjAIdeal.nD Cert.ProjAIdeal.τ).loc Cert.ProjAIdeal.main_arg2)), ?_, ?_⟩
  · refine (θ_run _ _ _).mono (fun r hr c => ⟨(hr c).1.trans (Cert.ProjAIdeal.Hand.final_o m c), (hr c).2⟩)
      (Cert.ProjAIdeal.Value.run_blocks m g)
  · refine (θ_run _ _ _).mono (fun r hr c => ⟨(hr c).1.trans ?_, (hr c).2⟩) (Cert.ProjARefIdeal.Value.run m' g')
    rw [(h c).1, (h c).2.1, (h c).2.2]
    exact (val_main_v15_eq _ _ _).trans (reference_eq _ _ _)

end Cert.ProjAClaim
-- ==== Proof.ProjASKernel.lean ====
module

public import proofs.«01_k».proof.Proof.Gen.ProjASIdeal.Value
public import Idealize.ShloMosaic.Lib.Pointwise
public import Idealize.ShloMosaic.Lib.Pipeline.ValueKit.Point
public import proofs.«01_k».proof.Proof.Project

@[expose] public section

noncomputable section

/-! What the projection kernel leaves in its result array: at every index the projection of the normalised row. -/

namespace Cert.ProjASIdeal.Hand

open Cert.ProjASIdeal Cert.ProjASIdeal.Gen
open Idealize.ShloMosaic Idealize.ShloMosaic.TcCoe Idealize.SL.Sem

theorem pay1_apply (x : Vec Ideal S1024x2048 .f32) (g : Vec Ideal S1x2048 .f32) (y : S1024x2048.Idx) :
    k0_pay1 (F := Ideal) x g y = Project.normed (fun j => x (ix2 (y 0) j)) (fun j => g (ix2 0 j)) (y 1) := by
  pointwise [k0_pay1, Project.normed]

theorem pay2_apply (s : Vec Ideal S1024x2048 .bf16) (w : Vec Ideal S1x2048x1280 .bf16) (y : S1024x1280.Idx) :
    k0_pay2 (F := Ideal) s w y = ∑ j : Fin 2048, s (ix2 (y 0) j) * w (ix3 0 j (y 1)) := by
  pointwise [k0_pay2]

variable (m : (ℓ : Loc nD τ sig) → Buf (Elt Ideal) ℓ)

theorem row_same : ∀ t : Fin cfg0.N, ¬t.val % 4 = 0 → ∀ h : t.val - 1 < cfg0.N,
    win0_0.index t = win0_0.index ⟨t.val - 1, h⟩ ∧ win0_1.index t = win0_1.index ⟨t.val - 1, h⟩ :=
  (by decide +kernel : ∀ t : Fin grid0.N, ¬t.val % 4 = 0 → ∀ h : t.val - 1 < grid0.N,
    win0_0.index t = win0_0.index ⟨t.val - 1, h⟩ ∧ win0_1.index t = win0_1.index ⟨t.val - 1, h⟩)

/-- The scratch after point `t`: the normalised row block of that point. -/
theorem scratch_eq (c : Dev nD) : ∀ (n : ℕ) (hn : n < cfg0.N),
    (outsAt0 m c n hn).2 = k0_pay1 (F := Ideal) (iblk m c 0 ⟨n, hn⟩) (iblk m c 1 ⟨n, hn⟩) := by
  intro n
  induction n with
  | zero =>
    intro hn
    have h := outsAt0_A m c ⟨0, hn⟩ (Nat.zero_mod _)
    dsimp only at h
    rw [h]; frame_out
  | succ n ih =>
    intro hn
    by_cases h0 : (n + 1) % 4 = 0
    · have h := outsAt0_A m c ⟨n + 1, hn⟩ h0
      dsimp only at h
      rw [h]; frame_out
    · have h := outsAt0_B m c ⟨n + 1, hn⟩ h0
      dsimp only at h
      rw [h]
      refine (ih (Nat.lt_of_succ_lt hn)).trans ?_
      have e := row_same ⟨n + 1, hn⟩ h0 (Nat.lt_of_succ_lt hn)
      have e1 : win0_0.index ⟨n, Nat.lt_of_succ_lt hn⟩ = win0_0.index ⟨n + 1, hn⟩ := e.1.symm
      have e2 : win0_1.index ⟨n, Nat.lt_of_succ_lt hn⟩ = win0_1.index ⟨n + 1, hn⟩ := e.2.symm
      refine congrArg₂ _ (funext fun y => ?_) (funext fun y => ?_)
      · blk_ext [iblk, e1]
      · blk_ext [iblk, e2]

/-- The result block of point `t`. -/
theorem out_eq (c : Dev nD) (t : Fin cfg0.N) :
    (outsAt0 m c t.val t.isLt).1
      = k0_pay2 (F := Ideal) (k0_pay1 (F := Ideal) (iblk m c 0 t) (iblk m c 1 t)) (iblk m c 2 t) := by
  rw [← scratch_eq m c t.val t.isLt]
  by_cases h0 : t.val % 4 = 0
  · rw [outsAt0_A m c t h0]
    frame_out
  · rw [outsAt0_B m c t h0]
    frame_out
    exact congrArg (k0_pay2 (F := Ideal) · (iblk m c 2 t)) ((Memref.isWhole_whole cc0_scratch0).read_unread _)

/-! The windows' index maps, and the arrays the windows read. -/

theorem idx_x : ∀ t : Fin cfg0.N, win0_0.index t = ![win0_3.index t 0, 0] :=
  (by decide +kernel : ∀ t : Fin grid0.N, win0_0.index t = ![win0_3.index t 0, 0])
theorem idx_g : ∀ t : Fin cfg0.N, win0_1.index t = ![0, 0] :=
  (by decide +kernel : ∀ t : Fin grid0.N, win0_1.index t = ![0, 0])
theorem idx_w : ∀ t : Fin cfg0.N, win0_2.index t = ![0, 0, win0_3.index t 1] :=
  (by decide +kernel : ∀ t : Fin grid0.N, win0_2.index t = ![0, 0, win0_3.index t 1])

theorem read_x (c : Dev nD) (i : S1024x2048.Idx) :
    V m c main_v0 i = m ((c : Thread nD τ).loc main_arg0)
      (ix3 ⟨(i 0).val / 32, by have : (i 0).val < 1024 := (i 0).isLt; omega⟩ ⟨(i 0).val % 32, by omega⟩ (i 1)) := by
  entry_read
  pointwise

theorem read_g (c : Dev nD) (i : S1x2048.Idx) : V m c main_v2 i = m ((c : Thread nD τ).loc main_arg1) (ix1 (i 1)) := by
  entry_read
  pointwise

theorem read_w (c : Dev nD) (i : S1x2048x5120.Idx) : V m c main_v1 i = m ((c : Thread nD τ).loc main_arg2) i := by
  entry_read
  pointwise

/-- The whole result as a function of the three arguments. -/
def result (x : Vec Ideal S32x32x2048 .f32) (g : Vec Ideal S2048 .f32) (w : Vec Ideal S1x2048x5120 .f32)
    (i : S1024x5120.Idx) : EReal :=
  Project.col (fun j => x (ix3 ⟨(i 0).val / 32, by have : (i 0).val < 1024 := (i 0).isLt; omega⟩
      ⟨(i 0).val % 32, by omega⟩ j)) (fun j => g (ix1 j)) (fun j => w (ix3 0 j (i 1)))

theorem final_o (c : Dev nD) :
    (dats m 0 c).arrAt 3 cfg0.N
      = result (m ((c : Thread nD τ).loc main_arg0)) (m ((c : Thread nD τ).loc main_arg1))
          (m ((c : Thread nD τ).loc main_arg2)) := by
  refine (dats m 0 c).arrAt_eq_of_covers 3 _ (by decide +kernel) fun t hf y => ?_
  blk_simp
  rw [after0_3, out_eq, pay2_apply]
  unfold result Project.col
  refine Finset.sum_congr (M := EReal) rfl fun j _ => ?_
  rw [pay1_apply]
  have ex := idx_x t
  have eg := idx_g t
  have ew := idx_w t
  refine congrArg₂ (· * ·) (congrFun (congrArg₂ Project.normed (funext fun k => ?_) (funext fun k => ?_)) j) ?_
  · blk_simp [iblk]
    rw [read_x]
    refine congrArg _ ?_
    blk_ext [ex]
  · blk_simp [iblk]
    rw [read_g]
    refine congrArg _ ?_
    blk_ext [eg]
  · blk_simp [iblk]
    rw [read_w]
    refine congrArg _ ?_
    blk_ext [ew]

end Cert.ProjASIdeal.Hand
-- ==== Proof.ProjASClaim.lean ====
module

public import proofs.«01_k».proof.Defs
public import proofs.«01_k».proof.Proof.Gen.ProjASRefIdeal.Read
public import proofs.«01_k».proof.Proof.ProjASKernel

@[expose] public section

/-! The projection's kernel and its reference end with the same array. -/

namespace Cert.ProjASClaim

open Idealize.ShloMosaic Idealize.ShloMosaic.TcCoe Idealize.SL.Sem
open Cert.ProjASRefIdeal Cert.ProjASRefIdeal.Gen Cert.ProjASRefIdeal.Read

/-- The reference's normalised array at an index. -/
theorem normed_apply (x0 : Vec Ideal S32x32x2048 .f32) (x1 : Vec Ideal S2048 .f32) (b : Fin 32) (t : Fin 32) (j : Fin 2048) :
    val_main_v12 (F := Ideal) x0 x1 (ix3 b t j)
      = Project.normed (fun j => x0 (ix3 b t j)) (fun j => x1 (ix1 j)) j := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1,
    Project.normed]

theorem reference_eq (x0 : Vec Ideal S32x32x2048 .f32) (x1 : Vec Ideal S2048 .f32) (x2 : Vec Ideal S1x2048x5120 .f32) :
    val_main_v15 (F := Ideal) x0 x1 x2 = Cert.ProjASIdeal.Hand.result x0 x1 x2 := by
  funext i
  rw [val_main_v15_apply, val_main_v14_apply]
  unfold Cert.ProjASIdeal.Hand.result Project.col
  refine Finset.sum_congr rfl fun j _ => ?_
  rw [← normed_apply, val_main_v13_apply]
  refine congrArg₂ (· * ·) (congrArg _ ?_) (congrArg _ ?_)
  · funext a
    match a with
    | ⟨0, _⟩ => refine Fin.ext ?_; simp [ix3]; omega
    | ⟨1, _⟩ => refine Fin.ext ?_; simp [ix3]; omega
    | ⟨2, _⟩ => refine Fin.ext ?_; simp [ix3]
  · funext a
    match a with
    | ⟨0, _⟩ => refine Fin.ext ?_; simp [ix3]
    | ⟨1, _⟩ => refine Fin.ext ?_; simp [ix3]; omega
    | ⟨2, _⟩ => refine Fin.ext ?_; simp [ix3]; omega

theorem algebraic : Cert.algebraic_ProjASIdeal_ProjASRefIdeal := by
  intro m g m' g' _ h
  refine ⟨fun c => Cert.ProjASIdeal.Hand.result (m ((c.tc : Thread Cert.ProjASIdeal.nD Cert.ProjASIdeal.τ).loc Cert.ProjASIdeal.main_arg0))
    (m ((c.tc : Thread Cert.ProjASIdeal.nD Cert.ProjASIdeal.τ).loc Cert.ProjASIdeal.main_arg1))
    (m ((c.tc : Thread Cert.ProjASIdeal.nD Cert.ProjASIdeal.τ).loc Cert.ProjASIdeal.main_arg2)), ?_, ?_⟩
  · refine (θ_run _ _ _).mono (fun r hr c => ⟨(hr c).1.trans (Cert.ProjASIdeal.Hand.final_o m c), (hr c).2⟩)
      (Cert.ProjASIdeal.Value.run_blocks m g)
  · refine (θ_run _ _ _).mono (fun r hr c => ⟨(hr c).1.trans ?_, (hr c).2⟩) (Cert.ProjASRefIdeal.Value.run m' g')
    rw [(h c).1, (h c).2.1, (h c).2.2]
    exact (val_main_v15_eq _ _ _).trans (reference_eq _ _ _)

end Cert.ProjASClaim
-- ==== Proof.ProjBKernel.lean ====
module

public import proofs.«01_k».proof.Proof.Gen.ProjBIdeal.Value
public import Idealize.ShloMosaic.Lib.Pointwise
public import Idealize.ShloMosaic.Lib.Pipeline.ValueKit.Point
public import proofs.«01_k».proof.Proof.Project

@[expose] public section

noncomputable section

/-! What the projection kernel leaves in its result array: at every index the projection of the normalised row. -/

namespace Cert.ProjBIdeal.Hand

open Cert.ProjBIdeal Cert.ProjBIdeal.Gen
open Idealize.ShloMosaic Idealize.ShloMosaic.TcCoe Idealize.SL.Sem

theorem pay1_apply (x : Vec Ideal S1024x2048 .f32) (g : Vec Ideal S1x2048 .f32) (y : S1024x2048.Idx) :
    k0_pay1 (F := Ideal) x g y = Project.normed (fun j => x (ix2 (y 0) j)) (fun j => g (ix2 0 j)) (y 1) := by
  pointwise [k0_pay1, Project.normed]

theorem pay2_apply (s : Vec Ideal S1024x2048 .bf16) (w : Vec Ideal S1x2048x1664 .bf16) (y : S1024x1664.Idx) :
    k0_pay2 (F := Ideal) s w y = ∑ j : Fin 2048, s (ix2 (y 0) j) * w (ix3 0 j (y 1)) := by
  pointwise [k0_pay2]

variable (m : (ℓ : Loc nD τ sig) → Buf (Elt Ideal) ℓ)

theorem row_same : ∀ t : Fin cfg0.N, ¬t.val % 4 = 0 → ∀ h : t.val - 1 < cfg0.N,
    win0_0.index t = win0_0.index ⟨t.val - 1, h⟩ ∧ win0_1.index t = win0_1.index ⟨t.val - 1, h⟩ :=
  (by decide +kernel : ∀ t : Fin grid0.N, ¬t.val % 4 = 0 → ∀ h : t.val - 1 < grid0.N,
    win0_0.index t = win0_0.index ⟨t.val - 1, h⟩ ∧ win0_1.index t = win0_1.index ⟨t.val - 1, h⟩)

/-- The scratch after point `t`: the normalised row block of that point. -/
theorem scratch_eq (c : Dev nD) : ∀ (n : ℕ) (hn : n < cfg0.N),
    (outsAt0 m c n hn).2 = k0_pay1 (F := Ideal) (iblk m c 0 ⟨n, hn⟩) (iblk m c 1 ⟨n, hn⟩) := by
  intro n
  induction n with
  | zero =>
    intro hn
    have h := outsAt0_A m c ⟨0, hn⟩ (Nat.zero_mod _)
    dsimp only at h
    rw [h]; frame_out
  | succ n ih =>
    intro hn
    by_cases h0 : (n + 1) % 4 = 0
    · have h := outsAt0_A m c ⟨n + 1, hn⟩ h0
      dsimp only at h
      rw [h]; frame_out
    · have h := outsAt0_B m c ⟨n + 1, hn⟩ h0
      dsimp only at h
      rw [h]
      refine (ih (Nat.lt_of_succ_lt hn)).trans ?_
      have e := row_same ⟨n + 1, hn⟩ h0 (Nat.lt_of_succ_lt hn)
      have e1 : win0_0.index ⟨n, Nat.lt_of_succ_lt hn⟩ = win0_0.index ⟨n + 1, hn⟩ := e.1.symm
      have e2 : win0_1.index ⟨n, Nat.lt_of_succ_lt hn⟩ = win0_1.index ⟨n + 1, hn⟩ := e.2.symm
      refine congrArg₂ _ (funext fun y => ?_) (funext fun y => ?_)
      · blk_ext [iblk, e1]
      · blk_ext [iblk, e2]

/-- The result block of point `t`. -/
theorem out_eq (c : Dev nD) (t : Fin cfg0.N) :
    (outsAt0 m c t.val t.isLt).1
      = k0_pay2 (F := Ideal) (k0_pay1 (F := Ideal) (iblk m c 0 t) (iblk m c 1 t)) (iblk m c 2 t) := by
  rw [← scratch_eq m c t.val t.isLt]
  by_cases h0 : t.val % 4 = 0
  · rw [outsAt0_A m c t h0]
    frame_out
  · rw [outsAt0_B m c t h0]
    frame_out
    exact congrArg (k0_pay2 (F := Ideal) · (iblk m c 2 t)) ((Memref.isWhole_whole cc0_scratch0).read_unread _)

/-! The windows' index maps, and the arrays the windows read. -/

theorem idx_x : ∀ t : Fin cfg0.N, win0_0.index t = ![win0_3.index t 0, 0] :=
  (by decide +kernel : ∀ t : Fin grid0.N, win0_0.index t = ![win0_3.index t 0, 0])
theorem idx_g : ∀ t : Fin cfg0.N, win0_1.index t = ![0, 0] :=
  (by decide +kernel : ∀ t : Fin grid0.N, win0_1.index t = ![0, 0])
theorem idx_w : ∀ t : Fin cfg0.N, win0_2.index t = ![0, 0, win0_3.index t 1] :=
  (by decide +kernel : ∀ t : Fin grid0.N, win0_2.index t = ![0, 0, win0_3.index t 1])

theorem read_x (c : Dev nD) (i : S8192x2048.Idx) :
    V m c main_v0 i = m ((c : Thread nD τ).loc main_arg0)
      (ix3 ⟨(i 0).val / 2048, by have : (i 0).val < 8192 := (i 0).isLt; omega⟩ ⟨(i 0).val % 2048, by omega⟩ (i 1)) := by
  entry_read
  pointwise

theorem read_g (c : Dev nD) (i : S1x2048.Idx) : V m c main_v2 i = m ((c : Thread nD τ).loc main_arg1) (ix1 (i 1)) := by
  entry_read
  pointwise

theorem read_w (c : Dev nD) (i : S1x2048x6656.Idx) : V m c main_v1 i = m ((c : Thread nD τ).loc main_arg2) i := by
  entry_read
  pointwise

/-- The whole result as a function of the three arguments. -/
def result (x : Vec Ideal S4x2048x2048 .f32) (g : Vec Ideal S2048 .f32) (w : Vec Ideal S1x2048x6656 .f32)
    (i : S8192x6656.Idx) : EReal :=
  Project.col (fun j => x (ix3 ⟨(i 0).val / 2048, by have : (i 0).val < 8192 := (i 0).isLt; omega⟩
      ⟨(i 0).val % 2048, by omega⟩ j)) (fun j => g (ix1 j)) (fun j => w (ix3 0 j (i 1)))

theorem final_o (c : Dev nD) :
    (dats m 0 c).arrAt 3 cfg0.N
      = result (m ((c : Thread nD τ).loc main_arg0)) (m ((c : Thread nD τ).loc main_arg1))
          (m ((c : Thread nD τ).loc main_arg2)) := by
  refine (dats m 0 c).arrAt_eq_of_covers 3 _ (by decide +kernel) fun t hf y => ?_
  blk_simp
  rw [after0_3, out_eq, pay2_apply]
  unfold result Project.col
  refine Finset.sum_congr (M := EReal) rfl fun j _ => ?_
  rw [pay1_apply]
  have ex := idx_x t
  have eg := idx_g t
  have ew := idx_w t
  refine congrArg₂ (· * ·) (congrFun (congrArg₂ Project.normed (funext fun k => ?_) (funext fun k => ?_)) j) ?_
  · blk_simp [iblk]
    rw [read_x]
    refine congrArg _ ?_
    blk_ext [ex]
  · blk_simp [iblk]
    rw [read_g]
    refine congrArg _ ?_
    blk_ext [eg]
  · blk_simp [iblk]
    rw [read_w]
    refine congrArg _ ?_
    blk_ext [ew]

end Cert.ProjBIdeal.Hand
-- ==== Proof.ProjBClaim.lean ====
module

public import proofs.«01_k».proof.Defs
public import proofs.«01_k».proof.Proof.Gen.ProjBRefIdeal.Read
public import proofs.«01_k».proof.Proof.ProjBKernel

@[expose] public section

/-! The projection's kernel and its reference end with the same array. -/

namespace Cert.ProjBClaim

open Idealize.ShloMosaic Idealize.ShloMosaic.TcCoe Idealize.SL.Sem
open Cert.ProjBRefIdeal Cert.ProjBRefIdeal.Gen Cert.ProjBRefIdeal.Read

/-- The reference's normalised array at an index. -/
theorem normed_apply (x0 : Vec Ideal S4x2048x2048 .f32) (x1 : Vec Ideal S2048 .f32) (b : Fin 4) (t j : Fin 2048) :
    val_main_v12 (F := Ideal) x0 x1 (ix3 b t j)
      = Project.normed (fun j => x0 (ix3 b t j)) (fun j => x1 (ix1 j)) j := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1,
    Project.normed]

theorem reference_eq (x0 : Vec Ideal S4x2048x2048 .f32) (x1 : Vec Ideal S2048 .f32) (x2 : Vec Ideal S1x2048x6656 .f32) :
    val_main_v15 (F := Ideal) x0 x1 x2 = Cert.ProjBIdeal.Hand.result x0 x1 x2 := by
  funext i
  rw [val_main_v15_apply, val_main_v14_apply]
  unfold Cert.ProjBIdeal.Hand.result Project.col
  refine Finset.sum_congr rfl fun j _ => ?_
  rw [← normed_apply, val_main_v13_apply]
  refine congrArg₂ (· * ·) (congrArg _ ?_) (congrArg _ ?_)
  · funext a
    match a with
    | ⟨0, _⟩ => refine Fin.ext ?_; simp [ix3]; omega
    | ⟨1, _⟩ => refine Fin.ext ?_; simp [ix3]; omega
    | ⟨2, _⟩ => refine Fin.ext ?_; simp [ix3]
  · funext a
    match a with
    | ⟨0, _⟩ => refine Fin.ext ?_; simp [ix3]
    | ⟨1, _⟩ => refine Fin.ext ?_; simp [ix3]; omega
    | ⟨2, _⟩ => refine Fin.ext ?_; simp [ix3]; omega

theorem algebraic : Cert.algebraic_ProjBIdeal_ProjBRefIdeal := by
  intro m g m' g' _ h
  refine ⟨fun c => Cert.ProjBIdeal.Hand.result (m ((c.tc : Thread Cert.ProjBIdeal.nD Cert.ProjBIdeal.τ).loc Cert.ProjBIdeal.main_arg0))
    (m ((c.tc : Thread Cert.ProjBIdeal.nD Cert.ProjBIdeal.τ).loc Cert.ProjBIdeal.main_arg1))
    (m ((c.tc : Thread Cert.ProjBIdeal.nD Cert.ProjBIdeal.τ).loc Cert.ProjBIdeal.main_arg2)), ?_, ?_⟩
  · refine (θ_run _ _ _).mono (fun r hr c => ⟨(hr c).1.trans (Cert.ProjBIdeal.Hand.final_o m c), (hr c).2⟩)
      (Cert.ProjBIdeal.Value.run_blocks m g)
  · refine (θ_run _ _ _).mono (fun r hr c => ⟨(hr c).1.trans ?_, (hr c).2⟩) (Cert.ProjBRefIdeal.Value.run m' g')
    rw [(h c).1, (h c).2.1, (h c).2.2]
    exact (val_main_v15_eq _ _ _).trans (reference_eq _ _ _)

end Cert.ProjBClaim
-- ==== Proof.MemKv0Kernel.lean ====
module

public import proofs.«01_k».proof.Proof.Gen.MemKv0Ideal.Value
public import Idealize.ShloMosaic.Lib.Pointwise
public import Idealize.ShloMosaic.Lib.Pipeline.ValueKit.Point
public import proofs.«01_k».proof.Proof.Project

@[expose] public section

noncomputable section

/-! What the projection kernel leaves in its result array: at every index the projection of the normalised row. -/

namespace Cert.MemKv0Ideal.Hand

open Cert.MemKv0Ideal Cert.MemKv0Ideal.Gen
open Idealize.ShloMosaic Idealize.ShloMosaic.TcCoe Idealize.SL.Sem

theorem pay1_apply (x : Vec Ideal S1024x2048 .f32) (g : Vec Ideal S1x2048 .f32) (y : S1024x2048.Idx) :
    k0_pay1 (F := Ideal) x g y = Project.normed (fun j => x (ix2 (y 0) j)) (fun j => g (ix2 0 j)) (y 1) := by
  pointwise [k0_pay1, Project.normed]

theorem pay2_apply (s : Vec Ideal S1024x2048 .bf16) (w : Vec Ideal S1x2048x1024 .bf16) (y : S1024x1024.Idx) :
    k0_pay2 (F := Ideal) s w y = ∑ j : Fin 2048, s (ix2 (y 0) j) * w (ix3 0 j (y 1)) := by
  pointwise [k0_pay2]

variable (m : (ℓ : Loc nD τ sig) → Buf (Elt Ideal) ℓ)

/-- The result block of point `t`: the grid's only column step stores the scratch and reads it back. -/
theorem out_eq (c : Dev nD) (t : Fin cfg0.N) :
    (dats m 0 c).after 3 t
      = k0_pay2 (F := Ideal) (k0_pay1 (F := Ideal) (iblk m c 0 t) (iblk m c 1 t)) (iblk m c 2 t) := by
  rw [after0_3]
  unfold outsAt0
  frame_out

/-! The windows' index maps, and the arrays the windows read. -/

theorem idx_x : ∀ t : Fin cfg0.N, win0_0.index t = ![win0_3.index t 0, 0] :=
  (by decide +kernel : ∀ t : Fin grid0.N, win0_0.index t = ![win0_3.index t 0, 0])
theorem idx_g : ∀ t : Fin cfg0.N, win0_1.index t = ![0, 0] :=
  (by decide +kernel : ∀ t : Fin grid0.N, win0_1.index t = ![0, 0])
theorem idx_w : ∀ t : Fin cfg0.N, win0_2.index t = ![0, 0, win0_3.index t 1] :=
  (by decide +kernel : ∀ t : Fin grid0.N, win0_2.index t = ![0, 0, win0_3.index t 1])

theorem read_x (c : Dev nD) (i : S1024x2048.Idx) :
    V m c main_v0 i = m ((c : Thread nD τ).loc main_arg0)
      (ix3 ⟨(i 0).val / 256, by have : (i 0).val < 1024 := (i 0).isLt; omega⟩ ⟨(i 0).val % 256, by omega⟩ (i 1)) := by
  entry_read
  pointwise

theorem read_g (c : Dev nD) (i : S1x2048.Idx) : V m c main_v4 i = m ((c : Thread nD τ).loc main_arg1) (ix2 0 (i 1)) := by
  entry_read
  pointwise

theorem read_w (c : Dev nD) (i : S2x2048x1024.Idx) : V m c main_v3 i = m ((c : Thread nD τ).loc main_arg2) i := by
  entry_read
  pointwise

/-- The whole result as a function of the three arguments. -/
def result (x : Vec Ideal S4x256x2048 .f32) (g : Vec Ideal S2x2048 .f32) (w : Vec Ideal S2x2048x1024 .f32)
    (i : S1024x1024.Idx) : EReal :=
  Project.col (fun j => x (ix3 ⟨(i 0).val / 256, by have : (i 0).val < 1024 := (i 0).isLt; omega⟩
      ⟨(i 0).val % 256, by omega⟩ j)) (fun j => g (ix2 0 j)) (fun j => w (ix3 0 j (i 1)))

theorem final_o (c : Dev nD) :
    (dats m 0 c).arrAt 3 cfg0.N
      = result (m ((c : Thread nD τ).loc main_arg0)) (m ((c : Thread nD τ).loc main_arg1))
          (m ((c : Thread nD τ).loc main_arg2)) := by
  refine (dats m 0 c).arrAt_eq_of_covers 3 _ (by decide +kernel) fun t hf y => ?_
  blk_simp
  rw [out_eq, pay2_apply]
  unfold result Project.col
  refine Finset.sum_congr (M := EReal) rfl fun j _ => ?_
  rw [pay1_apply]
  have ex := idx_x t
  have eg := idx_g t
  have ew := idx_w t
  refine congrArg₂ (· * ·) (congrFun (congrArg₂ Project.normed (funext fun k => ?_) (funext fun k => ?_)) j) ?_
  · blk_simp [iblk]
    rw [read_x]
    refine congrArg _ ?_
    blk_ext [ex]
  · blk_simp [iblk]
    rw [read_g]
    refine congrArg _ ?_
    blk_ext [eg]
  · blk_simp [iblk]
    rw [read_w]
    refine congrArg _ ?_
    blk_ext [ew]

end Cert.MemKv0Ideal.Hand
-- ==== Proof.MemKv0Claim.lean ====
module

public import proofs.«01_k».proof.Defs
public import proofs.«01_k».proof.Proof.Gen.MemKv0RefIdeal.Read
public import proofs.«01_k».proof.Proof.MemKv0Kernel

@[expose] public section

/-! The projection's kernel and its reference end with the same array. -/

namespace Cert.MemKv0Claim

open Idealize.ShloMosaic Idealize.ShloMosaic.TcCoe Idealize.SL.Sem
open Cert.MemKv0RefIdeal Cert.MemKv0RefIdeal.Gen Cert.MemKv0RefIdeal.Read

/-- The reference's normalised array at an index. -/
theorem normed_apply (x0 : Vec Ideal S4x256x2048 .f32) (x1 : Vec Ideal S2x2048 .f32) (b : Fin 4) (t : Fin 256) (j : Fin 2048) :
    val_main_v14 (F := Ideal) x0 x1 (ix3 b t j)
      = Project.normed (fun j => x0 (ix3 b t j)) (fun j => x1 (ix2 0 j)) j := by
  pointwise [val_main_v14, val_main_v13, val_main_v12, val_main_v11, val_main_v10, val_main_v9, val_main_v8, val_main_v7,
    val_main_v6, val_main_v5, val_main_v4, val_main_v3, val_main_v2, val_main_cst, val_main_cst_0, val_main_cst_1,
    val_main_v1, val_main_v0, Project.normed]

theorem reference_eq (x0 : Vec Ideal S4x256x2048 .f32) (x1 : Vec Ideal S2x2048 .f32) (x2 : Vec Ideal S2x2048x1024 .f32) :
    val_main_v18 (F := Ideal) x0 x1 x2 = Cert.MemKv0Ideal.Hand.result x0 x1 x2 := by
  funext i
  rw [val_main_v18_apply, val_main_v17_apply]
  unfold Cert.MemKv0Ideal.Hand.result Project.col
  refine Finset.sum_congr rfl fun j _ => ?_
  rw [← normed_apply, val_main_v16_apply, val_main_v15_apply]
  refine congrArg₂ (· * ·) (congrArg _ ?_) (congrArg _ ?_)
  · funext a
    match a with
    | ⟨0, _⟩ => refine Fin.ext ?_; simp [ix3]; omega
    | ⟨1, _⟩ => refine Fin.ext ?_; simp [ix3]; omega
    | ⟨2, _⟩ => refine Fin.ext ?_; simp [ix3]
  · funext a
    match a with
    | ⟨0, _⟩ => refine Fin.ext ?_; simp [ix3]
    | ⟨1, _⟩ => refine Fin.ext ?_; simp [ix3]; omega
    | ⟨2, _⟩ => refine Fin.ext ?_; simp [ix3]; omega

theorem algebraic : Cert.algebraic_MemKv0Ideal_MemKv0RefIdeal := by
  intro m g m' g' _ h
  refine ⟨fun c => Cert.MemKv0Ideal.Hand.result (m ((c.tc : Thread Cert.MemKv0Ideal.nD Cert.MemKv0Ideal.τ).loc Cert.MemKv0Ideal.main_arg0))
    (m ((c.tc : Thread Cert.MemKv0Ideal.nD Cert.MemKv0Ideal.τ).loc Cert.MemKv0Ideal.main_arg1))
    (m ((c.tc : Thread Cert.MemKv0Ideal.nD Cert.MemKv0Ideal.τ).loc Cert.MemKv0Ideal.main_arg2)), ?_, ?_⟩
  · refine (θ_run _ _ _).mono (fun r hr c => ⟨(hr c).1.trans (Cert.MemKv0Ideal.Hand.final_o m c), (hr c).2⟩)
      (Cert.MemKv0Ideal.Value.run_blocks m g)
  · refine (θ_run _ _ _).mono (fun r hr c => ⟨(hr c).1.trans ?_, (hr c).2⟩) (Cert.MemKv0RefIdeal.Value.run m' g')
    rw [(h c).1, (h c).2.1, (h c).2.2]
    exact (val_main_v18_eq _ _ _).trans (reference_eq _ _ _)

end Cert.MemKv0Claim
-- ==== Proof.MemKv1Kernel.lean ====
module

public import proofs.«01_k».proof.Proof.Gen.MemKv1Ideal.Value
public import Idealize.ShloMosaic.Lib.Pointwise
public import Idealize.ShloMosaic.Lib.Pipeline.ValueKit.Point
public import proofs.«01_k».proof.Proof.Project

@[expose] public section

noncomputable section

/-! What the projection kernel leaves in its result array: at every index the projection of the normalised row. -/

namespace Cert.MemKv1Ideal.Hand

open Cert.MemKv1Ideal Cert.MemKv1Ideal.Gen
open Idealize.ShloMosaic Idealize.ShloMosaic.TcCoe Idealize.SL.Sem

theorem pay1_apply (x : Vec Ideal S1024x2048 .f32) (g : Vec Ideal S1x2048 .f32) (y : S1024x2048.Idx) :
    k0_pay1 (F := Ideal) x g y = Project.normed (fun j => x (ix2 (y 0) j)) (fun j => g (ix2 0 j)) (y 1) := by
  pointwise [k0_pay1, Project.normed]

theorem pay2_apply (s : Vec Ideal S1024x2048 .bf16) (w : Vec Ideal S1x2048x1024 .bf16) (y : S1024x1024.Idx) :
    k0_pay2 (F := Ideal) s w y = ∑ j : Fin 2048, s (ix2 (y 0) j) * w (ix3 0 j (y 1)) := by
  pointwise [k0_pay2]

variable (m : (ℓ : Loc nD τ sig) → Buf (Elt Ideal) ℓ)

/-- The result block of point `t`: the grid's only column step stores the scratch and reads it back. -/
theorem out_eq (c : Dev nD) (t : Fin cfg0.N) :
    (dats m 0 c).after 3 t
      = k0_pay2 (F := Ideal) (k0_pay1 (F := Ideal) (iblk m c 0 t) (iblk m c 1 t)) (iblk m c 2 t) := by
  rw [after0_3]
  unfold outsAt0
  frame_out

/-! The windows' index maps, and the arrays the windows read. -/

theorem idx_x : ∀ t : Fin cfg0.N, win0_0.index t = ![win0_3.index t 0, 0] :=
  (by decide +kernel : ∀ t : Fin grid0.N, win0_0.index t = ![win0_3.index t 0, 0])
theorem idx_g : ∀ t : Fin cfg0.N, win0_1.index t = ![0, 0] :=
  (by decide +kernel : ∀ t : Fin grid0.N, win0_1.index t = ![0, 0])
theorem idx_w : ∀ t : Fin cfg0.N, win0_2.index t = ![1, 0, win0_3.index t 1] :=
  (by decide +kernel : ∀ t : Fin grid0.N, win0_2.index t = ![1, 0, win0_3.index t 1])

theorem read_x (c : Dev nD) (i : S1024x2048.Idx) :
    V m c main_v0 i = m ((c : Thread nD τ).loc main_arg0)
      (ix3 ⟨(i 0).val / 256, by have : (i 0).val < 1024 := (i 0).isLt; omega⟩ ⟨(i 0).val % 256, by omega⟩ (i 1)) := by
  entry_read
  pointwise

theorem read_g (c : Dev nD) (i : S1x2048.Idx) : V m c main_v4 i = m ((c : Thread nD τ).loc main_arg1) (ix2 1 (i 1)) := by
  entry_read
  pointwise

theorem read_w (c : Dev nD) (i : S2x2048x1024.Idx) : V m c main_v3 i = m ((c : Thread nD τ).loc main_arg2) i := by
  entry_read
  pointwise

/-- The whole result as a function of the three arguments. -/
def result (x : Vec Ideal S4x256x2048 .f32) (g : Vec Ideal S2x2048 .f32) (w : Vec Ideal S2x2048x1024 .f32)
    (i : S1024x1024.Idx) : EReal :=
  Project.col (fun j => x (ix3 ⟨(i 0).val / 256, by have : (i 0).val < 1024 := (i 0).isLt; omega⟩
      ⟨(i 0).val % 256, by omega⟩ j)) (fun j => g (ix2 1 j)) (fun j => w (ix3 1 j (i 1)))

theorem final_o (c : Dev nD) :
    (dats m 0 c).arrAt 3 cfg0.N
      = result (m ((c : Thread nD τ).loc main_arg0)) (m ((c : Thread nD τ).loc main_arg1))
          (m ((c : Thread nD τ).loc main_arg2)) := by
  refine (dats m 0 c).arrAt_eq_of_covers 3 _ (by decide +kernel) fun t hf y => ?_
  blk_simp
  rw [out_eq, pay2_apply]
  unfold result Project.col
  refine Finset.sum_congr (M := EReal) rfl fun j _ => ?_
  rw [pay1_apply]
  have ex := idx_x t
  have eg := idx_g t
  have ew := idx_w t
  refine congrArg₂ (· * ·) (congrFun (congrArg₂ Project.normed (funext fun k => ?_) (funext fun k => ?_)) j) ?_
  · blk_simp [iblk]
    rw [read_x]
    refine congrArg _ ?_
    blk_ext [ex]
  · blk_simp [iblk]
    rw [read_g]
    refine congrArg _ ?_
    blk_ext [eg]
  · blk_simp [iblk]
    rw [read_w]
    refine congrArg _ ?_
    blk_ext [ew]

end Cert.MemKv1Ideal.Hand
-- ==== Proof.MemKv1Claim.lean ====
module

public import proofs.«01_k».proof.Defs
public import proofs.«01_k».proof.Proof.Gen.MemKv1RefIdeal.Read
public import proofs.«01_k».proof.Proof.MemKv1Kernel

@[expose] public section

/-! The projection's kernel and its reference end with the same array. -/

namespace Cert.MemKv1Claim

open Idealize.ShloMosaic Idealize.ShloMosaic.TcCoe Idealize.SL.Sem
open Cert.MemKv1RefIdeal Cert.MemKv1RefIdeal.Gen Cert.MemKv1RefIdeal.Read

/-- The reference's normalised array at an index. -/
theorem normed_apply (x0 : Vec Ideal S4x256x2048 .f32) (x1 : Vec Ideal S2x2048 .f32) (b : Fin 4) (t : Fin 256) (j : Fin 2048) :
    val_main_v14 (F := Ideal) x0 x1 (ix3 b t j)
      = Project.normed (fun j => x0 (ix3 b t j)) (fun j => x1 (ix2 1 j)) j := by
  pointwise [val_main_v14, val_main_v13, val_main_v12, val_main_v11, val_main_v10, val_main_v9, val_main_v8, val_main_v7,
    val_main_v6, val_main_v5, val_main_v4, val_main_v3, val_main_v2, val_main_cst, val_main_cst_0, val_main_cst_1,
    val_main_v1, val_main_v0, Project.normed]

theorem reference_eq (x0 : Vec Ideal S4x256x2048 .f32) (x1 : Vec Ideal S2x2048 .f32) (x2 : Vec Ideal S2x2048x1024 .f32) :
    val_main_v18 (F := Ideal) x0 x1 x2 = Cert.MemKv1Ideal.Hand.result x0 x1 x2 := by
  funext i
  rw [val_main_v18_apply, val_main_v17_apply]
  unfold Cert.MemKv1Ideal.Hand.result Project.col
  refine Finset.sum_congr rfl fun j _ => ?_
  rw [← normed_apply, val_main_v16_apply, val_main_v15_apply]
  refine congrArg₂ (· * ·) (congrArg _ ?_) (congrArg _ ?_)
  · funext a
    match a with
    | ⟨0, _⟩ => refine Fin.ext ?_; simp [ix3]; omega
    | ⟨1, _⟩ => refine Fin.ext ?_; simp [ix3]; omega
    | ⟨2, _⟩ => refine Fin.ext ?_; simp [ix3]
  · funext a
    match a with
    | ⟨0, _⟩ => refine Fin.ext ?_; simp [ix3]
    | ⟨1, _⟩ => refine Fin.ext ?_; simp [ix3]; omega
    | ⟨2, _⟩ => refine Fin.ext ?_; simp [ix3]; omega

theorem algebraic : Cert.algebraic_MemKv1Ideal_MemKv1RefIdeal := by
  intro m g m' g' _ h
  refine ⟨fun c => Cert.MemKv1Ideal.Hand.result (m ((c.tc : Thread Cert.MemKv1Ideal.nD Cert.MemKv1Ideal.τ).loc Cert.MemKv1Ideal.main_arg0))
    (m ((c.tc : Thread Cert.MemKv1Ideal.nD Cert.MemKv1Ideal.τ).loc Cert.MemKv1Ideal.main_arg1))
    (m ((c.tc : Thread Cert.MemKv1Ideal.nD Cert.MemKv1Ideal.τ).loc Cert.MemKv1Ideal.main_arg2)), ?_, ?_⟩
  · refine (θ_run _ _ _).mono (fun r hr c => ⟨(hr c).1.trans (Cert.MemKv1Ideal.Hand.final_o m c), (hr c).2⟩)
      (Cert.MemKv1Ideal.Value.run_blocks m g)
  · refine (θ_run _ _ _).mono (fun r hr c => ⟨(hr c).1.trans ?_, (hr c).2⟩) (Cert.MemKv1RefIdeal.Value.run m' g')
    rw [(h c).1, (h c).2.1, (h c).2.2]
    exact (val_main_v18_eq _ _ _).trans (reference_eq _ _ _)

end Cert.MemKv1Claim
-- ==== Proof.Attend.lean ====
module

public import Idealize.ShloMosaic.Lib.Pointwise

@[expose] public section

noncomputable section

/-! Softmax attention of one query row over the extended reals: the scores `s` of the row against its keys, the
    values `v` of those keys in one output column. -/

namespace Cert.Attend

open Idealize.ShloMosaic

/-- The largest score of the row. -/
def rowMax {K : ℕ} (s : Fin K → EReal) : EReal :=
  Finset.univ.fold max (Ideal.ofBits .f32 0xFF800000#32) s

/-- The row's unnormalised weight at key `k`. -/
def weight {K : ℕ} (s : Fin K → EReal) (k : Fin K) : EReal := Ideal.exp (s k - rowMax s)

/-- The weighted mean of the values, the weights normalised before they are applied. -/
def row {K : ℕ} (s v : Fin K → EReal) : EReal :=
  ∑ k, Ideal.div (weight s k) (∑ k', weight s k') * v k

theorem ofBits_neg_inf : Ideal.ofBits .f32 0xFF800000#32 = ⊥ := by
  simp [Ideal.ofBits, Ideal.ieee]

/-- The reference takes the maximum with `-inf` once more, which changes nothing. -/
theorem max_rowMax {K : ℕ} (s : Fin K → EReal) : max (Ideal.ofBits .f32 0xFF800000#32) (rowMax s) = rowMax s := by
  rw [ofBits_neg_inf]; exact max_eq_right bot_le

end Cert.Attend
-- ==== Proof.MemAttnReference.lean ====
module

public import proofs.«01_k».proof.Proof.Gen.MemAttnRefIdeal.Read
public import Idealize.ShloMosaic.Lib.Pointwise
public import proofs.«01_k».proof.Proof.Attend

@[expose] public section

noncomputable section

/-! What the memory-attention reference computes at an index: attention of one query row over the 256 memory keys of its
    batch and head. -/

namespace Cert.MemAttnRefIdeal.Hand

open Cert.MemAttnRefIdeal Cert.MemAttnRefIdeal.Gen Cert.MemAttnRefIdeal.Read
open Idealize.ShloMosaic Idealize.ShloMosaic.TcCoe Idealize.SL.Sem

/-- The scaled score of query row `t` of batch `b`, head `h`, against memory key `k`. -/
def score (x0 : Vec Ideal S4x2048x5120 .f32) (x1 : Vec Ideal S4x256x1024 .f32) (b h : Fin 4) (t : Fin 2048)
    (k : Fin 256) : EReal :=
  (∑ d : Fin 128, x0 (ix3 b t ⟨4608 + (h.val * 128 + d.val), by omega⟩) * x1 (ix3 b k ⟨h.val * 128 + d.val, by omega⟩))
    * Ideal.ofBits .f32 0x3DB504F3#32

/-- Attention of query row `t` of batch `b`, head `h`, in output column `d` of the head. -/
def attn (x0 : Vec Ideal S4x2048x5120 .f32) (x1 : Vec Ideal S4x256x1024 .f32) (b h : Fin 4) (t : Fin 2048)
    (d : Fin 128) : EReal :=
  Attend.row (score x0 x1 b h t) (fun k => x1 (ix3 b k ⟨512 + (h.val * 128 + d.val), by omega⟩))

variable (x0 : Vec Ideal S4x2048x5120 .f32) (x1 : Vec Ideal S4x256x1024 .f32)

theorem score_apply (b h : Fin 4) (t : Fin 2048) (k : Fin 256) :
    val_main_v8 (F := Ideal) x0 x1 (ix4 b h t k) = score x0 x1 b h t k := by
  rw [val_main_v8_apply, val_main_v6_apply, val_main_v7_apply, val_main_cst_apply]
  refine congrArg₂ (· * ·) (Finset.sum_congr rfl fun d _ => congrArg₂ (· * ·) ?_ ?_) rfl
  · rw [val_main_v3_apply, val_main_v2_apply]
    refine congrArg x0 (funext fun a => Fin.ext ?_)
    match a with
    | ⟨0, _⟩ => simp [ix4, ix3]; omega
    | ⟨1, _⟩ => simp [ix4, ix3]; omega
    | ⟨2, _⟩ => simp [ix4, ix3]; omega
  · rw [val_main_v4_apply, val_main_v0_apply]
    refine congrArg x1 (funext fun a => Fin.ext ?_)
    match a with
    | ⟨0, _⟩ => simp [ix4, ix3]; omega
    | ⟨1, _⟩ => simp [ix4, ix3]; omega
    | ⟨2, _⟩ => simp [ix4, ix3]; omega

theorem max_apply (b h : Fin 4) (t : Fin 2048) :
    val_main_v11 (F := Ideal) x0 x1 (ix3 b h t) = Attend.rowMax (score x0 x1 b h t) := by
  rw [val_main_v11_apply, val_main_v10_apply, val_main_cst_1_apply, ← Attend.max_rowMax]
  refine congrArg (max (Ideal.ofBits .f32 0xFF800000#32)) ?_
  unfold val_main_v9
  have hs : ∀ k, val_main_v8 (F := Ideal) x0 x1 (ix4 b h t k) = score x0 x1 b h t k := score_apply x0 x1 b h t
  generalize val_main_v8 (F := Ideal) x0 x1 = y at hs
  refine (Host.reduce_eq_fold_single (FloatOps.maximumf (F := Ideal) (φ := .f32)) y (val_main_cst_0 (F := Ideal))
    reducesTo_S4x4x2048x256_S4x4x2048_d3 (by decide) h_S_ (ix3 b h t)).trans ?_
  refine congrArg (Finset.univ.fold max (Ideal.ofBits .f32 0xFF800000#32)) (funext fun k => ?_)
  refine Eq.trans (congrArg y (funext fun a => Fin.ext ?_)) (hs k)
  match a with
  | ⟨0, _⟩ => rfl
  | ⟨1, _⟩ => rfl
  | ⟨2, _⟩ => rfl
  | ⟨3, _⟩ => rfl

theorem weight_apply (b h : Fin 4) (t : Fin 2048) (k : Fin 256) :
    val_main_v15 (F := Ideal) x0 x1 (ix4 b h t k) = Attend.weight (score x0 x1 b h t) k := by
  pointwise [val_main_v15, val_main_v14, val_main_v13, val_main_v12, score_apply, max_apply, Attend.weight]

theorem prob_apply (b h : Fin 4) (t : Fin 2048) (k : Fin 256) :
    val_main_v19 (F := Ideal) x0 x1 (ix4 b h t k)
      = Ideal.div (Attend.weight (score x0 x1 b h t) k) (∑ k', Attend.weight (score x0 x1 b h t) k') := by
  pointwise [val_main_v19, val_main_v18, val_main_v17, val_main_v16, val_main_cst_2, weight_apply]

theorem out_apply (b h : Fin 4) (t : Fin 2048) (d : Fin 128) :
    val_main_v21 (F := Ideal) x0 x1 (ix4 b t h d) = attn x0 x1 b h t d := by
  pointwise [val_main_v21, val_main_v20, val_main_v5, val_main_v1, prob_apply, attn, Attend.row]
  simp only [mul_comm]

/-- The reference's result at row `t` of batch `b`, in column `d` of head `h`. -/
theorem ref_apply (b h : Fin 4) (t : Fin 2048) (d : Fin 128) (i : S4x2048x512.Idx)
    (h0 : i 0 = b) (h1 : i 1 = t) (h2 : (i 2).val = h.val * 128 + d.val) :
    val_main_v23 (F := Ideal) x0 x1 i = attn x0 x1 b h t d := by
  have e1 : (i 2).val / 128 = h.val := by omega
  have e2 : (i 2).val % 128 = d.val := by omega
  rw [← out_apply]
  pointwise [val_main_v23, val_main_v22]
  subst h0 h1
  refine congrArg _ (funext fun a => Fin.ext ?_)
  match a with
  | ⟨0, _⟩ => rfl
  | ⟨1, _⟩ => rfl
  | ⟨2, _⟩ => exact e1
  | ⟨3, _⟩ => exact e2

end Cert.MemAttnRefIdeal.Hand
-- ==== Proof.MemAttnKernel.lean ====
module

public import proofs.«01_k».proof.Proof.Gen.MemAttnIdeal.Value
public import Idealize.ShloMosaic.Lib.Pointwise
public import Idealize.ShloMosaic.Lib.Pipeline.ValueKit.Geometry
public import proofs.«01_k».proof.Proof.MemAttnReference

@[expose] public section

noncomputable section

/-! What the memory-attention kernel leaves in its result array: at every index the attention row the reference names. -/

namespace Cert.MemAttnIdeal.Hand

open Cert.MemAttnIdeal Cert.MemAttnIdeal.Gen
open Idealize.ShloMosaic Idealize.ShloMosaic.TcCoe Idealize.SL.Sem

/-- One head of a grid point: the query rows of the head, the head's memory keys and its memory values. -/
def headBlock {F : FTy → Type} [FloatOps F] (q : Vec F S1x512x128 .f32) (k v : Vec F S1x256x128 .f32) :
    FVec F S1x512x128 .bf16 :=
  k0_pay6 (k0_pay2 k q) v

theorem headBlock_apply (q : Vec Ideal S1x512x128 .f32) (k v : Vec Ideal S1x256x128 .f32) (x : S1x512x128.Idx) :
    headBlock (F := Ideal) q k v x
      = Attend.row (fun κ : Fin 256 => (∑ d : Fin 128, q (ix3 0 (x 1) d) * k (ix3 0 κ d)) * Ideal.ofBits .f32 0x3DB504F3#32)
          (fun κ => v (ix3 0 κ (x 2))) := by
  pointwise [headBlock, k0_pay6, k0_pay2, Attend.row, Attend.weight, Attend.rowMax]

/-- The block of results as one function of the index: column `c` belongs to head `c / 128`. -/
def blockAttn (x0 : Vec Ideal S1x512x512 .f32) (x1 x2 : Vec Ideal S1x256x512 .f32) (y : S1x512x512.Idx) : EReal :=
  Attend.row (fun κ : Fin 256 =>
      (∑ d : Fin 128, x0 (ix3 0 (y 1) ⟨(y 2).val / 128 * 128 + d.val, by have : (y 2).val < 512 := (y 2).isLt; omega⟩)
          * x1 (ix3 0 κ ⟨(y 2).val / 128 * 128 + d.val, by have : (y 2).val < 512 := (y 2).isLt; omega⟩))
        * Ideal.ofBits .f32 0x3DB504F3#32)
    (fun κ => x2 (ix3 0 κ (y 2)))

/-- The head whose blocks are read at column offset `128 * h` is the block function there. -/
theorem piece_apply (x0 : Vec Ideal S1x512x512 .f32) (x1 x2 : Vec Ideal S1x256x512 .f32) (h : ℕ)
    (fq : S1x512x128.Idx → S1x512x512.Idx) (fk : S1x256x128.Idx → S1x256x512.Idx)
    (hq : ∀ j, (fq j 1).val = (j 1).val ∧ (fq j 2).val = h * 128 + (j 2).val)
    (hk : ∀ j, (fk j 1).val = (j 1).val ∧ (fk j 2).val = h * 128 + (j 2).val) (x : S1x512x128.Idx) :
    headBlock (F := Ideal) (fun j => x0 (fq j)) (fun j => x1 (fk j)) (fun j => x2 (fk j)) x
      = blockAttn x0 x1 x2 (fq x) := by
  have hx : (x 2).val < 128 := (x 2).isLt
  have hd : (fq x 2).val / 128 = h := by have := (hq x).2; omega
  have s0 : ∀ a : Fin 1, a.val = 0 := fun a => by omega
  refine (headBlock_apply _ _ _ x).trans ?_
  unfold blockAttn
  refine congrArg₂ Attend.row (funext fun κ => congrArg₂ (· * ·) (Finset.sum_congr rfl fun d _ =>
    congrArg₂ (· * ·) (congrArg x0 ?_) (congrArg x1 ?_)) rfl) (funext fun κ => congrArg x2 ?_)
  · funext a
    match a with
    | ⟨0, _⟩ => exact Fin.ext ((s0 _).trans (s0 _).symm)
    | ⟨1, _⟩ => exact Fin.ext ((hq _).1.trans (hq x).1.symm)
    | ⟨2, _⟩ => exact Fin.ext ((hq _).2.trans (by simp [ix3, hd]))
  · funext a
    match a with
    | ⟨0, _⟩ => exact Fin.ext ((s0 _).trans (s0 _).symm)
    | ⟨1, _⟩ => exact Fin.ext (hk _).1
    | ⟨2, _⟩ => exact Fin.ext ((hk _).2.trans (by simp [ix3, hd]))
  · funext a
    match a with
    | ⟨0, _⟩ => exact Fin.ext ((s0 _).trans (s0 _).symm)
    | ⟨1, _⟩ => exact Fin.ext (hk _).1
    | ⟨2, _⟩ => exact Fin.ext ((hk _).2.trans (hq x).2.symm)

/-- The body's result, its four stores together, is the block function. -/
theorem out_apply (x0 : Vec Ideal S1x512x512 .f32) (x1 x2 : Vec Ideal S1x256x512 .f32) (y : S1x512x512.Idx) :
    out0_3 (F := Ideal) x0 x1 x2 y = blockAttn x0 x1 x2 y := by
  unfold out0_3
  refine View.canon_apply_of_pieces (Val := Elt Ideal) (e := .bf16) (blockAttn x0 x1 x2) _ ?_ y (cover0_3 _ _ _ _ y)
  intro pc hpc x
  simp only [List.mem_cons, List.not_mem_nil, or_false] at hpc
  rcases hpc with rfl | rfl | rfl | rfl
  · exact piece_apply x0 x1 x2 3 r0_7.idx r0_6.idx
      (fun j => ⟨by show 0 + 1 * _ = _; omega, by show 384 + 1 * _ = _; omega⟩)
      (fun j => ⟨by show 0 + 1 * _ = _; omega, by show 384 + 1 * _ = _; omega⟩) x
  · exact piece_apply x0 x1 x2 2 r0_5.idx r0_4.idx
      (fun j => ⟨by show 0 + 1 * _ = _; omega, by show 256 + 1 * _ = _; omega⟩)
      (fun j => ⟨by show 0 + 1 * _ = _; omega, by show 256 + 1 * _ = _; omega⟩) x
  · exact piece_apply x0 x1 x2 1 r0_3.idx r0_2.idx
      (fun j => ⟨by show 0 + 1 * _ = _; omega, by show 128 + 1 * _ = _; omega⟩)
      (fun j => ⟨by show 0 + 1 * _ = _; omega, by show 128 + 1 * _ = _; omega⟩) x
  · exact piece_apply x0 x1 x2 0 r0_1.idx r0_0.idx
      (fun j => ⟨by show 0 + 1 * _ = _; omega, by show 0 + 1 * _ = _; omega⟩)
      (fun j => ⟨by show 0 + 1 * _ = _; omega, by show 0 + 1 * _ = _; omega⟩) x

/-! The index maps, evaluated. -/

theorem idx_q : ∀ t : Fin cfg0.N, win0_0.index t = ![(win0_3.index t 0), (win0_3.index t 1), 9] :=
  (by decide +kernel : ∀ t : Fin grid0.N, win0_0.index t = ![(win0_3.index t 0), (win0_3.index t 1), 9])
theorem idx_k : ∀ t : Fin cfg0.N, win0_1.index t = ![(win0_3.index t 0), 0, 0] :=
  (by decide +kernel : ∀ t : Fin grid0.N, win0_1.index t = ![(win0_3.index t 0), 0, 0])
theorem idx_v : ∀ t : Fin cfg0.N, win0_2.index t = ![(win0_3.index t 0), 0, 1] :=
  (by decide +kernel : ∀ t : Fin grid0.N, win0_2.index t = ![(win0_3.index t 0), 0, 1])
theorem idx_o : ∀ t : Fin cfg0.N, win0_3.index t 2 = 0 :=
  (by decide +kernel : ∀ t : Fin grid0.N, win0_3.index t 2 = 0)

variable (m : (ℓ : Loc nD τ sig) → Buf (Elt Ideal) ℓ)

/-- The whole result as a function of the two arguments. -/
def result (x0 : Vec Ideal S4x2048x5120 .f32) (x1 : Vec Ideal S4x256x1024 .f32) (i : S4x2048x512.Idx) : EReal :=
  Cert.MemAttnRefIdeal.Hand.attn x0 x1 (i 0) ⟨(i 2).val / 128, by have : (i 2).val < 512 := (i 2).isLt; omega⟩ (i 1)
    ⟨(i 2).val % 128, by omega⟩

theorem final_o (c : Dev nD) :
    (dats m 0 c).arrAt 3 cfg0.N
      = result (m ((c : Thread nD τ).loc main_arg0)) (m ((c : Thread nD τ).loc main_arg1)) := by
  refine (dats m 0 c).arrAt_eq_of_covers 3 _ (by decide +kernel) fun t hf y => ?_
  blk_simp
  rw [after0_3, out_apply]
  unfold blockAttn
  blk_simp [iblk]
  rw [V_main_arg0, V_main_arg1]
  have e0 := idx_q t
  have e1 := idx_k t
  have e2 := idx_v t
  have e3 := idx_o t
  have hy : (y 2).val < 512 := (y 2).isLt
  have i2 : ((win0_3.blk t).view.emb y 2).val = (y 2).val := by blk_simp [e3]
  unfold result Cert.MemAttnRefIdeal.Hand.attn Cert.MemAttnRefIdeal.Hand.score
  refine congrArg₂ Attend.row (funext fun κ => congrArg₂ (· * ·) (Finset.sum_congr rfl fun d _ =>
    congrArg₂ (· * ·) (congrArg _ ?_) (congrArg _ ?_)) rfl) (funext fun κ => congrArg _ ?_)
  · blk_ext [e0, i2]
  · blk_ext [e1, i2]
  · blk_ext [e2, i2]
end Cert.MemAttnIdeal.Hand
-- ==== Proof.MemAttnClaim.lean ====
module

public import proofs.«01_k».proof.Defs
public import proofs.«01_k».proof.Proof.MemAttnKernel

@[expose] public section

/-! The memory attention's kernel and its reference end with the same array. -/

namespace Cert.MemAttnClaim

open Idealize.ShloMosaic Idealize.ShloMosaic.TcCoe Idealize.SL.Sem

theorem reference_eq (x0 : Vec Ideal Cert.MemAttnRefIdeal.S4x2048x5120 .f32) (x1 : Vec Ideal Cert.MemAttnRefIdeal.S4x256x1024 .f32) :
    Cert.MemAttnRefIdeal.Read.val_main_v23 (F := Ideal) x0 x1 = Cert.MemAttnIdeal.Hand.result x0 x1 :=
  funext fun i => Cert.MemAttnRefIdeal.Hand.ref_apply x0 x1 _ _ _ _ i rfl rfl (by
    show (i 2).val = (i 2).val / 128 * 128 + (i 2).val % 128; omega)

theorem algebraic : Cert.algebraic_MemAttnIdeal_MemAttnRefIdeal := by
  intro m g m' g' _ h
  refine ⟨fun c => Cert.MemAttnIdeal.Hand.result (m ((c.tc : Thread Cert.MemAttnIdeal.nD Cert.MemAttnIdeal.τ).loc Cert.MemAttnIdeal.main_arg0))
    (m ((c.tc : Thread Cert.MemAttnIdeal.nD Cert.MemAttnIdeal.τ).loc Cert.MemAttnIdeal.main_arg1)), ?_, ?_⟩
  · refine (θ_run _ _ _).mono (fun r hr c => ⟨(hr c).1.trans (Cert.MemAttnIdeal.Hand.final_o m c), (hr c).2⟩)
      (Cert.MemAttnIdeal.Value.run_blocks m g)
  · refine (θ_run _ _ _).mono (fun r hr c => ⟨(hr c).1.trans ?_, (hr c).2⟩) (Cert.MemAttnRefIdeal.Value.run m' g')
    rw [(h c).1, (h c).2]
    exact (Cert.MemAttnRefIdeal.Read.val_main_v23_eq _ _).trans (reference_eq _ _)

end Cert.MemAttnClaim
-- ==== Proof.OutProjKernel.lean ====
module

public import proofs.«01_k».proof.Proof.Gen.OutProjIdeal.Value
public import Idealize.ShloMosaic.Lib.Pointwise
public import Idealize.ShloMosaic.Lib.Pipeline.ValueKit.Point
public import proofs.«01_k».proof.Proof.Project

@[expose] public section

noncomputable section

/-! What the output projection's kernel leaves in its two result arrays: the residual stream with both branches'
projections added, and its normalised transpose. -/

namespace Cert.OutProjIdeal.Hand

open Cert.OutProjIdeal Cert.OutProjIdeal.Gen
open Idealize.ShloMosaic Idealize.ShloMosaic.TcCoe Idealize.SL.Sem

/-- One entry of the new residual stream: the old entry, the mixer's projection over the weight's first 1536 rows
and the memory's over its last 512. -/
def entry (x : EReal) (a : Fin 1536 → EReal) (b : Fin 512 → EReal) (w : Fin 2048 → EReal) : EReal :=
  x + ∑ k : Fin 1536, a k * w ⟨k.val, by omega⟩ + ∑ k : Fin 512, b k * w ⟨1536 + k.val, by omega⟩

theorem pay1_apply (x : Vec Ideal S512x2048 .f32) (a : Vec Ideal S512x1536 .bf16) (w : Vec Ideal S1x1536x2048 .bf16)
    (b : Vec Ideal S512x512 .bf16) (w' : Vec Ideal S1x512x2048 .bf16) (y : S512x2048.Idx) :
    k0_pay1 (F := Ideal) x a w b w' y
      = x y + ∑ k : Fin 1536, a (ix2 (y 0) k) * w (ix3 0 k (y 1)) + ∑ k : Fin 512, b (ix2 (y 0) k) * w' (ix3 0 k (y 1)) := by
  pointwise [k0_pay1]

theorem pay2_apply (x : Vec Ideal S512x2048 .f32) (a : Vec Ideal S512x1536 .bf16) (w : Vec Ideal S1x1536x2048 .bf16)
    (b : Vec Ideal S512x512 .bf16) (w' : Vec Ideal S1x512x2048 .bf16) (g : Vec Ideal S1x2048 .f32) (y : S2048x512.Idx) :
    k0_pay2 (F := Ideal) x a w b w' g y
      = Project.normed (fun j => k0_pay1 (F := Ideal) x a w b w' (ix2 (y 1) j)) (fun j => g (ix2 0 j)) (y 0) := by
  unfold k0_pay2
  generalize k0_pay1 (F := Ideal) x a w b w' = p
  pointwise [Project.normed]

variable (m : (ℓ : Loc nD τ sig) → Buf (Elt Ideal) ℓ)

theorem out6_eq (c : Dev nD) (t : Fin cfg0.N) :
    (outsAt0 m c t).1
      = k0_pay1 (F := Ideal) (iblk m c 4 t) (iblk m c 0 t) (X0_2 m c t) (iblk m c 1 t) (iblk m c 3 t) := by
  unfold outsAt0
  frame_out

theorem out7_eq (c : Dev nD) (t : Fin cfg0.N) :
    (outsAt0 m c t).2
      = k0_pay2 (F := Ideal) (iblk m c 4 t) (iblk m c 0 t) (X0_2 m c t) (iblk m c 1 t) (iblk m c 3 t)
          (iblk m c 5 t) := by
  unfold outsAt0
  frame_out

/-! The windows' index maps, and the arrays the windows read. -/

theorem idx_0 : ∀ t : Fin cfg0.N, win0_0.index t = ![win0_6.index t 0, 0] :=
  (by decide +kernel : ∀ t : Fin grid0.N, win0_0.index t = ![win0_6.index t 0, 0])
theorem idx_1 : ∀ t : Fin cfg0.N, win0_1.index t = ![win0_6.index t 0, 0] :=
  (by decide +kernel : ∀ t : Fin grid0.N, win0_1.index t = ![win0_6.index t 0, 0])
theorem idx_2 : ∀ t : Fin cfg0.N, win0_2.index t = ![0, 0, 0] :=
  (by decide +kernel : ∀ t : Fin grid0.N, win0_2.index t = ![0, 0, 0])
theorem idx_3 : ∀ t : Fin cfg0.N, win0_3.index t = ![0, 3, 0] :=
  (by decide +kernel : ∀ t : Fin grid0.N, win0_3.index t = ![0, 3, 0])
theorem idx_4 : ∀ t : Fin cfg0.N, win0_4.index t = ![win0_6.index t 0, 0] :=
  (by decide +kernel : ∀ t : Fin grid0.N, win0_4.index t = ![win0_6.index t 0, 0])
theorem idx_5 : ∀ t : Fin cfg0.N, win0_5.index t = ![0, 0] :=
  (by decide +kernel : ∀ t : Fin grid0.N, win0_5.index t = ![0, 0])
theorem idx_6 : ∀ t : Fin cfg0.N, win0_6.index t 1 = 0 :=
  (by decide +kernel : ∀ t : Fin grid0.N, win0_6.index t 1 = 0)
theorem idx_7 : ∀ t : Fin cfg0.N, win0_7.index t = ![0, win0_6.index t 0] :=
  (by decide +kernel : ∀ t : Fin grid0.N, win0_7.index t = ![0, win0_6.index t 0])

theorem read_w (c : Dev nD) (i : S1x2048x2048.Idx) : V m c main_v0 i = m ((c : Thread nD τ).loc main_arg2) i := by
  entry_read
  pointwise

theorem read_g (c : Dev nD) (i : S1x2048.Idx) : V m c main_v1 i = m ((c : Thread nD τ).loc main_arg4) (ix1 (i 1)) := by
  entry_read
  pointwise

/-- The weight's first block, fetched whole. -/
theorem first_w (c : Dev nD) (t : Fin cfg0.N) (k : Fin 1536) (j : Fin 2048) :
    X0_2 m c t (ix3 0 k j) = m ((c : Thread nD τ).loc main_arg2) (ix3 0 ⟨k.val, by omega⟩ j) := by
  unfold X0_2 Pipeline.Window.fill
  rw [dif_pos (moved0_2 t _)]
  have e := idx_2 t
  blk_simp [iblk]
  rw [read_w]
  refine congrArg _ ?_
  blk_ext [e]

/-- The first result as a function of the arguments. -/
def result1 (a : Vec Ideal S8192x1536 .bf16) (b : Vec Ideal S8192x512 .bf16) (w : Vec Ideal S1x2048x2048 .f32)
    (x : Vec Ideal S8192x2048 .f32) (i : S8192x2048.Idx) : EReal :=
  entry (x i) (fun k => a (ix2 (i 0) k)) (fun k => b (ix2 (i 0) k)) (fun k => w (ix3 0 k (i 1)))

/-- The second: the first one normalised by rows, transposed. -/
def result2 (a : Vec Ideal S8192x1536 .bf16) (b : Vec Ideal S8192x512 .bf16) (w : Vec Ideal S1x2048x2048 .f32)
    (x : Vec Ideal S8192x2048 .f32) (g : Vec Ideal S2048 .f32) (i : S2048x8192.Idx) : EReal :=
  Project.normed (fun j => result1 a b w x (ix2 (i 1) j)) (fun j => g (ix1 j)) (i 0)

/-- The row of the array that row `r` of point `t`'s blocks is. -/
theorem block_entry (c : Dev nD) (t : Fin cfg0.N) (y : S512x2048.Idx) (i : S8192x2048.Idx)
    (h0 : (i 0).val = win0_6.index t 0 * 512 + (y 0).val) (h1 : (i 1).val = (y 1).val) :
    k0_pay1 (F := Ideal) (iblk m c 4 t) (iblk m c 0 t) (X0_2 m c t) (iblk m c 1 t) (iblk m c 3 t) y
      = result1 (m ((c : Thread nD τ).loc main_arg0)) (m ((c : Thread nD τ).loc main_arg1))
          (m ((c : Thread nD τ).loc main_arg2)) (m ((c : Thread nD τ).loc main_arg3)) i := by
  rw [pay1_apply]
  unfold result1 entry
  have e0 := idx_0 t
  have e1 := idx_1 t
  have e3 := idx_3 t
  have e4 := idx_4 t
  refine congrArg₂ (· + ·) (congrArg₂ (· + ·) ?_ ?_) ?_
  · blk_simp [iblk]
    refine congrArg _ ?_
    blk_ext [e4, h0, h1]
  · refine Finset.sum_congr (M := EReal) rfl fun k _ => congrArg₂ (· * ·) ?_ ?_
    · blk_simp [iblk]
      refine congrArg _ ?_
      blk_ext [e0, h0]
    · refine (first_w m c t k (y 1)).trans ?_
      refine congrArg _ ?_
      blk_ext [h1]
  · refine Finset.sum_congr (M := EReal) rfl fun k _ => congrArg₂ (· * ·) ?_ ?_
    · blk_simp [iblk]
      refine congrArg _ ?_
      blk_ext [e1, h0]
    · blk_simp [iblk]
      rw [read_w]
      refine congrArg _ ?_
      blk_ext [e3, h1]

theorem final_1 (c : Dev nD) :
    (dats m 0 c).arrAt 6 cfg0.N
      = result1 (m ((c : Thread nD τ).loc main_arg0)) (m ((c : Thread nD τ).loc main_arg1))
          (m ((c : Thread nD τ).loc main_arg2)) (m ((c : Thread nD τ).loc main_arg3)) := by
  refine (dats m 0 c).arrAt_eq_of_covers 6 _ (by decide +kernel) fun t hf y => ?_
  blk_simp
  rw [after0_6, out6_eq]
  have e := idx_6 t
  refine block_entry m c t y _ ?_ ?_
  · blk_simp
  · blk_simp [e]

theorem final_2 (c : Dev nD) :
    (dats m 0 c).arrAt 7 cfg0.N
      = result2 (m ((c : Thread nD τ).loc main_arg0)) (m ((c : Thread nD τ).loc main_arg1))
          (m ((c : Thread nD τ).loc main_arg2)) (m ((c : Thread nD τ).loc main_arg3))
          (m ((c : Thread nD τ).loc main_arg4)) := by
  refine (dats m 0 c).arrAt_eq_of_covers 7 _ (by decide +kernel) fun t hf y => ?_
  blk_simp
  rw [after0_7, out7_eq, pay2_apply]
  unfold result2
  have e := idx_7 t
  have e5 := idx_5 t
  refine congr (congrArg₂ Project.normed (funext fun k => ?_) (funext fun k => ?_)) ?_
  · refine block_entry m c t _ _ ?_ ?_
    · blk_simp [e]
    · blk_simp
  · blk_simp [iblk]
    rw [read_g]
    refine congrArg _ ?_
    blk_ext [e5]
  · refine Fin.ext ?_
    blk_simp [e]

end Cert.OutProjIdeal.Hand
-- ==== Proof.OutProjClaim.lean ====
module

public import proofs.«01_k».proof.Defs
public import proofs.«01_k».proof.Proof.Gen.OutProjRefIdeal.Read
public import proofs.«01_k».proof.Proof.OutProjKernel

@[expose] public section

/-! The output projection's kernel and its reference end with the same two arrays. -/

namespace Cert.OutProjClaim

open Idealize.ShloMosaic Idealize.ShloMosaic.TcCoe Idealize.SL.Sem
open Cert.OutProjRefIdeal Cert.OutProjRefIdeal.Gen Cert.OutProjRefIdeal.Read

theorem joined_left (x0 : Vec Ideal S8192x1536 .bf16) (x1 : Vec Ideal S8192x512 .bf16) (r : Fin 8192) (k : Fin 1536) :
    val_main_v1 (F := Ideal) x0 x1 (ix2 r ⟨k.val, by omega⟩) = x0 (ix2 r k) := by
  have h := k.isLt
  pointwise [val_main_v1, val_main_v0]

theorem joined_right (x0 : Vec Ideal S8192x1536 .bf16) (x1 : Vec Ideal S8192x512 .bf16) (r : Fin 8192) (k : Fin 512) :
    val_main_v1 (F := Ideal) x0 x1 (ix2 r ⟨1536 + k.val, by omega⟩) = x1 (ix2 r k) := by
  have h : ¬ (1536 + k.val < 1536) := by omega
  pointwise [val_main_v1, val_main_v0]

theorem weight_apply (x2 : Vec Ideal S1x2048x2048 .f32) (k j : Fin 2048) :
    val_main_v2 (F := Ideal) x2 (ix2 k j) = x2 (ix3 0 k j) := by
  pointwise [val_main_v2]

theorem left_idx (i : S8192x2048.Idx) (k : Fin 2048) : lidx_main_v3 i k = ix2 (i 0) k := by
  funext a
  match a with
  | ⟨0, _⟩ => rfl
  | ⟨1, _⟩ => rfl

theorem right_idx (i : S8192x2048.Idx) (k : Fin 2048) : ridx_main_v3 i k = ix2 k (i 1) := by
  funext a
  match a with
  | ⟨0, _⟩ => rfl
  | ⟨1, _⟩ => rfl

/-- The contraction over the joined features is the mixer's part and the memory's part. -/
theorem product_apply (x0 : Vec Ideal S8192x1536 .bf16) (x1 : Vec Ideal S8192x512 .bf16)
    (x2 : Vec Ideal S1x2048x2048 .f32) (i : S8192x2048.Idx) :
    val_main_v3 (F := Ideal) x0 x1 x2 i
      = ∑ k : Fin 1536, x0 (ix2 (i 0) k) * x2 (ix3 0 ⟨k.val, by omega⟩ (i 1))
        + ∑ k : Fin 512, x1 (ix2 (i 0) k) * x2 (ix3 0 ⟨1536 + k.val, by omega⟩ (i 1)) := by
  rw [val_main_v3_apply]
  refine (Fin.sum_univ_add (a := 1536) (b := 512) _).trans (congrArg₂ (· + ·) ?_ ?_)
  · refine Finset.sum_congr rfl fun k _ => congrArg₂ (· * ·)
      ((congrArg _ (left_idx i ⟨k.val, by omega⟩)).trans (joined_left x0 x1 (i 0) k))
      ((congrArg _ (right_idx i ⟨k.val, by omega⟩)).trans (weight_apply x2 _ (i 1)))
  · refine Finset.sum_congr rfl fun k _ => congrArg₂ (· * ·)
      ((congrArg _ (left_idx i ⟨1536 + k.val, by omega⟩)).trans (joined_right x0 x1 (i 0) k))
      ((congrArg _ (right_idx i ⟨1536 + k.val, by omega⟩)).trans (weight_apply x2 _ (i 1)))

theorem reference_1 (x0 : Vec Ideal S8192x1536 .bf16) (x1 : Vec Ideal S8192x512 .bf16)
    (x2 : Vec Ideal S1x2048x2048 .f32) (x3 : Vec Ideal S8192x2048 .f32) :
    val_main_v4 (F := Ideal) x0 x1 x2 x3 = Cert.OutProjIdeal.Hand.result1 x0 x1 x2 x3 := by
  funext i
  rw [val_main_v4_apply, product_apply]
  exact (add_assoc _ _ _).symm

theorem reference_2 (x0 : Vec Ideal S8192x1536 .bf16) (x1 : Vec Ideal S8192x512 .bf16)
    (x2 : Vec Ideal S1x2048x2048 .f32) (x3 : Vec Ideal S8192x2048 .f32) (x4 : Vec Ideal S2048 .f32) :
    val_main_v19 (F := Ideal) x0 x1 x2 x3 x4 = Cert.OutProjIdeal.Hand.result2 x0 x1 x2 x3 x4 := by
  funext i
  unfold Cert.OutProjIdeal.Hand.result2
  rw [← reference_1]
  unfold val_main_v19 val_main_v18 val_main_v17 val_main_v14 val_main_v13 val_main_v12 val_main_v11 val_main_v9
    val_main_v7 val_main_v6 val_main_v5
  generalize val_main_v4 (F := Ideal) x0 x1 x2 x3 = p
  pointwise [val_main_v16, val_main_v15, val_main_v10, val_main_v8, val_main_cst, val_main_cst_0, val_main_cst_1,
    Project.normed]

theorem algebraic : Cert.algebraic_OutProjIdeal_OutProjRefIdeal := by
  intro m g m' g' _ h
  refine ⟨fun c => Cert.OutProjIdeal.Hand.result1
      (m ((c.tc : Thread Cert.OutProjIdeal.nD Cert.OutProjIdeal.τ).loc Cert.OutProjIdeal.main_arg0))
      (m ((c.tc : Thread Cert.OutProjIdeal.nD Cert.OutProjIdeal.τ).loc Cert.OutProjIdeal.main_arg1))
      (m ((c.tc : Thread Cert.OutProjIdeal.nD Cert.OutProjIdeal.τ).loc Cert.OutProjIdeal.main_arg2))
      (m ((c.tc : Thread Cert.OutProjIdeal.nD Cert.OutProjIdeal.τ).loc Cert.OutProjIdeal.main_arg3)),
    fun c => Cert.OutProjIdeal.Hand.result2
      (m ((c.tc : Thread Cert.OutProjIdeal.nD Cert.OutProjIdeal.τ).loc Cert.OutProjIdeal.main_arg0))
      (m ((c.tc : Thread Cert.OutProjIdeal.nD Cert.OutProjIdeal.τ).loc Cert.OutProjIdeal.main_arg1))
      (m ((c.tc : Thread Cert.OutProjIdeal.nD Cert.OutProjIdeal.τ).loc Cert.OutProjIdeal.main_arg2))
      (m ((c.tc : Thread Cert.OutProjIdeal.nD Cert.OutProjIdeal.τ).loc Cert.OutProjIdeal.main_arg3))
      (m ((c.tc : Thread Cert.OutProjIdeal.nD Cert.OutProjIdeal.τ).loc Cert.OutProjIdeal.main_arg4)), ?_, ?_⟩
  · refine (θ_run _ _ _).mono (fun r hr c => ⟨(hr c).1.trans (Cert.OutProjIdeal.Hand.final_1 m c),
      (hr c).2.1.trans (Cert.OutProjIdeal.Hand.final_2 m c), (hr c).2.2⟩) (Cert.OutProjIdeal.Value.run_blocks m g)
  · refine (θ_run _ _ _).mono (fun r hr c => ⟨(hr c).1.trans ?_, (hr c).2.1.trans ?_, (hr c).2.2⟩)
      (Cert.OutProjRefIdeal.Value.run m' g')
    · rw [(h c).1, (h c).2.1, (h c).2.2.1, (h c).2.2.2.1]
      exact (val_main_v4_eq _ _ _ _).trans (reference_1 _ _ _ _)
    · rw [(h c).1, (h c).2.1, (h c).2.2.1, (h c).2.2.2.1, (h c).2.2.2.2]
      exact (val_main_v19_eq _ _ _ _ _).trans (reference_2 _ _ _ _ _)

end Cert.OutProjClaim
-- ==== Proof.ScoresKernel.lean ====
module

public import proofs.«01_k».proof.Proof.Gen.ScoresIdeal.Value
public import Idealize.ShloMosaic.Lib.Pointwise
public import Idealize.ShloMosaic.Lib.Pipeline.ValueKit.Point

@[expose] public section

noncomputable section

/-! What the retrieval's score kernel leaves in its result array: per head and codebook, each key's product with the
head's half of the query. -/

namespace Cert.ScoresIdeal.Hand

open Cert.ScoresIdeal Cert.ScoresIdeal.Gen
open Idealize.ShloMosaic Idealize.ShloMosaic.TcCoe Idealize.SL.Sem

/-- The queries of one block of tokens, features by rows. -/
def queries (x0 : Vec Ideal S2048x512 .bf16) (x1 : Vec Ideal S1x2048x2048 .bf16) : Vec Ideal S2048x512 .bf16 :=
  k0_pay4 (F := Ideal) (View.ld x1 r0_0) (View.ld x0 r0_1)

theorem queries_apply (x0 : Vec Ideal S2048x512 .bf16) (x1 : Vec Ideal S1x2048x2048 .bf16) (a : Fin 2048) (b : Fin 512) :
    queries x0 x1 (ix2 a b) = ∑ j : Fin 2048, x1 (ix3 0 a j) * x0 (ix2 j b) := by
  have e1 : View.ld x1 r0_0 = x1 := funext fun y => congrArg x1 (funext fun a => Fin.ext (by
    match a with
    | ⟨0, _⟩ => show 0 + 1 * _ = _; omega
    | ⟨1, _⟩ => show 0 + 1 * _ = _; omega
    | ⟨2, _⟩ => show 0 + 1 * _ = _; omega))
  have e0 : View.ld x0 r0_1 = x0 := funext fun y => congrArg x0 (funext fun a => Fin.ext (by
    match a with
    | ⟨0, _⟩ => show 0 + 1 * _ = _; omega
    | ⟨1, _⟩ => show 0 + 1 * _ = _; omega))
  unfold queries
  rw [e1, e0]
  pointwise [k0_pay4]

/-- The block of scores as one function of the index: row block `n` is head `n / 2`, codebook `n % 2`. -/
def block (q : Vec Ideal S2048x512 .bf16) (x2 : Vec Ideal S1x2x8x128x128 .bf16) (y : S16x128x512.Idx) : EReal :=
  ∑ d : Fin 128, x2 (ix5 0 ⟨(y 0).val % 2, by omega⟩ ⟨(y 0).val / 2, by have : (y 0).val < 16 := (y 0).isLt; omega⟩ (y 1) d)
    * q (ix2 ⟨(y 0).val * 128 + d.val, by have : (y 0).val < 16 := (y 0).isLt; omega⟩ (y 2))

/-- The piece stored at row block `n`, read off the keys of that head and codebook. -/
theorem piece_apply (q : Vec Ideal S2048x512 .bf16) (x2 : Vec Ideal S1x2x8x128x128 .bf16) (n : ℕ) (hn : n < 16)
    (fo : S1x128x512.Idx → S16x128x512.Idx) (fk : S1x1x1x128x128.Idx → S1x2x8x128x128.Idx)
    (ho : ∀ j, (fo j 0).val = n ∧ (fo j 1).val = (j 1).val ∧ (fo j 2).val = (j 2).val)
    (hk : ∀ j, (fk j 1).val = n % 2 ∧ (fk j 2).val = n / 2 ∧ (fk j 3).val = (j 3).val ∧ (fk j 4).val = (j 4).val)
    (p : S1x128x512.Idx → EReal)
    (hp : ∀ x, p x = ∑ d : Fin 128, x2 (fk (ix5 0 0 0 (x 1) d)) * q (ix2 ⟨n * 128 + d.val, by omega⟩ (x 2)))
    (x : S1x128x512.Idx) : p x = block q x2 (fo x) := by
  have s0 : ∀ a : Fin 1, a.val = 0 := fun a => by omega
  have h0 := (ho x).1
  rw [hp]
  unfold block
  refine Finset.sum_congr rfl fun d _ => congrArg₂ (· * ·) (congrArg x2 ?_) (congrArg q ?_)
  · funext a
    match a with
    | ⟨0, _⟩ => exact Fin.ext ((s0 _).trans (s0 _).symm)
    | ⟨1, _⟩ => exact Fin.ext ((hk _).1.trans (by simp [ix5, h0]))
    | ⟨2, _⟩ => exact Fin.ext ((hk _).2.1.trans (by simp [ix5, h0]))
    | ⟨3, _⟩ => exact Fin.ext ((hk _).2.2.1.trans (by simp [ix5, (ho x).2.1]))
    | ⟨4, _⟩ => exact Fin.ext ((hk _).2.2.2.trans (by simp [ix5]))
  · funext a
    match a with
    | ⟨0, _⟩ => exact Fin.ext (by simp [ix2, h0])
    | ⟨1, _⟩ => exact Fin.ext (by simp [ix2, (ho x).2.2])

/-! The payload of each store, at an index. -/

theorem head0_apply (v : Vec Ideal S1x2048x2048 .bf16) (w : Vec Ideal S2048x512 .bf16) (k : Vec Ideal S1x1x1x128x128 .bf16) (x : S1x128x512.Idx) :
    k0_pay5 (F := Ideal) v w k x
      = ∑ d : Fin 128, k (ix5 0 0 0 (x 1) d) * (k0_pay4 (F := Ideal) v w) (ix2 ⟨0 * 128 + d.val, by omega⟩ (x 2)) := by
  unfold k0_pay5
  generalize k0_pay4 (F := Ideal) v w = q
  pointwise

theorem head1_apply (v : Vec Ideal S1x2048x2048 .bf16) (w : Vec Ideal S2048x512 .bf16) (k : Vec Ideal S1x1x1x128x128 .bf16) (x : S1x128x512.Idx) :
    k0_pay6 (F := Ideal) v w k x
      = ∑ d : Fin 128, k (ix5 0 0 0 (x 1) d) * (k0_pay4 (F := Ideal) v w) (ix2 ⟨1 * 128 + d.val, by omega⟩ (x 2)) := by
  unfold k0_pay6
  generalize k0_pay4 (F := Ideal) v w = q
  pointwise

theorem head2_apply (v : Vec Ideal S1x2048x2048 .bf16) (w : Vec Ideal S2048x512 .bf16) (k : Vec Ideal S1x1x1x128x128 .bf16) (x : S1x128x512.Idx) :
    k0_pay8 (F := Ideal) (k0_pay7 (F := Ideal) v w k) x
      = ∑ d : Fin 128, k (ix5 0 0 0 (x 1) d) * (k0_pay4 (F := Ideal) v w) (ix2 ⟨2 * 128 + d.val, by omega⟩ (x 2)) := by
  unfold k0_pay8 k0_pay7
  generalize k0_pay4 (F := Ideal) v w = q
  pointwise

theorem head3_apply (q : Vec Ideal S2048x512 .bf16) (k : Vec Ideal S1x1x1x128x128 .bf16) (x : S1x128x512.Idx) :
    k0_pay9 (F := Ideal) q k x
      = ∑ d : Fin 128, k (ix5 0 0 0 (x 1) d) * q (ix2 ⟨3 * 128 + d.val, by omega⟩ (x 2)) := by
  pointwise [k0_pay9]

theorem head4_apply (q : Vec Ideal S2048x512 .bf16) (k : Vec Ideal S1x1x1x128x128 .bf16) (x : S1x128x512.Idx) :
    k0_pay10 (F := Ideal) q k x
      = ∑ d : Fin 128, k (ix5 0 0 0 (x 1) d) * q (ix2 ⟨4 * 128 + d.val, by omega⟩ (x 2)) := by
  pointwise [k0_pay10]

theorem head5_apply (q : Vec Ideal S2048x512 .bf16) (k : Vec Ideal S1x1x1x128x128 .bf16) (x : S1x128x512.Idx) :
    k0_pay11 (F := Ideal) q k x
      = ∑ d : Fin 128, k (ix5 0 0 0 (x 1) d) * q (ix2 ⟨5 * 128 + d.val, by omega⟩ (x 2)) := by
  pointwise [k0_pay11]

theorem head6_apply (q : Vec Ideal S2048x512 .bf16) (k : Vec Ideal S1x1x1x128x128 .bf16) (x : S1x128x512.Idx) :
    k0_pay12 (F := Ideal) q k x
      = ∑ d : Fin 128, k (ix5 0 0 0 (x 1) d) * q (ix2 ⟨6 * 128 + d.val, by omega⟩ (x 2)) := by
  pointwise [k0_pay12]

theorem head7_apply (q : Vec Ideal S2048x512 .bf16) (k : Vec Ideal S1x1x1x128x128 .bf16) (x : S1x128x512.Idx) :
    k0_pay13 (F := Ideal) q k x
      = ∑ d : Fin 128, k (ix5 0 0 0 (x 1) d) * q (ix2 ⟨7 * 128 + d.val, by omega⟩ (x 2)) := by
  pointwise [k0_pay13]

theorem head8_apply (q : Vec Ideal S2048x512 .bf16) (k : Vec Ideal S1x1x1x128x128 .bf16) (x : S1x128x512.Idx) :
    k0_pay14 (F := Ideal) q k x
      = ∑ d : Fin 128, k (ix5 0 0 0 (x 1) d) * q (ix2 ⟨8 * 128 + d.val, by omega⟩ (x 2)) := by
  pointwise [k0_pay14]

theorem head9_apply (q : Vec Ideal S2048x512 .bf16) (k : Vec Ideal S1x1x1x128x128 .bf16) (x : S1x128x512.Idx) :
    k0_pay16 (F := Ideal) (k0_pay15 (F := Ideal) q k) x
      = ∑ d : Fin 128, k (ix5 0 0 0 (x 1) d) * q (ix2 ⟨9 * 128 + d.val, by omega⟩ (x 2)) := by
  pointwise [k0_pay16, k0_pay15]

theorem head10_apply (q : Vec Ideal S2048x512 .bf16) (k : Vec Ideal S1x1x1x128x128 .bf16) (x : S1x128x512.Idx) :
    k0_pay17 (F := Ideal) q k x
      = ∑ d : Fin 128, k (ix5 0 0 0 (x 1) d) * q (ix2 ⟨10 * 128 + d.val, by omega⟩ (x 2)) := by
  pointwise [k0_pay17]

theorem head11_apply (q : Vec Ideal S2048x512 .bf16) (k : Vec Ideal S1x1x1x128x128 .bf16) (x : S1x128x512.Idx) :
    k0_pay18 (F := Ideal) q k x
      = ∑ d : Fin 128, k (ix5 0 0 0 (x 1) d) * q (ix2 ⟨11 * 128 + d.val, by omega⟩ (x 2)) := by
  pointwise [k0_pay18]

theorem head12_apply (q : Vec Ideal S2048x512 .bf16) (k : Vec Ideal S1x1x1x128x128 .bf16) (x : S1x128x512.Idx) :
    k0_pay19 (F := Ideal) q k x
      = ∑ d : Fin 128, k (ix5 0 0 0 (x 1) d) * q (ix2 ⟨12 * 128 + d.val, by omega⟩ (x 2)) := by
  pointwise [k0_pay19]

theorem head13_apply (q : Vec Ideal S2048x512 .bf16) (k : Vec Ideal S1x1x1x128x128 .bf16) (x : S1x128x512.Idx) :
    k0_pay1 (F := Ideal) q k x
      = ∑ d : Fin 128, k (ix5 0 0 0 (x 1) d) * q (ix2 ⟨13 * 128 + d.val, by omega⟩ (x 2)) := by
  pointwise [k0_pay1]

theorem head14_apply (q : Vec Ideal S2048x512 .bf16) (k : Vec Ideal S1x1x1x128x128 .bf16) (x : S1x128x512.Idx) :
    k0_pay2 (F := Ideal) q k x
      = ∑ d : Fin 128, k (ix5 0 0 0 (x 1) d) * q (ix2 ⟨14 * 128 + d.val, by omega⟩ (x 2)) := by
  pointwise [k0_pay2]

theorem head15_apply (q : Vec Ideal S2048x512 .bf16) (k : Vec Ideal S1x1x1x128x128 .bf16) (x : S1x128x512.Idx) :
    k0_pay3 (F := Ideal) q k x
      = ∑ d : Fin 128, k (ix5 0 0 0 (x 1) d) * q (ix2 ⟨15 * 128 + d.val, by omega⟩ (x 2)) := by
  pointwise [k0_pay3]

/-- The body's result, its sixteen stores together, is the block function. -/
theorem out_apply (x0 : Vec Ideal S2048x512 .bf16) (x1 : Vec Ideal S1x2048x2048 .bf16)
    (x2 : Vec Ideal S1x2x8x128x128 .bf16) (y : S16x128x512.Idx) :
    out0_3 (F := Ideal) x0 x1 x2 y = block (queries x0 x1) x2 y := by
  unfold out0_3
  refine View.canon_apply_of_pieces (Val := Elt Ideal) (e := .f32) (block (queries x0 x1) x2) _ ?_ y
    (cover0_3 _ _ _ _ _ _ _ _ _ _ _ _ _ _ _ _ y)
  intro pc hpc x
  simp only [List.mem_cons, List.not_mem_nil, or_false] at hpc
  rcases hpc with rfl | rfl | rfl | rfl | rfl | rfl | rfl | rfl | rfl | rfl | rfl | rfl | rfl | rfl | rfl | rfl
  · exact piece_apply (queries x0 x1) x2 15 (by omega) r0_33.idx r0_32.idx
      (fun j => ⟨by show 15 + 1 * (j 0).val = _; have : (j 0).val < 1 := (j 0).isLt; omega, by show 0 + 1 * _ = _; omega, by show 0 + 1 * _ = _; omega⟩)
      (fun j => ⟨by show 1 + 1 * (j 1).val = _; have : (j 1).val < 1 := (j 1).isLt; omega, by show 7 + 1 * (j 2).val = _; have : (j 2).val < 1 := (j 2).isLt; omega,
        by show 0 + 1 * _ = _; omega, by show 0 + 1 * _ = _; omega⟩)
      _ (fun x => head15_apply _ _ x) x
  · exact piece_apply (queries x0 x1) x2 14 (by omega) r0_31.idx r0_30.idx
      (fun j => ⟨by show 14 + 1 * (j 0).val = _; have : (j 0).val < 1 := (j 0).isLt; omega, by show 0 + 1 * _ = _; omega, by show 0 + 1 * _ = _; omega⟩)
      (fun j => ⟨by show 0 + 1 * (j 1).val = _; have : (j 1).val < 1 := (j 1).isLt; omega, by show 7 + 1 * (j 2).val = _; have : (j 2).val < 1 := (j 2).isLt; omega,
        by show 0 + 1 * _ = _; omega, by show 0 + 1 * _ = _; omega⟩)
      _ (fun x => head14_apply _ _ x) x
  · exact piece_apply (queries x0 x1) x2 13 (by omega) r0_29.idx r0_28.idx
      (fun j => ⟨by show 13 + 1 * (j 0).val = _; have : (j 0).val < 1 := (j 0).isLt; omega, by show 0 + 1 * _ = _; omega, by show 0 + 1 * _ = _; omega⟩)
      (fun j => ⟨by show 1 + 1 * (j 1).val = _; have : (j 1).val < 1 := (j 1).isLt; omega, by show 6 + 1 * (j 2).val = _; have : (j 2).val < 1 := (j 2).isLt; omega,
        by show 0 + 1 * _ = _; omega, by show 0 + 1 * _ = _; omega⟩)
      _ (fun x => head13_apply _ _ x) x
  · exact piece_apply (queries x0 x1) x2 12 (by omega) r0_27.idx r0_26.idx
      (fun j => ⟨by show 12 + 1 * (j 0).val = _; have : (j 0).val < 1 := (j 0).isLt; omega, by show 0 + 1 * _ = _; omega, by show 0 + 1 * _ = _; omega⟩)
      (fun j => ⟨by show 0 + 1 * (j 1).val = _; have : (j 1).val < 1 := (j 1).isLt; omega, by show 6 + 1 * (j 2).val = _; have : (j 2).val < 1 := (j 2).isLt; omega,
        by show 0 + 1 * _ = _; omega, by show 0 + 1 * _ = _; omega⟩)
      _ (fun x => head12_apply _ _ x) x
  · exact piece_apply (queries x0 x1) x2 11 (by omega) r0_25.idx r0_24.idx
      (fun j => ⟨by show 11 + 1 * (j 0).val = _; have : (j 0).val < 1 := (j 0).isLt; omega, by show 0 + 1 * _ = _; omega, by show 0 + 1 * _ = _; omega⟩)
      (fun j => ⟨by show 1 + 1 * (j 1).val = _; have : (j 1).val < 1 := (j 1).isLt; omega, by show 5 + 1 * (j 2).val = _; have : (j 2).val < 1 := (j 2).isLt; omega,
        by show 0 + 1 * _ = _; omega, by show 0 + 1 * _ = _; omega⟩)
      _ (fun x => head11_apply _ _ x) x
  · exact piece_apply (queries x0 x1) x2 10 (by omega) r0_23.idx r0_22.idx
      (fun j => ⟨by show 10 + 1 * (j 0).val = _; have : (j 0).val < 1 := (j 0).isLt; omega, by show 0 + 1 * _ = _; omega, by show 0 + 1 * _ = _; omega⟩)
      (fun j => ⟨by show 0 + 1 * (j 1).val = _; have : (j 1).val < 1 := (j 1).isLt; omega, by show 5 + 1 * (j 2).val = _; have : (j 2).val < 1 := (j 2).isLt; omega,
        by show 0 + 1 * _ = _; omega, by show 0 + 1 * _ = _; omega⟩)
      _ (fun x => head10_apply _ _ x) x
  · exact piece_apply (queries x0 x1) x2 9 (by omega) r0_21.idx r0_20.idx
      (fun j => ⟨by show 9 + 1 * (j 0).val = _; have : (j 0).val < 1 := (j 0).isLt; omega, by show 0 + 1 * _ = _; omega, by show 0 + 1 * _ = _; omega⟩)
      (fun j => ⟨by show 1 + 1 * (j 1).val = _; have : (j 1).val < 1 := (j 1).isLt; omega, by show 4 + 1 * (j 2).val = _; have : (j 2).val < 1 := (j 2).isLt; omega,
        by show 0 + 1 * _ = _; omega, by show 0 + 1 * _ = _; omega⟩)
      _ (fun x => head9_apply _ _ x) x
  · exact piece_apply (queries x0 x1) x2 8 (by omega) r0_19.idx r0_18.idx
      (fun j => ⟨by show 8 + 1 * (j 0).val = _; have : (j 0).val < 1 := (j 0).isLt; omega, by show 0 + 1 * _ = _; omega, by show 0 + 1 * _ = _; omega⟩)
      (fun j => ⟨by show 0 + 1 * (j 1).val = _; have : (j 1).val < 1 := (j 1).isLt; omega, by show 4 + 1 * (j 2).val = _; have : (j 2).val < 1 := (j 2).isLt; omega,
        by show 0 + 1 * _ = _; omega, by show 0 + 1 * _ = _; omega⟩)
      _ (fun x => head8_apply _ _ x) x
  · exact piece_apply (queries x0 x1) x2 7 (by omega) r0_17.idx r0_16.idx
      (fun j => ⟨by show 7 + 1 * (j 0).val = _; have : (j 0).val < 1 := (j 0).isLt; omega, by show 0 + 1 * _ = _; omega, by show 0 + 1 * _ = _; omega⟩)
      (fun j => ⟨by show 1 + 1 * (j 1).val = _; have : (j 1).val < 1 := (j 1).isLt; omega, by show 3 + 1 * (j 2).val = _; have : (j 2).val < 1 := (j 2).isLt; omega,
        by show 0 + 1 * _ = _; omega, by show 0 + 1 * _ = _; omega⟩)
      _ (fun x => head7_apply _ _ x) x
  · exact piece_apply (queries x0 x1) x2 6 (by omega) r0_15.idx r0_14.idx
      (fun j => ⟨by show 6 + 1 * (j 0).val = _; have : (j 0).val < 1 := (j 0).isLt; omega, by show 0 + 1 * _ = _; omega, by show 0 + 1 * _ = _; omega⟩)
      (fun j => ⟨by show 0 + 1 * (j 1).val = _; have : (j 1).val < 1 := (j 1).isLt; omega, by show 3 + 1 * (j 2).val = _; have : (j 2).val < 1 := (j 2).isLt; omega,
        by show 0 + 1 * _ = _; omega, by show 0 + 1 * _ = _; omega⟩)
      _ (fun x => head6_apply _ _ x) x
  · exact piece_apply (queries x0 x1) x2 5 (by omega) r0_13.idx r0_12.idx
      (fun j => ⟨by show 5 + 1 * (j 0).val = _; have : (j 0).val < 1 := (j 0).isLt; omega, by show 0 + 1 * _ = _; omega, by show 0 + 1 * _ = _; omega⟩)
      (fun j => ⟨by show 1 + 1 * (j 1).val = _; have : (j 1).val < 1 := (j 1).isLt; omega, by show 2 + 1 * (j 2).val = _; have : (j 2).val < 1 := (j 2).isLt; omega,
        by show 0 + 1 * _ = _; omega, by show 0 + 1 * _ = _; omega⟩)
      _ (fun x => head5_apply _ _ x) x
  · exact piece_apply (queries x0 x1) x2 4 (by omega) r0_11.idx r0_10.idx
      (fun j => ⟨by show 4 + 1 * (j 0).val = _; have : (j 0).val < 1 := (j 0).isLt; omega, by show 0 + 1 * _ = _; omega, by show 0 + 1 * _ = _; omega⟩)
      (fun j => ⟨by show 0 + 1 * (j 1).val = _; have : (j 1).val < 1 := (j 1).isLt; omega, by show 2 + 1 * (j 2).val = _; have : (j 2).val < 1 := (j 2).isLt; omega,
        by show 0 + 1 * _ = _; omega, by show 0 + 1 * _ = _; omega⟩)
      _ (fun x => head4_apply _ _ x) x
  · exact piece_apply (queries x0 x1) x2 3 (by omega) r0_9.idx r0_8.idx
      (fun j => ⟨by show 3 + 1 * (j 0).val = _; have : (j 0).val < 1 := (j 0).isLt; omega, by show 0 + 1 * _ = _; omega, by show 0 + 1 * _ = _; omega⟩)
      (fun j => ⟨by show 1 + 1 * (j 1).val = _; have : (j 1).val < 1 := (j 1).isLt; omega, by show 1 + 1 * (j 2).val = _; have : (j 2).val < 1 := (j 2).isLt; omega,
        by show 0 + 1 * _ = _; omega, by show 0 + 1 * _ = _; omega⟩)
      _ (fun x => head3_apply _ _ x) x
  · exact piece_apply (queries x0 x1) x2 2 (by omega) r0_7.idx r0_6.idx
      (fun j => ⟨by show 2 + 1 * (j 0).val = _; have : (j 0).val < 1 := (j 0).isLt; omega, by show 0 + 1 * _ = _; omega, by show 0 + 1 * _ = _; omega⟩)
      (fun j => ⟨by show 0 + 1 * (j 1).val = _; have : (j 1).val < 1 := (j 1).isLt; omega, by show 1 + 1 * (j 2).val = _; have : (j 2).val < 1 := (j 2).isLt; omega,
        by show 0 + 1 * _ = _; omega, by show 0 + 1 * _ = _; omega⟩)
      _ (fun x => head2_apply _ _ _ x) x
  · exact piece_apply (queries x0 x1) x2 1 (by omega) r0_5.idx r0_4.idx
      (fun j => ⟨by show 1 + 1 * (j 0).val = _; have : (j 0).val < 1 := (j 0).isLt; omega, by show 0 + 1 * _ = _; omega, by show 0 + 1 * _ = _; omega⟩)
      (fun j => ⟨by show 1 + 1 * (j 1).val = _; have : (j 1).val < 1 := (j 1).isLt; omega, by show 0 + 1 * (j 2).val = _; have : (j 2).val < 1 := (j 2).isLt; omega,
        by show 0 + 1 * _ = _; omega, by show 0 + 1 * _ = _; omega⟩)
      _ (fun x => head1_apply _ _ _ x) x
  · exact piece_apply (queries x0 x1) x2 0 (by omega) r0_3.idx r0_2.idx
      (fun j => ⟨by show 0 + 1 * (j 0).val = _; have : (j 0).val < 1 := (j 0).isLt; omega, by show 0 + 1 * _ = _; omega, by show 0 + 1 * _ = _; omega⟩)
      (fun j => ⟨by show 0 + 1 * (j 1).val = _; have : (j 1).val < 1 := (j 1).isLt; omega, by show 0 + 1 * (j 2).val = _; have : (j 2).val < 1 := (j 2).isLt; omega,
        by show 0 + 1 * _ = _; omega, by show 0 + 1 * _ = _; omega⟩)
      _ (fun x => head0_apply _ _ _ x) x

/-! The windows' index maps, and the arrays the windows read. -/

theorem idx_x : ∀ t : Fin cfg0.N, win0_0.index t = ![0, win0_3.index t 2] :=
  (by decide +kernel : ∀ t : Fin grid0.N, win0_0.index t = ![0, win0_3.index t 2])
theorem idx_w : ∀ t : Fin cfg0.N, win0_1.index t = ![0, 0, 0] :=
  (by decide +kernel : ∀ t : Fin grid0.N, win0_1.index t = ![0, 0, 0])
theorem idx_k : ∀ t : Fin cfg0.N, win0_2.index t = ![0, 0, 0, 0, 0] :=
  (by decide +kernel : ∀ t : Fin grid0.N, win0_2.index t = ![0, 0, 0, 0, 0])
theorem idx_o : ∀ t : Fin cfg0.N, win0_3.index t 0 = 0 ∧ win0_3.index t 1 = 0 :=
  (by decide +kernel : ∀ t : Fin grid0.N, win0_3.index t 0 = 0 ∧ win0_3.index t 1 = 0)

variable (m : (ℓ : Loc nD τ sig) → Buf (Elt Ideal) ℓ)

theorem read_x (c : Dev nD) (i : S2048x8192.Idx) :
    V m c main_v1 i = m ((c : Thread nD τ).loc main_arg0) (ix2 (i 1) (i 0)) := by
  entry_read
  pointwise

theorem read_w (c : Dev nD) (i : S2x2048x2048.Idx) :
    V m c main_v3 i = m ((c : Thread nD τ).loc main_arg1) (ix3 (i 0) (i 2) (i 1)) := by
  entry_read
  pointwise

theorem read_k (c : Dev nD) (i : S2x2x8x128x128.Idx) : V m c main_v4 i = m ((c : Thread nD τ).loc main_arg2) i := by
  entry_read
  pointwise

/-- The whole result as a function of the three arguments. -/
def result (x : Vec Ideal S8192x2048 .f32) (w : Vec Ideal S2x2048x2048 .f32) (k : Vec Ideal S2x2x8x128x128 .f32)
    (i : S16x128x8192.Idx) : EReal :=
  ∑ d : Fin 128, k (ix5 0 ⟨(i 0).val % 2, by omega⟩ ⟨(i 0).val / 2, by have : (i 0).val < 16 := (i 0).isLt; omega⟩ (i 1) d)
    * ∑ j : Fin 2048, w (ix3 0 j ⟨(i 0).val * 128 + d.val, by have : (i 0).val < 16 := (i 0).isLt; omega⟩)
        * x (ix2 (i 2) j)

theorem final_o (c : Dev nD) :
    (dats m 0 c).arrAt 3 cfg0.N
      = result (m ((c : Thread nD τ).loc main_arg0)) (m ((c : Thread nD τ).loc main_arg1))
          (m ((c : Thread nD τ).loc main_arg2)) := by
  refine (dats m 0 c).arrAt_eq_of_covers 3 _ (by decide +kernel) fun t hf y => ?_
  blk_simp
  rw [after0_3, out_apply]
  have ex := idx_x t
  have ew := idx_w t
  have ek := idx_k t
  have e0 := (idx_o t).1
  have e1 := (idx_o t).2
  unfold block result
  refine Finset.sum_congr (M := EReal) rfl fun d _ => congrArg₂ (· * ·) ?_ ?_
  · blk_simp [iblk]
    rw [read_k]
    refine congrArg _ ?_
    blk_ext [ek, e0, e1]
  · refine (queries_apply _ _ _ (y 2)).trans ?_
    refine Finset.sum_congr (M := EReal) rfl fun j _ => congrArg₂ (· * ·) ?_ ?_
    · blk_simp [iblk]
      rw [read_w]
      refine congrArg _ ?_
      blk_ext [ew, e0]
    · blk_simp [iblk]
      rw [read_x]
      refine congrArg _ ?_
      blk_ext [ex]

end Cert.ScoresIdeal.Hand
-- ==== Proof.ScoresClaim.lean ====
module

public import proofs.«01_k».proof.Defs
public import proofs.«01_k».proof.Proof.Gen.ScoresRefIdeal.Read
public import proofs.«01_k».proof.Proof.ScoresKernel

@[expose] public section

/-! The score kernel and its reference end with the same array. -/

namespace Cert.ScoresClaim

open Idealize.ShloMosaic Idealize.ShloMosaic.TcCoe Idealize.SL.Sem
open Cert.ScoresRefIdeal Cert.ScoresRefIdeal.Gen Cert.ScoresRefIdeal.Read

theorem keys_apply (x2 : Vec Ideal S2x2x8x128x128 .f32) (c : Fin 2) (h : Fin 8) (k d : Fin 128) :
    val_main_v5 (F := Ideal) x2 (ix4 c h k d) = x2 (ix5 0 c h k d) := by
  pointwise [val_main_v5, val_main_v4]

theorem weight_apply (x1 : Vec Ideal S2x2048x2048 .f32) (j f : Fin 2048) :
    val_main_v1 (F := Ideal) x1 (ix2 j f) = x1 (ix3 0 j f) := by
  pointwise [val_main_v1, val_main_v0]

/-- A token's query feature. -/
theorem query_apply (x0 : Vec Ideal S8192x2048 .f32) (x1 : Vec Ideal S2x2048x2048 .f32) (i : S8192x8x2x128.Idx)
    (f : Fin 2048) (hf : f.val = ((i 1).val * 2 + (i 2).val) * 128 + (i 3).val) :
    val_main_v3 (F := Ideal) x0 x1 i = ∑ j : Fin 2048, x1 (ix3 0 j f) * x0 (ix2 (i 0) j) := by
  have h0 : (i 0).val < 8192 := (i 0).isLt
  have h1 : (i 1).val < 8 := (i 1).isLt
  have h2 : (i 2).val < 2 := (i 2).isLt
  have h3 : (i 3).val < 128 := (i 3).isLt
  rw [val_main_v3_apply, val_main_v2_apply]
  refine Finset.sum_congr rfl fun j _ => (mul_comm _ _).trans (congrArg₂ (· * ·) ?_ (congrArg x0 ?_))
  · refine (congrArg _ ?_).trans (weight_apply x1 j f)
    funext a
    match a with
    | ⟨0, _⟩ => rfl
    | ⟨1, _⟩ => refine Fin.ext ?_; simp [ix2]; omega
  · funext a
    match a with
    | ⟨0, _⟩ => refine Fin.ext ?_; simp [ix2]; omega
    | ⟨1, _⟩ => rfl

theorem reference_eq (x0 : Vec Ideal S8192x2048 .f32) (x1 : Vec Ideal S2x2048x2048 .f32)
    (x2 : Vec Ideal S2x2x8x128x128 .f32) :
    val_main_v9 (F := Ideal) x0 x1 x2 = Cert.ScoresIdeal.Hand.result x0 x1 x2 := by
  funext i
  have h0 : (i 0).val < 16 := (i 0).isLt
  have h1 : (i 1).val < 128 := (i 1).isLt
  have h2 : (i 2).val < 8192 := (i 2).isLt
  rw [val_main_v9_apply, val_main_v8_apply, val_main_v7_apply, val_main_v6_apply]
  unfold Cert.ScoresIdeal.Hand.result
  refine Finset.sum_congr rfl fun d _ => congrArg₂ (· * ·) ?_ ?_
  · refine (congrArg _ ?_).trans (keys_apply x2 _ _ (i 1) d)
    funext a
    match a with
    | ⟨0, _⟩ => refine Fin.ext ?_; simp [ix4]; omega
    | ⟨1, _⟩ => refine Fin.ext ?_; simp [ix4]; omega
    | ⟨2, _⟩ => refine Fin.ext ?_; simp [ix4]; omega
    | ⟨3, _⟩ => rfl
  · refine (query_apply x0 x1 _ ⟨(i 0).val * 128 + d.val, by omega⟩ ?_).trans ?_
    · simp; omega
    · refine Finset.sum_congr rfl fun j _ => congrArg _ (congrArg x0 ?_)
      funext a
      match a with
      | ⟨0, _⟩ => refine Fin.ext ?_; simp [ix2]; omega
      | ⟨1, _⟩ => rfl

theorem algebraic : Cert.algebraic_ScoresIdeal_ScoresRefIdeal := by
  intro m g m' g' _ h
  refine ⟨fun c => Cert.ScoresIdeal.Hand.result
      (m ((c.tc : Thread Cert.ScoresIdeal.nD Cert.ScoresIdeal.τ).loc Cert.ScoresIdeal.main_arg0))
      (m ((c.tc : Thread Cert.ScoresIdeal.nD Cert.ScoresIdeal.τ).loc Cert.ScoresIdeal.main_arg1))
      (m ((c.tc : Thread Cert.ScoresIdeal.nD Cert.ScoresIdeal.τ).loc Cert.ScoresIdeal.main_arg2)), ?_, ?_⟩
  · refine (θ_run _ _ _).mono (fun r hr c => ⟨(hr c).1.trans (Cert.ScoresIdeal.Hand.final_o m c), (hr c).2⟩)
      (Cert.ScoresIdeal.Value.run_blocks m g)
  · refine (θ_run _ _ _).mono (fun r hr c => ⟨(hr c).1.trans ?_, (hr c).2⟩) (Cert.ScoresRefIdeal.Value.run m' g')
    rw [(h c).1, (h c).2.1, (h c).2.2]
    exact (val_main_v9_eq _ _ _).trans (reference_eq _ _ _)

end Cert.ScoresClaim
-- ==== Proof.AttnBand.lean ====
module

public import proofs.«01_k».proof.Proof.Attend
public import Mathlib.Algebra.BigOperators.Fin

@[expose] public section

noncomputable section

/-! Softmax attention over a longer row of keys, all of whose added keys are hidden: the row's value is the shorter
    row's. -/

namespace Cert.Attend

open Idealize.ShloMosaic

theorem rowMax_eq_sup {K : ℕ} (s : Fin K → EReal) : rowMax s = Finset.univ.sup s := by
  unfold rowMax
  rw [ofBits_neg_inf]
  rfl

theorem exp_nonneg (x : EReal) : 0 ≤ Ideal.exp x := by
  induction x with
  | bot => exact le_refl _
  | top => exact le_top
  | coe r => exact EReal.coe_nonneg.mpr (Real.exp_pos r).le

theorem exp_pos {x : EReal} (h : x ≠ ⊥) : 0 < Ideal.exp x := by
  induction x with
  | bot => exact absurd rfl h
  | top => exact EReal.zero_lt_top
  | coe r => exact EReal.coe_pos.mpr (Real.exp_pos r)

theorem weight_of_bot {K : ℕ} {s : Fin K → EReal} {k : Fin K} (h : s k = ⊥) : weight s k = 0 := by
  unfold weight
  rw [h, EReal.bot_sub]
  rfl

/-- A row with no score `+∞` and one score above `-∞` has a positive sum of weights. -/
theorem sum_weight_ne_zero {K : ℕ} (s : Fin K → EReal) (k₀ : Fin K) (h₀ : s k₀ ≠ ⊥) (htop : ∀ k, s k ≠ ⊤) :
    ∑ k, weight s k ≠ 0 := by
  have hM : rowMax s ≠ ⊤ := by
    rw [rowMax_eq_sup]
    obtain ⟨k, -, hk⟩ := Finset.exists_mem_eq_sup Finset.univ ⟨k₀, Finset.mem_univ _⟩ s
    rw [hk]
    exact htop k
  have hpos : 0 < weight s k₀ := exp_pos (by
    induction hx : s k₀ with
    | bot => exact absurd hx h₀
    | top => exact absurd hx (htop k₀)
    | coe a =>
      induction hy : rowMax s with
      | bot => simp
      | top => exact absurd hy hM
      | coe b => rw [← EReal.coe_sub]; exact EReal.coe_ne_bot _)
  exact (lt_of_lt_of_le hpos (Finset.single_le_sum (f := weight s) (fun k _ => exp_nonneg _) (Finset.mem_univ k₀))).ne'

/-- The keys of the short row placed among the keys of the long one by `e`; every key outside them has score `-∞`. The
    values need agree only where the score is not `-∞`. -/
theorem row_extend {K L : ℕ} (e : Fin K → Fin L) (he : Function.Injective e) (s v : Fin K → EReal)
    (s' v' : Fin L → EReal) (hs : ∀ k, s' (e k) = s k) (hout : ∀ l, l ∉ Set.range e → s' l = ⊥)
    (hv : ∀ k, s k ≠ ⊥ → v' (e k) = v k) (hsum : ∑ k, weight s k ≠ 0) : row s' v' = row s v := by
  have hM : rowMax s' = rowMax s := by
    rw [rowMax_eq_sup, rowMax_eq_sup]
    refine le_antisymm (Finset.sup_le fun l _ => ?_) (Finset.sup_le fun k _ => ?_)
    · by_cases h : l ∈ Set.range e
      · obtain ⟨k, rfl⟩ := h
        rw [hs]
        exact Finset.le_sup (Finset.mem_univ k)
      · rw [hout l h]
        exact bot_le
    · rw [← hs]
      exact Finset.le_sup (Finset.mem_univ (e k))
  have hw : ∀ k, weight s' (e k) = weight s k := fun k => by unfold weight; rw [hs, hM]
  have hS : ∑ l, weight s' l = ∑ k, weight s k :=
    (Fintype.sum_of_injective e he _ _ (fun l h => weight_of_bot (hout l h)) (fun k => (hw k).symm)).symm
  have hz : Ideal.div 0 (∑ k, weight s k) = 0 := by
    unfold Ideal.div
    rw [if_neg hsum, zero_mul]
  unfold row
  rw [hS]
  refine (Fintype.sum_of_injective e he _ _ (fun l h => ?_) (fun k => ?_)).symm
  · rw [weight_of_bot (hout l h), hz, zero_mul]
  · rw [hw]
    by_cases h : s k = ⊥
    · rw [weight_of_bot h, hz, zero_mul, zero_mul]
    · rw [hv k h]

/-- A finite number. -/
def Finite (x : EReal) : Prop := x ≠ ⊥ ∧ x ≠ ⊤

theorem Finite.exists_coe {x : EReal} (h : Finite x) : ∃ r : ℝ, x = r :=
  ⟨x.toReal, (EReal.coe_toReal h.2 h.1).symm⟩

theorem finite_coe (r : ℝ) : Finite (r : EReal) := ⟨EReal.coe_ne_bot r, EReal.coe_ne_top r⟩

theorem Finite.add {x y : EReal} (hx : Finite x) (hy : Finite y) : Finite (x + y) := by
  obtain ⟨a, rfl⟩ := hx.exists_coe
  obtain ⟨b, rfl⟩ := hy.exists_coe
  rw [← EReal.coe_add]
  exact finite_coe _

theorem Finite.mul {x y : EReal} (hx : Finite x) (hy : Finite y) : Finite (x * y) := by
  obtain ⟨a, rfl⟩ := hx.exists_coe
  obtain ⟨b, rfl⟩ := hy.exists_coe
  rw [← EReal.coe_mul]
  exact finite_coe _

theorem finite_sum {ι : Type} (t : Finset ι) (f : ι → EReal) (h : ∀ i, Finite (f i)) : Finite (∑ i ∈ t, f i) := by
  classical
  induction t using Finset.induction_on with
  | empty => rw [Finset.sum_empty]; exact finite_coe 0
  | insert a t ha ih => rw [Finset.sum_insert ha]; exact (h a).add ih

/-- The scale of the scores is a finite number. -/
theorem finite_scale : Finite (Ideal.ofBits .f32 0x3DB504F3#32) := by
  constructor <;> simp [Ideal.ofBits, Ideal.ieee]
  · exact (Finite.mul (finite_coe _) (finite_coe _)).1
  · exact (Finite.mul (finite_coe _) (finite_coe _)).2

end Cert.Attend
-- ==== Proof.AttnHead.lean ====
module

public import proofs.«01_k».proof.Proof.Gen.AttnIdeal.Value
public import Idealize.ShloMosaic.Lib.Pointwise
public import proofs.«01_k».proof.Proof.AttnBand

@[expose] public section

noncomputable section

/-! One head of a grid point of the chunked-attention kernel: 256 query rows against 768 keys. -/

namespace Cert.AttnIdeal.Hand

open Cert.AttnIdeal Cert.AttnIdeal.Gen
open Idealize.ShloMosaic Idealize.ShloMosaic.TcCoe Idealize.SL.Sem

/-- One head of a grid point: the query rows, three blocks of keys, three of values, and the head's bias. -/
def headBlock (i : grid0.Coords) (q k1 k2 k3 v1 v2 v3 : Vec Ideal S1x256x128 .f32)
    (b : Vec Ideal S1x256x768 .f32) : FVec Ideal S1x256x128 .bf16 :=
  k0_pay39 (k0_pay2 i) (k0_pay11 k1 k2 k3 q) v1 v2 v3 b

/-- Row `k` of three blocks of 256 rows, one after the other. -/
def cat (a b c : Vec Ideal S1x256x128 .f32) (k : Fin 768) (d : Fin 128) : EReal :=
  if h : k.val < 256 then a (ix3 0 ⟨k.val, h⟩ d)
  else if h' : k.val - 256 < 256 then b (ix3 0 ⟨k.val - 256, h'⟩ d)
  else c (ix3 0 ⟨k.val - 256 - 256, by omega⟩ d)

theorem mask_fin : ∀ (c : Fin 8) (k : Fin 768),
    IntOp.cmpi .sge (IntOp.addi (BitVec.ofNat 32 k.val) (IntOp.subi (IntOp.muli (BitVec.ofNat 32 c.val) 256#32) 512#32)) 0#32
      = if 512 ≤ 256 * c.val + k.val then 1#1 else 0#1 := by
  decide +kernel

theorem live_apply (i : grid0.Coords) (x : Fin 256) (k : Fin 768) :
    k0_pay2 i (ix2 x k) = if 512 ≤ 256 * (i 2).val + k.val then 1#1 else 0#1 := by
  refine Eq.trans ?_ (mask_fin (i 2) k)
  pointwise [k0_pay2]
  rfl

/-- A select by the mask, the hidden scores at the named constant: minus infinity. -/
theorem select_mask (p : Prop) [Decidable p] (a : EReal) :
    Scalar.select (if p then 1#1 else 0#1) a (Named.named (F := Ideal) (φ := .f32) κ "mask" 0xF149F2CA#32)
      = if p then a else (⊥ : EReal) := by
  have hm : Named.named (F := Ideal) (φ := .f32) κ "mask" 0xF149F2CA#32 = (⊥ : EReal) :=
    IdealRules.named_const.ideal_named_scalar _ _ _ _ rfl
  rw [hm]
  split <;> rfl

theorem headBlock_apply (i : grid0.Coords) (q k1 k2 k3 v1 v2 v3 : Vec Ideal S1x256x128 .f32)
    (b : Vec Ideal S1x256x768 .f32) (x : S1x256x128.Idx) :
    headBlock i q k1 k2 k3 v1 v2 v3 b x
      = Attend.row (fun k : Fin 768 => if 512 ≤ 256 * (i 2).val + k.val then
            (∑ d : Fin 128, q (ix3 0 (x 1) d) * cat k1 k2 k3 k d) * Ideal.ofBits .f32 0x3DB504F3#32 + b (ix3 0 (x 1) k)
          else ⊥)
        (fun k => cat v1 v2 v3 k (x 2)) := by
  have hl := live_apply i
  unfold headBlock
  generalize k0_pay2 i = w at hl
  pointwise [k0_pay39, k0_pay11, Attend.row, Attend.weight, Attend.rowMax, hl, cat, select_mask]

end Cert.AttnIdeal.Hand
-- ==== Proof.AttnWords.lean ====
module

public import proofs.«01_k».proof.Proof.Gen.AttnRefIdeal.Read
public import Idealize.ShloMosaic.Lib.Pointwise

@[expose] public section

noncomputable section

/-! The integer arrays of the chunked-attention reference: where each key of a chunk lies, and which keys are hidden. -/

namespace Cert.AttnRefIdeal.Hand

open Cert.AttnRefIdeal Cert.AttnRefIdeal.Gen Cert.AttnRefIdeal.Read
open Idealize.ShloMosaic Idealize.ShloMosaic.TcCoe Idealize.SL.Sem

theorem word_pos (C κ : ℕ) :
    IntOp.addi (IntOp.muli 64#32 (BitVec.ofNat 32 C)) (BitVec.ofNat 32 κ) = BitVec.ofNat 32 (64 * C + κ) := by
  show 64#32 * BitVec.ofNat 32 C + BitVec.ofNat 32 κ = _
  refine BitVec.eq_of_toNat_eq ?_
  simp

/-- The padded position of key `κ` of chunk `C`. -/
theorem pos_apply (C : Fin 32) (κ : Fin 576) :
    val_main_v17 (F := Ideal) (ix2 C κ) = BitVec.ofNat 32 (64 * C.val + κ.val) := by
  pointwise [val_main_v17, val_main_v15, val_main_v12, val_main_v11, val_main_c_1, val_main_v10, val_main_v9,
    val_main_v16, val_main_v14, val_main_v13, word_pos]

/-- The position of query row `r` of chunk `C`. -/
theorem qpos_apply (C : Fin 32) (r : Fin 64) :
    val_main_v40 (F := Ideal) (ix2 C r) = BitVec.ofNat 32 (64 * C.val + r.val) := by
  pointwise [val_main_v40, val_main_v38, val_main_v35, val_main_v34, val_main_c_6, val_main_v33, val_main_v32,
    val_main_v39, val_main_v37, val_main_v36, word_pos]

/-- The position a key reads its row from, a negative one counted from the end: no position is negative. -/
theorem wrap_fin : ∀ n : Fin 2560,
    Scalar.select (IntOp.cmpi .slt (BitVec.ofNat 32 n.val) 0#32) (IntOp.addi (BitVec.ofNat 32 n.val) 2560#32)
      (BitVec.ofNat 32 n.val) = BitVec.ofNat 32 n.val := by decide +kernel

theorem start_apply (C : Fin 32) (κ : Fin 576) :
    val_main_v23 (F := Ideal) (ix3 C κ 0) = BitVec.ofNat 32 (64 * C.val + κ.val) := by
  refine Eq.trans ?_ (wrap_fin ⟨64 * C.val + κ.val, by omega⟩)
  pointwise [val_main_v23, val_main_v22, val_main_v19, val_main_v21, val_main_v20, val_main_v18, val_main_c_2,
    val_main_c_3, pos_apply]

theorem start_apply' (C : Fin 32) (κ : Fin 576) :
    val_main_v30 (F := Ideal) (ix3 C κ 0) = BitVec.ofNat 32 (64 * C.val + κ.val) := by
  refine Eq.trans ?_ (wrap_fin ⟨64 * C.val + κ.val, by omega⟩)
  pointwise [val_main_v30, val_main_v29, val_main_v26, val_main_v28, val_main_v27, val_main_v25, val_main_c_4,
    val_main_c_5, pos_apply]

/-- Division of a word by 64, rounded down, as the host spells it: the quotient rounded towards zero, less one where the
    signs differ and the division leaves a remainder. -/
def floorDiv (w : BitVec 32) : BitVec 32 :=
  Scalar.select
    (IntOp.andi
      (IntOp.cmpi (w := 32) .ne (if w = 0 then 0 else if w.msb = true then -1 else 1)
        (if (64#32 : BitVec 32) = 0 then 0 else if BitVec.msb 64#32 = true then -1 else 1))
      (IntOp.cmpi .ne (IntOp.remsi .host w 64#32) 0#32))
    (IntOp.subi (IntOp.divsi .host w 64#32) 1#32) (IntOp.divsi .host w 64#32)

theorem floorDiv_fin : ∀ n : Fin 2560, floorDiv (BitVec.ofNat 32 n.val) = BitVec.ofNat 32 (n.val / 64) := by
  decide +kernel

theorem floorDiv_sub_fin : ∀ n : Fin 2560,
    floorDiv (IntOp.subi (BitVec.ofNat 32 n.val) 512#32) = IntOp.subi (BitVec.ofNat 32 (n.val / 64)) 8#32 := by
  decide +kernel

theorem live_fin : ∀ n : Fin 2560,
    IntOp.cmpi .sge (IntOp.subi (BitVec.ofNat 32 n.val) 512#32) 0#32 = if 512 ≤ n.val then 1#1 else 0#1 := by
  decide +kernel

/-- Every key chunk a query chunk gathers is in its band of nine. -/
theorem band_fin : ∀ (C : Fin 32) (d : Fin 9),
    IntOp.cmpi .sle (IntOp.subi (BitVec.ofNat 32 (C.val + d.val)) 8#32) (BitVec.ofNat 32 C.val) = 1#1
      ∧ IntOp.cmpi .sge (IntOp.subi (BitVec.ofNat 32 (C.val + d.val)) 8#32) (IntOp.subi (BitVec.ofNat 32 C.val) 8#32) = 1#1 := by
  decide +kernel

/-- The chunk of a query row is the chunk it was cut into. -/
theorem qchunk_apply (C : Fin 32) (r : Fin 64) :
    val_main_v44 (F := Ideal) (ix3 C r 0) = BitVec.ofNat 32 C.val := by
  pointwise [val_main_v44, val_main_call2_v11, val_main_call2_v13, val_main_call2_v6, val_main_call2_v10,
    val_main_call2_v2, val_main_call2_v8, val_main_call2_v1, val_main_call2_v7, val_main_call2_v9, val_main_call2_v12,
    val_main_call2_v5, val_main_call2_v4, val_main_call2_v3, val_main_call2_v0, val_main_call2_c, val_main_call2_c_0,
    val_main_c_8, val_main_v43, qpos_apply]
  refine Eq.trans ?_ ((floorDiv_fin ⟨64 * C.val + r.val, by omega⟩).trans (congrArg (BitVec.ofNat 32) ?_))
  · rfl
  · show (64 * C.val + r.val) / 64 = C.val
    omega

/-- The chunk of a gathered key, eight back from the padded one. -/
theorem kchunk_apply (C : Fin 32) (κ : Fin 576) :
    val_main_v46 (F := Ideal) (ix3 C 0 κ) = IntOp.subi (BitVec.ofNat 32 ((64 * C.val + κ.val) / 64)) 8#32 := by
  pointwise [val_main_v46, val_main_call3_v11, val_main_call3_v13, val_main_call3_v6, val_main_call3_v10,
    val_main_call3_v2, val_main_call3_v8, val_main_call3_v1, val_main_call3_v7, val_main_call3_v9, val_main_call3_v12,
    val_main_call3_v5, val_main_call3_v4, val_main_call3_v3, val_main_call3_v0, val_main_call3_c, val_main_call3_c_0,
    val_main_c_9, val_main_v45, val_main_v42, val_main_v41, val_main_c_7, pos_apply]
  exact floorDiv_sub_fin ⟨64 * C.val + κ.val, by omega⟩

/-- The mask hides the keys before the first position, and no other. -/
theorem mask_apply (C : Fin 32) (r : Fin 64) (κ : Fin 576) :
    val_main_v60 (F := Ideal) (ix3 C r κ) = if 512 ≤ 64 * C.val + κ.val then 1#1 else 0#1 := by
  pointwise [val_main_v60, val_main_v54, val_main_v59, val_main_v53, val_main_v52, val_main_v49, val_main_v47, val_main_v48,
    val_main_c_10, val_main_v50, val_main_v51, val_main_v57, val_main_v58, val_main_v56, val_main_v55, val_main_c_11,
    qchunk_apply, kchunk_apply, val_main_v42, val_main_v41, val_main_c_7, pos_apply]
  have e : (64 * C.val + κ.val) / 64 = C.val + κ.val / 64 := by omega
  have hb := band_fin C ⟨κ.val / 64, by omega⟩
  rw [e, hb.1, hb.2, live_fin ⟨64 * C.val + κ.val, by omega⟩]
  show IntOp.andi (IntOp.andi (if 512 ≤ 64 * C.val + κ.val then 1#1 else 0#1) 1#1) 1#1 = _
  split <;> rfl

end Cert.AttnRefIdeal.Hand
-- ==== Proof.AttnReference.lean ====
module

public import proofs.«01_k».proof.Proof.Gen.AttnRefIdeal.Read
public import Idealize.ShloMosaic.Lib.Pointwise
public import proofs.«01_k».proof.Proof.AttnBand
public import proofs.«01_k».proof.Proof.AttnWords

@[expose] public section

noncomputable section

/-! What the chunked-attention reference computes at an index: attention of one query row over the 576 keys of its
    chunk's window, the keys before the first position hidden. -/

namespace Cert.AttnRefIdeal.Hand

open Cert.AttnRefIdeal Cert.AttnRefIdeal.Gen Cert.AttnRefIdeal.Read
open Idealize.ShloMosaic Idealize.ShloMosaic.TcCoe Idealize.SL.Sem

/-- The score of query row `r` of chunk `C`, head `h`, against key `κ` of the chunk's window, its bias added. -/
def score (x0 : Vec Ideal S4x2048x5120 .f32) (x1 : Vec Ideal S12x64x576 .f32) (b : Fin 4) (h : Fin 12) (C : Fin 32)
    (r : Fin 64) (κ : Fin 576) : EReal :=
  if hκ : 512 ≤ 64 * C.val + κ.val then
    (∑ d : Fin 128, x0 (ix3 b ⟨64 * C.val + r.val, by omega⟩ ⟨h.val * 128 + d.val, by omega⟩)
        * x0 (ix3 b ⟨64 * C.val + κ.val - 512, by omega⟩ ⟨1536 + (h.val * 128 + d.val), by omega⟩))
      * Ideal.ofBits .f32 0x3DB504F3#32 + x1 (ix3 h r κ)
  else ⊥

/-- The value of key `κ` of chunk `C`'s window, head `h`, in the head's column `d`; before the first position, zero. -/
def value (x0 : Vec Ideal S4x2048x5120 .f32) (b : Fin 4) (h : Fin 12) (C : Fin 32) (d : Fin 128) (κ : Fin 576) : EReal :=
  if hκ : 512 ≤ 64 * C.val + κ.val then
    x0 (ix3 b ⟨64 * C.val + κ.val - 512, by omega⟩ ⟨3072 + (h.val * 128 + d.val), by omega⟩)
  else 0

/-- Attention of query row `r` of chunk `C`, head `h`, in the head's column `d`. -/
def attn (x0 : Vec Ideal S4x2048x5120 .f32) (x1 : Vec Ideal S12x64x576 .f32) (b : Fin 4) (h : Fin 12) (C : Fin 32)
    (r : Fin 64) (d : Fin 128) : EReal :=
  Attend.row (score x0 x1 b h C r) (value x0 b h C d)

variable (x0 : Vec Ideal S4x2048x5120 .f32) (x1 : Vec Ideal S12x64x576 .f32)

/-- A row's keys taken out of a padded array at the start indices: the row the start index names, clamped into the
    array. -/
theorem gather_apply (y : Vec Ideal S4x2560x12x128 .f32) (s : IVec S32x576x1 32) (b : Fin 4) (C : Fin 32) (κ : Fin 576)
    (h : Fin 12) (d : Fin 128) (p : Fin 2560) (hp : min (s (ix3 C κ 0)).toInt.toNat 2559 = p.val) :
    Host.gather gather_S4x2560x12x128_S32x576x1_S4x32x576x12x128_034_1_n_n_1_2_4112128 y s (ix5 b C κ h d)
      = y (ix4 b p h d) := by
  unfold Host.gather
  refine congrArg y (funext fun a => Fin.ext ?_)
  have hsi : ∀ hs, (gather_S4x2560x12x128_S32x576x1_S4x32x576x12x128_034_1_n_n_1_2_4112128).siIdx (ix5 b C κ h d)
      ⟨List.idxOf (1 : Fin 4) [1], hs⟩ = ix3 C κ 0 := fun hs => by
    funext a
    refine Fin.ext ?_
    match a with
    | ⟨0, _⟩ => rfl
    | ⟨1, _⟩ => rfl
    | ⟨2, _⟩ => rfl
  show GatherDims.start _ _ _ _ + GatherDims.batchCoord _ _ _ + GatherDims.offCoord _ _ _ = _
  rw [GatherDims.batchCoord_eq_zero _ _ _ List.not_mem_nil]
  match a with
  | ⟨0, _⟩ =>
    unfold GatherDims.start GatherDims.offCoord
    rw [dif_neg, dif_pos]
    · simp only [Nat.zero_add]
      rfl
    · exact (GatherDims.mem_sKept _ _).mpr ⟨(by decide : ¬ (0 : Fin 4) ∈ [(1 : Fin 4)]), List.not_mem_nil⟩
    · exact (by decide : ¬ (0 : Fin 4) ∈ [(1 : Fin 4)])
  | ⟨1, _⟩ =>
    refine Eq.trans ?_ hp
    rw [← hsi (by decide)]
    rfl
  | ⟨2, _⟩ =>
    unfold GatherDims.start GatherDims.offCoord
    rw [dif_neg, dif_pos]
    · simp only [Nat.zero_add]
      rfl
    · exact (GatherDims.mem_sKept _ _).mpr ⟨(by decide : ¬ (2 : Fin 4) ∈ [(1 : Fin 4)]), List.not_mem_nil⟩
    · exact (by decide : ¬ (2 : Fin 4) ∈ [(1 : Fin 4)])
  | ⟨3, _⟩ =>
    unfold GatherDims.start GatherDims.offCoord
    rw [dif_neg, dif_pos]
    · simp only [Nat.zero_add]
      rfl
    · exact (GatherDims.mem_sKept _ _).mpr ⟨(by decide : ¬ (3 : Fin 4) ∈ [(1 : Fin 4)]), List.not_mem_nil⟩
    · exact (by decide : ¬ (3 : Fin 4) ∈ [(1 : Fin 4)])

theorem clamp_fin : ∀ n : Fin 2560, min (BitVec.ofNat 32 n.val).toInt.toNat 2559 = n.val := by decide +kernel

theorem query_apply (b : Fin 4) (C : Fin 32) (r : Fin 64) (h : Fin 12) (d : Fin 128) :
    val_main_v8 (F := Ideal) x0 (ix5 b C r h d)
      = x0 (ix3 b ⟨64 * C.val + r.val, by omega⟩ ⟨h.val * 128 + d.val, by omega⟩) := by
  rw [val_main_v8_apply, val_main_v1_apply, val_main_v0_apply]
  refine congrArg x0 (funext fun a => Fin.ext ?_)
  match a with
  | ⟨0, _⟩ => simp [ix5, ix4, ix3]; omega
  | ⟨1, _⟩ => simp [ix5, ix4, ix3]; omega
  | ⟨2, _⟩ => simp [ix5, ix4, ix3]; omega

theorem key_apply (b : Fin 4) (C : Fin 32) (κ : Fin 576) (h : Fin 12) (d : Fin 128) (hκ : 512 ≤ 64 * C.val + κ.val) :
    val_main_v24 (F := Ideal) x0 (ix5 b C κ h d)
      = x0 (ix3 b ⟨64 * C.val + κ.val - 512, by omega⟩ ⟨1536 + (h.val * 128 + d.val), by omega⟩) := by
  unfold val_main_v24
  refine (gather_apply _ _ b C κ h d ⟨64 * C.val + κ.val, by omega⟩ ?_).trans ?_
  · rw [start_apply]; exact clamp_fin ⟨64 * C.val + κ.val, by omega⟩
  · pointwise [val_main_v6, val_main_v3, val_main_v2]
    rw [dif_pos ⟨hκ, by omega⟩]

theorem value_apply (b : Fin 4) (C : Fin 32) (κ : Fin 576) (h : Fin 12) (d : Fin 128) :
    val_main_v31 (F := Ideal) x0 (ix5 b C κ h d) = value x0 b h C d κ := by
  unfold val_main_v31
  refine (gather_apply _ _ b C κ h d ⟨64 * C.val + κ.val, by omega⟩ ?_).trans ?_
  · rw [start_apply']; exact clamp_fin ⟨64 * C.val + κ.val, by omega⟩
  · pointwise [val_main_v7, val_main_v5, val_main_v4]
    unfold value
    by_cases hκ : 512 ≤ 64 * C.val + κ.val
    · rw [dif_pos ⟨hκ, by omega⟩, dif_pos hκ]
    · rw [dif_neg (fun e => hκ e.1), dif_neg hκ]
      rw [val_main_call1_v0_apply, val_main_c_0_apply]
      show (((0#32 : BitVec 32).toInt : ℝ) : EReal) = 0
      simp

theorem score_apply (b : Fin 4) (C : Fin 32) (h : Fin 12) (r : Fin 64) (κ : Fin 576) :
    val_main_v68 (F := Ideal) x0 x1 (ix5 b C h r κ) = score x0 x1 b h C r κ := by
  have hm : val_main_call4_v1 (F := Ideal) (ix5 b C h r κ) = if 512 ≤ 64 * C.val + κ.val then 1#1 else 0#1 := by
    rw [val_main_call4_v1_apply, val_main_v64_apply, ← mask_apply C r κ]
    refine congrArg _ (funext fun a => Fin.ext ?_)
    match a with
    | ⟨0, _⟩ => rfl
    | ⟨1, _⟩ => rfl
    | ⟨2, _⟩ => rfl
  have hb : val_main_call4_v2 (F := Ideal) (ix5 b C h r κ) = ⊥ := by
    rw [val_main_call4_v2_apply, val_main_call4_v0_apply, val_main_cst_12_apply]
    exact Attend.ofBits_neg_inf
  rw [val_main_v68_apply, hm, hb]
  unfold score
  by_cases hκ : 512 ≤ 64 * C.val + κ.val
  · rw [if_pos hκ, dif_pos hκ, val_main_v67_apply, val_main_v66_apply, val_main_v65_apply, val_main_v63_apply,
      val_main_v61_apply, val_main_v62_apply, val_main_cst_apply]
    refine congrArg₂ (· + ·) (congrArg₂ (· * ·) (Finset.sum_congr rfl fun d _ => congrArg₂ (· * ·) ?_ ?_) rfl)
      (congrArg x1 (funext fun a => Fin.ext ?_))
    · refine Eq.trans ?_ (query_apply x0 b C r h d)
      refine congrArg _ (funext fun a => Fin.ext ?_)
      match a with
      | ⟨0, _⟩ => rfl
      | ⟨1, _⟩ => rfl
      | ⟨2, _⟩ => rfl
      | ⟨3, _⟩ => rfl
      | ⟨4, _⟩ => rfl
    · rw [← key_apply x0 b C κ h d hκ]
      refine congrArg _ (funext fun a => Fin.ext ?_)
      match a with
      | ⟨0, _⟩ => rfl
      | ⟨1, _⟩ => rfl
      | ⟨2, _⟩ => rfl
      | ⟨3, _⟩ => rfl
      | ⟨4, _⟩ => rfl
    · match a with
      | ⟨0, _⟩ => rfl
      | ⟨1, _⟩ => rfl
      | ⟨2, _⟩ => rfl
  · rw [if_neg hκ, dif_neg hκ]
    rfl

theorem max_apply (b : Fin 4) (C : Fin 32) (h : Fin 12) (r : Fin 64) :
    val_main_v71 (F := Ideal) x0 x1 (ix4 b C h r) = Attend.rowMax (score x0 x1 b h C r) := by
  rw [val_main_v71_apply, val_main_v70_apply, val_main_cst_14_apply, ← Attend.max_rowMax]
  refine congrArg (max (Ideal.ofBits .f32 0xFF800000#32)) ?_
  unfold val_main_v69
  have hs : ∀ κ, val_main_v68 (F := Ideal) x0 x1 (ix5 b C h r κ) = score x0 x1 b h C r κ := score_apply x0 x1 b C h r
  generalize val_main_v68 (F := Ideal) x0 x1 = y at hs
  refine (Host.reduce_eq_fold_single (FloatOps.maximumf (F := Ideal) (φ := .f32)) y (val_main_cst_13 (F := Ideal))
    reducesTo_S4x32x12x64x576_S4x32x12x64_d4 (by decide) h_S_ (ix4 b C h r)).trans ?_
  refine congrArg (Finset.univ.fold max (Ideal.ofBits .f32 0xFF800000#32)) (funext fun k => ?_)
  refine Eq.trans (congrArg y (funext fun a => Fin.ext ?_)) (hs k)
  match a with
  | ⟨0, _⟩ => rfl
  | ⟨1, _⟩ => rfl
  | ⟨2, _⟩ => rfl
  | ⟨3, _⟩ => rfl
  | ⟨4, _⟩ => rfl

theorem weight_apply (b : Fin 4) (C : Fin 32) (h : Fin 12) (r : Fin 64) (κ : Fin 576) :
    val_main_v75 (F := Ideal) x0 x1 (ix5 b C h r κ) = Attend.weight (score x0 x1 b h C r) κ := by
  pointwise [val_main_v75, val_main_v74, val_main_v73, val_main_v72, score_apply, max_apply, Attend.weight]

theorem prob_apply (b : Fin 4) (C : Fin 32) (h : Fin 12) (r : Fin 64) (κ : Fin 576) :
    val_main_v79 (F := Ideal) x0 x1 (ix5 b C h r κ)
      = Ideal.div (Attend.weight (score x0 x1 b h C r) κ) (∑ k', Attend.weight (score x0 x1 b h C r) k') := by
  pointwise [val_main_v79, val_main_v78, val_main_v77, val_main_v76, val_main_cst_15, weight_apply]

theorem out_apply (b : Fin 4) (C : Fin 32) (r : Fin 64) (h : Fin 12) (d : Fin 128) :
    val_main_v81 (F := Ideal) x0 x1 (ix5 b C r h d) = attn x0 x1 b h C r d := by
  rw [val_main_v81_apply, val_main_v80_apply]
  unfold attn Attend.row
  refine Finset.sum_congr (M := EReal) rfl fun κ _ => ?_
  rw [← prob_apply, ← value_apply, mul_comm]
  refine congrArg₂ (· * ·) (congrArg _ (funext fun a => Fin.ext ?_)) (congrArg _ (funext fun a => Fin.ext ?_))
  · match a with
    | ⟨0, _⟩ => rfl
    | ⟨1, _⟩ => rfl
    | ⟨2, _⟩ => rfl
    | ⟨3, _⟩ => rfl
    | ⟨4, _⟩ => rfl
  · match a with
    | ⟨0, _⟩ => rfl
    | ⟨1, _⟩ => rfl
    | ⟨2, _⟩ => rfl
    | ⟨3, _⟩ => rfl
    | ⟨4, _⟩ => rfl

/-- The reference's result at row `64 C + r` of batch `b`, in column `d` of head `h`. -/
theorem ref_apply (b : Fin 4) (C : Fin 32) (r : Fin 64) (h : Fin 12) (d : Fin 128) (i : S4x2048x1536.Idx)
    (h0 : (i 0).val = b.val) (h1 : (i 1).val = 64 * C.val + r.val) (h2 : (i 2).val = h.val * 128 + d.val) :
    val_main_v83 (F := Ideal) x0 x1 i = attn x0 x1 b h C r d := by
  rw [← out_apply, val_main_v83_apply, val_main_v82_apply]
  refine congrArg (val_main_v81 (F := Ideal) x0 x1) (funext fun a => Fin.ext ?_)
  match a with
  | ⟨0, _⟩ => simp [ix5, h0, h1, h2]; omega
  | ⟨1, _⟩ => simp [ix5, h0, h1, h2]; omega
  | ⟨2, _⟩ => simp [ix5, h0, h1, h2]; omega
  | ⟨3, _⟩ => simp [ix5, h0, h1, h2]; omega
  | ⟨4, _⟩ => simp [ix5, h0, h1, h2]; omega

end Cert.AttnRefIdeal.Hand
-- ==== Proof.AttnRow.lean ====
module

public import proofs.«01_k».proof.Proof.AttnHead
public import proofs.«01_k».proof.Proof.AttnReference

@[expose] public section

noncomputable section

/-! One head of a grid point is the reference's attention: of the 768 keys the kernel reads, those outside a query
    chunk's 576 have bias minus infinity, and those before the first position are masked. -/

namespace Cert.AttnIdeal.Hand

open Cert.AttnIdeal Cert.AttnIdeal.Gen
open Idealize.ShloMosaic Idealize.ShloMosaic.TcCoe Idealize.SL.Sem

/-- The rows of the three blocks a grid point reads, one after the other, are the array's rows from two blocks back. -/
theorem cat_rows (z : Vec Ideal S4x2048x5120 .f32) (bt : Fin 4) (cc : Fin 8) (col : Fin 128 → Fin 5120)
    (k1 k2 k3 : Vec Ideal S1x256x128 .f32)
    (h1 : ∀ (r : Fin 256) d, k1 (ix3 0 r d) = z (ix3 bt ⟨256 * (cc.val - 2) + r.val, by omega⟩ (col d)))
    (h2 : ∀ (r : Fin 256) d, k2 (ix3 0 r d) = z (ix3 bt ⟨256 * (cc.val - 1) + r.val, by omega⟩ (col d)))
    (h3 : ∀ (r : Fin 256) d, k3 (ix3 0 r d) = z (ix3 bt ⟨256 * cc.val + r.val, by omega⟩ (col d)))
    (k : Fin 768) (d : Fin 128) (hk : 512 ≤ 256 * cc.val + k.val) :
    cat k1 k2 k3 k d = z (ix3 bt ⟨256 * cc.val + k.val - 512, by omega⟩ (col d)) := by
  have hk' := k.isLt
  unfold cat
  split
  · rw [h1]
    exact congrArg (fun a => z (ix3 bt a (col d))) (Fin.ext (by show 256 * (cc.val - 2) + k.val = 256 * cc.val + k.val - 512; omega))
  · split
    · rw [h2]
      exact congrArg (fun a => z (ix3 bt a (col d)))
        (Fin.ext (by show 256 * (cc.val - 1) + (k.val - 256) = 256 * cc.val + k.val - 512; omega))
    · rw [h3]
      exact congrArg (fun a => z (ix3 bt a (col d)))
        (Fin.ext (by show 256 * cc.val + (k.val - 256 - 256) = 256 * cc.val + k.val - 512; omega))

/-- The reference's row has a positive sum of weights when the inputs are finite: its last 64 keys are never hidden. -/
theorem sum_ne_zero (z : Vec Ideal S4x2048x5120 .f32) (bias : Vec Ideal S12x64x576 .f32)
    (hz : ∀ i, Attend.Finite (z i)) (hb : ∀ i, Attend.Finite (bias i)) (bt : Fin 4) (h : Fin 12) (C : Fin 32) (r : Fin 64) :
    ∑ κ, Attend.weight (Cert.AttnRefIdeal.Hand.score z bias bt h C r) κ ≠ 0 := by
  have hf : ∀ κ : Fin 576, 512 ≤ 64 * C.val + κ.val →
      Attend.Finite (Cert.AttnRefIdeal.Hand.score z bias bt h C r κ) := fun κ hκ => by
    unfold Cert.AttnRefIdeal.Hand.score
    rw [dif_pos hκ]
    exact ((Attend.finite_sum _ _ fun d => (hz _).mul (hz _)).mul Attend.finite_scale).add (hb _)
  refine Attend.sum_weight_ne_zero _ ⟨512, by omega⟩ (hf _ (by show 512 ≤ 64 * C.val + 512; omega)).1 fun κ => ?_
  by_cases hκ : 512 ≤ 64 * C.val + κ.val
  · exact (hf κ hκ).2
  · unfold Cert.AttnRefIdeal.Hand.score
    rw [dif_neg hκ]
    exact bot_ne_top

theorem head_row (z : Vec Ideal S4x2048x5120 .f32) (bias : Vec Ideal S12x64x576 .f32)
    (hz : ∀ i, Attend.Finite (z i)) (hb : ∀ i, Attend.Finite (bias i)) (bt : Fin 4) (cc : Fin 8) (h : Fin 12)
    (i : grid0.Coords) (hi : (i 2).val = cc.val) (q k1 k2 k3 v1 v2 v3 : Vec Ideal S1x256x128 .f32)
    (b : Vec Ideal S1x256x768 .f32)
    (hq : ∀ (r : Fin 256) (d : Fin 128), q (ix3 0 r d)
      = z (ix3 bt ⟨256 * cc.val + r.val, by omega⟩ ⟨h.val * 128 + d.val, by omega⟩))
    (hk1 : ∀ (r : Fin 256) (d : Fin 128), k1 (ix3 0 r d)
      = z (ix3 bt ⟨256 * (cc.val - 2) + r.val, by omega⟩ ⟨1536 + (h.val * 128 + d.val), by omega⟩))
    (hk2 : ∀ (r : Fin 256) (d : Fin 128), k2 (ix3 0 r d)
      = z (ix3 bt ⟨256 * (cc.val - 1) + r.val, by omega⟩ ⟨1536 + (h.val * 128 + d.val), by omega⟩))
    (hk3 : ∀ (r : Fin 256) (d : Fin 128), k3 (ix3 0 r d)
      = z (ix3 bt ⟨256 * cc.val + r.val, by omega⟩ ⟨1536 + (h.val * 128 + d.val), by omega⟩))
    (hv1 : ∀ (r : Fin 256) (d : Fin 128), v1 (ix3 0 r d)
      = z (ix3 bt ⟨256 * (cc.val - 2) + r.val, by omega⟩ ⟨3072 + (h.val * 128 + d.val), by omega⟩))
    (hv2 : ∀ (r : Fin 256) (d : Fin 128), v2 (ix3 0 r d)
      = z (ix3 bt ⟨256 * (cc.val - 1) + r.val, by omega⟩ ⟨3072 + (h.val * 128 + d.val), by omega⟩))
    (hv3 : ∀ (r : Fin 256) (d : Fin 128), v3 (ix3 0 r d)
      = z (ix3 bt ⟨256 * cc.val + r.val, by omega⟩ ⟨3072 + (h.val * 128 + d.val), by omega⟩))
    (hbias : ∀ (r : Fin 256) (k : Fin 768), b (ix3 0 r k)
      = if hk : 64 * (r.val / 64) ≤ k.val ∧ k.val - 64 * (r.val / 64) < 576 then
          bias (ix3 h ⟨r.val % 64, by omega⟩ ⟨k.val - 64 * (r.val / 64), hk.2⟩) else ⊥)
    (x : S1x256x128.Idx) (ρ : Fin 256) (d : Fin 128) (hρ : x 1 = ρ) (hd : x 2 = d) :
    headBlock i q k1 k2 k3 v1 v2 v3 b x
      = Cert.AttnRefIdeal.Hand.attn z bias bt h ⟨4 * cc.val + ρ.val / 64, by omega⟩ ⟨ρ.val % 64, by omega⟩ d := by
  refine (headBlock_apply i q k1 k2 k3 v1 v2 v3 b x).trans ?_
  rw [hρ, hd, hi]
  unfold Cert.AttnRefIdeal.Hand.attn
  have hcat := cat_rows z bt cc (fun d => ⟨1536 + (h.val * 128 + d.val), by omega⟩) k1 k2 k3 hk1 hk2 hk3
  have vcat := cat_rows z bt cc (fun d => ⟨3072 + (h.val * 128 + d.val), by omega⟩) v1 v2 v3 hv1 hv2 hv3
  refine Attend.row_extend (fun κ : Fin 576 => (⟨64 * (ρ.val / 64) + κ.val, by omega⟩ : Fin 768)) ?_ _ _ _ _
    (fun κ => ?_) (fun k hk => ?_) (fun κ hκ => ?_) (sum_ne_zero z bias hz hb bt h _ _)
  · intro κ κ' e
    have := congrArg Fin.val e
    exact Fin.ext (by simpa using this)
  · unfold Cert.AttnRefIdeal.Hand.score
    by_cases hl : 512 ≤ 64 * (4 * cc.val + ρ.val / 64) + κ.val
    · have hl' : 512 ≤ 256 * cc.val + (64 * (ρ.val / 64) + κ.val) := by omega
      rw [dif_pos hl]
      refine (if_pos hl').trans ?_
      refine congrArg₂ (· + ·) (congrArg₂ (· * ·) (Finset.sum_congr rfl fun d _ => congrArg₂ (· * ·) ?_ ?_) rfl) ?_
      · refine (hq ρ d).trans (congrArg (fun a => z (ix3 bt a _)) (Fin.ext ?_))
        show 256 * cc.val + ρ.val = 64 * (4 * cc.val + ρ.val / 64) + ρ.val % 64
        omega
      · refine (hcat _ d hl').trans (congrArg (fun a => z (ix3 bt a _)) (Fin.ext ?_))
        show 256 * cc.val + (64 * (ρ.val / 64) + κ.val) - 512 = 64 * (4 * cc.val + ρ.val / 64) + κ.val - 512
        omega
      · refine (hbias ρ _).trans ((dif_pos ⟨?_, ?_⟩).trans (congrArg (fun a => bias (ix3 h _ a)) (Fin.ext ?_)))
        · show 64 * (ρ.val / 64) + κ.val - 64 * (ρ.val / 64) = κ.val
          omega
        · show 64 * (ρ.val / 64) ≤ 64 * (ρ.val / 64) + κ.val
          omega
        · show 64 * (ρ.val / 64) + κ.val - 64 * (ρ.val / 64) < 576
          omega
    · rw [dif_neg hl]
      exact if_neg (by show ¬ 512 ≤ 256 * cc.val + (64 * (ρ.val / 64) + κ.val); omega)
  · have hb' : b (ix3 0 ρ k) = ⊥ := by
      rw [hbias ρ k]
      refine dif_neg fun hc => hk ⟨⟨k.val - 64 * (ρ.val / 64), hc.2⟩, Fin.ext ?_⟩
      show 64 * (ρ.val / 64) + (k.val - 64 * (ρ.val / 64)) = k.val
      omega
    show (if _ then _ + b (ix3 0 ρ k) else ⊥) = ⊥
    rw [hb', EReal.add_bot, ite_self]
  · have hl : 512 ≤ 64 * (4 * cc.val + ρ.val / 64) + κ.val := by
      by_contra hl
      exact hκ (by unfold Cert.AttnRefIdeal.Hand.score; exact dif_neg hl)
    unfold Cert.AttnRefIdeal.Hand.value
    rw [dif_pos hl]
    refine (vcat _ d (by show 512 ≤ 256 * cc.val + (64 * (ρ.val / 64) + κ.val); omega)).trans
      (congrArg (fun a => z (ix3 bt a _)) (Fin.ext ?_))
    show 256 * cc.val + (64 * (ρ.val / 64) + κ.val) - 512 = 64 * (4 * cc.val + ρ.val / 64) + κ.val - 512
    omega

end Cert.AttnIdeal.Hand
-- ==== Proof.AttnKernel.lean ====
module

public import proofs.«01_k».proof.Proof.AttnRow
public import Idealize.ShloMosaic.Lib.Pipeline.ValueKit.Point
public import Idealize.ShloMosaic.Lib.Pipeline.ValueKit.Tiles
public import Idealize.ShloMosaic.Lib.Pipeline.ValueKit.Geometry
public import Idealize.ShloMosaic.Lib.StableHlo.RunRead

@[expose] public section

noncomputable section

/-! What the chunked-attention kernel leaves in its result array: at every index the attention the reference names. -/

namespace Cert.AttnIdeal.Hand

open Cert.AttnIdeal Cert.AttnIdeal.Gen
open Idealize.ShloMosaic Idealize.ShloMosaic.TcCoe Idealize.SL.Sem

/-! The index maps, evaluated: a point's batch and its block of 256 rows are those of the block it writes. -/

theorem idx_0 : ∀ t : Fin cfg0.N, win0_0.index t = ![win0_8.index t 0, win0_8.index t 1, 0] :=
  (by decide +kernel : ∀ t : Fin grid0.N, win0_0.index t = ![win0_8.index t 0, win0_8.index t 1, 0])
theorem idx_1 : ∀ t : Fin cfg0.N, win0_1.index t = ![win0_8.index t 0, win0_8.index t 1 - 2, 1] :=
  (by decide +kernel : ∀ t : Fin grid0.N, win0_1.index t = ![win0_8.index t 0, win0_8.index t 1 - 2, 1])
theorem idx_2 : ∀ t : Fin cfg0.N, win0_2.index t = ![win0_8.index t 0, win0_8.index t 1 - 1, 1] :=
  (by decide +kernel : ∀ t : Fin grid0.N, win0_2.index t = ![win0_8.index t 0, win0_8.index t 1 - 1, 1])
theorem idx_3 : ∀ t : Fin cfg0.N, win0_3.index t = ![win0_8.index t 0, win0_8.index t 1, 1] :=
  (by decide +kernel : ∀ t : Fin grid0.N, win0_3.index t = ![win0_8.index t 0, win0_8.index t 1, 1])
theorem idx_4 : ∀ t : Fin cfg0.N, win0_4.index t = ![win0_8.index t 0, win0_8.index t 1 - 2, 2] :=
  (by decide +kernel : ∀ t : Fin grid0.N, win0_4.index t = ![win0_8.index t 0, win0_8.index t 1 - 2, 2])
theorem idx_5 : ∀ t : Fin cfg0.N, win0_5.index t = ![win0_8.index t 0, win0_8.index t 1 - 1, 2] :=
  (by decide +kernel : ∀ t : Fin grid0.N, win0_5.index t = ![win0_8.index t 0, win0_8.index t 1 - 1, 2])
theorem idx_6 : ∀ t : Fin cfg0.N, win0_6.index t = ![win0_8.index t 0, win0_8.index t 1, 2] :=
  (by decide +kernel : ∀ t : Fin grid0.N, win0_6.index t = ![win0_8.index t 0, win0_8.index t 1, 2])
theorem idx_7 : ∀ t : Fin cfg0.N, win0_7.index t = ![0, 0, 0] :=
  (by decide +kernel : ∀ t : Fin grid0.N, win0_7.index t = ![0, 0, 0])
theorem idx_8 : ∀ t : Fin cfg0.N, win0_8.index t 2 = 0 :=
  (by decide +kernel : ∀ t : Fin grid0.N, win0_8.index t 2 = 0)
theorem coord_fin : ∀ t : Fin cfg0.N, (grid0.coords t 2).val = win0_8.index t 1 ∧ win0_8.index t 0 < 4 ∧ win0_8.index t 1 < 8 :=
  (by decide +kernel : ∀ t : Fin grid0.N,
    (grid0.coords t 2).val = win0_8.index t 1 ∧ win0_8.index t 0 < 4 ∧ win0_8.index t 1 < 8)

/-- The batch of a grid point. -/
def batch (t : Fin cfg0.N) : Fin 4 := ⟨win0_8.index t 0, (coord_fin t).2.1⟩

/-- The block of 256 rows of a grid point. -/
def rows (t : Fin cfg0.N) : Fin 8 := ⟨win0_8.index t 1, (coord_fin t).2.2⟩

/-- The whole result as a function of the two arguments. -/
def result (x0 : Vec Ideal S4x2048x5120 .f32) (x1 : Vec Ideal S12x64x576 .f32) (i : S4x2048x1536.Idx) : EReal :=
  Cert.AttnRefIdeal.Hand.attn x0 x1 (i 0) ⟨(i 2).val / 128, by have : (i 2).val < 1536 := (i 2).isLt; omega⟩
    ⟨(i 1).val / 64, by have : (i 1).val < 2048 := (i 1).isLt; omega⟩ ⟨(i 1).val % 64, by omega⟩
    ⟨(i 2).val % 128, by omega⟩

variable (m : (ℓ : Loc nD τ sig) → Buf (Elt Ideal) ℓ)

/-! The blocks a point reads, each a block of the argument. -/

theorem read_0 (c : Dev nD) (t : Fin cfg0.N) (r : Fin 256) (l : Fin 1536) :
    X0_0 m c t (ix3 0 r l)
      = m ((c : Thread nD τ).loc main_arg0) (ix3 (batch t) ⟨256 * (rows t).val + r.val, by omega⟩ ⟨l.val, by omega⟩) := by
  unfold X0_0 Pipeline.Window.fill
  rw [dif_pos (moved0_0 t _)]
  have e := idx_0 t
  blk_simp [iblk]
  rw [V_main_arg0]
  refine congrArg _ ?_
  blk_ext [e, batch, rows]

theorem read_1 (c : Dev nD) (t : Fin cfg0.N) (r : Fin 256) (l : Fin 1536) :
    X0_1 m c t (ix3 0 r l)
      = m ((c : Thread nD τ).loc main_arg0) (ix3 (batch t) ⟨256 * ((rows t).val - 2) + r.val, by omega⟩ ⟨1536 + l.val, by omega⟩) := by
  unfold X0_1 Pipeline.Window.fill
  rw [dif_pos (moved0_1 t _)]
  have e := idx_1 t
  blk_simp [iblk]
  rw [V_main_arg0]
  refine congrArg _ ?_
  blk_ext [e, batch, rows]

theorem read_2 (c : Dev nD) (t : Fin cfg0.N) (r : Fin 256) (l : Fin 1536) :
    X0_2 m c t (ix3 0 r l)
      = m ((c : Thread nD τ).loc main_arg0) (ix3 (batch t) ⟨256 * ((rows t).val - 1) + r.val, by omega⟩ ⟨1536 + l.val, by omega⟩) := by
  unfold X0_2 Pipeline.Window.fill
  rw [dif_pos (moved0_2 t _)]
  have e := idx_2 t
  blk_simp [iblk]
  rw [V_main_arg0]
  refine congrArg _ ?_
  blk_ext [e, batch, rows]

theorem read_3 (c : Dev nD) (t : Fin cfg0.N) (r : Fin 256) (l : Fin 1536) :
    X0_3 m c t (ix3 0 r l)
      = m ((c : Thread nD τ).loc main_arg0) (ix3 (batch t) ⟨256 * (rows t).val + r.val, by omega⟩ ⟨1536 + l.val, by omega⟩) := by
  unfold X0_3 Pipeline.Window.fill
  rw [dif_pos (moved0_3 t _)]
  have e := idx_3 t
  blk_simp [iblk]
  rw [V_main_arg0]
  refine congrArg _ ?_
  blk_ext [e, batch, rows]

theorem read_4 (c : Dev nD) (t : Fin cfg0.N) (r : Fin 256) (l : Fin 1536) :
    X0_4 m c t (ix3 0 r l)
      = m ((c : Thread nD τ).loc main_arg0) (ix3 (batch t) ⟨256 * ((rows t).val - 2) + r.val, by omega⟩ ⟨3072 + l.val, by omega⟩) := by
  unfold X0_4 Pipeline.Window.fill
  rw [dif_pos (moved0_4 t _)]
  have e := idx_4 t
  blk_simp [iblk]
  rw [V_main_arg0]
  refine congrArg _ ?_
  blk_ext [e, batch, rows]

theorem read_5 (c : Dev nD) (t : Fin cfg0.N) (r : Fin 256) (l : Fin 1536) :
    X0_5 m c t (ix3 0 r l)
      = m ((c : Thread nD τ).loc main_arg0) (ix3 (batch t) ⟨256 * ((rows t).val - 1) + r.val, by omega⟩ ⟨3072 + l.val, by omega⟩) := by
  unfold X0_5 Pipeline.Window.fill
  rw [dif_pos (moved0_5 t _)]
  have e := idx_5 t
  blk_simp [iblk]
  rw [V_main_arg0]
  refine congrArg _ ?_
  blk_ext [e, batch, rows]

theorem read_6 (c : Dev nD) (t : Fin cfg0.N) (r : Fin 256) (l : Fin 1536) :
    X0_6 m c t (ix3 0 r l)
      = m ((c : Thread nD τ).loc main_arg0) (ix3 (batch t) ⟨256 * (rows t).val + r.val, by omega⟩ ⟨3072 + l.val, by omega⟩) := by
  unfold X0_6 Pipeline.Window.fill
  rw [dif_pos (moved0_6 t _)]
  have e := idx_6 t
  blk_simp [iblk]
  rw [V_main_arg0]
  refine congrArg _ ?_
  blk_ext [e, batch, rows]

/-- An entry of the bias padded to the key columns: the bias moved right by `lo`, the filler elsewhere. -/
theorem pad_entry (lo hi : Nat) (x : Vec Ideal S12x64x576 .f32) (v : Vec Ideal S_ .f32)
    (hp : S12x64x576.Pads (![0, 0, lo] : Fin 3 → Nat) ![0, 0, hi] ![0, 0, 0] S12x64x768) (hv : EReal)
    (he : ∀ i, v i = hv) (h : Fin 12) (r : Fin 64) (k : Fin 768) :
    pad S12x64x768 (![0, 0, lo] : Fin 3 → Nat) ![0, 0, hi] ![0, 0, 0] x v hp h_S_ (ix3 h r k)
      = if hk : lo ≤ k.val ∧ k.val - lo < 576 then x (ix3 h r ⟨k.val - lo, hk.2⟩) else hv := by
  pointwise
  rw [he]

/-- The same with the amount moved and the row named another way. -/
theorem pad_entry_eq (lo hi : Nat) (x : Vec Ideal S12x64x576 .f32) (v : Vec Ideal S_ .f32)
    (hp : S12x64x576.Pads (![0, 0, lo] : Fin 3 → Nat) ![0, 0, hi] ![0, 0, 0] S12x64x768)
    (he : ∀ i, v i = (⊥ : EReal)) (h : Fin 12) (r : Fin 64) (k : Fin 768) (r' : Fin 256) (hr : r.val = r'.val % 64)
    (hl : lo = 64 * (r'.val / 64)) :
    pad S12x64x768 (![0, 0, lo] : Fin 3 → Nat) ![0, 0, hi] ![0, 0, 0] x v hp h_S_ (ix3 h r k)
      = if hk : 64 * (r'.val / 64) ≤ k.val ∧ k.val - 64 * (r'.val / 64) < 576 then
          x (ix3 h ⟨r'.val % 64, by omega⟩ ⟨k.val - 64 * (r'.val / 64), hk.2⟩) else (⊥ : EReal) := by
  subst hl
  obtain ⟨v', hv⟩ := r
  have e : v' = r'.val % 64 := hr
  subst e
  exact pad_entry _ _ _ _ _ ⊥ he _ _ _

/-- The prepared bias: row `r` of the block is row `r % 64` of the bias, moved right by 64 columns for each chunk before it. -/
theorem bias_apply (c : Dev nD) (h : Fin 12) (r : Fin 256) (k : Fin 768) :
    V m c main_v4 (ix3 h r k)
      = if hk : 64 * (r.val / 64) ≤ k.val ∧ k.val - 64 * (r.val / 64) < 576 then
          m ((c : Thread nD τ).loc main_arg1) (ix3 h ⟨r.val % 64, by omega⟩ ⟨k.val - 64 * (r.val / 64), hk.2⟩) else (⊥ : EReal) := by
  unfold V
  after_reads_simp
  pointwise
  after_reads_simp
  split
  · exact pad_entry_eq 0 192 (m ((c : Thread nD τ).loc main_arg1)) (constant S_ .f32 (F := Ideal) 0xFF800000#32) pads_S12x64x576_S12x64x768_000_000_01920
      (fun _ => Attend.ofBits_neg_inf) h ⟨r.val, by omega⟩ k r (by show r.val = _; omega) (by omega)
  · split
    · exact pad_entry_eq 64 128 (m ((c : Thread nD τ).loc main_arg1)) (constant S_ .f32 (F := Ideal) 0xFF800000#32) pads_S12x64x576_S12x64x768_000_000_641280
        (fun _ => Attend.ofBits_neg_inf) h ⟨r.val - 64, by omega⟩ k r (by show r.val - 64 = _; omega) (by omega)
    · split
      · exact pad_entry_eq 128 64 (m ((c : Thread nD τ).loc main_arg1)) (constant S_ .f32 (F := Ideal) 0xFF800000#32) pads_S12x64x576_S12x64x768_000_000_128640
          (fun _ => Attend.ofBits_neg_inf) h ⟨r.val - 64 - 64, by omega⟩ k r (by show r.val - 64 - 64 = _; omega) (by omega)
      · exact pad_entry_eq 192 0 (m ((c : Thread nD τ).loc main_arg1)) (constant S_ .f32 (F := Ideal) 0xFF800000#32) pads_S12x64x576_S12x64x768_000_000_19200
          (fun _ => Attend.ofBits_neg_inf) h ⟨r.val - 64 - 64 - 64, by omega⟩ k r (by show r.val - 64 - 64 - 64 = _; omega) (by omega)

theorem read_bias (c : Dev nD) (t : Fin cfg0.N) (h : Fin 12) (r : Fin 256) (k : Fin 768) :
    iblk m c 7 t (ix3 h r k)
      = if hk : 64 * (r.val / 64) ≤ k.val ∧ k.val - 64 * (r.val / 64) < 576 then
          m ((c : Thread nD τ).loc main_arg1) (ix3 h ⟨r.val % 64, by omega⟩ ⟨k.val - 64 * (r.val / 64), hk.2⟩) else (⊥ : EReal) := by
  have e := idx_7 t
  rw [← bias_apply]
  blk_simp [iblk]
  refine congrArg _ ?_
  blk_ext [e]

/-- One head of one point: the block's entry is the reference's attention there. -/
theorem piece (c : Dev nD) (hz : ∀ i, Attend.Finite (m ((c : Thread nD τ).loc main_arg0) i))
    (hb : ∀ i, Attend.Finite (m ((c : Thread nD τ).loc main_arg1) i)) (t : Fin cfg0.N) (h : Fin 12)
    (fq : S1x256x128.Idx → S1x256x1536.Idx) (fb : S1x256x768.Idx → S12x256x768.Idx)
    (hq : ∀ r d, fq (ix3 0 r d) = ix3 0 r ⟨h.val * 128 + d.val, by omega⟩)
    (hf : ∀ r k, fb (ix3 0 r k) = ix3 h r k) (x : S1x256x128.Idx) (i : S4x2048x1536.Idx)
    (h0 : i 0 = batch t) (h1 : (i 1).val = 256 * (rows t).val + (x 1).val) (h2 : (i 2).val = h.val * 128 + (x 2).val) :
    headBlock (grid0.coords t) (fun j => X0_0 m c t (fq j)) (fun j => X0_1 m c t (fq j)) (fun j => X0_2 m c t (fq j))
        (fun j => X0_3 m c t (fq j)) (fun j => X0_4 m c t (fq j)) (fun j => X0_5 m c t (fq j))
        (fun j => X0_6 m c t (fq j)) (fun j => iblk m c 7 t (fb j)) x
      = result (m ((c : Thread nD τ).loc main_arg0)) (m ((c : Thread nD τ).loc main_arg1)) i := by
  have hx1 : (x 1).val < 256 := (x 1).isLt
  have hx2 : (x 2).val < 128 := (x 2).isLt
  have hr : (rows t).val < 8 := (rows t).isLt
  refine (head_row (m ((c : Thread nD τ).loc main_arg0)) (m ((c : Thread nD τ).loc main_arg1)) hz hb (batch t)
    (rows t) h (grid0.coords t) (coord_fin t).1 _ _ _ _ _ _ _ _ ?_ ?_ ?_ ?_ ?_ ?_ ?_ ?_ x (x 1) (x 2) rfl rfl).trans ?_
  · intro r d
    show X0_0 m c t (fq (ix3 0 r d)) = _
    rw [hq]
    exact read_0 m c t r _
  · intro r d
    show X0_1 m c t (fq (ix3 0 r d)) = _
    rw [hq]
    exact read_1 m c t r _
  · intro r d
    show X0_2 m c t (fq (ix3 0 r d)) = _
    rw [hq]
    exact read_2 m c t r _
  · intro r d
    show X0_3 m c t (fq (ix3 0 r d)) = _
    rw [hq]
    exact read_3 m c t r _
  · intro r d
    show X0_4 m c t (fq (ix3 0 r d)) = _
    rw [hq]
    exact read_4 m c t r _
  · intro r d
    show X0_5 m c t (fq (ix3 0 r d)) = _
    rw [hq]
    exact read_5 m c t r _
  · intro r d
    show X0_6 m c t (fq (ix3 0 r d)) = _
    rw [hq]
    exact read_6 m c t r _
  · intro r k
    show iblk m c 7 t (fb (ix3 0 r k)) = _
    rw [hf]
    exact read_bias m c t h r k
  · unfold result
    have e1 : (⟨4 * (rows t).val + (x 1).val / 64, by omega⟩ : Fin 32)
        = ⟨(i 1).val / 64, by have : (i 1).val < 2048 := (i 1).isLt; omega⟩ := Fin.ext (by show 4 * (rows t).val + (x 1).val / 64 = (i 1).val / 64; omega)
    have e2 : (⟨(x 1).val % 64, by omega⟩ : Fin 64) = ⟨(i 1).val % 64, by omega⟩ := Fin.ext (by show (x 1).val % 64 = (i 1).val % 64; omega)
    have e3 : h = ⟨(i 2).val / 128, by have : (i 2).val < 1536 := (i 2).isLt; omega⟩ := Fin.ext (by show _ = (i 2).val / 128; omega)
    have e4 : x 2 = (⟨(i 2).val % 128, by omega⟩ : Fin 128) := Fin.ext (by show _ = (i 2).val % 128; omega)
    rw [e1, e2, h0, e4]
    exact congrArg (fun a => Cert.AttnRefIdeal.Hand.attn _ _ (batch t) a _ _ _) e3

/-- Where a head's columns of a block lie. -/
theorem at_columns (h : Fin 12) (o : Nat) (ho : o = h.val * 128)
    (inb : ∀ a : Fin 3, (![0, 0, o] : Fin 3 → Nat) a + (![1, 256, 128] : Fin 3 → Nat) a ≤ S1x256x1536.size a)
    (r : Fin 256) (d : Fin 128) :
    (Rect.unit (s := S1x256x1536) ![0, 0, o] ![1, 256, 128] inb).idx (ix3 0 r d) = ix3 0 r ⟨h.val * 128 + d.val, by omega⟩ := by
  subst ho
  funext a
  refine Fin.ext ?_
  match a with
  | 0 => rfl
  | 1 => show 0 + 1 * r.val = r.val; omega
  | 2 => show h.val * 128 + 1 * d.val = h.val * 128 + d.val; omega

/-- Where a head's rows of the prepared bias lie. -/
theorem at_head (h : Fin 12) (n : Nat) (hn : n = h.val)
    (inb : ∀ a : Fin 3, (![n, 0, 0] : Fin 3 → Nat) a + (![1, 256, 768] : Fin 3 → Nat) a ≤ S12x256x768.size a)
    (r : Fin 256) (k : Fin 768) :
    (Rect.unit (s := S12x256x768) ![n, 0, 0] ![1, 256, 768] inb).idx (ix3 0 r k) = ix3 h r k := by
  subst hn
  funext a
  refine Fin.ext ?_
  match a with
  | 0 => show h.val + 1 * 0 = h.val; omega
  | 1 => show 0 + 1 * r.val = r.val; omega
  | 2 => show 0 + 1 * k.val = k.val; omega

/-! Each head's operations, however the body groups them, are those of one head. -/

section

variable (g : grid0.Coords) (q k1 k2 k3 v1 v2 v3 : Vec Ideal S1x256x128 .f32) (b : Vec Ideal S1x256x768 .f32)

theorem head_0 : k0_pay26 (k0_pay2 g) (k0_pay24 v1 v2 v3) (k0_pay25 (k0_pay3 k1 k2 k3 q)) b = headBlock g q k1 k2 k3 v1 v2 v3 b := rfl
theorem head_1 : k0_pay30 (k0_pay2 g) (k0_pay27 v1 v2 v3) (k0_pay28 (k0_pay5 (k0_pay4 k1 k2 k3) q) b) k0_pay29 = headBlock g q k1 k2 k3 v1 v2 v3 b := rfl
theorem head_2 : k0_pay33 (k0_pay31 v1 v2 v3) (k0_pay32 (k0_pay2 g) (k0_pay6 k1 k2 k3 q) b) = headBlock g q k1 k2 k3 v1 v2 v3 b := rfl
theorem head_3 : k0_pay36 (k0_pay34 v1 v2 v3) (k0_pay35 (k0_pay2 g) (k0_pay9 (k0_pay7 k1 k2 k3) (k0_pay8 q) (constant S256x768 .f32 0#32)) b) (constant S256x128 .f32 0#32) = headBlock g q k1 k2 k3 v1 v2 v3 b := rfl
theorem head_4 : k0_pay38 (k0_pay37 (k0_pay2 g) (k0_pay10 k1 k2 k3 q) v1 v2 v3 b) = headBlock g q k1 k2 k3 v1 v2 v3 b := rfl
theorem head_5 : k0_pay39 (k0_pay2 g) (k0_pay11 k1 k2 k3 q) v1 v2 v3 b = headBlock g q k1 k2 k3 v1 v2 v3 b := rfl
theorem head_6 : k0_pay41 (k0_pay2 g) (k0_pay13 (k0_pay12 k1) k2 k3 q) (k0_pay40 v1) v2 v3 b = headBlock g q k1 k2 k3 v1 v2 v3 b := rfl
theorem head_7 : k0_pay44 (k0_pay2 g) (k0_pay14 k1 k2 k3 q) (k0_pay42 v1) (k0_pay43 v2) v3 b = headBlock g q k1 k2 k3 v1 v2 v3 b := rfl
theorem head_8 : k0_pay46 (k0_pay2 g) (k0_pay17 (k0_pay15 k1) (k0_pay16 k2) k3 q) (k0_pay45 v1 v2 v3) b = headBlock g q k1 k2 k3 v1 v2 v3 b := rfl
theorem head_9 : k0_pay49 (k0_pay2 g) (k0_pay47 v1 v2 v3) (k0_pay48 (k0_pay18 k1 k2 k3 q)) b = headBlock g q k1 k2 k3 v1 v2 v3 b := rfl
theorem head_10 : k0_pay53 (k0_pay50 v1 v2 v3) (k0_pay51 (k0_pay2 g) (k0_pay22 (k0_pay19 k1) (k0_pay20 k2) (k0_pay21 k3) q) b) (k0_pay52 (k0_pay2 g) (k0_pay22 (k0_pay19 k1) (k0_pay20 k2) (k0_pay21 k3) q) b) = headBlock g q k1 k2 k3 v1 v2 v3 b := rfl
theorem head_11 : k0_pay1 (k0_pay54 v1 v2 v3) (k0_pay55 (k0_pay2 g) (k0_pay23 k1 k2 k3 q) b) (k0_pay56 (k0_pay2 g) (k0_pay23 k1 k2 k3 q) b) = headBlock g q k1 k2 k3 v1 v2 v3 b := rfl

end

/-- `piece` as the body reads its blocks. -/
theorem piece_ld (c : Dev nD) (hz : ∀ i, Attend.Finite (m ((c : Thread nD τ).loc main_arg0) i))
    (hb : ∀ i, Attend.Finite (m ((c : Thread nD τ).loc main_arg1) i)) (t : Fin cfg0.N) (h : Fin 12) (o n : Nat)
    (ho : o = h.val * 128) (hn : n = h.val)
    (iq : ∀ a : Fin 3, (![0, 0, o] : Fin 3 → Nat) a + (![1, 256, 128] : Fin 3 → Nat) a ≤ S1x256x1536.size a)
    (ib : ∀ a : Fin 3, (![n, 0, 0] : Fin 3 → Nat) a + (![1, 256, 768] : Fin 3 → Nat) a ≤ S12x256x768.size a)
    (x : S1x256x128.Idx) (i : S4x2048x1536.Idx)
    (h0 : i 0 = batch t) (h1 : (i 1).val = 256 * (rows t).val + (x 1).val) (h2 : (i 2).val = h.val * 128 + (x 2).val) :
    headBlock (grid0.coords t) (View.ld (X0_0 m c t) (Rect.unit ![0, 0, o] ![1, 256, 128] iq))
        (View.ld (X0_1 m c t) (Rect.unit ![0, 0, o] ![1, 256, 128] iq))
        (View.ld (X0_2 m c t) (Rect.unit ![0, 0, o] ![1, 256, 128] iq))
        (View.ld (X0_3 m c t) (Rect.unit ![0, 0, o] ![1, 256, 128] iq))
        (View.ld (X0_4 m c t) (Rect.unit ![0, 0, o] ![1, 256, 128] iq))
        (View.ld (X0_5 m c t) (Rect.unit ![0, 0, o] ![1, 256, 128] iq))
        (View.ld (X0_6 m c t) (Rect.unit ![0, 0, o] ![1, 256, 128] iq))
        (View.ld (iblk m c 7 t) (Rect.unit ![n, 0, 0] ![1, 256, 768] ib)) x
      = result (m ((c : Thread nD τ).loc main_arg0)) (m ((c : Thread nD τ).loc main_arg1)) i :=
  piece m c hz hb t h (Rect.unit (s := S1x256x1536) ![0, 0, o] ![1, 256, 128] iq).idx
    (Rect.unit (s := S12x256x768) ![n, 0, 0] ![1, 256, 768] ib).idx (at_columns h o ho iq) (at_head h n hn ib) x i h0 h1 h2

/-- The block a point leaves, entry by entry. -/
theorem outs_apply (c : Dev nD) (hz : ∀ i, Attend.Finite (m ((c : Thread nD τ).loc main_arg0) i))
    (hb : ∀ i, Attend.Finite (m ((c : Thread nD τ).loc main_arg1) i)) (t : Fin cfg0.N) (y : S1x256x1536.Idx)
    (i : S4x2048x1536.Idx) (h0 : i 0 = batch t) (h1 : (i 1).val = 256 * (rows t).val + (y 1).val)
    (h2 : (i 2).val = (y 2).val) :
    outsAt0 m c t y = result (m ((c : Thread nD τ).loc main_arg0)) (m ((c : Thread nD τ).loc main_arg1)) i := by
  unfold outsAt0
  frame_out
  canon_tiles x e
  · exact (congrFun (head_11 (grid0.coords t) _ _ _ _ _ _ _ _) x).trans (piece_ld m c hz hb t 11 1408 11 rfl rfl _ _ x i h0
      (by omega) (by show (i 2).val = 11 * 128 + (x 2).val; omega))
  · exact (congrFun (head_10 (grid0.coords t) _ _ _ _ _ _ _ _) x).trans (piece_ld m c hz hb t 10 1280 10 rfl rfl _ _ x i h0
      (by omega) (by show (i 2).val = 10 * 128 + (x 2).val; omega))
  · exact (congrFun (head_9 (grid0.coords t) _ _ _ _ _ _ _ _) x).trans (piece_ld m c hz hb t 9 1152 9 rfl rfl _ _ x i h0
      (by omega) (by show (i 2).val = 9 * 128 + (x 2).val; omega))
  · exact (congrFun (head_8 (grid0.coords t) _ _ _ _ _ _ _ _) x).trans (piece_ld m c hz hb t 8 1024 8 rfl rfl _ _ x i h0
      (by omega) (by show (i 2).val = 8 * 128 + (x 2).val; omega))
  · exact (congrFun (head_7 (grid0.coords t) _ _ _ _ _ _ _ _) x).trans (piece_ld m c hz hb t 7 896 7 rfl rfl _ _ x i h0
      (by omega) (by show (i 2).val = 7 * 128 + (x 2).val; omega))
  · exact (congrFun (head_6 (grid0.coords t) _ _ _ _ _ _ _ _) x).trans (piece_ld m c hz hb t 6 768 6 rfl rfl _ _ x i h0
      (by omega) (by show (i 2).val = 6 * 128 + (x 2).val; omega))
  · exact (congrFun (head_5 (grid0.coords t) _ _ _ _ _ _ _ _) x).trans (piece_ld m c hz hb t 5 640 5 rfl rfl _ _ x i h0
      (by omega) (by show (i 2).val = 5 * 128 + (x 2).val; omega))
  · exact (congrFun (head_4 (grid0.coords t) _ _ _ _ _ _ _ _) x).trans (piece_ld m c hz hb t 4 512 4 rfl rfl _ _ x i h0
      (by omega) (by show (i 2).val = 4 * 128 + (x 2).val; omega))
  · exact (congrFun (head_3 (grid0.coords t) _ _ _ _ _ _ _ _) x).trans (piece_ld m c hz hb t 3 384 3 rfl rfl _ _ x i h0
      (by omega) (by show (i 2).val = 3 * 128 + (x 2).val; omega))
  · exact (congrFun (head_2 (grid0.coords t) _ _ _ _ _ _ _ _) x).trans (piece_ld m c hz hb t 2 256 2 rfl rfl _ _ x i h0
      (by omega) (by show (i 2).val = 2 * 128 + (x 2).val; omega))
  · exact (congrFun (head_1 (grid0.coords t) _ _ _ _ _ _ _ _) x).trans (piece_ld m c hz hb t 1 128 1 rfl rfl _ _ x i h0
      (by omega) (by show (i 2).val = 1 * 128 + (x 2).val; omega))
  · exact (congrFun (head_0 (grid0.coords t) _ _ _ _ _ _ _ _) x).trans (piece_ld m c hz hb t 0 0 0 rfl rfl _ _ x i h0
      (by omega) (by show (i 2).val = 0 * 128 + (x 2).val; omega))

/-- The result array holds the reference's attention. -/
theorem final_o (c : Dev nD) (hz : ∀ i, Attend.Finite (m ((c : Thread nD τ).loc main_arg0) i))
    (hb : ∀ i, Attend.Finite (m ((c : Thread nD τ).loc main_arg1) i)) :
    (dats m 0 c).arrAt 8 cfg0.N
      = result (m ((c : Thread nD τ).loc main_arg0)) (m ((c : Thread nD τ).loc main_arg1)) := by
  refine (dats m 0 c).arrAt_eq_of_covers 8 _ (by decide +kernel) fun t hf y => ?_
  blk_simp
  rw [after0_8]
  have e := idx_8 t
  have y0 : (y 0).val < 1 := (y 0).isLt
  refine outs_apply m c hz hb t y _ (Fin.ext ?_) ?_ ?_
  · blk_simp [batch]
  · show _ = 256 * win0_8.index t 1 + (y 1).val
    blk_simp
    omega
  · blk_simp [e]

end Cert.AttnIdeal.Hand
-- ==== Proof.AttnClaim.lean ====
module

public import proofs.«01_k».proof.Defs
public import proofs.«01_k».proof.Proof.AttnKernel
public import proofs.«01_k».proof.Proof.AttnReference
public import proofs.«01_k».proof.Proof.Gen.AttnRefIdeal.Read
public import proofs.«01_k».proof.Proof.Gen.Pre_finite_attn
public import Idealize.ShloMosaic.Lib.ReduceAll

@[expose] public section

/-! The chunked attention's kernel and its reference end with the same array, over finite arguments. -/

namespace Cert.AttnClaim

open Idealize.ShloMosaic Idealize.ShloMosaic.TcCoe Idealize.SL.Sem

theorem reference_eq (x0 : Vec Ideal Cert.AttnRefIdeal.S4x2048x5120 .f32) (x1 : Vec Ideal Cert.AttnRefIdeal.S12x64x576 .f32) :
    Cert.AttnRefIdeal.Read.val_main_v83 (F := Ideal) x0 x1 = Cert.AttnIdeal.Hand.result x0 x1 :=
  funext fun i => Cert.AttnRefIdeal.Hand.ref_apply x0 x1 _ _ _ _ _ i rfl (by
    show (i 1).val = 64 * ((i 1).val / 64) + (i 1).val % 64; omega) (by
    show (i 2).val = (i 2).val / 128 * 128 + (i 2).val % 128; omega)

/-- A number whose magnitude is below plus infinity is finite. -/
theorem finite_of_lt (x : EReal)
    (h : FloatOps.cmpf (F := Ideal) (φ := .f32) .olt (FloatOps.hostAbsf (F := Ideal) (φ := .f32) x)
      (FloatOps.ofBits (F := Ideal) .f32 0x7F800000#32) = 1#1) : Attend.Finite x := by
  have ht : Ideal.ofBits .f32 0x7F800000#32 = ⊤ := by simp [Ideal.ofBits, Ideal.ieee]
  simp only [Ideal.cmpf_def, Ideal.hostAbsf_def, Ideal.ofBits_def, Ideal.absf_def, ht, Ideal.cmp] at h
  constructor
  · rintro rfl
    simp at h
  · rintro rfl
    simp at h

theorem and_one : ∀ a b : BitVec 1, IntOp.andi a b = 1#1 → a = 1#1 ∧ b = 1#1 := by decide

instance : Subsingleton Cert.Pre_finite_attn.S_.Idx := ⟨fun _ _ => funext fun a => a.elim0⟩

/-- The precondition says that every entry of both arguments is finite. -/
theorem finite_of_pre (x0 : Vec Ideal Cert.AttnRefIdeal.S4x2048x5120 .f32) (x1 : Vec Ideal Cert.AttnRefIdeal.S12x64x576 .f32)
    (h : Cert.Pre_finite_attn.fn (F := Ideal) x0 x1 = fun _ => 1#1) :
    (∀ i, Attend.Finite (x0 i)) ∧ ∀ i, Attend.Finite (x1 i) := by
  have e := congrFun h (Shape.Idx.first Cert.Pre_finite_attn.Facts.h_S_)
  unfold Cert.Pre_finite_attn.fn at e
  have e' := and_one _ _ e
  exact ⟨fun i => finite_of_lt _ (Host.reduce_andi_all _ _ _ _ _ e'.1 i),
    fun i => finite_of_lt _ (Host.reduce_andi_all _ _ _ _ _ e'.2 i)⟩

theorem preserves : Cert.preserves_Attn_AttnIdeal :=
  IdealRules.named_const.statement Cert.AttnIdeal.κ "mask" .f32 0xF149F2CA#32 ⊥ rfl

theorem algebraic : Cert.algebraic_AttnIdeal_AttnRefIdeal_pre_finite_attn := by
  intro m g m' g' hp h
  have hf := fun c => finite_of_pre _ _ (hp c)
  refine ⟨fun c => Cert.AttnIdeal.Hand.result (m ((c.tc : Thread Cert.AttnIdeal.nD Cert.AttnIdeal.τ).loc Cert.AttnIdeal.main_arg0))
    (m ((c.tc : Thread Cert.AttnIdeal.nD Cert.AttnIdeal.τ).loc Cert.AttnIdeal.main_arg1)), ?_, ?_⟩
  · refine (θ_run _ _ _).mono (fun r hr c =>
      ⟨(hr c).1.trans (Cert.AttnIdeal.Hand.final_o m c (hf c).1 (hf c).2), (hr c).2⟩) (Cert.AttnIdeal.Value.run_blocks m g)
  · refine (θ_run _ _ _).mono (fun r hr c => ⟨(hr c).1.trans ?_, (hr c).2⟩) (Cert.AttnRefIdeal.Value.run m' g')
    refine (Cert.AttnRefIdeal.Read.val_main_v83_eq m' c).trans ?_
    rw [(h c).1, (h c).2]
    exact reference_eq _ _

end Cert.AttnClaim
-- ==== Proof.HgrnGate.lean ====
module

public import Idealize.ShloMosaic.PureOps.Ideal
public import Idealize.ShloMosaic.PureOps.Ideal.Laws

@[expose] public section

noncomputable section

/-! The gates of the recurrent layer at the exact values: the lower bound the parameters give, the forget gate's logarithm
in the kernel's spelling and in the reference's, the input key, and the running sums of the logarithms. -/

namespace Hgrn

open Idealize.ShloMosaic

theorem max_coe (a c : ℝ) : max (a : EReal) (c : EReal) = ((max a c : ℝ) : EReal) :=
  (EReal.coe_strictMono.monotone.map_max).symm

/-- The greater of the two parameters of a column. -/
def greatest (l : Fin 2 → EReal) : EReal := max (l 0) (l 1)

/-- One of the two shares of a column: the softmax of its parameters. -/
def share (l : Fin 2 → EReal) (r : Fin 2) : EReal :=
  Ideal.div (Ideal.exp (l r - greatest l)) (Ideal.exp (l 0 - greatest l) + Ideal.exp (l 1 - greatest l))

/-- The lower bound of the second layer: both shares together less the first. -/
def lower (l : Fin 2 → EReal) : EReal := share l 0 + share l 1 - share l 0

theorem fold_greatest (l : Fin 2 → EReal) : Finset.fold max ⊥ l Finset.univ = greatest l := by
  rw [show (Finset.univ : Finset (Fin 2)) = {0, 1} from rfl, Finset.fold_insert (by decide), Finset.fold_singleton]
  simp [greatest]

theorem div_real {y : ℝ} (h : y ≠ 0) (x : ℝ) : Ideal.div (x : EReal) (y : EReal) = ((x / y : ℝ) : EReal) := by
  rw [Ideal.div_coe h, ← EReal.coe_mul]
  congr 1
  field_simp

/-- Of numbers, the lower bound is a number strictly between nought and one. -/
theorem lower_real (l : Fin 2 → EReal) (h : ∀ r, ∃ x : ℝ, l r = x) : ∃ b : ℝ, 0 < b ∧ b < 1 ∧ lower l = b := by
  obtain ⟨a, ha⟩ := h 0
  obtain ⟨c, hc⟩ := h 1
  obtain ⟨M, hM⟩ : ∃ M : ℝ, greatest l = M := ⟨max a c, by rw [greatest, ha, hc, max_coe]⟩
  have e0 := Real.exp_pos (a - M)
  have e1 := Real.exp_pos (c - M)
  have hS : Real.exp (a - M) + Real.exp (c - M) ≠ 0 := by positivity
  refine ⟨Real.exp (c - M) / (Real.exp (a - M) + Real.exp (c - M)), by positivity, ?_, ?_⟩
  · rw [div_lt_one (by positivity)]
    linarith
  · unfold lower share
    rw [hM, ha, hc, ← EReal.coe_sub, ← EReal.coe_sub, Ideal.exp_coe, Ideal.exp_coe, ← EReal.coe_add, div_real hS, div_real hS,
      ← EReal.coe_add, ← EReal.coe_sub]
    congr 1
    ring

/-- The logistic function as a number: nought and one at the ends. -/
def sig : EReal → ℝ
  | ⊥ => 0
  | ⊤ => 1
  | (r : ℝ) => (1 + Real.exp (-r))⁻¹

theorem sig_coe (r : ℝ) : sig r = (1 + Real.exp (-r))⁻¹ := rfl
theorem sig_top : sig ⊤ = 1 := rfl
theorem sig_bot : sig ⊥ = 0 := rfl

theorem sig_nonneg (x : EReal) : 0 ≤ sig x := by
  induction x with
  | bot => simp [sig_bot]
  | top => simp [sig_top]
  | coe r => rw [sig_coe]; positivity

theorem sig_le_one (x : EReal) : sig x ≤ 1 := by
  induction x with
  | bot => simp [sig_bot]
  | top => simp [sig_top]
  | coe r =>
    rw [sig_coe]
    have := Real.exp_pos (-r)
    exact inv_le_one_of_one_le₀ (by linarith)

/-- The decay the kernel's logistic functions share. -/
def decay (x : EReal) : EReal := Ideal.exp (0 - max x (-x))

/-- The kernel's logistic function of a gate. -/
def opened (x : EReal) : EReal :=
  if 0 ≤ x then Ideal.div 1 (1 + decay x) else decay x * Ideal.div 1 (1 + decay x)

/-- The kernel's logistic function of a gate's negation. -/
def shut (x : EReal) : EReal :=
  if 0 ≤ x then decay x * Ideal.div 1 (1 + decay x) else Ideal.div 1 (1 + decay x)

theorem decay_coe (r : ℝ) : decay r = ((Real.exp (-|r|) : ℝ) : EReal) := by
  unfold decay
  rw [show max (r : EReal) (-(r : EReal)) = ((|r| : ℝ) : EReal) by rw [← EReal.coe_neg, max_coe]; rfl,
    zero_sub, ← EReal.coe_neg, Ideal.exp_coe]

theorem div_one_coe (e : ℝ) (h : 0 < e) : Ideal.div 1 (1 + (e : EReal)) = ((1 / (1 + e) : ℝ) : EReal) := by
  rw [← EReal.coe_one, ← EReal.coe_add, div_real (by positivity)]

theorem div_one_one : Ideal.div 1 1 = 1 := by
  rw [← EReal.coe_one, div_real one_ne_zero]
  simp

theorem decay_top : decay ⊤ = 0 := by simp [decay]

theorem decay_bot : decay ⊥ = 0 := by simp [decay]

theorem opened_eq (x : EReal) : opened x = sig x := by
  induction x with
  | bot => simp [opened, sig_bot, decay_bot]
  | top => simp [opened, sig_top, decay_top, div_one_one]
  | coe r =>
    unfold opened
    rw [decay_coe, div_one_coe _ (Real.exp_pos _), sig_coe, ← EReal.coe_mul]
    split
    · next h =>
      rw [abs_of_nonneg (by exact_mod_cast h), one_div]
    · next h =>
      have h' : r < 0 := by exact_mod_cast not_le.mp h
      congr 1
      rw [abs_of_neg h', neg_neg, Real.exp_neg]
      have := Real.exp_pos r
      field_simp
      ring

theorem shut_eq (x : EReal) : shut x = sig (-x) := by
  induction x with
  | bot => simp [shut, sig_top, decay_bot, div_one_one]
  | top => simp [shut, sig_bot, decay_top]
  | coe r =>
    unfold shut
    rw [decay_coe, div_one_coe _ (Real.exp_pos _), ← EReal.coe_neg, sig_coe, ← EReal.coe_mul, neg_neg]
    split
    · next h =>
      congr 1
      rw [abs_of_nonneg (by exact_mod_cast h), Real.exp_neg]
      have := Real.exp_pos r
      field_simp
      ring
    · next h =>
      have h' : r < 0 := by exact_mod_cast not_le.mp h
      rw [abs_of_neg h', neg_neg, one_div]

/-- The reference's logistic function. -/
theorem logistic_eq (x : EReal) : Ideal.div 1 (1 + Ideal.exp (-x)) = sig x := by
  have h := Ideal.logistic_coe
  induction x with
  | bot => simpa [Ideal.logistic, sig_bot] using Ideal.logistic_bot
  | top => simpa [Ideal.logistic, sig_top] using Ideal.logistic_top
  | coe r => exact h r

/-- The logarithm of a forget gate with lower bound `b`, as a number. -/
def logForget (b : ℝ) (x : EReal) : ℝ := Real.log (b + (1 - b) * sig x)

theorem gate_pos {b : ℝ} (h0 : 0 < b) (h1 : b < 1) (x : EReal) : 0 < b + (1 - b) * sig x := by
  have := mul_nonneg (sub_nonneg.mpr h1.le) (sig_nonneg x)
  linarith

theorem logForget_nonpos {b : ℝ} (h0 : 0 < b) (h1 : b < 1) (x : EReal) : logForget b x ≤ 0 := by
  refine Real.log_nonpos (gate_pos h0 h1 x).le ?_
  have := mul_le_mul_of_nonneg_left (sig_le_one x) (sub_nonneg.mpr h1.le)
  linarith

/-- The kernel's logarithm of the forget gate. -/
def logKernel (b x : EReal) : EReal :=
  if 0 < b + (1 - b) * opened x then Ideal.log (b + (1 - b) * opened x) else x

theorem logKernel_eq {b : ℝ} (h0 : 0 < b) (h1 : b < 1) (x : EReal) : logKernel b x = logForget b x := by
  unfold logKernel
  have e : (b : EReal) + (1 - (b : EReal)) * (opened x) = ((b + (1 - b) * sig x : ℝ) : EReal) := by
    rw [opened_eq]
    push_cast
    rfl
  have hp := gate_pos h0 h1 x
  rw [e, if_pos (by exact_mod_cast hp), Ideal.log_coe, if_neg (not_le.mpr hp)]
  rfl

/-- The logarithm of a sum of two exponentials, as the reference computes it. -/
def logSum (a c : EReal) : EReal := max a c + Ideal.log1p (Ideal.exp (-(max (a - c) (-(a - c)))))

theorem logSum_coe (a c : ℝ) : logSum a c = ((Real.log (Real.exp a + Real.exp c) : ℝ) : EReal) := by
  unfold logSum Ideal.log1p
  rw [← EReal.coe_sub, ← EReal.coe_neg, max_coe, max_coe, ← EReal.coe_neg, Ideal.exp_coe, ← EReal.coe_one,
    ← EReal.coe_add, Ideal.log_coe, if_neg (not_le.mpr (by positivity)), ← EReal.coe_add]
  congr 1
  have h : ∀ u v : ℝ, v ≤ u → u + Real.log (1 + Real.exp (-(u - v))) = Real.log (Real.exp u + Real.exp v) := by
    intro u v _
    have : Real.exp u + Real.exp v = Real.exp u * (1 + Real.exp (-(u - v))) := by
      rw [mul_add, mul_one, ← Real.exp_add]
      congr 2
      ring
    rw [this, Real.log_mul (Real.exp_pos _).ne' (by positivity), Real.log_exp]
  rcases le_total c a with hc | hc
  · rw [max_eq_left hc, max_eq_left (by linarith)]
    exact h a c hc
  · rw [max_eq_right hc, max_eq_right (by linarith), add_comm (Real.exp a), ← h c a hc]
    congr 4
    ring

/-- The reference's logarithm of the logistic function. -/
def logSig (x : EReal) : EReal :=
  -(max (-x) 0 + Ideal.log1p (Ideal.exp (-(max (-x - 0) (-(-x - 0))))))

/-- The reference's logarithm of the forget gate. -/
def logReference (b x : EReal) : EReal := logSum (Ideal.log b) (Ideal.log1p (-b) + logSig x)

theorem log1p_zero : Ideal.log1p 0 = 0 := by
  unfold Ideal.log1p
  rw [add_zero, ← EReal.coe_one, Ideal.log_coe, if_neg (by norm_num), Real.log_one]
  rfl

theorem logReference_eq {b : ℝ} (h0 : 0 < b) (h1 : b < 1) (x : EReal) : logReference b x = logForget b x := by
  unfold logReference logForget
  have hb : Ideal.log (b : EReal) = ((Real.log b : ℝ) : EReal) := by rw [Ideal.log_coe, if_neg (not_le.mpr h0)]
  have hc : Ideal.log1p (-(b : EReal)) = ((Real.log (1 - b) : ℝ) : EReal) := by
    unfold Ideal.log1p
    rw [← EReal.coe_neg, ← EReal.coe_one, ← EReal.coe_add, Ideal.log_coe, if_neg (not_le.mpr (by linarith)), ← sub_eq_add_neg]
  rw [hb, hc]
  induction x with
  | bot =>
    have e : logSig ⊥ = ⊥ := by simp [logSig, log1p_zero]
    rw [e, sig_bot, mul_zero, add_zero]
    simp [logSum, log1p_zero]
  | top =>
    have e : logSig ⊤ = 0 := by simp [logSig, log1p_zero]
    rw [e, sig_top, add_zero, logSum_coe, Real.exp_log h0, Real.exp_log (by linarith), mul_one]
  | coe r =>
    have e : logSig r = ((Real.log (sig r) : ℝ) : EReal) := by
      have := logSum_coe (-r) 0
      unfold logSum at this
      unfold logSig
      rw [EReal.coe_neg, EReal.coe_zero] at this
      rw [this, ← EReal.coe_neg, sig_coe, Real.log_inv, Real.exp_zero, add_comm]
    have hs : 0 < sig r := by rw [sig_coe]; positivity
    rw [e, ← EReal.coe_add, logSum_coe, Real.exp_add, Real.exp_log h0, Real.exp_log (by linarith), Real.exp_log hs]

/-! Running sums. -/

/-- The last `n` values up to position `t`, added. -/
def last (f : ℕ → EReal) (n t : ℕ) : EReal := ∑ i ∈ Finset.range n, if i ≤ t then f (t - i) else 0

theorem last_one (f : ℕ → EReal) (t : ℕ) : last f 1 t = f t := by simp [last]

/-- Adding the sum `n` positions back doubles the number of values added. -/
theorem last_double (f : ℕ → EReal) (n t : ℕ) :
    last f n t + (if n ≤ t then last f n (t - n) else 0) = last f (n + n) t := by
  unfold last
  rw [Finset.sum_range_add]
  congr 1
  split
  · next h =>
    refine Finset.sum_congr rfl fun i _ => ?_
    by_cases hi : i ≤ t - n
    · rw [if_pos hi, if_pos (by omega), Nat.sub_sub]
    · rw [if_neg hi, if_neg (by omega)]
  · next h =>
    exact (Finset.sum_eq_zero fun i _ => if_neg (by omega)).symm

/-- Once more values than there are would be added, all up to the position are. -/
theorem last_all (f : ℕ → EReal) (n t : ℕ) (h : t < n) : last f n t = ∑ i ∈ Finset.range (t + 1), f i := by
  unfold last
  obtain ⟨m, rfl⟩ : ∃ m, n = (t + 1) + m := ⟨n - (t + 1), by omega⟩
  rw [Finset.sum_range_add, Finset.sum_eq_zero (s := Finset.range m) fun i _ => if_neg (by omega), add_zero,
    ← Finset.sum_range_reflect]
  refine Finset.sum_congr rfl fun i hi => ?_
  have := Finset.mem_range.mp hi
  rw [if_pos (by omega)]
  congr 1
  omega

/-- A chunk's values as a sequence, nought after its end. -/
def seq {T : ℕ} (g : Fin T → EReal) (n : ℕ) : EReal := if h : n < T then g ⟨n, h⟩ else 0

/-- The sum of a chunk's values up to and including position `t`. -/
def upto {T : ℕ} (g : Fin T → EReal) (t : ℕ) : EReal := ∑ i ∈ Finset.range (t + 1), seq g i

theorem coe_sum_range (r : ℕ → ℝ) (n : ℕ) : ∑ i ∈ Finset.range n, (r i : EReal) = ((∑ i ∈ Finset.range n, r i : ℝ) : EReal) := by
  induction n with
  | zero => simp
  | succ n ih => rw [Finset.sum_range_succ, Finset.sum_range_succ, ih, EReal.coe_add]

/-- Of numbers none of which is above nought, a longer sum is no greater. -/
theorem upto_sub_nonpos {T : ℕ} (g : Fin T → EReal) (h : ∀ t, ∃ r : ℝ, r ≤ 0 ∧ g t = r) (s t : ℕ) (hst : s ≤ t) :
    upto g t - upto g s ≤ 0 := by
  have h' : ∀ n, ∃ r : ℝ, r ≤ 0 ∧ seq g n = r := by
    intro n
    unfold seq
    split
    · exact h _
    · exact ⟨0, le_refl _, rfl⟩
  choose r hr hg using h'
  unfold upto
  simp only [hg]
  rw [coe_sum_range, coe_sum_range, ← EReal.coe_sub]
  obtain ⟨k, rfl⟩ : ∃ k, t = s + k := ⟨t - s, by omega⟩
  rw [show s + k + 1 = (s + 1) + k by omega, Finset.sum_range_add, add_sub_cancel_left]
  exact_mod_cast Finset.sum_nonpos fun i _ => hr _

/-- One entry of the state after a chunk: what the whole chunk's forgetting leaves of the entry before it, and what each
position's key and value add, as far as the positions after it leave it. -/
def entry {T : ℕ} (s : EReal) (k v g : Fin T → EReal) : EReal :=
  Ideal.exp (upto g (T - 1)) * s + ∑ t : Fin T, k t * Ideal.exp (upto g (T - 1) - upto g t.val) * v t

/-- One entry of the state after a chunk, from the entry before it, its column's parameters, gates and values. -/
def state {T : ℕ} (s : EReal) (l : Fin 2 → EReal) (ff v : Fin T → EReal) : EReal :=
  entry s (fun t => (1 - lower l) * (sig (-ff t) : EReal)) v (fun t => logReference (lower l) (ff t))

/-- The kernel's entry of the state is that entry: it multiplies in the other order, and caps each exponent at nought. -/
theorem state_of_kernel {T : ℕ} (hT : 0 < T) (s : EReal) (l : Fin 2 → EReal) (hl : ∀ r, ∃ x : ℝ, l r = x) (ff v : Fin T → EReal) :
    s * Ideal.exp (upto (fun t => logKernel (lower l) (ff t)) (T - 1))
        + ∑ t : Fin T, v t * ((1 - lower l) * shut (ff t)
            * Ideal.exp (min (upto (fun t => logKernel (lower l) (ff t)) (T - 1) - upto (fun t => logKernel (lower l) (ff t)) t.val) 0))
      = state s l ff v := by
  obtain ⟨b, h0, h1, hb⟩ := lower_real l hl
  have hg : (fun t => logKernel (lower l) (ff t)) = fun t => logReference (lower l) (ff t) := funext fun t => by
    rw [hb, logKernel_eq h0 h1, logReference_eq h0 h1]
  have hr : ∀ t, ∃ r : ℝ, r ≤ 0 ∧ (fun t => logReference (lower l) (ff t)) t = r := fun t =>
    ⟨_, logForget_nonpos h0 h1 (ff t), by
      show logReference (lower l) (ff t) = _
      rw [hb, logReference_eq h0 h1]⟩
  unfold state entry
  rw [hg, mul_comm s]
  congr 1
  refine Finset.sum_congr rfl fun t _ => ?_
  rw [min_eq_left (upto_sub_nonpos _ hr t.val (T - 1) (by omega)), shut_eq, mul_comm]

end Hgrn
-- ==== Proof.HgrnSKernel.lean ====
module

public import proofs.«01_k».proof.Proof.HgrnGate
public import proofs.«01_k».proof.Proof.Gen.HgrnSIdeal.Value
public import Idealize.ShloMosaic.Lib.Pointwise
public import Idealize.ShloMosaic.Lib.Pipeline.ValueKit.Point
public import Idealize.ShloMosaic.Lib.Pipeline.ValueKit.Tiles
public import Idealize.ShloMosaic.Lib.Pipeline.ValueKit.Geometry
public import Idealize.ShloMosaic.Lib.Pipeline.ReadBack
public import Idealize.ShloMosaic.Lib.StableHlo.RunRead

@[expose] public section

noncomputable section

/-! What the recurrent kernel leaves in its state array for the sample batch: at every index the state the reference names. -/

namespace Cert.HgrnSIdeal.Hand

open Cert.HgrnSIdeal Cert.HgrnSIdeal.Gen
open Idealize.ShloMosaic Idealize.ShloMosaic.TcCoe Idealize.SL.Sem

/-- The position of each row of a block. -/
abbrev rowOf : IVec S32x128 32 := iota .tc S32x128 32 [0] iota_S32x128_d0_w32

/-- One head of a grid point: its gates, its values, its parameters and its state before. -/
def headBlock (ff v : Vec Ideal S1x32x128 .f32) (l : Vec Ideal S2x128 .f32) (s : Vec Ideal S1x1x1x128x128 .f32) :
    FVec Ideal S1x1x128x128 .f32 :=
  k0_pay19 (k0_pay95 (k0_pay70 v) (k0_pay76 (k0_pay71 l) (k0_pay74 ff)) (k0_pay77 rowOf (k0_pay75 ff l))
    (k0_pay78 rowOf (k0_pay75 ff l)) (k0_pay79 (F := Ideal) (k0_pay6 s)))

/-- A head's state as its scratch holds it, its two axes exchanged. -/
abbrev flipped (s : Vec Ideal S1x1x1x128x128 .f32) : FVec Ideal S1x128x128 .f32 :=
  shapeCast S1x128x128 (transpose S128x128 [1, 0] (shapeCast S128x128 s shapeCasts_S1x1x1x128x128_S128x128)
    transposes_S128x128_p1_0_S128x128) shapeCasts_S128x128_S1x128x128

/-! Each head's operations, however the body groups them, are those of one head. -/

section

variable (ff v : Vec Ideal S1x32x128 .f32) (l : Vec Ideal S2x128 .f32) (s : Vec Ideal S1x1x1x128x128 .f32)

theorem head_0 : k0_pay18 (k0_pay66 (k0_pay39 v) (k0_pay44 (shapeCast S32x128 ff shapeCasts_S1x32x128_S32x128) l) (k0_pay45 rowOf (k0_pay43 (shapeCast S32x128 ff shapeCasts_S1x32x128_S32x128) l) 1#32) (k0_pay46 rowOf (k0_pay43 (shapeCast S32x128 ff shapeCasts_S1x32x128_S32x128) l) 1#32) (k0_pay47 (flipped s))) = headBlock ff v l s := rfl
theorem head_1 : k0_pay19 (k0_pay95 (k0_pay70 v) (k0_pay76 (k0_pay71 l) (k0_pay74 ff)) (k0_pay77 rowOf (k0_pay75 ff l)) (k0_pay78 rowOf (k0_pay75 ff l)) (k0_pay79 (flipped s))) = headBlock ff v l s := rfl
theorem head_2 : k0_pay20 (k0_pay125 (k0_pay124 (k0_pay99 v) (k0_pay106 (k0_pay100 l) (k0_pay103 ff)) (k0_pay107 rowOf (k0_pay98 ff) (k0_pay104 ff l) (k0_pay105 l)) (k0_pay108 rowOf (k0_pay98 ff) (k0_pay104 ff l) (k0_pay105 l)) (k0_pay109 (flipped s)))) = headBlock ff v l s := rfl
theorem head_3 : k0_pay21 (k0_pay159 (k0_pay156 (k0_pay135 (k0_pay130 l) (k0_pay134 ff)) (k0_pay140 (k0_pay136 rowOf (k0_pay128 ff) (k0_pay130 l) (k0_pay133 ff)) (k0_pay137 rowOf) (k0_pay138 rowOf (k0_pay128 ff) (k0_pay130 l) (k0_pay133 ff)) k0_pay139) (k0_pay141 (k0_pay136 rowOf (k0_pay128 ff) (k0_pay130 l) (k0_pay133 ff)) (k0_pay137 rowOf) (k0_pay138 rowOf (k0_pay128 ff) (k0_pay130 l) (k0_pay133 ff)) k0_pay139)) (k0_pay157 (k0_pay141 (k0_pay136 rowOf (k0_pay128 ff) (k0_pay130 l) (k0_pay133 ff)) (k0_pay137 rowOf) (k0_pay138 rowOf (k0_pay128 ff) (k0_pay130 l) (k0_pay133 ff)) k0_pay139) (k0_pay142 (flipped s))) (k0_pay158 (k0_pay129 v))) = headBlock ff v l s := rfl
theorem head_4 : k0_pay22 (k0_pay189 (k0_pay163 v) (k0_pay169 (k0_pay162 ff) (k0_pay164 l) (k0_pay165 ff) (k0_pay166 ff)) (k0_pay172 rowOf (k0_pay170 rowOf (k0_pay162 ff) (k0_pay164 l) (k0_pay166 ff) (k0_pay167 ff) (k0_pay168 ff)) 16#32) (k0_pay173 (flipped s)) (k0_pay188 (k0_pay171 rowOf (k0_pay170 rowOf (k0_pay162 ff) (k0_pay164 l) (k0_pay166 ff) (k0_pay167 ff) (k0_pay168 ff)) 16#32) (k0_pay172 rowOf (k0_pay170 rowOf (k0_pay162 ff) (k0_pay164 l) (k0_pay166 ff) (k0_pay167 ff) (k0_pay168 ff)) 16#32))) = headBlock ff v l s := rfl
theorem head_5 : k0_pay23 (k0_pay215 (k0_pay193 v) (k0_pay198 (k0_pay192 ff) (k0_pay194 l) (k0_pay195 ff) (k0_pay196 ff) (FloatOps.ofBits FTy.f32 1065353216#32)) (k0_pay201 rowOf (k0_pay199 rowOf (k0_pay192 ff) (k0_pay194 l) (k0_pay195 ff) (k0_pay196 ff) (FloatOps.ofBits FTy.f32 1065353216#32)) (k0_pay200 rowOf) 8#32) (k0_pay202 rowOf (k0_pay199 rowOf (k0_pay192 ff) (k0_pay194 l) (k0_pay195 ff) (k0_pay196 ff) (FloatOps.ofBits FTy.f32 1065353216#32)) (k0_pay200 rowOf) 8#32) (k0_pay203 (flipped s))) = headBlock ff v l s := rfl
theorem head_6 : k0_pay24 (k0_pay252 (k0_pay219 v) (k0_pay225 (k0_pay218 ff) (k0_pay220 l) (k0_pay221 ff) k0_pay222) (k0_pay230 rowOf (k0_pay226 rowOf (k0_pay218 ff) (k0_pay220 l) (k0_pay221 ff) k0_pay222) (k0_pay227 rowOf) (k0_pay228 rowOf (k0_pay218 ff) (k0_pay220 l) (k0_pay221 ff) k0_pay222) k0_pay229) (k0_pay231 rowOf (k0_pay226 rowOf (k0_pay218 ff) (k0_pay220 l) (k0_pay221 ff) k0_pay222) (k0_pay227 rowOf) (k0_pay228 rowOf (k0_pay218 ff) (k0_pay220 l) (k0_pay221 ff) k0_pay222) k0_pay229) (k0_pay232 (flipped s))) = headBlock ff v l s := rfl
theorem head_7 : k0_pay25 (k0_pay285 (k0_pay256 v) (k0_pay263 (k0_pay255 ff) (k0_pay257 l) (k0_pay258 l) (k0_pay259 l)) (k0_pay265 rowOf (k0_pay264 rowOf (k0_pay255 ff) (k0_pay257 l) (k0_pay258 l) (k0_pay259 l)) 4#32) (k0_pay266 rowOf (k0_pay264 rowOf (k0_pay255 ff) (k0_pay257 l) (k0_pay258 l) (k0_pay259 l)) 4#32) (k0_pay267 (flipped s))) = headBlock ff v l s := rfl
theorem head_8 : k0_pay2 (k0_pay26 (k0_pay319 (k0_pay289 v) (k0_pay294 (k0_pay288 ff) (k0_pay290 l)) (k0_pay297 rowOf (k0_pay295 rowOf (k0_pay288 ff) (k0_pay290 l)) (k0_pay296 rowOf) 2#32) (k0_pay298 rowOf (k0_pay295 rowOf (k0_pay288 ff) (k0_pay290 l)) (k0_pay296 rowOf) 2#32) (k0_pay299 (flipped s)))) = headBlock ff v l s := rfl
theorem head_9 : k0_pay3 (k0_pay350 (k0_pay323 v) (k0_pay328 (k0_pay322 ff) l) (k0_pay332 rowOf (k0_pay327 (k0_pay322 ff) l) (k0_pay329 rowOf) (k0_pay330 (k0_pay322 ff) l) k0_pay331) (k0_pay333 rowOf (k0_pay327 (k0_pay322 ff) l) (k0_pay329 rowOf) (k0_pay330 (k0_pay322 ff) l) k0_pay331) (k0_pay334 (flipped s))) = headBlock ff v l s := rfl
theorem head_10 : k0_pay4 (k0_pay381 (k0_pay354 v) (k0_pay359 (k0_pay353 ff) l) (k0_pay360 rowOf (k0_pay358 (k0_pay353 ff) l) 1#32) (k0_pay361 rowOf (k0_pay358 (k0_pay353 ff) l) 1#32) (k0_pay362 (flipped s))) = headBlock ff v l s := rfl
theorem head_11 : k0_pay5 (k0_pay410 (k0_pay385 v) (k0_pay391 (k0_pay386 l) (k0_pay389 ff)) (k0_pay392 rowOf (k0_pay390 ff l)) (k0_pay393 rowOf (k0_pay390 ff l)) (k0_pay394 (flipped s))) = headBlock ff v l s := rfl

end

/-- One step of the doubling sum: every row added to the row `sh` before it. -/
def step (sh : BitVec 32) (b : FVec Ideal S32x128 .f32) : FVec Ideal S32x128 .f32 :=
  addf b (select (cmpi .sge rowOf (broadcast S32x128 sh)) (dynamicRotate 0 sh none b rotates_S32x128_d0)
    (broadcast S32x128 (Scalar.ofBits .f32 0x00000000#32)))

theorem doubling_eq (g : FVec Ideal S32x128 .f32) :
    k0_pay77 rowOf g = step 16#32 (step 8#32 (step 4#32 (step 2#32 (step 1#32 g)))) := rfl

/-- A column of gates as a chunk. -/
def chunk (g : FVec Ideal S32x128 .f32) (d : Fin 128) (t : Fin 32) : EReal := g (ix2 t d)

theorem row_ge (n : ℕ) (sh : BitVec 32) (h : ∀ t : Fin 32, IntOp.cmpi .sge (BitVec.ofNat 32 t.val) sh = if n ≤ t.val then 1 else 0)
    (hn : n ≤ 16) (b : FVec Ideal S32x128 .f32) (f : ℕ → EReal) (d : Fin 128)
    (hb : ∀ t : Fin 32, b (ix2 t d) = Hgrn.last f n t.val) (t : Fin 32) :
    b (ix2 t d) + Scalar.select (IntOp.cmpi .sge (BitVec.ofNat 32 t.val) sh) (b (ix2 ⟨(t.val + 32 - n) % 32, by omega⟩ d)) 0
      = Hgrn.last f (n + n) t.val := by
  rw [h, hb, ← Hgrn.last_double]
  congr 1
  split
  · next hc =>
    rw [hb]
    refine (if_pos rfl).trans (congrArg (Hgrn.last f n) ?_)
    show (t.val + 32 - n) % 32 = t.val - n
    omega
  · exact if_neg (by decide)

theorem step_1 (b : FVec Ideal S32x128 .f32) (f : ℕ → EReal) (d : Fin 128)
    (hb : ∀ t : Fin 32, b (ix2 t d) = Hgrn.last f 1 t.val) (t : Fin 32) : step 1#32 b (ix2 t d) = Hgrn.last f 2 t.val := by
  pointwise [step]
  exact row_ge 1 1#32 (by decide) (by omega) b f d hb t
theorem step_2 (b : FVec Ideal S32x128 .f32) (f : ℕ → EReal) (d : Fin 128)
    (hb : ∀ t : Fin 32, b (ix2 t d) = Hgrn.last f 2 t.val) (t : Fin 32) : step 2#32 b (ix2 t d) = Hgrn.last f 4 t.val := by
  pointwise [step]
  exact row_ge 2 2#32 (by decide) (by omega) b f d hb t
theorem step_4 (b : FVec Ideal S32x128 .f32) (f : ℕ → EReal) (d : Fin 128)
    (hb : ∀ t : Fin 32, b (ix2 t d) = Hgrn.last f 4 t.val) (t : Fin 32) : step 4#32 b (ix2 t d) = Hgrn.last f 8 t.val := by
  pointwise [step]
  exact row_ge 4 4#32 (by decide) (by omega) b f d hb t
theorem step_8 (b : FVec Ideal S32x128 .f32) (f : ℕ → EReal) (d : Fin 128)
    (hb : ∀ t : Fin 32, b (ix2 t d) = Hgrn.last f 8 t.val) (t : Fin 32) : step 8#32 b (ix2 t d) = Hgrn.last f 16 t.val := by
  pointwise [step]
  exact row_ge 8 8#32 (by decide) (by omega) b f d hb t
theorem step_16 (b : FVec Ideal S32x128 .f32) (f : ℕ → EReal) (d : Fin 128)
    (hb : ∀ t : Fin 32, b (ix2 t d) = Hgrn.last f 16 t.val) (t : Fin 32) : step 16#32 b (ix2 t d) = Hgrn.last f 32 t.val := by
  pointwise [step]
  exact row_ge 16 16#32 (by decide) (by omega) b f d hb t

/-- The doubling sum is the running sum. -/
theorem doubling_apply (g : FVec Ideal S32x128 .f32) (d : Fin 128) (t : Fin 32) :
    k0_pay77 rowOf g (ix2 t d) = Hgrn.upto (chunk g d) t.val := by
  rw [doubling_eq]
  refine (step_16 _ (Hgrn.seq (chunk g d)) d (step_8 _ _ d (step_4 _ _ d (step_2 _ _ d (step_1 _ _ d fun t => ?_)))) t).trans
    (Hgrn.last_all _ 32 t.val t.isLt)
  rw [Hgrn.last_one, Hgrn.seq, dif_pos t.isLt]
  rfl

/-- The parameters of a column. -/
def column (l : Vec Ideal S2x128 .f32) (d : Fin 128) (r : Fin 2) : EReal := l (ix2 r d)

theorem lower_apply (l : Vec Ideal S2x128 .f32) (d : Fin 128) : k0_pay71 l (ix2 0 d) = Hgrn.lower (column l d) := by
  have e : Ideal.ofBits .f32 0xFF800000#32 = ⊥ := by simp [Ideal.ofBits, Ideal.ieee]
  have hf := Hgrn.fold_greatest (column l d)
  unfold column at hf
  pointwise [k0_pay71]
  rw [e, hf]
  simp only [Fin.sum_univ_two]
  rfl

theorem gate_apply (ff : Vec Ideal S1x32x128 .f32) (l : Vec Ideal S2x128 .f32) (t : Fin 32) (d : Fin 128) :
    k0_pay75 ff l (ix2 t d) = Hgrn.logKernel (Hgrn.lower (column l d)) (ff (ix3 0 t d)) := by
  rw [← lower_apply]
  unfold k0_pay75
  generalize k0_pay71 l = lb
  pointwise [k0_pay69, k0_pay72, k0_pay73]
  rfl

theorem key_apply (ff : Vec Ideal S1x32x128 .f32) (l : Vec Ideal S2x128 .f32) (t : Fin 32) (d : Fin 128) :
    k0_pay76 (k0_pay71 l) (k0_pay74 ff) (ix2 t d) = (1 - Hgrn.lower (column l d)) * Hgrn.shut (ff (ix3 0 t d)) := by
  rw [← lower_apply]
  generalize k0_pay71 l = lb
  pointwise [k0_pay76, k0_pay74, k0_pay69, k0_pay72, k0_pay73]
  rfl

theorem combine_apply (v k b : FVec Ideal S32x128 .f32) (s : Vec Ideal S1x1x1x128x128 .f32) (x : S1x1x128x128.Idx)
    (e : FVec Ideal S1x128 .f32) :
    k0_pay19 (k0_pay95 v k b e (k0_pay79 (F := Ideal) (k0_pay6 s))) x
      = s (ix5 0 0 0 (x 2) (x 3)) * Ideal.exp (e (ix2 0 (x 2)))
        + ∑ t : Fin 32, v (ix2 t (x 3)) * (k (ix2 t (x 2)) * Ideal.exp (min (e (ix2 0 (x 2)) - b (ix2 t (x 2))) 0)) := by
  pointwise [k0_pay19, k0_pay95, k0_pay79, k0_pay6]

theorem end_apply (g : FVec Ideal S32x128 .f32) (d : Fin 128) :
    k0_pay78 rowOf g (ix2 0 d) = k0_pay77 rowOf g (ix2 31 d) := by
  unfold k0_pay78
  generalize k0_pay77 rowOf g = b
  pointwise

theorem values_apply (v : Vec Ideal S1x32x128 .f32) (t : Fin 32) (e : Fin 128) : k0_pay70 v (ix2 t e) = v (ix3 0 t e) := by
  pointwise [k0_pay70]

/-- What the head's last product adds up, over the column and the row of the entry. -/
theorem entry_apply (ff v : Vec Ideal S1x32x128 .f32) (l : Vec Ideal S2x128 .f32) (s : EReal) (d e : Fin 128)
    (hl : ∀ r, ∃ y : ℝ, column l d r = y) :
    s * Ideal.exp (k0_pay78 rowOf (k0_pay75 ff l) (ix2 0 d))
        + ∑ t : Fin 32, k0_pay70 v (ix2 t e) * (k0_pay76 (k0_pay71 l) (k0_pay74 ff) (ix2 t d)
          * Ideal.exp (min (k0_pay78 rowOf (k0_pay75 ff l) (ix2 0 d) - k0_pay77 rowOf (k0_pay75 ff l) (ix2 t d)) 0))
      = Hgrn.state s (column l d) (fun t : Fin 32 => ff (ix3 0 t d)) (fun t => v (ix3 0 t e)) := by
  have hc : chunk (k0_pay75 ff l) d = fun t => Hgrn.logKernel (Hgrn.lower (column l d)) (ff (ix3 0 t d)) :=
    funext fun t => gate_apply ff l t d
  rw [end_apply, doubling_apply]
  refine Eq.trans ?_ (Hgrn.state_of_kernel (T := 32) (by omega) _ _ hl _ _)
  rw [hc]
  refine congrArg₂ (· + ·) rfl (Finset.sum_congr rfl fun t _ => ?_)
  rw [doubling_apply, hc, values_apply, key_apply]
  rfl

/-- One head's entry is the state's. -/
theorem head_apply (ff v : Vec Ideal S1x32x128 .f32) (l : Vec Ideal S2x128 .f32) (s : Vec Ideal S1x1x1x128x128 .f32)
    (x : S1x1x128x128.Idx) (hl : ∀ r, ∃ y : ℝ, column l (x 2) r = y) :
    headBlock ff v l s x = Hgrn.state (s (ix5 0 0 0 (x 2) (x 3))) (column l (x 2)) (fun t : Fin 32 => ff (ix3 0 t (x 2)))
      (fun t => v (ix3 0 t (x 3))) :=
  (combine_apply _ _ _ _ x _).trans (entry_apply ff v l _ (x 2) (x 3) hl)

/-! The index maps, evaluated: a point's batch is that of the block it writes. -/

theorem idx_1 : ∀ t : Fin cfg0.N, win0_1.index t = ![win0_8.index t 0, 0, 1] :=
  (by decide +kernel : ∀ t : Fin grid0.N, win0_1.index t = ![win0_8.index t 0, 0, 1])
theorem idx_2 : ∀ t : Fin cfg0.N, win0_2.index t = ![win0_8.index t 0, 0, 2] :=
  (by decide +kernel : ∀ t : Fin grid0.N, win0_2.index t = ![win0_8.index t 0, 0, 2])
theorem idx_4 : ∀ t : Fin cfg0.N, win0_4.index t = ![0, 0] :=
  (by decide +kernel : ∀ t : Fin grid0.N, win0_4.index t = ![0, 0])
theorem idx_6 : ∀ t : Fin cfg0.N, win0_6.index t = ![0, win0_8.index t 0, 0, 0, 0] :=
  (by decide +kernel : ∀ t : Fin grid0.N, win0_6.index t = ![0, win0_8.index t 0, 0, 0, 0])
theorem idx_8 : ∀ t : Fin cfg0.N, win0_8.index t 0 < 32 ∧ win0_8.index t 1 = 0 ∧ win0_8.index t 2 = 0 ∧ win0_8.index t 3 = 0 :=
  (by decide +kernel : ∀ t : Fin grid0.N,
    win0_8.index t 0 < 32 ∧ win0_8.index t 1 = 0 ∧ win0_8.index t 2 = 0 ∧ win0_8.index t 3 = 0)

/-- The batch of a grid point. -/
def batch (t : Fin cfg0.N) : Fin 32 := ⟨win0_8.index t 0, (idx_8 t).1⟩

/-- One entry of the result, its four coordinates apart. -/
def entryOf (z : Vec Ideal S32x32x6656 .f32) (l : Vec Ideal S2x1536 .f32) (s : Vec Ideal S1x32x12x128x128 .f32)
    (b : Fin 32) (h : Fin 12) (d e : Fin 128) : EReal :=
  Hgrn.state (s (ix5 0 b h d e)) (fun r : Fin 2 => l (ix2 r ⟨128 * h.val + d.val, by omega⟩))
    (fun t : Fin 32 => z (ix3 b t ⟨1536 + (128 * h.val + d.val), by omega⟩))
    (fun t => z (ix3 b t ⟨3072 + (128 * h.val + e.val), by omega⟩))

/-- The whole result as a function of the arguments. -/
def result (z : Vec Ideal S32x32x6656 .f32) (l : Vec Ideal S2x1536 .f32) (s : Vec Ideal S1x32x12x128x128 .f32)
    (i : S32x12x128x128.Idx) : EReal :=
  entryOf z l s (i 0) (i 1) (i 2) (i 3)

variable (m : (ℓ : Loc nD τ sig) → Buf (Elt Ideal) ℓ)

/-! The blocks a point reads, each a block of an argument. -/

theorem read_1 (c : Dev nD) (t : Fin cfg0.N) (r : Fin 32) (l : Fin 1536) :
    X0_1 m c t (ix3 0 r l) = m ((c : Thread nD τ).loc main_arg0) (ix3 (batch t) r ⟨1536 + l.val, by omega⟩) := by
  unfold X0_1 Pipeline.Window.fill
  rw [dif_pos (moved0_1 t _)]
  have e := idx_1 t
  blk_simp [iblk]
  rw [V_main_arg0]
  refine congrArg _ ?_
  blk_ext [e, batch]

theorem read_2 (c : Dev nD) (t : Fin cfg0.N) (r : Fin 32) (l : Fin 1536) :
    X0_2 m c t (ix3 0 r l) = m ((c : Thread nD τ).loc main_arg0) (ix3 (batch t) r ⟨3072 + l.val, by omega⟩) := by
  unfold X0_2 Pipeline.Window.fill
  rw [dif_pos (moved0_2 t _)]
  have e := idx_2 t
  blk_simp [iblk]
  rw [V_main_arg0]
  refine congrArg _ ?_
  blk_ext [e, batch]

theorem read_4 (c : Dev nD) (t : Fin cfg0.N) (r : Fin 2) (l : Fin 1536) :
    iblk m c 4 t (ix2 r l) = m ((c : Thread nD τ).loc main_arg1) (ix2 r l) := by
  have e := idx_4 t
  blk_simp [iblk]
  rw [V_main_arg1]
  refine congrArg _ ?_
  blk_ext [e]

theorem read_6 (c : Dev nD) (t : Fin cfg0.N) (h : Fin 12) (d e : Fin 128) :
    iblk m c 6 t (ix5 0 0 h d e) = m ((c : Thread nD τ).loc main_arg3) (ix5 0 (batch t) h d e) := by
  have e := idx_6 t
  blk_simp [iblk]
  rw [V_main_arg3]
  refine congrArg _ ?_
  blk_ext [e, batch]

/-- The precondition of the value claim: the lower-bound parameters are numbers. -/
abbrev Numbers (l : Vec Ideal S2x1536 .f32) : Prop := ∀ i, ∃ y : ℝ, l i = y

/-- One head of a grid point, over any indexing that puts the head's blocks where they lie. -/
theorem piece (c : Dev nD) (hl : Numbers (m ((c : Thread nD τ).loc main_arg1))) (t : Fin cfg0.N) (h : Fin 12)
    (fz : S1x32x128.Idx → S1x32x1536.Idx) (fl : S2x128.Idx → S2x1536.Idx) (fs : S1x1x1x128x128.Idx → S1x1x12x128x128.Idx)
    (hz : ∀ r d, fz (ix3 0 r d) = ix3 0 r ⟨128 * h.val + d.val, by omega⟩)
    (hf : ∀ r d, fl (ix2 r d) = ix2 r ⟨128 * h.val + d.val, by omega⟩)
    (hs : ∀ d e, fs (ix5 0 0 0 d e) = ix5 0 0 h d e) (x : S1x1x128x128.Idx) (i : S32x12x128x128.Idx)
    (h0 : i 0 = batch t) (h1 : i 1 = h) (h2 : i 2 = x 2) (h3 : i 3 = x 3) :
    headBlock (fun j => X0_1 m c t (fz j)) (fun j => X0_2 m c t (fz j)) (fun j => iblk m c 4 t (fl j))
        (fun j => iblk m c 6 t (fs j)) x
      = result (m ((c : Thread nD τ).loc main_arg0)) (m ((c : Thread nD τ).loc main_arg1))
          (m ((c : Thread nD τ).loc main_arg3)) i := by
  have el : ∀ d : Fin 128, column (fun j => iblk m c 4 t (fl j)) d
      = fun r => m ((c : Thread nD τ).loc main_arg1) (ix2 r ⟨128 * h.val + d.val, by omega⟩) := fun d => funext fun r => by
    show iblk m c 4 t (fl (ix2 r d)) = _
    rw [hf]
    exact read_4 m c t r _
  have ez : ∀ d : Fin 128, (fun r : Fin 32 => X0_1 m c t (fz (ix3 0 r d)))
      = fun r => m ((c : Thread nD τ).loc main_arg0) (ix3 (batch t) r ⟨1536 + (128 * h.val + d.val), by omega⟩) :=
    fun d => funext fun r => by
      rw [hz]
      exact read_1 m c t r _
  have ev : ∀ d : Fin 128, (fun r : Fin 32 => X0_2 m c t (fz (ix3 0 r d)))
      = fun r => m ((c : Thread nD τ).loc main_arg0) (ix3 (batch t) r ⟨3072 + (128 * h.val + d.val), by omega⟩) :=
    fun d => funext fun r => by
      rw [hz]
      exact read_2 m c t r _
  have es : ∀ d e : Fin 128, iblk m c 6 t (fs (ix5 0 0 0 d e)) = m ((c : Thread nD τ).loc main_arg3) (ix5 0 (batch t) h d e) :=
    fun d e => by
      rw [hs]
      exact read_6 m c t h d e
  refine (head_apply _ _ _ _ x fun r => ?_).trans ?_
  · rw [el (x 2)]
    exact hl _
  · unfold result
    rw [h0, h1, h2, h3]
    unfold entryOf
    rw [← es (x 2) (x 3), ← ev (x 3), ← ez (x 2), ← el (x 2)]

/-- Where a head's columns of a block lie. -/
theorem at_columns (h : Fin 12) (o : Nat) (ho : o = 128 * h.val)
    (inb : ∀ a : Fin 3, (![0, 0, o] : Fin 3 → Nat) a + (![1, 32, 128] : Fin 3 → Nat) a ≤ S1x32x1536.size a)
    (r : Fin 32) (d : Fin 128) :
    (Rect.unit (s := S1x32x1536) ![0, 0, o] ![1, 32, 128] inb).idx (ix3 0 r d) = ix3 0 r ⟨128 * h.val + d.val, by omega⟩ := by
  subst ho
  funext a
  refine Fin.ext ?_
  match a with
  | 0 => rfl
  | 1 => show 0 + 1 * r.val = r.val; omega
  | 2 => show 128 * h.val + 1 * d.val = 128 * h.val + d.val; omega

/-- Where a head's columns of the parameters lie. -/
theorem at_parameters (h : Fin 12) (o : Nat) (ho : o = 128 * h.val)
    (inb : ∀ a : Fin 2, (![0, o] : Fin 2 → Nat) a + (![2, 128] : Fin 2 → Nat) a ≤ S2x1536.size a)
    (r : Fin 2) (d : Fin 128) :
    (Rect.unit (s := S2x1536) ![0, o] ![2, 128] inb).idx (ix2 r d) = ix2 r ⟨128 * h.val + d.val, by omega⟩ := by
  subst ho
  funext a
  refine Fin.ext ?_
  match a with
  | 0 => show 0 + 1 * r.val = r.val; omega
  | 1 => show 128 * h.val + 1 * d.val = 128 * h.val + d.val; omega

/-- Where a head's state lies. -/
theorem at_state (h : Fin 12) (n : Nat) (hn : n = h.val)
    (inb : ∀ a : Fin 5, (![0, 0, n, 0, 0] : Fin 5 → Nat) a + (![1, 1, 1, 128, 128] : Fin 5 → Nat) a ≤ S1x1x12x128x128.size a)
    (d e : Fin 128) :
    (Rect.unit (s := S1x1x12x128x128) ![0, 0, n, 0, 0] ![1, 1, 1, 128, 128] inb).idx (ix5 0 0 0 d e) = ix5 0 0 h d e := by
  subst hn
  funext a
  refine Fin.ext ?_
  match a with
  | 0 => rfl
  | 1 => rfl
  | 2 => show h.val + 1 * 0 = h.val; omega
  | 3 => show 0 + 1 * d.val = d.val; omega
  | 4 => show 0 + 1 * e.val = e.val; omega

/-- `piece` as the body reads its blocks. -/
theorem piece_ld (c : Dev nD) (hl : Numbers (m ((c : Thread nD τ).loc main_arg1))) (t : Fin cfg0.N) (h : Fin 12) (o n : Nat)
    (ho : o = 128 * h.val) (hn : n = h.val)
    (iz : ∀ a : Fin 3, (![0, 0, o] : Fin 3 → Nat) a + (![1, 32, 128] : Fin 3 → Nat) a ≤ S1x32x1536.size a)
    (il : ∀ a : Fin 2, (![0, o] : Fin 2 → Nat) a + (![2, 128] : Fin 2 → Nat) a ≤ S2x1536.size a)
    (is : ∀ a : Fin 5, (![0, 0, n, 0, 0] : Fin 5 → Nat) a + (![1, 1, 1, 128, 128] : Fin 5 → Nat) a ≤ S1x1x12x128x128.size a)
    (x : S1x1x128x128.Idx) (i : S32x12x128x128.Idx)
    (h0 : i 0 = batch t) (h1 : (i 1).val = h.val) (h2 : (i 2).val = (x 2).val) (h3 : (i 3).val = (x 3).val) :
    headBlock (View.ld (X0_1 m c t) (Rect.unit ![0, 0, o] ![1, 32, 128] iz))
        (View.ld (X0_2 m c t) (Rect.unit ![0, 0, o] ![1, 32, 128] iz))
        (View.ld (iblk m c 4 t) (Rect.unit ![0, o] ![2, 128] il))
        (View.ld (iblk m c 6 t) (Rect.unit ![0, 0, n, 0, 0] ![1, 1, 1, 128, 128] is)) x
      = result (m ((c : Thread nD τ).loc main_arg0)) (m ((c : Thread nD τ).loc main_arg1))
          (m ((c : Thread nD τ).loc main_arg3)) i :=
  piece m c hl t h (Rect.unit (s := S1x32x1536) ![0, 0, o] ![1, 32, 128] iz).idx
    (Rect.unit (s := S2x1536) ![0, o] ![2, 128] il).idx
    (Rect.unit (s := S1x1x12x128x128) ![0, 0, n, 0, 0] ![1, 1, 1, 128, 128] is).idx
    (at_columns h o ho iz) (at_parameters h o ho il) (at_state h n hn is) x i h0 (Fin.ext h1) (Fin.ext h2) (Fin.ext h3)

end Cert.HgrnSIdeal.Hand
-- ==== Proof.HgrnSState.lean ====
module

public import proofs.«01_k».proof.Proof.HgrnSKernel

@[expose] public section

noncomputable section

/-! The recurrent kernel's state array for the sample batch: the twelve heads' pieces put together. -/

namespace Cert.HgrnSIdeal.Hand

open Cert.HgrnSIdeal Cert.HgrnSIdeal.Gen
open Idealize.ShloMosaic Idealize.ShloMosaic.TcCoe Idealize.SL.Sem

variable (m : (ℓ : Loc nD τ sig) → Buf (Elt Ideal) ℓ)

/-- The state block a point leaves, entry by entry. -/
theorem outs_apply (c : Dev nD) (hl : Numbers (m ((c : Thread nD τ).loc main_arg1))) (t : Fin cfg0.N) (y : S1x12x128x128.Idx)
    (i : S32x12x128x128.Idx) (h0 : i 0 = batch t) (h1 : (i 1).val = (y 1).val) (h2 : (i 2).val = (y 2).val)
    (h3 : (i 3).val = (y 3).val) :
    (outsAt0 m c t).2 y = result (m ((c : Thread nD τ).loc main_arg0)) (m ((c : Thread nD τ).loc main_arg1))
      (m ((c : Thread nD τ).loc main_arg3)) i := by
  unfold outsAt0
  frame_open
  simp (disch := decide) only [↓ View.readCov_skip, ↓ View.readCov_cons_toLoadRect, ↓ View.readCov_fill]
  frame_out
  canon_tiles x e
  · rw [head_11]
    exact piece_ld m c hl t 11 1408 11 rfl rfl _ _ _ x i h0 (by show (i 1).val = 11; omega) (by omega) (by omega)
  · rw [head_10]
    exact piece_ld m c hl t 10 1280 10 rfl rfl _ _ _ x i h0 (by show (i 1).val = 10; omega) (by omega) (by omega)
  · rw [head_9]
    exact piece_ld m c hl t 9 1152 9 rfl rfl _ _ _ x i h0 (by show (i 1).val = 9; omega) (by omega) (by omega)
  · rw [head_8]
    exact piece_ld m c hl t 8 1024 8 rfl rfl _ _ _ x i h0 (by show (i 1).val = 8; omega) (by omega) (by omega)
  · rw [head_7]
    exact piece_ld m c hl t 7 896 7 rfl rfl _ _ _ x i h0 (by show (i 1).val = 7; omega) (by omega) (by omega)
  · rw [head_6]
    exact piece_ld m c hl t 6 768 6 rfl rfl _ _ _ x i h0 (by show (i 1).val = 6; omega) (by omega) (by omega)
  · rw [head_5]
    exact piece_ld m c hl t 5 640 5 rfl rfl _ _ _ x i h0 (by show (i 1).val = 5; omega) (by omega) (by omega)
  · rw [head_4]
    exact piece_ld m c hl t 4 512 4 rfl rfl _ _ _ x i h0 (by show (i 1).val = 4; omega) (by omega) (by omega)
  · rw [head_3]
    exact piece_ld m c hl t 3 384 3 rfl rfl _ _ _ x i h0 (by show (i 1).val = 3; omega) (by omega) (by omega)
  · rw [head_2]
    exact piece_ld m c hl t 2 256 2 rfl rfl _ _ _ x i h0 (by show (i 1).val = 2; omega) (by omega) (by omega)
  · rw [head_1]
    exact piece_ld m c hl t 1 128 1 rfl rfl _ _ _ x i h0 (by show (i 1).val = 1; omega) (by omega) (by omega)
  · rw [head_0]
    exact piece_ld m c hl t 0 0 0 rfl rfl _ _ _ x i h0 (by show (i 1).val = 0; omega) (by omega) (by omega)

/-- The state array holds the reference's state. -/
theorem final_state (c : Dev nD) (hl : Numbers (m ((c : Thread nD τ).loc main_arg1))) :
    (dats m 0 c).arrAt 8 cfg0.N
      = result (m ((c : Thread nD τ).loc main_arg0)) (m ((c : Thread nD τ).loc main_arg1))
          (m ((c : Thread nD τ).loc main_arg3)) := by
  refine (dats m 0 c).arrAt_eq_of_covers 8 _ (by decide +kernel) fun t hf y => ?_
  blk_simp
  rw [after0_8]
  have e := idx_8 t
  have y0 : (y 0).val < 1 := (y 0).isLt
  refine outs_apply m c hl t y _ (Fin.ext ?_) ?_ ?_ ?_
  · blk_simp [batch]
  · blk_simp [e]
  · blk_simp [e]
  · blk_simp [e]

end Cert.HgrnSIdeal.Hand
-- ==== Proof.HgrnWindow.lean ====
module

public import proofs.«01_k».proof.Proof.HgrnGate
public import Idealize.ShloMosaic.Lib.Pointwise

@[expose] public section

noncomputable section

/-! The reference's running sums, which the host sums over a window reaching back to the first position. -/

namespace Hgrn

open Idealize.ShloMosaic Idealize.ShloMosaic.TcCoe

theorem foldl_add {n : ℕ} (g : Fin n → EReal) (v : EReal) :
    (List.finRange n).foldl (fun r k => r + g k) v = v + ∑ k : Fin n, g k := by
  rw [Fin.sum_univ_def]
  generalize List.finRange n = l
  induction l generalizing v with
  | nil => simp
  | cons a l ih => rw [List.foldl_cons, ih, List.map_cons, List.sum_cons, add_assoc]

/-- A sum over a window is a sum over the window's positions, nought at those off the array. -/
theorem window_sum {s t : Shape} (window strides lo hi : Fin s.rank → Nat) (h : s.ReduceWindows window strides lo hi t)
    (x : s.Idx → EReal) (j : t.Idx) :
    Ideal.hostReduceWindowAdd window strides lo hi h x 0 j
      = ∑ k : (⟨s.rank, window⟩ : Shape).Idx,
          if hin : ∀ a, lo a ≤ (j (a.cast h.1.symm)).val * strides a + (k a).val
              ∧ (j (a.cast h.1.symm)).val * strides a + (k a).val - lo a < s.size a
          then x (fun a => ⟨(j (a.cast h.1.symm)).val * strides a + (k a).val - lo a, (hin a).2⟩) else 0 := by
  unfold Ideal.hostReduceWindowAdd Host.reduceWindow
  refine (foldl_add _ _).trans ((zero_add _).trans ?_)
  refine Eq.trans (Finset.sum_congr rfl fun k _ => ?_) (Equiv.sum_comp (⟨s.rank, window⟩ : Shape).rowMajor.symm (fun k : (⟨s.rank, window⟩ : Shape).Idx =>
    if hin : ∀ a, lo a ≤ (j (a.cast h.1.symm)).val * strides a + (k a).val
        ∧ (j (a.cast h.1.symm)).val * strides a + (k a).val - lo a < s.size a
    then x (fun a => ⟨(j (a.cast h.1.symm)).val * strides a + (k a).val - lo a, (hin a).2⟩) else (0 : EReal)))
  split
  · rfl
  · rfl

theorem sum_back {T : ℕ} (g : Fin T → EReal) (t : Fin T) (F : Fin T → EReal)
    (hF : ∀ k : Fin T, F k = if h : T - 1 ≤ t.val + k.val then g ⟨t.val + k.val - (T - 1), by omega⟩ else 0) :
    ∑ k : Fin T, F k = upto g t.val := by
  have e : ∀ k : Fin T, F k = (fun n : ℕ => if T - 1 ≤ t.val + n then seq g (t.val + n - (T - 1)) else 0) k.val := by
    intro k
    rw [hF]
    show _ = if T - 1 ≤ t.val + k.val then seq g (t.val + k.val - (T - 1)) else 0
    split
    · rw [seq, dif_pos (by omega)]
    · rfl
  rw [Finset.sum_congr rfl fun k _ => e k,
    Fin.sum_univ_eq_sum_range (fun n : ℕ => if T - 1 ≤ t.val + n then seq g (t.val + n - (T - 1)) else 0) T]
  have ht := t.isLt
  have hs : ∑ n ∈ Finset.range T, (if T - 1 ≤ t.val + n then seq g (t.val + n - (T - 1)) else 0)
      = ∑ n ∈ Finset.range ((T - 1 - t.val) + (t.val + 1)), (if T - 1 ≤ t.val + n then seq g (t.val + n - (T - 1)) else 0) := by
    congr 2
    omega
  rw [hs, Finset.sum_range_add]
  unfold upto
  rw [Finset.sum_eq_zero, zero_add]
  · refine Finset.sum_congr rfl fun n hn => ?_
    have := Finset.mem_range.mp hn
    rw [if_pos (by omega)]
    congr 1
    omega
  · intro n hn
    have := Finset.mem_range.mp hn
    rw [if_neg (by omega)]

/-- The running sum along the second axis of a four-axis array. -/
theorem cumsum_rows4 {B T H D : ℕ} (x : (⟨4, ![B, T, H, D]⟩ : Shape).Idx → EReal)
    (h : (⟨4, ![B, T, H, D]⟩ : Shape).ReduceWindows (![1, T, 1, 1] : Fin 4 → Nat) ![1, 1, 1, 1] ![0, T - 1, 0, 0] ![0, 0, 0, 0]
      ⟨4, ![B, T, H, D]⟩) (b : Fin B) (t : Fin T) (y : Fin H) (d : Fin D) :
    Ideal.hostReduceWindowAdd (s := ⟨4, ![B, T, H, D]⟩) (![1, T, 1, 1] : Fin 4 → Nat) ![1, 1, 1, 1] ![0, T - 1, 0, 0] ![0, 0, 0, 0] h x 0
        (ix4 b t y d)
      = upto (fun t' => x (ix4 b t' y d)) t.val := by
  rw [window_sum]
  let e : Fin T ≃ (⟨4, ![1, T, 1, 1]⟩ : Shape).Idx :=
    { toFun := fun k => ix4 0 k 0 0
      invFun := fun i => i 1
      left_inv := fun k => rfl
      right_inv := fun i => funext fun a => Fin.ext (by
        match a with
        | ⟨0, _⟩ => have : (i 0).val < 1 := (i 0).isLt; show 0 = (i 0).val; omega
        | ⟨1, _⟩ => rfl
        | ⟨2, _⟩ => have : (i 2).val < 1 := (i 2).isLt; show 0 = (i 2).val; omega
        | ⟨3, _⟩ => have : (i 3).val < 1 := (i 3).isLt; show 0 = (i 3).val; omega) }
  refine (Equiv.sum_comp e _).symm.trans (sum_back _ t _ fun k => ?_)
  have hb := b.isLt
  have hy := y.isLt
  have hd := d.isLt
  have ht := t.isLt
  have hk := k.isLt
  by_cases hc : T - 1 ≤ t.val + k.val
  · rw [dif_pos hc, dif_pos]
    · refine congrArg x (funext fun a => Fin.ext ?_)
      match a with
      | ⟨0, _⟩ => show b.val * 1 + 0 - 0 = b.val; omega
      | ⟨1, _⟩ => show t.val * 1 + k.val - (T - 1) = t.val + k.val - (T - 1); omega
      | ⟨2, _⟩ => show y.val * 1 + 0 - 0 = y.val; omega
      | ⟨3, _⟩ => show d.val * 1 + 0 - 0 = d.val; omega
    · intro a
      match a with
      | ⟨0, _⟩ => show 0 ≤ b.val * 1 + 0 ∧ b.val * 1 + 0 - 0 < B; omega
      | ⟨1, _⟩ => show T - 1 ≤ t.val * 1 + k.val ∧ t.val * 1 + k.val - (T - 1) < T; omega
      | ⟨2, _⟩ => show 0 ≤ y.val * 1 + 0 ∧ y.val * 1 + 0 - 0 < H; omega
      | ⟨3, _⟩ => show 0 ≤ d.val * 1 + 0 ∧ d.val * 1 + 0 - 0 < D; omega
  · rw [dif_neg hc, dif_neg]
    intro ha
    have h1 : T - 1 ≤ t.val * 1 + k.val := (ha 1).1
    omega

/-- The running sum down the two rows of the parameters. -/
theorem cumsum_rows2 {D : ℕ} (x : (⟨2, ![2, D]⟩ : Shape).Idx → EReal)
    (h : (⟨2, ![2, D]⟩ : Shape).ReduceWindows (![2, 1] : Fin 2 → Nat) ![1, 1] ![1, 0] ![0, 0] ⟨2, ![2, D]⟩) (d : Fin D) :
    Ideal.hostReduceWindowAdd (s := ⟨2, ![2, D]⟩) (![2, 1] : Fin 2 → Nat) ![1, 1] ![1, 0] ![0, 0] h x 0 (ix2 1 d)
      = x (ix2 0 d) + x (ix2 1 d) := by
  rw [window_sum]
  let e : Fin 2 ≃ (⟨2, ![2, 1]⟩ : Shape).Idx :=
    { toFun := fun k => ix2 k 0
      invFun := fun i => i 0
      left_inv := fun k => rfl
      right_inv := fun i => funext fun a => Fin.ext (by
        match a with
        | ⟨0, _⟩ => rfl
        | ⟨1, _⟩ => have : (i 1).val < 1 := (i 1).isLt; show 0 = (i 1).val; omega) }
  refine (Equiv.sum_comp e _).symm.trans ((Fin.sum_univ_two _).trans ?_)
  have hd := d.isLt
  refine congrArg₂ (· + ·) ?_ ?_
  · refine (dif_pos ?_).trans (congrArg x (funext fun a => Fin.ext ?_))
    · intro a
      match a with
      | ⟨0, _⟩ => show 1 ≤ 1 * 1 + 0 ∧ 1 * 1 + 0 - 1 < 2; omega
      | ⟨1, _⟩ => show 0 ≤ d.val * 1 + 0 ∧ d.val * 1 + 0 - 0 < D; omega
    · match a with
      | ⟨0, _⟩ => rfl
      | ⟨1, _⟩ => show d.val * 1 + 0 - 0 = d.val; omega
  · refine (dif_pos ?_).trans (congrArg x (funext fun a => Fin.ext ?_))
    · intro a
      match a with
      | ⟨0, _⟩ => show 1 ≤ 1 * 1 + 1 ∧ 1 * 1 + 1 - 1 < 2; omega
      | ⟨1, _⟩ => show 0 ≤ d.val * 1 + 0 ∧ d.val * 1 + 0 - 0 < D; omega
    · match a with
      | ⟨0, _⟩ => rfl
      | ⟨1, _⟩ => show d.val * 1 + 0 - 0 = d.val; omega

end Hgrn
-- ==== Proof.HgrnSReference.lean ====
module

public import proofs.«01_k».proof.Proof.HgrnWindow
public import proofs.«01_k».proof.Proof.Gen.HgrnSRefIdeal.Read

@[expose] public section

noncomputable section

/-! What the reference's recurrence for the sample batch computes at an index. -/

namespace Cert.HgrnSRefIdeal.Hand

open Cert.HgrnSRefIdeal Cert.HgrnSRefIdeal.Gen Cert.HgrnSRefIdeal.Read
open Idealize.ShloMosaic Idealize.ShloMosaic.TcCoe Idealize.SL.Sem

variable (z : Vec Ideal S32x32x6656 .f32) (l : Vec Ideal S2x1536 .f32) (s : Vec Ideal S1x32x12x128x128 .f32)

theorem greatest_apply (c : Fin 1536) : val_main_v3 (F := Ideal) l (ix1 c) = Hgrn.greatest (fun r => l (ix2 r c)) := by
  have e : Ideal.ofBits .f32 0xFF800000#32 = ⊥ := by simp [Ideal.ofBits, Ideal.ieee]
  have hf := Hgrn.fold_greatest (fun r => l (ix2 r c))
  pointwise [val_main_v3, val_main_v2, val_main_v1, val_main_cst, val_main_cst_0]
  rw [e, hf]
  exact max_eq_right bot_le

theorem share_apply (r : Fin 2) (c : Fin 1536) :
    val_main_v11 (F := Ideal) l (ix2 r c) = Hgrn.share (fun r => l (ix2 r c)) r := by
  unfold Hgrn.share
  rw [← greatest_apply]
  generalize hg : val_main_v3 (F := Ideal) l = G
  pointwise [val_main_v11, val_main_v10, val_main_v9, val_main_v8, val_main_v7, val_main_v6, val_main_v5, val_main_v4, val_main_cst_1, hg]
  rw [Fin.sum_univ_two]

theorem lower_apply (c : Fin 1536) : val_main_v19 (F := Ideal) l (ix1 c) = Hgrn.lower (fun r => l (ix2 r c)) := by
  have h : val_main_v12 (F := Ideal) l (ix2 1 c) = val_main_v11 (F := Ideal) l (ix2 0 c) + val_main_v11 (F := Ideal) l (ix2 1 c) := by
    have e : ∀ i, val_main_call0_call0_v0 (F := Ideal) i = 0 := fun i => by
      rw [val_main_call0_call0_v0_apply, val_main_call0_call0_cst_apply]
      exact Ideal.ofBits_zero_f32
    unfold val_main_v12 Host.reduceWindowAdd
    rw [e]
    exact Hgrn.cumsum_rows2 _ _ c
  unfold Hgrn.lower
  rw [← share_apply, ← share_apply, ← h]
  generalize hg : val_main_v11 (F := Ideal) l = G
  generalize hk : val_main_v12 (F := Ideal) l = K
  pointwise [val_main_v19, val_main_v18, val_main_v17, val_main_v16, val_main_v15, val_main_v14, val_main_v13, hg, hk]

theorem gate_apply (b t : Fin 32) (c : Fin 1536) :
    val_main_v42 (F := Ideal) z l (ix3 b t c)
      = Hgrn.logReference (Hgrn.lower (fun r => l (ix2 r c))) (z (ix3 b t ⟨1536 + c.val, by omega⟩)) := by
  rw [← lower_apply]
  generalize hg : val_main_v19 (F := Ideal) l = G
  pointwise [val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v20, val_main_call1_v1, val_main_call1_call0_v11, val_main_call1_call0_v10, val_main_call1_call0_v9, val_main_call1_call0_v8, val_main_call1_call0_v7, val_main_call1_call0_v6, val_main_call1_call0_v5, val_main_call1_call0_v4, val_main_call1_call0_v3, val_main_call1_call0_v2, val_main_call1_call0_v1, val_main_call1_call0_v0, val_main_call1_call0_cst, val_main_call1_v0, hg]
  unfold Hgrn.logReference Hgrn.logSum Hgrn.logSig
  simp only [ne_eq, not_true_eq_false, if_false, Ideal.absf_def, sub_zero]

theorem key_apply (b t : Fin 32) (c : Fin 1536) :
    val_main_v54 (F := Ideal) z l (ix3 b t c)
      = (1 - Hgrn.lower (fun r => l (ix2 r c))) * (Hgrn.sig (-z (ix3 b t ⟨1536 + c.val, by omega⟩)) : EReal) := by
  rw [← lower_apply, ← Hgrn.logistic_eq]
  generalize hg : val_main_v19 (F := Ideal) l = G
  pointwise [val_main_v54, val_main_v53, val_main_v52, val_main_v51, val_main_v50, val_main_v49, val_main_v48, val_main_v47, val_main_v46, val_main_v45, val_main_v44, val_main_v43, val_main_v20, val_main_cst_2, val_main_cst_3, val_main_cst_4, hg]

/-- The gates of a head's column, summed up to a row. -/
theorem sums_apply (b t : Fin 32) (h : Fin 12) (d : Fin 128) :
    val_main_v58 (F := Ideal) z l (ix4 b t h d)
      = Hgrn.upto (fun t' : Fin 32 => Hgrn.logReference (Hgrn.lower (fun r => l (ix2 r ⟨128 * h.val + d.val, by omega⟩)))
          (z (ix3 b t' ⟨1536 + (128 * h.val + d.val), by omega⟩))) t.val := by
  have e : ∀ i, val_main_call2_call0_v0 (F := Ideal) i = 0 := fun i => by
    rw [val_main_call2_call0_v0_apply, val_main_call2_call0_cst_apply]
    exact Ideal.ofBits_zero_f32
  unfold val_main_v58 Host.reduceWindowAdd
  rw [e]
  refine (Hgrn.cumsum_rows4 (T := 32) _ _ b t h d).trans ?_
  congr 1
  funext t'
  rw [← gate_apply z l b t' ⟨128 * h.val + d.val, by omega⟩, val_main_v57_apply]
  refine congrArg _ (funext fun a => Fin.ext ?_)
  match a with
  | ⟨0, _⟩ => simp [ix4, ix3]; omega
  | ⟨1, _⟩ => simp [ix4, ix3]; omega
  | ⟨2, _⟩ => simp [ix4, ix3]; omega

theorem result_apply (b : Fin 32) (h : Fin 12) (d e : Fin 128) :
    val_main_v71 (F := Ideal) z l s (ix4 b h d e)
      = Hgrn.state (s (ix5 0 b h d e)) (fun r : Fin 2 => l (ix2 r ⟨128 * h.val + d.val, by omega⟩))
          (fun t : Fin 32 => z (ix3 b t ⟨1536 + (128 * h.val + d.val), by omega⟩))
          (fun t => z (ix3 b t ⟨3072 + (128 * h.val + e.val), by omega⟩)) := by
  have hk : ∀ t : Fin 32, val_main_v55 (F := Ideal) z l (ix4 b t h d) = val_main_v54 (F := Ideal) z l (ix3 b t ⟨128 * h.val + d.val, by omega⟩) := fun t => by
    rw [val_main_v55_apply]
    refine congrArg _ (funext fun a => Fin.ext ?_)
    match a with
    | ⟨0, _⟩ => simp [ix4, ix3]; omega
    | ⟨1, _⟩ => simp [ix4, ix3]; omega
    | ⟨2, _⟩ => simp [ix4, ix3]; omega
  have hv : ∀ t : Fin 32, val_main_v56 (F := Ideal) z (ix4 b t h e) = z (ix3 b t ⟨3072 + (128 * h.val + e.val), by omega⟩) := fun t => by
    rw [val_main_v56_apply, val_main_v21_apply]
    refine congrArg _ (funext fun a => Fin.ext ?_)
    match a with
    | ⟨0, _⟩ => simp [ix4, ix3]; omega
    | ⟨1, _⟩ => simp [ix4, ix3]; omega
    | ⟨2, _⟩ => simp [ix4, ix3]; omega
  unfold Hgrn.state Hgrn.entry
  generalize hw : val_main_v58 (F := Ideal) z l = W
  generalize hK : val_main_v55 (F := Ideal) z l = K
  generalize hV : val_main_v56 (F := Ideal) z = V
  rw [hK] at hk
  rw [hV] at hv
  pointwise [val_main_v71, val_main_v70, val_main_v69, val_main_v68, val_main_v67, val_main_v66, val_main_v65, val_main_v64, val_main_v63, val_main_v62, val_main_v61, val_main_v60, val_main_v59, val_main_v0, hw, hK, hV]
  have hs : ∀ t : Fin 32, W (ix4 b t h d) = _ := fun t => (congrFun hw _).symm.trans (sums_apply z l b t h d)
  rw [hs 31]
  refine congrArg₂ (· + ·) rfl (Finset.sum_congr rfl fun t _ => ?_)
  rw [hs t, hk t, hv t, key_apply z l b t ⟨128 * h.val + d.val, by omega⟩]
  rfl

end Cert.HgrnSRefIdeal.Hand
-- ==== Proof.HgrnSClaim.lean ====
module

public import proofs.«01_k».proof.Defs
public import proofs.«01_k».proof.Proof.HgrnSState
public import proofs.«01_k».proof.Proof.HgrnSReference
public import proofs.«01_k».proof.Proof.Gen.Pre_finite_lower_s
public import Idealize.ShloMosaic.Lib.ReduceAll

@[expose] public section

/-! The recurrence's kernel and its reference end with the same state for the sample batch, over finite lower-bound
    parameters. -/

namespace Cert.HgrnSClaim

open Idealize.ShloMosaic Idealize.ShloMosaic.TcCoe Idealize.SL.Sem

theorem reference_eq (x0 : Vec Ideal Cert.HgrnSRefIdeal.S32x32x6656 .f32) (x1 : Vec Ideal Cert.HgrnSRefIdeal.S2x1536 .f32)
    (x3 : Vec Ideal Cert.HgrnSRefIdeal.S1x32x12x128x128 .f32) :
    Cert.HgrnSRefIdeal.Read.val_main_v71 (F := Ideal) x0 x1 x3 = Cert.HgrnSIdeal.Hand.result x0 x1 x3 :=
  funext fun i => (congrArg _ (eq_ix4 i)).trans (Cert.HgrnSRefIdeal.Hand.result_apply x0 x1 x3 (i 0) (i 1) (i 2) (i 3))

/-- A parameter whose magnitude is below plus infinity is a number. -/
theorem number_of_lt (x : EReal)
    (h : FloatOps.cmpf (F := Ideal) (φ := .f32) .olt (FloatOps.hostAbsf (F := Ideal) (φ := .f32) x)
      (FloatOps.ofBits (F := Ideal) .f32 0x7F800000#32) = 1#1) : ∃ y : ℝ, x = y := by
  have ht : Ideal.ofBits .f32 0x7F800000#32 = ⊤ := by simp [Ideal.ofBits, Ideal.ieee]
  simp only [Ideal.cmpf_def, Ideal.hostAbsf_def, Ideal.ofBits_def, Ideal.absf_def, ht, Ideal.cmp] at h
  induction x with
  | bot => simp at h
  | top => simp at h
  | coe y => exact ⟨y, rfl⟩

instance : Subsingleton Cert.Pre_finite_lower_s.S_.Idx := ⟨fun _ _ => funext fun a => a.elim0⟩

/-- The precondition says that every lower-bound parameter is a number. -/
theorem numbers_of_pre (x0 : Vec Ideal Cert.HgrnSRefIdeal.S32x32x6656 .f32) (x1 : Vec Ideal Cert.HgrnSRefIdeal.S2x1536 .f32)
    (x2 : Vec Ideal Cert.HgrnSRefIdeal.S1536 .f32) (x3 : Vec Ideal Cert.HgrnSRefIdeal.S1x32x12x128x128 .f32)
    (h : Cert.Pre_finite_lower_s.fn (F := Ideal) x0 x1 x2 x3 = fun _ => 1#1) : ∀ i, ∃ y : ℝ, x1 i = y := by
  have e := congrFun h (Shape.Idx.first Cert.Pre_finite_lower_s.Facts.h_S_)
  unfold Cert.Pre_finite_lower_s.fn at e
  exact fun i => number_of_lt _ (Host.reduce_andi_all _ _ _ _ _ e i)

theorem algebraic : Cert.algebraic_HgrnSIdeal_HgrnSRefIdeal_pre_finite_lower_s := by
  intro m g m' g' hp h
  have hf := fun c => numbers_of_pre _ _ _ _ (hp c)
  refine ⟨fun c => Cert.HgrnSIdeal.Hand.result (m ((c.tc : Thread Cert.HgrnSIdeal.nD Cert.HgrnSIdeal.τ).loc Cert.HgrnSIdeal.main_arg0))
    (m ((c.tc : Thread Cert.HgrnSIdeal.nD Cert.HgrnSIdeal.τ).loc Cert.HgrnSIdeal.main_arg1))
    (m ((c.tc : Thread Cert.HgrnSIdeal.nD Cert.HgrnSIdeal.τ).loc Cert.HgrnSIdeal.main_arg3)), ?_, ?_⟩
  · refine (θ_run _ _ _).mono (fun r hr c =>
      ⟨(hr c).2.1.trans (Cert.HgrnSIdeal.Hand.final_state m c (hf c)), (hr c).2.2⟩) (Cert.HgrnSIdeal.Value.run_blocks m g)
  · refine (θ_run _ _ _).mono (fun r hr c => ⟨(hr c).1.trans ?_, (hr c).2⟩) (Cert.HgrnSRefIdeal.Value.run m' g')
    refine (Cert.HgrnSRefIdeal.Read.val_main_v71_eq (StableHlo.launchContents m' c)).trans ?_
    change Cert.HgrnSRefIdeal.Read.val_main_v71 (m' ((c.tc : Thread Cert.HgrnSRefIdeal.nD Cert.HgrnSRefIdeal.τ).loc Cert.HgrnSRefIdeal.main_arg0))
      (m' ((c.tc : Thread Cert.HgrnSRefIdeal.nD Cert.HgrnSRefIdeal.τ).loc Cert.HgrnSRefIdeal.main_arg1))
      (m' ((c.tc : Thread Cert.HgrnSRefIdeal.nD Cert.HgrnSRefIdeal.τ).loc Cert.HgrnSRefIdeal.main_arg3)) = _
    rw [(h c).1, (h c).2.1, (h c).2.2.2]
    exact reference_eq _ _ _

end Cert.HgrnSClaim
-- ==== Proof.HgrnChunks.lean ====
module

public import proofs.«01_k».proof.Proof.HgrnGate
public import Idealize.ShloMosaic.Lib.Pointwise.Index

@[expose] public section

noncomputable section

/-! The recurrence over a long batch: chunk after chunk of 64 rows, each starting from the state the one before left. -/

namespace Hgrn

open Idealize.ShloMosaic Idealize.ShloMosaic.TcCoe

/-- Row `t` of chunk `n`. -/
def row (n : ℕ) (t : Fin 64) : Fin 2048 := ⟨(64 * n + t.val) % 2048, Nat.mod_lt _ (by omega)⟩

theorem row_val {n : ℕ} (h : n < 32) (t : Fin 64) : (row n t).val = 64 * n + t.val :=
  Nat.mod_eq_of_lt (by have := t.isLt; omega)

/-- One entry of the state after `n` chunks. -/
def chained (z : (⟨3, ![4, 2048, 6656]⟩ : Shape).Idx → EReal) (l : (⟨2, ![2, 1536]⟩ : Shape).Idx → EReal)
    (b : Fin 4) (h : Fin 12) (d e : Fin 128) : ℕ → EReal
  | 0 => 0
  | n + 1 => state (chained z l b h d e n) (fun r : Fin 2 => l (ix2 r ⟨128 * h.val + d.val, by omega⟩))
      (fun t : Fin 64 => z (ix3 b (row n t) ⟨1536 + (128 * h.val + d.val), by omega⟩))
      (fun t => z (ix3 b (row n t) ⟨3072 + (128 * h.val + e.val), by omega⟩))

theorem chained_succ (z : (⟨3, ![4, 2048, 6656]⟩ : Shape).Idx → EReal) (l : (⟨2, ![2, 1536]⟩ : Shape).Idx → EReal)
    (b : Fin 4) (h : Fin 12) (d e : Fin 128) (n : ℕ) :
    chained z l b h d e (n + 1) = state (chained z l b h d e n) (fun r : Fin 2 => l (ix2 r ⟨128 * h.val + d.val, by omega⟩))
      (fun t : Fin 64 => z (ix3 b (row n t) ⟨1536 + (128 * h.val + d.val), by omega⟩))
      (fun t => z (ix3 b (row n t) ⟨3072 + (128 * h.val + e.val), by omega⟩)) := rfl

end Hgrn
-- ==== Proof.HgrnPKernel.lean ====
module

public import proofs.«01_k».proof.Proof.HgrnGate
public import proofs.«01_k».proof.Proof.HgrnChunks
public import proofs.«01_k».proof.Proof.Gen.HgrnPIdeal.Value
public import Idealize.ShloMosaic.Lib.Pointwise
public import Idealize.ShloMosaic.Lib.Pipeline.ValueKit.Point
public import Idealize.ShloMosaic.Lib.Pipeline.ValueKit.Tiles
public import Idealize.ShloMosaic.Lib.Pipeline.ValueKit.Geometry
public import Idealize.ShloMosaic.Lib.Pipeline.ReadBack
public import Idealize.ShloMosaic.Lib.StableHlo.RunRead

@[expose] public section

noncomputable section

/-! What one chunk of the recurrent kernel makes of each head's state. -/

namespace Cert.HgrnPIdeal.Hand

open Cert.HgrnPIdeal Cert.HgrnPIdeal.Gen
open Idealize.ShloMosaic Idealize.ShloMosaic.TcCoe Idealize.SL.Sem

/-- The position of each row of a chunk. -/
abbrev rowOf : IVec S64x128 32 := iota .tc S64x128 32 [0] iota_S64x128_d0_w32

/-- A chunk's rows without the leading axis. -/
abbrev rows (x : Vec Ideal S1x64x128 .f32) : FVec Ideal S64x128 .f32 := shapeCast S64x128 x shapeCasts_S1x64x128_S64x128

/-- One head of a chunk: its gates, its values, its parameters and its state before, as the scratch holds it. -/
def headBlock (ff v : Vec Ideal S1x64x128 .f32) (l : Vec Ideal S2x128 .f32) (s : Vec Ideal S1x128x128 .f32) :
    FVec Ideal S1x128x128 .f32 :=
  k0_pay80 (k0_pay40 v) (k0_pay45 (rows ff) l) (k0_pay46 rowOf (k0_pay44 (rows ff) l) 1#32)
    (k0_pay47 rowOf (k0_pay44 (rows ff) l) 1#32) (k0_pay48 s)

/-! Each head's operations, however the body groups them, are those of one head. -/

section

variable (ff v : Vec Ideal S1x64x128 .f32) (l : Vec Ideal S2x128 .f32) (s : Vec Ideal S1x128x128 .f32)

theorem head_0 : k0_pay80 (k0_pay40 v) (k0_pay45 (shapeCast S64x128 ff shapeCasts_S1x64x128_S64x128) l) (k0_pay46 rowOf (k0_pay44 (shapeCast S64x128 ff shapeCasts_S1x64x128_S64x128) l) 1#32) (k0_pay47 rowOf (k0_pay44 (shapeCast S64x128 ff shapeCasts_S1x64x128_S64x128) l) 1#32) (k0_pay48 s) = headBlock ff v l s := rfl
theorem head_1 : k0_pay128 (k0_pay84 v) (k0_pay89 (k0_pay83 ff) l) (k0_pay91 rowOf (k0_pay88 (k0_pay83 ff) l) k0_pay90) (k0_pay92 rowOf (k0_pay88 (k0_pay83 ff) l) k0_pay90) (k0_pay93 s) = headBlock ff v l s := rfl
theorem head_2 : k0_pay173 (k0_pay132 v) (k0_pay137 (k0_pay131 ff) l) (k0_pay139 rowOf (k0_pay136 (k0_pay131 ff) l) (k0_pay138 rowOf)) (k0_pay140 rowOf (k0_pay136 (k0_pay131 ff) l) (k0_pay138 rowOf)) (k0_pay141 s) = headBlock ff v l s := rfl
theorem head_3 : k0_pay219 (k0_pay177 v) (k0_pay182 (k0_pay176 ff) l) (k0_pay184 rowOf (k0_pay181 (k0_pay176 ff) l) (k0_pay183 rowOf) 1#32) (k0_pay185 rowOf (k0_pay181 (k0_pay176 ff) l) (k0_pay183 rowOf) 1#32) (k0_pay186 s) = headBlock ff v l s := rfl
theorem head_4 : k0_pay270 (k0_pay223 v) (k0_pay228 (k0_pay222 ff) l) (k0_pay231 rowOf (k0_pay227 (k0_pay222 ff) l) (k0_pay229 rowOf) (k0_pay230 (k0_pay222 ff) l)) (k0_pay232 rowOf (k0_pay227 (k0_pay222 ff) l) (k0_pay229 rowOf) (k0_pay230 (k0_pay222 ff) l)) (k0_pay233 s) = headBlock ff v l s := rfl
theorem head_5 : k0_pay315 (k0_pay274 v) (k0_pay279 (k0_pay273 ff) l) (k0_pay282 rowOf (k0_pay278 (k0_pay273 ff) l) (k0_pay280 rowOf) (k0_pay281 (k0_pay273 ff) l) (FloatOps.ofBits FTy.f32 0#32)) (k0_pay283 rowOf (k0_pay278 (k0_pay273 ff) l) (k0_pay280 rowOf) (k0_pay281 (k0_pay273 ff) l) (FloatOps.ofBits FTy.f32 0#32)) (k0_pay284 s) = headBlock ff v l s := rfl
theorem head_6 : k0_pay362 (k0_pay319 v) (k0_pay324 (k0_pay318 ff) l) (k0_pay328 rowOf (k0_pay323 (k0_pay318 ff) l) (k0_pay325 rowOf) (k0_pay326 (k0_pay318 ff) l) k0_pay327) (k0_pay329 rowOf (k0_pay323 (k0_pay318 ff) l) (k0_pay325 rowOf) (k0_pay326 (k0_pay318 ff) l) k0_pay327) (k0_pay330 s) = headBlock ff v l s := rfl
theorem head_7 : k0_pay408 (k0_pay366 v) (k0_pay372 (k0_pay365 ff) l (k0_pay367 l)) (k0_pay374 rowOf (k0_pay371 (k0_pay365 ff) l (k0_pay367 l)) (k0_pay373 rowOf (k0_pay365 ff) l (k0_pay367 l))) (k0_pay375 rowOf (k0_pay371 (k0_pay365 ff) l (k0_pay367 l)) (k0_pay373 rowOf (k0_pay365 ff) l (k0_pay367 l))) (k0_pay376 s) = headBlock ff v l s := rfl
theorem head_8 : k0_pay455 (k0_pay412 v) (k0_pay417 (k0_pay411 ff) l (k0_pay413 l)) (k0_pay419 rowOf (k0_pay418 rowOf (k0_pay411 ff) l (k0_pay413 l))) (k0_pay420 rowOf (k0_pay418 rowOf (k0_pay411 ff) l (k0_pay413 l))) (k0_pay421 s) = headBlock ff v l s := rfl
theorem head_9 : k0_pay505 (k0_pay459 v) (k0_pay464 (k0_pay458 ff) l (k0_pay460 l)) (k0_pay466 rowOf (k0_pay465 rowOf (k0_pay458 ff) l (k0_pay460 l)) 2#32) (k0_pay467 rowOf (k0_pay465 rowOf (k0_pay458 ff) l (k0_pay460 l)) 2#32) (k0_pay468 s) = headBlock ff v l s := rfl
theorem head_10 : k0_pay554 (k0_pay509 v) (k0_pay514 (k0_pay508 ff) (k0_pay510 l)) (k0_pay517 rowOf (k0_pay515 rowOf (k0_pay508 ff) (k0_pay510 l)) k0_pay516) (k0_pay518 rowOf (k0_pay515 rowOf (k0_pay508 ff) (k0_pay510 l)) k0_pay516) (k0_pay519 s) = headBlock ff v l s := rfl
theorem head_11 : k0_pay602 (k0_pay558 v) (k0_pay563 (k0_pay557 ff) (k0_pay559 l)) (k0_pay566 rowOf (k0_pay564 rowOf (k0_pay557 ff) (k0_pay559 l)) (k0_pay565 rowOf)) (k0_pay567 rowOf (k0_pay564 rowOf (k0_pay557 ff) (k0_pay559 l)) (k0_pay565 rowOf)) (k0_pay568 s) = headBlock ff v l s := rfl

end

/-- One step of the doubling sum: every row added to the row `sh` before it. -/
def step (sh : BitVec 32) (b : FVec Ideal S64x128 .f32) : FVec Ideal S64x128 .f32 :=
  addf b (select (cmpi .sge rowOf (broadcast S64x128 sh)) (dynamicRotate 0 sh none b rotates_S64x128_d0)
    (broadcast S64x128 (Scalar.ofBits .f32 0x00000000#32)))

theorem doubling_eq (g : FVec Ideal S64x128 .f32) :
    k0_pay46 rowOf g 1#32 = step 32#32 (step 16#32 (step 8#32 (step 4#32 (step 2#32 (step 1#32 g))))) := rfl

/-- A column of gates as a chunk. -/
def chunk (g : FVec Ideal S64x128 .f32) (d : Fin 128) (t : Fin 64) : EReal := g (ix2 t d)

theorem row_ge (n : ℕ) (sh : BitVec 32) (h : ∀ t : Fin 64, IntOp.cmpi .sge (BitVec.ofNat 32 t.val) sh = if n ≤ t.val then 1 else 0)
    (hn : n ≤ 32) (b : FVec Ideal S64x128 .f32) (f : ℕ → EReal) (d : Fin 128)
    (hb : ∀ t : Fin 64, b (ix2 t d) = Hgrn.last f n t.val) (t : Fin 64) :
    b (ix2 t d) + Scalar.select (IntOp.cmpi .sge (BitVec.ofNat 32 t.val) sh) (b (ix2 ⟨(t.val + 64 - n) % 64, by omega⟩ d)) 0
      = Hgrn.last f (n + n) t.val := by
  rw [h, hb, ← Hgrn.last_double]
  congr 1
  split
  · next hc =>
    rw [hb]
    refine (if_pos rfl).trans (congrArg (Hgrn.last f n) ?_)
    show (t.val + 64 - n) % 64 = t.val - n
    omega
  · exact if_neg (by decide)

theorem step_1 (b : FVec Ideal S64x128 .f32) (f : ℕ → EReal) (d : Fin 128)
    (hb : ∀ t : Fin 64, b (ix2 t d) = Hgrn.last f 1 t.val) (t : Fin 64) : step 1#32 b (ix2 t d) = Hgrn.last f 2 t.val := by
  pointwise [step]
  exact row_ge 1 1#32 (by decide) (by omega) b f d hb t
theorem step_2 (b : FVec Ideal S64x128 .f32) (f : ℕ → EReal) (d : Fin 128)
    (hb : ∀ t : Fin 64, b (ix2 t d) = Hgrn.last f 2 t.val) (t : Fin 64) : step 2#32 b (ix2 t d) = Hgrn.last f 4 t.val := by
  pointwise [step]
  exact row_ge 2 2#32 (by decide) (by omega) b f d hb t
theorem step_4 (b : FVec Ideal S64x128 .f32) (f : ℕ → EReal) (d : Fin 128)
    (hb : ∀ t : Fin 64, b (ix2 t d) = Hgrn.last f 4 t.val) (t : Fin 64) : step 4#32 b (ix2 t d) = Hgrn.last f 8 t.val := by
  pointwise [step]
  exact row_ge 4 4#32 (by decide) (by omega) b f d hb t
theorem step_8 (b : FVec Ideal S64x128 .f32) (f : ℕ → EReal) (d : Fin 128)
    (hb : ∀ t : Fin 64, b (ix2 t d) = Hgrn.last f 8 t.val) (t : Fin 64) : step 8#32 b (ix2 t d) = Hgrn.last f 16 t.val := by
  pointwise [step]
  exact row_ge 8 8#32 (by decide) (by omega) b f d hb t
theorem step_16 (b : FVec Ideal S64x128 .f32) (f : ℕ → EReal) (d : Fin 128)
    (hb : ∀ t : Fin 64, b (ix2 t d) = Hgrn.last f 16 t.val) (t : Fin 64) : step 16#32 b (ix2 t d) = Hgrn.last f 32 t.val := by
  pointwise [step]
  exact row_ge 16 16#32 (by decide) (by omega) b f d hb t
theorem step_32 (b : FVec Ideal S64x128 .f32) (f : ℕ → EReal) (d : Fin 128)
    (hb : ∀ t : Fin 64, b (ix2 t d) = Hgrn.last f 32 t.val) (t : Fin 64) : step 32#32 b (ix2 t d) = Hgrn.last f 64 t.val := by
  pointwise [step]
  exact row_ge 32 32#32 (by decide) (by omega) b f d hb t

/-- The doubling sum is the running sum. -/
theorem doubling_apply (g : FVec Ideal S64x128 .f32) (d : Fin 128) (t : Fin 64) :
    k0_pay46 rowOf g 1#32 (ix2 t d) = Hgrn.upto (chunk g d) t.val := by
  rw [doubling_eq]
  refine (step_32 _ (Hgrn.seq (chunk g d)) d (step_16 _ _ d (step_8 _ _ d (step_4 _ _ d (step_2 _ _ d (step_1 _ _ d fun t => ?_))))) t).trans
    (Hgrn.last_all _ 64 t.val t.isLt)
  rw [Hgrn.last_one, Hgrn.seq, dif_pos t.isLt]
  rfl

/-- The parameters of a column. -/
def column (l : Vec Ideal S2x128 .f32) (d : Fin 128) (r : Fin 2) : EReal := l (ix2 r d)

theorem lower_apply (l : Vec Ideal S2x128 .f32) (d : Fin 128) : k0_pay41 l (ix2 0 d) = Hgrn.lower (column l d) := by
  have e : Ideal.ofBits .f32 0xFF800000#32 = ⊥ := by simp [Ideal.ofBits, Ideal.ieee]
  have hf := Hgrn.fold_greatest (column l d)
  unfold column at hf
  pointwise [k0_pay41]
  rw [e, hf]
  simp only [Fin.sum_univ_two]
  rfl

theorem gate_apply (ff : Vec Ideal S1x64x128 .f32) (l : Vec Ideal S2x128 .f32) (t : Fin 64) (d : Fin 128) :
    k0_pay44 (rows ff) l (ix2 t d) = Hgrn.logKernel (Hgrn.lower (column l d)) (ff (ix3 0 t d)) := by
  rw [← lower_apply]
  unfold k0_pay44
  generalize k0_pay41 l = lb
  pointwise [k0_pay42, k0_pay43]
  rfl

theorem key_apply (ff : Vec Ideal S1x64x128 .f32) (l : Vec Ideal S2x128 .f32) (t : Fin 64) (d : Fin 128) :
    k0_pay45 (rows ff) l (ix2 t d) = (1 - Hgrn.lower (column l d)) * Hgrn.shut (ff (ix3 0 t d)) := by
  rw [← lower_apply]
  unfold k0_pay45
  generalize k0_pay41 l = lb
  pointwise [k0_pay42, k0_pay43]
  rfl

theorem combine_apply (v k b : FVec Ideal S64x128 .f32) (s : Vec Ideal S1x128x128 .f32) (x : S1x128x128.Idx)
    (e : FVec Ideal S1x128 .f32) :
    k0_pay80 v k b e (k0_pay48 (F := Ideal) s) x
      = s (ix3 0 (x 1) (x 2)) * Ideal.exp (e (ix2 0 (x 2)))
        + ∑ t : Fin 64, v (ix2 t (x 1)) * (k (ix2 t (x 2)) * Ideal.exp (min (e (ix2 0 (x 2)) - b (ix2 t (x 2))) 0)) := by
  have hx : x = ix3 0 (x 1) (x 2) := funext fun a => Fin.ext (by
    have h0 : (x 0).val < 1 := (x 0).isLt
    match a with
    | 0 => show (x 0).val = 0; omega
    | 1 => rfl
    | 2 => rfl)
  pointwise [k0_pay80, k0_pay48]
  exact congrArg₂ (· + ·) (congrArg (fun j => s j * Ideal.exp (e (ix2 0 (x 2)))) hx) rfl

theorem end_apply (g : FVec Ideal S64x128 .f32) (d : Fin 128) :
    k0_pay47 rowOf g 1#32 (ix2 0 d) = k0_pay46 rowOf g 1#32 (ix2 63 d) := by
  unfold k0_pay47
  generalize k0_pay46 rowOf g 1#32 = b
  pointwise

theorem values_apply (v : Vec Ideal S1x64x128 .f32) (t : Fin 64) (e : Fin 128) : k0_pay40 v (ix2 t e) = v (ix3 0 t e) := by
  pointwise [k0_pay40]

/-- What the head's last product adds up, over the column and the row of the entry. -/
theorem entry_apply (ff v : Vec Ideal S1x64x128 .f32) (l : Vec Ideal S2x128 .f32) (s : EReal) (d e : Fin 128)
    (hl : ∀ r, ∃ y : ℝ, column l d r = y) :
    s * Ideal.exp (k0_pay47 rowOf (k0_pay44 (rows ff) l) 1#32 (ix2 0 d))
        + ∑ t : Fin 64, k0_pay40 v (ix2 t e) * (k0_pay45 (rows ff) l (ix2 t d)
          * Ideal.exp (min (k0_pay47 rowOf (k0_pay44 (rows ff) l) 1#32 (ix2 0 d) - k0_pay46 rowOf (k0_pay44 (rows ff) l) 1#32 (ix2 t d)) 0))
      = Hgrn.state s (column l d) (fun t : Fin 64 => ff (ix3 0 t d)) (fun t => v (ix3 0 t e)) := by
  have hc : chunk (k0_pay44 (rows ff) l) d = fun t => Hgrn.logKernel (Hgrn.lower (column l d)) (ff (ix3 0 t d)) :=
    funext fun t => gate_apply ff l t d
  rw [end_apply, doubling_apply]
  refine Eq.trans ?_ (Hgrn.state_of_kernel (T := 64) (by omega) _ _ hl _ _)
  rw [hc]
  refine congrArg₂ (· + ·) rfl (Finset.sum_congr rfl fun t _ => ?_)
  rw [doubling_apply, hc, values_apply, key_apply]
  rfl

/-- One head's entry is the state's. -/
theorem head_apply (ff v : Vec Ideal S1x64x128 .f32) (l : Vec Ideal S2x128 .f32) (s : Vec Ideal S1x128x128 .f32)
    (x : S1x128x128.Idx) (hl : ∀ r, ∃ y : ℝ, column l (x 2) r = y) :
    headBlock ff v l s x = Hgrn.state (s (ix3 0 (x 1) (x 2))) (column l (x 2)) (fun t : Fin 64 => ff (ix3 0 t (x 2)))
      (fun t => v (ix3 0 t (x 1))) :=
  (combine_apply _ _ _ _ x _).trans (entry_apply ff v l _ (x 2) (x 1) hl)

/-- Where a head's columns of a block lie. -/
theorem at_columns (h : Fin 12) (o : Nat) (ho : o = 128 * h.val)
    (inb : ∀ a : Fin 3, (![0, 0, o] : Fin 3 → Nat) a + (![1, 64, 128] : Fin 3 → Nat) a ≤ S1x64x1536.size a)
    (r : Fin 64) (d : Fin 128) :
    (Rect.unit (s := S1x64x1536) ![0, 0, o] ![1, 64, 128] inb).idx (ix3 0 r d) = ix3 0 r ⟨128 * h.val + d.val, by omega⟩ := by
  subst ho
  funext a
  refine Fin.ext ?_
  match a with
  | 0 => rfl
  | 1 => show 0 + 1 * r.val = r.val; omega
  | 2 => show 128 * h.val + 1 * d.val = 128 * h.val + d.val; omega

/-- Where a head's columns of the parameters lie. -/
theorem at_parameters (h : Fin 12) (o : Nat) (ho : o = 128 * h.val)
    (inb : ∀ a : Fin 2, (![0, o] : Fin 2 → Nat) a + (![2, 128] : Fin 2 → Nat) a ≤ S2x1536.size a)
    (r : Fin 2) (d : Fin 128) :
    (Rect.unit (s := S2x1536) ![0, o] ![2, 128] inb).idx (ix2 r d) = ix2 r ⟨128 * h.val + d.val, by omega⟩ := by
  subst ho
  funext a
  refine Fin.ext ?_
  match a with
  | 0 => show 0 + 1 * r.val = r.val; omega
  | 1 => show 128 * h.val + 1 * d.val = 128 * h.val + d.val; omega

/-- Where a head's state lies. -/
theorem at_state (h : Fin 12) (n : Nat) (hn : n = h.val)
    (inb : ∀ a : Fin 3, (![n, 0, 0] : Fin 3 → Nat) a + (![1, 128, 128] : Fin 3 → Nat) a ≤ S12x128x128.size a)
    (e d : Fin 128) :
    (Rect.unit (s := S12x128x128) ![n, 0, 0] ![1, 128, 128] inb).idx (ix3 0 e d) = ix3 h e d := by
  subst hn
  funext a
  refine Fin.ext ?_
  match a with
  | 0 => show h.val + 1 * 0 = h.val; omega
  | 1 => show 0 + 1 * e.val = e.val; omega
  | 2 => show 0 + 1 * d.val = d.val; omega

/-- One entry of a head's state after a chunk, the entry before being `w`. -/
def entryOf (ff v : Vec Ideal S1x64x1536 .f32) (l : Vec Ideal S2x1536 .f32) (w : EReal) (h : Fin 12) (e d : Fin 128) : EReal :=
  Hgrn.state w (fun r : Fin 2 => l (ix2 r ⟨128 * h.val + d.val, by omega⟩))
    (fun t : Fin 64 => ff (ix3 0 t ⟨128 * h.val + d.val, by omega⟩))
    (fun t => v (ix3 0 t ⟨128 * h.val + e.val, by omega⟩))

/-- The scratch after a chunk, as a function of the scratch before. -/
def after (ff v : Vec Ideal S1x64x1536 .f32) (l : Vec Ideal S2x1536 .f32) (xs : Vec Ideal S12x128x128 .f32)
    (y : S12x128x128.Idx) : EReal :=
  entryOf ff v l (xs y) (y 0) (y 1) (y 2)

/-- The precondition of the value claim: the lower-bound parameters are numbers. -/
abbrev Numbers (l : Vec Ideal S2x1536 .f32) : Prop := ∀ i, ∃ y : ℝ, l i = y

/-- One head of a chunk as the body reads its blocks, its state before any block. -/
theorem piece (ff v : Vec Ideal S1x64x1536 .f32) (l : Vec Ideal S2x1536 .f32) (hl : Numbers l) (h : Fin 12) (o : Nat)
    (ho : o = 128 * h.val) (s : Vec Ideal S1x128x128 .f32)
    (iz : ∀ a : Fin 3, (![0, 0, o] : Fin 3 → Nat) a + (![1, 64, 128] : Fin 3 → Nat) a ≤ S1x64x1536.size a)
    (il : ∀ a : Fin 2, (![0, o] : Fin 2 → Nat) a + (![2, 128] : Fin 2 → Nat) a ≤ S2x1536.size a)
    (x : S1x128x128.Idx) :
    headBlock (View.ld ff (Rect.unit ![0, 0, o] ![1, 64, 128] iz)) (View.ld v (Rect.unit ![0, 0, o] ![1, 64, 128] iz))
        (View.ld l (Rect.unit ![0, o] ![2, 128] il)) s x
      = entryOf ff v l (s (ix3 0 (x 1) (x 2))) h (x 1) (x 2) := by
  have el : ∀ d : Fin 128, column (View.ld l (Rect.unit ![0, o] ![2, 128] il)) d
      = fun r => l (ix2 r ⟨128 * h.val + d.val, by omega⟩) := fun d => funext fun r => congrArg l (at_parameters h o ho il r d)
  have ez : ∀ (f : Vec Ideal S1x64x1536 .f32) (d : Fin 128),
      (fun t : Fin 64 => View.ld f (Rect.unit ![0, 0, o] ![1, 64, 128] iz) (ix3 0 t d))
        = fun t => f (ix3 0 t ⟨128 * h.val + d.val, by omega⟩) :=
    fun f d => funext fun t => congrArg f (at_columns h o ho iz t d)
  refine (head_apply _ _ _ _ x fun r => ?_).trans ?_
  · rw [el (x 2)]
    exact hl _
  · unfold entryOf
    rw [← ez v (x 1), ← ez ff (x 2), ← el (x 2)]

theorem after_eq (ff v : Vec Ideal S1x64x1536 .f32) (l : Vec Ideal S2x1536 .f32) (xs : Vec Ideal S12x128x128 .f32) (h : Fin 12)
    (e d : Fin 128) (y : S12x128x128.Idx) (h0 : (y 0).val = h.val) (h1 : (y 1).val = e.val) (h2 : (y 2).val = d.val) :
    entryOf ff v l (xs (ix3 h e d)) h e d = after ff v l xs y := by
  have hy : y = ix3 h e d := funext fun a => Fin.ext (by
    match a with
    | 0 => exact h0
    | 1 => exact h1
    | 2 => exact h2)
  subst hy
  rfl

/-- `piece` over the scratch. -/
theorem piece_ld (ff v : Vec Ideal S1x64x1536 .f32) (l : Vec Ideal S2x1536 .f32) (hl : Numbers l) (xs : Vec Ideal S12x128x128 .f32)
    (h : Fin 12) (o n : Nat) (ho : o = 128 * h.val) (hn : n = h.val)
    (iz : ∀ a : Fin 3, (![0, 0, o] : Fin 3 → Nat) a + (![1, 64, 128] : Fin 3 → Nat) a ≤ S1x64x1536.size a)
    (il : ∀ a : Fin 2, (![0, o] : Fin 2 → Nat) a + (![2, 128] : Fin 2 → Nat) a ≤ S2x1536.size a)
    (is : ∀ a : Fin 3, (![n, 0, 0] : Fin 3 → Nat) a + (![1, 128, 128] : Fin 3 → Nat) a ≤ S12x128x128.size a)
    (x : S1x128x128.Idx) (y : S12x128x128.Idx) (h0 : (y 0).val = h.val) (h1 : (y 1).val = (x 1).val) (h2 : (y 2).val = (x 2).val) :
    headBlock (View.ld ff (Rect.unit ![0, 0, o] ![1, 64, 128] iz)) (View.ld v (Rect.unit ![0, 0, o] ![1, 64, 128] iz))
        (View.ld l (Rect.unit ![0, o] ![2, 128] il)) (View.ld xs (Rect.unit ![n, 0, 0] ![1, 128, 128] is)) x
      = after ff v l xs y := by
  refine (piece ff v l hl h o ho _ iz il x).trans (Eq.trans ?_ (after_eq ff v l xs h (x 1) (x 2) y h0 h1 h2))
  exact congrArg (fun w => entryOf ff v l w h (x 1) (x 2)) (congrArg xs (at_state h n hn is (x 1) (x 2)))

/-- `piece` at the first chunk, which starts from nought. -/
theorem piece_zero (ff v : Vec Ideal S1x64x1536 .f32) (l : Vec Ideal S2x1536 .f32) (hl : Numbers l) (s : Vec Ideal S1x128x128 .f32)
    (hs : ∀ x, s x = 0) (h : Fin 12) (o : Nat) (ho : o = 128 * h.val)
    (iz : ∀ a : Fin 3, (![0, 0, o] : Fin 3 → Nat) a + (![1, 64, 128] : Fin 3 → Nat) a ≤ S1x64x1536.size a)
    (il : ∀ a : Fin 2, (![0, o] : Fin 2 → Nat) a + (![2, 128] : Fin 2 → Nat) a ≤ S2x1536.size a)
    (x : S1x128x128.Idx) (y : S12x128x128.Idx) (h0 : (y 0).val = h.val) (h1 : (y 1).val = (x 1).val) (h2 : (y 2).val = (x 2).val) :
    headBlock (View.ld ff (Rect.unit ![0, 0, o] ![1, 64, 128] iz)) (View.ld v (Rect.unit ![0, 0, o] ![1, 64, 128] iz))
        (View.ld l (Rect.unit ![0, o] ![2, 128] il)) s x
      = after ff v l (fun _ => 0) y := by
  refine (piece ff v l hl h o ho _ iz il x).trans (Eq.trans ?_ (after_eq ff v l (fun _ => 0) h (x 1) (x 2) y h0 h1 h2))
  exact congrArg (fun w => entryOf ff v l w h (x 1) (x 2)) (hs _)

end Cert.HgrnPIdeal.Hand
-- ==== Proof.HgrnPPieces.lean ====
module

public import proofs.«01_k».proof.Proof.HgrnPKernel

@[expose] public section

noncomputable section

/-! The twelve heads' pieces of a chunk put together: what a chunk leaves in the scratch, and in the state array after the last. -/

namespace Cert.HgrnPIdeal.Hand

open Cert.HgrnPIdeal Cert.HgrnPIdeal.Gen
open Idealize.ShloMosaic Idealize.ShloMosaic.TcCoe Idealize.SL.Sem

/-! The piece each head's scratch is set to before the first chunk is nought. -/

theorem zero_0 (x : S1x128x128.Idx) : k0_pay6 (F := Ideal) x = 0 := Ideal.ofBits_zero_f32
theorem zero_1 (x : S1x128x128.Idx) : k0_pay7 (F := Ideal) x = 0 := Ideal.ofBits_zero_f32
theorem zero_2 (x : S1x128x128.Idx) : k0_pay8 (F := Ideal) x = 0 := Ideal.ofBits_zero_f32
theorem zero_3 (x : S1x128x128.Idx) : k0_pay9 (F := Ideal) x = 0 := Ideal.ofBits_zero_f32
theorem zero_4 (x : S1x128x128.Idx) : k0_pay10 (F := Ideal) x = 0 := Ideal.ofBits_zero_f32
theorem zero_5 (x : S1x128x128.Idx) : k0_pay11 (F := Ideal) x = 0 := Ideal.ofBits_zero_f32
theorem zero_6 (x : S1x128x128.Idx) : k0_pay22 (k0_pay12 (F := Ideal)) x = 0 := Ideal.ofBits_zero_f32
theorem zero_7 (x : S1x128x128.Idx) : k0_pay23 (F := Ideal) x = 0 := Ideal.ofBits_zero_f32
theorem zero_8 (x : S1x128x128.Idx) : k0_pay24 (F := Ideal) x = 0 := Ideal.ofBits_zero_f32
theorem zero_9 (x : S1x128x128.Idx) : k0_pay25 (F := Ideal) x = 0 := Ideal.ofBits_zero_f32
theorem zero_10 (x : S1x128x128.Idx) : k0_pay26 (F := Ideal) x = 0 := Ideal.ofBits_zero_f32
theorem zero_11 (x : S1x128x128.Idx) : k0_pay27 (F := Ideal) x = 0 := Ideal.ofBits_zero_f32

/-- What pieces leave at an index that one of the first `n` holds is what those leave. -/
theorem canon_take {S : Shape} (n : ℕ) : ∀ (L : List (View.Piece (Elt Ideal) S .f32)) (y : S.Idx), (∃ q ∈ L.take n, y ∈ q.1.set) →
    View.canon L y = View.canon (L.take n) y := by
  induction n with
  | zero => intro L y ⟨q, hq, _⟩; simp at hq
  | succ n ih =>
    intro L y hc
    cases L with
    | nil => rfl
    | cons p L =>
      rw [List.take_succ_cons]
      by_cases hm : y ∈ p.1.set
      · obtain ⟨x, rfl⟩ := p.1.exists_idx_of_mem hm
        rw [show p.1.idx x = p.1.emb x from rfl, View.canon_cons_emb, View.canon_cons_emb]
      · rw [View.canon_cons_of_not_mem _ _ hm, View.canon_cons_of_not_mem _ _ hm]
        refine ih L y ?_
        obtain ⟨q, hq, hy⟩ := hc
        rw [List.take_succ_cons] at hq
        rcases List.mem_cons.mp hq with rfl | hq
        · exact absurd hy hm
        · exact ⟨q, hq, hy⟩

/-- The scratch after the first chunk of a batch, which starts from nought. -/
theorem scratch_A (c : Dev nD) (t : Fin cfg0.N) (h0 : t.val % 32 = 0) (h1 : ¬t.val % 32 = 31) (q ff v g : Vec Ideal S1x64x1536 .f32)
    (l : Vec Ideal S2x1536 .f32) (gh : Vec Ideal S1x1536 .f32) (hl : Numbers l) (y : S12x128x128.Idx) :
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) q ff v g l gh y = after ff v l (fun _ => 0) y := by
  unfold sout0_A_0
  frame_open
  simp (disch := decide) only [↓ View.readCov_skip, ↓ View.readCov_cons_toLoadRect, ↓ View.readCov_fill]
  frame_out
  refine (canon_take 12 _ y ?_).trans ?_
  · simp only [List.take_succ_cons, List.take_zero]
    exact View.cover_of_tiled_head _ _ _ (by rfl) y
  simp only [List.take_succ_cons, List.take_zero]
  canon_tiles x e
  · rw [head_11]
    exact piece_zero ff v l hl _ zero_11 11 1408 rfl _ _ x y (by show (y 0).val = 11; omega) e1 e2
  · rw [head_10]
    exact piece_zero ff v l hl _ zero_10 10 1280 rfl _ _ x y (by show (y 0).val = 10; omega) e1 e2
  · rw [head_9]
    exact piece_zero ff v l hl _ zero_9 9 1152 rfl _ _ x y (by show (y 0).val = 9; omega) e1 e2
  · rw [head_8]
    exact piece_zero ff v l hl _ zero_8 8 1024 rfl _ _ x y (by show (y 0).val = 8; omega) e1 e2
  · rw [head_7]
    exact piece_zero ff v l hl _ zero_7 7 896 rfl _ _ x y (by show (y 0).val = 7; omega) e1 e2
  · rw [head_6]
    exact piece_zero ff v l hl _ zero_6 6 768 rfl _ _ x y (by show (y 0).val = 6; omega) e1 e2
  · rw [head_5]
    exact piece_zero ff v l hl _ zero_5 5 640 rfl _ _ x y (by show (y 0).val = 5; omega) e1 e2
  · rw [head_4]
    exact piece_zero ff v l hl _ zero_4 4 512 rfl _ _ x y (by show (y 0).val = 4; omega) e1 e2
  · rw [head_3]
    exact piece_zero ff v l hl _ zero_3 3 384 rfl _ _ x y (by show (y 0).val = 3; omega) e1 e2
  · rw [head_2]
    exact piece_zero ff v l hl _ zero_2 2 256 rfl _ _ x y (by show (y 0).val = 2; omega) e1 e2
  · rw [head_1]
    exact piece_zero ff v l hl _ zero_1 1 128 rfl _ _ x y (by show (y 0).val = 1; omega) e1 e2
  · rw [head_0]
    exact piece_zero ff v l hl _ zero_0 0 0 rfl _ _ x y (by show (y 0).val = 0; omega) e1 e2

/-- The scratch after a chunk between. -/
theorem scratch_B (c : Dev nD) (t : Fin cfg0.N) (h0 : ¬t.val % 32 = 0) (h1 : ¬t.val % 32 = 31) (q ff v g : Vec Ideal S1x64x1536 .f32)
    (l : Vec Ideal S2x1536 .f32) (gh : Vec Ideal S1x1536 .f32) (xs : Vec Ideal S12x128x128 .f32) (hl : Numbers l) (y : S12x128x128.Idx) :
    sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) q ff v g l gh xs y = after ff v l xs y := by
  unfold sout0_B_0
  frame_open
  simp (disch := decide) only [↓ View.readCov_skip, ↓ View.readCov_cons_toLoadRect, ↓ View.readCov_fill]
  frame_out
  canon_tiles x e
  · rw [head_11, read_unread_whole]
    exact piece_ld ff v l hl xs 11 1408 11 rfl rfl _ _ _ x y (by show (y 0).val = 11; omega) e1 e2
  · rw [head_10, read_unread_whole]
    exact piece_ld ff v l hl xs 10 1280 10 rfl rfl _ _ _ x y (by show (y 0).val = 10; omega) e1 e2
  · rw [head_9, read_unread_whole]
    exact piece_ld ff v l hl xs 9 1152 9 rfl rfl _ _ _ x y (by show (y 0).val = 9; omega) e1 e2
  · rw [head_8, read_unread_whole]
    exact piece_ld ff v l hl xs 8 1024 8 rfl rfl _ _ _ x y (by show (y 0).val = 8; omega) e1 e2
  · rw [head_7, read_unread_whole]
    exact piece_ld ff v l hl xs 7 896 7 rfl rfl _ _ _ x y (by show (y 0).val = 7; omega) e1 e2
  · rw [head_6, read_unread_whole]
    exact piece_ld ff v l hl xs 6 768 6 rfl rfl _ _ _ x y (by show (y 0).val = 6; omega) e1 e2
  · rw [head_5, read_unread_whole]
    exact piece_ld ff v l hl xs 5 640 5 rfl rfl _ _ _ x y (by show (y 0).val = 5; omega) e1 e2
  · rw [head_4, read_unread_whole]
    exact piece_ld ff v l hl xs 4 512 4 rfl rfl _ _ _ x y (by show (y 0).val = 4; omega) e1 e2
  · rw [head_3, read_unread_whole]
    exact piece_ld ff v l hl xs 3 384 3 rfl rfl _ _ _ x y (by show (y 0).val = 3; omega) e1 e2
  · rw [head_2, read_unread_whole]
    exact piece_ld ff v l hl xs 2 256 2 rfl rfl _ _ _ x y (by show (y 0).val = 2; omega) e1 e2
  · rw [head_1, read_unread_whole]
    exact piece_ld ff v l hl xs 1 128 1 rfl rfl _ _ _ x y (by show (y 0).val = 1; omega) e1 e2
  · rw [head_0, read_unread_whole]
    exact piece_ld ff v l hl xs 0 0 0 rfl rfl _ _ _ x y (by show (y 0).val = 0; omega) e1 e2

/-- The scratch after the last chunk. -/
theorem scratch_C (c : Dev nD) (t : Fin cfg0.N) (h0 : ¬t.val % 32 = 0) (h1 : t.val % 32 = 31) (q ff v g : Vec Ideal S1x64x1536 .f32)
    (l : Vec Ideal S2x1536 .f32) (gh : Vec Ideal S1x1536 .f32) (xs : Vec Ideal S12x128x128 .f32) (hl : Numbers l) (y : S12x128x128.Idx) :
    sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) q ff v g l gh xs y = after ff v l xs y := by
  unfold sout0_C_0
  frame_open
  simp (disch := decide) only [↓ View.readCov_skip, ↓ View.readCov_cons_toLoadRect, ↓ View.readCov_fill]
  frame_out
  canon_tiles x e
  · rw [head_11, read_unread_whole]
    exact piece_ld ff v l hl xs 11 1408 11 rfl rfl _ _ _ x y (by show (y 0).val = 11; omega) e1 e2
  · rw [head_10, read_unread_whole]
    exact piece_ld ff v l hl xs 10 1280 10 rfl rfl _ _ _ x y (by show (y 0).val = 10; omega) e1 e2
  · rw [head_9, read_unread_whole]
    exact piece_ld ff v l hl xs 9 1152 9 rfl rfl _ _ _ x y (by show (y 0).val = 9; omega) e1 e2
  · rw [head_8, read_unread_whole]
    exact piece_ld ff v l hl xs 8 1024 8 rfl rfl _ _ _ x y (by show (y 0).val = 8; omega) e1 e2
  · rw [head_7, read_unread_whole]
    exact piece_ld ff v l hl xs 7 896 7 rfl rfl _ _ _ x y (by show (y 0).val = 7; omega) e1 e2
  · rw [head_6, read_unread_whole]
    exact piece_ld ff v l hl xs 6 768 6 rfl rfl _ _ _ x y (by show (y 0).val = 6; omega) e1 e2
  · rw [head_5, read_unread_whole]
    exact piece_ld ff v l hl xs 5 640 5 rfl rfl _ _ _ x y (by show (y 0).val = 5; omega) e1 e2
  · rw [head_4, read_unread_whole]
    exact piece_ld ff v l hl xs 4 512 4 rfl rfl _ _ _ x y (by show (y 0).val = 4; omega) e1 e2
  · rw [head_3, read_unread_whole]
    exact piece_ld ff v l hl xs 3 384 3 rfl rfl _ _ _ x y (by show (y 0).val = 3; omega) e1 e2
  · rw [head_2, read_unread_whole]
    exact piece_ld ff v l hl xs 2 256 2 rfl rfl _ _ _ x y (by show (y 0).val = 2; omega) e1 e2
  · rw [head_1, read_unread_whole]
    exact piece_ld ff v l hl xs 1 128 1 rfl rfl _ _ _ x y (by show (y 0).val = 1; omega) e1 e2
  · rw [head_0, read_unread_whole]
    exact piece_ld ff v l hl xs 0 0 0 rfl rfl _ _ _ x y (by show (y 0).val = 0; omega) e1 e2

/-- A head's piece of the state array: its scratch, the two axes exchanged. -/
theorem turned_apply (s : Vec Ideal S1x128x128 .f32) (x : S1x1x128x128.Idx) : k0_pay13 s x = s (ix3 0 (x 3) (x 2)) := by
  pointwise [k0_pay13]

/-- What the last chunk writes out. -/
theorem written (c : Dev nD) (t : Fin cfg0.N) (h0 : ¬t.val % 32 = 0) (h1 : t.val % 32 = 31) (q ff v g : Vec Ideal S1x64x1536 .f32)
    (l : Vec Ideal S2x1536 .f32) (gh : Vec Ideal S1x1536 .f32) (xs : Vec Ideal S12x128x128 .f32) (hl : Numbers l) (y : S1x12x128x128.Idx) :
    out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) q ff v g l gh xs y = after ff v l xs (ix3 (y 1) (y 3) (y 2)) := by
  unfold out0_C_7
  frame_open
  simp (disch := decide) only [↓ View.readCov_skip, ↓ View.readCov_cons_toLoadRect, ↓ View.readCov_fill]
  frame_out
  canon_tiles x e
  · rw [head_11, read_unread_whole]
    exact (turned_apply _ x).trans (piece_ld ff v l hl xs 11 1408 11 rfl rfl _ _ _ _ _ (by show (y 1).val = 11; omega) e3 e2)
  · rw [head_10, read_unread_whole]
    exact (turned_apply _ x).trans (piece_ld ff v l hl xs 10 1280 10 rfl rfl _ _ _ _ _ (by show (y 1).val = 10; omega) e3 e2)
  · rw [head_9, read_unread_whole]
    exact (turned_apply _ x).trans (piece_ld ff v l hl xs 9 1152 9 rfl rfl _ _ _ _ _ (by show (y 1).val = 9; omega) e3 e2)
  · rw [head_8, read_unread_whole]
    exact (turned_apply _ x).trans (piece_ld ff v l hl xs 8 1024 8 rfl rfl _ _ _ _ _ (by show (y 1).val = 8; omega) e3 e2)
  · rw [head_7, read_unread_whole]
    exact (turned_apply _ x).trans (piece_ld ff v l hl xs 7 896 7 rfl rfl _ _ _ _ _ (by show (y 1).val = 7; omega) e3 e2)
  · rw [head_6, read_unread_whole]
    exact (turned_apply _ x).trans (piece_ld ff v l hl xs 6 768 6 rfl rfl _ _ _ _ _ (by show (y 1).val = 6; omega) e3 e2)
  · rw [head_5, read_unread_whole]
    exact (turned_apply _ x).trans (piece_ld ff v l hl xs 5 640 5 rfl rfl _ _ _ _ _ (by show (y 1).val = 5; omega) e3 e2)
  · rw [head_4, read_unread_whole]
    exact (turned_apply _ x).trans (piece_ld ff v l hl xs 4 512 4 rfl rfl _ _ _ _ _ (by show (y 1).val = 4; omega) e3 e2)
  · rw [head_3, read_unread_whole]
    exact (turned_apply _ x).trans (piece_ld ff v l hl xs 3 384 3 rfl rfl _ _ _ _ _ (by show (y 1).val = 3; omega) e3 e2)
  · rw [head_2, read_unread_whole]
    exact (turned_apply _ x).trans (piece_ld ff v l hl xs 2 256 2 rfl rfl _ _ _ _ _ (by show (y 1).val = 2; omega) e3 e2)
  · rw [head_1, read_unread_whole]
    exact (turned_apply _ x).trans (piece_ld ff v l hl xs 1 128 1 rfl rfl _ _ _ _ _ (by show (y 1).val = 1; omega) e3 e2)
  · rw [head_0, read_unread_whole]
    exact (turned_apply _ x).trans (piece_ld ff v l hl xs 0 0 0 rfl rfl _ _ _ _ _ (by show (y 1).val = 0; omega) e3 e2)

end Cert.HgrnPIdeal.Hand
-- ==== Proof.HgrnPState.lean ====
module

public import proofs.«01_k».proof.Proof.HgrnPPieces
public import proofs.«01_k».proof.Proof.HgrnChunks

@[expose] public section

noncomputable section

/-! The recurrent kernel's state array for the prompt batch: chunk after chunk the scratch holds the reference's state, and
    the last chunk of a batch writes it out. -/

namespace Cert.HgrnPIdeal.Hand

open Cert.HgrnPIdeal Cert.HgrnPIdeal.Gen
open Idealize.ShloMosaic Idealize.ShloMosaic.TcCoe Idealize.SL.Sem

theorem idx_1 : ∀ t : Fin cfg0.N, win0_1.index t = ![t.val / 32, t.val % 32, 1] :=
  (by decide +kernel : ∀ t : Fin grid0.N, win0_1.index t = ![t.val / 32, t.val % 32, 1])
theorem idx_2 : ∀ t : Fin cfg0.N, win0_2.index t = ![t.val / 32, t.val % 32, 2] :=
  (by decide +kernel : ∀ t : Fin grid0.N, win0_2.index t = ![t.val / 32, t.val % 32, 2])
theorem idx_4 : ∀ t : Fin cfg0.N, win0_4.index t = ![0, 0] :=
  (by decide +kernel : ∀ t : Fin grid0.N, win0_4.index t = ![0, 0])
theorem idx_7 : ∀ t : Fin cfg0.N, win0_7.index t = ![t.val / 32, 0, 0, 0] :=
  (by decide +kernel : ∀ t : Fin grid0.N, win0_7.index t = ![t.val / 32, 0, 0, 0])

theorem lt_points (t : Fin cfg0.N) : t.val < 128 := lt_of_lt_of_eq t.isLt (show cfg0.N = 128 from N_0)

/-- The batch of a grid point. -/
def batch (n : ℕ) : Fin 4 := ⟨n / 32 % 4, Nat.mod_lt _ (by omega)⟩

theorem batch_val (t : Fin cfg0.N) : (batch t.val).val = t.val / 32 :=
  Nat.mod_eq_of_lt (by have := lt_points t; omega)

variable (m : (ℓ : Loc nD τ sig) → Buf (Elt Ideal) ℓ)

theorem read_1 (c : Dev nD) (t : Fin cfg0.N) (r : Fin 64) (l : Fin 1536) :
    X0_1 m c t (ix3 0 r l)
      = m ((c : Thread nD τ).loc main_arg0) (ix3 (batch t.val) (Hgrn.row (t.val % 32) r) ⟨1536 + l.val, by omega⟩) := by
  unfold X0_1 Pipeline.Window.fill
  rw [dif_pos (moved0_1 t _)]
  have e := idx_1 t
  have eb := batch_val t
  have er := Hgrn.row_val (Nat.mod_lt t.val (by omega : 32 > 0)) r
  blk_simp [iblk]
  rw [V_main_arg0]
  refine congrArg _ ?_
  blk_ext [e, eb, er]

theorem read_2 (c : Dev nD) (t : Fin cfg0.N) (r : Fin 64) (l : Fin 1536) :
    X0_2 m c t (ix3 0 r l)
      = m ((c : Thread nD τ).loc main_arg0) (ix3 (batch t.val) (Hgrn.row (t.val % 32) r) ⟨3072 + l.val, by omega⟩) := by
  unfold X0_2 Pipeline.Window.fill
  rw [dif_pos (moved0_2 t _)]
  have e := idx_2 t
  have eb := batch_val t
  have er := Hgrn.row_val (Nat.mod_lt t.val (by omega : 32 > 0)) r
  blk_simp [iblk]
  rw [V_main_arg0]
  refine congrArg _ ?_
  blk_ext [e, eb, er]

theorem read_4 (c : Dev nD) (t : Fin cfg0.N) (r : Fin 2) (l : Fin 1536) :
    iblk m c 4 t (ix2 r l) = m ((c : Thread nD τ).loc main_arg1) (ix2 r l) := by
  have e := idx_4 t
  blk_simp [iblk]
  rw [V_main_arg1]
  refine congrArg _ ?_
  blk_ext [e]

/-- The parameters' block of every point is the whole array. -/
theorem block_4 (c : Dev nD) (t : Fin cfg0.N) :
    (iblk m c 4 t : Vec Ideal S2x1536 .f32) = (m ((c : Thread nD τ).loc main_arg1) : Vec Ideal S2x1536 .f32) :=
  funext fun i => (congrArg _ (eq_ix2 i)).trans ((read_4 m c t (i 0) (i 1)).trans (congrArg _ (eq_ix2 i).symm))

/-- The reference's state at a place of the scratch after `n` chunks of batch `b`. -/
def held (c : Dev nD) (b : Fin 4) (n : ℕ) (y : S12x128x128.Idx) : EReal :=
  Hgrn.chained (m ((c : Thread nD τ).loc main_arg0)) (m ((c : Thread nD τ).loc main_arg1)) b (y 0) (y 2) (y 1) n

/-- A point takes an entry of the state one chunk on. -/
theorem entry_point (c : Dev nD) (t : Fin cfg0.N) (w : EReal) (h : Fin 12) (e d : Fin 128)
    (hw : w = Hgrn.chained (m ((c : Thread nD τ).loc main_arg0)) (m ((c : Thread nD τ).loc main_arg1)) (batch t.val) h d e (t.val % 32)) :
    entryOf (X0_1 m c t) (X0_2 m c t) (iblk m c 4 t) w h e d
      = Hgrn.chained (m ((c : Thread nD τ).loc main_arg0)) (m ((c : Thread nD τ).loc main_arg1)) (batch t.val) h d e (t.val % 32 + 1) := by
  have e1 : (fun r : Fin 64 => X0_1 m c t (ix3 0 r ⟨128 * h.val + d.val, by omega⟩))
      = fun r => m ((c : Thread nD τ).loc main_arg0) (ix3 (batch t.val) (Hgrn.row (t.val % 32) r) ⟨1536 + (128 * h.val + d.val), by omega⟩) :=
    funext fun r => read_1 m c t r _
  have e2 : (fun r : Fin 64 => X0_2 m c t (ix3 0 r ⟨128 * h.val + e.val, by omega⟩))
      = fun r => m ((c : Thread nD τ).loc main_arg0) (ix3 (batch t.val) (Hgrn.row (t.val % 32) r) ⟨3072 + (128 * h.val + e.val), by omega⟩) :=
    funext fun r => read_2 m c t r _
  have e4 : (fun r : Fin 2 => iblk m c 4 t (ix2 r ⟨128 * h.val + d.val, by omega⟩))
      = fun r => m ((c : Thread nD τ).loc main_arg1) (ix2 r ⟨128 * h.val + d.val, by omega⟩) :=
    funext fun r => read_4 m c t r _
  rw [Hgrn.chained_succ, hw, ← e1, ← e2, ← e4]
  rfl

/-- A point takes the scratch one chunk on. -/
theorem after_apply (c : Dev nD) (t : Fin cfg0.N) (xs : Vec Ideal S12x128x128 .f32) (y : S12x128x128.Idx)
    (h : xs y = held m c (batch t.val) (t.val % 32) y) :
    after (X0_1 m c t) (X0_2 m c t) (iblk m c 4 t) xs y = held m c (batch t.val) (t.val % 32 + 1) y :=
  entry_point m c t _ (y 0) (y 1) (y 2) h

variable (c : Dev nD) (hl : Numbers (m ((c : Thread nD τ).loc main_arg1)))
include hl

theorem numbers_4 (t : Fin cfg0.N) : Numbers (iblk m c 4 t) := by
  rw [block_4 m c t]
  exact hl

/-- The scratch the first point of a batch leaves, -/
theorem left_A (t : Fin cfg0.N) (h0 : t.val % 32 = 0) (h1 : ¬t.val % 32 = 31) (y : S12x128x128.Idx) :
    (outsAt0 m c t.val t.isLt).2.2 y = after (X0_1 m c t) (X0_2 m c t) (iblk m c 4 t) (fun _ => 0) y := by
  rw [← scratch_A c t h0 h1 (X0_0 m c t) (X0_1 m c t) (X0_2 m c t) (X0_3 m c t) (iblk m c 4 t) (iblk m c 5 t) (numbers_4 m c hl t) y, outsAt0_A m c t h0 h1]

/-- a point between, -/
theorem left_B (t : Fin cfg0.N) (h0 : ¬t.val % 32 = 0) (h1 : ¬t.val % 32 = 31) (y : S12x128x128.Idx) :
    (outsAt0 m c t.val t.isLt).2.2 y = after (X0_1 m c t) (X0_2 m c t) (iblk m c 4 t)
      (outsAt0 m c (t.val - 1) (Nat.lt_of_le_of_lt (Nat.sub_le _ _) t.isLt)).2.2 y := by
  rw [← scratch_B c t h0 h1 (X0_0 m c t) (X0_1 m c t) (X0_2 m c t) (X0_3 m c t) (iblk m c 4 t) (iblk m c 5 t)
    (outsAt0 m c (t.val - 1) (Nat.lt_of_le_of_lt (Nat.sub_le _ _) t.isLt)).2.2 (numbers_4 m c hl t) y, outsAt0_B m c t h0 h1]

/-- and the last, -/
theorem left_C (t : Fin cfg0.N) (h0 : ¬t.val % 32 = 0) (h1 : t.val % 32 = 31) (y : S12x128x128.Idx) :
    (outsAt0 m c t.val t.isLt).2.2 y = after (X0_1 m c t) (X0_2 m c t) (iblk m c 4 t)
      (outsAt0 m c (t.val - 1) (Nat.lt_of_le_of_lt (Nat.sub_le _ _) t.isLt)).2.2 y := by
  rw [← scratch_C c t h0 h1 (X0_0 m c t) (X0_1 m c t) (X0_2 m c t) (X0_3 m c t) (iblk m c 4 t) (iblk m c 5 t)
    (outsAt0 m c (t.val - 1) (Nat.lt_of_le_of_lt (Nat.sub_le _ _) t.isLt)).2.2 (numbers_4 m c hl t) y, outsAt0_C m c t h0 h1]

/-- and what the last writes out. -/
theorem left_out (t : Fin cfg0.N) (h0 : ¬t.val % 32 = 0) (h1 : t.val % 32 = 31) (y : S1x12x128x128.Idx) :
    (outsAt0 m c t.val t.isLt).2.1 y = after (X0_1 m c t) (X0_2 m c t) (iblk m c 4 t)
      (outsAt0 m c (t.val - 1) (Nat.lt_of_le_of_lt (Nat.sub_le _ _) t.isLt)).2.2 (ix3 (y 1) (y 3) (y 2)) := by
  rw [← written c t h0 h1 (X0_0 m c t) (X0_1 m c t) (X0_2 m c t) (X0_3 m c t) (iblk m c 4 t) (iblk m c 5 t)
    (outsAt0 m c (t.val - 1) (Nat.lt_of_le_of_lt (Nat.sub_le _ _) t.isLt)).2.2 (numbers_4 m c hl t) y, outsAt0_C m c t h0 h1]

/-- Every point leaves the state a chunk on: the first from nought, -/
theorem point_A (t : Fin cfg0.N) (h0 : t.val % 32 = 0) (y : S12x128x128.Idx) :
    (outsAt0 m c t.val t.isLt).2.2 y = held m c (batch t.val) (t.val % 32 + 1) y := by
  rw [left_A m c hl t h0 (by omega) y]
  refine after_apply m c t (fun _ => 0) y ?_
  rw [h0]
  rfl

/-- the others from what the point before left. -/
theorem point_BC (t : Fin cfg0.N) (h0 : ¬t.val % 32 = 0) (y : S12x128x128.Idx)
    (hp : (outsAt0 m c (t.val - 1) (Nat.lt_of_le_of_lt (Nat.sub_le _ _) t.isLt)).2.2 y = held m c (batch t.val) (t.val % 32) y) :
    (outsAt0 m c t.val t.isLt).2.2 y = held m c (batch t.val) (t.val % 32 + 1) y := by
  by_cases h1 : t.val % 32 = 31
  · rw [left_C m c hl t h0 h1 y]
    exact after_apply m c t _ y hp
  · rw [left_B m c hl t h0 h1 y]
    exact after_apply m c t _ y hp

omit hl in
/-- A point that is not the first of its batch goes on from the point before. -/
theorem held_pred (n : ℕ) (h0 : ¬n % 32 = 0) (y : S12x128x128.Idx) :
    held m c (batch (n - 1)) ((n - 1) % 32 + 1) y = held m c (batch n) (n % 32) y := by
  rw [show batch (n - 1) = batch n from Fin.ext (by unfold batch; dsimp only; omega), show (n - 1) % 32 + 1 = n % 32 by omega]

/-- The scratch every point leaves. -/
theorem scratch_apply (n : ℕ) : ∀ (hn : n < cfg0.N) (y : S12x128x128.Idx),
    (outsAt0 m c n hn).2.2 y = held m c (batch n) (n % 32 + 1) y := by
  induction n with
  | zero => exact fun hn y => point_A m c hl ⟨0, hn⟩ (Nat.zero_mod _) y
  | succ n ih =>
    intro hn y
    by_cases h0 : (n + 1) % 32 = 0
    · exact point_A m c hl ⟨n + 1, hn⟩ h0 y
    · have hp := (ih (Nat.lt_of_succ_lt hn) y).trans (held_pred m c (n + 1) h0 y)
      exact point_BC m c hl ⟨n + 1, hn⟩ h0 y hp

/-- What the last chunk of a batch writes out. -/
theorem written_apply (t : Fin cfg0.N) (h1 : t.val % 32 = 31) (y : S1x12x128x128.Idx) :
    (outsAt0 m c t.val t.isLt).2.1 y = held m c (batch t.val) 32 (ix3 (y 1) (y 3) (y 2)) := by
  have h0 : ¬t.val % 32 = 0 := by omega
  rw [left_out m c hl t h0 h1 y]
  refine (after_apply m c t _ _ ?_).trans (by rw [h1])
  exact (scratch_apply m c hl _ _ _).trans (held_pred m c t.val h0 _)

omit hl in
/-- The state array the reference names. -/
def result (z : Vec Ideal S4x2048x6656 .f32) (l : Vec Ideal S2x1536 .f32) : Vec Ideal S4x12x128x128 .f32 :=
  fun i => Hgrn.chained z l (i 0) (i 1) (i 2) (i 3) 32

/-- The state array holds the reference's state. -/
theorem final_state : (dats m 0 c).arrAt 7 cfg0.N
    = result (m ((c : Thread nD τ).loc main_arg0)) (m ((c : Thread nD τ).loc main_arg1)) := by
  refine (dats m 0 c).arrAt_eq_of_covers 7 _ (by decide +kernel) fun t hf y => ?_
  blk_simp
  rw [after0_7]
  have e := idx_7 t
  have eb := batch_val t
  have y0 : (y 0).val < 1 := (y 0).isLt
  refine (written_apply m c hl t ((flush0_7 t).mp hf) y).trans ?_
  unfold held result
  have q : ∀ (b b' : Fin 4) (h h' : Fin 12) (d d' e e' : Fin 128), b.val = b'.val → h.val = h'.val → d.val = d'.val → e.val = e'.val →
      ∀ z l, Hgrn.chained z l b h d e 32 = Hgrn.chained z l b' h' d' e' 32 := by
    intro b b' h h' d d' e e' hb hh hd he z l
    rw [Fin.ext hb, Fin.ext hh, Fin.ext hd, Fin.ext he]
  refine q _ _ _ _ _ _ _ _ ?_ ?_ ?_ ?_ _ _
  · blk_simp [e, eb]
  · blk_simp [e]
  · blk_simp [e]
  · blk_simp [e]

end Cert.HgrnPIdeal.Hand
-- ==== Proof.HgrnPReference.lean ====
module

public import proofs.«01_k».proof.Proof.HgrnWindow
public import proofs.«01_k».proof.Proof.HgrnChunks
public import proofs.«01_k».proof.Proof.Gen.HgrnPRefIdeal.Step
public import Idealize.ShloMosaic.Lib.DynamicIndex

@[expose] public section

noncomputable section

/-! What one trip of the reference's loop over the chunks computes at an index, and what all of them leave. -/

namespace Cert.HgrnPRefIdeal.Hand

open Cert.HgrnPRefIdeal Cert.HgrnPRefIdeal.Gen Cert.HgrnPRefIdeal.Step
open Idealize.ShloMosaic Idealize.ShloMosaic.TcCoe Idealize.SL.Sem

variable (z : Vec Ideal S4x2048x6656 .f32) (l : Vec Ideal S2x1536 .f32)

theorem greatest_apply (c : Fin 1536) : A_main_v2 (F := Ideal) z l (ix1 c) = Hgrn.greatest (fun r => l (ix2 r c)) := by
  have e : Ideal.ofBits .f32 0xFF800000#32 = ⊥ := by simp [Ideal.ofBits, Ideal.ieee]
  have hf := Hgrn.fold_greatest (fun r => l (ix2 r c))
  pointwise [A_main_v2, A_main_v0, K_main_v1, K_main_cst, K_main_cst_0]
  rw [e, hf]
  exact max_eq_right bot_le

theorem share_apply (r : Fin 2) (c : Fin 1536) :
    A_main_v10 (F := Ideal) z l (ix2 r c) = Hgrn.share (fun r => l (ix2 r c)) r := by
  unfold Hgrn.share
  rw [← greatest_apply z]
  generalize hg : A_main_v2 (F := Ideal) z l = G
  pointwise [A_main_v10, A_main_v9, A_main_v8, A_main_v7, A_main_v6, A_main_v5, A_main_v4, A_main_v3, K_main_cst_1, hg]
  rw [Fin.sum_univ_two]

theorem lower_apply (c : Fin 1536) : A_main_v18 (F := Ideal) z l (ix1 c) = Hgrn.lower (fun r => l (ix2 r c)) := by
  have h : A_main_v11 (F := Ideal) z l (ix2 1 c) = A_main_v10 (F := Ideal) z l (ix2 0 c) + A_main_v10 (F := Ideal) z l (ix2 1 c) := by
    have e : ∀ i, K_main_call0_call0_v0 (F := Ideal) i = 0 := fun i => Ideal.ofBits_zero_f32
    unfold A_main_v11 Host.reduceWindowAdd
    rw [e]
    exact Hgrn.cumsum_rows2 _ _ c
  unfold Hgrn.lower
  rw [← share_apply z, ← share_apply z, ← h]
  generalize hg : A_main_v10 (F := Ideal) z l = G
  generalize hk : A_main_v11 (F := Ideal) z l = K
  pointwise [A_main_v18, A_main_v17, A_main_v16, A_main_v15, A_main_v14, A_main_v13, A_main_v12, hg, hk]

theorem gate_apply (b : Fin 4) (t : Fin 2048) (c : Fin 1536) :
    A_main_v42 (F := Ideal) z l (ix3 b t c)
      = Hgrn.logReference (Hgrn.lower (fun r => l (ix2 r c))) (z (ix3 b t ⟨1536 + c.val, by omega⟩)) := by
  rw [← lower_apply z]
  generalize hg : A_main_v18 (F := Ideal) z l = G
  pointwise [A_main_v42, A_main_v41, A_main_v40, A_main_v39, A_main_v38, A_main_v37, A_main_v36, A_main_v35, A_main_v34, A_main_v33, A_main_v32, A_main_v31, A_main_v30, A_main_v29, A_main_v28, A_main_v27, A_main_v26, A_main_v25, A_main_v24, A_main_v23, A_main_v22, A_main_v21, A_main_v19, A_main_call1_v11, A_main_call1_v10, A_main_call1_v9, A_main_call1_v8, A_main_call1_v7, A_main_call1_v6, A_main_call1_v4, A_main_call1_v3, A_main_call1_v1, K_main_call1_v0, K_main_call1_v2, K_main_call1_v5, K_main_call1_cst, hg]
  unfold Hgrn.logReference Hgrn.logSum Hgrn.logSig
  simp only [ne_eq, not_true_eq_false, if_false, Ideal.absf_def, sub_eq_add_neg, neg_zero, add_zero]

theorem key_apply (b : Fin 4) (t : Fin 2048) (c : Fin 1536) :
    A_main_v54 (F := Ideal) z l (ix3 b t c)
      = (1 - Hgrn.lower (fun r => l (ix2 r c))) * (Hgrn.sig (-z (ix3 b t ⟨1536 + c.val, by omega⟩)) : EReal) := by
  rw [← lower_apply z, ← Hgrn.logistic_eq]
  generalize hg : A_main_v18 (F := Ideal) z l = G
  pointwise [A_main_v54, A_main_v53, A_main_v52, A_main_v51, A_main_v49, A_main_v47, A_main_v46, A_main_v45, A_main_v44, A_main_v19, K_main_v43, K_main_v48, K_main_v50, K_main_cst_2, K_main_cst_3, K_main_cst_4, hg]

/-- The rows cut into chunks and the columns into heads, chunks first. -/
theorem blocks_apply (x : Vec Ideal S4x2048x1536 .f32) {n : ℕ} (hn : n < 32) (b : Fin 4) (t : Fin 64) (h : Fin 12) (d : Fin 128) :
    transpose S32x4x64x12x128 [1, 0, 2, 3, 4] (shapeCast S4x32x64x12x128 x shapeCasts_S4x2048x1536_S4x32x64x12x128)
        transposes_S4x32x64x12x128_S32x4x64x12x128_1_0_2_3_4 (ix5 ⟨n, hn⟩ b t h d)
      = x (ix3 b (Hgrn.row n t) ⟨128 * h.val + d.val, by omega⟩) := by
  have e : Hgrn.row n t = ⟨64 * n + t.val, by omega⟩ := Fin.ext (Hgrn.row_val hn t)
  rw [e]
  pointwise
  exact congrArg₂ (fun u v => x (ix3 b u v)) (Fin.ext (Nat.add_right_cancel_iff.mpr (Nat.mul_comm n 64)))
    (Fin.ext (Nat.add_right_cancel_iff.mpr (Nat.mul_comm h.val 128)))

/-- Chunk `j` of an array of chunks. -/
theorem take_apply (x : Vec Ideal S32x4x64x12x128 .f32) {j : ℕ} (hj : j < 32) (b : Fin 4) (t : Fin 64) (h : Fin 12) (d : Fin 128) :
    shapeCast S4x64x12x128 (Host.dynamicSlice S1x4x64x12x128 x (fun k => ((![(constantI S_ 32 (BitVec.ofNat 32 j) : (⟨S_, .i32⟩ : BufTy).Contents (Elt Ideal)), constantI S_ 32 0#32, constantI S_ 32 0#32, constantI S_ 32 0#32, constantI S_ 32 0#32] : Fin 5 → (⟨S_, .i32⟩ : BufTy).Contents (Elt Ideal)) k (Shape.Idx.first h_S_)).toInt) sliceFits_S32x4x64x12x128_S1x4x64x12x128) shapeCasts_S1x4x64x12x128_S4x64x12x128 (ix4 b t h d)
      = x (ix5 ⟨j, hj⟩ b t h d) := by
  have ho : S32x4x64x12x128.Slices ![j, 0, 0, 0, 0] S1x4x64x12x128 := ⟨rfl, fun a => by
    match a with
    | ⟨0, _⟩ => exact hj
    | ⟨1, _⟩ => exact le_refl 4
    | ⟨2, _⟩ => exact le_refl 64
    | ⟨3, _⟩ => exact le_refl 12
    | ⟨4, _⟩ => exact le_refl 128⟩
  rw [Host.dynamicSlice_eq_extractStridedSlice S1x4x64x12x128 x _ ![j, 0, 0, 0, 0] _ ho (fun a => by
    match a with
    | ⟨0, _⟩ => exact toInt_ofNat_of_lt (by omega)
    | ⟨1, _⟩ => rfl
    | ⟨2, _⟩ => rfl
    | ⟨3, _⟩ => rfl
    | ⟨4, _⟩ => rfl)]
  pointwise

/-- One trip, at an index. -/
theorem trip_apply {j : ℕ} (hj : j < 32) (s : State Ideal) (h0 : s.main_v62_0 = A_main_v57 z l) (h1 : s.main_v62_1 = A_main_v59 z l)
    (h2 : s.main_v62_2 = A_main_v61 z l) (b : Fin 4) (h : Fin 12) (d e : Fin 128) :
    b33 j s (ix4 b h d e)
      = Hgrn.state (s.main_v62_4 (ix4 b h d e)) (fun r : Fin 2 => l (ix2 r ⟨128 * h.val + d.val, by omega⟩))
          (fun t : Fin 64 => z (ix3 b (Hgrn.row j t) ⟨1536 + (128 * h.val + d.val), by omega⟩))
          (fun t => z (ix3 b (Hgrn.row j t) ⟨3072 + (128 * h.val + e.val), by omega⟩)) := by
  have hk : ∀ t : Fin 64, b5 j s (ix4 b t h d) = A_main_v54 (F := Ideal) z l (ix3 b (Hgrn.row j t) ⟨128 * h.val + d.val, by omega⟩) := fun t => by
    unfold b5 b4
    rw [h0]
    exact (take_apply _ hj b t h d).trans (blocks_apply _ hj b t h d)
  have hv : ∀ t : Fin 64, b11 j s (ix4 b t h e) = z (ix3 b (Hgrn.row j t) ⟨3072 + (128 * h.val + e.val), by omega⟩) := fun t => by
    unfold b11 b10
    rw [h1]
    refine ((take_apply _ hj b t h e).trans (blocks_apply _ hj b t h e)).trans ?_
    pointwise [A_main_v20]
  have hg : ∀ t : Fin 64, b17 j s (ix4 b t h d) = Hgrn.logReference (Hgrn.lower (fun r => l (ix2 r ⟨128 * h.val + d.val, by omega⟩)))
      (z (ix3 b (Hgrn.row j t) ⟨1536 + (128 * h.val + d.val), by omega⟩)) := fun t => by
    unfold b17 b16
    rw [h2]
    exact ((take_apply _ hj b t h d).trans (blocks_apply _ hj b t h d)).trans (gate_apply z l b _ ⟨128 * h.val + d.val, by omega⟩)
  have hs : ∀ t : Fin 64, b20 j s (ix4 b t h d) = Hgrn.upto (fun t' : Fin 64 => Hgrn.logReference (Hgrn.lower (fun r => l (ix2 r ⟨128 * h.val + d.val, by omega⟩)))
      (z (ix3 b (Hgrn.row j t') ⟨1536 + (128 * h.val + d.val), by omega⟩))) t.val := fun t => by
    have e : ∀ i, b19 j s i = 0 := fun i => Ideal.ofBits_zero_f32
    unfold b20 Host.reduceWindowAdd
    rw [e]
    refine (Hgrn.cumsum_rows4 (T := 64) _ _ b t h d).trans ?_
    congr 1
    exact funext hg
  unfold Hgrn.state Hgrn.entry
  generalize hw : b20 j s = W
  generalize hK : b5 j s = K
  generalize hV : b11 j s = V
  rw [hK] at hk
  rw [hV] at hv
  rw [hw] at hs
  pointwise [b33, b32, b31, b30, b29, b28, b27, b26, b25, b24, b23, b22, b21, hw, hK, hV]
  rw [hs 63]
  refine congrArg₂ (· + ·) rfl (Finset.sum_congr rfl fun t _ => ?_)
  rw [hs t, hk t, hv t, key_apply z l b _ ⟨128 * h.val + d.val, by omega⟩]
  rfl

/-- What the trips leave: the chunks' recurrence. -/
theorem trips_apply (it : ℕ → State Ideal) (hi : it 0 = init z l) (hs : ∀ n, it (n + 1) = step n (it n)) {n : ℕ} (hn : n ≤ 32) :
    (∀ (b : Fin 4) (h : Fin 12) (d e : Fin 128), (it n).main_v62_4 (ix4 b h d e) = Hgrn.chained z l b h d e n)
      ∧ (it n).main_v62_0 = A_main_v57 z l ∧ (it n).main_v62_1 = A_main_v59 z l ∧ (it n).main_v62_2 = A_main_v61 z l := by
  induction n with
  | zero =>
    rw [hi]
    exact ⟨fun b h d e => Ideal.ofBits_zero_f32, rfl, rfl, rfl⟩
  | succ n ih =>
    obtain ⟨h4, h0, h1, h2⟩ := ih (by omega)
    rw [hs n]
    refine ⟨fun b h d e => ?_, h0, h1, h2⟩
    rw [step_main_v62_4, trip_apply z l (by omega) _ h0 h1 h2, h4, Hgrn.chained_succ]

end Cert.HgrnPRefIdeal.Hand
-- ==== Proof.HgrnPClaim.lean ====
module

public import proofs.«01_k».proof.Defs
public import proofs.«01_k».proof.Proof.HgrnPState
public import proofs.«01_k».proof.Proof.HgrnPReference
public import proofs.«01_k».proof.Proof.Gen.HgrnPRefIdeal.StepRun
public import proofs.«01_k».proof.Proof.HgrnSClaim
public import proofs.«01_k».proof.Proof.Gen.Pre_finite_lower_p

@[expose] public section

/-! The recurrence's kernel and its reference end with the same state for the prompt batch, over finite lower-bound
    parameters. -/

namespace Cert.HgrnPClaim

open Idealize.ShloMosaic Idealize.ShloMosaic.TcCoe Idealize.SL.Sem

instance : Subsingleton Cert.Pre_finite_lower_p.S_.Idx := ⟨fun _ _ => funext fun a => a.elim0⟩

/-- The precondition says that every lower-bound parameter is a number. -/
theorem numbers_of_pre (x0 : Vec Ideal Cert.HgrnPRefIdeal.S4x2048x6656 .f32) (x1 : Vec Ideal Cert.HgrnPRefIdeal.S2x1536 .f32)
    (x2 : Vec Ideal Cert.HgrnPRefIdeal.S1536 .f32)
    (h : Cert.Pre_finite_lower_p.fn (F := Ideal) x0 x1 x2 = fun _ => 1#1) : ∀ i, ∃ y : ℝ, x1 i = y := by
  have e := congrFun h (Shape.Idx.first Cert.Pre_finite_lower_p.Facts.h_S_)
  unfold Cert.Pre_finite_lower_p.fn at e
  exact fun i => Cert.HgrnSClaim.number_of_lt _ (Host.reduce_andi_all _ _ _ _ _ e i)

open Cert.HgrnPRefIdeal Cert.HgrnPRefIdeal.Step in
/-- The reference's trips one after another. -/
noncomputable def trips (z : Vec Ideal S4x2048x6656 .f32) (l : Vec Ideal S2x1536 .f32) : ℕ → State Ideal
  | 0 => init z l
  | n + 1 => step n (trips z l n)

theorem reference_eq (z : Vec Ideal Cert.HgrnPRefIdeal.S4x2048x6656 .f32) (l : Vec Ideal Cert.HgrnPRefIdeal.S2x1536 .f32) :
    (trips z l 32).main_v62_4 = Cert.HgrnPIdeal.Hand.result z l :=
  funext fun i => (congrArg _ (eq_ix4 i)).trans
    ((Cert.HgrnPRefIdeal.Hand.trips_apply z l (trips z l) rfl (fun _ => rfl) le_rfl).1 (i 0) (i 1) (i 2) (i 3))

theorem algebraic : Cert.algebraic_HgrnPIdeal_HgrnPRefIdeal_pre_finite_lower_p := by
  intro m g m' g' hp h
  have hf := fun c => numbers_of_pre _ _ _ (hp c)
  refine ⟨fun c => Cert.HgrnPIdeal.Hand.result (m ((c.tc : Thread Cert.HgrnPIdeal.nD Cert.HgrnPIdeal.τ).loc Cert.HgrnPIdeal.main_arg0))
    (m ((c.tc : Thread Cert.HgrnPIdeal.nD Cert.HgrnPIdeal.τ).loc Cert.HgrnPIdeal.main_arg1)), ?_, ?_⟩
  · refine (θ_run _ _ _).mono (fun r hr c =>
      ⟨(hr c).2.1.trans (Cert.HgrnPIdeal.Hand.final_state m c (hf c)), (hr c).2.2⟩) (Cert.HgrnPIdeal.Value.run_blocks m g)
  · refine (θ_run _ _ _).mono (fun r hr c => ⟨(hr c).1.trans ?_, (hr c).2⟩)
      (Cert.HgrnPRefIdeal.StepRun.run_iter m' g'
        (fun c => trips (m' ((c.tc : Thread Cert.HgrnPRefIdeal.nD Cert.HgrnPRefIdeal.τ).loc Cert.HgrnPRefIdeal.main_arg0))
          (m' ((c.tc : Thread Cert.HgrnPRefIdeal.nD Cert.HgrnPRefIdeal.τ).loc Cert.HgrnPRefIdeal.main_arg1)))
        (fun _ => rfl) (fun _ _ => rfl))
    refine (reference_eq _ _).trans ?_
    rw [(h c).1, (h c).2.1]

end Cert.HgrnPClaim
-- ==== Proof.PeerPieces.lean ====
module

public import proofs.«01_k».proof.Proof.Gen.PeerIdeal.Skeleton
public import Idealize.ShloMosaic.Lib.Pointwise

@[expose] public section

noncomputable section

/-! The sixteen pieces of an expert block's coefficients, read at an index: the gate of the eight heads times the activation. -/

namespace Cert.PeerIdeal.Hand

open Cert.PeerIdeal Cert.PeerIdeal.Gen
open Idealize.ShloMosaic Idealize.ShloMosaic.TcCoe Idealize.SL.Sem

/-- What a head adds to an expert's gate: the product of its two gates where the rank lies below the count. -/
def weight (r e c d : EReal) : EReal := (if r < c then e else 0) * d

/-- The activation, with the constants the kernel names by their words. -/
def act (a : EReal) : EReal :=
  Ideal.ofBits .f32 0x3F000000#32 * a * (Ideal.ofBits .f32 0x3F800000#32 + Ideal.erf (a * Ideal.ofBits .f32 0x3F3504F3#32))

theorem piece_0 (r0 e0 r1 e1 r2 e2 r3 e3 r4 e4 r5 e5 r6 e6 r7 e7 : Vec Ideal S1x128x256 .bf16) (c0 d0 c1 d1 c2 d2 c3 d3 c4 d4 c5 d5 c6 d6 c7 d7 : Vec Ideal S1x1x256 .f32)
    (a : Vec Ideal S1x128x256 .f32) (x : S1x128x256.Idx) :
    (k0_pay26 (k0_pay23 (k0_pay20 (k0_pay16 (k0_pay12 (k0_pay8 (F := Ideal)) (k0_pay9 d0) (k0_pay10 (F := Ideal)) (k0_pay11 c0 r0) e0 c1 d1 r1 e1) (k0_pay13 c2) (k0_pay14 d2) (k0_pay15 (F := Ideal)) r2 e2 c3 d3 r3 e3) (k0_pay17 c4) (k0_pay18 d4) (k0_pay19 (F := Ideal)) r4 e4 c5 d5 r5 e5) (k0_pay21 c6) (k0_pay22 d6) r6 e6 c7 d7 r7 e7) (k0_pay24 a) (k0_pay25 a) (Scalar.ofBits .f32 0x3F3504F3#32)) x
      = (((((((weight (r0 x) (e0 x) (c0 (ix3 0 0 (x 2))) (d0 (ix3 0 0 (x 2))) + weight (r1 x) (e1 x) (c1 (ix3 0 0 (x 2))) (d1 (ix3 0 0 (x 2)))) + weight (r2 x) (e2 x) (c2 (ix3 0 0 (x 2))) (d2 (ix3 0 0 (x 2)))) + weight (r3 x) (e3 x) (c3 (ix3 0 0 (x 2))) (d3 (ix3 0 0 (x 2)))) + weight (r4 x) (e4 x) (c4 (ix3 0 0 (x 2))) (d4 (ix3 0 0 (x 2)))) + weight (r5 x) (e5 x) (c5 (ix3 0 0 (x 2))) (d5 (ix3 0 0 (x 2)))) + weight (r6 x) (e6 x) (c6 (ix3 0 0 (x 2))) (d6 (ix3 0 0 (x 2)))) + weight (r7 x) (e7 x) (c7 (ix3 0 0 (x 2))) (d7 (ix3 0 0 (x 2)))) * act (a x) := by
  pointwise [k0_pay26, k0_pay23, k0_pay20, k0_pay16, k0_pay12, k0_pay8, k0_pay9, k0_pay10, k0_pay11, k0_pay13, k0_pay14, k0_pay15, k0_pay17, k0_pay18, k0_pay19, k0_pay21, k0_pay22, k0_pay24, k0_pay25, weight, act]
  rfl

theorem piece_1 (r0 e0 r1 e1 r2 e2 r3 e3 r4 e4 r5 e5 r6 e6 r7 e7 : Vec Ideal S1x128x256 .bf16) (c0 d0 c1 d1 c2 d2 c3 d3 c4 d4 c5 d5 c6 d6 c7 d7 : Vec Ideal S1x1x256 .f32)
    (a : Vec Ideal S1x128x256 .f32) (x : S1x128x256.Idx) :
    (k0_pay35 (k0_pay32 ((k0_pay31 (k0_pay29 (k0_pay27 c0 d0 r0 e0) (k0_pay28 c1) d1 r1 e1 c2 d2 r2 e2) (k0_pay30 c3) d3 r3 e3 c4 d4 r4 e4)) c5 d5 r5 e5) (k0_pay33 d6) (k0_pay34 c6 r6 e6) c7 d7 r7 e7 a) x
      = (((((((weight (r0 x) (e0 x) (c0 (ix3 0 0 (x 2))) (d0 (ix3 0 0 (x 2))) + weight (r1 x) (e1 x) (c1 (ix3 0 0 (x 2))) (d1 (ix3 0 0 (x 2)))) + weight (r2 x) (e2 x) (c2 (ix3 0 0 (x 2))) (d2 (ix3 0 0 (x 2)))) + weight (r3 x) (e3 x) (c3 (ix3 0 0 (x 2))) (d3 (ix3 0 0 (x 2)))) + weight (r4 x) (e4 x) (c4 (ix3 0 0 (x 2))) (d4 (ix3 0 0 (x 2)))) + weight (r5 x) (e5 x) (c5 (ix3 0 0 (x 2))) (d5 (ix3 0 0 (x 2)))) + weight (r6 x) (e6 x) (c6 (ix3 0 0 (x 2))) (d6 (ix3 0 0 (x 2)))) + weight (r7 x) (e7 x) (c7 (ix3 0 0 (x 2))) (d7 (ix3 0 0 (x 2)))) * act (a x) := by
  pointwise [k0_pay35, k0_pay32, k0_pay31, k0_pay29, k0_pay27, k0_pay28, k0_pay30, k0_pay33, k0_pay34, weight, act]
  rfl

theorem piece_2 (r0 e0 r1 e1 r2 e2 r3 e3 r4 e4 r5 e5 r6 e6 r7 e7 : Vec Ideal S1x128x256 .bf16) (c0 d0 c1 d1 c2 d2 c3 d3 c4 d4 c5 d5 c6 d6 c7 d7 : Vec Ideal S1x1x256 .f32)
    (a : Vec Ideal S1x128x256 .f32) (x : S1x128x256.Idx) :
    (k0_pay51 (k0_pay48 (k0_pay44 (k0_pay40 (k0_pay36 c0 d0 r0 e0) (k0_pay37 d1) (k0_pay38 (F := Ideal)) (k0_pay39 c1 r1) e1 c2 d2 r2 e2) (k0_pay41 c3) (k0_pay42 d3) (k0_pay43 (F := Ideal)) r3 e3 c4 d4 r4 e4) (k0_pay45 c5) (k0_pay46 d5) (k0_pay47 (F := Ideal)) r5 e5 c6 d6 r6 e6) (k0_pay49 c7) (k0_pay50 d7) r7 e7 a) x
      = (((((((weight (r0 x) (e0 x) (c0 (ix3 0 0 (x 2))) (d0 (ix3 0 0 (x 2))) + weight (r1 x) (e1 x) (c1 (ix3 0 0 (x 2))) (d1 (ix3 0 0 (x 2)))) + weight (r2 x) (e2 x) (c2 (ix3 0 0 (x 2))) (d2 (ix3 0 0 (x 2)))) + weight (r3 x) (e3 x) (c3 (ix3 0 0 (x 2))) (d3 (ix3 0 0 (x 2)))) + weight (r4 x) (e4 x) (c4 (ix3 0 0 (x 2))) (d4 (ix3 0 0 (x 2)))) + weight (r5 x) (e5 x) (c5 (ix3 0 0 (x 2))) (d5 (ix3 0 0 (x 2)))) + weight (r6 x) (e6 x) (c6 (ix3 0 0 (x 2))) (d6 (ix3 0 0 (x 2)))) + weight (r7 x) (e7 x) (c7 (ix3 0 0 (x 2))) (d7 (ix3 0 0 (x 2)))) * act (a x) := by
  pointwise [k0_pay51, k0_pay48, k0_pay44, k0_pay40, k0_pay36, k0_pay37, k0_pay38, k0_pay39, k0_pay41, k0_pay42, k0_pay43, k0_pay45, k0_pay46, k0_pay47, k0_pay49, k0_pay50, weight, act]
  rfl

theorem piece_3 (r0 e0 r1 e1 r2 e2 r3 e3 r4 e4 r5 e5 r6 e6 r7 e7 : Vec Ideal S1x128x256 .bf16) (c0 d0 c1 d1 c2 d2 c3 d3 c4 d4 c5 d5 c6 d6 c7 d7 : Vec Ideal S1x1x256 .f32)
    (a : Vec Ideal S1x128x256 .f32) (x : S1x128x256.Idx) :
    (k0_pay63 (k0_pay60 ((k0_pay59 (k0_pay57 (k0_pay55 (k0_pay52 (F := Ideal)) (k0_pay53 c0) (k0_pay54 d0) r0 e0 c1 d1 r1 e1) (k0_pay56 c2) d2 r2 e2 c3 d3 r3 e3) (k0_pay58 c4) d4 r4 e4 c5 d5 r5 e5)) c6 d6 r6 e6) (k0_pay61 d7) (k0_pay62 c7 r7 e7) a) x
      = (((((((weight (r0 x) (e0 x) (c0 (ix3 0 0 (x 2))) (d0 (ix3 0 0 (x 2))) + weight (r1 x) (e1 x) (c1 (ix3 0 0 (x 2))) (d1 (ix3 0 0 (x 2)))) + weight (r2 x) (e2 x) (c2 (ix3 0 0 (x 2))) (d2 (ix3 0 0 (x 2)))) + weight (r3 x) (e3 x) (c3 (ix3 0 0 (x 2))) (d3 (ix3 0 0 (x 2)))) + weight (r4 x) (e4 x) (c4 (ix3 0 0 (x 2))) (d4 (ix3 0 0 (x 2)))) + weight (r5 x) (e5 x) (c5 (ix3 0 0 (x 2))) (d5 (ix3 0 0 (x 2)))) + weight (r6 x) (e6 x) (c6 (ix3 0 0 (x 2))) (d6 (ix3 0 0 (x 2)))) + weight (r7 x) (e7 x) (c7 (ix3 0 0 (x 2))) (d7 (ix3 0 0 (x 2)))) * act (a x) := by
  pointwise [k0_pay63, k0_pay60, k0_pay59, k0_pay57, k0_pay55, k0_pay52, k0_pay53, k0_pay54, k0_pay56, k0_pay58, k0_pay61, k0_pay62, weight, act]
  rfl

theorem piece_4 (r0 e0 r1 e1 r2 e2 r3 e3 r4 e4 r5 e5 r6 e6 r7 e7 : Vec Ideal S1x128x256 .bf16) (c0 d0 c1 d1 c2 d2 c3 d3 c4 d4 c5 d5 c6 d6 c7 d7 : Vec Ideal S1x1x256 .f32)
    (a : Vec Ideal S1x128x256 .f32) (x : S1x128x256.Idx) :
    (k0_pay83 (k0_pay79 (k0_pay75 (k0_pay71 (k0_pay67 (k0_pay64 (F := Ideal)) (k0_pay65 d0) (k0_pay66 c0 r0 e0) c1 d1 r1 e1) (k0_pay68 d2) (k0_pay69 (F := Ideal)) (k0_pay70 c2 r2) e2 c3 d3 r3 e3) (k0_pay72 c4) (k0_pay73 d4) (k0_pay74 (F := Ideal)) r4 e4 c5 d5 r5 e5) (k0_pay76 c6) (k0_pay77 d6) (k0_pay78 (F := Ideal)) r6 e6 c7 d7 r7 e7) (k0_pay81 a) (k0_pay82 a) (Scalar.ofBits .f32 0x3F800000#32)) x
      = (((((((weight (r0 x) (e0 x) (c0 (ix3 0 0 (x 2))) (d0 (ix3 0 0 (x 2))) + weight (r1 x) (e1 x) (c1 (ix3 0 0 (x 2))) (d1 (ix3 0 0 (x 2)))) + weight (r2 x) (e2 x) (c2 (ix3 0 0 (x 2))) (d2 (ix3 0 0 (x 2)))) + weight (r3 x) (e3 x) (c3 (ix3 0 0 (x 2))) (d3 (ix3 0 0 (x 2)))) + weight (r4 x) (e4 x) (c4 (ix3 0 0 (x 2))) (d4 (ix3 0 0 (x 2)))) + weight (r5 x) (e5 x) (c5 (ix3 0 0 (x 2))) (d5 (ix3 0 0 (x 2)))) + weight (r6 x) (e6 x) (c6 (ix3 0 0 (x 2))) (d6 (ix3 0 0 (x 2)))) + weight (r7 x) (e7 x) (c7 (ix3 0 0 (x 2))) (d7 (ix3 0 0 (x 2)))) * act (a x) := by
  pointwise [k0_pay83, k0_pay79, k0_pay75, k0_pay71, k0_pay67, k0_pay64, k0_pay65, k0_pay66, k0_pay68, k0_pay69, k0_pay70, k0_pay72, k0_pay73, k0_pay74, k0_pay76, k0_pay77, k0_pay78, k0_pay81, k0_pay82, k0_pay80, weight, act]
  rfl

theorem piece_5 (r0 e0 r1 e1 r2 e2 r3 e3 r4 e4 r5 e5 r6 e6 r7 e7 : Vec Ideal S1x128x256 .bf16) (c0 d0 c1 d1 c2 d2 c3 d3 c4 d4 c5 d5 c6 d6 c7 d7 : Vec Ideal S1x1x256 .f32)
    (a : Vec Ideal S1x128x256 .f32) (x : S1x128x256.Idx) :
    (k0_pay92 ((k0_pay91 (k0_pay89 (k0_pay87 (k0_pay84 c0 d0 r0 e0) (k0_pay85 c1) (k0_pay86 d1) r1 e1 c2 d2 r2 e2) (k0_pay88 c3) d3 r3 e3 c4 d4 r4 e4) (k0_pay90 c5) d5 r5 e5 c6 d6 r6 e6)) c7 d7 r7 e7 a) x
      = (((((((weight (r0 x) (e0 x) (c0 (ix3 0 0 (x 2))) (d0 (ix3 0 0 (x 2))) + weight (r1 x) (e1 x) (c1 (ix3 0 0 (x 2))) (d1 (ix3 0 0 (x 2)))) + weight (r2 x) (e2 x) (c2 (ix3 0 0 (x 2))) (d2 (ix3 0 0 (x 2)))) + weight (r3 x) (e3 x) (c3 (ix3 0 0 (x 2))) (d3 (ix3 0 0 (x 2)))) + weight (r4 x) (e4 x) (c4 (ix3 0 0 (x 2))) (d4 (ix3 0 0 (x 2)))) + weight (r5 x) (e5 x) (c5 (ix3 0 0 (x 2))) (d5 (ix3 0 0 (x 2)))) + weight (r6 x) (e6 x) (c6 (ix3 0 0 (x 2))) (d6 (ix3 0 0 (x 2)))) + weight (r7 x) (e7 x) (c7 (ix3 0 0 (x 2))) (d7 (ix3 0 0 (x 2)))) * act (a x) := by
  pointwise [k0_pay92, k0_pay91, k0_pay89, k0_pay87, k0_pay84, k0_pay85, k0_pay86, k0_pay88, k0_pay90, weight, act]
  rfl

theorem piece_6 (r0 e0 r1 e1 r2 e2 r3 e3 r4 e4 r5 e5 r6 e6 r7 e7 : Vec Ideal S1x128x256 .bf16) (c0 d0 c1 d1 c2 d2 c3 d3 c4 d4 c5 d5 c6 d6 c7 d7 : Vec Ideal S1x1x256 .f32)
    (a : Vec Ideal S1x128x256 .f32) (x : S1x128x256.Idx) :
    (k0_pay109 (k0_pay105 (k0_pay101 (k0_pay97 (k0_pay94 ((k0_pay93 (F := Ideal))) c0 d0 r0 e0) (k0_pay95 d1) (k0_pay96 c1 r1 e1) c2 d2 r2 e2) (k0_pay98 d3) (k0_pay99 (F := Ideal)) (k0_pay100 c3 r3) e3 c4 d4 r4 e4) (k0_pay102 c5) (k0_pay103 d5) (k0_pay104 (F := Ideal)) r5 e5 c6 d6 r6 e6) (k0_pay106 c7) (k0_pay107 d7) (k0_pay108 (F := Ideal)) r7 e7 a) x
      = (((((((weight (r0 x) (e0 x) (c0 (ix3 0 0 (x 2))) (d0 (ix3 0 0 (x 2))) + weight (r1 x) (e1 x) (c1 (ix3 0 0 (x 2))) (d1 (ix3 0 0 (x 2)))) + weight (r2 x) (e2 x) (c2 (ix3 0 0 (x 2))) (d2 (ix3 0 0 (x 2)))) + weight (r3 x) (e3 x) (c3 (ix3 0 0 (x 2))) (d3 (ix3 0 0 (x 2)))) + weight (r4 x) (e4 x) (c4 (ix3 0 0 (x 2))) (d4 (ix3 0 0 (x 2)))) + weight (r5 x) (e5 x) (c5 (ix3 0 0 (x 2))) (d5 (ix3 0 0 (x 2)))) + weight (r6 x) (e6 x) (c6 (ix3 0 0 (x 2))) (d6 (ix3 0 0 (x 2)))) + weight (r7 x) (e7 x) (c7 (ix3 0 0 (x 2))) (d7 (ix3 0 0 (x 2)))) * act (a x) := by
  pointwise [k0_pay109, k0_pay105, k0_pay101, k0_pay97, k0_pay94, k0_pay93, k0_pay95, k0_pay96, k0_pay98, k0_pay99, k0_pay100, k0_pay102, k0_pay103, k0_pay104, k0_pay106, k0_pay107, k0_pay108, weight, act]
  rfl

theorem piece_7 (r0 e0 r1 e1 r2 e2 r3 e3 r4 e4 r5 e5 r6 e6 r7 e7 : Vec Ideal S1x128x256 .bf16) (c0 d0 c1 d1 c2 d2 c3 d3 c4 d4 c5 d5 c6 d6 c7 d7 : Vec Ideal S1x1x256 .f32)
    (a : Vec Ideal S1x128x256 .f32) (x : S1x128x256.Idx) :
    (k0_pay122 (k0_pay7 (F := Ideal)) ((k0_pay121 (k0_pay119 (k0_pay117 (k0_pay114 (k0_pay110 (F := Ideal)) (k0_pay111 c0) (k0_pay112 d0) (k0_pay113 (F := Ideal)) r0 e0 c1 d1 r1 e1) (k0_pay115 c2) (k0_pay116 d2) r2 e2 c3 d3 r3 e3) (k0_pay118 c4) d4 r4 e4 c5 d5 r5 e5) (k0_pay120 c6) d6 r6 e6 c7 d7 r7 e7)) a) x
      = (((((((weight (r0 x) (e0 x) (c0 (ix3 0 0 (x 2))) (d0 (ix3 0 0 (x 2))) + weight (r1 x) (e1 x) (c1 (ix3 0 0 (x 2))) (d1 (ix3 0 0 (x 2)))) + weight (r2 x) (e2 x) (c2 (ix3 0 0 (x 2))) (d2 (ix3 0 0 (x 2)))) + weight (r3 x) (e3 x) (c3 (ix3 0 0 (x 2))) (d3 (ix3 0 0 (x 2)))) + weight (r4 x) (e4 x) (c4 (ix3 0 0 (x 2))) (d4 (ix3 0 0 (x 2)))) + weight (r5 x) (e5 x) (c5 (ix3 0 0 (x 2))) (d5 (ix3 0 0 (x 2)))) + weight (r6 x) (e6 x) (c6 (ix3 0 0 (x 2))) (d6 (ix3 0 0 (x 2)))) + weight (r7 x) (e7 x) (c7 (ix3 0 0 (x 2))) (d7 (ix3 0 0 (x 2)))) * act (a x) := by
  pointwise [k0_pay122, k0_pay7, k0_pay121, k0_pay119, k0_pay117, k0_pay114, k0_pay110, k0_pay111, k0_pay112, k0_pay113, k0_pay115, k0_pay116, k0_pay118, k0_pay120, weight, act]
  rfl

theorem piece_8 (r0 e0 r1 e1 r2 e2 r3 e3 r4 e4 r5 e5 r6 e6 r7 e7 : Vec Ideal S1x128x256 .bf16) (c0 d0 c1 d1 c2 d2 c3 d3 c4 d4 c5 d5 c6 d6 c7 d7 : Vec Ideal S1x1x256 .f32)
    (a : Vec Ideal S1x128x256 .f32) (x : S1x128x256.Idx) :
    (k0_pay138 (k0_pay136 (k0_pay133 (k0_pay130 (k0_pay126 c0 d0 r0 e0) (k0_pay127 c1) (k0_pay128 d1) (k0_pay129 (F := Ideal)) r1 e1 c2 d2 r2 e2) (k0_pay131 c3) (k0_pay132 d3) (Scalar.ofBits .bf16 0x0000#16) r3 e3 c4 d4 r4 e4) (k0_pay134 c5) (k0_pay135 d5) r5 e5 c6 d6 r6 e6) (k0_pay137 c7) d7 r7 e7 a) x
      = (((((((weight (r0 x) (e0 x) (c0 (ix3 0 0 (x 2))) (d0 (ix3 0 0 (x 2))) + weight (r1 x) (e1 x) (c1 (ix3 0 0 (x 2))) (d1 (ix3 0 0 (x 2)))) + weight (r2 x) (e2 x) (c2 (ix3 0 0 (x 2))) (d2 (ix3 0 0 (x 2)))) + weight (r3 x) (e3 x) (c3 (ix3 0 0 (x 2))) (d3 (ix3 0 0 (x 2)))) + weight (r4 x) (e4 x) (c4 (ix3 0 0 (x 2))) (d4 (ix3 0 0 (x 2)))) + weight (r5 x) (e5 x) (c5 (ix3 0 0 (x 2))) (d5 (ix3 0 0 (x 2)))) + weight (r6 x) (e6 x) (c6 (ix3 0 0 (x 2))) (d6 (ix3 0 0 (x 2)))) + weight (r7 x) (e7 x) (c7 (ix3 0 0 (x 2))) (d7 (ix3 0 0 (x 2)))) * act (a x) := by
  pointwise [k0_pay138, k0_pay136, k0_pay133, k0_pay130, k0_pay126, k0_pay127, k0_pay128, k0_pay129, k0_pay131, k0_pay132, k0_pay134, k0_pay135, k0_pay137, weight, act]
  rfl

theorem piece_9 (r0 e0 r1 e1 r2 e2 r3 e3 r4 e4 r5 e5 r6 e6 r7 e7 : Vec Ideal S1x128x256 .bf16) (c0 d0 c1 d1 c2 d2 c3 d3 c4 d4 c5 d5 c6 d6 c7 d7 : Vec Ideal S1x1x256 .f32)
    (a : Vec Ideal S1x128x256 .f32) (x : S1x128x256.Idx) :
    (k0_pay153 (k0_pay149 (k0_pay144 ((k0_pay143 (k0_pay141 (k0_pay139 (F := Ideal)) (k0_pay140 c0) d0 r0 e0 c1 d1 r1 e1) (k0_pay142 c2) d2 r2 e2 c3 d3 r3 e3)) c4 d4 r4 e4) (k0_pay145 d5) (k0_pay146 (F := Ideal)) (k0_pay147 c5 r5) (k0_pay148 e5) c6 d6 r6 e6) (k0_pay150 d7) (k0_pay151 (F := Ideal)) (k0_pay152 c7 r7) e7 a) x
      = (((((((weight (r0 x) (e0 x) (c0 (ix3 0 0 (x 2))) (d0 (ix3 0 0 (x 2))) + weight (r1 x) (e1 x) (c1 (ix3 0 0 (x 2))) (d1 (ix3 0 0 (x 2)))) + weight (r2 x) (e2 x) (c2 (ix3 0 0 (x 2))) (d2 (ix3 0 0 (x 2)))) + weight (r3 x) (e3 x) (c3 (ix3 0 0 (x 2))) (d3 (ix3 0 0 (x 2)))) + weight (r4 x) (e4 x) (c4 (ix3 0 0 (x 2))) (d4 (ix3 0 0 (x 2)))) + weight (r5 x) (e5 x) (c5 (ix3 0 0 (x 2))) (d5 (ix3 0 0 (x 2)))) + weight (r6 x) (e6 x) (c6 (ix3 0 0 (x 2))) (d6 (ix3 0 0 (x 2)))) + weight (r7 x) (e7 x) (c7 (ix3 0 0 (x 2))) (d7 (ix3 0 0 (x 2)))) * act (a x) := by
  pointwise [k0_pay153, k0_pay149, k0_pay144, k0_pay143, k0_pay141, k0_pay139, k0_pay140, k0_pay142, k0_pay145, k0_pay146, k0_pay147, k0_pay148, k0_pay150, k0_pay151, k0_pay152, weight, act]
  rfl

theorem piece_10 (r0 e0 r1 e1 r2 e2 r3 e3 r4 e4 r5 e5 r6 e6 r7 e7 : Vec Ideal S1x128x256 .bf16) (c0 d0 c1 d1 c2 d2 c3 d3 c4 d4 c5 d5 c6 d6 c7 d7 : Vec Ideal S1x1x256 .f32)
    (a : Vec Ideal S1x128x256 .f32) (x : S1x128x256.Idx) :
    (k0_pay171 (k0_pay168 (k0_pay165 (k0_pay162 (k0_pay158 (k0_pay154 (F := Ideal)) (k0_pay155 d0) (k0_pay156 (F := Ideal)) (k0_pay157 c0 r0) e0 c1 d1 r1 e1) (k0_pay159 c2) (k0_pay160 d2) (k0_pay161 (F := Ideal)) r2 e2 c3 d3 r3 e3) (k0_pay163 c4) (k0_pay164 d4) (Scalar.ofBits .bf16 0x0000#16) r4 e4 c5 d5 r5 e5) (k0_pay166 c6) (k0_pay167 d6) r6 e6 c7 d7 r7 e7) (k0_pay169 a) (k0_pay170 a)) x
      = (((((((weight (r0 x) (e0 x) (c0 (ix3 0 0 (x 2))) (d0 (ix3 0 0 (x 2))) + weight (r1 x) (e1 x) (c1 (ix3 0 0 (x 2))) (d1 (ix3 0 0 (x 2)))) + weight (r2 x) (e2 x) (c2 (ix3 0 0 (x 2))) (d2 (ix3 0 0 (x 2)))) + weight (r3 x) (e3 x) (c3 (ix3 0 0 (x 2))) (d3 (ix3 0 0 (x 2)))) + weight (r4 x) (e4 x) (c4 (ix3 0 0 (x 2))) (d4 (ix3 0 0 (x 2)))) + weight (r5 x) (e5 x) (c5 (ix3 0 0 (x 2))) (d5 (ix3 0 0 (x 2)))) + weight (r6 x) (e6 x) (c6 (ix3 0 0 (x 2))) (d6 (ix3 0 0 (x 2)))) + weight (r7 x) (e7 x) (c7 (ix3 0 0 (x 2))) (d7 (ix3 0 0 (x 2)))) * act (a x) := by
  pointwise [k0_pay171, k0_pay168, k0_pay165, k0_pay162, k0_pay158, k0_pay154, k0_pay155, k0_pay156, k0_pay157, k0_pay159, k0_pay160, k0_pay161, k0_pay163, k0_pay164, k0_pay166, k0_pay167, k0_pay169, k0_pay170, weight, act]
  rfl

theorem piece_11 (r0 e0 r1 e1 r2 e2 r3 e3 r4 e4 r5 e5 r6 e6 r7 e7 : Vec Ideal S1x128x256 .bf16) (c0 d0 c1 d1 c2 d2 c3 d3 c4 d4 c5 d5 c6 d6 c7 d7 : Vec Ideal S1x1x256 .f32)
    (a : Vec Ideal S1x128x256 .f32) (x : S1x128x256.Idx) :
    ((k0_pay182 (k0_pay177 ((k0_pay176 (k0_pay174 (k0_pay172 c0 d0 r0 e0) (k0_pay173 c1) d1 r1 e1 c2 d2 r2 e2) (k0_pay175 c3) d3 r3 e3 c4 d4 r4 e4)) c5 d5 r5 e5) (k0_pay178 d6) (k0_pay179 (F := Ideal)) (k0_pay180 c6 r6) (k0_pay181 e6) c7 d7 r7 e7 a)) x
      = (((((((weight (r0 x) (e0 x) (c0 (ix3 0 0 (x 2))) (d0 (ix3 0 0 (x 2))) + weight (r1 x) (e1 x) (c1 (ix3 0 0 (x 2))) (d1 (ix3 0 0 (x 2)))) + weight (r2 x) (e2 x) (c2 (ix3 0 0 (x 2))) (d2 (ix3 0 0 (x 2)))) + weight (r3 x) (e3 x) (c3 (ix3 0 0 (x 2))) (d3 (ix3 0 0 (x 2)))) + weight (r4 x) (e4 x) (c4 (ix3 0 0 (x 2))) (d4 (ix3 0 0 (x 2)))) + weight (r5 x) (e5 x) (c5 (ix3 0 0 (x 2))) (d5 (ix3 0 0 (x 2)))) + weight (r6 x) (e6 x) (c6 (ix3 0 0 (x 2))) (d6 (ix3 0 0 (x 2)))) + weight (r7 x) (e7 x) (c7 (ix3 0 0 (x 2))) (d7 (ix3 0 0 (x 2)))) * act (a x) := by
  pointwise [k0_pay182, k0_pay177, k0_pay176, k0_pay174, k0_pay172, k0_pay173, k0_pay175, k0_pay178, k0_pay179, k0_pay180, k0_pay181, weight, act]
  rfl

theorem piece_12 (r0 e0 r1 e1 r2 e2 r3 e3 r4 e4 r5 e5 r6 e6 r7 e7 : Vec Ideal S1x128x256 .bf16) (c0 d0 c1 d1 c2 d2 c3 d3 c4 d4 c5 d5 c6 d6 c7 d7 : Vec Ideal S1x1x256 .f32)
    (a : Vec Ideal S1x128x256 .f32) (x : S1x128x256.Idx) :
    (k0_pay197 (k0_pay194 (k0_pay191 (k0_pay187 (k0_pay183 c0 d0 r0 e0) (k0_pay184 d1) (k0_pay185 (F := Ideal)) (k0_pay186 c1 r1) e1 c2 d2 r2 e2) (k0_pay188 c3) (k0_pay189 d3) (k0_pay190 (F := Ideal)) r3 e3 c4 d4 r4 e4) (k0_pay192 c5) (k0_pay193 d5) (Scalar.ofBits .bf16 0x0000#16) r5 e5 c6 d6 r6 e6) (k0_pay195 c7) (k0_pay196 d7) r7 e7 a) x
      = (((((((weight (r0 x) (e0 x) (c0 (ix3 0 0 (x 2))) (d0 (ix3 0 0 (x 2))) + weight (r1 x) (e1 x) (c1 (ix3 0 0 (x 2))) (d1 (ix3 0 0 (x 2)))) + weight (r2 x) (e2 x) (c2 (ix3 0 0 (x 2))) (d2 (ix3 0 0 (x 2)))) + weight (r3 x) (e3 x) (c3 (ix3 0 0 (x 2))) (d3 (ix3 0 0 (x 2)))) + weight (r4 x) (e4 x) (c4 (ix3 0 0 (x 2))) (d4 (ix3 0 0 (x 2)))) + weight (r5 x) (e5 x) (c5 (ix3 0 0 (x 2))) (d5 (ix3 0 0 (x 2)))) + weight (r6 x) (e6 x) (c6 (ix3 0 0 (x 2))) (d6 (ix3 0 0 (x 2)))) + weight (r7 x) (e7 x) (c7 (ix3 0 0 (x 2))) (d7 (ix3 0 0 (x 2)))) * act (a x) := by
  pointwise [k0_pay197, k0_pay194, k0_pay191, k0_pay187, k0_pay183, k0_pay184, k0_pay185, k0_pay186, k0_pay188, k0_pay189, k0_pay190, k0_pay192, k0_pay193, k0_pay195, k0_pay196, weight, act]
  rfl

theorem piece_13 (r0 e0 r1 e1 r2 e2 r3 e3 r4 e4 r5 e5 r6 e6 r7 e7 : Vec Ideal S1x128x256 .bf16) (c0 d0 c1 d1 c2 d2 c3 d3 c4 d4 c5 d5 c6 d6 c7 d7 : Vec Ideal S1x1x256 .f32)
    (a : Vec Ideal S1x128x256 .f32) (x : S1x128x256.Idx) :
    (k0_pay211 (k0_pay206 ((k0_pay205 (k0_pay203 (k0_pay201 (k0_pay198 (F := Ideal)) (k0_pay199 c0) (k0_pay200 d0) r0 e0 c1 d1 r1 e1) (k0_pay202 c2) d2 r2 e2 c3 d3 r3 e3) (k0_pay204 c4) d4 r4 e4 c5 d5 r5 e5)) c6 d6 r6 e6) (k0_pay207 d7) (k0_pay208 (F := Ideal)) (k0_pay209 c7 r7) (k0_pay210 e7) a) x
      = (((((((weight (r0 x) (e0 x) (c0 (ix3 0 0 (x 2))) (d0 (ix3 0 0 (x 2))) + weight (r1 x) (e1 x) (c1 (ix3 0 0 (x 2))) (d1 (ix3 0 0 (x 2)))) + weight (r2 x) (e2 x) (c2 (ix3 0 0 (x 2))) (d2 (ix3 0 0 (x 2)))) + weight (r3 x) (e3 x) (c3 (ix3 0 0 (x 2))) (d3 (ix3 0 0 (x 2)))) + weight (r4 x) (e4 x) (c4 (ix3 0 0 (x 2))) (d4 (ix3 0 0 (x 2)))) + weight (r5 x) (e5 x) (c5 (ix3 0 0 (x 2))) (d5 (ix3 0 0 (x 2)))) + weight (r6 x) (e6 x) (c6 (ix3 0 0 (x 2))) (d6 (ix3 0 0 (x 2)))) + weight (r7 x) (e7 x) (c7 (ix3 0 0 (x 2))) (d7 (ix3 0 0 (x 2)))) * act (a x) := by
  pointwise [k0_pay211, k0_pay206, k0_pay205, k0_pay203, k0_pay201, k0_pay198, k0_pay199, k0_pay200, k0_pay202, k0_pay204, k0_pay207, k0_pay208, k0_pay209, k0_pay210, weight, act]
  rfl

theorem piece_14 (r0 e0 r1 e1 r2 e2 r3 e3 r4 e4 r5 e5 r6 e6 r7 e7 : Vec Ideal S1x128x256 .bf16) (c0 d0 c1 d1 c2 d2 c3 d3 c4 d4 c5 d5 c6 d6 c7 d7 : Vec Ideal S1x1x256 .f32)
    (a : Vec Ideal S1x128x256 .f32) (x : S1x128x256.Idx) :
    (k0_pay232 (k0_pay228 (k0_pay225 (k0_pay221 (k0_pay217 (k0_pay212 (F := Ideal)) (k0_pay213 d0) (k0_pay214 (F := Ideal)) (k0_pay215 c0 r0) (k0_pay216 e0) c1 d1 r1 e1) (k0_pay218 d2) (k0_pay219 (F := Ideal)) (k0_pay220 c2 r2) e2 c3 d3 r3 e3) (k0_pay222 c4) (k0_pay223 d4) (k0_pay224 (F := Ideal)) r4 e4 c5 d5 r5 e5) (k0_pay226 c6) (k0_pay227 d6) (Scalar.ofBits .bf16 0x0000#16) r6 e6 c7 d7 r7 e7) (k0_pay230 a) (k0_pay231 a)) x
      = (((((((weight (r0 x) (e0 x) (c0 (ix3 0 0 (x 2))) (d0 (ix3 0 0 (x 2))) + weight (r1 x) (e1 x) (c1 (ix3 0 0 (x 2))) (d1 (ix3 0 0 (x 2)))) + weight (r2 x) (e2 x) (c2 (ix3 0 0 (x 2))) (d2 (ix3 0 0 (x 2)))) + weight (r3 x) (e3 x) (c3 (ix3 0 0 (x 2))) (d3 (ix3 0 0 (x 2)))) + weight (r4 x) (e4 x) (c4 (ix3 0 0 (x 2))) (d4 (ix3 0 0 (x 2)))) + weight (r5 x) (e5 x) (c5 (ix3 0 0 (x 2))) (d5 (ix3 0 0 (x 2)))) + weight (r6 x) (e6 x) (c6 (ix3 0 0 (x 2))) (d6 (ix3 0 0 (x 2)))) + weight (r7 x) (e7 x) (c7 (ix3 0 0 (x 2))) (d7 (ix3 0 0 (x 2)))) * act (a x) := by
  pointwise [k0_pay232, k0_pay228, k0_pay225, k0_pay221, k0_pay217, k0_pay212, k0_pay213, k0_pay214, k0_pay215, k0_pay216, k0_pay218, k0_pay219, k0_pay220, k0_pay222, k0_pay223, k0_pay224, k0_pay226, k0_pay227, k0_pay230, k0_pay231, k0_pay229, weight, act]
  rfl

theorem piece_15 (r0 e0 r1 e1 r2 e2 r3 e3 r4 e4 r5 e5 r6 e6 r7 e7 : Vec Ideal S1x128x256 .bf16) (c0 d0 c1 d1 c2 d2 c3 d3 c4 d4 c5 d5 c6 d6 c7 d7 : Vec Ideal S1x1x256 .f32)
    (a : Vec Ideal S1x128x256 .f32) (x : S1x128x256.Idx) :
    (k0_pay241 (k0_pay125 (F := Ideal)) ((k0_pay240 (k0_pay238 (k0_pay236 (k0_pay233 c0 d0 r0 e0) (k0_pay234 c1) (k0_pay235 d1) r1 e1 c2 d2 r2 e2) (k0_pay237 c3) d3 r3 e3 c4 d4 r4 e4) (k0_pay239 c5) d5 r5 e5 c6 d6 r6 e6)) c7 d7 r7 e7 a) x
      = (((((((weight (r0 x) (e0 x) (c0 (ix3 0 0 (x 2))) (d0 (ix3 0 0 (x 2))) + weight (r1 x) (e1 x) (c1 (ix3 0 0 (x 2))) (d1 (ix3 0 0 (x 2)))) + weight (r2 x) (e2 x) (c2 (ix3 0 0 (x 2))) (d2 (ix3 0 0 (x 2)))) + weight (r3 x) (e3 x) (c3 (ix3 0 0 (x 2))) (d3 (ix3 0 0 (x 2)))) + weight (r4 x) (e4 x) (c4 (ix3 0 0 (x 2))) (d4 (ix3 0 0 (x 2)))) + weight (r5 x) (e5 x) (c5 (ix3 0 0 (x 2))) (d5 (ix3 0 0 (x 2)))) + weight (r6 x) (e6 x) (c6 (ix3 0 0 (x 2))) (d6 (ix3 0 0 (x 2)))) + weight (r7 x) (e7 x) (c7 (ix3 0 0 (x 2))) (d7 (ix3 0 0 (x 2)))) * act (a x) := by
  pointwise [k0_pay241, k0_pay125, k0_pay240, k0_pay238, k0_pay236, k0_pay233, k0_pay234, k0_pay235, k0_pay237, k0_pay239, weight, act]
  rfl

end Cert.PeerIdeal.Hand
-- ==== Proof.PeerCoef.lean ====
module

public import proofs.«01_k».proof.Proof.PeerPieces
public import Idealize.ShloMosaic.Lib.Pipeline.ReadBack
public import Idealize.ShloMosaic.Lib.Pipeline.ValueKit.Tiles

@[expose] public section

noncomputable section

/-! The block's coefficients as the two halves of the scratch hold them, whatever pieces they were stored in. -/

namespace Cert.PeerIdeal.Hand

open Cert.PeerIdeal Cert.PeerIdeal.Gen
open Idealize.ShloMosaic Idealize.ShloMosaic.TcCoe Idealize.SL.Sem

/-- An expert's gate at a token: what the eight heads add. -/
def gate (r e : Vec Ideal S8x128x512 .bf16) (c d : Vec Ideal S8x8x512 .f32) (i : Fin 8) (k : Fin 128) (n : Fin 512) : EReal :=
  ∑ h : Fin 8, weight (r (ix3 h k n)) (e (ix3 h k n)) (c (ix3 h i n)) (d (ix3 h i n))

theorem ld_key (z : Vec Ideal S8x128x512 .bf16) (h l : ℕ) (hb : h < 8) (lb : l ≤ 256)
    (inb : ∀ a : Fin 3, (![h, 0, l] : Fin 3 → ℕ) a + (![1, 128, 256] : Fin 3 → ℕ) a ≤ S8x128x512.size a) (x : S1x128x256.Idx) :
    View.ld z (Rect.unit ![h, 0, l] ![1, 128, 256] inb) x
      = z (ix3 ⟨h, hb⟩ (x 1) ⟨l + (x 2).val, by have : (x 2).val < 256 := (x 2).isLt; omega⟩) := by
  have x0 : (x 0).val < 1 := (x 0).isLt
  refine View.ld_unit_apply_of _ _ _ _ _ _ fun a => ?_
  match a with
  | ⟨0, _⟩ => show h = h + (x 0).val; omega
  | ⟨1, _⟩ => show (x 1).val = 0 + (x 1).val; omega
  | ⟨2, _⟩ => rfl

theorem ld_count (z : Vec Ideal S8x8x512 .f32) (h i l : ℕ) (hb : h < 8) (ib : i < 8) (lb : l ≤ 256)
    (inb : ∀ a : Fin 3, (![h, i, l] : Fin 3 → ℕ) a + (![1, 1, 256] : Fin 3 → ℕ) a ≤ S8x8x512.size a) (n : Fin 256) :
    View.ld z (Rect.unit ![h, i, l] ![1, 1, 256] inb) (ix3 0 0 n) = z (ix3 ⟨h, hb⟩ ⟨i, ib⟩ ⟨l + n.val, by omega⟩) := by
  refine View.ld_unit_apply_of _ _ _ _ _ _ fun a => ?_
  match a with
  | ⟨0, _⟩ => rfl
  | ⟨1, _⟩ => rfl
  | ⟨2, _⟩ => rfl

theorem weight_ld (x4 x5 : Vec Ideal S8x128x512 .bf16) (x6 x7 : Vec Ideal S8x8x512 .f32) (h i l : ℕ) (hb : h < 8) (ib : i < 8)
    (lb : l ≤ 256) (inb : ∀ a : Fin 3, (![h, 0, l] : Fin 3 → ℕ) a + (![1, 128, 256] : Fin 3 → ℕ) a ≤ S8x128x512.size a)
    (inb' : ∀ a : Fin 3, (![h, i, l] : Fin 3 → ℕ) a + (![1, 1, 256] : Fin 3 → ℕ) a ≤ S8x8x512.size a) (x : S1x128x256.Idx) :
    weight (View.ld x4 (Rect.unit ![h, 0, l] ![1, 128, 256] inb) x) (View.ld x5 (Rect.unit ![h, 0, l] ![1, 128, 256] inb) x)
        (View.ld x6 (Rect.unit ![h, i, l] ![1, 1, 256] inb') (ix3 0 0 (x 2)))
        (View.ld x7 (Rect.unit ![h, i, l] ![1, 1, 256] inb') (ix3 0 0 (x 2)))
      = weight (x4 (ix3 ⟨h, hb⟩ (x 1) ⟨l + (x 2).val, by have : (x 2).val < 256 := (x 2).isLt; omega⟩))
          (x5 (ix3 ⟨h, hb⟩ (x 1) ⟨l + (x 2).val, by have : (x 2).val < 256 := (x 2).isLt; omega⟩))
          (x6 (ix3 ⟨h, hb⟩ ⟨i, ib⟩ ⟨l + (x 2).val, by have : (x 2).val < 256 := (x 2).isLt; omega⟩))
          (x7 (ix3 ⟨h, hb⟩ ⟨i, ib⟩ ⟨l + (x 2).val, by have : (x 2).val < 256 := (x 2).isLt; omega⟩)) := by
  rw [ld_key x4 h l hb lb inb x, ld_key x5 h l hb lb inb x]
  exact congrArg₂ _ (ld_count x6 h i l hb ib lb inb' (x 2)) (ld_count x7 h i l hb ib lb inb' (x 2))

/-- The coefficient of expert `row` of half `k` of a block at token `n`, its activation taken of `aa`. -/
def coef (r e : Vec Ideal S8x128x512 .bf16) (c d : Vec Ideal S8x8x512 .f32) (k : Fin 2) (aa : Fin 512 → Fin 512 → EReal)
    (row n : Fin 512) : EReal :=
  gate r e c d ⟨4 * k.val + row.val / 128, by omega⟩ ⟨row.val % 128, Nat.mod_lt _ (by omega)⟩ n * act (aa row n)

theorem coef_at (r e : Vec Ideal S8x128x512 .bf16) (c d : Vec Ideal S8x8x512 .f32) (k : Fin 2) (aa : Fin 512 → Fin 512 → EReal)
    (ii : ℕ) (i : Fin 8) (j : Fin 128) (n : Fin 512) (v : EReal) (row n' : Fin 512) (hi : i.val = 4 * k.val + ii)
    (hr : row.val = 128 * ii + j.val) (hn : n'.val = n.val) (hv : v = aa row n') :
    gate r e c d i j n * act v = coef r e c d k aa row n' := by
  unfold coef
  rw [hv, Fin.ext hn, show (⟨4 * k.val + row.val / 128, by omega⟩ : Fin 8) = i from Fin.ext (by dsimp only; omega),
    show (⟨row.val % 128, Nat.mod_lt _ (by omega)⟩ : Fin 128) = j from Fin.ext (by dsimp only; omega)]

theorem at_0 (x4 x5 : Vec Ideal S8x128x512 .bf16) (x6 x7 : Vec Ideal S8x8x512 .f32) (a : Vec Ideal S1x128x256 .f32)
    (x : S1x128x256.Idx) :
    (k0_pay26 (k0_pay23 (k0_pay20 (k0_pay16 (k0_pay12 (k0_pay8 (F := Ideal)) (k0_pay9 (View.ld x7 (Rect.unit ![0, 0, 0] ![1, 1, 256] inb_S8x8x512_S1x1x256_0_0_0))) (k0_pay10 (F := Ideal)) (k0_pay11 (View.ld x6 (Rect.unit ![0, 0, 0] ![1, 1, 256] inb_S8x8x512_S1x1x256_0_0_0)) (View.ld x4 (Rect.unit ![0, 0, 0] ![1, 128, 256] inb_S8x128x512_S1x128x256_0_0_0))) (View.ld x5 (Rect.unit ![0, 0, 0] ![1, 128, 256] inb_S8x128x512_S1x128x256_0_0_0)) (View.ld x6 (Rect.unit ![1, 0, 0] ![1, 1, 256] inb_S8x8x512_S1x1x256_1_0_0)) (View.ld x7 (Rect.unit ![1, 0, 0] ![1, 1, 256] inb_S8x8x512_S1x1x256_1_0_0)) (View.ld x4 (Rect.unit ![1, 0, 0] ![1, 128, 256] inb_S8x128x512_S1x128x256_1_0_0)) (View.ld x5 (Rect.unit ![1, 0, 0] ![1, 128, 256] inb_S8x128x512_S1x128x256_1_0_0))) (k0_pay13 (View.ld x6 (Rect.unit ![2, 0, 0] ![1, 1, 256] inb_S8x8x512_S1x1x256_2_0_0))) (k0_pay14 (View.ld x7 (Rect.unit ![2, 0, 0] ![1, 1, 256] inb_S8x8x512_S1x1x256_2_0_0))) (k0_pay15 (F := Ideal)) (View.ld x4 (Rect.unit ![2, 0, 0] ![1, 128, 256] inb_S8x128x512_S1x128x256_2_0_0)) (View.ld x5 (Rect.unit ![2, 0, 0] ![1, 128, 256] inb_S8x128x512_S1x128x256_2_0_0)) (View.ld x6 (Rect.unit ![3, 0, 0] ![1, 1, 256] inb_S8x8x512_S1x1x256_3_0_0)) (View.ld x7 (Rect.unit ![3, 0, 0] ![1, 1, 256] inb_S8x8x512_S1x1x256_3_0_0)) (View.ld x4 (Rect.unit ![3, 0, 0] ![1, 128, 256] inb_S8x128x512_S1x128x256_3_0_0)) (View.ld x5 (Rect.unit ![3, 0, 0] ![1, 128, 256] inb_S8x128x512_S1x128x256_3_0_0))) (k0_pay17 (View.ld x6 (Rect.unit ![4, 0, 0] ![1, 1, 256] inb_S8x8x512_S1x1x256_4_0_0))) (k0_pay18 (View.ld x7 (Rect.unit ![4, 0, 0] ![1, 1, 256] inb_S8x8x512_S1x1x256_4_0_0))) (k0_pay19 (F := Ideal)) (View.ld x4 (Rect.unit ![4, 0, 0] ![1, 128, 256] inb_S8x128x512_S1x128x256_4_0_0)) (View.ld x5 (Rect.unit ![4, 0, 0] ![1, 128, 256] inb_S8x128x512_S1x128x256_4_0_0)) (View.ld x6 (Rect.unit ![5, 0, 0] ![1, 1, 256] inb_S8x8x512_S1x1x256_5_0_0)) (View.ld x7 (Rect.unit ![5, 0, 0] ![1, 1, 256] inb_S8x8x512_S1x1x256_5_0_0)) (View.ld x4 (Rect.unit ![5, 0, 0] ![1, 128, 256] inb_S8x128x512_S1x128x256_5_0_0)) (View.ld x5 (Rect.unit ![5, 0, 0] ![1, 128, 256] inb_S8x128x512_S1x128x256_5_0_0))) (k0_pay21 (View.ld x6 (Rect.unit ![6, 0, 0] ![1, 1, 256] inb_S8x8x512_S1x1x256_6_0_0))) (k0_pay22 (View.ld x7 (Rect.unit ![6, 0, 0] ![1, 1, 256] inb_S8x8x512_S1x1x256_6_0_0))) (View.ld x4 (Rect.unit ![6, 0, 0] ![1, 128, 256] inb_S8x128x512_S1x128x256_6_0_0)) (View.ld x5 (Rect.unit ![6, 0, 0] ![1, 128, 256] inb_S8x128x512_S1x128x256_6_0_0)) (View.ld x6 (Rect.unit ![7, 0, 0] ![1, 1, 256] inb_S8x8x512_S1x1x256_7_0_0)) (View.ld x7 (Rect.unit ![7, 0, 0] ![1, 1, 256] inb_S8x8x512_S1x1x256_7_0_0)) (View.ld x4 (Rect.unit ![7, 0, 0] ![1, 128, 256] inb_S8x128x512_S1x128x256_7_0_0)) (View.ld x5 (Rect.unit ![7, 0, 0] ![1, 128, 256] inb_S8x128x512_S1x128x256_7_0_0))) (k0_pay24 a) (k0_pay25 a) (Scalar.ofBits .f32 0x3F3504F3#32)) x
      = gate x4 x5 x6 x7 0 (x 1) ⟨0 + (x 2).val, by have : (x 2).val < 256 := (x 2).isLt; omega⟩ * act (a x) := by
  rw [piece_0]
  unfold gate
  rw [Fin.sum_univ_eight]
  exact congrArg (· * act (a x)) (congrArg₂ (· + ·) (congrArg₂ (· + ·) (congrArg₂ (· + ·) (congrArg₂ (· + ·) (congrArg₂ (· + ·) (congrArg₂ (· + ·) (congrArg₂ (· + ·) (weight_ld x4 x5 x6 x7 0 0 0 (by decide) (by decide) (by decide) _ _ x) (weight_ld x4 x5 x6 x7 1 0 0 (by decide) (by decide) (by decide) _ _ x)) (weight_ld x4 x5 x6 x7 2 0 0 (by decide) (by decide) (by decide) _ _ x)) (weight_ld x4 x5 x6 x7 3 0 0 (by decide) (by decide) (by decide) _ _ x)) (weight_ld x4 x5 x6 x7 4 0 0 (by decide) (by decide) (by decide) _ _ x)) (weight_ld x4 x5 x6 x7 5 0 0 (by decide) (by decide) (by decide) _ _ x)) (weight_ld x4 x5 x6 x7 6 0 0 (by decide) (by decide) (by decide) _ _ x)) (weight_ld x4 x5 x6 x7 7 0 0 (by decide) (by decide) (by decide) _ _ x))

theorem at_1 (x4 x5 : Vec Ideal S8x128x512 .bf16) (x6 x7 : Vec Ideal S8x8x512 .f32) (a : Vec Ideal S1x128x256 .f32)
    (x : S1x128x256.Idx) :
    (k0_pay35 (k0_pay32 ((k0_pay31 (k0_pay29 (k0_pay27 (View.ld x6 (Rect.unit ![0, 0, 256] ![1, 1, 256] inb_S8x8x512_S1x1x256_0_0_256)) (View.ld x7 (Rect.unit ![0, 0, 256] ![1, 1, 256] inb_S8x8x512_S1x1x256_0_0_256)) (View.ld x4 (Rect.unit ![0, 0, 256] ![1, 128, 256] inb_S8x128x512_S1x128x256_0_0_256)) (View.ld x5 (Rect.unit ![0, 0, 256] ![1, 128, 256] inb_S8x128x512_S1x128x256_0_0_256))) (k0_pay28 (View.ld x6 (Rect.unit ![1, 0, 256] ![1, 1, 256] inb_S8x8x512_S1x1x256_1_0_256))) (View.ld x7 (Rect.unit ![1, 0, 256] ![1, 1, 256] inb_S8x8x512_S1x1x256_1_0_256)) (View.ld x4 (Rect.unit ![1, 0, 256] ![1, 128, 256] inb_S8x128x512_S1x128x256_1_0_256)) (View.ld x5 (Rect.unit ![1, 0, 256] ![1, 128, 256] inb_S8x128x512_S1x128x256_1_0_256)) (View.ld x6 (Rect.unit ![2, 0, 256] ![1, 1, 256] inb_S8x8x512_S1x1x256_2_0_256)) (View.ld x7 (Rect.unit ![2, 0, 256] ![1, 1, 256] inb_S8x8x512_S1x1x256_2_0_256)) (View.ld x4 (Rect.unit ![2, 0, 256] ![1, 128, 256] inb_S8x128x512_S1x128x256_2_0_256)) (View.ld x5 (Rect.unit ![2, 0, 256] ![1, 128, 256] inb_S8x128x512_S1x128x256_2_0_256))) (k0_pay30 (View.ld x6 (Rect.unit ![3, 0, 256] ![1, 1, 256] inb_S8x8x512_S1x1x256_3_0_256))) (View.ld x7 (Rect.unit ![3, 0, 256] ![1, 1, 256] inb_S8x8x512_S1x1x256_3_0_256)) (View.ld x4 (Rect.unit ![3, 0, 256] ![1, 128, 256] inb_S8x128x512_S1x128x256_3_0_256)) (View.ld x5 (Rect.unit ![3, 0, 256] ![1, 128, 256] inb_S8x128x512_S1x128x256_3_0_256)) (View.ld x6 (Rect.unit ![4, 0, 256] ![1, 1, 256] inb_S8x8x512_S1x1x256_4_0_256)) (View.ld x7 (Rect.unit ![4, 0, 256] ![1, 1, 256] inb_S8x8x512_S1x1x256_4_0_256)) (View.ld x4 (Rect.unit ![4, 0, 256] ![1, 128, 256] inb_S8x128x512_S1x128x256_4_0_256)) (View.ld x5 (Rect.unit ![4, 0, 256] ![1, 128, 256] inb_S8x128x512_S1x128x256_4_0_256)))) (View.ld x6 (Rect.unit ![5, 0, 256] ![1, 1, 256] inb_S8x8x512_S1x1x256_5_0_256)) (View.ld x7 (Rect.unit ![5, 0, 256] ![1, 1, 256] inb_S8x8x512_S1x1x256_5_0_256)) (View.ld x4 (Rect.unit ![5, 0, 256] ![1, 128, 256] inb_S8x128x512_S1x128x256_5_0_256)) (View.ld x5 (Rect.unit ![5, 0, 256] ![1, 128, 256] inb_S8x128x512_S1x128x256_5_0_256))) (k0_pay33 (View.ld x7 (Rect.unit ![6, 0, 256] ![1, 1, 256] inb_S8x8x512_S1x1x256_6_0_256))) (k0_pay34 (View.ld x6 (Rect.unit ![6, 0, 256] ![1, 1, 256] inb_S8x8x512_S1x1x256_6_0_256)) (View.ld x4 (Rect.unit ![6, 0, 256] ![1, 128, 256] inb_S8x128x512_S1x128x256_6_0_256)) (View.ld x5 (Rect.unit ![6, 0, 256] ![1, 128, 256] inb_S8x128x512_S1x128x256_6_0_256))) (View.ld x6 (Rect.unit ![7, 0, 256] ![1, 1, 256] inb_S8x8x512_S1x1x256_7_0_256)) (View.ld x7 (Rect.unit ![7, 0, 256] ![1, 1, 256] inb_S8x8x512_S1x1x256_7_0_256)) (View.ld x4 (Rect.unit ![7, 0, 256] ![1, 128, 256] inb_S8x128x512_S1x128x256_7_0_256)) (View.ld x5 (Rect.unit ![7, 0, 256] ![1, 128, 256] inb_S8x128x512_S1x128x256_7_0_256)) a) x
      = gate x4 x5 x6 x7 0 (x 1) ⟨256 + (x 2).val, by have : (x 2).val < 256 := (x 2).isLt; omega⟩ * act (a x) := by
  rw [piece_1]
  unfold gate
  rw [Fin.sum_univ_eight]
  exact congrArg (· * act (a x)) (congrArg₂ (· + ·) (congrArg₂ (· + ·) (congrArg₂ (· + ·) (congrArg₂ (· + ·) (congrArg₂ (· + ·) (congrArg₂ (· + ·) (congrArg₂ (· + ·) (weight_ld x4 x5 x6 x7 0 0 256 (by decide) (by decide) (by decide) _ _ x) (weight_ld x4 x5 x6 x7 1 0 256 (by decide) (by decide) (by decide) _ _ x)) (weight_ld x4 x5 x6 x7 2 0 256 (by decide) (by decide) (by decide) _ _ x)) (weight_ld x4 x5 x6 x7 3 0 256 (by decide) (by decide) (by decide) _ _ x)) (weight_ld x4 x5 x6 x7 4 0 256 (by decide) (by decide) (by decide) _ _ x)) (weight_ld x4 x5 x6 x7 5 0 256 (by decide) (by decide) (by decide) _ _ x)) (weight_ld x4 x5 x6 x7 6 0 256 (by decide) (by decide) (by decide) _ _ x)) (weight_ld x4 x5 x6 x7 7 0 256 (by decide) (by decide) (by decide) _ _ x))

theorem at_2 (x4 x5 : Vec Ideal S8x128x512 .bf16) (x6 x7 : Vec Ideal S8x8x512 .f32) (a : Vec Ideal S1x128x256 .f32)
    (x : S1x128x256.Idx) :
    (k0_pay51 (k0_pay48 (k0_pay44 (k0_pay40 (k0_pay36 (View.ld x6 (Rect.unit ![0, 1, 0] ![1, 1, 256] inb_S8x8x512_S1x1x256_0_1_0)) (View.ld x7 (Rect.unit ![0, 1, 0] ![1, 1, 256] inb_S8x8x512_S1x1x256_0_1_0)) (View.ld x4 (Rect.unit ![0, 0, 0] ![1, 128, 256] inb_S8x128x512_S1x128x256_0_0_0)) (View.ld x5 (Rect.unit ![0, 0, 0] ![1, 128, 256] inb_S8x128x512_S1x128x256_0_0_0))) (k0_pay37 (View.ld x7 (Rect.unit ![1, 1, 0] ![1, 1, 256] inb_S8x8x512_S1x1x256_1_1_0))) (k0_pay38 (F := Ideal)) (k0_pay39 (View.ld x6 (Rect.unit ![1, 1, 0] ![1, 1, 256] inb_S8x8x512_S1x1x256_1_1_0)) (View.ld x4 (Rect.unit ![1, 0, 0] ![1, 128, 256] inb_S8x128x512_S1x128x256_1_0_0))) (View.ld x5 (Rect.unit ![1, 0, 0] ![1, 128, 256] inb_S8x128x512_S1x128x256_1_0_0)) (View.ld x6 (Rect.unit ![2, 1, 0] ![1, 1, 256] inb_S8x8x512_S1x1x256_2_1_0)) (View.ld x7 (Rect.unit ![2, 1, 0] ![1, 1, 256] inb_S8x8x512_S1x1x256_2_1_0)) (View.ld x4 (Rect.unit ![2, 0, 0] ![1, 128, 256] inb_S8x128x512_S1x128x256_2_0_0)) (View.ld x5 (Rect.unit ![2, 0, 0] ![1, 128, 256] inb_S8x128x512_S1x128x256_2_0_0))) (k0_pay41 (View.ld x6 (Rect.unit ![3, 1, 0] ![1, 1, 256] inb_S8x8x512_S1x1x256_3_1_0))) (k0_pay42 (View.ld x7 (Rect.unit ![3, 1, 0] ![1, 1, 256] inb_S8x8x512_S1x1x256_3_1_0))) (k0_pay43 (F := Ideal)) (View.ld x4 (Rect.unit ![3, 0, 0] ![1, 128, 256] inb_S8x128x512_S1x128x256_3_0_0)) (View.ld x5 (Rect.unit ![3, 0, 0] ![1, 128, 256] inb_S8x128x512_S1x128x256_3_0_0)) (View.ld x6 (Rect.unit ![4, 1, 0] ![1, 1, 256] inb_S8x8x512_S1x1x256_4_1_0)) (View.ld x7 (Rect.unit ![4, 1, 0] ![1, 1, 256] inb_S8x8x512_S1x1x256_4_1_0)) (View.ld x4 (Rect.unit ![4, 0, 0] ![1, 128, 256] inb_S8x128x512_S1x128x256_4_0_0)) (View.ld x5 (Rect.unit ![4, 0, 0] ![1, 128, 256] inb_S8x128x512_S1x128x256_4_0_0))) (k0_pay45 (View.ld x6 (Rect.unit ![5, 1, 0] ![1, 1, 256] inb_S8x8x512_S1x1x256_5_1_0))) (k0_pay46 (View.ld x7 (Rect.unit ![5, 1, 0] ![1, 1, 256] inb_S8x8x512_S1x1x256_5_1_0))) (k0_pay47 (F := Ideal)) (View.ld x4 (Rect.unit ![5, 0, 0] ![1, 128, 256] inb_S8x128x512_S1x128x256_5_0_0)) (View.ld x5 (Rect.unit ![5, 0, 0] ![1, 128, 256] inb_S8x128x512_S1x128x256_5_0_0)) (View.ld x6 (Rect.unit ![6, 1, 0] ![1, 1, 256] inb_S8x8x512_S1x1x256_6_1_0)) (View.ld x7 (Rect.unit ![6, 1, 0] ![1, 1, 256] inb_S8x8x512_S1x1x256_6_1_0)) (View.ld x4 (Rect.unit ![6, 0, 0] ![1, 128, 256] inb_S8x128x512_S1x128x256_6_0_0)) (View.ld x5 (Rect.unit ![6, 0, 0] ![1, 128, 256] inb_S8x128x512_S1x128x256_6_0_0))) (k0_pay49 (View.ld x6 (Rect.unit ![7, 1, 0] ![1, 1, 256] inb_S8x8x512_S1x1x256_7_1_0))) (k0_pay50 (View.ld x7 (Rect.unit ![7, 1, 0] ![1, 1, 256] inb_S8x8x512_S1x1x256_7_1_0))) (View.ld x4 (Rect.unit ![7, 0, 0] ![1, 128, 256] inb_S8x128x512_S1x128x256_7_0_0)) (View.ld x5 (Rect.unit ![7, 0, 0] ![1, 128, 256] inb_S8x128x512_S1x128x256_7_0_0)) a) x
      = gate x4 x5 x6 x7 1 (x 1) ⟨0 + (x 2).val, by have : (x 2).val < 256 := (x 2).isLt; omega⟩ * act (a x) := by
  rw [piece_2]
  unfold gate
  rw [Fin.sum_univ_eight]
  exact congrArg (· * act (a x)) (congrArg₂ (· + ·) (congrArg₂ (· + ·) (congrArg₂ (· + ·) (congrArg₂ (· + ·) (congrArg₂ (· + ·) (congrArg₂ (· + ·) (congrArg₂ (· + ·) (weight_ld x4 x5 x6 x7 0 1 0 (by decide) (by decide) (by decide) _ _ x) (weight_ld x4 x5 x6 x7 1 1 0 (by decide) (by decide) (by decide) _ _ x)) (weight_ld x4 x5 x6 x7 2 1 0 (by decide) (by decide) (by decide) _ _ x)) (weight_ld x4 x5 x6 x7 3 1 0 (by decide) (by decide) (by decide) _ _ x)) (weight_ld x4 x5 x6 x7 4 1 0 (by decide) (by decide) (by decide) _ _ x)) (weight_ld x4 x5 x6 x7 5 1 0 (by decide) (by decide) (by decide) _ _ x)) (weight_ld x4 x5 x6 x7 6 1 0 (by decide) (by decide) (by decide) _ _ x)) (weight_ld x4 x5 x6 x7 7 1 0 (by decide) (by decide) (by decide) _ _ x))

theorem at_3 (x4 x5 : Vec Ideal S8x128x512 .bf16) (x6 x7 : Vec Ideal S8x8x512 .f32) (a : Vec Ideal S1x128x256 .f32)
    (x : S1x128x256.Idx) :
    (k0_pay63 (k0_pay60 ((k0_pay59 (k0_pay57 (k0_pay55 (k0_pay52 (F := Ideal)) (k0_pay53 (View.ld x6 (Rect.unit ![0, 1, 256] ![1, 1, 256] inb_S8x8x512_S1x1x256_0_1_256))) (k0_pay54 (View.ld x7 (Rect.unit ![0, 1, 256] ![1, 1, 256] inb_S8x8x512_S1x1x256_0_1_256))) (View.ld x4 (Rect.unit ![0, 0, 256] ![1, 128, 256] inb_S8x128x512_S1x128x256_0_0_256)) (View.ld x5 (Rect.unit ![0, 0, 256] ![1, 128, 256] inb_S8x128x512_S1x128x256_0_0_256)) (View.ld x6 (Rect.unit ![1, 1, 256] ![1, 1, 256] inb_S8x8x512_S1x1x256_1_1_256)) (View.ld x7 (Rect.unit ![1, 1, 256] ![1, 1, 256] inb_S8x8x512_S1x1x256_1_1_256)) (View.ld x4 (Rect.unit ![1, 0, 256] ![1, 128, 256] inb_S8x128x512_S1x128x256_1_0_256)) (View.ld x5 (Rect.unit ![1, 0, 256] ![1, 128, 256] inb_S8x128x512_S1x128x256_1_0_256))) (k0_pay56 (View.ld x6 (Rect.unit ![2, 1, 256] ![1, 1, 256] inb_S8x8x512_S1x1x256_2_1_256))) (View.ld x7 (Rect.unit ![2, 1, 256] ![1, 1, 256] inb_S8x8x512_S1x1x256_2_1_256)) (View.ld x4 (Rect.unit ![2, 0, 256] ![1, 128, 256] inb_S8x128x512_S1x128x256_2_0_256)) (View.ld x5 (Rect.unit ![2, 0, 256] ![1, 128, 256] inb_S8x128x512_S1x128x256_2_0_256)) (View.ld x6 (Rect.unit ![3, 1, 256] ![1, 1, 256] inb_S8x8x512_S1x1x256_3_1_256)) (View.ld x7 (Rect.unit ![3, 1, 256] ![1, 1, 256] inb_S8x8x512_S1x1x256_3_1_256)) (View.ld x4 (Rect.unit ![3, 0, 256] ![1, 128, 256] inb_S8x128x512_S1x128x256_3_0_256)) (View.ld x5 (Rect.unit ![3, 0, 256] ![1, 128, 256] inb_S8x128x512_S1x128x256_3_0_256))) (k0_pay58 (View.ld x6 (Rect.unit ![4, 1, 256] ![1, 1, 256] inb_S8x8x512_S1x1x256_4_1_256))) (View.ld x7 (Rect.unit ![4, 1, 256] ![1, 1, 256] inb_S8x8x512_S1x1x256_4_1_256)) (View.ld x4 (Rect.unit ![4, 0, 256] ![1, 128, 256] inb_S8x128x512_S1x128x256_4_0_256)) (View.ld x5 (Rect.unit ![4, 0, 256] ![1, 128, 256] inb_S8x128x512_S1x128x256_4_0_256)) (View.ld x6 (Rect.unit ![5, 1, 256] ![1, 1, 256] inb_S8x8x512_S1x1x256_5_1_256)) (View.ld x7 (Rect.unit ![5, 1, 256] ![1, 1, 256] inb_S8x8x512_S1x1x256_5_1_256)) (View.ld x4 (Rect.unit ![5, 0, 256] ![1, 128, 256] inb_S8x128x512_S1x128x256_5_0_256)) (View.ld x5 (Rect.unit ![5, 0, 256] ![1, 128, 256] inb_S8x128x512_S1x128x256_5_0_256)))) (View.ld x6 (Rect.unit ![6, 1, 256] ![1, 1, 256] inb_S8x8x512_S1x1x256_6_1_256)) (View.ld x7 (Rect.unit ![6, 1, 256] ![1, 1, 256] inb_S8x8x512_S1x1x256_6_1_256)) (View.ld x4 (Rect.unit ![6, 0, 256] ![1, 128, 256] inb_S8x128x512_S1x128x256_6_0_256)) (View.ld x5 (Rect.unit ![6, 0, 256] ![1, 128, 256] inb_S8x128x512_S1x128x256_6_0_256))) (k0_pay61 (View.ld x7 (Rect.unit ![7, 1, 256] ![1, 1, 256] inb_S8x8x512_S1x1x256_7_1_256))) (k0_pay62 (View.ld x6 (Rect.unit ![7, 1, 256] ![1, 1, 256] inb_S8x8x512_S1x1x256_7_1_256)) (View.ld x4 (Rect.unit ![7, 0, 256] ![1, 128, 256] inb_S8x128x512_S1x128x256_7_0_256)) (View.ld x5 (Rect.unit ![7, 0, 256] ![1, 128, 256] inb_S8x128x512_S1x128x256_7_0_256))) a) x
      = gate x4 x5 x6 x7 1 (x 1) ⟨256 + (x 2).val, by have : (x 2).val < 256 := (x 2).isLt; omega⟩ * act (a x) := by
  rw [piece_3]
  unfold gate
  rw [Fin.sum_univ_eight]
  exact congrArg (· * act (a x)) (congrArg₂ (· + ·) (congrArg₂ (· + ·) (congrArg₂ (· + ·) (congrArg₂ (· + ·) (congrArg₂ (· + ·) (congrArg₂ (· + ·) (congrArg₂ (· + ·) (weight_ld x4 x5 x6 x7 0 1 256 (by decide) (by decide) (by decide) _ _ x) (weight_ld x4 x5 x6 x7 1 1 256 (by decide) (by decide) (by decide) _ _ x)) (weight_ld x4 x5 x6 x7 2 1 256 (by decide) (by decide) (by decide) _ _ x)) (weight_ld x4 x5 x6 x7 3 1 256 (by decide) (by decide) (by decide) _ _ x)) (weight_ld x4 x5 x6 x7 4 1 256 (by decide) (by decide) (by decide) _ _ x)) (weight_ld x4 x5 x6 x7 5 1 256 (by decide) (by decide) (by decide) _ _ x)) (weight_ld x4 x5 x6 x7 6 1 256 (by decide) (by decide) (by decide) _ _ x)) (weight_ld x4 x5 x6 x7 7 1 256 (by decide) (by decide) (by decide) _ _ x))

theorem at_4 (x4 x5 : Vec Ideal S8x128x512 .bf16) (x6 x7 : Vec Ideal S8x8x512 .f32) (a : Vec Ideal S1x128x256 .f32)
    (x : S1x128x256.Idx) :
    (k0_pay83 (k0_pay79 (k0_pay75 (k0_pay71 (k0_pay67 (k0_pay64 (F := Ideal)) (k0_pay65 (View.ld x7 (Rect.unit ![0, 2, 0] ![1, 1, 256] inb_S8x8x512_S1x1x256_0_2_0))) (k0_pay66 (View.ld x6 (Rect.unit ![0, 2, 0] ![1, 1, 256] inb_S8x8x512_S1x1x256_0_2_0)) (View.ld x4 (Rect.unit ![0, 0, 0] ![1, 128, 256] inb_S8x128x512_S1x128x256_0_0_0)) (View.ld x5 (Rect.unit ![0, 0, 0] ![1, 128, 256] inb_S8x128x512_S1x128x256_0_0_0))) (View.ld x6 (Rect.unit ![1, 2, 0] ![1, 1, 256] inb_S8x8x512_S1x1x256_1_2_0)) (View.ld x7 (Rect.unit ![1, 2, 0] ![1, 1, 256] inb_S8x8x512_S1x1x256_1_2_0)) (View.ld x4 (Rect.unit ![1, 0, 0] ![1, 128, 256] inb_S8x128x512_S1x128x256_1_0_0)) (View.ld x5 (Rect.unit ![1, 0, 0] ![1, 128, 256] inb_S8x128x512_S1x128x256_1_0_0))) (k0_pay68 (View.ld x7 (Rect.unit ![2, 2, 0] ![1, 1, 256] inb_S8x8x512_S1x1x256_2_2_0))) (k0_pay69 (F := Ideal)) (k0_pay70 (View.ld x6 (Rect.unit ![2, 2, 0] ![1, 1, 256] inb_S8x8x512_S1x1x256_2_2_0)) (View.ld x4 (Rect.unit ![2, 0, 0] ![1, 128, 256] inb_S8x128x512_S1x128x256_2_0_0))) (View.ld x5 (Rect.unit ![2, 0, 0] ![1, 128, 256] inb_S8x128x512_S1x128x256_2_0_0)) (View.ld x6 (Rect.unit ![3, 2, 0] ![1, 1, 256] inb_S8x8x512_S1x1x256_3_2_0)) (View.ld x7 (Rect.unit ![3, 2, 0] ![1, 1, 256] inb_S8x8x512_S1x1x256_3_2_0)) (View.ld x4 (Rect.unit ![3, 0, 0] ![1, 128, 256] inb_S8x128x512_S1x128x256_3_0_0)) (View.ld x5 (Rect.unit ![3, 0, 0] ![1, 128, 256] inb_S8x128x512_S1x128x256_3_0_0))) (k0_pay72 (View.ld x6 (Rect.unit ![4, 2, 0] ![1, 1, 256] inb_S8x8x512_S1x1x256_4_2_0))) (k0_pay73 (View.ld x7 (Rect.unit ![4, 2, 0] ![1, 1, 256] inb_S8x8x512_S1x1x256_4_2_0))) (k0_pay74 (F := Ideal)) (View.ld x4 (Rect.unit ![4, 0, 0] ![1, 128, 256] inb_S8x128x512_S1x128x256_4_0_0)) (View.ld x5 (Rect.unit ![4, 0, 0] ![1, 128, 256] inb_S8x128x512_S1x128x256_4_0_0)) (View.ld x6 (Rect.unit ![5, 2, 0] ![1, 1, 256] inb_S8x8x512_S1x1x256_5_2_0)) (View.ld x7 (Rect.unit ![5, 2, 0] ![1, 1, 256] inb_S8x8x512_S1x1x256_5_2_0)) (View.ld x4 (Rect.unit ![5, 0, 0] ![1, 128, 256] inb_S8x128x512_S1x128x256_5_0_0)) (View.ld x5 (Rect.unit ![5, 0, 0] ![1, 128, 256] inb_S8x128x512_S1x128x256_5_0_0))) (k0_pay76 (View.ld x6 (Rect.unit ![6, 2, 0] ![1, 1, 256] inb_S8x8x512_S1x1x256_6_2_0))) (k0_pay77 (View.ld x7 (Rect.unit ![6, 2, 0] ![1, 1, 256] inb_S8x8x512_S1x1x256_6_2_0))) (k0_pay78 (F := Ideal)) (View.ld x4 (Rect.unit ![6, 0, 0] ![1, 128, 256] inb_S8x128x512_S1x128x256_6_0_0)) (View.ld x5 (Rect.unit ![6, 0, 0] ![1, 128, 256] inb_S8x128x512_S1x128x256_6_0_0)) (View.ld x6 (Rect.unit ![7, 2, 0] ![1, 1, 256] inb_S8x8x512_S1x1x256_7_2_0)) (View.ld x7 (Rect.unit ![7, 2, 0] ![1, 1, 256] inb_S8x8x512_S1x1x256_7_2_0)) (View.ld x4 (Rect.unit ![7, 0, 0] ![1, 128, 256] inb_S8x128x512_S1x128x256_7_0_0)) (View.ld x5 (Rect.unit ![7, 0, 0] ![1, 128, 256] inb_S8x128x512_S1x128x256_7_0_0))) (k0_pay81 a) (k0_pay82 a) (Scalar.ofBits .f32 0x3F800000#32)) x
      = gate x4 x5 x6 x7 2 (x 1) ⟨0 + (x 2).val, by have : (x 2).val < 256 := (x 2).isLt; omega⟩ * act (a x) := by
  rw [piece_4]
  unfold gate
  rw [Fin.sum_univ_eight]
  exact congrArg (· * act (a x)) (congrArg₂ (· + ·) (congrArg₂ (· + ·) (congrArg₂ (· + ·) (congrArg₂ (· + ·) (congrArg₂ (· + ·) (congrArg₂ (· + ·) (congrArg₂ (· + ·) (weight_ld x4 x5 x6 x7 0 2 0 (by decide) (by decide) (by decide) _ _ x) (weight_ld x4 x5 x6 x7 1 2 0 (by decide) (by decide) (by decide) _ _ x)) (weight_ld x4 x5 x6 x7 2 2 0 (by decide) (by decide) (by decide) _ _ x)) (weight_ld x4 x5 x6 x7 3 2 0 (by decide) (by decide) (by decide) _ _ x)) (weight_ld x4 x5 x6 x7 4 2 0 (by decide) (by decide) (by decide) _ _ x)) (weight_ld x4 x5 x6 x7 5 2 0 (by decide) (by decide) (by decide) _ _ x)) (weight_ld x4 x5 x6 x7 6 2 0 (by decide) (by decide) (by decide) _ _ x)) (weight_ld x4 x5 x6 x7 7 2 0 (by decide) (by decide) (by decide) _ _ x))

theorem at_5 (x4 x5 : Vec Ideal S8x128x512 .bf16) (x6 x7 : Vec Ideal S8x8x512 .f32) (a : Vec Ideal S1x128x256 .f32)
    (x : S1x128x256.Idx) :
    (k0_pay92 ((k0_pay91 (k0_pay89 (k0_pay87 (k0_pay84 (View.ld x6 (Rect.unit ![0, 2, 256] ![1, 1, 256] inb_S8x8x512_S1x1x256_0_2_256)) (View.ld x7 (Rect.unit ![0, 2, 256] ![1, 1, 256] inb_S8x8x512_S1x1x256_0_2_256)) (View.ld x4 (Rect.unit ![0, 0, 256] ![1, 128, 256] inb_S8x128x512_S1x128x256_0_0_256)) (View.ld x5 (Rect.unit ![0, 0, 256] ![1, 128, 256] inb_S8x128x512_S1x128x256_0_0_256))) (k0_pay85 (View.ld x6 (Rect.unit ![1, 2, 256] ![1, 1, 256] inb_S8x8x512_S1x1x256_1_2_256))) (k0_pay86 (View.ld x7 (Rect.unit ![1, 2, 256] ![1, 1, 256] inb_S8x8x512_S1x1x256_1_2_256))) (View.ld x4 (Rect.unit ![1, 0, 256] ![1, 128, 256] inb_S8x128x512_S1x128x256_1_0_256)) (View.ld x5 (Rect.unit ![1, 0, 256] ![1, 128, 256] inb_S8x128x512_S1x128x256_1_0_256)) (View.ld x6 (Rect.unit ![2, 2, 256] ![1, 1, 256] inb_S8x8x512_S1x1x256_2_2_256)) (View.ld x7 (Rect.unit ![2, 2, 256] ![1, 1, 256] inb_S8x8x512_S1x1x256_2_2_256)) (View.ld x4 (Rect.unit ![2, 0, 256] ![1, 128, 256] inb_S8x128x512_S1x128x256_2_0_256)) (View.ld x5 (Rect.unit ![2, 0, 256] ![1, 128, 256] inb_S8x128x512_S1x128x256_2_0_256))) (k0_pay88 (View.ld x6 (Rect.unit ![3, 2, 256] ![1, 1, 256] inb_S8x8x512_S1x1x256_3_2_256))) (View.ld x7 (Rect.unit ![3, 2, 256] ![1, 1, 256] inb_S8x8x512_S1x1x256_3_2_256)) (View.ld x4 (Rect.unit ![3, 0, 256] ![1, 128, 256] inb_S8x128x512_S1x128x256_3_0_256)) (View.ld x5 (Rect.unit ![3, 0, 256] ![1, 128, 256] inb_S8x128x512_S1x128x256_3_0_256)) (View.ld x6 (Rect.unit ![4, 2, 256] ![1, 1, 256] inb_S8x8x512_S1x1x256_4_2_256)) (View.ld x7 (Rect.unit ![4, 2, 256] ![1, 1, 256] inb_S8x8x512_S1x1x256_4_2_256)) (View.ld x4 (Rect.unit ![4, 0, 256] ![1, 128, 256] inb_S8x128x512_S1x128x256_4_0_256)) (View.ld x5 (Rect.unit ![4, 0, 256] ![1, 128, 256] inb_S8x128x512_S1x128x256_4_0_256))) (k0_pay90 (View.ld x6 (Rect.unit ![5, 2, 256] ![1, 1, 256] inb_S8x8x512_S1x1x256_5_2_256))) (View.ld x7 (Rect.unit ![5, 2, 256] ![1, 1, 256] inb_S8x8x512_S1x1x256_5_2_256)) (View.ld x4 (Rect.unit ![5, 0, 256] ![1, 128, 256] inb_S8x128x512_S1x128x256_5_0_256)) (View.ld x5 (Rect.unit ![5, 0, 256] ![1, 128, 256] inb_S8x128x512_S1x128x256_5_0_256)) (View.ld x6 (Rect.unit ![6, 2, 256] ![1, 1, 256] inb_S8x8x512_S1x1x256_6_2_256)) (View.ld x7 (Rect.unit ![6, 2, 256] ![1, 1, 256] inb_S8x8x512_S1x1x256_6_2_256)) (View.ld x4 (Rect.unit ![6, 0, 256] ![1, 128, 256] inb_S8x128x512_S1x128x256_6_0_256)) (View.ld x5 (Rect.unit ![6, 0, 256] ![1, 128, 256] inb_S8x128x512_S1x128x256_6_0_256)))) (View.ld x6 (Rect.unit ![7, 2, 256] ![1, 1, 256] inb_S8x8x512_S1x1x256_7_2_256)) (View.ld x7 (Rect.unit ![7, 2, 256] ![1, 1, 256] inb_S8x8x512_S1x1x256_7_2_256)) (View.ld x4 (Rect.unit ![7, 0, 256] ![1, 128, 256] inb_S8x128x512_S1x128x256_7_0_256)) (View.ld x5 (Rect.unit ![7, 0, 256] ![1, 128, 256] inb_S8x128x512_S1x128x256_7_0_256)) a) x
      = gate x4 x5 x6 x7 2 (x 1) ⟨256 + (x 2).val, by have : (x 2).val < 256 := (x 2).isLt; omega⟩ * act (a x) := by
  rw [piece_5]
  unfold gate
  rw [Fin.sum_univ_eight]
  exact congrArg (· * act (a x)) (congrArg₂ (· + ·) (congrArg₂ (· + ·) (congrArg₂ (· + ·) (congrArg₂ (· + ·) (congrArg₂ (· + ·) (congrArg₂ (· + ·) (congrArg₂ (· + ·) (weight_ld x4 x5 x6 x7 0 2 256 (by decide) (by decide) (by decide) _ _ x) (weight_ld x4 x5 x6 x7 1 2 256 (by decide) (by decide) (by decide) _ _ x)) (weight_ld x4 x5 x6 x7 2 2 256 (by decide) (by decide) (by decide) _ _ x)) (weight_ld x4 x5 x6 x7 3 2 256 (by decide) (by decide) (by decide) _ _ x)) (weight_ld x4 x5 x6 x7 4 2 256 (by decide) (by decide) (by decide) _ _ x)) (weight_ld x4 x5 x6 x7 5 2 256 (by decide) (by decide) (by decide) _ _ x)) (weight_ld x4 x5 x6 x7 6 2 256 (by decide) (by decide) (by decide) _ _ x)) (weight_ld x4 x5 x6 x7 7 2 256 (by decide) (by decide) (by decide) _ _ x))

theorem at_6 (x4 x5 : Vec Ideal S8x128x512 .bf16) (x6 x7 : Vec Ideal S8x8x512 .f32) (a : Vec Ideal S1x128x256 .f32)
    (x : S1x128x256.Idx) :
    (k0_pay109 (k0_pay105 (k0_pay101 (k0_pay97 (k0_pay94 ((k0_pay93 (F := Ideal))) (View.ld x6 (Rect.unit ![0, 3, 0] ![1, 1, 256] inb_S8x8x512_S1x1x256_0_3_0)) (View.ld x7 (Rect.unit ![0, 3, 0] ![1, 1, 256] inb_S8x8x512_S1x1x256_0_3_0)) (View.ld x4 (Rect.unit ![0, 0, 0] ![1, 128, 256] inb_S8x128x512_S1x128x256_0_0_0)) (View.ld x5 (Rect.unit ![0, 0, 0] ![1, 128, 256] inb_S8x128x512_S1x128x256_0_0_0))) (k0_pay95 (View.ld x7 (Rect.unit ![1, 3, 0] ![1, 1, 256] inb_S8x8x512_S1x1x256_1_3_0))) (k0_pay96 (View.ld x6 (Rect.unit ![1, 3, 0] ![1, 1, 256] inb_S8x8x512_S1x1x256_1_3_0)) (View.ld x4 (Rect.unit ![1, 0, 0] ![1, 128, 256] inb_S8x128x512_S1x128x256_1_0_0)) (View.ld x5 (Rect.unit ![1, 0, 0] ![1, 128, 256] inb_S8x128x512_S1x128x256_1_0_0))) (View.ld x6 (Rect.unit ![2, 3, 0] ![1, 1, 256] inb_S8x8x512_S1x1x256_2_3_0)) (View.ld x7 (Rect.unit ![2, 3, 0] ![1, 1, 256] inb_S8x8x512_S1x1x256_2_3_0)) (View.ld x4 (Rect.unit ![2, 0, 0] ![1, 128, 256] inb_S8x128x512_S1x128x256_2_0_0)) (View.ld x5 (Rect.unit ![2, 0, 0] ![1, 128, 256] inb_S8x128x512_S1x128x256_2_0_0))) (k0_pay98 (View.ld x7 (Rect.unit ![3, 3, 0] ![1, 1, 256] inb_S8x8x512_S1x1x256_3_3_0))) (k0_pay99 (F := Ideal)) (k0_pay100 (View.ld x6 (Rect.unit ![3, 3, 0] ![1, 1, 256] inb_S8x8x512_S1x1x256_3_3_0)) (View.ld x4 (Rect.unit ![3, 0, 0] ![1, 128, 256] inb_S8x128x512_S1x128x256_3_0_0))) (View.ld x5 (Rect.unit ![3, 0, 0] ![1, 128, 256] inb_S8x128x512_S1x128x256_3_0_0)) (View.ld x6 (Rect.unit ![4, 3, 0] ![1, 1, 256] inb_S8x8x512_S1x1x256_4_3_0)) (View.ld x7 (Rect.unit ![4, 3, 0] ![1, 1, 256] inb_S8x8x512_S1x1x256_4_3_0)) (View.ld x4 (Rect.unit ![4, 0, 0] ![1, 128, 256] inb_S8x128x512_S1x128x256_4_0_0)) (View.ld x5 (Rect.unit ![4, 0, 0] ![1, 128, 256] inb_S8x128x512_S1x128x256_4_0_0))) (k0_pay102 (View.ld x6 (Rect.unit ![5, 3, 0] ![1, 1, 256] inb_S8x8x512_S1x1x256_5_3_0))) (k0_pay103 (View.ld x7 (Rect.unit ![5, 3, 0] ![1, 1, 256] inb_S8x8x512_S1x1x256_5_3_0))) (k0_pay104 (F := Ideal)) (View.ld x4 (Rect.unit ![5, 0, 0] ![1, 128, 256] inb_S8x128x512_S1x128x256_5_0_0)) (View.ld x5 (Rect.unit ![5, 0, 0] ![1, 128, 256] inb_S8x128x512_S1x128x256_5_0_0)) (View.ld x6 (Rect.unit ![6, 3, 0] ![1, 1, 256] inb_S8x8x512_S1x1x256_6_3_0)) (View.ld x7 (Rect.unit ![6, 3, 0] ![1, 1, 256] inb_S8x8x512_S1x1x256_6_3_0)) (View.ld x4 (Rect.unit ![6, 0, 0] ![1, 128, 256] inb_S8x128x512_S1x128x256_6_0_0)) (View.ld x5 (Rect.unit ![6, 0, 0] ![1, 128, 256] inb_S8x128x512_S1x128x256_6_0_0))) (k0_pay106 (View.ld x6 (Rect.unit ![7, 3, 0] ![1, 1, 256] inb_S8x8x512_S1x1x256_7_3_0))) (k0_pay107 (View.ld x7 (Rect.unit ![7, 3, 0] ![1, 1, 256] inb_S8x8x512_S1x1x256_7_3_0))) (k0_pay108 (F := Ideal)) (View.ld x4 (Rect.unit ![7, 0, 0] ![1, 128, 256] inb_S8x128x512_S1x128x256_7_0_0)) (View.ld x5 (Rect.unit ![7, 0, 0] ![1, 128, 256] inb_S8x128x512_S1x128x256_7_0_0)) a) x
      = gate x4 x5 x6 x7 3 (x 1) ⟨0 + (x 2).val, by have : (x 2).val < 256 := (x 2).isLt; omega⟩ * act (a x) := by
  rw [piece_6]
  unfold gate
  rw [Fin.sum_univ_eight]
  exact congrArg (· * act (a x)) (congrArg₂ (· + ·) (congrArg₂ (· + ·) (congrArg₂ (· + ·) (congrArg₂ (· + ·) (congrArg₂ (· + ·) (congrArg₂ (· + ·) (congrArg₂ (· + ·) (weight_ld x4 x5 x6 x7 0 3 0 (by decide) (by decide) (by decide) _ _ x) (weight_ld x4 x5 x6 x7 1 3 0 (by decide) (by decide) (by decide) _ _ x)) (weight_ld x4 x5 x6 x7 2 3 0 (by decide) (by decide) (by decide) _ _ x)) (weight_ld x4 x5 x6 x7 3 3 0 (by decide) (by decide) (by decide) _ _ x)) (weight_ld x4 x5 x6 x7 4 3 0 (by decide) (by decide) (by decide) _ _ x)) (weight_ld x4 x5 x6 x7 5 3 0 (by decide) (by decide) (by decide) _ _ x)) (weight_ld x4 x5 x6 x7 6 3 0 (by decide) (by decide) (by decide) _ _ x)) (weight_ld x4 x5 x6 x7 7 3 0 (by decide) (by decide) (by decide) _ _ x))

theorem at_7 (x4 x5 : Vec Ideal S8x128x512 .bf16) (x6 x7 : Vec Ideal S8x8x512 .f32) (a : Vec Ideal S1x128x256 .f32)
    (x : S1x128x256.Idx) :
    (k0_pay122 (k0_pay7 (F := Ideal)) ((k0_pay121 (k0_pay119 (k0_pay117 (k0_pay114 (k0_pay110 (F := Ideal)) (k0_pay111 (View.ld x6 (Rect.unit ![0, 3, 256] ![1, 1, 256] inb_S8x8x512_S1x1x256_0_3_256))) (k0_pay112 (View.ld x7 (Rect.unit ![0, 3, 256] ![1, 1, 256] inb_S8x8x512_S1x1x256_0_3_256))) (k0_pay113 (F := Ideal)) (View.ld x4 (Rect.unit ![0, 0, 256] ![1, 128, 256] inb_S8x128x512_S1x128x256_0_0_256)) (View.ld x5 (Rect.unit ![0, 0, 256] ![1, 128, 256] inb_S8x128x512_S1x128x256_0_0_256)) (View.ld x6 (Rect.unit ![1, 3, 256] ![1, 1, 256] inb_S8x8x512_S1x1x256_1_3_256)) (View.ld x7 (Rect.unit ![1, 3, 256] ![1, 1, 256] inb_S8x8x512_S1x1x256_1_3_256)) (View.ld x4 (Rect.unit ![1, 0, 256] ![1, 128, 256] inb_S8x128x512_S1x128x256_1_0_256)) (View.ld x5 (Rect.unit ![1, 0, 256] ![1, 128, 256] inb_S8x128x512_S1x128x256_1_0_256))) (k0_pay115 (View.ld x6 (Rect.unit ![2, 3, 256] ![1, 1, 256] inb_S8x8x512_S1x1x256_2_3_256))) (k0_pay116 (View.ld x7 (Rect.unit ![2, 3, 256] ![1, 1, 256] inb_S8x8x512_S1x1x256_2_3_256))) (View.ld x4 (Rect.unit ![2, 0, 256] ![1, 128, 256] inb_S8x128x512_S1x128x256_2_0_256)) (View.ld x5 (Rect.unit ![2, 0, 256] ![1, 128, 256] inb_S8x128x512_S1x128x256_2_0_256)) (View.ld x6 (Rect.unit ![3, 3, 256] ![1, 1, 256] inb_S8x8x512_S1x1x256_3_3_256)) (View.ld x7 (Rect.unit ![3, 3, 256] ![1, 1, 256] inb_S8x8x512_S1x1x256_3_3_256)) (View.ld x4 (Rect.unit ![3, 0, 256] ![1, 128, 256] inb_S8x128x512_S1x128x256_3_0_256)) (View.ld x5 (Rect.unit ![3, 0, 256] ![1, 128, 256] inb_S8x128x512_S1x128x256_3_0_256))) (k0_pay118 (View.ld x6 (Rect.unit ![4, 3, 256] ![1, 1, 256] inb_S8x8x512_S1x1x256_4_3_256))) (View.ld x7 (Rect.unit ![4, 3, 256] ![1, 1, 256] inb_S8x8x512_S1x1x256_4_3_256)) (View.ld x4 (Rect.unit ![4, 0, 256] ![1, 128, 256] inb_S8x128x512_S1x128x256_4_0_256)) (View.ld x5 (Rect.unit ![4, 0, 256] ![1, 128, 256] inb_S8x128x512_S1x128x256_4_0_256)) (View.ld x6 (Rect.unit ![5, 3, 256] ![1, 1, 256] inb_S8x8x512_S1x1x256_5_3_256)) (View.ld x7 (Rect.unit ![5, 3, 256] ![1, 1, 256] inb_S8x8x512_S1x1x256_5_3_256)) (View.ld x4 (Rect.unit ![5, 0, 256] ![1, 128, 256] inb_S8x128x512_S1x128x256_5_0_256)) (View.ld x5 (Rect.unit ![5, 0, 256] ![1, 128, 256] inb_S8x128x512_S1x128x256_5_0_256))) (k0_pay120 (View.ld x6 (Rect.unit ![6, 3, 256] ![1, 1, 256] inb_S8x8x512_S1x1x256_6_3_256))) (View.ld x7 (Rect.unit ![6, 3, 256] ![1, 1, 256] inb_S8x8x512_S1x1x256_6_3_256)) (View.ld x4 (Rect.unit ![6, 0, 256] ![1, 128, 256] inb_S8x128x512_S1x128x256_6_0_256)) (View.ld x5 (Rect.unit ![6, 0, 256] ![1, 128, 256] inb_S8x128x512_S1x128x256_6_0_256)) (View.ld x6 (Rect.unit ![7, 3, 256] ![1, 1, 256] inb_S8x8x512_S1x1x256_7_3_256)) (View.ld x7 (Rect.unit ![7, 3, 256] ![1, 1, 256] inb_S8x8x512_S1x1x256_7_3_256)) (View.ld x4 (Rect.unit ![7, 0, 256] ![1, 128, 256] inb_S8x128x512_S1x128x256_7_0_256)) (View.ld x5 (Rect.unit ![7, 0, 256] ![1, 128, 256] inb_S8x128x512_S1x128x256_7_0_256)))) a) x
      = gate x4 x5 x6 x7 3 (x 1) ⟨256 + (x 2).val, by have : (x 2).val < 256 := (x 2).isLt; omega⟩ * act (a x) := by
  rw [piece_7]
  unfold gate
  rw [Fin.sum_univ_eight]
  exact congrArg (· * act (a x)) (congrArg₂ (· + ·) (congrArg₂ (· + ·) (congrArg₂ (· + ·) (congrArg₂ (· + ·) (congrArg₂ (· + ·) (congrArg₂ (· + ·) (congrArg₂ (· + ·) (weight_ld x4 x5 x6 x7 0 3 256 (by decide) (by decide) (by decide) _ _ x) (weight_ld x4 x5 x6 x7 1 3 256 (by decide) (by decide) (by decide) _ _ x)) (weight_ld x4 x5 x6 x7 2 3 256 (by decide) (by decide) (by decide) _ _ x)) (weight_ld x4 x5 x6 x7 3 3 256 (by decide) (by decide) (by decide) _ _ x)) (weight_ld x4 x5 x6 x7 4 3 256 (by decide) (by decide) (by decide) _ _ x)) (weight_ld x4 x5 x6 x7 5 3 256 (by decide) (by decide) (by decide) _ _ x)) (weight_ld x4 x5 x6 x7 6 3 256 (by decide) (by decide) (by decide) _ _ x)) (weight_ld x4 x5 x6 x7 7 3 256 (by decide) (by decide) (by decide) _ _ x))

theorem at_8 (x4 x5 : Vec Ideal S8x128x512 .bf16) (x6 x7 : Vec Ideal S8x8x512 .f32) (a : Vec Ideal S1x128x256 .f32)
    (x : S1x128x256.Idx) :
    (k0_pay138 (k0_pay136 (k0_pay133 (k0_pay130 (k0_pay126 (View.ld x6 (Rect.unit ![0, 4, 0] ![1, 1, 256] inb_S8x8x512_S1x1x256_0_4_0)) (View.ld x7 (Rect.unit ![0, 4, 0] ![1, 1, 256] inb_S8x8x512_S1x1x256_0_4_0)) (View.ld x4 (Rect.unit ![0, 0, 0] ![1, 128, 256] inb_S8x128x512_S1x128x256_0_0_0)) (View.ld x5 (Rect.unit ![0, 0, 0] ![1, 128, 256] inb_S8x128x512_S1x128x256_0_0_0))) (k0_pay127 (View.ld x6 (Rect.unit ![1, 4, 0] ![1, 1, 256] inb_S8x8x512_S1x1x256_1_4_0))) (k0_pay128 (View.ld x7 (Rect.unit ![1, 4, 0] ![1, 1, 256] inb_S8x8x512_S1x1x256_1_4_0))) (k0_pay129 (F := Ideal)) (View.ld x4 (Rect.unit ![1, 0, 0] ![1, 128, 256] inb_S8x128x512_S1x128x256_1_0_0)) (View.ld x5 (Rect.unit ![1, 0, 0] ![1, 128, 256] inb_S8x128x512_S1x128x256_1_0_0)) (View.ld x6 (Rect.unit ![2, 4, 0] ![1, 1, 256] inb_S8x8x512_S1x1x256_2_4_0)) (View.ld x7 (Rect.unit ![2, 4, 0] ![1, 1, 256] inb_S8x8x512_S1x1x256_2_4_0)) (View.ld x4 (Rect.unit ![2, 0, 0] ![1, 128, 256] inb_S8x128x512_S1x128x256_2_0_0)) (View.ld x5 (Rect.unit ![2, 0, 0] ![1, 128, 256] inb_S8x128x512_S1x128x256_2_0_0))) (k0_pay131 (View.ld x6 (Rect.unit ![3, 4, 0] ![1, 1, 256] inb_S8x8x512_S1x1x256_3_4_0))) (k0_pay132 (View.ld x7 (Rect.unit ![3, 4, 0] ![1, 1, 256] inb_S8x8x512_S1x1x256_3_4_0))) (Scalar.ofBits .bf16 0x0000#16) (View.ld x4 (Rect.unit ![3, 0, 0] ![1, 128, 256] inb_S8x128x512_S1x128x256_3_0_0)) (View.ld x5 (Rect.unit ![3, 0, 0] ![1, 128, 256] inb_S8x128x512_S1x128x256_3_0_0)) (View.ld x6 (Rect.unit ![4, 4, 0] ![1, 1, 256] inb_S8x8x512_S1x1x256_4_4_0)) (View.ld x7 (Rect.unit ![4, 4, 0] ![1, 1, 256] inb_S8x8x512_S1x1x256_4_4_0)) (View.ld x4 (Rect.unit ![4, 0, 0] ![1, 128, 256] inb_S8x128x512_S1x128x256_4_0_0)) (View.ld x5 (Rect.unit ![4, 0, 0] ![1, 128, 256] inb_S8x128x512_S1x128x256_4_0_0))) (k0_pay134 (View.ld x6 (Rect.unit ![5, 4, 0] ![1, 1, 256] inb_S8x8x512_S1x1x256_5_4_0))) (k0_pay135 (View.ld x7 (Rect.unit ![5, 4, 0] ![1, 1, 256] inb_S8x8x512_S1x1x256_5_4_0))) (View.ld x4 (Rect.unit ![5, 0, 0] ![1, 128, 256] inb_S8x128x512_S1x128x256_5_0_0)) (View.ld x5 (Rect.unit ![5, 0, 0] ![1, 128, 256] inb_S8x128x512_S1x128x256_5_0_0)) (View.ld x6 (Rect.unit ![6, 4, 0] ![1, 1, 256] inb_S8x8x512_S1x1x256_6_4_0)) (View.ld x7 (Rect.unit ![6, 4, 0] ![1, 1, 256] inb_S8x8x512_S1x1x256_6_4_0)) (View.ld x4 (Rect.unit ![6, 0, 0] ![1, 128, 256] inb_S8x128x512_S1x128x256_6_0_0)) (View.ld x5 (Rect.unit ![6, 0, 0] ![1, 128, 256] inb_S8x128x512_S1x128x256_6_0_0))) (k0_pay137 (View.ld x6 (Rect.unit ![7, 4, 0] ![1, 1, 256] inb_S8x8x512_S1x1x256_7_4_0))) (View.ld x7 (Rect.unit ![7, 4, 0] ![1, 1, 256] inb_S8x8x512_S1x1x256_7_4_0)) (View.ld x4 (Rect.unit ![7, 0, 0] ![1, 128, 256] inb_S8x128x512_S1x128x256_7_0_0)) (View.ld x5 (Rect.unit ![7, 0, 0] ![1, 128, 256] inb_S8x128x512_S1x128x256_7_0_0)) a) x
      = gate x4 x5 x6 x7 4 (x 1) ⟨0 + (x 2).val, by have : (x 2).val < 256 := (x 2).isLt; omega⟩ * act (a x) := by
  rw [piece_8]
  unfold gate
  rw [Fin.sum_univ_eight]
  exact congrArg (· * act (a x)) (congrArg₂ (· + ·) (congrArg₂ (· + ·) (congrArg₂ (· + ·) (congrArg₂ (· + ·) (congrArg₂ (· + ·) (congrArg₂ (· + ·) (congrArg₂ (· + ·) (weight_ld x4 x5 x6 x7 0 4 0 (by decide) (by decide) (by decide) _ _ x) (weight_ld x4 x5 x6 x7 1 4 0 (by decide) (by decide) (by decide) _ _ x)) (weight_ld x4 x5 x6 x7 2 4 0 (by decide) (by decide) (by decide) _ _ x)) (weight_ld x4 x5 x6 x7 3 4 0 (by decide) (by decide) (by decide) _ _ x)) (weight_ld x4 x5 x6 x7 4 4 0 (by decide) (by decide) (by decide) _ _ x)) (weight_ld x4 x5 x6 x7 5 4 0 (by decide) (by decide) (by decide) _ _ x)) (weight_ld x4 x5 x6 x7 6 4 0 (by decide) (by decide) (by decide) _ _ x)) (weight_ld x4 x5 x6 x7 7 4 0 (by decide) (by decide) (by decide) _ _ x))

theorem at_9 (x4 x5 : Vec Ideal S8x128x512 .bf16) (x6 x7 : Vec Ideal S8x8x512 .f32) (a : Vec Ideal S1x128x256 .f32)
    (x : S1x128x256.Idx) :
    (k0_pay153 (k0_pay149 (k0_pay144 ((k0_pay143 (k0_pay141 (k0_pay139 (F := Ideal)) (k0_pay140 (View.ld x6 (Rect.unit ![0, 4, 256] ![1, 1, 256] inb_S8x8x512_S1x1x256_0_4_256))) (View.ld x7 (Rect.unit ![0, 4, 256] ![1, 1, 256] inb_S8x8x512_S1x1x256_0_4_256)) (View.ld x4 (Rect.unit ![0, 0, 256] ![1, 128, 256] inb_S8x128x512_S1x128x256_0_0_256)) (View.ld x5 (Rect.unit ![0, 0, 256] ![1, 128, 256] inb_S8x128x512_S1x128x256_0_0_256)) (View.ld x6 (Rect.unit ![1, 4, 256] ![1, 1, 256] inb_S8x8x512_S1x1x256_1_4_256)) (View.ld x7 (Rect.unit ![1, 4, 256] ![1, 1, 256] inb_S8x8x512_S1x1x256_1_4_256)) (View.ld x4 (Rect.unit ![1, 0, 256] ![1, 128, 256] inb_S8x128x512_S1x128x256_1_0_256)) (View.ld x5 (Rect.unit ![1, 0, 256] ![1, 128, 256] inb_S8x128x512_S1x128x256_1_0_256))) (k0_pay142 (View.ld x6 (Rect.unit ![2, 4, 256] ![1, 1, 256] inb_S8x8x512_S1x1x256_2_4_256))) (View.ld x7 (Rect.unit ![2, 4, 256] ![1, 1, 256] inb_S8x8x512_S1x1x256_2_4_256)) (View.ld x4 (Rect.unit ![2, 0, 256] ![1, 128, 256] inb_S8x128x512_S1x128x256_2_0_256)) (View.ld x5 (Rect.unit ![2, 0, 256] ![1, 128, 256] inb_S8x128x512_S1x128x256_2_0_256)) (View.ld x6 (Rect.unit ![3, 4, 256] ![1, 1, 256] inb_S8x8x512_S1x1x256_3_4_256)) (View.ld x7 (Rect.unit ![3, 4, 256] ![1, 1, 256] inb_S8x8x512_S1x1x256_3_4_256)) (View.ld x4 (Rect.unit ![3, 0, 256] ![1, 128, 256] inb_S8x128x512_S1x128x256_3_0_256)) (View.ld x5 (Rect.unit ![3, 0, 256] ![1, 128, 256] inb_S8x128x512_S1x128x256_3_0_256)))) (View.ld x6 (Rect.unit ![4, 4, 256] ![1, 1, 256] inb_S8x8x512_S1x1x256_4_4_256)) (View.ld x7 (Rect.unit ![4, 4, 256] ![1, 1, 256] inb_S8x8x512_S1x1x256_4_4_256)) (View.ld x4 (Rect.unit ![4, 0, 256] ![1, 128, 256] inb_S8x128x512_S1x128x256_4_0_256)) (View.ld x5 (Rect.unit ![4, 0, 256] ![1, 128, 256] inb_S8x128x512_S1x128x256_4_0_256))) (k0_pay145 (View.ld x7 (Rect.unit ![5, 4, 256] ![1, 1, 256] inb_S8x8x512_S1x1x256_5_4_256))) (k0_pay146 (F := Ideal)) (k0_pay147 (View.ld x6 (Rect.unit ![5, 4, 256] ![1, 1, 256] inb_S8x8x512_S1x1x256_5_4_256)) (View.ld x4 (Rect.unit ![5, 0, 256] ![1, 128, 256] inb_S8x128x512_S1x128x256_5_0_256))) (k0_pay148 (View.ld x5 (Rect.unit ![5, 0, 256] ![1, 128, 256] inb_S8x128x512_S1x128x256_5_0_256))) (View.ld x6 (Rect.unit ![6, 4, 256] ![1, 1, 256] inb_S8x8x512_S1x1x256_6_4_256)) (View.ld x7 (Rect.unit ![6, 4, 256] ![1, 1, 256] inb_S8x8x512_S1x1x256_6_4_256)) (View.ld x4 (Rect.unit ![6, 0, 256] ![1, 128, 256] inb_S8x128x512_S1x128x256_6_0_256)) (View.ld x5 (Rect.unit ![6, 0, 256] ![1, 128, 256] inb_S8x128x512_S1x128x256_6_0_256))) (k0_pay150 (View.ld x7 (Rect.unit ![7, 4, 256] ![1, 1, 256] inb_S8x8x512_S1x1x256_7_4_256))) (k0_pay151 (F := Ideal)) (k0_pay152 (View.ld x6 (Rect.unit ![7, 4, 256] ![1, 1, 256] inb_S8x8x512_S1x1x256_7_4_256)) (View.ld x4 (Rect.unit ![7, 0, 256] ![1, 128, 256] inb_S8x128x512_S1x128x256_7_0_256))) (View.ld x5 (Rect.unit ![7, 0, 256] ![1, 128, 256] inb_S8x128x512_S1x128x256_7_0_256)) a) x
      = gate x4 x5 x6 x7 4 (x 1) ⟨256 + (x 2).val, by have : (x 2).val < 256 := (x 2).isLt; omega⟩ * act (a x) := by
  rw [piece_9]
  unfold gate
  rw [Fin.sum_univ_eight]
  exact congrArg (· * act (a x)) (congrArg₂ (· + ·) (congrArg₂ (· + ·) (congrArg₂ (· + ·) (congrArg₂ (· + ·) (congrArg₂ (· + ·) (congrArg₂ (· + ·) (congrArg₂ (· + ·) (weight_ld x4 x5 x6 x7 0 4 256 (by decide) (by decide) (by decide) _ _ x) (weight_ld x4 x5 x6 x7 1 4 256 (by decide) (by decide) (by decide) _ _ x)) (weight_ld x4 x5 x6 x7 2 4 256 (by decide) (by decide) (by decide) _ _ x)) (weight_ld x4 x5 x6 x7 3 4 256 (by decide) (by decide) (by decide) _ _ x)) (weight_ld x4 x5 x6 x7 4 4 256 (by decide) (by decide) (by decide) _ _ x)) (weight_ld x4 x5 x6 x7 5 4 256 (by decide) (by decide) (by decide) _ _ x)) (weight_ld x4 x5 x6 x7 6 4 256 (by decide) (by decide) (by decide) _ _ x)) (weight_ld x4 x5 x6 x7 7 4 256 (by decide) (by decide) (by decide) _ _ x))

theorem at_10 (x4 x5 : Vec Ideal S8x128x512 .bf16) (x6 x7 : Vec Ideal S8x8x512 .f32) (a : Vec Ideal S1x128x256 .f32)
    (x : S1x128x256.Idx) :
    (k0_pay171 (k0_pay168 (k0_pay165 (k0_pay162 (k0_pay158 (k0_pay154 (F := Ideal)) (k0_pay155 (View.ld x7 (Rect.unit ![0, 5, 0] ![1, 1, 256] inb_S8x8x512_S1x1x256_0_5_0))) (k0_pay156 (F := Ideal)) (k0_pay157 (View.ld x6 (Rect.unit ![0, 5, 0] ![1, 1, 256] inb_S8x8x512_S1x1x256_0_5_0)) (View.ld x4 (Rect.unit ![0, 0, 0] ![1, 128, 256] inb_S8x128x512_S1x128x256_0_0_0))) (View.ld x5 (Rect.unit ![0, 0, 0] ![1, 128, 256] inb_S8x128x512_S1x128x256_0_0_0)) (View.ld x6 (Rect.unit ![1, 5, 0] ![1, 1, 256] inb_S8x8x512_S1x1x256_1_5_0)) (View.ld x7 (Rect.unit ![1, 5, 0] ![1, 1, 256] inb_S8x8x512_S1x1x256_1_5_0)) (View.ld x4 (Rect.unit ![1, 0, 0] ![1, 128, 256] inb_S8x128x512_S1x128x256_1_0_0)) (View.ld x5 (Rect.unit ![1, 0, 0] ![1, 128, 256] inb_S8x128x512_S1x128x256_1_0_0))) (k0_pay159 (View.ld x6 (Rect.unit ![2, 5, 0] ![1, 1, 256] inb_S8x8x512_S1x1x256_2_5_0))) (k0_pay160 (View.ld x7 (Rect.unit ![2, 5, 0] ![1, 1, 256] inb_S8x8x512_S1x1x256_2_5_0))) (k0_pay161 (F := Ideal)) (View.ld x4 (Rect.unit ![2, 0, 0] ![1, 128, 256] inb_S8x128x512_S1x128x256_2_0_0)) (View.ld x5 (Rect.unit ![2, 0, 0] ![1, 128, 256] inb_S8x128x512_S1x128x256_2_0_0)) (View.ld x6 (Rect.unit ![3, 5, 0] ![1, 1, 256] inb_S8x8x512_S1x1x256_3_5_0)) (View.ld x7 (Rect.unit ![3, 5, 0] ![1, 1, 256] inb_S8x8x512_S1x1x256_3_5_0)) (View.ld x4 (Rect.unit ![3, 0, 0] ![1, 128, 256] inb_S8x128x512_S1x128x256_3_0_0)) (View.ld x5 (Rect.unit ![3, 0, 0] ![1, 128, 256] inb_S8x128x512_S1x128x256_3_0_0))) (k0_pay163 (View.ld x6 (Rect.unit ![4, 5, 0] ![1, 1, 256] inb_S8x8x512_S1x1x256_4_5_0))) (k0_pay164 (View.ld x7 (Rect.unit ![4, 5, 0] ![1, 1, 256] inb_S8x8x512_S1x1x256_4_5_0))) (Scalar.ofBits .bf16 0x0000#16) (View.ld x4 (Rect.unit ![4, 0, 0] ![1, 128, 256] inb_S8x128x512_S1x128x256_4_0_0)) (View.ld x5 (Rect.unit ![4, 0, 0] ![1, 128, 256] inb_S8x128x512_S1x128x256_4_0_0)) (View.ld x6 (Rect.unit ![5, 5, 0] ![1, 1, 256] inb_S8x8x512_S1x1x256_5_5_0)) (View.ld x7 (Rect.unit ![5, 5, 0] ![1, 1, 256] inb_S8x8x512_S1x1x256_5_5_0)) (View.ld x4 (Rect.unit ![5, 0, 0] ![1, 128, 256] inb_S8x128x512_S1x128x256_5_0_0)) (View.ld x5 (Rect.unit ![5, 0, 0] ![1, 128, 256] inb_S8x128x512_S1x128x256_5_0_0))) (k0_pay166 (View.ld x6 (Rect.unit ![6, 5, 0] ![1, 1, 256] inb_S8x8x512_S1x1x256_6_5_0))) (k0_pay167 (View.ld x7 (Rect.unit ![6, 5, 0] ![1, 1, 256] inb_S8x8x512_S1x1x256_6_5_0))) (View.ld x4 (Rect.unit ![6, 0, 0] ![1, 128, 256] inb_S8x128x512_S1x128x256_6_0_0)) (View.ld x5 (Rect.unit ![6, 0, 0] ![1, 128, 256] inb_S8x128x512_S1x128x256_6_0_0)) (View.ld x6 (Rect.unit ![7, 5, 0] ![1, 1, 256] inb_S8x8x512_S1x1x256_7_5_0)) (View.ld x7 (Rect.unit ![7, 5, 0] ![1, 1, 256] inb_S8x8x512_S1x1x256_7_5_0)) (View.ld x4 (Rect.unit ![7, 0, 0] ![1, 128, 256] inb_S8x128x512_S1x128x256_7_0_0)) (View.ld x5 (Rect.unit ![7, 0, 0] ![1, 128, 256] inb_S8x128x512_S1x128x256_7_0_0))) (k0_pay169 a) (k0_pay170 a)) x
      = gate x4 x5 x6 x7 5 (x 1) ⟨0 + (x 2).val, by have : (x 2).val < 256 := (x 2).isLt; omega⟩ * act (a x) := by
  rw [piece_10]
  unfold gate
  rw [Fin.sum_univ_eight]
  exact congrArg (· * act (a x)) (congrArg₂ (· + ·) (congrArg₂ (· + ·) (congrArg₂ (· + ·) (congrArg₂ (· + ·) (congrArg₂ (· + ·) (congrArg₂ (· + ·) (congrArg₂ (· + ·) (weight_ld x4 x5 x6 x7 0 5 0 (by decide) (by decide) (by decide) _ _ x) (weight_ld x4 x5 x6 x7 1 5 0 (by decide) (by decide) (by decide) _ _ x)) (weight_ld x4 x5 x6 x7 2 5 0 (by decide) (by decide) (by decide) _ _ x)) (weight_ld x4 x5 x6 x7 3 5 0 (by decide) (by decide) (by decide) _ _ x)) (weight_ld x4 x5 x6 x7 4 5 0 (by decide) (by decide) (by decide) _ _ x)) (weight_ld x4 x5 x6 x7 5 5 0 (by decide) (by decide) (by decide) _ _ x)) (weight_ld x4 x5 x6 x7 6 5 0 (by decide) (by decide) (by decide) _ _ x)) (weight_ld x4 x5 x6 x7 7 5 0 (by decide) (by decide) (by decide) _ _ x))

theorem at_11 (x4 x5 : Vec Ideal S8x128x512 .bf16) (x6 x7 : Vec Ideal S8x8x512 .f32) (a : Vec Ideal S1x128x256 .f32)
    (x : S1x128x256.Idx) :
    ((k0_pay182 (k0_pay177 ((k0_pay176 (k0_pay174 (k0_pay172 (View.ld x6 (Rect.unit ![0, 5, 256] ![1, 1, 256] inb_S8x8x512_S1x1x256_0_5_256)) (View.ld x7 (Rect.unit ![0, 5, 256] ![1, 1, 256] inb_S8x8x512_S1x1x256_0_5_256)) (View.ld x4 (Rect.unit ![0, 0, 256] ![1, 128, 256] inb_S8x128x512_S1x128x256_0_0_256)) (View.ld x5 (Rect.unit ![0, 0, 256] ![1, 128, 256] inb_S8x128x512_S1x128x256_0_0_256))) (k0_pay173 (View.ld x6 (Rect.unit ![1, 5, 256] ![1, 1, 256] inb_S8x8x512_S1x1x256_1_5_256))) (View.ld x7 (Rect.unit ![1, 5, 256] ![1, 1, 256] inb_S8x8x512_S1x1x256_1_5_256)) (View.ld x4 (Rect.unit ![1, 0, 256] ![1, 128, 256] inb_S8x128x512_S1x128x256_1_0_256)) (View.ld x5 (Rect.unit ![1, 0, 256] ![1, 128, 256] inb_S8x128x512_S1x128x256_1_0_256)) (View.ld x6 (Rect.unit ![2, 5, 256] ![1, 1, 256] inb_S8x8x512_S1x1x256_2_5_256)) (View.ld x7 (Rect.unit ![2, 5, 256] ![1, 1, 256] inb_S8x8x512_S1x1x256_2_5_256)) (View.ld x4 (Rect.unit ![2, 0, 256] ![1, 128, 256] inb_S8x128x512_S1x128x256_2_0_256)) (View.ld x5 (Rect.unit ![2, 0, 256] ![1, 128, 256] inb_S8x128x512_S1x128x256_2_0_256))) (k0_pay175 (View.ld x6 (Rect.unit ![3, 5, 256] ![1, 1, 256] inb_S8x8x512_S1x1x256_3_5_256))) (View.ld x7 (Rect.unit ![3, 5, 256] ![1, 1, 256] inb_S8x8x512_S1x1x256_3_5_256)) (View.ld x4 (Rect.unit ![3, 0, 256] ![1, 128, 256] inb_S8x128x512_S1x128x256_3_0_256)) (View.ld x5 (Rect.unit ![3, 0, 256] ![1, 128, 256] inb_S8x128x512_S1x128x256_3_0_256)) (View.ld x6 (Rect.unit ![4, 5, 256] ![1, 1, 256] inb_S8x8x512_S1x1x256_4_5_256)) (View.ld x7 (Rect.unit ![4, 5, 256] ![1, 1, 256] inb_S8x8x512_S1x1x256_4_5_256)) (View.ld x4 (Rect.unit ![4, 0, 256] ![1, 128, 256] inb_S8x128x512_S1x128x256_4_0_256)) (View.ld x5 (Rect.unit ![4, 0, 256] ![1, 128, 256] inb_S8x128x512_S1x128x256_4_0_256)))) (View.ld x6 (Rect.unit ![5, 5, 256] ![1, 1, 256] inb_S8x8x512_S1x1x256_5_5_256)) (View.ld x7 (Rect.unit ![5, 5, 256] ![1, 1, 256] inb_S8x8x512_S1x1x256_5_5_256)) (View.ld x4 (Rect.unit ![5, 0, 256] ![1, 128, 256] inb_S8x128x512_S1x128x256_5_0_256)) (View.ld x5 (Rect.unit ![5, 0, 256] ![1, 128, 256] inb_S8x128x512_S1x128x256_5_0_256))) (k0_pay178 (View.ld x7 (Rect.unit ![6, 5, 256] ![1, 1, 256] inb_S8x8x512_S1x1x256_6_5_256))) (k0_pay179 (F := Ideal)) (k0_pay180 (View.ld x6 (Rect.unit ![6, 5, 256] ![1, 1, 256] inb_S8x8x512_S1x1x256_6_5_256)) (View.ld x4 (Rect.unit ![6, 0, 256] ![1, 128, 256] inb_S8x128x512_S1x128x256_6_0_256))) (k0_pay181 (View.ld x5 (Rect.unit ![6, 0, 256] ![1, 128, 256] inb_S8x128x512_S1x128x256_6_0_256))) (View.ld x6 (Rect.unit ![7, 5, 256] ![1, 1, 256] inb_S8x8x512_S1x1x256_7_5_256)) (View.ld x7 (Rect.unit ![7, 5, 256] ![1, 1, 256] inb_S8x8x512_S1x1x256_7_5_256)) (View.ld x4 (Rect.unit ![7, 0, 256] ![1, 128, 256] inb_S8x128x512_S1x128x256_7_0_256)) (View.ld x5 (Rect.unit ![7, 0, 256] ![1, 128, 256] inb_S8x128x512_S1x128x256_7_0_256)) a)) x
      = gate x4 x5 x6 x7 5 (x 1) ⟨256 + (x 2).val, by have : (x 2).val < 256 := (x 2).isLt; omega⟩ * act (a x) := by
  rw [piece_11]
  unfold gate
  rw [Fin.sum_univ_eight]
  exact congrArg (· * act (a x)) (congrArg₂ (· + ·) (congrArg₂ (· + ·) (congrArg₂ (· + ·) (congrArg₂ (· + ·) (congrArg₂ (· + ·) (congrArg₂ (· + ·) (congrArg₂ (· + ·) (weight_ld x4 x5 x6 x7 0 5 256 (by decide) (by decide) (by decide) _ _ x) (weight_ld x4 x5 x6 x7 1 5 256 (by decide) (by decide) (by decide) _ _ x)) (weight_ld x4 x5 x6 x7 2 5 256 (by decide) (by decide) (by decide) _ _ x)) (weight_ld x4 x5 x6 x7 3 5 256 (by decide) (by decide) (by decide) _ _ x)) (weight_ld x4 x5 x6 x7 4 5 256 (by decide) (by decide) (by decide) _ _ x)) (weight_ld x4 x5 x6 x7 5 5 256 (by decide) (by decide) (by decide) _ _ x)) (weight_ld x4 x5 x6 x7 6 5 256 (by decide) (by decide) (by decide) _ _ x)) (weight_ld x4 x5 x6 x7 7 5 256 (by decide) (by decide) (by decide) _ _ x))

theorem at_12 (x4 x5 : Vec Ideal S8x128x512 .bf16) (x6 x7 : Vec Ideal S8x8x512 .f32) (a : Vec Ideal S1x128x256 .f32)
    (x : S1x128x256.Idx) :
    (k0_pay197 (k0_pay194 (k0_pay191 (k0_pay187 (k0_pay183 (View.ld x6 (Rect.unit ![0, 6, 0] ![1, 1, 256] inb_S8x8x512_S1x1x256_0_6_0)) (View.ld x7 (Rect.unit ![0, 6, 0] ![1, 1, 256] inb_S8x8x512_S1x1x256_0_6_0)) (View.ld x4 (Rect.unit ![0, 0, 0] ![1, 128, 256] inb_S8x128x512_S1x128x256_0_0_0)) (View.ld x5 (Rect.unit ![0, 0, 0] ![1, 128, 256] inb_S8x128x512_S1x128x256_0_0_0))) (k0_pay184 (View.ld x7 (Rect.unit ![1, 6, 0] ![1, 1, 256] inb_S8x8x512_S1x1x256_1_6_0))) (k0_pay185 (F := Ideal)) (k0_pay186 (View.ld x6 (Rect.unit ![1, 6, 0] ![1, 1, 256] inb_S8x8x512_S1x1x256_1_6_0)) (View.ld x4 (Rect.unit ![1, 0, 0] ![1, 128, 256] inb_S8x128x512_S1x128x256_1_0_0))) (View.ld x5 (Rect.unit ![1, 0, 0] ![1, 128, 256] inb_S8x128x512_S1x128x256_1_0_0)) (View.ld x6 (Rect.unit ![2, 6, 0] ![1, 1, 256] inb_S8x8x512_S1x1x256_2_6_0)) (View.ld x7 (Rect.unit ![2, 6, 0] ![1, 1, 256] inb_S8x8x512_S1x1x256_2_6_0)) (View.ld x4 (Rect.unit ![2, 0, 0] ![1, 128, 256] inb_S8x128x512_S1x128x256_2_0_0)) (View.ld x5 (Rect.unit ![2, 0, 0] ![1, 128, 256] inb_S8x128x512_S1x128x256_2_0_0))) (k0_pay188 (View.ld x6 (Rect.unit ![3, 6, 0] ![1, 1, 256] inb_S8x8x512_S1x1x256_3_6_0))) (k0_pay189 (View.ld x7 (Rect.unit ![3, 6, 0] ![1, 1, 256] inb_S8x8x512_S1x1x256_3_6_0))) (k0_pay190 (F := Ideal)) (View.ld x4 (Rect.unit ![3, 0, 0] ![1, 128, 256] inb_S8x128x512_S1x128x256_3_0_0)) (View.ld x5 (Rect.unit ![3, 0, 0] ![1, 128, 256] inb_S8x128x512_S1x128x256_3_0_0)) (View.ld x6 (Rect.unit ![4, 6, 0] ![1, 1, 256] inb_S8x8x512_S1x1x256_4_6_0)) (View.ld x7 (Rect.unit ![4, 6, 0] ![1, 1, 256] inb_S8x8x512_S1x1x256_4_6_0)) (View.ld x4 (Rect.unit ![4, 0, 0] ![1, 128, 256] inb_S8x128x512_S1x128x256_4_0_0)) (View.ld x5 (Rect.unit ![4, 0, 0] ![1, 128, 256] inb_S8x128x512_S1x128x256_4_0_0))) (k0_pay192 (View.ld x6 (Rect.unit ![5, 6, 0] ![1, 1, 256] inb_S8x8x512_S1x1x256_5_6_0))) (k0_pay193 (View.ld x7 (Rect.unit ![5, 6, 0] ![1, 1, 256] inb_S8x8x512_S1x1x256_5_6_0))) (Scalar.ofBits .bf16 0x0000#16) (View.ld x4 (Rect.unit ![5, 0, 0] ![1, 128, 256] inb_S8x128x512_S1x128x256_5_0_0)) (View.ld x5 (Rect.unit ![5, 0, 0] ![1, 128, 256] inb_S8x128x512_S1x128x256_5_0_0)) (View.ld x6 (Rect.unit ![6, 6, 0] ![1, 1, 256] inb_S8x8x512_S1x1x256_6_6_0)) (View.ld x7 (Rect.unit ![6, 6, 0] ![1, 1, 256] inb_S8x8x512_S1x1x256_6_6_0)) (View.ld x4 (Rect.unit ![6, 0, 0] ![1, 128, 256] inb_S8x128x512_S1x128x256_6_0_0)) (View.ld x5 (Rect.unit ![6, 0, 0] ![1, 128, 256] inb_S8x128x512_S1x128x256_6_0_0))) (k0_pay195 (View.ld x6 (Rect.unit ![7, 6, 0] ![1, 1, 256] inb_S8x8x512_S1x1x256_7_6_0))) (k0_pay196 (View.ld x7 (Rect.unit ![7, 6, 0] ![1, 1, 256] inb_S8x8x512_S1x1x256_7_6_0))) (View.ld x4 (Rect.unit ![7, 0, 0] ![1, 128, 256] inb_S8x128x512_S1x128x256_7_0_0)) (View.ld x5 (Rect.unit ![7, 0, 0] ![1, 128, 256] inb_S8x128x512_S1x128x256_7_0_0)) a) x
      = gate x4 x5 x6 x7 6 (x 1) ⟨0 + (x 2).val, by have : (x 2).val < 256 := (x 2).isLt; omega⟩ * act (a x) := by
  rw [piece_12]
  unfold gate
  rw [Fin.sum_univ_eight]
  exact congrArg (· * act (a x)) (congrArg₂ (· + ·) (congrArg₂ (· + ·) (congrArg₂ (· + ·) (congrArg₂ (· + ·) (congrArg₂ (· + ·) (congrArg₂ (· + ·) (congrArg₂ (· + ·) (weight_ld x4 x5 x6 x7 0 6 0 (by decide) (by decide) (by decide) _ _ x) (weight_ld x4 x5 x6 x7 1 6 0 (by decide) (by decide) (by decide) _ _ x)) (weight_ld x4 x5 x6 x7 2 6 0 (by decide) (by decide) (by decide) _ _ x)) (weight_ld x4 x5 x6 x7 3 6 0 (by decide) (by decide) (by decide) _ _ x)) (weight_ld x4 x5 x6 x7 4 6 0 (by decide) (by decide) (by decide) _ _ x)) (weight_ld x4 x5 x6 x7 5 6 0 (by decide) (by decide) (by decide) _ _ x)) (weight_ld x4 x5 x6 x7 6 6 0 (by decide) (by decide) (by decide) _ _ x)) (weight_ld x4 x5 x6 x7 7 6 0 (by decide) (by decide) (by decide) _ _ x))

theorem at_13 (x4 x5 : Vec Ideal S8x128x512 .bf16) (x6 x7 : Vec Ideal S8x8x512 .f32) (a : Vec Ideal S1x128x256 .f32)
    (x : S1x128x256.Idx) :
    (k0_pay211 (k0_pay206 ((k0_pay205 (k0_pay203 (k0_pay201 (k0_pay198 (F := Ideal)) (k0_pay199 (View.ld x6 (Rect.unit ![0, 6, 256] ![1, 1, 256] inb_S8x8x512_S1x1x256_0_6_256))) (k0_pay200 (View.ld x7 (Rect.unit ![0, 6, 256] ![1, 1, 256] inb_S8x8x512_S1x1x256_0_6_256))) (View.ld x4 (Rect.unit ![0, 0, 256] ![1, 128, 256] inb_S8x128x512_S1x128x256_0_0_256)) (View.ld x5 (Rect.unit ![0, 0, 256] ![1, 128, 256] inb_S8x128x512_S1x128x256_0_0_256)) (View.ld x6 (Rect.unit ![1, 6, 256] ![1, 1, 256] inb_S8x8x512_S1x1x256_1_6_256)) (View.ld x7 (Rect.unit ![1, 6, 256] ![1, 1, 256] inb_S8x8x512_S1x1x256_1_6_256)) (View.ld x4 (Rect.unit ![1, 0, 256] ![1, 128, 256] inb_S8x128x512_S1x128x256_1_0_256)) (View.ld x5 (Rect.unit ![1, 0, 256] ![1, 128, 256] inb_S8x128x512_S1x128x256_1_0_256))) (k0_pay202 (View.ld x6 (Rect.unit ![2, 6, 256] ![1, 1, 256] inb_S8x8x512_S1x1x256_2_6_256))) (View.ld x7 (Rect.unit ![2, 6, 256] ![1, 1, 256] inb_S8x8x512_S1x1x256_2_6_256)) (View.ld x4 (Rect.unit ![2, 0, 256] ![1, 128, 256] inb_S8x128x512_S1x128x256_2_0_256)) (View.ld x5 (Rect.unit ![2, 0, 256] ![1, 128, 256] inb_S8x128x512_S1x128x256_2_0_256)) (View.ld x6 (Rect.unit ![3, 6, 256] ![1, 1, 256] inb_S8x8x512_S1x1x256_3_6_256)) (View.ld x7 (Rect.unit ![3, 6, 256] ![1, 1, 256] inb_S8x8x512_S1x1x256_3_6_256)) (View.ld x4 (Rect.unit ![3, 0, 256] ![1, 128, 256] inb_S8x128x512_S1x128x256_3_0_256)) (View.ld x5 (Rect.unit ![3, 0, 256] ![1, 128, 256] inb_S8x128x512_S1x128x256_3_0_256))) (k0_pay204 (View.ld x6 (Rect.unit ![4, 6, 256] ![1, 1, 256] inb_S8x8x512_S1x1x256_4_6_256))) (View.ld x7 (Rect.unit ![4, 6, 256] ![1, 1, 256] inb_S8x8x512_S1x1x256_4_6_256)) (View.ld x4 (Rect.unit ![4, 0, 256] ![1, 128, 256] inb_S8x128x512_S1x128x256_4_0_256)) (View.ld x5 (Rect.unit ![4, 0, 256] ![1, 128, 256] inb_S8x128x512_S1x128x256_4_0_256)) (View.ld x6 (Rect.unit ![5, 6, 256] ![1, 1, 256] inb_S8x8x512_S1x1x256_5_6_256)) (View.ld x7 (Rect.unit ![5, 6, 256] ![1, 1, 256] inb_S8x8x512_S1x1x256_5_6_256)) (View.ld x4 (Rect.unit ![5, 0, 256] ![1, 128, 256] inb_S8x128x512_S1x128x256_5_0_256)) (View.ld x5 (Rect.unit ![5, 0, 256] ![1, 128, 256] inb_S8x128x512_S1x128x256_5_0_256)))) (View.ld x6 (Rect.unit ![6, 6, 256] ![1, 1, 256] inb_S8x8x512_S1x1x256_6_6_256)) (View.ld x7 (Rect.unit ![6, 6, 256] ![1, 1, 256] inb_S8x8x512_S1x1x256_6_6_256)) (View.ld x4 (Rect.unit ![6, 0, 256] ![1, 128, 256] inb_S8x128x512_S1x128x256_6_0_256)) (View.ld x5 (Rect.unit ![6, 0, 256] ![1, 128, 256] inb_S8x128x512_S1x128x256_6_0_256))) (k0_pay207 (View.ld x7 (Rect.unit ![7, 6, 256] ![1, 1, 256] inb_S8x8x512_S1x1x256_7_6_256))) (k0_pay208 (F := Ideal)) (k0_pay209 (View.ld x6 (Rect.unit ![7, 6, 256] ![1, 1, 256] inb_S8x8x512_S1x1x256_7_6_256)) (View.ld x4 (Rect.unit ![7, 0, 256] ![1, 128, 256] inb_S8x128x512_S1x128x256_7_0_256))) (k0_pay210 (View.ld x5 (Rect.unit ![7, 0, 256] ![1, 128, 256] inb_S8x128x512_S1x128x256_7_0_256))) a) x
      = gate x4 x5 x6 x7 6 (x 1) ⟨256 + (x 2).val, by have : (x 2).val < 256 := (x 2).isLt; omega⟩ * act (a x) := by
  rw [piece_13]
  unfold gate
  rw [Fin.sum_univ_eight]
  exact congrArg (· * act (a x)) (congrArg₂ (· + ·) (congrArg₂ (· + ·) (congrArg₂ (· + ·) (congrArg₂ (· + ·) (congrArg₂ (· + ·) (congrArg₂ (· + ·) (congrArg₂ (· + ·) (weight_ld x4 x5 x6 x7 0 6 256 (by decide) (by decide) (by decide) _ _ x) (weight_ld x4 x5 x6 x7 1 6 256 (by decide) (by decide) (by decide) _ _ x)) (weight_ld x4 x5 x6 x7 2 6 256 (by decide) (by decide) (by decide) _ _ x)) (weight_ld x4 x5 x6 x7 3 6 256 (by decide) (by decide) (by decide) _ _ x)) (weight_ld x4 x5 x6 x7 4 6 256 (by decide) (by decide) (by decide) _ _ x)) (weight_ld x4 x5 x6 x7 5 6 256 (by decide) (by decide) (by decide) _ _ x)) (weight_ld x4 x5 x6 x7 6 6 256 (by decide) (by decide) (by decide) _ _ x)) (weight_ld x4 x5 x6 x7 7 6 256 (by decide) (by decide) (by decide) _ _ x))

theorem at_14 (x4 x5 : Vec Ideal S8x128x512 .bf16) (x6 x7 : Vec Ideal S8x8x512 .f32) (a : Vec Ideal S1x128x256 .f32)
    (x : S1x128x256.Idx) :
    (k0_pay232 (k0_pay228 (k0_pay225 (k0_pay221 (k0_pay217 (k0_pay212 (F := Ideal)) (k0_pay213 (View.ld x7 (Rect.unit ![0, 7, 0] ![1, 1, 256] inb_S8x8x512_S1x1x256_0_7_0))) (k0_pay214 (F := Ideal)) (k0_pay215 (View.ld x6 (Rect.unit ![0, 7, 0] ![1, 1, 256] inb_S8x8x512_S1x1x256_0_7_0)) (View.ld x4 (Rect.unit ![0, 0, 0] ![1, 128, 256] inb_S8x128x512_S1x128x256_0_0_0))) (k0_pay216 (View.ld x5 (Rect.unit ![0, 0, 0] ![1, 128, 256] inb_S8x128x512_S1x128x256_0_0_0))) (View.ld x6 (Rect.unit ![1, 7, 0] ![1, 1, 256] inb_S8x8x512_S1x1x256_1_7_0)) (View.ld x7 (Rect.unit ![1, 7, 0] ![1, 1, 256] inb_S8x8x512_S1x1x256_1_7_0)) (View.ld x4 (Rect.unit ![1, 0, 0] ![1, 128, 256] inb_S8x128x512_S1x128x256_1_0_0)) (View.ld x5 (Rect.unit ![1, 0, 0] ![1, 128, 256] inb_S8x128x512_S1x128x256_1_0_0))) (k0_pay218 (View.ld x7 (Rect.unit ![2, 7, 0] ![1, 1, 256] inb_S8x8x512_S1x1x256_2_7_0))) (k0_pay219 (F := Ideal)) (k0_pay220 (View.ld x6 (Rect.unit ![2, 7, 0] ![1, 1, 256] inb_S8x8x512_S1x1x256_2_7_0)) (View.ld x4 (Rect.unit ![2, 0, 0] ![1, 128, 256] inb_S8x128x512_S1x128x256_2_0_0))) (View.ld x5 (Rect.unit ![2, 0, 0] ![1, 128, 256] inb_S8x128x512_S1x128x256_2_0_0)) (View.ld x6 (Rect.unit ![3, 7, 0] ![1, 1, 256] inb_S8x8x512_S1x1x256_3_7_0)) (View.ld x7 (Rect.unit ![3, 7, 0] ![1, 1, 256] inb_S8x8x512_S1x1x256_3_7_0)) (View.ld x4 (Rect.unit ![3, 0, 0] ![1, 128, 256] inb_S8x128x512_S1x128x256_3_0_0)) (View.ld x5 (Rect.unit ![3, 0, 0] ![1, 128, 256] inb_S8x128x512_S1x128x256_3_0_0))) (k0_pay222 (View.ld x6 (Rect.unit ![4, 7, 0] ![1, 1, 256] inb_S8x8x512_S1x1x256_4_7_0))) (k0_pay223 (View.ld x7 (Rect.unit ![4, 7, 0] ![1, 1, 256] inb_S8x8x512_S1x1x256_4_7_0))) (k0_pay224 (F := Ideal)) (View.ld x4 (Rect.unit ![4, 0, 0] ![1, 128, 256] inb_S8x128x512_S1x128x256_4_0_0)) (View.ld x5 (Rect.unit ![4, 0, 0] ![1, 128, 256] inb_S8x128x512_S1x128x256_4_0_0)) (View.ld x6 (Rect.unit ![5, 7, 0] ![1, 1, 256] inb_S8x8x512_S1x1x256_5_7_0)) (View.ld x7 (Rect.unit ![5, 7, 0] ![1, 1, 256] inb_S8x8x512_S1x1x256_5_7_0)) (View.ld x4 (Rect.unit ![5, 0, 0] ![1, 128, 256] inb_S8x128x512_S1x128x256_5_0_0)) (View.ld x5 (Rect.unit ![5, 0, 0] ![1, 128, 256] inb_S8x128x512_S1x128x256_5_0_0))) (k0_pay226 (View.ld x6 (Rect.unit ![6, 7, 0] ![1, 1, 256] inb_S8x8x512_S1x1x256_6_7_0))) (k0_pay227 (View.ld x7 (Rect.unit ![6, 7, 0] ![1, 1, 256] inb_S8x8x512_S1x1x256_6_7_0))) (Scalar.ofBits .bf16 0x0000#16) (View.ld x4 (Rect.unit ![6, 0, 0] ![1, 128, 256] inb_S8x128x512_S1x128x256_6_0_0)) (View.ld x5 (Rect.unit ![6, 0, 0] ![1, 128, 256] inb_S8x128x512_S1x128x256_6_0_0)) (View.ld x6 (Rect.unit ![7, 7, 0] ![1, 1, 256] inb_S8x8x512_S1x1x256_7_7_0)) (View.ld x7 (Rect.unit ![7, 7, 0] ![1, 1, 256] inb_S8x8x512_S1x1x256_7_7_0)) (View.ld x4 (Rect.unit ![7, 0, 0] ![1, 128, 256] inb_S8x128x512_S1x128x256_7_0_0)) (View.ld x5 (Rect.unit ![7, 0, 0] ![1, 128, 256] inb_S8x128x512_S1x128x256_7_0_0))) (k0_pay230 a) (k0_pay231 a)) x
      = gate x4 x5 x6 x7 7 (x 1) ⟨0 + (x 2).val, by have : (x 2).val < 256 := (x 2).isLt; omega⟩ * act (a x) := by
  rw [piece_14]
  unfold gate
  rw [Fin.sum_univ_eight]
  exact congrArg (· * act (a x)) (congrArg₂ (· + ·) (congrArg₂ (· + ·) (congrArg₂ (· + ·) (congrArg₂ (· + ·) (congrArg₂ (· + ·) (congrArg₂ (· + ·) (congrArg₂ (· + ·) (weight_ld x4 x5 x6 x7 0 7 0 (by decide) (by decide) (by decide) _ _ x) (weight_ld x4 x5 x6 x7 1 7 0 (by decide) (by decide) (by decide) _ _ x)) (weight_ld x4 x5 x6 x7 2 7 0 (by decide) (by decide) (by decide) _ _ x)) (weight_ld x4 x5 x6 x7 3 7 0 (by decide) (by decide) (by decide) _ _ x)) (weight_ld x4 x5 x6 x7 4 7 0 (by decide) (by decide) (by decide) _ _ x)) (weight_ld x4 x5 x6 x7 5 7 0 (by decide) (by decide) (by decide) _ _ x)) (weight_ld x4 x5 x6 x7 6 7 0 (by decide) (by decide) (by decide) _ _ x)) (weight_ld x4 x5 x6 x7 7 7 0 (by decide) (by decide) (by decide) _ _ x))

theorem at_15 (x4 x5 : Vec Ideal S8x128x512 .bf16) (x6 x7 : Vec Ideal S8x8x512 .f32) (a : Vec Ideal S1x128x256 .f32)
    (x : S1x128x256.Idx) :
    (k0_pay241 (k0_pay125 (F := Ideal)) ((k0_pay240 (k0_pay238 (k0_pay236 (k0_pay233 (View.ld x6 (Rect.unit ![0, 7, 256] ![1, 1, 256] inb_S8x8x512_S1x1x256_0_7_256)) (View.ld x7 (Rect.unit ![0, 7, 256] ![1, 1, 256] inb_S8x8x512_S1x1x256_0_7_256)) (View.ld x4 (Rect.unit ![0, 0, 256] ![1, 128, 256] inb_S8x128x512_S1x128x256_0_0_256)) (View.ld x5 (Rect.unit ![0, 0, 256] ![1, 128, 256] inb_S8x128x512_S1x128x256_0_0_256))) (k0_pay234 (View.ld x6 (Rect.unit ![1, 7, 256] ![1, 1, 256] inb_S8x8x512_S1x1x256_1_7_256))) (k0_pay235 (View.ld x7 (Rect.unit ![1, 7, 256] ![1, 1, 256] inb_S8x8x512_S1x1x256_1_7_256))) (View.ld x4 (Rect.unit ![1, 0, 256] ![1, 128, 256] inb_S8x128x512_S1x128x256_1_0_256)) (View.ld x5 (Rect.unit ![1, 0, 256] ![1, 128, 256] inb_S8x128x512_S1x128x256_1_0_256)) (View.ld x6 (Rect.unit ![2, 7, 256] ![1, 1, 256] inb_S8x8x512_S1x1x256_2_7_256)) (View.ld x7 (Rect.unit ![2, 7, 256] ![1, 1, 256] inb_S8x8x512_S1x1x256_2_7_256)) (View.ld x4 (Rect.unit ![2, 0, 256] ![1, 128, 256] inb_S8x128x512_S1x128x256_2_0_256)) (View.ld x5 (Rect.unit ![2, 0, 256] ![1, 128, 256] inb_S8x128x512_S1x128x256_2_0_256))) (k0_pay237 (View.ld x6 (Rect.unit ![3, 7, 256] ![1, 1, 256] inb_S8x8x512_S1x1x256_3_7_256))) (View.ld x7 (Rect.unit ![3, 7, 256] ![1, 1, 256] inb_S8x8x512_S1x1x256_3_7_256)) (View.ld x4 (Rect.unit ![3, 0, 256] ![1, 128, 256] inb_S8x128x512_S1x128x256_3_0_256)) (View.ld x5 (Rect.unit ![3, 0, 256] ![1, 128, 256] inb_S8x128x512_S1x128x256_3_0_256)) (View.ld x6 (Rect.unit ![4, 7, 256] ![1, 1, 256] inb_S8x8x512_S1x1x256_4_7_256)) (View.ld x7 (Rect.unit ![4, 7, 256] ![1, 1, 256] inb_S8x8x512_S1x1x256_4_7_256)) (View.ld x4 (Rect.unit ![4, 0, 256] ![1, 128, 256] inb_S8x128x512_S1x128x256_4_0_256)) (View.ld x5 (Rect.unit ![4, 0, 256] ![1, 128, 256] inb_S8x128x512_S1x128x256_4_0_256))) (k0_pay239 (View.ld x6 (Rect.unit ![5, 7, 256] ![1, 1, 256] inb_S8x8x512_S1x1x256_5_7_256))) (View.ld x7 (Rect.unit ![5, 7, 256] ![1, 1, 256] inb_S8x8x512_S1x1x256_5_7_256)) (View.ld x4 (Rect.unit ![5, 0, 256] ![1, 128, 256] inb_S8x128x512_S1x128x256_5_0_256)) (View.ld x5 (Rect.unit ![5, 0, 256] ![1, 128, 256] inb_S8x128x512_S1x128x256_5_0_256)) (View.ld x6 (Rect.unit ![6, 7, 256] ![1, 1, 256] inb_S8x8x512_S1x1x256_6_7_256)) (View.ld x7 (Rect.unit ![6, 7, 256] ![1, 1, 256] inb_S8x8x512_S1x1x256_6_7_256)) (View.ld x4 (Rect.unit ![6, 0, 256] ![1, 128, 256] inb_S8x128x512_S1x128x256_6_0_256)) (View.ld x5 (Rect.unit ![6, 0, 256] ![1, 128, 256] inb_S8x128x512_S1x128x256_6_0_256)))) (View.ld x6 (Rect.unit ![7, 7, 256] ![1, 1, 256] inb_S8x8x512_S1x1x256_7_7_256)) (View.ld x7 (Rect.unit ![7, 7, 256] ![1, 1, 256] inb_S8x8x512_S1x1x256_7_7_256)) (View.ld x4 (Rect.unit ![7, 0, 256] ![1, 128, 256] inb_S8x128x512_S1x128x256_7_0_256)) (View.ld x5 (Rect.unit ![7, 0, 256] ![1, 128, 256] inb_S8x128x512_S1x128x256_7_0_256)) a) x
      = gate x4 x5 x6 x7 7 (x 1) ⟨256 + (x 2).val, by have : (x 2).val < 256 := (x 2).isLt; omega⟩ * act (a x) := by
  rw [piece_15]
  unfold gate
  rw [Fin.sum_univ_eight]
  exact congrArg (· * act (a x)) (congrArg₂ (· + ·) (congrArg₂ (· + ·) (congrArg₂ (· + ·) (congrArg₂ (· + ·) (congrArg₂ (· + ·) (congrArg₂ (· + ·) (congrArg₂ (· + ·) (weight_ld x4 x5 x6 x7 0 7 256 (by decide) (by decide) (by decide) _ _ x) (weight_ld x4 x5 x6 x7 1 7 256 (by decide) (by decide) (by decide) _ _ x)) (weight_ld x4 x5 x6 x7 2 7 256 (by decide) (by decide) (by decide) _ _ x)) (weight_ld x4 x5 x6 x7 3 7 256 (by decide) (by decide) (by decide) _ _ x)) (weight_ld x4 x5 x6 x7 4 7 256 (by decide) (by decide) (by decide) _ _ x)) (weight_ld x4 x5 x6 x7 5 7 256 (by decide) (by decide) (by decide) _ _ x)) (weight_ld x4 x5 x6 x7 6 7 256 (by decide) (by decide) (by decide) _ _ x)) (weight_ld x4 x5 x6 x7 7 7 256 (by decide) (by decide) (by decide) _ _ x))

theorem mem_box (y : S2x512x512.Idx) (k r l : ℕ)
    (inb : ∀ a : Fin 3, (![k, r, l] : Fin 3 → ℕ) a + (![1, 128, 256] : Fin 3 → ℕ) a ≤ S2x512x512.size a) (h : (y 0).val = k)
    (c : r ≤ (y 1).val ∧ (y 1).val < r + 128 ∧ l ≤ (y 2).val ∧ (y 2).val < l + 256) :
    y ∈ (Rect.unit ![k, r, l] ![1, 128, 256] inb).set := by
  rw [Rect.mem_set_unit]
  intro a
  match a with
  | ⟨0, _⟩ => show k ≤ (y 0).val ∧ (y 0).val < k + 1; omega
  | ⟨1, _⟩ => exact ⟨c.1, c.2.1⟩
  | ⟨2, _⟩ => exact c.2.2

theorem cover_0 (p0 p1 p2 p3 p4 p5 p6 p7 : Vec Ideal S1x128x256 .bf16) (y : S2x512x512.Idx) (h : (y 0).val = 0) :
    ∃ p ∈ ([⟨Rect.unit ![0, 384, 256] ![1, 128, 256] inb_S2x512x512_S1x128x256_0_384_256, p7⟩,
      ⟨Rect.unit ![0, 384, 0] ![1, 128, 256] inb_S2x512x512_S1x128x256_0_384_0, p6⟩,
      ⟨Rect.unit ![0, 256, 256] ![1, 128, 256] inb_S2x512x512_S1x128x256_0_256_256, p5⟩,
      ⟨Rect.unit ![0, 256, 0] ![1, 128, 256] inb_S2x512x512_S1x128x256_0_256_0, p4⟩,
      ⟨Rect.unit ![0, 128, 256] ![1, 128, 256] inb_S2x512x512_S1x128x256_0_128_256, p3⟩,
      ⟨Rect.unit ![0, 128, 0] ![1, 128, 256] inb_S2x512x512_S1x128x256_0_128_0, p2⟩,
      ⟨Rect.unit ![0, 0, 256] ![1, 128, 256] inb_S2x512x512_S1x128x256_0_0_256, p1⟩,
      ⟨Rect.unit ![0, 0, 0] ![1, 128, 256] inb_S2x512x512_S1x128x256_0_0_0, p0⟩] : List (View.Piece (Elt Ideal) S2x512x512 .bf16)), y ∈ p.1.set := by
  have h1 : (y 1).val < 512 := (y 1).isLt
  have h2 : (y 2).val < 512 := (y 2).isLt
  have c : (384 ≤ (y 1).val ∧ (y 1).val < 512 ∧ 256 ≤ (y 2).val ∧ (y 2).val < 512) ∨ (384 ≤ (y 1).val ∧ (y 1).val < 512 ∧ 0 ≤ (y 2).val ∧ (y 2).val < 256) ∨ (256 ≤ (y 1).val ∧ (y 1).val < 384 ∧ 256 ≤ (y 2).val ∧ (y 2).val < 512) ∨ (256 ≤ (y 1).val ∧ (y 1).val < 384 ∧ 0 ≤ (y 2).val ∧ (y 2).val < 256) ∨ (128 ≤ (y 1).val ∧ (y 1).val < 256 ∧ 256 ≤ (y 2).val ∧ (y 2).val < 512) ∨ (128 ≤ (y 1).val ∧ (y 1).val < 256 ∧ 0 ≤ (y 2).val ∧ (y 2).val < 256) ∨ (0 ≤ (y 1).val ∧ (y 1).val < 128 ∧ 256 ≤ (y 2).val ∧ (y 2).val < 512) ∨ (0 ≤ (y 1).val ∧ (y 1).val < 128 ∧ 0 ≤ (y 2).val ∧ (y 2).val < 256) := by omega
  rcases c with c | c | c | c | c | c | c | c
  · exact ⟨_, List.mem_cons_self, mem_box y _ _ _ inb_S2x512x512_S1x128x256_0_384_256 h c⟩
  · exact ⟨_, (List.mem_cons_of_mem _ List.mem_cons_self), mem_box y _ _ _ inb_S2x512x512_S1x128x256_0_384_0 h c⟩
  · exact ⟨_, (List.mem_cons_of_mem _ (List.mem_cons_of_mem _ List.mem_cons_self)), mem_box y _ _ _ inb_S2x512x512_S1x128x256_0_256_256 h c⟩
  · exact ⟨_, (List.mem_cons_of_mem _ (List.mem_cons_of_mem _ (List.mem_cons_of_mem _ List.mem_cons_self))), mem_box y _ _ _ inb_S2x512x512_S1x128x256_0_256_0 h c⟩
  · exact ⟨_, (List.mem_cons_of_mem _ (List.mem_cons_of_mem _ (List.mem_cons_of_mem _ (List.mem_cons_of_mem _ List.mem_cons_self)))), mem_box y _ _ _ inb_S2x512x512_S1x128x256_0_128_256 h c⟩
  · exact ⟨_, (List.mem_cons_of_mem _ (List.mem_cons_of_mem _ (List.mem_cons_of_mem _ (List.mem_cons_of_mem _ (List.mem_cons_of_mem _ List.mem_cons_self))))), mem_box y _ _ _ inb_S2x512x512_S1x128x256_0_128_0 h c⟩
  · exact ⟨_, (List.mem_cons_of_mem _ (List.mem_cons_of_mem _ (List.mem_cons_of_mem _ (List.mem_cons_of_mem _ (List.mem_cons_of_mem _ (List.mem_cons_of_mem _ List.mem_cons_self)))))), mem_box y _ _ _ inb_S2x512x512_S1x128x256_0_0_256 h c⟩
  · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), mem_box y _ _ _ inb_S2x512x512_S1x128x256_0_0_0 h c⟩

/-- Half 0 of the scratch, read whole. -/
theorem half_0 {ρ : RefSig} {κ : Kind} {sp : Space} {W : View ρ κ sp S2x512x512 .bf16} (x4 x5 : Vec Ideal S8x128x512 .bf16) (x6 x7 : Vec Ideal S8x8x512 .f32)
    (v0 v1 v2 v3 v4 v5 v6 v7 : Vec Ideal S1x128x256 .f32) (aa : Fin 512 → Fin 512 → EReal)
    (h0 : ∀ x : S1x128x256.Idx, v0 x = aa ⟨0 + (x 1).val, by have : (x 1).val < 128 := (x 1).isLt; omega⟩ ⟨0 + (x 2).val, by have : (x 2).val < 256 := (x 2).isLt; omega⟩)
    (h1 : ∀ x : S1x128x256.Idx, v1 x = aa ⟨0 + (x 1).val, by have : (x 1).val < 128 := (x 1).isLt; omega⟩ ⟨256 + (x 2).val, by have : (x 2).val < 256 := (x 2).isLt; omega⟩)
    (h2 : ∀ x : S1x128x256.Idx, v2 x = aa ⟨128 + (x 1).val, by have : (x 1).val < 128 := (x 1).isLt; omega⟩ ⟨0 + (x 2).val, by have : (x 2).val < 256 := (x 2).isLt; omega⟩)
    (h3 : ∀ x : S1x128x256.Idx, v3 x = aa ⟨128 + (x 1).val, by have : (x 1).val < 128 := (x 1).isLt; omega⟩ ⟨256 + (x 2).val, by have : (x 2).val < 256 := (x 2).isLt; omega⟩)
    (h4 : ∀ x : S1x128x256.Idx, v4 x = aa ⟨256 + (x 1).val, by have : (x 1).val < 128 := (x 1).isLt; omega⟩ ⟨0 + (x 2).val, by have : (x 2).val < 256 := (x 2).isLt; omega⟩)
    (h5 : ∀ x : S1x128x256.Idx, v5 x = aa ⟨256 + (x 1).val, by have : (x 1).val < 128 := (x 1).isLt; omega⟩ ⟨256 + (x 2).val, by have : (x 2).val < 256 := (x 2).isLt; omega⟩)
    (h6 : ∀ x : S1x128x256.Idx, v6 x = aa ⟨384 + (x 1).val, by have : (x 1).val < 128 := (x 1).isLt; omega⟩ ⟨0 + (x 2).val, by have : (x 2).val < 256 := (x 2).isLt; omega⟩)
    (h7 : ∀ x : S1x128x256.Idx, v7 x = aa ⟨384 + (x 1).val, by have : (x 1).val < 128 := (x 1).isLt; omega⟩ ⟨256 + (x 2).val, by have : (x 2).val < 256 := (x 2).isLt; omega⟩)
    (L : List (View.Piece (Elt Ideal) S2x512x512 .bf16)) :
    W.readCov
      (⟨Rect.unit ![0, 384, 256] ![1, 128, 256] inb_S2x512x512_S1x128x256_0_384_256, (k0_pay122 (k0_pay7 (F := Ideal)) ((k0_pay121 (k0_pay119 (k0_pay117 (k0_pay114 (k0_pay110 (F := Ideal)) (k0_pay111 (View.ld x6 (Rect.unit ![0, 3, 256] ![1, 1, 256] inb_S8x8x512_S1x1x256_0_3_256))) (k0_pay112 (View.ld x7 (Rect.unit ![0, 3, 256] ![1, 1, 256] inb_S8x8x512_S1x1x256_0_3_256))) (k0_pay113 (F := Ideal)) (View.ld x4 (Rect.unit ![0, 0, 256] ![1, 128, 256] inb_S8x128x512_S1x128x256_0_0_256)) (View.ld x5 (Rect.unit ![0, 0, 256] ![1, 128, 256] inb_S8x128x512_S1x128x256_0_0_256)) (View.ld x6 (Rect.unit ![1, 3, 256] ![1, 1, 256] inb_S8x8x512_S1x1x256_1_3_256)) (View.ld x7 (Rect.unit ![1, 3, 256] ![1, 1, 256] inb_S8x8x512_S1x1x256_1_3_256)) (View.ld x4 (Rect.unit ![1, 0, 256] ![1, 128, 256] inb_S8x128x512_S1x128x256_1_0_256)) (View.ld x5 (Rect.unit ![1, 0, 256] ![1, 128, 256] inb_S8x128x512_S1x128x256_1_0_256))) (k0_pay115 (View.ld x6 (Rect.unit ![2, 3, 256] ![1, 1, 256] inb_S8x8x512_S1x1x256_2_3_256))) (k0_pay116 (View.ld x7 (Rect.unit ![2, 3, 256] ![1, 1, 256] inb_S8x8x512_S1x1x256_2_3_256))) (View.ld x4 (Rect.unit ![2, 0, 256] ![1, 128, 256] inb_S8x128x512_S1x128x256_2_0_256)) (View.ld x5 (Rect.unit ![2, 0, 256] ![1, 128, 256] inb_S8x128x512_S1x128x256_2_0_256)) (View.ld x6 (Rect.unit ![3, 3, 256] ![1, 1, 256] inb_S8x8x512_S1x1x256_3_3_256)) (View.ld x7 (Rect.unit ![3, 3, 256] ![1, 1, 256] inb_S8x8x512_S1x1x256_3_3_256)) (View.ld x4 (Rect.unit ![3, 0, 256] ![1, 128, 256] inb_S8x128x512_S1x128x256_3_0_256)) (View.ld x5 (Rect.unit ![3, 0, 256] ![1, 128, 256] inb_S8x128x512_S1x128x256_3_0_256))) (k0_pay118 (View.ld x6 (Rect.unit ![4, 3, 256] ![1, 1, 256] inb_S8x8x512_S1x1x256_4_3_256))) (View.ld x7 (Rect.unit ![4, 3, 256] ![1, 1, 256] inb_S8x8x512_S1x1x256_4_3_256)) (View.ld x4 (Rect.unit ![4, 0, 256] ![1, 128, 256] inb_S8x128x512_S1x128x256_4_0_256)) (View.ld x5 (Rect.unit ![4, 0, 256] ![1, 128, 256] inb_S8x128x512_S1x128x256_4_0_256)) (View.ld x6 (Rect.unit ![5, 3, 256] ![1, 1, 256] inb_S8x8x512_S1x1x256_5_3_256)) (View.ld x7 (Rect.unit ![5, 3, 256] ![1, 1, 256] inb_S8x8x512_S1x1x256_5_3_256)) (View.ld x4 (Rect.unit ![5, 0, 256] ![1, 128, 256] inb_S8x128x512_S1x128x256_5_0_256)) (View.ld x5 (Rect.unit ![5, 0, 256] ![1, 128, 256] inb_S8x128x512_S1x128x256_5_0_256))) (k0_pay120 (View.ld x6 (Rect.unit ![6, 3, 256] ![1, 1, 256] inb_S8x8x512_S1x1x256_6_3_256))) (View.ld x7 (Rect.unit ![6, 3, 256] ![1, 1, 256] inb_S8x8x512_S1x1x256_6_3_256)) (View.ld x4 (Rect.unit ![6, 0, 256] ![1, 128, 256] inb_S8x128x512_S1x128x256_6_0_256)) (View.ld x5 (Rect.unit ![6, 0, 256] ![1, 128, 256] inb_S8x128x512_S1x128x256_6_0_256)) (View.ld x6 (Rect.unit ![7, 3, 256] ![1, 1, 256] inb_S8x8x512_S1x1x256_7_3_256)) (View.ld x7 (Rect.unit ![7, 3, 256] ![1, 1, 256] inb_S8x8x512_S1x1x256_7_3_256)) (View.ld x4 (Rect.unit ![7, 0, 256] ![1, 128, 256] inb_S8x128x512_S1x128x256_7_0_256)) (View.ld x5 (Rect.unit ![7, 0, 256] ![1, 128, 256] inb_S8x128x512_S1x128x256_7_0_256)))) v7)⟩ :: ⟨Rect.unit ![0, 384, 0] ![1, 128, 256] inb_S2x512x512_S1x128x256_0_384_0, (k0_pay109 (k0_pay105 (k0_pay101 (k0_pay97 (k0_pay94 ((k0_pay93 (F := Ideal))) (View.ld x6 (Rect.unit ![0, 3, 0] ![1, 1, 256] inb_S8x8x512_S1x1x256_0_3_0)) (View.ld x7 (Rect.unit ![0, 3, 0] ![1, 1, 256] inb_S8x8x512_S1x1x256_0_3_0)) (View.ld x4 (Rect.unit ![0, 0, 0] ![1, 128, 256] inb_S8x128x512_S1x128x256_0_0_0)) (View.ld x5 (Rect.unit ![0, 0, 0] ![1, 128, 256] inb_S8x128x512_S1x128x256_0_0_0))) (k0_pay95 (View.ld x7 (Rect.unit ![1, 3, 0] ![1, 1, 256] inb_S8x8x512_S1x1x256_1_3_0))) (k0_pay96 (View.ld x6 (Rect.unit ![1, 3, 0] ![1, 1, 256] inb_S8x8x512_S1x1x256_1_3_0)) (View.ld x4 (Rect.unit ![1, 0, 0] ![1, 128, 256] inb_S8x128x512_S1x128x256_1_0_0)) (View.ld x5 (Rect.unit ![1, 0, 0] ![1, 128, 256] inb_S8x128x512_S1x128x256_1_0_0))) (View.ld x6 (Rect.unit ![2, 3, 0] ![1, 1, 256] inb_S8x8x512_S1x1x256_2_3_0)) (View.ld x7 (Rect.unit ![2, 3, 0] ![1, 1, 256] inb_S8x8x512_S1x1x256_2_3_0)) (View.ld x4 (Rect.unit ![2, 0, 0] ![1, 128, 256] inb_S8x128x512_S1x128x256_2_0_0)) (View.ld x5 (Rect.unit ![2, 0, 0] ![1, 128, 256] inb_S8x128x512_S1x128x256_2_0_0))) (k0_pay98 (View.ld x7 (Rect.unit ![3, 3, 0] ![1, 1, 256] inb_S8x8x512_S1x1x256_3_3_0))) (k0_pay99 (F := Ideal)) (k0_pay100 (View.ld x6 (Rect.unit ![3, 3, 0] ![1, 1, 256] inb_S8x8x512_S1x1x256_3_3_0)) (View.ld x4 (Rect.unit ![3, 0, 0] ![1, 128, 256] inb_S8x128x512_S1x128x256_3_0_0))) (View.ld x5 (Rect.unit ![3, 0, 0] ![1, 128, 256] inb_S8x128x512_S1x128x256_3_0_0)) (View.ld x6 (Rect.unit ![4, 3, 0] ![1, 1, 256] inb_S8x8x512_S1x1x256_4_3_0)) (View.ld x7 (Rect.unit ![4, 3, 0] ![1, 1, 256] inb_S8x8x512_S1x1x256_4_3_0)) (View.ld x4 (Rect.unit ![4, 0, 0] ![1, 128, 256] inb_S8x128x512_S1x128x256_4_0_0)) (View.ld x5 (Rect.unit ![4, 0, 0] ![1, 128, 256] inb_S8x128x512_S1x128x256_4_0_0))) (k0_pay102 (View.ld x6 (Rect.unit ![5, 3, 0] ![1, 1, 256] inb_S8x8x512_S1x1x256_5_3_0))) (k0_pay103 (View.ld x7 (Rect.unit ![5, 3, 0] ![1, 1, 256] inb_S8x8x512_S1x1x256_5_3_0))) (k0_pay104 (F := Ideal)) (View.ld x4 (Rect.unit ![5, 0, 0] ![1, 128, 256] inb_S8x128x512_S1x128x256_5_0_0)) (View.ld x5 (Rect.unit ![5, 0, 0] ![1, 128, 256] inb_S8x128x512_S1x128x256_5_0_0)) (View.ld x6 (Rect.unit ![6, 3, 0] ![1, 1, 256] inb_S8x8x512_S1x1x256_6_3_0)) (View.ld x7 (Rect.unit ![6, 3, 0] ![1, 1, 256] inb_S8x8x512_S1x1x256_6_3_0)) (View.ld x4 (Rect.unit ![6, 0, 0] ![1, 128, 256] inb_S8x128x512_S1x128x256_6_0_0)) (View.ld x5 (Rect.unit ![6, 0, 0] ![1, 128, 256] inb_S8x128x512_S1x128x256_6_0_0))) (k0_pay106 (View.ld x6 (Rect.unit ![7, 3, 0] ![1, 1, 256] inb_S8x8x512_S1x1x256_7_3_0))) (k0_pay107 (View.ld x7 (Rect.unit ![7, 3, 0] ![1, 1, 256] inb_S8x8x512_S1x1x256_7_3_0))) (k0_pay108 (F := Ideal)) (View.ld x4 (Rect.unit ![7, 0, 0] ![1, 128, 256] inb_S8x128x512_S1x128x256_7_0_0)) (View.ld x5 (Rect.unit ![7, 0, 0] ![1, 128, 256] inb_S8x128x512_S1x128x256_7_0_0)) v6)⟩ :: ⟨Rect.unit ![0, 256, 256] ![1, 128, 256] inb_S2x512x512_S1x128x256_0_256_256, (k0_pay92 ((k0_pay91 (k0_pay89 (k0_pay87 (k0_pay84 (View.ld x6 (Rect.unit ![0, 2, 256] ![1, 1, 256] inb_S8x8x512_S1x1x256_0_2_256)) (View.ld x7 (Rect.unit ![0, 2, 256] ![1, 1, 256] inb_S8x8x512_S1x1x256_0_2_256)) (View.ld x4 (Rect.unit ![0, 0, 256] ![1, 128, 256] inb_S8x128x512_S1x128x256_0_0_256)) (View.ld x5 (Rect.unit ![0, 0, 256] ![1, 128, 256] inb_S8x128x512_S1x128x256_0_0_256))) (k0_pay85 (View.ld x6 (Rect.unit ![1, 2, 256] ![1, 1, 256] inb_S8x8x512_S1x1x256_1_2_256))) (k0_pay86 (View.ld x7 (Rect.unit ![1, 2, 256] ![1, 1, 256] inb_S8x8x512_S1x1x256_1_2_256))) (View.ld x4 (Rect.unit ![1, 0, 256] ![1, 128, 256] inb_S8x128x512_S1x128x256_1_0_256)) (View.ld x5 (Rect.unit ![1, 0, 256] ![1, 128, 256] inb_S8x128x512_S1x128x256_1_0_256)) (View.ld x6 (Rect.unit ![2, 2, 256] ![1, 1, 256] inb_S8x8x512_S1x1x256_2_2_256)) (View.ld x7 (Rect.unit ![2, 2, 256] ![1, 1, 256] inb_S8x8x512_S1x1x256_2_2_256)) (View.ld x4 (Rect.unit ![2, 0, 256] ![1, 128, 256] inb_S8x128x512_S1x128x256_2_0_256)) (View.ld x5 (Rect.unit ![2, 0, 256] ![1, 128, 256] inb_S8x128x512_S1x128x256_2_0_256))) (k0_pay88 (View.ld x6 (Rect.unit ![3, 2, 256] ![1, 1, 256] inb_S8x8x512_S1x1x256_3_2_256))) (View.ld x7 (Rect.unit ![3, 2, 256] ![1, 1, 256] inb_S8x8x512_S1x1x256_3_2_256)) (View.ld x4 (Rect.unit ![3, 0, 256] ![1, 128, 256] inb_S8x128x512_S1x128x256_3_0_256)) (View.ld x5 (Rect.unit ![3, 0, 256] ![1, 128, 256] inb_S8x128x512_S1x128x256_3_0_256)) (View.ld x6 (Rect.unit ![4, 2, 256] ![1, 1, 256] inb_S8x8x512_S1x1x256_4_2_256)) (View.ld x7 (Rect.unit ![4, 2, 256] ![1, 1, 256] inb_S8x8x512_S1x1x256_4_2_256)) (View.ld x4 (Rect.unit ![4, 0, 256] ![1, 128, 256] inb_S8x128x512_S1x128x256_4_0_256)) (View.ld x5 (Rect.unit ![4, 0, 256] ![1, 128, 256] inb_S8x128x512_S1x128x256_4_0_256))) (k0_pay90 (View.ld x6 (Rect.unit ![5, 2, 256] ![1, 1, 256] inb_S8x8x512_S1x1x256_5_2_256))) (View.ld x7 (Rect.unit ![5, 2, 256] ![1, 1, 256] inb_S8x8x512_S1x1x256_5_2_256)) (View.ld x4 (Rect.unit ![5, 0, 256] ![1, 128, 256] inb_S8x128x512_S1x128x256_5_0_256)) (View.ld x5 (Rect.unit ![5, 0, 256] ![1, 128, 256] inb_S8x128x512_S1x128x256_5_0_256)) (View.ld x6 (Rect.unit ![6, 2, 256] ![1, 1, 256] inb_S8x8x512_S1x1x256_6_2_256)) (View.ld x7 (Rect.unit ![6, 2, 256] ![1, 1, 256] inb_S8x8x512_S1x1x256_6_2_256)) (View.ld x4 (Rect.unit ![6, 0, 256] ![1, 128, 256] inb_S8x128x512_S1x128x256_6_0_256)) (View.ld x5 (Rect.unit ![6, 0, 256] ![1, 128, 256] inb_S8x128x512_S1x128x256_6_0_256)))) (View.ld x6 (Rect.unit ![7, 2, 256] ![1, 1, 256] inb_S8x8x512_S1x1x256_7_2_256)) (View.ld x7 (Rect.unit ![7, 2, 256] ![1, 1, 256] inb_S8x8x512_S1x1x256_7_2_256)) (View.ld x4 (Rect.unit ![7, 0, 256] ![1, 128, 256] inb_S8x128x512_S1x128x256_7_0_256)) (View.ld x5 (Rect.unit ![7, 0, 256] ![1, 128, 256] inb_S8x128x512_S1x128x256_7_0_256)) v5)⟩ :: ⟨Rect.unit ![0, 256, 0] ![1, 128, 256] inb_S2x512x512_S1x128x256_0_256_0, (k0_pay83 (k0_pay79 (k0_pay75 (k0_pay71 (k0_pay67 (k0_pay64 (F := Ideal)) (k0_pay65 (View.ld x7 (Rect.unit ![0, 2, 0] ![1, 1, 256] inb_S8x8x512_S1x1x256_0_2_0))) (k0_pay66 (View.ld x6 (Rect.unit ![0, 2, 0] ![1, 1, 256] inb_S8x8x512_S1x1x256_0_2_0)) (View.ld x4 (Rect.unit ![0, 0, 0] ![1, 128, 256] inb_S8x128x512_S1x128x256_0_0_0)) (View.ld x5 (Rect.unit ![0, 0, 0] ![1, 128, 256] inb_S8x128x512_S1x128x256_0_0_0))) (View.ld x6 (Rect.unit ![1, 2, 0] ![1, 1, 256] inb_S8x8x512_S1x1x256_1_2_0)) (View.ld x7 (Rect.unit ![1, 2, 0] ![1, 1, 256] inb_S8x8x512_S1x1x256_1_2_0)) (View.ld x4 (Rect.unit ![1, 0, 0] ![1, 128, 256] inb_S8x128x512_S1x128x256_1_0_0)) (View.ld x5 (Rect.unit ![1, 0, 0] ![1, 128, 256] inb_S8x128x512_S1x128x256_1_0_0))) (k0_pay68 (View.ld x7 (Rect.unit ![2, 2, 0] ![1, 1, 256] inb_S8x8x512_S1x1x256_2_2_0))) (k0_pay69 (F := Ideal)) (k0_pay70 (View.ld x6 (Rect.unit ![2, 2, 0] ![1, 1, 256] inb_S8x8x512_S1x1x256_2_2_0)) (View.ld x4 (Rect.unit ![2, 0, 0] ![1, 128, 256] inb_S8x128x512_S1x128x256_2_0_0))) (View.ld x5 (Rect.unit ![2, 0, 0] ![1, 128, 256] inb_S8x128x512_S1x128x256_2_0_0)) (View.ld x6 (Rect.unit ![3, 2, 0] ![1, 1, 256] inb_S8x8x512_S1x1x256_3_2_0)) (View.ld x7 (Rect.unit ![3, 2, 0] ![1, 1, 256] inb_S8x8x512_S1x1x256_3_2_0)) (View.ld x4 (Rect.unit ![3, 0, 0] ![1, 128, 256] inb_S8x128x512_S1x128x256_3_0_0)) (View.ld x5 (Rect.unit ![3, 0, 0] ![1, 128, 256] inb_S8x128x512_S1x128x256_3_0_0))) (k0_pay72 (View.ld x6 (Rect.unit ![4, 2, 0] ![1, 1, 256] inb_S8x8x512_S1x1x256_4_2_0))) (k0_pay73 (View.ld x7 (Rect.unit ![4, 2, 0] ![1, 1, 256] inb_S8x8x512_S1x1x256_4_2_0))) (k0_pay74 (F := Ideal)) (View.ld x4 (Rect.unit ![4, 0, 0] ![1, 128, 256] inb_S8x128x512_S1x128x256_4_0_0)) (View.ld x5 (Rect.unit ![4, 0, 0] ![1, 128, 256] inb_S8x128x512_S1x128x256_4_0_0)) (View.ld x6 (Rect.unit ![5, 2, 0] ![1, 1, 256] inb_S8x8x512_S1x1x256_5_2_0)) (View.ld x7 (Rect.unit ![5, 2, 0] ![1, 1, 256] inb_S8x8x512_S1x1x256_5_2_0)) (View.ld x4 (Rect.unit ![5, 0, 0] ![1, 128, 256] inb_S8x128x512_S1x128x256_5_0_0)) (View.ld x5 (Rect.unit ![5, 0, 0] ![1, 128, 256] inb_S8x128x512_S1x128x256_5_0_0))) (k0_pay76 (View.ld x6 (Rect.unit ![6, 2, 0] ![1, 1, 256] inb_S8x8x512_S1x1x256_6_2_0))) (k0_pay77 (View.ld x7 (Rect.unit ![6, 2, 0] ![1, 1, 256] inb_S8x8x512_S1x1x256_6_2_0))) (k0_pay78 (F := Ideal)) (View.ld x4 (Rect.unit ![6, 0, 0] ![1, 128, 256] inb_S8x128x512_S1x128x256_6_0_0)) (View.ld x5 (Rect.unit ![6, 0, 0] ![1, 128, 256] inb_S8x128x512_S1x128x256_6_0_0)) (View.ld x6 (Rect.unit ![7, 2, 0] ![1, 1, 256] inb_S8x8x512_S1x1x256_7_2_0)) (View.ld x7 (Rect.unit ![7, 2, 0] ![1, 1, 256] inb_S8x8x512_S1x1x256_7_2_0)) (View.ld x4 (Rect.unit ![7, 0, 0] ![1, 128, 256] inb_S8x128x512_S1x128x256_7_0_0)) (View.ld x5 (Rect.unit ![7, 0, 0] ![1, 128, 256] inb_S8x128x512_S1x128x256_7_0_0))) (k0_pay81 v4) (k0_pay82 v4) (Scalar.ofBits .f32 0x3F800000#32))⟩ :: ⟨Rect.unit ![0, 128, 256] ![1, 128, 256] inb_S2x512x512_S1x128x256_0_128_256, (k0_pay63 (k0_pay60 ((k0_pay59 (k0_pay57 (k0_pay55 (k0_pay52 (F := Ideal)) (k0_pay53 (View.ld x6 (Rect.unit ![0, 1, 256] ![1, 1, 256] inb_S8x8x512_S1x1x256_0_1_256))) (k0_pay54 (View.ld x7 (Rect.unit ![0, 1, 256] ![1, 1, 256] inb_S8x8x512_S1x1x256_0_1_256))) (View.ld x4 (Rect.unit ![0, 0, 256] ![1, 128, 256] inb_S8x128x512_S1x128x256_0_0_256)) (View.ld x5 (Rect.unit ![0, 0, 256] ![1, 128, 256] inb_S8x128x512_S1x128x256_0_0_256)) (View.ld x6 (Rect.unit ![1, 1, 256] ![1, 1, 256] inb_S8x8x512_S1x1x256_1_1_256)) (View.ld x7 (Rect.unit ![1, 1, 256] ![1, 1, 256] inb_S8x8x512_S1x1x256_1_1_256)) (View.ld x4 (Rect.unit ![1, 0, 256] ![1, 128, 256] inb_S8x128x512_S1x128x256_1_0_256)) (View.ld x5 (Rect.unit ![1, 0, 256] ![1, 128, 256] inb_S8x128x512_S1x128x256_1_0_256))) (k0_pay56 (View.ld x6 (Rect.unit ![2, 1, 256] ![1, 1, 256] inb_S8x8x512_S1x1x256_2_1_256))) (View.ld x7 (Rect.unit ![2, 1, 256] ![1, 1, 256] inb_S8x8x512_S1x1x256_2_1_256)) (View.ld x4 (Rect.unit ![2, 0, 256] ![1, 128, 256] inb_S8x128x512_S1x128x256_2_0_256)) (View.ld x5 (Rect.unit ![2, 0, 256] ![1, 128, 256] inb_S8x128x512_S1x128x256_2_0_256)) (View.ld x6 (Rect.unit ![3, 1, 256] ![1, 1, 256] inb_S8x8x512_S1x1x256_3_1_256)) (View.ld x7 (Rect.unit ![3, 1, 256] ![1, 1, 256] inb_S8x8x512_S1x1x256_3_1_256)) (View.ld x4 (Rect.unit ![3, 0, 256] ![1, 128, 256] inb_S8x128x512_S1x128x256_3_0_256)) (View.ld x5 (Rect.unit ![3, 0, 256] ![1, 128, 256] inb_S8x128x512_S1x128x256_3_0_256))) (k0_pay58 (View.ld x6 (Rect.unit ![4, 1, 256] ![1, 1, 256] inb_S8x8x512_S1x1x256_4_1_256))) (View.ld x7 (Rect.unit ![4, 1, 256] ![1, 1, 256] inb_S8x8x512_S1x1x256_4_1_256)) (View.ld x4 (Rect.unit ![4, 0, 256] ![1, 128, 256] inb_S8x128x512_S1x128x256_4_0_256)) (View.ld x5 (Rect.unit ![4, 0, 256] ![1, 128, 256] inb_S8x128x512_S1x128x256_4_0_256)) (View.ld x6 (Rect.unit ![5, 1, 256] ![1, 1, 256] inb_S8x8x512_S1x1x256_5_1_256)) (View.ld x7 (Rect.unit ![5, 1, 256] ![1, 1, 256] inb_S8x8x512_S1x1x256_5_1_256)) (View.ld x4 (Rect.unit ![5, 0, 256] ![1, 128, 256] inb_S8x128x512_S1x128x256_5_0_256)) (View.ld x5 (Rect.unit ![5, 0, 256] ![1, 128, 256] inb_S8x128x512_S1x128x256_5_0_256)))) (View.ld x6 (Rect.unit ![6, 1, 256] ![1, 1, 256] inb_S8x8x512_S1x1x256_6_1_256)) (View.ld x7 (Rect.unit ![6, 1, 256] ![1, 1, 256] inb_S8x8x512_S1x1x256_6_1_256)) (View.ld x4 (Rect.unit ![6, 0, 256] ![1, 128, 256] inb_S8x128x512_S1x128x256_6_0_256)) (View.ld x5 (Rect.unit ![6, 0, 256] ![1, 128, 256] inb_S8x128x512_S1x128x256_6_0_256))) (k0_pay61 (View.ld x7 (Rect.unit ![7, 1, 256] ![1, 1, 256] inb_S8x8x512_S1x1x256_7_1_256))) (k0_pay62 (View.ld x6 (Rect.unit ![7, 1, 256] ![1, 1, 256] inb_S8x8x512_S1x1x256_7_1_256)) (View.ld x4 (Rect.unit ![7, 0, 256] ![1, 128, 256] inb_S8x128x512_S1x128x256_7_0_256)) (View.ld x5 (Rect.unit ![7, 0, 256] ![1, 128, 256] inb_S8x128x512_S1x128x256_7_0_256))) v3)⟩ :: ⟨Rect.unit ![0, 128, 0] ![1, 128, 256] inb_S2x512x512_S1x128x256_0_128_0, (k0_pay51 (k0_pay48 (k0_pay44 (k0_pay40 (k0_pay36 (View.ld x6 (Rect.unit ![0, 1, 0] ![1, 1, 256] inb_S8x8x512_S1x1x256_0_1_0)) (View.ld x7 (Rect.unit ![0, 1, 0] ![1, 1, 256] inb_S8x8x512_S1x1x256_0_1_0)) (View.ld x4 (Rect.unit ![0, 0, 0] ![1, 128, 256] inb_S8x128x512_S1x128x256_0_0_0)) (View.ld x5 (Rect.unit ![0, 0, 0] ![1, 128, 256] inb_S8x128x512_S1x128x256_0_0_0))) (k0_pay37 (View.ld x7 (Rect.unit ![1, 1, 0] ![1, 1, 256] inb_S8x8x512_S1x1x256_1_1_0))) (k0_pay38 (F := Ideal)) (k0_pay39 (View.ld x6 (Rect.unit ![1, 1, 0] ![1, 1, 256] inb_S8x8x512_S1x1x256_1_1_0)) (View.ld x4 (Rect.unit ![1, 0, 0] ![1, 128, 256] inb_S8x128x512_S1x128x256_1_0_0))) (View.ld x5 (Rect.unit ![1, 0, 0] ![1, 128, 256] inb_S8x128x512_S1x128x256_1_0_0)) (View.ld x6 (Rect.unit ![2, 1, 0] ![1, 1, 256] inb_S8x8x512_S1x1x256_2_1_0)) (View.ld x7 (Rect.unit ![2, 1, 0] ![1, 1, 256] inb_S8x8x512_S1x1x256_2_1_0)) (View.ld x4 (Rect.unit ![2, 0, 0] ![1, 128, 256] inb_S8x128x512_S1x128x256_2_0_0)) (View.ld x5 (Rect.unit ![2, 0, 0] ![1, 128, 256] inb_S8x128x512_S1x128x256_2_0_0))) (k0_pay41 (View.ld x6 (Rect.unit ![3, 1, 0] ![1, 1, 256] inb_S8x8x512_S1x1x256_3_1_0))) (k0_pay42 (View.ld x7 (Rect.unit ![3, 1, 0] ![1, 1, 256] inb_S8x8x512_S1x1x256_3_1_0))) (k0_pay43 (F := Ideal)) (View.ld x4 (Rect.unit ![3, 0, 0] ![1, 128, 256] inb_S8x128x512_S1x128x256_3_0_0)) (View.ld x5 (Rect.unit ![3, 0, 0] ![1, 128, 256] inb_S8x128x512_S1x128x256_3_0_0)) (View.ld x6 (Rect.unit ![4, 1, 0] ![1, 1, 256] inb_S8x8x512_S1x1x256_4_1_0)) (View.ld x7 (Rect.unit ![4, 1, 0] ![1, 1, 256] inb_S8x8x512_S1x1x256_4_1_0)) (View.ld x4 (Rect.unit ![4, 0, 0] ![1, 128, 256] inb_S8x128x512_S1x128x256_4_0_0)) (View.ld x5 (Rect.unit ![4, 0, 0] ![1, 128, 256] inb_S8x128x512_S1x128x256_4_0_0))) (k0_pay45 (View.ld x6 (Rect.unit ![5, 1, 0] ![1, 1, 256] inb_S8x8x512_S1x1x256_5_1_0))) (k0_pay46 (View.ld x7 (Rect.unit ![5, 1, 0] ![1, 1, 256] inb_S8x8x512_S1x1x256_5_1_0))) (k0_pay47 (F := Ideal)) (View.ld x4 (Rect.unit ![5, 0, 0] ![1, 128, 256] inb_S8x128x512_S1x128x256_5_0_0)) (View.ld x5 (Rect.unit ![5, 0, 0] ![1, 128, 256] inb_S8x128x512_S1x128x256_5_0_0)) (View.ld x6 (Rect.unit ![6, 1, 0] ![1, 1, 256] inb_S8x8x512_S1x1x256_6_1_0)) (View.ld x7 (Rect.unit ![6, 1, 0] ![1, 1, 256] inb_S8x8x512_S1x1x256_6_1_0)) (View.ld x4 (Rect.unit ![6, 0, 0] ![1, 128, 256] inb_S8x128x512_S1x128x256_6_0_0)) (View.ld x5 (Rect.unit ![6, 0, 0] ![1, 128, 256] inb_S8x128x512_S1x128x256_6_0_0))) (k0_pay49 (View.ld x6 (Rect.unit ![7, 1, 0] ![1, 1, 256] inb_S8x8x512_S1x1x256_7_1_0))) (k0_pay50 (View.ld x7 (Rect.unit ![7, 1, 0] ![1, 1, 256] inb_S8x8x512_S1x1x256_7_1_0))) (View.ld x4 (Rect.unit ![7, 0, 0] ![1, 128, 256] inb_S8x128x512_S1x128x256_7_0_0)) (View.ld x5 (Rect.unit ![7, 0, 0] ![1, 128, 256] inb_S8x128x512_S1x128x256_7_0_0)) v2)⟩ :: ⟨Rect.unit ![0, 0, 256] ![1, 128, 256] inb_S2x512x512_S1x128x256_0_0_256, (k0_pay35 (k0_pay32 ((k0_pay31 (k0_pay29 (k0_pay27 (View.ld x6 (Rect.unit ![0, 0, 256] ![1, 1, 256] inb_S8x8x512_S1x1x256_0_0_256)) (View.ld x7 (Rect.unit ![0, 0, 256] ![1, 1, 256] inb_S8x8x512_S1x1x256_0_0_256)) (View.ld x4 (Rect.unit ![0, 0, 256] ![1, 128, 256] inb_S8x128x512_S1x128x256_0_0_256)) (View.ld x5 (Rect.unit ![0, 0, 256] ![1, 128, 256] inb_S8x128x512_S1x128x256_0_0_256))) (k0_pay28 (View.ld x6 (Rect.unit ![1, 0, 256] ![1, 1, 256] inb_S8x8x512_S1x1x256_1_0_256))) (View.ld x7 (Rect.unit ![1, 0, 256] ![1, 1, 256] inb_S8x8x512_S1x1x256_1_0_256)) (View.ld x4 (Rect.unit ![1, 0, 256] ![1, 128, 256] inb_S8x128x512_S1x128x256_1_0_256)) (View.ld x5 (Rect.unit ![1, 0, 256] ![1, 128, 256] inb_S8x128x512_S1x128x256_1_0_256)) (View.ld x6 (Rect.unit ![2, 0, 256] ![1, 1, 256] inb_S8x8x512_S1x1x256_2_0_256)) (View.ld x7 (Rect.unit ![2, 0, 256] ![1, 1, 256] inb_S8x8x512_S1x1x256_2_0_256)) (View.ld x4 (Rect.unit ![2, 0, 256] ![1, 128, 256] inb_S8x128x512_S1x128x256_2_0_256)) (View.ld x5 (Rect.unit ![2, 0, 256] ![1, 128, 256] inb_S8x128x512_S1x128x256_2_0_256))) (k0_pay30 (View.ld x6 (Rect.unit ![3, 0, 256] ![1, 1, 256] inb_S8x8x512_S1x1x256_3_0_256))) (View.ld x7 (Rect.unit ![3, 0, 256] ![1, 1, 256] inb_S8x8x512_S1x1x256_3_0_256)) (View.ld x4 (Rect.unit ![3, 0, 256] ![1, 128, 256] inb_S8x128x512_S1x128x256_3_0_256)) (View.ld x5 (Rect.unit ![3, 0, 256] ![1, 128, 256] inb_S8x128x512_S1x128x256_3_0_256)) (View.ld x6 (Rect.unit ![4, 0, 256] ![1, 1, 256] inb_S8x8x512_S1x1x256_4_0_256)) (View.ld x7 (Rect.unit ![4, 0, 256] ![1, 1, 256] inb_S8x8x512_S1x1x256_4_0_256)) (View.ld x4 (Rect.unit ![4, 0, 256] ![1, 128, 256] inb_S8x128x512_S1x128x256_4_0_256)) (View.ld x5 (Rect.unit ![4, 0, 256] ![1, 128, 256] inb_S8x128x512_S1x128x256_4_0_256)))) (View.ld x6 (Rect.unit ![5, 0, 256] ![1, 1, 256] inb_S8x8x512_S1x1x256_5_0_256)) (View.ld x7 (Rect.unit ![5, 0, 256] ![1, 1, 256] inb_S8x8x512_S1x1x256_5_0_256)) (View.ld x4 (Rect.unit ![5, 0, 256] ![1, 128, 256] inb_S8x128x512_S1x128x256_5_0_256)) (View.ld x5 (Rect.unit ![5, 0, 256] ![1, 128, 256] inb_S8x128x512_S1x128x256_5_0_256))) (k0_pay33 (View.ld x7 (Rect.unit ![6, 0, 256] ![1, 1, 256] inb_S8x8x512_S1x1x256_6_0_256))) (k0_pay34 (View.ld x6 (Rect.unit ![6, 0, 256] ![1, 1, 256] inb_S8x8x512_S1x1x256_6_0_256)) (View.ld x4 (Rect.unit ![6, 0, 256] ![1, 128, 256] inb_S8x128x512_S1x128x256_6_0_256)) (View.ld x5 (Rect.unit ![6, 0, 256] ![1, 128, 256] inb_S8x128x512_S1x128x256_6_0_256))) (View.ld x6 (Rect.unit ![7, 0, 256] ![1, 1, 256] inb_S8x8x512_S1x1x256_7_0_256)) (View.ld x7 (Rect.unit ![7, 0, 256] ![1, 1, 256] inb_S8x8x512_S1x1x256_7_0_256)) (View.ld x4 (Rect.unit ![7, 0, 256] ![1, 128, 256] inb_S8x128x512_S1x128x256_7_0_256)) (View.ld x5 (Rect.unit ![7, 0, 256] ![1, 128, 256] inb_S8x128x512_S1x128x256_7_0_256)) v1)⟩ :: ⟨Rect.unit ![0, 0, 0] ![1, 128, 256] inb_S2x512x512_S1x128x256_0_0_0, (k0_pay26 (k0_pay23 (k0_pay20 (k0_pay16 (k0_pay12 (k0_pay8 (F := Ideal)) (k0_pay9 (View.ld x7 (Rect.unit ![0, 0, 0] ![1, 1, 256] inb_S8x8x512_S1x1x256_0_0_0))) (k0_pay10 (F := Ideal)) (k0_pay11 (View.ld x6 (Rect.unit ![0, 0, 0] ![1, 1, 256] inb_S8x8x512_S1x1x256_0_0_0)) (View.ld x4 (Rect.unit ![0, 0, 0] ![1, 128, 256] inb_S8x128x512_S1x128x256_0_0_0))) (View.ld x5 (Rect.unit ![0, 0, 0] ![1, 128, 256] inb_S8x128x512_S1x128x256_0_0_0)) (View.ld x6 (Rect.unit ![1, 0, 0] ![1, 1, 256] inb_S8x8x512_S1x1x256_1_0_0)) (View.ld x7 (Rect.unit ![1, 0, 0] ![1, 1, 256] inb_S8x8x512_S1x1x256_1_0_0)) (View.ld x4 (Rect.unit ![1, 0, 0] ![1, 128, 256] inb_S8x128x512_S1x128x256_1_0_0)) (View.ld x5 (Rect.unit ![1, 0, 0] ![1, 128, 256] inb_S8x128x512_S1x128x256_1_0_0))) (k0_pay13 (View.ld x6 (Rect.unit ![2, 0, 0] ![1, 1, 256] inb_S8x8x512_S1x1x256_2_0_0))) (k0_pay14 (View.ld x7 (Rect.unit ![2, 0, 0] ![1, 1, 256] inb_S8x8x512_S1x1x256_2_0_0))) (k0_pay15 (F := Ideal)) (View.ld x4 (Rect.unit ![2, 0, 0] ![1, 128, 256] inb_S8x128x512_S1x128x256_2_0_0)) (View.ld x5 (Rect.unit ![2, 0, 0] ![1, 128, 256] inb_S8x128x512_S1x128x256_2_0_0)) (View.ld x6 (Rect.unit ![3, 0, 0] ![1, 1, 256] inb_S8x8x512_S1x1x256_3_0_0)) (View.ld x7 (Rect.unit ![3, 0, 0] ![1, 1, 256] inb_S8x8x512_S1x1x256_3_0_0)) (View.ld x4 (Rect.unit ![3, 0, 0] ![1, 128, 256] inb_S8x128x512_S1x128x256_3_0_0)) (View.ld x5 (Rect.unit ![3, 0, 0] ![1, 128, 256] inb_S8x128x512_S1x128x256_3_0_0))) (k0_pay17 (View.ld x6 (Rect.unit ![4, 0, 0] ![1, 1, 256] inb_S8x8x512_S1x1x256_4_0_0))) (k0_pay18 (View.ld x7 (Rect.unit ![4, 0, 0] ![1, 1, 256] inb_S8x8x512_S1x1x256_4_0_0))) (k0_pay19 (F := Ideal)) (View.ld x4 (Rect.unit ![4, 0, 0] ![1, 128, 256] inb_S8x128x512_S1x128x256_4_0_0)) (View.ld x5 (Rect.unit ![4, 0, 0] ![1, 128, 256] inb_S8x128x512_S1x128x256_4_0_0)) (View.ld x6 (Rect.unit ![5, 0, 0] ![1, 1, 256] inb_S8x8x512_S1x1x256_5_0_0)) (View.ld x7 (Rect.unit ![5, 0, 0] ![1, 1, 256] inb_S8x8x512_S1x1x256_5_0_0)) (View.ld x4 (Rect.unit ![5, 0, 0] ![1, 128, 256] inb_S8x128x512_S1x128x256_5_0_0)) (View.ld x5 (Rect.unit ![5, 0, 0] ![1, 128, 256] inb_S8x128x512_S1x128x256_5_0_0))) (k0_pay21 (View.ld x6 (Rect.unit ![6, 0, 0] ![1, 1, 256] inb_S8x8x512_S1x1x256_6_0_0))) (k0_pay22 (View.ld x7 (Rect.unit ![6, 0, 0] ![1, 1, 256] inb_S8x8x512_S1x1x256_6_0_0))) (View.ld x4 (Rect.unit ![6, 0, 0] ![1, 128, 256] inb_S8x128x512_S1x128x256_6_0_0)) (View.ld x5 (Rect.unit ![6, 0, 0] ![1, 128, 256] inb_S8x128x512_S1x128x256_6_0_0)) (View.ld x6 (Rect.unit ![7, 0, 0] ![1, 1, 256] inb_S8x8x512_S1x1x256_7_0_0)) (View.ld x7 (Rect.unit ![7, 0, 0] ![1, 1, 256] inb_S8x8x512_S1x1x256_7_0_0)) (View.ld x4 (Rect.unit ![7, 0, 0] ![1, 128, 256] inb_S8x128x512_S1x128x256_7_0_0)) (View.ld x5 (Rect.unit ![7, 0, 0] ![1, 128, 256] inb_S8x128x512_S1x128x256_7_0_0))) (k0_pay24 v0) (k0_pay25 v0) (Scalar.ofBits .f32 0x3F3504F3#32))⟩ :: L)
      (Rect.unit ![0, 0, 0] ![1, 512, 512] inb_S2x512x512_S1x512x512_0_0_0).toLoadRect
      = fun j => coef x4 x5 x6 x7 0 aa (j 1) (j 2) := by
  rw [View.readCov_eq_canon']
  funext j
  have j0 : (j 0).val < 1 := (j 0).isLt
  refine (View.canon_append_of_piecesOf (fun y => coef x4 x5 x6 x7 0 aa (y 1) (y 2)) L [_, _, _, _, _, _, _, _] ⟨?_, ?_, ?_, ?_, ?_, ?_, ?_, ?_, trivial⟩ _ (cover_0 _ _ _ _ _ _ _ _ _ ?_)).trans ?_
  · intro x
    refine (at_7 x4 x5 x6 x7 v7 x).trans (coef_at x4 x5 x6 x7 0 aa 3 _ _ _ _ _ _ rfl ?_ ?_ ?_)
    · show 384 + 1 * (x 1).val = 128 * 3 + (x 1).val
      omega
    · show 256 + 1 * (x 2).val = 256 + (x 2).val
      omega
    · refine (h7 x).trans (congrArg₂ aa (Fin.ext ?_) (Fin.ext ?_))
      · show 384 + (x 1).val = 384 + 1 * (x 1).val
        omega
      · show 256 + (x 2).val = 256 + 1 * (x 2).val
        omega
  · intro x
    refine (at_6 x4 x5 x6 x7 v6 x).trans (coef_at x4 x5 x6 x7 0 aa 3 _ _ _ _ _ _ rfl ?_ ?_ ?_)
    · show 384 + 1 * (x 1).val = 128 * 3 + (x 1).val
      omega
    · show 0 + 1 * (x 2).val = 0 + (x 2).val
      omega
    · refine (h6 x).trans (congrArg₂ aa (Fin.ext ?_) (Fin.ext ?_))
      · show 384 + (x 1).val = 384 + 1 * (x 1).val
        omega
      · show 0 + (x 2).val = 0 + 1 * (x 2).val
        omega
  · intro x
    refine (at_5 x4 x5 x6 x7 v5 x).trans (coef_at x4 x5 x6 x7 0 aa 2 _ _ _ _ _ _ rfl ?_ ?_ ?_)
    · show 256 + 1 * (x 1).val = 128 * 2 + (x 1).val
      omega
    · show 256 + 1 * (x 2).val = 256 + (x 2).val
      omega
    · refine (h5 x).trans (congrArg₂ aa (Fin.ext ?_) (Fin.ext ?_))
      · show 256 + (x 1).val = 256 + 1 * (x 1).val
        omega
      · show 256 + (x 2).val = 256 + 1 * (x 2).val
        omega
  · intro x
    refine (at_4 x4 x5 x6 x7 v4 x).trans (coef_at x4 x5 x6 x7 0 aa 2 _ _ _ _ _ _ rfl ?_ ?_ ?_)
    · show 256 + 1 * (x 1).val = 128 * 2 + (x 1).val
      omega
    · show 0 + 1 * (x 2).val = 0 + (x 2).val
      omega
    · refine (h4 x).trans (congrArg₂ aa (Fin.ext ?_) (Fin.ext ?_))
      · show 256 + (x 1).val = 256 + 1 * (x 1).val
        omega
      · show 0 + (x 2).val = 0 + 1 * (x 2).val
        omega
  · intro x
    refine (at_3 x4 x5 x6 x7 v3 x).trans (coef_at x4 x5 x6 x7 0 aa 1 _ _ _ _ _ _ rfl ?_ ?_ ?_)
    · show 128 + 1 * (x 1).val = 128 * 1 + (x 1).val
      omega
    · show 256 + 1 * (x 2).val = 256 + (x 2).val
      omega
    · refine (h3 x).trans (congrArg₂ aa (Fin.ext ?_) (Fin.ext ?_))
      · show 128 + (x 1).val = 128 + 1 * (x 1).val
        omega
      · show 256 + (x 2).val = 256 + 1 * (x 2).val
        omega
  · intro x
    refine (at_2 x4 x5 x6 x7 v2 x).trans (coef_at x4 x5 x6 x7 0 aa 1 _ _ _ _ _ _ rfl ?_ ?_ ?_)
    · show 128 + 1 * (x 1).val = 128 * 1 + (x 1).val
      omega
    · show 0 + 1 * (x 2).val = 0 + (x 2).val
      omega
    · refine (h2 x).trans (congrArg₂ aa (Fin.ext ?_) (Fin.ext ?_))
      · show 128 + (x 1).val = 128 + 1 * (x 1).val
        omega
      · show 0 + (x 2).val = 0 + 1 * (x 2).val
        omega
  · intro x
    refine (at_1 x4 x5 x6 x7 v1 x).trans (coef_at x4 x5 x6 x7 0 aa 0 _ _ _ _ _ _ rfl ?_ ?_ ?_)
    · show 0 + 1 * (x 1).val = 128 * 0 + (x 1).val
      omega
    · show 256 + 1 * (x 2).val = 256 + (x 2).val
      omega
    · refine (h1 x).trans (congrArg₂ aa (Fin.ext ?_) (Fin.ext ?_))
      · show 0 + (x 1).val = 0 + 1 * (x 1).val
        omega
      · show 256 + (x 2).val = 256 + 1 * (x 2).val
        omega
  · intro x
    refine (at_0 x4 x5 x6 x7 v0 x).trans (coef_at x4 x5 x6 x7 0 aa 0 _ _ _ _ _ _ rfl ?_ ?_ ?_)
    · show 0 + 1 * (x 1).val = 128 * 0 + (x 1).val
      omega
    · show 0 + 1 * (x 2).val = 0 + (x 2).val
      omega
    · refine (h0 x).trans (congrArg₂ aa (Fin.ext ?_) (Fin.ext ?_))
      · show 0 + (x 1).val = 0 + 1 * (x 1).val
        omega
      · show 0 + (x 2).val = 0 + 1 * (x 2).val
        omega
  · show 0 + 1 * (j 0).val = 0
    omega
  · refine congrArg₂ (coef x4 x5 x6 x7 0 aa) (Fin.ext ?_) (Fin.ext ?_)
    · show 0 + 1 * (j 1).val = (j 1).val
      omega
    · show 0 + 1 * (j 2).val = (j 2).val
      omega

theorem cover_1 (p8 p9 p10 p11 p12 p13 p14 p15 : Vec Ideal S1x128x256 .bf16) (y : S2x512x512.Idx) (h : (y 0).val = 1) :
    ∃ p ∈ ([⟨Rect.unit ![1, 384, 256] ![1, 128, 256] inb_S2x512x512_S1x128x256_1_384_256, p15⟩,
      ⟨Rect.unit ![1, 384, 0] ![1, 128, 256] inb_S2x512x512_S1x128x256_1_384_0, p14⟩,
      ⟨Rect.unit ![1, 256, 256] ![1, 128, 256] inb_S2x512x512_S1x128x256_1_256_256, p13⟩,
      ⟨Rect.unit ![1, 256, 0] ![1, 128, 256] inb_S2x512x512_S1x128x256_1_256_0, p12⟩,
      ⟨Rect.unit ![1, 128, 256] ![1, 128, 256] inb_S2x512x512_S1x128x256_1_128_256, p11⟩,
      ⟨Rect.unit ![1, 128, 0] ![1, 128, 256] inb_S2x512x512_S1x128x256_1_128_0, p10⟩,
      ⟨Rect.unit ![1, 0, 256] ![1, 128, 256] inb_S2x512x512_S1x128x256_1_0_256, p9⟩,
      ⟨Rect.unit ![1, 0, 0] ![1, 128, 256] inb_S2x512x512_S1x128x256_1_0_0, p8⟩] : List (View.Piece (Elt Ideal) S2x512x512 .bf16)), y ∈ p.1.set := by
  have h1 : (y 1).val < 512 := (y 1).isLt
  have h2 : (y 2).val < 512 := (y 2).isLt
  have c : (384 ≤ (y 1).val ∧ (y 1).val < 512 ∧ 256 ≤ (y 2).val ∧ (y 2).val < 512) ∨ (384 ≤ (y 1).val ∧ (y 1).val < 512 ∧ 0 ≤ (y 2).val ∧ (y 2).val < 256) ∨ (256 ≤ (y 1).val ∧ (y 1).val < 384 ∧ 256 ≤ (y 2).val ∧ (y 2).val < 512) ∨ (256 ≤ (y 1).val ∧ (y 1).val < 384 ∧ 0 ≤ (y 2).val ∧ (y 2).val < 256) ∨ (128 ≤ (y 1).val ∧ (y 1).val < 256 ∧ 256 ≤ (y 2).val ∧ (y 2).val < 512) ∨ (128 ≤ (y 1).val ∧ (y 1).val < 256 ∧ 0 ≤ (y 2).val ∧ (y 2).val < 256) ∨ (0 ≤ (y 1).val ∧ (y 1).val < 128 ∧ 256 ≤ (y 2).val ∧ (y 2).val < 512) ∨ (0 ≤ (y 1).val ∧ (y 1).val < 128 ∧ 0 ≤ (y 2).val ∧ (y 2).val < 256) := by omega
  rcases c with c | c | c | c | c | c | c | c
  · exact ⟨_, List.mem_cons_self, mem_box y _ _ _ inb_S2x512x512_S1x128x256_1_384_256 h c⟩
  · exact ⟨_, (List.mem_cons_of_mem _ List.mem_cons_self), mem_box y _ _ _ inb_S2x512x512_S1x128x256_1_384_0 h c⟩
  · exact ⟨_, (List.mem_cons_of_mem _ (List.mem_cons_of_mem _ List.mem_cons_self)), mem_box y _ _ _ inb_S2x512x512_S1x128x256_1_256_256 h c⟩
  · exact ⟨_, (List.mem_cons_of_mem _ (List.mem_cons_of_mem _ (List.mem_cons_of_mem _ List.mem_cons_self))), mem_box y _ _ _ inb_S2x512x512_S1x128x256_1_256_0 h c⟩
  · exact ⟨_, (List.mem_cons_of_mem _ (List.mem_cons_of_mem _ (List.mem_cons_of_mem _ (List.mem_cons_of_mem _ List.mem_cons_self)))), mem_box y _ _ _ inb_S2x512x512_S1x128x256_1_128_256 h c⟩
  · exact ⟨_, (List.mem_cons_of_mem _ (List.mem_cons_of_mem _ (List.mem_cons_of_mem _ (List.mem_cons_of_mem _ (List.mem_cons_of_mem _ List.mem_cons_self))))), mem_box y _ _ _ inb_S2x512x512_S1x128x256_1_128_0 h c⟩
  · exact ⟨_, (List.mem_cons_of_mem _ (List.mem_cons_of_mem _ (List.mem_cons_of_mem _ (List.mem_cons_of_mem _ (List.mem_cons_of_mem _ (List.mem_cons_of_mem _ List.mem_cons_self)))))), mem_box y _ _ _ inb_S2x512x512_S1x128x256_1_0_256 h c⟩
  · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), mem_box y _ _ _ inb_S2x512x512_S1x128x256_1_0_0 h c⟩

/-- Half 1 of the scratch, read whole. -/
theorem half_1 {ρ : RefSig} {κ : Kind} {sp : Space} {W : View ρ κ sp S2x512x512 .bf16} (x4 x5 : Vec Ideal S8x128x512 .bf16) (x6 x7 : Vec Ideal S8x8x512 .f32)
    (v8 v9 v10 v11 v12 v13 v14 v15 : Vec Ideal S1x128x256 .f32) (aa : Fin 512 → Fin 512 → EReal)
    (h8 : ∀ x : S1x128x256.Idx, v8 x = aa ⟨0 + (x 1).val, by have : (x 1).val < 128 := (x 1).isLt; omega⟩ ⟨0 + (x 2).val, by have : (x 2).val < 256 := (x 2).isLt; omega⟩)
    (h9 : ∀ x : S1x128x256.Idx, v9 x = aa ⟨0 + (x 1).val, by have : (x 1).val < 128 := (x 1).isLt; omega⟩ ⟨256 + (x 2).val, by have : (x 2).val < 256 := (x 2).isLt; omega⟩)
    (h10 : ∀ x : S1x128x256.Idx, v10 x = aa ⟨128 + (x 1).val, by have : (x 1).val < 128 := (x 1).isLt; omega⟩ ⟨0 + (x 2).val, by have : (x 2).val < 256 := (x 2).isLt; omega⟩)
    (h11 : ∀ x : S1x128x256.Idx, v11 x = aa ⟨128 + (x 1).val, by have : (x 1).val < 128 := (x 1).isLt; omega⟩ ⟨256 + (x 2).val, by have : (x 2).val < 256 := (x 2).isLt; omega⟩)
    (h12 : ∀ x : S1x128x256.Idx, v12 x = aa ⟨256 + (x 1).val, by have : (x 1).val < 128 := (x 1).isLt; omega⟩ ⟨0 + (x 2).val, by have : (x 2).val < 256 := (x 2).isLt; omega⟩)
    (h13 : ∀ x : S1x128x256.Idx, v13 x = aa ⟨256 + (x 1).val, by have : (x 1).val < 128 := (x 1).isLt; omega⟩ ⟨256 + (x 2).val, by have : (x 2).val < 256 := (x 2).isLt; omega⟩)
    (h14 : ∀ x : S1x128x256.Idx, v14 x = aa ⟨384 + (x 1).val, by have : (x 1).val < 128 := (x 1).isLt; omega⟩ ⟨0 + (x 2).val, by have : (x 2).val < 256 := (x 2).isLt; omega⟩)
    (h15 : ∀ x : S1x128x256.Idx, v15 x = aa ⟨384 + (x 1).val, by have : (x 1).val < 128 := (x 1).isLt; omega⟩ ⟨256 + (x 2).val, by have : (x 2).val < 256 := (x 2).isLt; omega⟩)
    (L : List (View.Piece (Elt Ideal) S2x512x512 .bf16)) :
    W.readCov
      (⟨Rect.unit ![1, 384, 256] ![1, 128, 256] inb_S2x512x512_S1x128x256_1_384_256, (k0_pay241 (k0_pay125 (F := Ideal)) ((k0_pay240 (k0_pay238 (k0_pay236 (k0_pay233 (View.ld x6 (Rect.unit ![0, 7, 256] ![1, 1, 256] inb_S8x8x512_S1x1x256_0_7_256)) (View.ld x7 (Rect.unit ![0, 7, 256] ![1, 1, 256] inb_S8x8x512_S1x1x256_0_7_256)) (View.ld x4 (Rect.unit ![0, 0, 256] ![1, 128, 256] inb_S8x128x512_S1x128x256_0_0_256)) (View.ld x5 (Rect.unit ![0, 0, 256] ![1, 128, 256] inb_S8x128x512_S1x128x256_0_0_256))) (k0_pay234 (View.ld x6 (Rect.unit ![1, 7, 256] ![1, 1, 256] inb_S8x8x512_S1x1x256_1_7_256))) (k0_pay235 (View.ld x7 (Rect.unit ![1, 7, 256] ![1, 1, 256] inb_S8x8x512_S1x1x256_1_7_256))) (View.ld x4 (Rect.unit ![1, 0, 256] ![1, 128, 256] inb_S8x128x512_S1x128x256_1_0_256)) (View.ld x5 (Rect.unit ![1, 0, 256] ![1, 128, 256] inb_S8x128x512_S1x128x256_1_0_256)) (View.ld x6 (Rect.unit ![2, 7, 256] ![1, 1, 256] inb_S8x8x512_S1x1x256_2_7_256)) (View.ld x7 (Rect.unit ![2, 7, 256] ![1, 1, 256] inb_S8x8x512_S1x1x256_2_7_256)) (View.ld x4 (Rect.unit ![2, 0, 256] ![1, 128, 256] inb_S8x128x512_S1x128x256_2_0_256)) (View.ld x5 (Rect.unit ![2, 0, 256] ![1, 128, 256] inb_S8x128x512_S1x128x256_2_0_256))) (k0_pay237 (View.ld x6 (Rect.unit ![3, 7, 256] ![1, 1, 256] inb_S8x8x512_S1x1x256_3_7_256))) (View.ld x7 (Rect.unit ![3, 7, 256] ![1, 1, 256] inb_S8x8x512_S1x1x256_3_7_256)) (View.ld x4 (Rect.unit ![3, 0, 256] ![1, 128, 256] inb_S8x128x512_S1x128x256_3_0_256)) (View.ld x5 (Rect.unit ![3, 0, 256] ![1, 128, 256] inb_S8x128x512_S1x128x256_3_0_256)) (View.ld x6 (Rect.unit ![4, 7, 256] ![1, 1, 256] inb_S8x8x512_S1x1x256_4_7_256)) (View.ld x7 (Rect.unit ![4, 7, 256] ![1, 1, 256] inb_S8x8x512_S1x1x256_4_7_256)) (View.ld x4 (Rect.unit ![4, 0, 256] ![1, 128, 256] inb_S8x128x512_S1x128x256_4_0_256)) (View.ld x5 (Rect.unit ![4, 0, 256] ![1, 128, 256] inb_S8x128x512_S1x128x256_4_0_256))) (k0_pay239 (View.ld x6 (Rect.unit ![5, 7, 256] ![1, 1, 256] inb_S8x8x512_S1x1x256_5_7_256))) (View.ld x7 (Rect.unit ![5, 7, 256] ![1, 1, 256] inb_S8x8x512_S1x1x256_5_7_256)) (View.ld x4 (Rect.unit ![5, 0, 256] ![1, 128, 256] inb_S8x128x512_S1x128x256_5_0_256)) (View.ld x5 (Rect.unit ![5, 0, 256] ![1, 128, 256] inb_S8x128x512_S1x128x256_5_0_256)) (View.ld x6 (Rect.unit ![6, 7, 256] ![1, 1, 256] inb_S8x8x512_S1x1x256_6_7_256)) (View.ld x7 (Rect.unit ![6, 7, 256] ![1, 1, 256] inb_S8x8x512_S1x1x256_6_7_256)) (View.ld x4 (Rect.unit ![6, 0, 256] ![1, 128, 256] inb_S8x128x512_S1x128x256_6_0_256)) (View.ld x5 (Rect.unit ![6, 0, 256] ![1, 128, 256] inb_S8x128x512_S1x128x256_6_0_256)))) (View.ld x6 (Rect.unit ![7, 7, 256] ![1, 1, 256] inb_S8x8x512_S1x1x256_7_7_256)) (View.ld x7 (Rect.unit ![7, 7, 256] ![1, 1, 256] inb_S8x8x512_S1x1x256_7_7_256)) (View.ld x4 (Rect.unit ![7, 0, 256] ![1, 128, 256] inb_S8x128x512_S1x128x256_7_0_256)) (View.ld x5 (Rect.unit ![7, 0, 256] ![1, 128, 256] inb_S8x128x512_S1x128x256_7_0_256)) v15)⟩ :: ⟨Rect.unit ![1, 384, 0] ![1, 128, 256] inb_S2x512x512_S1x128x256_1_384_0, (k0_pay232 (k0_pay228 (k0_pay225 (k0_pay221 (k0_pay217 (k0_pay212 (F := Ideal)) (k0_pay213 (View.ld x7 (Rect.unit ![0, 7, 0] ![1, 1, 256] inb_S8x8x512_S1x1x256_0_7_0))) (k0_pay214 (F := Ideal)) (k0_pay215 (View.ld x6 (Rect.unit ![0, 7, 0] ![1, 1, 256] inb_S8x8x512_S1x1x256_0_7_0)) (View.ld x4 (Rect.unit ![0, 0, 0] ![1, 128, 256] inb_S8x128x512_S1x128x256_0_0_0))) (k0_pay216 (View.ld x5 (Rect.unit ![0, 0, 0] ![1, 128, 256] inb_S8x128x512_S1x128x256_0_0_0))) (View.ld x6 (Rect.unit ![1, 7, 0] ![1, 1, 256] inb_S8x8x512_S1x1x256_1_7_0)) (View.ld x7 (Rect.unit ![1, 7, 0] ![1, 1, 256] inb_S8x8x512_S1x1x256_1_7_0)) (View.ld x4 (Rect.unit ![1, 0, 0] ![1, 128, 256] inb_S8x128x512_S1x128x256_1_0_0)) (View.ld x5 (Rect.unit ![1, 0, 0] ![1, 128, 256] inb_S8x128x512_S1x128x256_1_0_0))) (k0_pay218 (View.ld x7 (Rect.unit ![2, 7, 0] ![1, 1, 256] inb_S8x8x512_S1x1x256_2_7_0))) (k0_pay219 (F := Ideal)) (k0_pay220 (View.ld x6 (Rect.unit ![2, 7, 0] ![1, 1, 256] inb_S8x8x512_S1x1x256_2_7_0)) (View.ld x4 (Rect.unit ![2, 0, 0] ![1, 128, 256] inb_S8x128x512_S1x128x256_2_0_0))) (View.ld x5 (Rect.unit ![2, 0, 0] ![1, 128, 256] inb_S8x128x512_S1x128x256_2_0_0)) (View.ld x6 (Rect.unit ![3, 7, 0] ![1, 1, 256] inb_S8x8x512_S1x1x256_3_7_0)) (View.ld x7 (Rect.unit ![3, 7, 0] ![1, 1, 256] inb_S8x8x512_S1x1x256_3_7_0)) (View.ld x4 (Rect.unit ![3, 0, 0] ![1, 128, 256] inb_S8x128x512_S1x128x256_3_0_0)) (View.ld x5 (Rect.unit ![3, 0, 0] ![1, 128, 256] inb_S8x128x512_S1x128x256_3_0_0))) (k0_pay222 (View.ld x6 (Rect.unit ![4, 7, 0] ![1, 1, 256] inb_S8x8x512_S1x1x256_4_7_0))) (k0_pay223 (View.ld x7 (Rect.unit ![4, 7, 0] ![1, 1, 256] inb_S8x8x512_S1x1x256_4_7_0))) (k0_pay224 (F := Ideal)) (View.ld x4 (Rect.unit ![4, 0, 0] ![1, 128, 256] inb_S8x128x512_S1x128x256_4_0_0)) (View.ld x5 (Rect.unit ![4, 0, 0] ![1, 128, 256] inb_S8x128x512_S1x128x256_4_0_0)) (View.ld x6 (Rect.unit ![5, 7, 0] ![1, 1, 256] inb_S8x8x512_S1x1x256_5_7_0)) (View.ld x7 (Rect.unit ![5, 7, 0] ![1, 1, 256] inb_S8x8x512_S1x1x256_5_7_0)) (View.ld x4 (Rect.unit ![5, 0, 0] ![1, 128, 256] inb_S8x128x512_S1x128x256_5_0_0)) (View.ld x5 (Rect.unit ![5, 0, 0] ![1, 128, 256] inb_S8x128x512_S1x128x256_5_0_0))) (k0_pay226 (View.ld x6 (Rect.unit ![6, 7, 0] ![1, 1, 256] inb_S8x8x512_S1x1x256_6_7_0))) (k0_pay227 (View.ld x7 (Rect.unit ![6, 7, 0] ![1, 1, 256] inb_S8x8x512_S1x1x256_6_7_0))) (Scalar.ofBits .bf16 0x0000#16) (View.ld x4 (Rect.unit ![6, 0, 0] ![1, 128, 256] inb_S8x128x512_S1x128x256_6_0_0)) (View.ld x5 (Rect.unit ![6, 0, 0] ![1, 128, 256] inb_S8x128x512_S1x128x256_6_0_0)) (View.ld x6 (Rect.unit ![7, 7, 0] ![1, 1, 256] inb_S8x8x512_S1x1x256_7_7_0)) (View.ld x7 (Rect.unit ![7, 7, 0] ![1, 1, 256] inb_S8x8x512_S1x1x256_7_7_0)) (View.ld x4 (Rect.unit ![7, 0, 0] ![1, 128, 256] inb_S8x128x512_S1x128x256_7_0_0)) (View.ld x5 (Rect.unit ![7, 0, 0] ![1, 128, 256] inb_S8x128x512_S1x128x256_7_0_0))) (k0_pay230 v14) (k0_pay231 v14))⟩ :: ⟨Rect.unit ![1, 256, 256] ![1, 128, 256] inb_S2x512x512_S1x128x256_1_256_256, (k0_pay211 (k0_pay206 ((k0_pay205 (k0_pay203 (k0_pay201 (k0_pay198 (F := Ideal)) (k0_pay199 (View.ld x6 (Rect.unit ![0, 6, 256] ![1, 1, 256] inb_S8x8x512_S1x1x256_0_6_256))) (k0_pay200 (View.ld x7 (Rect.unit ![0, 6, 256] ![1, 1, 256] inb_S8x8x512_S1x1x256_0_6_256))) (View.ld x4 (Rect.unit ![0, 0, 256] ![1, 128, 256] inb_S8x128x512_S1x128x256_0_0_256)) (View.ld x5 (Rect.unit ![0, 0, 256] ![1, 128, 256] inb_S8x128x512_S1x128x256_0_0_256)) (View.ld x6 (Rect.unit ![1, 6, 256] ![1, 1, 256] inb_S8x8x512_S1x1x256_1_6_256)) (View.ld x7 (Rect.unit ![1, 6, 256] ![1, 1, 256] inb_S8x8x512_S1x1x256_1_6_256)) (View.ld x4 (Rect.unit ![1, 0, 256] ![1, 128, 256] inb_S8x128x512_S1x128x256_1_0_256)) (View.ld x5 (Rect.unit ![1, 0, 256] ![1, 128, 256] inb_S8x128x512_S1x128x256_1_0_256))) (k0_pay202 (View.ld x6 (Rect.unit ![2, 6, 256] ![1, 1, 256] inb_S8x8x512_S1x1x256_2_6_256))) (View.ld x7 (Rect.unit ![2, 6, 256] ![1, 1, 256] inb_S8x8x512_S1x1x256_2_6_256)) (View.ld x4 (Rect.unit ![2, 0, 256] ![1, 128, 256] inb_S8x128x512_S1x128x256_2_0_256)) (View.ld x5 (Rect.unit ![2, 0, 256] ![1, 128, 256] inb_S8x128x512_S1x128x256_2_0_256)) (View.ld x6 (Rect.unit ![3, 6, 256] ![1, 1, 256] inb_S8x8x512_S1x1x256_3_6_256)) (View.ld x7 (Rect.unit ![3, 6, 256] ![1, 1, 256] inb_S8x8x512_S1x1x256_3_6_256)) (View.ld x4 (Rect.unit ![3, 0, 256] ![1, 128, 256] inb_S8x128x512_S1x128x256_3_0_256)) (View.ld x5 (Rect.unit ![3, 0, 256] ![1, 128, 256] inb_S8x128x512_S1x128x256_3_0_256))) (k0_pay204 (View.ld x6 (Rect.unit ![4, 6, 256] ![1, 1, 256] inb_S8x8x512_S1x1x256_4_6_256))) (View.ld x7 (Rect.unit ![4, 6, 256] ![1, 1, 256] inb_S8x8x512_S1x1x256_4_6_256)) (View.ld x4 (Rect.unit ![4, 0, 256] ![1, 128, 256] inb_S8x128x512_S1x128x256_4_0_256)) (View.ld x5 (Rect.unit ![4, 0, 256] ![1, 128, 256] inb_S8x128x512_S1x128x256_4_0_256)) (View.ld x6 (Rect.unit ![5, 6, 256] ![1, 1, 256] inb_S8x8x512_S1x1x256_5_6_256)) (View.ld x7 (Rect.unit ![5, 6, 256] ![1, 1, 256] inb_S8x8x512_S1x1x256_5_6_256)) (View.ld x4 (Rect.unit ![5, 0, 256] ![1, 128, 256] inb_S8x128x512_S1x128x256_5_0_256)) (View.ld x5 (Rect.unit ![5, 0, 256] ![1, 128, 256] inb_S8x128x512_S1x128x256_5_0_256)))) (View.ld x6 (Rect.unit ![6, 6, 256] ![1, 1, 256] inb_S8x8x512_S1x1x256_6_6_256)) (View.ld x7 (Rect.unit ![6, 6, 256] ![1, 1, 256] inb_S8x8x512_S1x1x256_6_6_256)) (View.ld x4 (Rect.unit ![6, 0, 256] ![1, 128, 256] inb_S8x128x512_S1x128x256_6_0_256)) (View.ld x5 (Rect.unit ![6, 0, 256] ![1, 128, 256] inb_S8x128x512_S1x128x256_6_0_256))) (k0_pay207 (View.ld x7 (Rect.unit ![7, 6, 256] ![1, 1, 256] inb_S8x8x512_S1x1x256_7_6_256))) (k0_pay208 (F := Ideal)) (k0_pay209 (View.ld x6 (Rect.unit ![7, 6, 256] ![1, 1, 256] inb_S8x8x512_S1x1x256_7_6_256)) (View.ld x4 (Rect.unit ![7, 0, 256] ![1, 128, 256] inb_S8x128x512_S1x128x256_7_0_256))) (k0_pay210 (View.ld x5 (Rect.unit ![7, 0, 256] ![1, 128, 256] inb_S8x128x512_S1x128x256_7_0_256))) v13)⟩ :: ⟨Rect.unit ![1, 256, 0] ![1, 128, 256] inb_S2x512x512_S1x128x256_1_256_0, (k0_pay197 (k0_pay194 (k0_pay191 (k0_pay187 (k0_pay183 (View.ld x6 (Rect.unit ![0, 6, 0] ![1, 1, 256] inb_S8x8x512_S1x1x256_0_6_0)) (View.ld x7 (Rect.unit ![0, 6, 0] ![1, 1, 256] inb_S8x8x512_S1x1x256_0_6_0)) (View.ld x4 (Rect.unit ![0, 0, 0] ![1, 128, 256] inb_S8x128x512_S1x128x256_0_0_0)) (View.ld x5 (Rect.unit ![0, 0, 0] ![1, 128, 256] inb_S8x128x512_S1x128x256_0_0_0))) (k0_pay184 (View.ld x7 (Rect.unit ![1, 6, 0] ![1, 1, 256] inb_S8x8x512_S1x1x256_1_6_0))) (k0_pay185 (F := Ideal)) (k0_pay186 (View.ld x6 (Rect.unit ![1, 6, 0] ![1, 1, 256] inb_S8x8x512_S1x1x256_1_6_0)) (View.ld x4 (Rect.unit ![1, 0, 0] ![1, 128, 256] inb_S8x128x512_S1x128x256_1_0_0))) (View.ld x5 (Rect.unit ![1, 0, 0] ![1, 128, 256] inb_S8x128x512_S1x128x256_1_0_0)) (View.ld x6 (Rect.unit ![2, 6, 0] ![1, 1, 256] inb_S8x8x512_S1x1x256_2_6_0)) (View.ld x7 (Rect.unit ![2, 6, 0] ![1, 1, 256] inb_S8x8x512_S1x1x256_2_6_0)) (View.ld x4 (Rect.unit ![2, 0, 0] ![1, 128, 256] inb_S8x128x512_S1x128x256_2_0_0)) (View.ld x5 (Rect.unit ![2, 0, 0] ![1, 128, 256] inb_S8x128x512_S1x128x256_2_0_0))) (k0_pay188 (View.ld x6 (Rect.unit ![3, 6, 0] ![1, 1, 256] inb_S8x8x512_S1x1x256_3_6_0))) (k0_pay189 (View.ld x7 (Rect.unit ![3, 6, 0] ![1, 1, 256] inb_S8x8x512_S1x1x256_3_6_0))) (k0_pay190 (F := Ideal)) (View.ld x4 (Rect.unit ![3, 0, 0] ![1, 128, 256] inb_S8x128x512_S1x128x256_3_0_0)) (View.ld x5 (Rect.unit ![3, 0, 0] ![1, 128, 256] inb_S8x128x512_S1x128x256_3_0_0)) (View.ld x6 (Rect.unit ![4, 6, 0] ![1, 1, 256] inb_S8x8x512_S1x1x256_4_6_0)) (View.ld x7 (Rect.unit ![4, 6, 0] ![1, 1, 256] inb_S8x8x512_S1x1x256_4_6_0)) (View.ld x4 (Rect.unit ![4, 0, 0] ![1, 128, 256] inb_S8x128x512_S1x128x256_4_0_0)) (View.ld x5 (Rect.unit ![4, 0, 0] ![1, 128, 256] inb_S8x128x512_S1x128x256_4_0_0))) (k0_pay192 (View.ld x6 (Rect.unit ![5, 6, 0] ![1, 1, 256] inb_S8x8x512_S1x1x256_5_6_0))) (k0_pay193 (View.ld x7 (Rect.unit ![5, 6, 0] ![1, 1, 256] inb_S8x8x512_S1x1x256_5_6_0))) (Scalar.ofBits .bf16 0x0000#16) (View.ld x4 (Rect.unit ![5, 0, 0] ![1, 128, 256] inb_S8x128x512_S1x128x256_5_0_0)) (View.ld x5 (Rect.unit ![5, 0, 0] ![1, 128, 256] inb_S8x128x512_S1x128x256_5_0_0)) (View.ld x6 (Rect.unit ![6, 6, 0] ![1, 1, 256] inb_S8x8x512_S1x1x256_6_6_0)) (View.ld x7 (Rect.unit ![6, 6, 0] ![1, 1, 256] inb_S8x8x512_S1x1x256_6_6_0)) (View.ld x4 (Rect.unit ![6, 0, 0] ![1, 128, 256] inb_S8x128x512_S1x128x256_6_0_0)) (View.ld x5 (Rect.unit ![6, 0, 0] ![1, 128, 256] inb_S8x128x512_S1x128x256_6_0_0))) (k0_pay195 (View.ld x6 (Rect.unit ![7, 6, 0] ![1, 1, 256] inb_S8x8x512_S1x1x256_7_6_0))) (k0_pay196 (View.ld x7 (Rect.unit ![7, 6, 0] ![1, 1, 256] inb_S8x8x512_S1x1x256_7_6_0))) (View.ld x4 (Rect.unit ![7, 0, 0] ![1, 128, 256] inb_S8x128x512_S1x128x256_7_0_0)) (View.ld x5 (Rect.unit ![7, 0, 0] ![1, 128, 256] inb_S8x128x512_S1x128x256_7_0_0)) v12)⟩ :: ⟨Rect.unit ![1, 128, 256] ![1, 128, 256] inb_S2x512x512_S1x128x256_1_128_256, ((k0_pay182 (k0_pay177 ((k0_pay176 (k0_pay174 (k0_pay172 (View.ld x6 (Rect.unit ![0, 5, 256] ![1, 1, 256] inb_S8x8x512_S1x1x256_0_5_256)) (View.ld x7 (Rect.unit ![0, 5, 256] ![1, 1, 256] inb_S8x8x512_S1x1x256_0_5_256)) (View.ld x4 (Rect.unit ![0, 0, 256] ![1, 128, 256] inb_S8x128x512_S1x128x256_0_0_256)) (View.ld x5 (Rect.unit ![0, 0, 256] ![1, 128, 256] inb_S8x128x512_S1x128x256_0_0_256))) (k0_pay173 (View.ld x6 (Rect.unit ![1, 5, 256] ![1, 1, 256] inb_S8x8x512_S1x1x256_1_5_256))) (View.ld x7 (Rect.unit ![1, 5, 256] ![1, 1, 256] inb_S8x8x512_S1x1x256_1_5_256)) (View.ld x4 (Rect.unit ![1, 0, 256] ![1, 128, 256] inb_S8x128x512_S1x128x256_1_0_256)) (View.ld x5 (Rect.unit ![1, 0, 256] ![1, 128, 256] inb_S8x128x512_S1x128x256_1_0_256)) (View.ld x6 (Rect.unit ![2, 5, 256] ![1, 1, 256] inb_S8x8x512_S1x1x256_2_5_256)) (View.ld x7 (Rect.unit ![2, 5, 256] ![1, 1, 256] inb_S8x8x512_S1x1x256_2_5_256)) (View.ld x4 (Rect.unit ![2, 0, 256] ![1, 128, 256] inb_S8x128x512_S1x128x256_2_0_256)) (View.ld x5 (Rect.unit ![2, 0, 256] ![1, 128, 256] inb_S8x128x512_S1x128x256_2_0_256))) (k0_pay175 (View.ld x6 (Rect.unit ![3, 5, 256] ![1, 1, 256] inb_S8x8x512_S1x1x256_3_5_256))) (View.ld x7 (Rect.unit ![3, 5, 256] ![1, 1, 256] inb_S8x8x512_S1x1x256_3_5_256)) (View.ld x4 (Rect.unit ![3, 0, 256] ![1, 128, 256] inb_S8x128x512_S1x128x256_3_0_256)) (View.ld x5 (Rect.unit ![3, 0, 256] ![1, 128, 256] inb_S8x128x512_S1x128x256_3_0_256)) (View.ld x6 (Rect.unit ![4, 5, 256] ![1, 1, 256] inb_S8x8x512_S1x1x256_4_5_256)) (View.ld x7 (Rect.unit ![4, 5, 256] ![1, 1, 256] inb_S8x8x512_S1x1x256_4_5_256)) (View.ld x4 (Rect.unit ![4, 0, 256] ![1, 128, 256] inb_S8x128x512_S1x128x256_4_0_256)) (View.ld x5 (Rect.unit ![4, 0, 256] ![1, 128, 256] inb_S8x128x512_S1x128x256_4_0_256)))) (View.ld x6 (Rect.unit ![5, 5, 256] ![1, 1, 256] inb_S8x8x512_S1x1x256_5_5_256)) (View.ld x7 (Rect.unit ![5, 5, 256] ![1, 1, 256] inb_S8x8x512_S1x1x256_5_5_256)) (View.ld x4 (Rect.unit ![5, 0, 256] ![1, 128, 256] inb_S8x128x512_S1x128x256_5_0_256)) (View.ld x5 (Rect.unit ![5, 0, 256] ![1, 128, 256] inb_S8x128x512_S1x128x256_5_0_256))) (k0_pay178 (View.ld x7 (Rect.unit ![6, 5, 256] ![1, 1, 256] inb_S8x8x512_S1x1x256_6_5_256))) (k0_pay179 (F := Ideal)) (k0_pay180 (View.ld x6 (Rect.unit ![6, 5, 256] ![1, 1, 256] inb_S8x8x512_S1x1x256_6_5_256)) (View.ld x4 (Rect.unit ![6, 0, 256] ![1, 128, 256] inb_S8x128x512_S1x128x256_6_0_256))) (k0_pay181 (View.ld x5 (Rect.unit ![6, 0, 256] ![1, 128, 256] inb_S8x128x512_S1x128x256_6_0_256))) (View.ld x6 (Rect.unit ![7, 5, 256] ![1, 1, 256] inb_S8x8x512_S1x1x256_7_5_256)) (View.ld x7 (Rect.unit ![7, 5, 256] ![1, 1, 256] inb_S8x8x512_S1x1x256_7_5_256)) (View.ld x4 (Rect.unit ![7, 0, 256] ![1, 128, 256] inb_S8x128x512_S1x128x256_7_0_256)) (View.ld x5 (Rect.unit ![7, 0, 256] ![1, 128, 256] inb_S8x128x512_S1x128x256_7_0_256)) v11))⟩ :: ⟨Rect.unit ![1, 128, 0] ![1, 128, 256] inb_S2x512x512_S1x128x256_1_128_0, (k0_pay171 (k0_pay168 (k0_pay165 (k0_pay162 (k0_pay158 (k0_pay154 (F := Ideal)) (k0_pay155 (View.ld x7 (Rect.unit ![0, 5, 0] ![1, 1, 256] inb_S8x8x512_S1x1x256_0_5_0))) (k0_pay156 (F := Ideal)) (k0_pay157 (View.ld x6 (Rect.unit ![0, 5, 0] ![1, 1, 256] inb_S8x8x512_S1x1x256_0_5_0)) (View.ld x4 (Rect.unit ![0, 0, 0] ![1, 128, 256] inb_S8x128x512_S1x128x256_0_0_0))) (View.ld x5 (Rect.unit ![0, 0, 0] ![1, 128, 256] inb_S8x128x512_S1x128x256_0_0_0)) (View.ld x6 (Rect.unit ![1, 5, 0] ![1, 1, 256] inb_S8x8x512_S1x1x256_1_5_0)) (View.ld x7 (Rect.unit ![1, 5, 0] ![1, 1, 256] inb_S8x8x512_S1x1x256_1_5_0)) (View.ld x4 (Rect.unit ![1, 0, 0] ![1, 128, 256] inb_S8x128x512_S1x128x256_1_0_0)) (View.ld x5 (Rect.unit ![1, 0, 0] ![1, 128, 256] inb_S8x128x512_S1x128x256_1_0_0))) (k0_pay159 (View.ld x6 (Rect.unit ![2, 5, 0] ![1, 1, 256] inb_S8x8x512_S1x1x256_2_5_0))) (k0_pay160 (View.ld x7 (Rect.unit ![2, 5, 0] ![1, 1, 256] inb_S8x8x512_S1x1x256_2_5_0))) (k0_pay161 (F := Ideal)) (View.ld x4 (Rect.unit ![2, 0, 0] ![1, 128, 256] inb_S8x128x512_S1x128x256_2_0_0)) (View.ld x5 (Rect.unit ![2, 0, 0] ![1, 128, 256] inb_S8x128x512_S1x128x256_2_0_0)) (View.ld x6 (Rect.unit ![3, 5, 0] ![1, 1, 256] inb_S8x8x512_S1x1x256_3_5_0)) (View.ld x7 (Rect.unit ![3, 5, 0] ![1, 1, 256] inb_S8x8x512_S1x1x256_3_5_0)) (View.ld x4 (Rect.unit ![3, 0, 0] ![1, 128, 256] inb_S8x128x512_S1x128x256_3_0_0)) (View.ld x5 (Rect.unit ![3, 0, 0] ![1, 128, 256] inb_S8x128x512_S1x128x256_3_0_0))) (k0_pay163 (View.ld x6 (Rect.unit ![4, 5, 0] ![1, 1, 256] inb_S8x8x512_S1x1x256_4_5_0))) (k0_pay164 (View.ld x7 (Rect.unit ![4, 5, 0] ![1, 1, 256] inb_S8x8x512_S1x1x256_4_5_0))) (Scalar.ofBits .bf16 0x0000#16) (View.ld x4 (Rect.unit ![4, 0, 0] ![1, 128, 256] inb_S8x128x512_S1x128x256_4_0_0)) (View.ld x5 (Rect.unit ![4, 0, 0] ![1, 128, 256] inb_S8x128x512_S1x128x256_4_0_0)) (View.ld x6 (Rect.unit ![5, 5, 0] ![1, 1, 256] inb_S8x8x512_S1x1x256_5_5_0)) (View.ld x7 (Rect.unit ![5, 5, 0] ![1, 1, 256] inb_S8x8x512_S1x1x256_5_5_0)) (View.ld x4 (Rect.unit ![5, 0, 0] ![1, 128, 256] inb_S8x128x512_S1x128x256_5_0_0)) (View.ld x5 (Rect.unit ![5, 0, 0] ![1, 128, 256] inb_S8x128x512_S1x128x256_5_0_0))) (k0_pay166 (View.ld x6 (Rect.unit ![6, 5, 0] ![1, 1, 256] inb_S8x8x512_S1x1x256_6_5_0))) (k0_pay167 (View.ld x7 (Rect.unit ![6, 5, 0] ![1, 1, 256] inb_S8x8x512_S1x1x256_6_5_0))) (View.ld x4 (Rect.unit ![6, 0, 0] ![1, 128, 256] inb_S8x128x512_S1x128x256_6_0_0)) (View.ld x5 (Rect.unit ![6, 0, 0] ![1, 128, 256] inb_S8x128x512_S1x128x256_6_0_0)) (View.ld x6 (Rect.unit ![7, 5, 0] ![1, 1, 256] inb_S8x8x512_S1x1x256_7_5_0)) (View.ld x7 (Rect.unit ![7, 5, 0] ![1, 1, 256] inb_S8x8x512_S1x1x256_7_5_0)) (View.ld x4 (Rect.unit ![7, 0, 0] ![1, 128, 256] inb_S8x128x512_S1x128x256_7_0_0)) (View.ld x5 (Rect.unit ![7, 0, 0] ![1, 128, 256] inb_S8x128x512_S1x128x256_7_0_0))) (k0_pay169 v10) (k0_pay170 v10))⟩ :: ⟨Rect.unit ![1, 0, 256] ![1, 128, 256] inb_S2x512x512_S1x128x256_1_0_256, (k0_pay153 (k0_pay149 (k0_pay144 ((k0_pay143 (k0_pay141 (k0_pay139 (F := Ideal)) (k0_pay140 (View.ld x6 (Rect.unit ![0, 4, 256] ![1, 1, 256] inb_S8x8x512_S1x1x256_0_4_256))) (View.ld x7 (Rect.unit ![0, 4, 256] ![1, 1, 256] inb_S8x8x512_S1x1x256_0_4_256)) (View.ld x4 (Rect.unit ![0, 0, 256] ![1, 128, 256] inb_S8x128x512_S1x128x256_0_0_256)) (View.ld x5 (Rect.unit ![0, 0, 256] ![1, 128, 256] inb_S8x128x512_S1x128x256_0_0_256)) (View.ld x6 (Rect.unit ![1, 4, 256] ![1, 1, 256] inb_S8x8x512_S1x1x256_1_4_256)) (View.ld x7 (Rect.unit ![1, 4, 256] ![1, 1, 256] inb_S8x8x512_S1x1x256_1_4_256)) (View.ld x4 (Rect.unit ![1, 0, 256] ![1, 128, 256] inb_S8x128x512_S1x128x256_1_0_256)) (View.ld x5 (Rect.unit ![1, 0, 256] ![1, 128, 256] inb_S8x128x512_S1x128x256_1_0_256))) (k0_pay142 (View.ld x6 (Rect.unit ![2, 4, 256] ![1, 1, 256] inb_S8x8x512_S1x1x256_2_4_256))) (View.ld x7 (Rect.unit ![2, 4, 256] ![1, 1, 256] inb_S8x8x512_S1x1x256_2_4_256)) (View.ld x4 (Rect.unit ![2, 0, 256] ![1, 128, 256] inb_S8x128x512_S1x128x256_2_0_256)) (View.ld x5 (Rect.unit ![2, 0, 256] ![1, 128, 256] inb_S8x128x512_S1x128x256_2_0_256)) (View.ld x6 (Rect.unit ![3, 4, 256] ![1, 1, 256] inb_S8x8x512_S1x1x256_3_4_256)) (View.ld x7 (Rect.unit ![3, 4, 256] ![1, 1, 256] inb_S8x8x512_S1x1x256_3_4_256)) (View.ld x4 (Rect.unit ![3, 0, 256] ![1, 128, 256] inb_S8x128x512_S1x128x256_3_0_256)) (View.ld x5 (Rect.unit ![3, 0, 256] ![1, 128, 256] inb_S8x128x512_S1x128x256_3_0_256)))) (View.ld x6 (Rect.unit ![4, 4, 256] ![1, 1, 256] inb_S8x8x512_S1x1x256_4_4_256)) (View.ld x7 (Rect.unit ![4, 4, 256] ![1, 1, 256] inb_S8x8x512_S1x1x256_4_4_256)) (View.ld x4 (Rect.unit ![4, 0, 256] ![1, 128, 256] inb_S8x128x512_S1x128x256_4_0_256)) (View.ld x5 (Rect.unit ![4, 0, 256] ![1, 128, 256] inb_S8x128x512_S1x128x256_4_0_256))) (k0_pay145 (View.ld x7 (Rect.unit ![5, 4, 256] ![1, 1, 256] inb_S8x8x512_S1x1x256_5_4_256))) (k0_pay146 (F := Ideal)) (k0_pay147 (View.ld x6 (Rect.unit ![5, 4, 256] ![1, 1, 256] inb_S8x8x512_S1x1x256_5_4_256)) (View.ld x4 (Rect.unit ![5, 0, 256] ![1, 128, 256] inb_S8x128x512_S1x128x256_5_0_256))) (k0_pay148 (View.ld x5 (Rect.unit ![5, 0, 256] ![1, 128, 256] inb_S8x128x512_S1x128x256_5_0_256))) (View.ld x6 (Rect.unit ![6, 4, 256] ![1, 1, 256] inb_S8x8x512_S1x1x256_6_4_256)) (View.ld x7 (Rect.unit ![6, 4, 256] ![1, 1, 256] inb_S8x8x512_S1x1x256_6_4_256)) (View.ld x4 (Rect.unit ![6, 0, 256] ![1, 128, 256] inb_S8x128x512_S1x128x256_6_0_256)) (View.ld x5 (Rect.unit ![6, 0, 256] ![1, 128, 256] inb_S8x128x512_S1x128x256_6_0_256))) (k0_pay150 (View.ld x7 (Rect.unit ![7, 4, 256] ![1, 1, 256] inb_S8x8x512_S1x1x256_7_4_256))) (k0_pay151 (F := Ideal)) (k0_pay152 (View.ld x6 (Rect.unit ![7, 4, 256] ![1, 1, 256] inb_S8x8x512_S1x1x256_7_4_256)) (View.ld x4 (Rect.unit ![7, 0, 256] ![1, 128, 256] inb_S8x128x512_S1x128x256_7_0_256))) (View.ld x5 (Rect.unit ![7, 0, 256] ![1, 128, 256] inb_S8x128x512_S1x128x256_7_0_256)) v9)⟩ :: ⟨Rect.unit ![1, 0, 0] ![1, 128, 256] inb_S2x512x512_S1x128x256_1_0_0, (k0_pay138 (k0_pay136 (k0_pay133 (k0_pay130 (k0_pay126 (View.ld x6 (Rect.unit ![0, 4, 0] ![1, 1, 256] inb_S8x8x512_S1x1x256_0_4_0)) (View.ld x7 (Rect.unit ![0, 4, 0] ![1, 1, 256] inb_S8x8x512_S1x1x256_0_4_0)) (View.ld x4 (Rect.unit ![0, 0, 0] ![1, 128, 256] inb_S8x128x512_S1x128x256_0_0_0)) (View.ld x5 (Rect.unit ![0, 0, 0] ![1, 128, 256] inb_S8x128x512_S1x128x256_0_0_0))) (k0_pay127 (View.ld x6 (Rect.unit ![1, 4, 0] ![1, 1, 256] inb_S8x8x512_S1x1x256_1_4_0))) (k0_pay128 (View.ld x7 (Rect.unit ![1, 4, 0] ![1, 1, 256] inb_S8x8x512_S1x1x256_1_4_0))) (k0_pay129 (F := Ideal)) (View.ld x4 (Rect.unit ![1, 0, 0] ![1, 128, 256] inb_S8x128x512_S1x128x256_1_0_0)) (View.ld x5 (Rect.unit ![1, 0, 0] ![1, 128, 256] inb_S8x128x512_S1x128x256_1_0_0)) (View.ld x6 (Rect.unit ![2, 4, 0] ![1, 1, 256] inb_S8x8x512_S1x1x256_2_4_0)) (View.ld x7 (Rect.unit ![2, 4, 0] ![1, 1, 256] inb_S8x8x512_S1x1x256_2_4_0)) (View.ld x4 (Rect.unit ![2, 0, 0] ![1, 128, 256] inb_S8x128x512_S1x128x256_2_0_0)) (View.ld x5 (Rect.unit ![2, 0, 0] ![1, 128, 256] inb_S8x128x512_S1x128x256_2_0_0))) (k0_pay131 (View.ld x6 (Rect.unit ![3, 4, 0] ![1, 1, 256] inb_S8x8x512_S1x1x256_3_4_0))) (k0_pay132 (View.ld x7 (Rect.unit ![3, 4, 0] ![1, 1, 256] inb_S8x8x512_S1x1x256_3_4_0))) (Scalar.ofBits .bf16 0x0000#16) (View.ld x4 (Rect.unit ![3, 0, 0] ![1, 128, 256] inb_S8x128x512_S1x128x256_3_0_0)) (View.ld x5 (Rect.unit ![3, 0, 0] ![1, 128, 256] inb_S8x128x512_S1x128x256_3_0_0)) (View.ld x6 (Rect.unit ![4, 4, 0] ![1, 1, 256] inb_S8x8x512_S1x1x256_4_4_0)) (View.ld x7 (Rect.unit ![4, 4, 0] ![1, 1, 256] inb_S8x8x512_S1x1x256_4_4_0)) (View.ld x4 (Rect.unit ![4, 0, 0] ![1, 128, 256] inb_S8x128x512_S1x128x256_4_0_0)) (View.ld x5 (Rect.unit ![4, 0, 0] ![1, 128, 256] inb_S8x128x512_S1x128x256_4_0_0))) (k0_pay134 (View.ld x6 (Rect.unit ![5, 4, 0] ![1, 1, 256] inb_S8x8x512_S1x1x256_5_4_0))) (k0_pay135 (View.ld x7 (Rect.unit ![5, 4, 0] ![1, 1, 256] inb_S8x8x512_S1x1x256_5_4_0))) (View.ld x4 (Rect.unit ![5, 0, 0] ![1, 128, 256] inb_S8x128x512_S1x128x256_5_0_0)) (View.ld x5 (Rect.unit ![5, 0, 0] ![1, 128, 256] inb_S8x128x512_S1x128x256_5_0_0)) (View.ld x6 (Rect.unit ![6, 4, 0] ![1, 1, 256] inb_S8x8x512_S1x1x256_6_4_0)) (View.ld x7 (Rect.unit ![6, 4, 0] ![1, 1, 256] inb_S8x8x512_S1x1x256_6_4_0)) (View.ld x4 (Rect.unit ![6, 0, 0] ![1, 128, 256] inb_S8x128x512_S1x128x256_6_0_0)) (View.ld x5 (Rect.unit ![6, 0, 0] ![1, 128, 256] inb_S8x128x512_S1x128x256_6_0_0))) (k0_pay137 (View.ld x6 (Rect.unit ![7, 4, 0] ![1, 1, 256] inb_S8x8x512_S1x1x256_7_4_0))) (View.ld x7 (Rect.unit ![7, 4, 0] ![1, 1, 256] inb_S8x8x512_S1x1x256_7_4_0)) (View.ld x4 (Rect.unit ![7, 0, 0] ![1, 128, 256] inb_S8x128x512_S1x128x256_7_0_0)) (View.ld x5 (Rect.unit ![7, 0, 0] ![1, 128, 256] inb_S8x128x512_S1x128x256_7_0_0)) v8)⟩ :: L)
      (Rect.unit ![1, 0, 0] ![1, 512, 512] inb_S2x512x512_S1x512x512_1_0_0).toLoadRect
      = fun j => coef x4 x5 x6 x7 1 aa (j 1) (j 2) := by
  rw [View.readCov_eq_canon']
  funext j
  have j0 : (j 0).val < 1 := (j 0).isLt
  refine (View.canon_append_of_piecesOf (fun y => coef x4 x5 x6 x7 1 aa (y 1) (y 2)) L [_, _, _, _, _, _, _, _] ⟨?_, ?_, ?_, ?_, ?_, ?_, ?_, ?_, trivial⟩ _ (cover_1 _ _ _ _ _ _ _ _ _ ?_)).trans ?_
  · intro x
    refine (at_15 x4 x5 x6 x7 v15 x).trans (coef_at x4 x5 x6 x7 1 aa 3 _ _ _ _ _ _ rfl ?_ ?_ ?_)
    · show 384 + 1 * (x 1).val = 128 * 3 + (x 1).val
      omega
    · show 256 + 1 * (x 2).val = 256 + (x 2).val
      omega
    · refine (h15 x).trans (congrArg₂ aa (Fin.ext ?_) (Fin.ext ?_))
      · show 384 + (x 1).val = 384 + 1 * (x 1).val
        omega
      · show 256 + (x 2).val = 256 + 1 * (x 2).val
        omega
  · intro x
    refine (at_14 x4 x5 x6 x7 v14 x).trans (coef_at x4 x5 x6 x7 1 aa 3 _ _ _ _ _ _ rfl ?_ ?_ ?_)
    · show 384 + 1 * (x 1).val = 128 * 3 + (x 1).val
      omega
    · show 0 + 1 * (x 2).val = 0 + (x 2).val
      omega
    · refine (h14 x).trans (congrArg₂ aa (Fin.ext ?_) (Fin.ext ?_))
      · show 384 + (x 1).val = 384 + 1 * (x 1).val
        omega
      · show 0 + (x 2).val = 0 + 1 * (x 2).val
        omega
  · intro x
    refine (at_13 x4 x5 x6 x7 v13 x).trans (coef_at x4 x5 x6 x7 1 aa 2 _ _ _ _ _ _ rfl ?_ ?_ ?_)
    · show 256 + 1 * (x 1).val = 128 * 2 + (x 1).val
      omega
    · show 256 + 1 * (x 2).val = 256 + (x 2).val
      omega
    · refine (h13 x).trans (congrArg₂ aa (Fin.ext ?_) (Fin.ext ?_))
      · show 256 + (x 1).val = 256 + 1 * (x 1).val
        omega
      · show 256 + (x 2).val = 256 + 1 * (x 2).val
        omega
  · intro x
    refine (at_12 x4 x5 x6 x7 v12 x).trans (coef_at x4 x5 x6 x7 1 aa 2 _ _ _ _ _ _ rfl ?_ ?_ ?_)
    · show 256 + 1 * (x 1).val = 128 * 2 + (x 1).val
      omega
    · show 0 + 1 * (x 2).val = 0 + (x 2).val
      omega
    · refine (h12 x).trans (congrArg₂ aa (Fin.ext ?_) (Fin.ext ?_))
      · show 256 + (x 1).val = 256 + 1 * (x 1).val
        omega
      · show 0 + (x 2).val = 0 + 1 * (x 2).val
        omega
  · intro x
    refine (at_11 x4 x5 x6 x7 v11 x).trans (coef_at x4 x5 x6 x7 1 aa 1 _ _ _ _ _ _ rfl ?_ ?_ ?_)
    · show 128 + 1 * (x 1).val = 128 * 1 + (x 1).val
      omega
    · show 256 + 1 * (x 2).val = 256 + (x 2).val
      omega
    · refine (h11 x).trans (congrArg₂ aa (Fin.ext ?_) (Fin.ext ?_))
      · show 128 + (x 1).val = 128 + 1 * (x 1).val
        omega
      · show 256 + (x 2).val = 256 + 1 * (x 2).val
        omega
  · intro x
    refine (at_10 x4 x5 x6 x7 v10 x).trans (coef_at x4 x5 x6 x7 1 aa 1 _ _ _ _ _ _ rfl ?_ ?_ ?_)
    · show 128 + 1 * (x 1).val = 128 * 1 + (x 1).val
      omega
    · show 0 + 1 * (x 2).val = 0 + (x 2).val
      omega
    · refine (h10 x).trans (congrArg₂ aa (Fin.ext ?_) (Fin.ext ?_))
      · show 128 + (x 1).val = 128 + 1 * (x 1).val
        omega
      · show 0 + (x 2).val = 0 + 1 * (x 2).val
        omega
  · intro x
    refine (at_9 x4 x5 x6 x7 v9 x).trans (coef_at x4 x5 x6 x7 1 aa 0 _ _ _ _ _ _ rfl ?_ ?_ ?_)
    · show 0 + 1 * (x 1).val = 128 * 0 + (x 1).val
      omega
    · show 256 + 1 * (x 2).val = 256 + (x 2).val
      omega
    · refine (h9 x).trans (congrArg₂ aa (Fin.ext ?_) (Fin.ext ?_))
      · show 0 + (x 1).val = 0 + 1 * (x 1).val
        omega
      · show 256 + (x 2).val = 256 + 1 * (x 2).val
        omega
  · intro x
    refine (at_8 x4 x5 x6 x7 v8 x).trans (coef_at x4 x5 x6 x7 1 aa 0 _ _ _ _ _ _ rfl ?_ ?_ ?_)
    · show 0 + 1 * (x 1).val = 128 * 0 + (x 1).val
      omega
    · show 0 + 1 * (x 2).val = 0 + (x 2).val
      omega
    · refine (h8 x).trans (congrArg₂ aa (Fin.ext ?_) (Fin.ext ?_))
      · show 0 + (x 1).val = 0 + 1 * (x 1).val
        omega
      · show 0 + (x 2).val = 0 + 1 * (x 2).val
        omega
  · show 1 + 1 * (j 0).val = 1
    omega
  · refine congrArg₂ (coef x4 x5 x6 x7 1 aa) (Fin.ext ?_) (Fin.ext ?_)
    · show 0 + 1 * (j 1).val = (j 1).val
      omega
    · show 0 + 1 * (j 2).val = (j 2).val
      omega

end Cert.PeerIdeal.Hand
-- ==== Proof.PeerKernel.lean ====
module

public import proofs.«01_k».proof.Proof.PeerCoef
public import proofs.«01_k».proof.Proof.Project
public import proofs.«01_k».proof.Proof.Gen.PeerIdeal.Frame
public import Idealize.ShloMosaic.Lib.Pipeline.ValueKit.Point
public import Idealize.ShloMosaic.Lib.Pipeline.ValueKit.Geometry
public import Idealize.ShloMosaic.Lib.StableHlo.RunRead

@[expose] public section

noncomputable section

/-! What one block of experts makes of the two scratches: the sums over the experts so far, and the first activations of the
    next block. -/

namespace Cert.PeerIdeal.Hand

open Cert.PeerIdeal Cert.PeerIdeal.Gen
open Idealize.ShloMosaic Idealize.ShloMosaic.TcCoe Idealize.SL.Sem

theorem pay2_apply (y : Vec Ideal S2048x512 .f32) (v : Vec Ideal S1x2048x512 .bf16) (w : Vec Ideal S1x512x512 .bf16) (i : S2048x512.Idx) :
    k0_pay2 (F := Ideal) y v w i = y i + ∑ k : Fin 512, v (ix3 0 (i 0) k) * w (ix3 0 k (i 1)) := by
  pointwise [k0_pay2]

theorem pay123_apply (y : Vec Ideal S2048x512 .f32) (v : Vec Ideal S1x2048x512 .bf16) (w : Vec Ideal S1x512x512 .bf16) (i : S2048x512.Idx) :
    k0_pay123 (F := Ideal) y v w i = y i + ∑ k : Fin 512, v (ix3 0 (i 0) k) * w (ix3 0 k (i 1)) := by
  pointwise [k0_pay123]

theorem pay5_apply (u : Vec Ideal S1x512x2048 .bf16) (x : Vec Ideal S2048x512 .bf16) (i : S1x512x512.Idx) :
    k0_pay5 (F := Ideal) u x i = ∑ k : Fin 2048, u (ix3 0 (i 1) k) * x (ix2 k (i 2)) := by
  pointwise [k0_pay5]

theorem pay6_apply (u : Vec Ideal S1x512x2048 .bf16) (x : Vec Ideal S2048x512 .bf16) (i : S1x512x512.Idx) :
    k0_pay6 (F := Ideal) u x i = ∑ k : Fin 2048, u (ix3 0 (i 1) k) * x (ix2 k (i 2)) := by
  pointwise [k0_pay6]

theorem pay1_apply (u : Vec Ideal S1x512x2048 .bf16) (x : Vec Ideal S2048x512 .bf16) (i : S1x512x512.Idx) :
    k0_pay1 (F := Ideal) (k0_pay124 u x) i = ∑ k : Fin 2048, u (ix3 0 (i 1) k) * x (ix2 k (i 2)) := by
  pointwise [k0_pay1, k0_pay124]

theorem pay3_apply (x : Vec Ideal S512x2048 .f32) (y : Vec Ideal S2048x512 .f32) (g : Vec Ideal S1x2048 .f32) (i : S512x2048.Idx) :
    k0_pay3 (F := Ideal) x y g i = Project.normed (fun j => x (ix2 (i 0) j) + y (ix2 j (i 0))) (fun j => g (ix2 0 j)) (i 1) := by
  pointwise [k0_pay3, Project.normed]

theorem pay4_apply (i : S2048x512.Idx) : k0_pay4 (F := Ideal) i = 0 := Ideal.ofBits_zero_f32

/-- A load of a tile of one half of the activations, right after that half was stored. -/
theorem read_tile {ρ : RefSig} {κ : Kind} {sp : Space} {W : View ρ κ sp S2x512x512 .f32} (k r l : ℕ) (rb : r ≤ 384) (lb : l ≤ 256) (inb : ∀ a : Fin 3, (![k, 0, 0] : Fin 3 → ℕ) a + (![1, 512, 512] : Fin 3 → ℕ) a ≤ S2x512x512.size a)
    (inb' : ∀ a : Fin 3, (![k, r, l] : Fin 3 → ℕ) a + (![1, 128, 256] : Fin 3 → ℕ) a ≤ S2x512x512.size a)
    (p : Vec Ideal S1x512x512 .f32) (L : List (View.Piece (Elt Ideal) S2x512x512 .f32)) :
    W.readCov (⟨Rect.unit ![k, 0, 0] ![1, 512, 512] inb, p⟩ :: L) (Rect.unit ![k, r, l] ![1, 128, 256] inb').toLoadRect
      = fun x : S1x128x256.Idx =>
          p (ix3 0 ⟨r + (x 1).val, by have : (x 1).val < 128 := (x 1).isLt; omega⟩ ⟨l + (x 2).val, by have : (x 2).val < 256 := (x 2).isLt; omega⟩) := by
  refine (View.readCov_eq_canon' _ _ _).trans (funext fun (x : S1x128x256.Idx) => ?_)
  have x0 : (x 0).val < 1 := (x 0).isLt
  have e : (Rect.unit (s := S2x512x512) ![k, r, l] ![1, 128, 256] inb').toLoadRect.idx x
      = (Rect.unit (s := S2x512x512) ![k, 0, 0] ![1, 512, 512] inb).emb
          (ix3 0 ⟨r + (x 1).val, by have : (x 1).val < 128 := (x 1).isLt; omega⟩ ⟨l + (x 2).val, by have : (x 2).val < 256 := (x 2).isLt; omega⟩ : S1x512x512.Idx) := by
    refine funext fun a => Fin.ext ?_
    match a with
    | ⟨0, _⟩ => show k + 1 * (x 0).val = k + 1 * 0; omega
    | ⟨1, _⟩ => show r + 1 * (x 1).val = 0 + 1 * (r + (x 1).val); omega
    | ⟨2, _⟩ => show l + 1 * (x 2).val = 0 + 1 * (l + (x 2).val); omega
  show View.canon _ _ = _
  rw [e, View.canon_cons_emb]

theorem first_half (inb : ∀ a : Fin 3, (![0, 0, 0] : Fin 3 → ℕ) a + (![1, 512, 512] : Fin 3 → ℕ) a ≤ S2x512x512.size a)
    (p : Vec Ideal S1x512x512 .f32) (L : List (View.Piece (Elt Ideal) S2x512x512 .f32)) (r n : Fin 512) :
    View.canon (⟨Rect.unit ![0, 0, 0] ![1, 512, 512] inb, p⟩ :: L) (ix3 0 r n) = p (ix3 0 r n) := by
  have e : (ix3 0 r n : S2x512x512.Idx) = (Rect.unit (s := S2x512x512) ![0, 0, 0] ![1, 512, 512] inb).emb (ix3 0 r n : S1x512x512.Idx) := by
    refine funext fun a => Fin.ext ?_
    match a with
    | ⟨0, _⟩ => rfl
    | ⟨1, _⟩ => show r.val = 0 + 1 * r.val; omega
    | ⟨2, _⟩ => show n.val = 0 + 1 * n.val; omega
  rw [e, View.canon_cons_emb]

/-- The same load of what the point before left. -/
theorem held_tile (a : Vec Ideal S2x512x512 .f32) (r l : ℕ) (rb : r ≤ 384) (lb : l ≤ 256)
    (inb' : ∀ a : Fin 3, (![0, r, l] : Fin 3 → ℕ) a + (![1, 128, 256] : Fin 3 → ℕ) a ≤ S2x512x512.size a) (x : S1x128x256.Idx) :
    View.ld a (Rect.unit ![0, r, l] ![1, 128, 256] inb') x
      = a (ix3 0 ⟨r + (x 1).val, by have : (x 1).val < 128 := (x 1).isLt; omega⟩ ⟨l + (x 2).val, by have : (x 2).val < 256 := (x 2).isLt; omega⟩) := by
  have x0 : (x 0).val < 1 := (x 0).isLt
  refine View.ld_unit_apply_of _ _ _ _ _ _ fun a => ?_
  match a with
  | ⟨0, _⟩ => show 0 = 0 + (x 0).val; omega
  | ⟨1, _⟩ => rfl
  | ⟨2, _⟩ => rfl

/-- An expert's activation before the nonlinearity, its row in the block of 1024 starting at `o`. -/
def product (u : Vec Ideal S1x1024x2048 .bf16) (x : Vec Ideal S2048x512 .bf16) (o : ℕ) (ho : o ≤ 512) (r n : Fin 512) : EReal :=
  ∑ k : Fin 2048, u (ix3 0 ⟨o + r.val, by omega⟩ k) * x (ix2 k n)

theorem ld_rows (u : Vec Ideal S1x1024x2048 .bf16) (o : ℕ) (ho : o ≤ 512)
    (inb : ∀ a : Fin 3, (![0, o, 0] : Fin 3 → ℕ) a + (![1, 512, 2048] : Fin 3 → ℕ) a ≤ S1x1024x2048.size a) (r : Fin 512) (k : Fin 2048) :
    View.ld u (Rect.unit ![0, o, 0] ![1, 512, 2048] inb) (ix3 0 r k) = u (ix3 0 ⟨o + r.val, by omega⟩ k) := by
  refine View.ld_unit_apply_of _ _ _ _ _ _ fun a => ?_
  match a with
  | ⟨0, _⟩ => rfl
  | ⟨1, _⟩ => rfl
  | ⟨2, _⟩ => show k.val = 0 + k.val; omega

theorem ld_cols (v : Vec Ideal S1x2048x1024 .bf16) (o : ℕ) (ho : o ≤ 512)
    (inb : ∀ a : Fin 3, (![0, 0, o] : Fin 3 → ℕ) a + (![1, 2048, 512] : Fin 3 → ℕ) a ≤ S1x2048x1024.size a) (r : Fin 2048) (k : Fin 512) :
    View.ld v (Rect.unit ![0, 0, o] ![1, 2048, 512] inb) (ix3 0 r k) = v (ix3 0 r ⟨o + k.val, by omega⟩) := by
  refine View.ld_unit_apply_of _ _ _ _ _ _ fun a => ?_
  match a with
  | ⟨0, _⟩ => rfl
  | ⟨1, _⟩ => show r.val = 0 + r.val; omega
  | ⟨2, _⟩ => rfl

theorem product_5 (u : Vec Ideal S1x1024x2048 .bf16) (x : Vec Ideal S2048x512 .bf16)
    (inb : ∀ a : Fin 3, (![0, 0, 0] : Fin 3 → ℕ) a + (![1, 512, 2048] : Fin 3 → ℕ) a ≤ S1x1024x2048.size a) (r n : Fin 512) :
    k0_pay5 (F := Ideal) (View.ld u (Rect.unit ![0, 0, 0] ![1, 512, 2048] inb)) x (ix3 0 r n) = product u x 0 (by omega) r n :=
  (pay5_apply _ _ _).trans (Finset.sum_congr (M := EReal) rfl fun k _ => congrArg (· * x (ix2 k n)) (ld_rows u 0 (by omega) inb r k))

theorem product_6 (u : Vec Ideal S1x1024x2048 .bf16) (x : Vec Ideal S2048x512 .bf16)
    (inb : ∀ a : Fin 3, (![0, 512, 0] : Fin 3 → ℕ) a + (![1, 512, 2048] : Fin 3 → ℕ) a ≤ S1x1024x2048.size a) (r n : Fin 512) :
    k0_pay6 (F := Ideal) (View.ld u (Rect.unit ![0, 512, 0] ![1, 512, 2048] inb)) x (ix3 0 r n) = product u x 512 (by omega) r n :=
  (pay6_apply _ _ _).trans (Finset.sum_congr (M := EReal) rfl fun k _ => congrArg (· * x (ix2 k n)) (ld_rows u 512 (by omega) inb r k))

/-- The next block's activation before the nonlinearity, in its first half. -/
def ahead (u : Vec Ideal S1x512x2048 .bf16) (x : Vec Ideal S2048x512 .bf16) (r n : Fin 512) : EReal :=
  ∑ k : Fin 2048, u (ix3 0 r k) * x (ix2 k n)

/-- A token with its sums added, normalised. -/
def closed (z : Vec Ideal S512x2048 .f32) (g : Vec Ideal S1x2048 .f32) (w : Fin 2048 → EReal) (i : S512x2048.Idx) : EReal :=
  Project.normed (fun j => z (ix2 (i 0) j) + w j) (fun j => g (ix2 0 j)) (i 1)

/-- What a block of 1024 experts adds to a sum, the first half's activations being `a`. -/
def grown (x0 : Vec Ideal S2048x512 .bf16) (x1 : Vec Ideal S1x1024x2048 .bf16) (x3 : Vec Ideal S1x2048x1024 .bf16)
    (x4 x5 : Vec Ideal S8x128x512 .bf16) (x6 x7 : Vec Ideal S8x8x512 .f32) (y : EReal) (a : Fin 512 → Fin 512 → EReal)
    (d : Fin 2048) (n : Fin 512) : EReal :=
  y + ∑ k : Fin 512, x3 (ix3 0 d ⟨0 + k.val, by omega⟩) * coef x4 x5 x6 x7 0 a k n
    + ∑ k : Fin 512, x3 (ix3 0 d ⟨512 + k.val, by omega⟩) * coef x4 x5 x6 x7 1 (product x1 x0 512 (by omega)) k n

theorem grown_of (x0 : Vec Ideal S2048x512 .bf16) (x1 : Vec Ideal S1x1024x2048 .bf16) (x3 : Vec Ideal S1x2048x1024 .bf16)
    (x4 x5 : Vec Ideal S8x128x512 .bf16) (x6 x7 : Vec Ideal S8x8x512 .f32) (y : Vec Ideal S2048x512 .f32) (a : Fin 512 → Fin 512 → EReal)
    (inb : ∀ a : Fin 3, (![0, 0, 0] : Fin 3 → ℕ) a + (![1, 2048, 512] : Fin 3 → ℕ) a ≤ S1x2048x1024.size a)
    (inb' : ∀ a : Fin 3, (![0, 0, 512] : Fin 3 → ℕ) a + (![1, 2048, 512] : Fin 3 → ℕ) a ≤ S1x2048x1024.size a) (i : S2048x512.Idx) :
    k0_pay2 (F := Ideal) (k0_pay123 (F := Ideal) y (View.ld x3 (Rect.unit ![0, 0, 0] ![1, 2048, 512] inb)) (fun j => coef x4 x5 x6 x7 0 a (j 1) (j 2)))
        (View.ld x3 (Rect.unit ![0, 0, 512] ![1, 2048, 512] inb'))
        (fun j => coef x4 x5 x6 x7 1 (product x1 x0 512 (by omega)) (j 1) (j 2)) i
      = grown x0 x1 x3 x4 x5 x6 x7 (y i) a (i 0) (i 1) := by
  refine (pay2_apply _ _ _ i).trans (congrArg₂ (· + ·) ((pay123_apply _ _ _ i).trans (congrArg (y i + ·) ?_)) ?_)
  · exact Finset.sum_congr (M := EReal) rfl fun k _ => congrArg (· * coef x4 x5 x6 x7 0 a k (i 1)) (ld_cols x3 0 (by omega) inb (i 0) k)
  · exact Finset.sum_congr (M := EReal) rfl fun k _ =>
      congrArg (· * coef x4 x5 x6 x7 1 (product x1 x0 512 (by omega)) k (i 1)) (ld_cols x3 512 (by omega) inb' (i 0) k)

/-- The sums after the first block of a tile of tokens, which start from nought. -/
theorem sums_A (c : Dev nD) (t : Fin cfg0.N) (h0 : t.val % 16 = 0) (h1 : ¬t.val % 16 = 15) (x0 : Vec Ideal S2048x512 .bf16) (x1 : Vec Ideal S1x1024x2048 .bf16) (x2 : Vec Ideal S1x512x2048 .bf16)
    (x3 : Vec Ideal S1x2048x1024 .bf16) (x4 x5 : Vec Ideal S8x128x512 .bf16) (x6 x7 : Vec Ideal S8x8x512 .f32)
    (x8 : Vec Ideal S512x2048 .f32) (x9 : Vec Ideal S1x2048 .f32)
    (i : S2048x512.Idx) :
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (fun h => h1 ((hcond0_1 t).mp h)) x0 x1 x2 x3 x4 x5 x6 x7 x8 x9 i
      = grown x0 x1 x3 x4 x5 x6 x7 0 (product x1 x0 0 (by omega)) (i 0) (i 1) := by
  unfold sout0_A_0
  frame_open
  simp (disch := decide) only [↓ View.readCov_skip, ↓ View.readCov_cons_toLoadRect, ↓ View.readCov_fill]
  frame_out
  rw [half_1 x4 x5 x6 x7 _ _ _ _ _ _ _ _ (product x1 x0 512 (by omega))]
  rw [half_0 x4 x5 x6 x7 _ _ _ _ _ _ _ _ (product x1 x0 0 (by omega))]
  · exact (grown_of x0 x1 x3 x4 x5 x6 x7 _ _ _ _ i).trans (congrArg (fun y => grown x0 x1 x3 x4 x5 x6 x7 y (product x1 x0 0 (by omega)) (i 0) (i 1)) (pay4_apply i))
  · exact fun x => (congrFun (read_tile 0 _ _ (by decide) (by decide) _ _ _ _) x).trans (product_5 x1 x0 _ _ _)
  · exact fun x => (congrFun (read_tile 0 _ _ (by decide) (by decide) _ _ _ _) x).trans (product_5 x1 x0 _ _ _)
  · exact fun x => (congrFun (read_tile 0 _ _ (by decide) (by decide) _ _ _ _) x).trans (product_5 x1 x0 _ _ _)
  · exact fun x => (congrFun (read_tile 0 _ _ (by decide) (by decide) _ _ _ _) x).trans (product_5 x1 x0 _ _ _)
  · exact fun x => (congrFun (read_tile 0 _ _ (by decide) (by decide) _ _ _ _) x).trans (product_5 x1 x0 _ _ _)
  · exact fun x => (congrFun (read_tile 0 _ _ (by decide) (by decide) _ _ _ _) x).trans (product_5 x1 x0 _ _ _)
  · exact fun x => (congrFun (read_tile 0 _ _ (by decide) (by decide) _ _ _ _) x).trans (product_5 x1 x0 _ _ _)
  · exact fun x => (congrFun (read_tile 0 _ _ (by decide) (by decide) _ _ _ _) x).trans (product_5 x1 x0 _ _ _)
  · exact fun x => (congrFun (read_tile 1 _ _ (by decide) (by decide) _ _ _ _) x).trans (product_6 x1 x0 _ _ _)
  · exact fun x => (congrFun (read_tile 1 _ _ (by decide) (by decide) _ _ _ _) x).trans (product_6 x1 x0 _ _ _)
  · exact fun x => (congrFun (read_tile 1 _ _ (by decide) (by decide) _ _ _ _) x).trans (product_6 x1 x0 _ _ _)
  · exact fun x => (congrFun (read_tile 1 _ _ (by decide) (by decide) _ _ _ _) x).trans (product_6 x1 x0 _ _ _)
  · exact fun x => (congrFun (read_tile 1 _ _ (by decide) (by decide) _ _ _ _) x).trans (product_6 x1 x0 _ _ _)
  · exact fun x => (congrFun (read_tile 1 _ _ (by decide) (by decide) _ _ _ _) x).trans (product_6 x1 x0 _ _ _)
  · exact fun x => (congrFun (read_tile 1 _ _ (by decide) (by decide) _ _ _ _) x).trans (product_6 x1 x0 _ _ _)
  · exact fun x => (congrFun (read_tile 1 _ _ (by decide) (by decide) _ _ _ _) x).trans (product_6 x1 x0 _ _ _)

/-- The sums after a block between. -/
theorem sums_B (c : Dev nD) (t : Fin cfg0.N) (h0 : ¬t.val % 16 = 0) (h1 : ¬t.val % 16 = 15) (x0 : Vec Ideal S2048x512 .bf16) (x1 : Vec Ideal S1x1024x2048 .bf16) (x2 : Vec Ideal S1x512x2048 .bf16)
    (x3 : Vec Ideal S1x2048x1024 .bf16) (x4 x5 : Vec Ideal S8x128x512 .bf16) (x6 x7 : Vec Ideal S8x8x512 .f32)
    (x8 : Vec Ideal S512x2048 .f32) (x9 : Vec Ideal S1x2048 .f32)
    (y : Vec Ideal S2048x512 .f32) (a : Vec Ideal S2x512x512 .f32)
    (i : S2048x512.Idx) :
    sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (fun h => h1 ((hcond0_1 t).mp h)) x0 x1 x2 x3 x4 x5 x6 x7 x8 x9 y a i
      = grown x0 x1 x3 x4 x5 x6 x7 (y i) (fun r n => a (ix3 0 r n)) (i 0) (i 1) := by
  unfold sout0_B_0
  frame_open
  simp (disch := decide) only [↓ View.readCov_skip, ↓ View.readCov_cons_toLoadRect, ↓ View.readCov_fill]
  frame_out
  simp only [read_unread_whole]
  rw [half_1 x4 x5 x6 x7 _ _ _ _ _ _ _ _ (product x1 x0 512 (by omega))]
  rw [half_0 x4 x5 x6 x7 _ _ _ _ _ _ _ _ (fun r n => a (ix3 0 r n))]
  · exact (grown_of x0 x1 x3 x4 x5 x6 x7 _ _ _ _ i)
  · exact fun x => held_tile a _ _ (by decide) (by decide) _ x
  · exact fun x => held_tile a _ _ (by decide) (by decide) _ x
  · exact fun x => held_tile a _ _ (by decide) (by decide) _ x
  · exact fun x => held_tile a _ _ (by decide) (by decide) _ x
  · exact fun x => held_tile a _ _ (by decide) (by decide) _ x
  · exact fun x => held_tile a _ _ (by decide) (by decide) _ x
  · exact fun x => held_tile a _ _ (by decide) (by decide) _ x
  · exact fun x => held_tile a _ _ (by decide) (by decide) _ x
  · exact fun x => (congrFun (read_tile 1 _ _ (by decide) (by decide) _ _ _ _) x).trans (product_6 x1 x0 _ _ _)
  · exact fun x => (congrFun (read_tile 1 _ _ (by decide) (by decide) _ _ _ _) x).trans (product_6 x1 x0 _ _ _)
  · exact fun x => (congrFun (read_tile 1 _ _ (by decide) (by decide) _ _ _ _) x).trans (product_6 x1 x0 _ _ _)
  · exact fun x => (congrFun (read_tile 1 _ _ (by decide) (by decide) _ _ _ _) x).trans (product_6 x1 x0 _ _ _)
  · exact fun x => (congrFun (read_tile 1 _ _ (by decide) (by decide) _ _ _ _) x).trans (product_6 x1 x0 _ _ _)
  · exact fun x => (congrFun (read_tile 1 _ _ (by decide) (by decide) _ _ _ _) x).trans (product_6 x1 x0 _ _ _)
  · exact fun x => (congrFun (read_tile 1 _ _ (by decide) (by decide) _ _ _ _) x).trans (product_6 x1 x0 _ _ _)
  · exact fun x => (congrFun (read_tile 1 _ _ (by decide) (by decide) _ _ _ _) x).trans (product_6 x1 x0 _ _ _)

/-- What the last block writes out: the tokens with the sums added, normalised by rows. -/
theorem written (c : Dev nD) (t : Fin cfg0.N) (h0 : ¬t.val % 16 = 0) (h1 : t.val % 16 = 15) (x0 : Vec Ideal S2048x512 .bf16) (x1 : Vec Ideal S1x1024x2048 .bf16) (x2 : Vec Ideal S1x512x2048 .bf16)
    (x3 : Vec Ideal S1x2048x1024 .bf16) (x4 x5 : Vec Ideal S8x128x512 .bf16) (x6 x7 : Vec Ideal S8x8x512 .f32)
    (x8 : Vec Ideal S512x2048 .f32) (x9 : Vec Ideal S1x2048 .f32)
    (y : Vec Ideal S2048x512 .f32) (a : Vec Ideal S2x512x512 .f32)
    (i : S512x2048.Idx) :
    out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) ((hcond0_1 t).mpr h1) x0 x1 x2 x3 x4 x5 x6 x7 x8 x9 y a i
      = closed x8 x9 (fun j => grown x0 x1 x3 x4 x5 x6 x7 (y (ix2 j (i 0))) (fun r n => a (ix3 0 r n)) j (i 0)) i := by
  unfold out0_C_10
  frame_open
  simp (disch := decide) only [↓ View.readCov_skip, ↓ View.readCov_cons_toLoadRect, ↓ View.readCov_fill]
  frame_out
  simp only [read_unread_whole]
  rw [half_1 x4 x5 x6 x7 _ _ _ _ _ _ _ _ (product x1 x0 512 (by omega))]
  rw [half_0 x4 x5 x6 x7 _ _ _ _ _ _ _ _ (fun r n => a (ix3 0 r n))]
  · exact (pay3_apply _ _ _ i).trans (congrArg (fun w => Project.normed w (fun j => x9 (ix2 0 j)) (i 1)) (funext fun j => congrArg (x8 (ix2 (i 0) j) + ·) (grown_of x0 x1 x3 x4 x5 x6 x7 _ _ _ _ (ix2 j (i 0)))))
  · exact fun x => held_tile a _ _ (by decide) (by decide) _ x
  · exact fun x => held_tile a _ _ (by decide) (by decide) _ x
  · exact fun x => held_tile a _ _ (by decide) (by decide) _ x
  · exact fun x => held_tile a _ _ (by decide) (by decide) _ x
  · exact fun x => held_tile a _ _ (by decide) (by decide) _ x
  · exact fun x => held_tile a _ _ (by decide) (by decide) _ x
  · exact fun x => held_tile a _ _ (by decide) (by decide) _ x
  · exact fun x => held_tile a _ _ (by decide) (by decide) _ x
  · exact fun x => (congrFun (read_tile 1 _ _ (by decide) (by decide) _ _ _ _) x).trans (product_6 x1 x0 _ _ _)
  · exact fun x => (congrFun (read_tile 1 _ _ (by decide) (by decide) _ _ _ _) x).trans (product_6 x1 x0 _ _ _)
  · exact fun x => (congrFun (read_tile 1 _ _ (by decide) (by decide) _ _ _ _) x).trans (product_6 x1 x0 _ _ _)
  · exact fun x => (congrFun (read_tile 1 _ _ (by decide) (by decide) _ _ _ _) x).trans (product_6 x1 x0 _ _ _)
  · exact fun x => (congrFun (read_tile 1 _ _ (by decide) (by decide) _ _ _ _) x).trans (product_6 x1 x0 _ _ _)
  · exact fun x => (congrFun (read_tile 1 _ _ (by decide) (by decide) _ _ _ _) x).trans (product_6 x1 x0 _ _ _)
  · exact fun x => (congrFun (read_tile 1 _ _ (by decide) (by decide) _ _ _ _) x).trans (product_6 x1 x0 _ _ _)
  · exact fun x => (congrFun (read_tile 1 _ _ (by decide) (by decide) _ _ _ _) x).trans (product_6 x1 x0 _ _ _)

/-- The next block's first activations, after the first block. -/
theorem next_A (c : Dev nD) (t : Fin cfg0.N) (h0 : t.val % 16 = 0) (h1 : ¬t.val % 16 = 15) (x0 : Vec Ideal S2048x512 .bf16) (x1 : Vec Ideal S1x1024x2048 .bf16) (x2 : Vec Ideal S1x512x2048 .bf16)
    (x3 : Vec Ideal S1x2048x1024 .bf16) (x4 x5 : Vec Ideal S8x128x512 .bf16) (x6 x7 : Vec Ideal S8x8x512 .f32)
    (x8 : Vec Ideal S512x2048 .f32) (x9 : Vec Ideal S1x2048 .f32)
    (r n : Fin 512) :
    sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (fun h => h1 ((hcond0_1 t).mp h)) x0 x1 x2 x3 x4 x5 x6 x7 x8 x9 (ix3 0 r n)
      = ahead x2 x0 r n := by
  unfold sout0_A_1
  frame_open
  simp (disch := decide) only [↓ View.readCov_skip, ↓ View.readCov_cons_toLoadRect, ↓ View.readCov_fill]
  frame_out
  exact (first_half _ _ _ _ _).trans (pay1_apply x2 x0 (ix3 0 r n))

/-- The next block's first activations, after a block between. -/
theorem next_B (c : Dev nD) (t : Fin cfg0.N) (h0 : ¬t.val % 16 = 0) (h1 : ¬t.val % 16 = 15) (x0 : Vec Ideal S2048x512 .bf16) (x1 : Vec Ideal S1x1024x2048 .bf16) (x2 : Vec Ideal S1x512x2048 .bf16)
    (x3 : Vec Ideal S1x2048x1024 .bf16) (x4 x5 : Vec Ideal S8x128x512 .bf16) (x6 x7 : Vec Ideal S8x8x512 .f32)
    (x8 : Vec Ideal S512x2048 .f32) (x9 : Vec Ideal S1x2048 .f32)
    (y : Vec Ideal S2048x512 .f32) (a : Vec Ideal S2x512x512 .f32)
    (r n : Fin 512) :
    sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (fun h => h1 ((hcond0_1 t).mp h)) x0 x1 x2 x3 x4 x5 x6 x7 x8 x9 y a (ix3 0 r n)
      = ahead x2 x0 r n := by
  unfold sout0_B_1
  frame_open
  simp (disch := decide) only [↓ View.readCov_skip, ↓ View.readCov_cons_toLoadRect, ↓ View.readCov_fill]
  frame_out
  exact (first_half _ _ _ _ _).trans (pay1_apply x2 x0 (ix3 0 r n))

end Cert.PeerIdeal.Hand
-- ==== Proof.PeerTerms.lean ====
module

public import proofs.«01_k».proof.Proof.PeerPieces
public import proofs.«01_k».proof.Proof.Project

@[expose] public section

noncomputable section

/-! What every expert adds to every token, as plain sums over the arguments. -/

namespace Cert.PeerIdeal.Hand

open Cert.PeerIdeal
open Idealize.ShloMosaic Idealize.ShloMosaic.TcCoe

/-- The activation of expert `q` on token `n`, before the nonlinearity. -/
def hidden (x : Vec Ideal S2048x8192 .bf16) (u : Vec Ideal S2x16384x2048 .f32) (q : Fin 16384) (n : Fin 8192) : EReal :=
  ∑ k : Fin 2048, u (ix3 1 q k) * x (ix2 k n)

/-- The routing's weight of expert `q` for token `n`, summed over the heads. -/
def routed (r e : Vec Ideal S8x128x8192 .bf16) (c d : Vec Ideal S8x128x8192 .f32) (q : Fin 16384) (n : Fin 8192) : EReal :=
  ∑ h : Fin 8, weight (r (ix3 h ⟨q.val % 128, Nat.mod_lt _ (by omega)⟩ n)) (e (ix3 h ⟨q.val % 128, Nat.mod_lt _ (by omega)⟩ n))
    (c (ix3 h ⟨q.val / 128, by omega⟩ n)) (d (ix3 h ⟨q.val / 128, by omega⟩ n))

/-- What expert `q` adds to feature `j` of token `n`. -/
def added (x : Vec Ideal S2048x8192 .bf16) (u v : Vec Ideal S2x16384x2048 .f32) (r e : Vec Ideal S8x128x8192 .bf16)
    (c d : Vec Ideal S8x128x8192 .f32) (n : Fin 8192) (j : Fin 2048) (q : Fin 16384) : EReal :=
  v (ix3 1 q j) * (routed r e c d q n * act (hidden x u q n))

/-- The experts' sums added to the residual, normalised by rows. -/
def result (x : Vec Ideal S2048x8192 .bf16) (u v : Vec Ideal S2x16384x2048 .f32) (r e : Vec Ideal S8x128x8192 .bf16)
    (c d : Vec Ideal S8x128x8192 .f32) (z : Vec Ideal S8192x2048 .f32) (g : Vec Ideal S2048 .f32) (i : S8192x2048.Idx) : EReal :=
  Project.normed (fun j => z (ix2 (i 0) j) + ∑ q : Fin 16384, added x u v r e c d (i 0) j q) (fun j => g (ix1 j)) (i 1)

end Cert.PeerIdeal.Hand
-- ==== Proof.PeerClaim.lean ====
module

public import proofs.«01_k».proof.Defs
public import proofs.«01_k».proof.Proof.Gen.PeerRefIdeal.Read
public import proofs.«01_k».proof.Proof.PeerState

@[expose] public section

/-! The experts' kernel and its reference end with the same array. -/

namespace Cert.PeerClaim

open Idealize.ShloMosaic Idealize.ShloMosaic.TcCoe Idealize.SL.Sem
open Cert.PeerRefIdeal Cert.PeerRefIdeal.Gen Cert.PeerRefIdeal.Read
open Cert.PeerIdeal.Hand (hidden routed added result weight act)

theorem flat_u (u : Vec Ideal S2x16384x2048 .f32) (q : Fin 16384) (k : Fin 2048) :
    val_main_v15 (F := Ideal) u (ix2 q k) = u (ix3 1 q k) := by
  pointwise [val_main_v15, val_main_v14]

theorem flat_v (v : Vec Ideal S2x16384x2048 .f32) (q : Fin 16384) (k : Fin 2048) :
    val_main_v26 (F := Ideal) v (ix2 q k) = v (ix3 1 q k) := by
  pointwise [val_main_v26, val_main_v25]

theorem hidden_apply (x : Vec Ideal S2048x8192 .bf16) (u : Vec Ideal S2x16384x2048 .f32) (q : Fin 16384) (n : Fin 8192) :
    val_main_v16 (F := Ideal) x u (ix2 q n) = hidden x u q n := by
  rw [val_main_v16_apply]
  refine Finset.sum_congr (M := EReal) rfl fun k _ => congrArg₂ (· * ·) ((congrArg _ ?_).trans (flat_u u q k)) (congrArg x ?_)
  · funext a
    match a with
    | ⟨0, _⟩ => rfl
    | ⟨1, _⟩ => rfl
  · funext a
    match a with
    | ⟨0, _⟩ => rfl
    | ⟨1, _⟩ => rfl

theorem act_apply (x : Vec Ideal S2048x8192 .bf16) (u : Vec Ideal S2x16384x2048 .f32) (q : Fin 16384) (n : Fin 8192) :
    val_main_v23 (F := Ideal) x u (ix2 q n) = act (hidden x u q n) := by
  rw [← hidden_apply]
  unfold val_main_v23 val_main_v22 val_main_v21 val_main_v20 val_main_v19 val_main_v18 val_main_v17 act
  generalize val_main_v16 (F := Ideal) x u = p
  pointwise [val_main_cst_1, val_main_cst_2]
  rw [EReal.neg_mul, Ideal.erfc_neg]

theorem head_apply (r e : Vec Ideal S8x128x8192 .bf16) (c d : Vec Ideal S8x128x8192 .f32) (h : Fin 8) (i j : Fin 128) (n : Fin 8192) :
    val_main_v11 (F := Ideal) r e c d (ix4 h i j n) = weight (r (ix3 h j n)) (e (ix3 h j n)) (c (ix3 h i n)) (d (ix3 h i n)) := by
  pointwise [val_main_v11, val_main_v10, val_main_v9, val_main_v8, val_main_call0_v2, val_main_call0_v1, val_main_call0_v0, val_main_cst,
    val_main_v7, val_main_v6, val_main_v5, val_main_v4, val_main_v3, val_main_v2, val_main_v1, val_main_v0, weight]
  exact congrArg (fun w => (if r (ix3 h j n) < c (ix3 h i n) then e (ix3 h j n) else w) * d (ix3 h i n)) Ideal.ofBits_zero_f32

theorem routed_apply (r e : Vec Ideal S8x128x8192 .bf16) (c d : Vec Ideal S8x128x8192 .f32) (q : Fin 16384) (n : Fin 8192) :
    val_main_v13 (F := Ideal) r e c d (ix2 q n) = routed r e c d q n := by
  rw [val_main_v13_apply, val_main_v12_apply]
  have hq := q.isLt
  have hn := n.isLt
  refine (congrArg₂ (· + ·) (Ideal.ofBits_zero_f32 : Ideal.ofBits .f32 0x00000000#32 = 0) (Finset.sum_congr (M := EReal) rfl fun h _ => ?_)).trans (zero_add _)
  refine Eq.trans (congrArg _ (funext fun a => ?_)) (head_apply r e c d h ⟨q.val / 128, by omega⟩ ⟨q.val % 128, Nat.mod_lt _ (by omega)⟩ n)
  match a with
  | ⟨0, _⟩ => rfl
  | ⟨1, _⟩ => exact Fin.ext (by show (q.val * 8192 + n.val) / 1048576 = q.val / 128; omega)
  | ⟨2, _⟩ => exact Fin.ext (by show (q.val * 8192 + n.val) / 8192 % 128 = q.val % 128; omega)
  | ⟨3, _⟩ => exact Fin.ext (by show (q.val * 8192 + n.val) % 8192 = n.val; omega)

theorem summed (x : Vec Ideal S2048x8192 .bf16) (u v : Vec Ideal S2x16384x2048 .f32) (r e : Vec Ideal S8x128x8192 .bf16)
    (c d : Vec Ideal S8x128x8192 .f32) (n : Fin 8192) (j : Fin 2048) :
    val_main_v27 (F := Ideal) x u v r e c d (ix2 n j) = ∑ q : Fin 16384, added x u v r e c d n j q := by
  rw [val_main_v27_apply]
  refine Finset.sum_congr (M := EReal) rfl fun q _ => ?_
  rw [show lidx_main_v27 (ix2 n j) q = ix2 q n from funext fun a => match a with | ⟨0, _⟩ => rfl | ⟨1, _⟩ => rfl,
    show ridx_main_v27 (ix2 n j) q = ix2 q j from funext fun a => match a with | ⟨0, _⟩ => rfl | ⟨1, _⟩ => rfl,
    flat_v, val_main_v24_apply, act_apply, routed_apply]
  exact mul_comm _ _

theorem reference (x : Vec Ideal S2048x8192 .bf16) (u v : Vec Ideal S2x16384x2048 .f32) (r e : Vec Ideal S8x128x8192 .bf16)
    (c d : Vec Ideal S8x128x8192 .f32) (z : Vec Ideal S8192x2048 .f32) (g : Vec Ideal S2048 .f32) :
    val_main_v41 (F := Ideal) x u v r e c d z g = result x u v r e c d z g := by
  funext i
  have h : result x u v r e c d z g i = Cert.Project.normed (fun j => z (ix2 (i 0) j) + val_main_v27 (F := Ideal) x u v r e c d (ix2 (i 0) j))
      (fun j => g (ix1 j)) (i 1) :=
    congrArg (fun w => Cert.Project.normed w (fun j => g (ix1 j)) (i 1))
      (funext fun j => congrArg (z (ix2 (i 0) j) + ·) (summed x u v r e c d (i 0) j).symm)
  rw [h]
  unfold val_main_v41 val_main_v40 val_main_v39 val_main_v38 val_main_v37 val_main_v36 val_main_v35 val_main_v33 val_main_v31
    val_main_v30 val_main_v29 val_main_v28
  generalize val_main_v27 (F := Ideal) x u v r e c d = p
  pointwise [val_main_cst_3, val_main_cst_4, val_main_cst_5, val_main_v34, val_main_v32, Cert.Project.normed]

theorem algebraic : Cert.algebraic_PeerIdeal_PeerRefIdeal := by
  intro m g m' g' _ h
  refine ⟨fun c => result
      (m ((c.tc : Thread Cert.PeerIdeal.nD Cert.PeerIdeal.τ).loc Cert.PeerIdeal.main_arg0))
      (m ((c.tc : Thread Cert.PeerIdeal.nD Cert.PeerIdeal.τ).loc Cert.PeerIdeal.main_arg1))
      (m ((c.tc : Thread Cert.PeerIdeal.nD Cert.PeerIdeal.τ).loc Cert.PeerIdeal.main_arg2))
      (m ((c.tc : Thread Cert.PeerIdeal.nD Cert.PeerIdeal.τ).loc Cert.PeerIdeal.main_arg3))
      (m ((c.tc : Thread Cert.PeerIdeal.nD Cert.PeerIdeal.τ).loc Cert.PeerIdeal.main_arg4))
      (m ((c.tc : Thread Cert.PeerIdeal.nD Cert.PeerIdeal.τ).loc Cert.PeerIdeal.main_arg5))
      (m ((c.tc : Thread Cert.PeerIdeal.nD Cert.PeerIdeal.τ).loc Cert.PeerIdeal.main_arg6))
      (m ((c.tc : Thread Cert.PeerIdeal.nD Cert.PeerIdeal.τ).loc Cert.PeerIdeal.main_arg7))
      (m ((c.tc : Thread Cert.PeerIdeal.nD Cert.PeerIdeal.τ).loc Cert.PeerIdeal.main_arg8)), ?_, ?_⟩
  · exact (θ_run _ _ _).mono (fun r hr c => ⟨(hr c).1.trans (Cert.PeerIdeal.Hand.final m c), (hr c).2⟩) (Cert.PeerIdeal.Hand.ran m g)
  · refine (θ_run _ _ _).mono (fun r hr c => ⟨(hr c).1.trans ?_, (hr c).2⟩) (Cert.PeerRefIdeal.Value.run m' g')
    obtain ⟨h0, h1, h2, h3, h4, h5, h6, h7, h8⟩ := h c
    rw [val_main_v41_eq, h0, h1, h2, h3, h4, h5, h6, h7, h8]
    exact reference _ _ _ _ _ _ _ _ _

end Cert.PeerClaim
-- ==== Proof.PeerSPays.lean ====
module

public import proofs.«01_k».proof.Proof.Gen.PeerIdeal.Skeleton
public import proofs.«01_k».proof.Proof.Gen.PeerSIdeal.Skeleton
public import Idealize.ShloMosaic.Lib.Pointwise

@[expose] public section

/-! The values that the experts' kernel computes on the sample batch are those it computes on the prompt: a tile is 512 tokens in both. -/

namespace Cert.PeerSIdeal.Hand

open Idealize.ShloMosaic Idealize.ShloMosaic.TcCoe

theorem same1 : Cert.PeerSIdeal.Gen.k0_pay1 (F := Ideal) = Cert.PeerIdeal.Gen.k0_pay1 (F := Ideal) := rfl
theorem same2 : Cert.PeerSIdeal.Gen.k0_pay2 (F := Ideal) = Cert.PeerIdeal.Gen.k0_pay2 (F := Ideal) := rfl
theorem same3 : Cert.PeerSIdeal.Gen.k0_pay3 (F := Ideal) = Cert.PeerIdeal.Gen.k0_pay3 (F := Ideal) := rfl
theorem same4 : Cert.PeerSIdeal.Gen.k0_pay4 (F := Ideal) = Cert.PeerIdeal.Gen.k0_pay4 (F := Ideal) := rfl
theorem same5 : Cert.PeerSIdeal.Gen.k0_pay5 (F := Ideal) = Cert.PeerIdeal.Gen.k0_pay5 (F := Ideal) := rfl
theorem same6 : Cert.PeerSIdeal.Gen.k0_pay6 (F := Ideal) = Cert.PeerIdeal.Gen.k0_pay6 (F := Ideal) := rfl
theorem same7 : Cert.PeerSIdeal.Gen.k0_pay7 (F := Ideal) = Cert.PeerIdeal.Gen.k0_pay7 (F := Ideal) := rfl
theorem same8 : Cert.PeerSIdeal.Gen.k0_pay8 (F := Ideal) = Cert.PeerIdeal.Gen.k0_pay8 (F := Ideal) := rfl
theorem same9 : Cert.PeerSIdeal.Gen.k0_pay9 (F := Ideal) = Cert.PeerIdeal.Gen.k0_pay9 (F := Ideal) := rfl
theorem same10 : Cert.PeerSIdeal.Gen.k0_pay10 (F := Ideal) = Cert.PeerIdeal.Gen.k0_pay10 (F := Ideal) := rfl
theorem same11 : Cert.PeerSIdeal.Gen.k0_pay11 (F := Ideal) = Cert.PeerIdeal.Gen.k0_pay11 (F := Ideal) := rfl
theorem same12 : Cert.PeerSIdeal.Gen.k0_pay12 (F := Ideal) = Cert.PeerIdeal.Gen.k0_pay12 (F := Ideal) := rfl
theorem same13 : Cert.PeerSIdeal.Gen.k0_pay13 (F := Ideal) = Cert.PeerIdeal.Gen.k0_pay13 (F := Ideal) := rfl
theorem same14 : Cert.PeerSIdeal.Gen.k0_pay14 (F := Ideal) = Cert.PeerIdeal.Gen.k0_pay14 (F := Ideal) := rfl
theorem same15 : Cert.PeerSIdeal.Gen.k0_pay15 (F := Ideal) = Cert.PeerIdeal.Gen.k0_pay15 (F := Ideal) := rfl
theorem same16 : Cert.PeerSIdeal.Gen.k0_pay16 (F := Ideal) = Cert.PeerIdeal.Gen.k0_pay16 (F := Ideal) := rfl
theorem same17 : Cert.PeerSIdeal.Gen.k0_pay17 (F := Ideal) = Cert.PeerIdeal.Gen.k0_pay17 (F := Ideal) := rfl
theorem same18 : Cert.PeerSIdeal.Gen.k0_pay18 (F := Ideal) = Cert.PeerIdeal.Gen.k0_pay18 (F := Ideal) := rfl
theorem same19 : Cert.PeerSIdeal.Gen.k0_pay19 (F := Ideal) = Cert.PeerIdeal.Gen.k0_pay19 (F := Ideal) := rfl
theorem same20 : Cert.PeerSIdeal.Gen.k0_pay20 (F := Ideal) = Cert.PeerIdeal.Gen.k0_pay20 (F := Ideal) := rfl
theorem same21 : Cert.PeerSIdeal.Gen.k0_pay21 (F := Ideal) = Cert.PeerIdeal.Gen.k0_pay21 (F := Ideal) := rfl
theorem same22 : Cert.PeerSIdeal.Gen.k0_pay22 (F := Ideal) = Cert.PeerIdeal.Gen.k0_pay22 (F := Ideal) := rfl
theorem same23 : Cert.PeerSIdeal.Gen.k0_pay23 (F := Ideal) = Cert.PeerIdeal.Gen.k0_pay23 (F := Ideal) := rfl
theorem same24 : Cert.PeerSIdeal.Gen.k0_pay24 (F := Ideal) = Cert.PeerIdeal.Gen.k0_pay24 (F := Ideal) := rfl
theorem same25 : Cert.PeerSIdeal.Gen.k0_pay25 (F := Ideal) = Cert.PeerIdeal.Gen.k0_pay25 (F := Ideal) := rfl
theorem same26 : Cert.PeerSIdeal.Gen.k0_pay26 (F := Ideal) = Cert.PeerIdeal.Gen.k0_pay26 (F := Ideal) := rfl
theorem same27 : Cert.PeerSIdeal.Gen.k0_pay27 (F := Ideal) = Cert.PeerIdeal.Gen.k0_pay27 (F := Ideal) := rfl
theorem same28 : Cert.PeerSIdeal.Gen.k0_pay28 (F := Ideal) = Cert.PeerIdeal.Gen.k0_pay28 (F := Ideal) := rfl
theorem same29 : Cert.PeerSIdeal.Gen.k0_pay29 (F := Ideal) = Cert.PeerIdeal.Gen.k0_pay29 (F := Ideal) := rfl
theorem same30 : Cert.PeerSIdeal.Gen.k0_pay30 (F := Ideal) = Cert.PeerIdeal.Gen.k0_pay30 (F := Ideal) := rfl
theorem same31 : Cert.PeerSIdeal.Gen.k0_pay31 (F := Ideal) = Cert.PeerIdeal.Gen.k0_pay31 (F := Ideal) := rfl
theorem same32 : Cert.PeerSIdeal.Gen.k0_pay32 (F := Ideal) = Cert.PeerIdeal.Gen.k0_pay32 (F := Ideal) := rfl
theorem same33 : Cert.PeerSIdeal.Gen.k0_pay33 (F := Ideal) = Cert.PeerIdeal.Gen.k0_pay33 (F := Ideal) := rfl
theorem same34 : Cert.PeerSIdeal.Gen.k0_pay34 (F := Ideal) = Cert.PeerIdeal.Gen.k0_pay34 (F := Ideal) := rfl
theorem same35 : Cert.PeerSIdeal.Gen.k0_pay35 (F := Ideal) = Cert.PeerIdeal.Gen.k0_pay35 (F := Ideal) := rfl
theorem same36 : Cert.PeerSIdeal.Gen.k0_pay36 (F := Ideal) = Cert.PeerIdeal.Gen.k0_pay36 (F := Ideal) := rfl
theorem same37 : Cert.PeerSIdeal.Gen.k0_pay37 (F := Ideal) = Cert.PeerIdeal.Gen.k0_pay37 (F := Ideal) := rfl
theorem same38 : Cert.PeerSIdeal.Gen.k0_pay38 (F := Ideal) = Cert.PeerIdeal.Gen.k0_pay38 (F := Ideal) := rfl
theorem same39 : Cert.PeerSIdeal.Gen.k0_pay39 (F := Ideal) = Cert.PeerIdeal.Gen.k0_pay39 (F := Ideal) := rfl
theorem same40 : Cert.PeerSIdeal.Gen.k0_pay40 (F := Ideal) = Cert.PeerIdeal.Gen.k0_pay40 (F := Ideal) := rfl
theorem same41 : Cert.PeerSIdeal.Gen.k0_pay41 (F := Ideal) = Cert.PeerIdeal.Gen.k0_pay41 (F := Ideal) := rfl
theorem same42 : Cert.PeerSIdeal.Gen.k0_pay42 (F := Ideal) = Cert.PeerIdeal.Gen.k0_pay42 (F := Ideal) := rfl
theorem same43 : Cert.PeerSIdeal.Gen.k0_pay43 (F := Ideal) = Cert.PeerIdeal.Gen.k0_pay43 (F := Ideal) := rfl
theorem same44 : Cert.PeerSIdeal.Gen.k0_pay44 (F := Ideal) = Cert.PeerIdeal.Gen.k0_pay44 (F := Ideal) := rfl
theorem same45 : Cert.PeerSIdeal.Gen.k0_pay45 (F := Ideal) = Cert.PeerIdeal.Gen.k0_pay45 (F := Ideal) := rfl
theorem same46 : Cert.PeerSIdeal.Gen.k0_pay46 (F := Ideal) = Cert.PeerIdeal.Gen.k0_pay46 (F := Ideal) := rfl
theorem same47 : Cert.PeerSIdeal.Gen.k0_pay47 (F := Ideal) = Cert.PeerIdeal.Gen.k0_pay47 (F := Ideal) := rfl
theorem same48 : Cert.PeerSIdeal.Gen.k0_pay48 (F := Ideal) = Cert.PeerIdeal.Gen.k0_pay48 (F := Ideal) := rfl
theorem same49 : Cert.PeerSIdeal.Gen.k0_pay49 (F := Ideal) = Cert.PeerIdeal.Gen.k0_pay49 (F := Ideal) := rfl
theorem same50 : Cert.PeerSIdeal.Gen.k0_pay50 (F := Ideal) = Cert.PeerIdeal.Gen.k0_pay50 (F := Ideal) := rfl
theorem same51 : Cert.PeerSIdeal.Gen.k0_pay51 (F := Ideal) = Cert.PeerIdeal.Gen.k0_pay51 (F := Ideal) := rfl
theorem same52 : Cert.PeerSIdeal.Gen.k0_pay52 (F := Ideal) = Cert.PeerIdeal.Gen.k0_pay52 (F := Ideal) := rfl
theorem same53 : Cert.PeerSIdeal.Gen.k0_pay53 (F := Ideal) = Cert.PeerIdeal.Gen.k0_pay53 (F := Ideal) := rfl
theorem same54 : Cert.PeerSIdeal.Gen.k0_pay54 (F := Ideal) = Cert.PeerIdeal.Gen.k0_pay54 (F := Ideal) := rfl
theorem same55 : Cert.PeerSIdeal.Gen.k0_pay55 (F := Ideal) = Cert.PeerIdeal.Gen.k0_pay55 (F := Ideal) := rfl
theorem same56 : Cert.PeerSIdeal.Gen.k0_pay56 (F := Ideal) = Cert.PeerIdeal.Gen.k0_pay56 (F := Ideal) := rfl
theorem same57 : Cert.PeerSIdeal.Gen.k0_pay57 (F := Ideal) = Cert.PeerIdeal.Gen.k0_pay57 (F := Ideal) := rfl
theorem same58 : Cert.PeerSIdeal.Gen.k0_pay58 (F := Ideal) = Cert.PeerIdeal.Gen.k0_pay58 (F := Ideal) := rfl
theorem same59 : Cert.PeerSIdeal.Gen.k0_pay59 (F := Ideal) = Cert.PeerIdeal.Gen.k0_pay59 (F := Ideal) := rfl
theorem same60 : Cert.PeerSIdeal.Gen.k0_pay60 (F := Ideal) = Cert.PeerIdeal.Gen.k0_pay60 (F := Ideal) := rfl
theorem same61 : Cert.PeerSIdeal.Gen.k0_pay61 (F := Ideal) = Cert.PeerIdeal.Gen.k0_pay61 (F := Ideal) := rfl
theorem same62 : Cert.PeerSIdeal.Gen.k0_pay62 (F := Ideal) = Cert.PeerIdeal.Gen.k0_pay62 (F := Ideal) := rfl
theorem same63 : Cert.PeerSIdeal.Gen.k0_pay63 (F := Ideal) = Cert.PeerIdeal.Gen.k0_pay63 (F := Ideal) := rfl
theorem same64 : Cert.PeerSIdeal.Gen.k0_pay64 (F := Ideal) = Cert.PeerIdeal.Gen.k0_pay64 (F := Ideal) := rfl
theorem same65 : Cert.PeerSIdeal.Gen.k0_pay65 (F := Ideal) = Cert.PeerIdeal.Gen.k0_pay65 (F := Ideal) := rfl
theorem same66 : Cert.PeerSIdeal.Gen.k0_pay66 (F := Ideal) = Cert.PeerIdeal.Gen.k0_pay66 (F := Ideal) := rfl
theorem same67 : Cert.PeerSIdeal.Gen.k0_pay67 (F := Ideal) = Cert.PeerIdeal.Gen.k0_pay67 (F := Ideal) := rfl
theorem same68 : Cert.PeerSIdeal.Gen.k0_pay68 (F := Ideal) = Cert.PeerIdeal.Gen.k0_pay68 (F := Ideal) := rfl
theorem same69 : Cert.PeerSIdeal.Gen.k0_pay69 (F := Ideal) = Cert.PeerIdeal.Gen.k0_pay69 (F := Ideal) := rfl
theorem same70 : Cert.PeerSIdeal.Gen.k0_pay70 (F := Ideal) = Cert.PeerIdeal.Gen.k0_pay70 (F := Ideal) := rfl
theorem same71 : Cert.PeerSIdeal.Gen.k0_pay71 (F := Ideal) = Cert.PeerIdeal.Gen.k0_pay71 (F := Ideal) := rfl
theorem same72 : Cert.PeerSIdeal.Gen.k0_pay72 (F := Ideal) = Cert.PeerIdeal.Gen.k0_pay72 (F := Ideal) := rfl
theorem same73 : Cert.PeerSIdeal.Gen.k0_pay73 (F := Ideal) = Cert.PeerIdeal.Gen.k0_pay73 (F := Ideal) := rfl
theorem same74 : Cert.PeerSIdeal.Gen.k0_pay74 (F := Ideal) = Cert.PeerIdeal.Gen.k0_pay74 (F := Ideal) := rfl
theorem same75 : Cert.PeerSIdeal.Gen.k0_pay75 (F := Ideal) = Cert.PeerIdeal.Gen.k0_pay75 (F := Ideal) := rfl
theorem same76 : Cert.PeerSIdeal.Gen.k0_pay76 (F := Ideal) = Cert.PeerIdeal.Gen.k0_pay76 (F := Ideal) := rfl
theorem same77 : Cert.PeerSIdeal.Gen.k0_pay77 (F := Ideal) = Cert.PeerIdeal.Gen.k0_pay77 (F := Ideal) := rfl
theorem same78 : Cert.PeerSIdeal.Gen.k0_pay78 (F := Ideal) = Cert.PeerIdeal.Gen.k0_pay78 (F := Ideal) := rfl
theorem same79 : Cert.PeerSIdeal.Gen.k0_pay79 (F := Ideal) = Cert.PeerIdeal.Gen.k0_pay79 (F := Ideal) := rfl
theorem same80 : Cert.PeerSIdeal.Gen.k0_pay80 (F := Ideal) = Cert.PeerIdeal.Gen.k0_pay80 (F := Ideal) := rfl
theorem same81 : Cert.PeerSIdeal.Gen.k0_pay81 (F := Ideal) = Cert.PeerIdeal.Gen.k0_pay81 (F := Ideal) := rfl
theorem same82 : Cert.PeerSIdeal.Gen.k0_pay82 (F := Ideal) = Cert.PeerIdeal.Gen.k0_pay82 (F := Ideal) := rfl
theorem same83 : Cert.PeerSIdeal.Gen.k0_pay83 (F := Ideal) = Cert.PeerIdeal.Gen.k0_pay83 (F := Ideal) := rfl
theorem same84 : Cert.PeerSIdeal.Gen.k0_pay84 (F := Ideal) = Cert.PeerIdeal.Gen.k0_pay84 (F := Ideal) := rfl
theorem same85 : Cert.PeerSIdeal.Gen.k0_pay85 (F := Ideal) = Cert.PeerIdeal.Gen.k0_pay85 (F := Ideal) := rfl
theorem same86 : Cert.PeerSIdeal.Gen.k0_pay86 (F := Ideal) = Cert.PeerIdeal.Gen.k0_pay86 (F := Ideal) := rfl
theorem same87 : Cert.PeerSIdeal.Gen.k0_pay87 (F := Ideal) = Cert.PeerIdeal.Gen.k0_pay87 (F := Ideal) := rfl
theorem same88 : Cert.PeerSIdeal.Gen.k0_pay88 (F := Ideal) = Cert.PeerIdeal.Gen.k0_pay88 (F := Ideal) := rfl
theorem same89 : Cert.PeerSIdeal.Gen.k0_pay89 (F := Ideal) = Cert.PeerIdeal.Gen.k0_pay89 (F := Ideal) := rfl
theorem same90 : Cert.PeerSIdeal.Gen.k0_pay90 (F := Ideal) = Cert.PeerIdeal.Gen.k0_pay90 (F := Ideal) := rfl
theorem same91 : Cert.PeerSIdeal.Gen.k0_pay91 (F := Ideal) = Cert.PeerIdeal.Gen.k0_pay91 (F := Ideal) := rfl
theorem same92 : Cert.PeerSIdeal.Gen.k0_pay92 (F := Ideal) = Cert.PeerIdeal.Gen.k0_pay92 (F := Ideal) := rfl
theorem same93 : Cert.PeerSIdeal.Gen.k0_pay93 (F := Ideal) = Cert.PeerIdeal.Gen.k0_pay93 (F := Ideal) := rfl
theorem same94 : Cert.PeerSIdeal.Gen.k0_pay94 (F := Ideal) = Cert.PeerIdeal.Gen.k0_pay94 (F := Ideal) := rfl
theorem same95 : Cert.PeerSIdeal.Gen.k0_pay95 (F := Ideal) = Cert.PeerIdeal.Gen.k0_pay95 (F := Ideal) := rfl
theorem same96 : Cert.PeerSIdeal.Gen.k0_pay96 (F := Ideal) = Cert.PeerIdeal.Gen.k0_pay96 (F := Ideal) := rfl
theorem same97 : Cert.PeerSIdeal.Gen.k0_pay97 (F := Ideal) = Cert.PeerIdeal.Gen.k0_pay97 (F := Ideal) := rfl
theorem same98 : Cert.PeerSIdeal.Gen.k0_pay98 (F := Ideal) = Cert.PeerIdeal.Gen.k0_pay98 (F := Ideal) := rfl
theorem same99 : Cert.PeerSIdeal.Gen.k0_pay99 (F := Ideal) = Cert.PeerIdeal.Gen.k0_pay99 (F := Ideal) := rfl
theorem same100 : Cert.PeerSIdeal.Gen.k0_pay100 (F := Ideal) = Cert.PeerIdeal.Gen.k0_pay100 (F := Ideal) := rfl
theorem same101 : Cert.PeerSIdeal.Gen.k0_pay101 (F := Ideal) = Cert.PeerIdeal.Gen.k0_pay101 (F := Ideal) := rfl
theorem same102 : Cert.PeerSIdeal.Gen.k0_pay102 (F := Ideal) = Cert.PeerIdeal.Gen.k0_pay102 (F := Ideal) := rfl
theorem same103 : Cert.PeerSIdeal.Gen.k0_pay103 (F := Ideal) = Cert.PeerIdeal.Gen.k0_pay103 (F := Ideal) := rfl
theorem same104 : Cert.PeerSIdeal.Gen.k0_pay104 (F := Ideal) = Cert.PeerIdeal.Gen.k0_pay104 (F := Ideal) := rfl
theorem same105 : Cert.PeerSIdeal.Gen.k0_pay105 (F := Ideal) = Cert.PeerIdeal.Gen.k0_pay105 (F := Ideal) := rfl
theorem same106 : Cert.PeerSIdeal.Gen.k0_pay106 (F := Ideal) = Cert.PeerIdeal.Gen.k0_pay106 (F := Ideal) := rfl
theorem same107 : Cert.PeerSIdeal.Gen.k0_pay107 (F := Ideal) = Cert.PeerIdeal.Gen.k0_pay107 (F := Ideal) := rfl
theorem same108 : Cert.PeerSIdeal.Gen.k0_pay108 (F := Ideal) = Cert.PeerIdeal.Gen.k0_pay108 (F := Ideal) := rfl
theorem same109 : Cert.PeerSIdeal.Gen.k0_pay109 (F := Ideal) = Cert.PeerIdeal.Gen.k0_pay109 (F := Ideal) := rfl
theorem same110 : Cert.PeerSIdeal.Gen.k0_pay110 (F := Ideal) = Cert.PeerIdeal.Gen.k0_pay110 (F := Ideal) := rfl
theorem same111 : Cert.PeerSIdeal.Gen.k0_pay111 (F := Ideal) = Cert.PeerIdeal.Gen.k0_pay111 (F := Ideal) := rfl
theorem same112 : Cert.PeerSIdeal.Gen.k0_pay112 (F := Ideal) = Cert.PeerIdeal.Gen.k0_pay112 (F := Ideal) := rfl
theorem same113 : Cert.PeerSIdeal.Gen.k0_pay113 (F := Ideal) = Cert.PeerIdeal.Gen.k0_pay113 (F := Ideal) := rfl
theorem same114 : Cert.PeerSIdeal.Gen.k0_pay114 (F := Ideal) = Cert.PeerIdeal.Gen.k0_pay114 (F := Ideal) := rfl
theorem same115 : Cert.PeerSIdeal.Gen.k0_pay115 (F := Ideal) = Cert.PeerIdeal.Gen.k0_pay115 (F := Ideal) := rfl
theorem same116 : Cert.PeerSIdeal.Gen.k0_pay116 (F := Ideal) = Cert.PeerIdeal.Gen.k0_pay116 (F := Ideal) := rfl
theorem same117 : Cert.PeerSIdeal.Gen.k0_pay117 (F := Ideal) = Cert.PeerIdeal.Gen.k0_pay117 (F := Ideal) := rfl
theorem same118 : Cert.PeerSIdeal.Gen.k0_pay118 (F := Ideal) = Cert.PeerIdeal.Gen.k0_pay118 (F := Ideal) := rfl
theorem same119 : Cert.PeerSIdeal.Gen.k0_pay119 (F := Ideal) = Cert.PeerIdeal.Gen.k0_pay119 (F := Ideal) := rfl
theorem same120 : Cert.PeerSIdeal.Gen.k0_pay120 (F := Ideal) = Cert.PeerIdeal.Gen.k0_pay120 (F := Ideal) := rfl
theorem same121 : Cert.PeerSIdeal.Gen.k0_pay121 (F := Ideal) = Cert.PeerIdeal.Gen.k0_pay121 (F := Ideal) := rfl
theorem same122 : Cert.PeerSIdeal.Gen.k0_pay122 (F := Ideal) = Cert.PeerIdeal.Gen.k0_pay122 (F := Ideal) := rfl
theorem same123 : Cert.PeerSIdeal.Gen.k0_pay123 (F := Ideal) = Cert.PeerIdeal.Gen.k0_pay123 (F := Ideal) := rfl
theorem same124 : Cert.PeerSIdeal.Gen.k0_pay124 (F := Ideal) = Cert.PeerIdeal.Gen.k0_pay124 (F := Ideal) := rfl
theorem same125 : Cert.PeerSIdeal.Gen.k0_pay125 (F := Ideal) = Cert.PeerIdeal.Gen.k0_pay125 (F := Ideal) := rfl
theorem same126 : Cert.PeerSIdeal.Gen.k0_pay126 (F := Ideal) = Cert.PeerIdeal.Gen.k0_pay126 (F := Ideal) := rfl
theorem same127 : Cert.PeerSIdeal.Gen.k0_pay127 (F := Ideal) = Cert.PeerIdeal.Gen.k0_pay127 (F := Ideal) := rfl
theorem same128 : Cert.PeerSIdeal.Gen.k0_pay128 (F := Ideal) = Cert.PeerIdeal.Gen.k0_pay128 (F := Ideal) := rfl
theorem same129 : Cert.PeerSIdeal.Gen.k0_pay129 (F := Ideal) = Cert.PeerIdeal.Gen.k0_pay129 (F := Ideal) := rfl
theorem same130 : Cert.PeerSIdeal.Gen.k0_pay130 (F := Ideal) = Cert.PeerIdeal.Gen.k0_pay130 (F := Ideal) := rfl
theorem same131 : Cert.PeerSIdeal.Gen.k0_pay131 (F := Ideal) = Cert.PeerIdeal.Gen.k0_pay131 (F := Ideal) := rfl
theorem same132 : Cert.PeerSIdeal.Gen.k0_pay132 (F := Ideal) = Cert.PeerIdeal.Gen.k0_pay132 (F := Ideal) := rfl
theorem same133 : Cert.PeerSIdeal.Gen.k0_pay133 (F := Ideal) = Cert.PeerIdeal.Gen.k0_pay133 (F := Ideal) := rfl
theorem same134 : Cert.PeerSIdeal.Gen.k0_pay134 (F := Ideal) = Cert.PeerIdeal.Gen.k0_pay134 (F := Ideal) := rfl
theorem same135 : Cert.PeerSIdeal.Gen.k0_pay135 (F := Ideal) = Cert.PeerIdeal.Gen.k0_pay135 (F := Ideal) := rfl
theorem same136 : Cert.PeerSIdeal.Gen.k0_pay136 (F := Ideal) = Cert.PeerIdeal.Gen.k0_pay136 (F := Ideal) := rfl
theorem same137 : Cert.PeerSIdeal.Gen.k0_pay137 (F := Ideal) = Cert.PeerIdeal.Gen.k0_pay137 (F := Ideal) := rfl
theorem same138 : Cert.PeerSIdeal.Gen.k0_pay138 (F := Ideal) = Cert.PeerIdeal.Gen.k0_pay138 (F := Ideal) := rfl
theorem same139 : Cert.PeerSIdeal.Gen.k0_pay139 (F := Ideal) = Cert.PeerIdeal.Gen.k0_pay139 (F := Ideal) := rfl
theorem same140 : Cert.PeerSIdeal.Gen.k0_pay140 (F := Ideal) = Cert.PeerIdeal.Gen.k0_pay140 (F := Ideal) := rfl
theorem same141 : Cert.PeerSIdeal.Gen.k0_pay141 (F := Ideal) = Cert.PeerIdeal.Gen.k0_pay141 (F := Ideal) := rfl
theorem same142 : Cert.PeerSIdeal.Gen.k0_pay142 (F := Ideal) = Cert.PeerIdeal.Gen.k0_pay142 (F := Ideal) := rfl
theorem same143 : Cert.PeerSIdeal.Gen.k0_pay143 (F := Ideal) = Cert.PeerIdeal.Gen.k0_pay143 (F := Ideal) := rfl
theorem same144 : Cert.PeerSIdeal.Gen.k0_pay144 (F := Ideal) = Cert.PeerIdeal.Gen.k0_pay144 (F := Ideal) := rfl
theorem same145 : Cert.PeerSIdeal.Gen.k0_pay145 (F := Ideal) = Cert.PeerIdeal.Gen.k0_pay145 (F := Ideal) := rfl
theorem same146 : Cert.PeerSIdeal.Gen.k0_pay146 (F := Ideal) = Cert.PeerIdeal.Gen.k0_pay146 (F := Ideal) := rfl
theorem same147 : Cert.PeerSIdeal.Gen.k0_pay147 (F := Ideal) = Cert.PeerIdeal.Gen.k0_pay147 (F := Ideal) := rfl
theorem same148 : Cert.PeerSIdeal.Gen.k0_pay148 (F := Ideal) = Cert.PeerIdeal.Gen.k0_pay148 (F := Ideal) := rfl
theorem same149 : Cert.PeerSIdeal.Gen.k0_pay149 (F := Ideal) = Cert.PeerIdeal.Gen.k0_pay149 (F := Ideal) := rfl
theorem same150 : Cert.PeerSIdeal.Gen.k0_pay150 (F := Ideal) = Cert.PeerIdeal.Gen.k0_pay150 (F := Ideal) := rfl
theorem same151 : Cert.PeerSIdeal.Gen.k0_pay151 (F := Ideal) = Cert.PeerIdeal.Gen.k0_pay151 (F := Ideal) := rfl
theorem same152 : Cert.PeerSIdeal.Gen.k0_pay152 (F := Ideal) = Cert.PeerIdeal.Gen.k0_pay152 (F := Ideal) := rfl
theorem same153 : Cert.PeerSIdeal.Gen.k0_pay153 (F := Ideal) = Cert.PeerIdeal.Gen.k0_pay153 (F := Ideal) := rfl
theorem same154 : Cert.PeerSIdeal.Gen.k0_pay154 (F := Ideal) = Cert.PeerIdeal.Gen.k0_pay154 (F := Ideal) := rfl
theorem same155 : Cert.PeerSIdeal.Gen.k0_pay155 (F := Ideal) = Cert.PeerIdeal.Gen.k0_pay155 (F := Ideal) := rfl
theorem same156 : Cert.PeerSIdeal.Gen.k0_pay156 (F := Ideal) = Cert.PeerIdeal.Gen.k0_pay156 (F := Ideal) := rfl
theorem same157 : Cert.PeerSIdeal.Gen.k0_pay157 (F := Ideal) = Cert.PeerIdeal.Gen.k0_pay157 (F := Ideal) := rfl
theorem same158 : Cert.PeerSIdeal.Gen.k0_pay158 (F := Ideal) = Cert.PeerIdeal.Gen.k0_pay158 (F := Ideal) := rfl
theorem same159 : Cert.PeerSIdeal.Gen.k0_pay159 (F := Ideal) = Cert.PeerIdeal.Gen.k0_pay159 (F := Ideal) := rfl
theorem same160 : Cert.PeerSIdeal.Gen.k0_pay160 (F := Ideal) = Cert.PeerIdeal.Gen.k0_pay160 (F := Ideal) := rfl
theorem same161 : Cert.PeerSIdeal.Gen.k0_pay161 (F := Ideal) = Cert.PeerIdeal.Gen.k0_pay161 (F := Ideal) := rfl
theorem same162 : Cert.PeerSIdeal.Gen.k0_pay162 (F := Ideal) = Cert.PeerIdeal.Gen.k0_pay162 (F := Ideal) := rfl
theorem same163 : Cert.PeerSIdeal.Gen.k0_pay163 (F := Ideal) = Cert.PeerIdeal.Gen.k0_pay163 (F := Ideal) := rfl
theorem same164 : Cert.PeerSIdeal.Gen.k0_pay164 (F := Ideal) = Cert.PeerIdeal.Gen.k0_pay164 (F := Ideal) := rfl
theorem same165 : Cert.PeerSIdeal.Gen.k0_pay165 (F := Ideal) = Cert.PeerIdeal.Gen.k0_pay165 (F := Ideal) := rfl
theorem same166 : Cert.PeerSIdeal.Gen.k0_pay166 (F := Ideal) = Cert.PeerIdeal.Gen.k0_pay166 (F := Ideal) := rfl
theorem same167 : Cert.PeerSIdeal.Gen.k0_pay167 (F := Ideal) = Cert.PeerIdeal.Gen.k0_pay167 (F := Ideal) := rfl
theorem same168 : Cert.PeerSIdeal.Gen.k0_pay168 (F := Ideal) = Cert.PeerIdeal.Gen.k0_pay168 (F := Ideal) := rfl
theorem same169 : Cert.PeerSIdeal.Gen.k0_pay169 (F := Ideal) = Cert.PeerIdeal.Gen.k0_pay169 (F := Ideal) := rfl
theorem same170 : Cert.PeerSIdeal.Gen.k0_pay170 (F := Ideal) = Cert.PeerIdeal.Gen.k0_pay170 (F := Ideal) := rfl
theorem same171 : Cert.PeerSIdeal.Gen.k0_pay171 (F := Ideal) = Cert.PeerIdeal.Gen.k0_pay171 (F := Ideal) := rfl
theorem same172 : Cert.PeerSIdeal.Gen.k0_pay172 (F := Ideal) = Cert.PeerIdeal.Gen.k0_pay172 (F := Ideal) := rfl
theorem same173 : Cert.PeerSIdeal.Gen.k0_pay173 (F := Ideal) = Cert.PeerIdeal.Gen.k0_pay173 (F := Ideal) := rfl
theorem same174 : Cert.PeerSIdeal.Gen.k0_pay174 (F := Ideal) = Cert.PeerIdeal.Gen.k0_pay174 (F := Ideal) := rfl
theorem same175 : Cert.PeerSIdeal.Gen.k0_pay175 (F := Ideal) = Cert.PeerIdeal.Gen.k0_pay175 (F := Ideal) := rfl
theorem same176 : Cert.PeerSIdeal.Gen.k0_pay176 (F := Ideal) = Cert.PeerIdeal.Gen.k0_pay176 (F := Ideal) := rfl
theorem same177 : Cert.PeerSIdeal.Gen.k0_pay177 (F := Ideal) = Cert.PeerIdeal.Gen.k0_pay177 (F := Ideal) := rfl
theorem same178 : Cert.PeerSIdeal.Gen.k0_pay178 (F := Ideal) = Cert.PeerIdeal.Gen.k0_pay178 (F := Ideal) := rfl
theorem same179 : Cert.PeerSIdeal.Gen.k0_pay179 (F := Ideal) = Cert.PeerIdeal.Gen.k0_pay179 (F := Ideal) := rfl
theorem same180 : Cert.PeerSIdeal.Gen.k0_pay180 (F := Ideal) = Cert.PeerIdeal.Gen.k0_pay180 (F := Ideal) := rfl
theorem same181 : Cert.PeerSIdeal.Gen.k0_pay181 (F := Ideal) = Cert.PeerIdeal.Gen.k0_pay181 (F := Ideal) := rfl
theorem same182 : Cert.PeerSIdeal.Gen.k0_pay182 (F := Ideal) = Cert.PeerIdeal.Gen.k0_pay182 (F := Ideal) := rfl
theorem same183 : Cert.PeerSIdeal.Gen.k0_pay183 (F := Ideal) = Cert.PeerIdeal.Gen.k0_pay183 (F := Ideal) := rfl
theorem same184 : Cert.PeerSIdeal.Gen.k0_pay184 (F := Ideal) = Cert.PeerIdeal.Gen.k0_pay184 (F := Ideal) := rfl
theorem same185 : Cert.PeerSIdeal.Gen.k0_pay185 (F := Ideal) = Cert.PeerIdeal.Gen.k0_pay185 (F := Ideal) := rfl
theorem same186 : Cert.PeerSIdeal.Gen.k0_pay186 (F := Ideal) = Cert.PeerIdeal.Gen.k0_pay186 (F := Ideal) := rfl
theorem same187 : Cert.PeerSIdeal.Gen.k0_pay187 (F := Ideal) = Cert.PeerIdeal.Gen.k0_pay187 (F := Ideal) := rfl
theorem same188 : Cert.PeerSIdeal.Gen.k0_pay188 (F := Ideal) = Cert.PeerIdeal.Gen.k0_pay188 (F := Ideal) := rfl
theorem same189 : Cert.PeerSIdeal.Gen.k0_pay189 (F := Ideal) = Cert.PeerIdeal.Gen.k0_pay189 (F := Ideal) := rfl
theorem same190 : Cert.PeerSIdeal.Gen.k0_pay190 (F := Ideal) = Cert.PeerIdeal.Gen.k0_pay190 (F := Ideal) := rfl
theorem same191 : Cert.PeerSIdeal.Gen.k0_pay191 (F := Ideal) = Cert.PeerIdeal.Gen.k0_pay191 (F := Ideal) := rfl
theorem same192 : Cert.PeerSIdeal.Gen.k0_pay192 (F := Ideal) = Cert.PeerIdeal.Gen.k0_pay192 (F := Ideal) := rfl
theorem same193 : Cert.PeerSIdeal.Gen.k0_pay193 (F := Ideal) = Cert.PeerIdeal.Gen.k0_pay193 (F := Ideal) := rfl
theorem same194 : Cert.PeerSIdeal.Gen.k0_pay194 (F := Ideal) = Cert.PeerIdeal.Gen.k0_pay194 (F := Ideal) := rfl
theorem same195 : Cert.PeerSIdeal.Gen.k0_pay195 (F := Ideal) = Cert.PeerIdeal.Gen.k0_pay195 (F := Ideal) := rfl
theorem same196 : Cert.PeerSIdeal.Gen.k0_pay196 (F := Ideal) = Cert.PeerIdeal.Gen.k0_pay196 (F := Ideal) := rfl
theorem same197 : Cert.PeerSIdeal.Gen.k0_pay197 (F := Ideal) = Cert.PeerIdeal.Gen.k0_pay197 (F := Ideal) := rfl
theorem same198 : Cert.PeerSIdeal.Gen.k0_pay198 (F := Ideal) = Cert.PeerIdeal.Gen.k0_pay198 (F := Ideal) := rfl
theorem same199 : Cert.PeerSIdeal.Gen.k0_pay199 (F := Ideal) = Cert.PeerIdeal.Gen.k0_pay199 (F := Ideal) := rfl
theorem same200 : Cert.PeerSIdeal.Gen.k0_pay200 (F := Ideal) = Cert.PeerIdeal.Gen.k0_pay200 (F := Ideal) := rfl
theorem same201 : Cert.PeerSIdeal.Gen.k0_pay201 (F := Ideal) = Cert.PeerIdeal.Gen.k0_pay201 (F := Ideal) := rfl
theorem same202 : Cert.PeerSIdeal.Gen.k0_pay202 (F := Ideal) = Cert.PeerIdeal.Gen.k0_pay202 (F := Ideal) := rfl
theorem same203 : Cert.PeerSIdeal.Gen.k0_pay203 (F := Ideal) = Cert.PeerIdeal.Gen.k0_pay203 (F := Ideal) := rfl
theorem same204 : Cert.PeerSIdeal.Gen.k0_pay204 (F := Ideal) = Cert.PeerIdeal.Gen.k0_pay204 (F := Ideal) := rfl
theorem same205 : Cert.PeerSIdeal.Gen.k0_pay205 (F := Ideal) = Cert.PeerIdeal.Gen.k0_pay205 (F := Ideal) := rfl
theorem same206 : Cert.PeerSIdeal.Gen.k0_pay206 (F := Ideal) = Cert.PeerIdeal.Gen.k0_pay206 (F := Ideal) := rfl
theorem same207 : Cert.PeerSIdeal.Gen.k0_pay207 (F := Ideal) = Cert.PeerIdeal.Gen.k0_pay207 (F := Ideal) := rfl
theorem same208 : Cert.PeerSIdeal.Gen.k0_pay208 (F := Ideal) = Cert.PeerIdeal.Gen.k0_pay208 (F := Ideal) := rfl
theorem same209 : Cert.PeerSIdeal.Gen.k0_pay209 (F := Ideal) = Cert.PeerIdeal.Gen.k0_pay209 (F := Ideal) := rfl
theorem same210 : Cert.PeerSIdeal.Gen.k0_pay210 (F := Ideal) = Cert.PeerIdeal.Gen.k0_pay210 (F := Ideal) := rfl
theorem same211 : Cert.PeerSIdeal.Gen.k0_pay211 (F := Ideal) = Cert.PeerIdeal.Gen.k0_pay211 (F := Ideal) := rfl
theorem same212 : Cert.PeerSIdeal.Gen.k0_pay212 (F := Ideal) = Cert.PeerIdeal.Gen.k0_pay212 (F := Ideal) := rfl
theorem same213 : Cert.PeerSIdeal.Gen.k0_pay213 (F := Ideal) = Cert.PeerIdeal.Gen.k0_pay213 (F := Ideal) := rfl
theorem same214 : Cert.PeerSIdeal.Gen.k0_pay214 (F := Ideal) = Cert.PeerIdeal.Gen.k0_pay214 (F := Ideal) := rfl
theorem same215 : Cert.PeerSIdeal.Gen.k0_pay215 (F := Ideal) = Cert.PeerIdeal.Gen.k0_pay215 (F := Ideal) := rfl
theorem same216 : Cert.PeerSIdeal.Gen.k0_pay216 (F := Ideal) = Cert.PeerIdeal.Gen.k0_pay216 (F := Ideal) := rfl
theorem same217 : Cert.PeerSIdeal.Gen.k0_pay217 (F := Ideal) = Cert.PeerIdeal.Gen.k0_pay217 (F := Ideal) := rfl
theorem same218 : Cert.PeerSIdeal.Gen.k0_pay218 (F := Ideal) = Cert.PeerIdeal.Gen.k0_pay218 (F := Ideal) := rfl
theorem same219 : Cert.PeerSIdeal.Gen.k0_pay219 (F := Ideal) = Cert.PeerIdeal.Gen.k0_pay219 (F := Ideal) := rfl
theorem same220 : Cert.PeerSIdeal.Gen.k0_pay220 (F := Ideal) = Cert.PeerIdeal.Gen.k0_pay220 (F := Ideal) := rfl
theorem same221 : Cert.PeerSIdeal.Gen.k0_pay221 (F := Ideal) = Cert.PeerIdeal.Gen.k0_pay221 (F := Ideal) := rfl
theorem same222 : Cert.PeerSIdeal.Gen.k0_pay222 (F := Ideal) = Cert.PeerIdeal.Gen.k0_pay222 (F := Ideal) := rfl
theorem same223 : Cert.PeerSIdeal.Gen.k0_pay223 (F := Ideal) = Cert.PeerIdeal.Gen.k0_pay223 (F := Ideal) := rfl
theorem same224 : Cert.PeerSIdeal.Gen.k0_pay224 (F := Ideal) = Cert.PeerIdeal.Gen.k0_pay224 (F := Ideal) := rfl
theorem same225 : Cert.PeerSIdeal.Gen.k0_pay225 (F := Ideal) = Cert.PeerIdeal.Gen.k0_pay225 (F := Ideal) := rfl
theorem same226 : Cert.PeerSIdeal.Gen.k0_pay226 (F := Ideal) = Cert.PeerIdeal.Gen.k0_pay226 (F := Ideal) := rfl
theorem same227 : Cert.PeerSIdeal.Gen.k0_pay227 (F := Ideal) = Cert.PeerIdeal.Gen.k0_pay227 (F := Ideal) := rfl
theorem same228 : Cert.PeerSIdeal.Gen.k0_pay228 (F := Ideal) = Cert.PeerIdeal.Gen.k0_pay228 (F := Ideal) := rfl
theorem same229 : Cert.PeerSIdeal.Gen.k0_pay229 (F := Ideal) = Cert.PeerIdeal.Gen.k0_pay229 (F := Ideal) := rfl
theorem same230 : Cert.PeerSIdeal.Gen.k0_pay230 (F := Ideal) = Cert.PeerIdeal.Gen.k0_pay230 (F := Ideal) := rfl
theorem same231 : Cert.PeerSIdeal.Gen.k0_pay231 (F := Ideal) = Cert.PeerIdeal.Gen.k0_pay231 (F := Ideal) := rfl
theorem same232 : Cert.PeerSIdeal.Gen.k0_pay232 (F := Ideal) = Cert.PeerIdeal.Gen.k0_pay232 (F := Ideal) := rfl
theorem same233 : Cert.PeerSIdeal.Gen.k0_pay233 (F := Ideal) = Cert.PeerIdeal.Gen.k0_pay233 (F := Ideal) := rfl
theorem same234 : Cert.PeerSIdeal.Gen.k0_pay234 (F := Ideal) = Cert.PeerIdeal.Gen.k0_pay234 (F := Ideal) := rfl
theorem same235 : Cert.PeerSIdeal.Gen.k0_pay235 (F := Ideal) = Cert.PeerIdeal.Gen.k0_pay235 (F := Ideal) := rfl
theorem same236 : Cert.PeerSIdeal.Gen.k0_pay236 (F := Ideal) = Cert.PeerIdeal.Gen.k0_pay236 (F := Ideal) := rfl
theorem same237 : Cert.PeerSIdeal.Gen.k0_pay237 (F := Ideal) = Cert.PeerIdeal.Gen.k0_pay237 (F := Ideal) := rfl
theorem same238 : Cert.PeerSIdeal.Gen.k0_pay238 (F := Ideal) = Cert.PeerIdeal.Gen.k0_pay238 (F := Ideal) := rfl
theorem same239 : Cert.PeerSIdeal.Gen.k0_pay239 (F := Ideal) = Cert.PeerIdeal.Gen.k0_pay239 (F := Ideal) := rfl
theorem same240 : Cert.PeerSIdeal.Gen.k0_pay240 (F := Ideal) = Cert.PeerIdeal.Gen.k0_pay240 (F := Ideal) := rfl
theorem same241 : Cert.PeerSIdeal.Gen.k0_pay241 (F := Ideal) = Cert.PeerIdeal.Gen.k0_pay241 (F := Ideal) := rfl

end Cert.PeerSIdeal.Hand
-- ==== Proof.PeerSKernel.lean ====
module

public import proofs.«01_k».proof.Proof.PeerKernel
public import proofs.«01_k».proof.Proof.PeerSPays
public import proofs.«01_k».proof.Proof.Gen.PeerSIdeal.Frame

@[expose] public section

noncomputable section

/-! What one block of experts makes of the two scratches, on the sample batch: the tile is the prompt's, so every computed value is the
    one already worked out there. -/

namespace Cert.PeerSIdeal.Hand

open Cert.PeerSIdeal Cert.PeerSIdeal.Gen
open Cert.PeerIdeal.Hand (half_0 half_1 product product_5 product_6 ahead closed grown grown_of read_tile held_tile first_half pay1_apply pay3_apply pay4_apply)
open Idealize.ShloMosaic Idealize.ShloMosaic.TcCoe Idealize.SL.Sem

/-- The sums after the first block of a tile of tokens, which start from nought. -/
theorem sums_A (c : Dev nD) (t : Fin cfg0.N) (h0 : t.val % 16 = 0) (h1 : ¬t.val % 16 = 15) (x0 : Vec Ideal S2048x512 .bf16) (x1 : Vec Ideal S1x1024x2048 .bf16) (x2 : Vec Ideal S1x512x2048 .bf16)
    (x3 : Vec Ideal S1x2048x1024 .bf16) (x4 x5 : Vec Ideal S8x128x512 .bf16) (x6 x7 : Vec Ideal S8x8x512 .f32)
    (x8 : Vec Ideal S512x2048 .f32) (x9 : Vec Ideal S1x2048 .f32)
    (i : S2048x512.Idx) :
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (fun h => h1 ((hcond0_1 t).mp h)) x0 x1 x2 x3 x4 x5 x6 x7 x8 x9 i
      = grown x0 x1 x3 x4 x5 x6 x7 0 (product x1 x0 0 (by omega)) (i 0) (i 1) := by
  unfold sout0_A_0
  frame_open
  simp (disch := decide) only [↓ View.readCov_skip, ↓ View.readCov_cons_toLoadRect, ↓ View.readCov_fill]
  frame_out
  simp only [same1, same2, same3, same4, same5, same6, same7, same8, same9, same10, same11, same12, same13, same14, same15, same16,
    same17, same18, same19, same20, same21, same22, same23, same24, same25, same26, same27, same28, same29, same30, same31,
    same32, same33, same34, same35, same36, same37, same38, same39, same40, same41, same42, same43, same44, same45, same46,
    same47, same48, same49, same50, same51, same52, same53, same54, same55, same56, same57, same58, same59, same60, same61,
    same62, same63, same64, same65, same66, same67, same68, same69, same70, same71, same72, same73, same74, same75, same76,
    same77, same78, same79, same80, same81, same82, same83, same84, same85, same86, same87, same88, same89, same90, same91,
    same92, same93, same94, same95, same96, same97, same98, same99, same100, same101, same102, same103, same104, same105,
    same106, same107, same108, same109, same110, same111, same112, same113, same114, same115, same116, same117, same118,
    same119, same120, same121, same122, same123, same124, same125, same126, same127, same128, same129, same130, same131,
    same132, same133, same134, same135, same136, same137, same138, same139, same140, same141, same142, same143, same144,
    same145, same146, same147, same148, same149, same150, same151, same152, same153, same154, same155, same156, same157,
    same158, same159, same160, same161, same162, same163, same164, same165, same166, same167, same168, same169, same170,
    same171, same172, same173, same174, same175, same176, same177, same178, same179, same180, same181, same182, same183,
    same184, same185, same186, same187, same188, same189, same190, same191, same192, same193, same194, same195, same196,
    same197, same198, same199, same200, same201, same202, same203, same204, same205, same206, same207, same208, same209,
    same210, same211, same212, same213, same214, same215, same216, same217, same218, same219, same220, same221, same222,
    same223, same224, same225, same226, same227, same228, same229, same230, same231, same232, same233, same234, same235,
    same236, same237, same238, same239, same240, same241]
  rw [half_1 x4 x5 x6 x7 _ _ _ _ _ _ _ _ (product x1 x0 512 (by omega))]
  rw [half_0 x4 x5 x6 x7 _ _ _ _ _ _ _ _ (product x1 x0 0 (by omega))]
  · exact (grown_of x0 x1 x3 x4 x5 x6 x7 _ _ _ _ i).trans (congrArg (fun y => grown x0 x1 x3 x4 x5 x6 x7 y (product x1 x0 0 (by omega)) (i 0) (i 1)) (pay4_apply i))
  · exact fun x => (congrFun (read_tile 0 _ _ (by decide) (by decide) _ _ _ _) x).trans (product_5 x1 x0 _ _ _)
  · exact fun x => (congrFun (read_tile 0 _ _ (by decide) (by decide) _ _ _ _) x).trans (product_5 x1 x0 _ _ _)
  · exact fun x => (congrFun (read_tile 0 _ _ (by decide) (by decide) _ _ _ _) x).trans (product_5 x1 x0 _ _ _)
  · exact fun x => (congrFun (read_tile 0 _ _ (by decide) (by decide) _ _ _ _) x).trans (product_5 x1 x0 _ _ _)
  · exact fun x => (congrFun (read_tile 0 _ _ (by decide) (by decide) _ _ _ _) x).trans (product_5 x1 x0 _ _ _)
  · exact fun x => (congrFun (read_tile 0 _ _ (by decide) (by decide) _ _ _ _) x).trans (product_5 x1 x0 _ _ _)
  · exact fun x => (congrFun (read_tile 0 _ _ (by decide) (by decide) _ _ _ _) x).trans (product_5 x1 x0 _ _ _)
  · exact fun x => (congrFun (read_tile 0 _ _ (by decide) (by decide) _ _ _ _) x).trans (product_5 x1 x0 _ _ _)
  · exact fun x => (congrFun (read_tile 1 _ _ (by decide) (by decide) _ _ _ _) x).trans (product_6 x1 x0 _ _ _)
  · exact fun x => (congrFun (read_tile 1 _ _ (by decide) (by decide) _ _ _ _) x).trans (product_6 x1 x0 _ _ _)
  · exact fun x => (congrFun (read_tile 1 _ _ (by decide) (by decide) _ _ _ _) x).trans (product_6 x1 x0 _ _ _)
  · exact fun x => (congrFun (read_tile 1 _ _ (by decide) (by decide) _ _ _ _) x).trans (product_6 x1 x0 _ _ _)
  · exact fun x => (congrFun (read_tile 1 _ _ (by decide) (by decide) _ _ _ _) x).trans (product_6 x1 x0 _ _ _)
  · exact fun x => (congrFun (read_tile 1 _ _ (by decide) (by decide) _ _ _ _) x).trans (product_6 x1 x0 _ _ _)
  · exact fun x => (congrFun (read_tile 1 _ _ (by decide) (by decide) _ _ _ _) x).trans (product_6 x1 x0 _ _ _)
  · exact fun x => (congrFun (read_tile 1 _ _ (by decide) (by decide) _ _ _ _) x).trans (product_6 x1 x0 _ _ _)

/-- The sums after a block between. -/
theorem sums_B (c : Dev nD) (t : Fin cfg0.N) (h0 : ¬t.val % 16 = 0) (h1 : ¬t.val % 16 = 15) (x0 : Vec Ideal S2048x512 .bf16) (x1 : Vec Ideal S1x1024x2048 .bf16) (x2 : Vec Ideal S1x512x2048 .bf16)
    (x3 : Vec Ideal S1x2048x1024 .bf16) (x4 x5 : Vec Ideal S8x128x512 .bf16) (x6 x7 : Vec Ideal S8x8x512 .f32)
    (x8 : Vec Ideal S512x2048 .f32) (x9 : Vec Ideal S1x2048 .f32)
    (y : Vec Ideal S2048x512 .f32) (a : Vec Ideal S2x512x512 .f32)
    (i : S2048x512.Idx) :
    sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (fun h => h1 ((hcond0_1 t).mp h)) x0 x1 x2 x3 x4 x5 x6 x7 x8 x9 y a i
      = grown x0 x1 x3 x4 x5 x6 x7 (y i) (fun r n => a (ix3 0 r n)) (i 0) (i 1) := by
  unfold sout0_B_0
  frame_open
  simp (disch := decide) only [↓ View.readCov_skip, ↓ View.readCov_cons_toLoadRect, ↓ View.readCov_fill]
  frame_out
  simp only [read_unread_whole]
  simp only [same1, same2, same3, same4, same5, same6, same7, same8, same9, same10, same11, same12, same13, same14, same15, same16,
    same17, same18, same19, same20, same21, same22, same23, same24, same25, same26, same27, same28, same29, same30, same31,
    same32, same33, same34, same35, same36, same37, same38, same39, same40, same41, same42, same43, same44, same45, same46,
    same47, same48, same49, same50, same51, same52, same53, same54, same55, same56, same57, same58, same59, same60, same61,
    same62, same63, same64, same65, same66, same67, same68, same69, same70, same71, same72, same73, same74, same75, same76,
    same77, same78, same79, same80, same81, same82, same83, same84, same85, same86, same87, same88, same89, same90, same91,
    same92, same93, same94, same95, same96, same97, same98, same99, same100, same101, same102, same103, same104, same105,
    same106, same107, same108, same109, same110, same111, same112, same113, same114, same115, same116, same117, same118,
    same119, same120, same121, same122, same123, same124, same125, same126, same127, same128, same129, same130, same131,
    same132, same133, same134, same135, same136, same137, same138, same139, same140, same141, same142, same143, same144,
    same145, same146, same147, same148, same149, same150, same151, same152, same153, same154, same155, same156, same157,
    same158, same159, same160, same161, same162, same163, same164, same165, same166, same167, same168, same169, same170,
    same171, same172, same173, same174, same175, same176, same177, same178, same179, same180, same181, same182, same183,
    same184, same185, same186, same187, same188, same189, same190, same191, same192, same193, same194, same195, same196,
    same197, same198, same199, same200, same201, same202, same203, same204, same205, same206, same207, same208, same209,
    same210, same211, same212, same213, same214, same215, same216, same217, same218, same219, same220, same221, same222,
    same223, same224, same225, same226, same227, same228, same229, same230, same231, same232, same233, same234, same235,
    same236, same237, same238, same239, same240, same241]
  rw [half_1 x4 x5 x6 x7 _ _ _ _ _ _ _ _ (product x1 x0 512 (by omega))]
  rw [half_0 x4 x5 x6 x7 _ _ _ _ _ _ _ _ (fun r n => a (ix3 0 r n))]
  · exact (grown_of x0 x1 x3 x4 x5 x6 x7 _ _ _ _ i)
  · exact fun x => held_tile a _ _ (by decide) (by decide) _ x
  · exact fun x => held_tile a _ _ (by decide) (by decide) _ x
  · exact fun x => held_tile a _ _ (by decide) (by decide) _ x
  · exact fun x => held_tile a _ _ (by decide) (by decide) _ x
  · exact fun x => held_tile a _ _ (by decide) (by decide) _ x
  · exact fun x => held_tile a _ _ (by decide) (by decide) _ x
  · exact fun x => held_tile a _ _ (by decide) (by decide) _ x
  · exact fun x => held_tile a _ _ (by decide) (by decide) _ x
  · exact fun x => (congrFun (read_tile 1 _ _ (by decide) (by decide) _ _ _ _) x).trans (product_6 x1 x0 _ _ _)
  · exact fun x => (congrFun (read_tile 1 _ _ (by decide) (by decide) _ _ _ _) x).trans (product_6 x1 x0 _ _ _)
  · exact fun x => (congrFun (read_tile 1 _ _ (by decide) (by decide) _ _ _ _) x).trans (product_6 x1 x0 _ _ _)
  · exact fun x => (congrFun (read_tile 1 _ _ (by decide) (by decide) _ _ _ _) x).trans (product_6 x1 x0 _ _ _)
  · exact fun x => (congrFun (read_tile 1 _ _ (by decide) (by decide) _ _ _ _) x).trans (product_6 x1 x0 _ _ _)
  · exact fun x => (congrFun (read_tile 1 _ _ (by decide) (by decide) _ _ _ _) x).trans (product_6 x1 x0 _ _ _)
  · exact fun x => (congrFun (read_tile 1 _ _ (by decide) (by decide) _ _ _ _) x).trans (product_6 x1 x0 _ _ _)
  · exact fun x => (congrFun (read_tile 1 _ _ (by decide) (by decide) _ _ _ _) x).trans (product_6 x1 x0 _ _ _)

/-- What the last block writes out: the tokens with the sums added, normalised by rows. -/
theorem written (c : Dev nD) (t : Fin cfg0.N) (h0 : ¬t.val % 16 = 0) (h1 : t.val % 16 = 15) (x0 : Vec Ideal S2048x512 .bf16) (x1 : Vec Ideal S1x1024x2048 .bf16) (x2 : Vec Ideal S1x512x2048 .bf16)
    (x3 : Vec Ideal S1x2048x1024 .bf16) (x4 x5 : Vec Ideal S8x128x512 .bf16) (x6 x7 : Vec Ideal S8x8x512 .f32)
    (x8 : Vec Ideal S512x2048 .f32) (x9 : Vec Ideal S1x2048 .f32)
    (y : Vec Ideal S2048x512 .f32) (a : Vec Ideal S2x512x512 .f32)
    (i : S512x2048.Idx) :
    out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) ((hcond0_1 t).mpr h1) x0 x1 x2 x3 x4 x5 x6 x7 x8 x9 y a i
      = closed x8 x9 (fun j => grown x0 x1 x3 x4 x5 x6 x7 (y (ix2 j (i 0))) (fun r n => a (ix3 0 r n)) j (i 0)) i := by
  unfold out0_C_10
  frame_open
  simp (disch := decide) only [↓ View.readCov_skip, ↓ View.readCov_cons_toLoadRect, ↓ View.readCov_fill]
  frame_out
  simp only [read_unread_whole]
  simp only [same1, same2, same3, same4, same5, same6, same7, same8, same9, same10, same11, same12, same13, same14, same15, same16,
    same17, same18, same19, same20, same21, same22, same23, same24, same25, same26, same27, same28, same29, same30, same31,
    same32, same33, same34, same35, same36, same37, same38, same39, same40, same41, same42, same43, same44, same45, same46,
    same47, same48, same49, same50, same51, same52, same53, same54, same55, same56, same57, same58, same59, same60, same61,
    same62, same63, same64, same65, same66, same67, same68, same69, same70, same71, same72, same73, same74, same75, same76,
    same77, same78, same79, same80, same81, same82, same83, same84, same85, same86, same87, same88, same89, same90, same91,
    same92, same93, same94, same95, same96, same97, same98, same99, same100, same101, same102, same103, same104, same105,
    same106, same107, same108, same109, same110, same111, same112, same113, same114, same115, same116, same117, same118,
    same119, same120, same121, same122, same123, same124, same125, same126, same127, same128, same129, same130, same131,
    same132, same133, same134, same135, same136, same137, same138, same139, same140, same141, same142, same143, same144,
    same145, same146, same147, same148, same149, same150, same151, same152, same153, same154, same155, same156, same157,
    same158, same159, same160, same161, same162, same163, same164, same165, same166, same167, same168, same169, same170,
    same171, same172, same173, same174, same175, same176, same177, same178, same179, same180, same181, same182, same183,
    same184, same185, same186, same187, same188, same189, same190, same191, same192, same193, same194, same195, same196,
    same197, same198, same199, same200, same201, same202, same203, same204, same205, same206, same207, same208, same209,
    same210, same211, same212, same213, same214, same215, same216, same217, same218, same219, same220, same221, same222,
    same223, same224, same225, same226, same227, same228, same229, same230, same231, same232, same233, same234, same235,
    same236, same237, same238, same239, same240, same241]
  rw [half_1 x4 x5 x6 x7 _ _ _ _ _ _ _ _ (product x1 x0 512 (by omega))]
  rw [half_0 x4 x5 x6 x7 _ _ _ _ _ _ _ _ (fun r n => a (ix3 0 r n))]
  · exact (pay3_apply _ _ _ i).trans (congrArg (fun w => Project.normed w (fun j => x9 (ix2 0 j)) (i 1)) (funext fun j => congrArg (x8 (ix2 (i 0) j) + ·) (grown_of x0 x1 x3 x4 x5 x6 x7 _ _ _ _ (ix2 j (i 0)))))
  · exact fun x => held_tile a _ _ (by decide) (by decide) _ x
  · exact fun x => held_tile a _ _ (by decide) (by decide) _ x
  · exact fun x => held_tile a _ _ (by decide) (by decide) _ x
  · exact fun x => held_tile a _ _ (by decide) (by decide) _ x
  · exact fun x => held_tile a _ _ (by decide) (by decide) _ x
  · exact fun x => held_tile a _ _ (by decide) (by decide) _ x
  · exact fun x => held_tile a _ _ (by decide) (by decide) _ x
  · exact fun x => held_tile a _ _ (by decide) (by decide) _ x
  · exact fun x => (congrFun (read_tile 1 _ _ (by decide) (by decide) _ _ _ _) x).trans (product_6 x1 x0 _ _ _)
  · exact fun x => (congrFun (read_tile 1 _ _ (by decide) (by decide) _ _ _ _) x).trans (product_6 x1 x0 _ _ _)
  · exact fun x => (congrFun (read_tile 1 _ _ (by decide) (by decide) _ _ _ _) x).trans (product_6 x1 x0 _ _ _)
  · exact fun x => (congrFun (read_tile 1 _ _ (by decide) (by decide) _ _ _ _) x).trans (product_6 x1 x0 _ _ _)
  · exact fun x => (congrFun (read_tile 1 _ _ (by decide) (by decide) _ _ _ _) x).trans (product_6 x1 x0 _ _ _)
  · exact fun x => (congrFun (read_tile 1 _ _ (by decide) (by decide) _ _ _ _) x).trans (product_6 x1 x0 _ _ _)
  · exact fun x => (congrFun (read_tile 1 _ _ (by decide) (by decide) _ _ _ _) x).trans (product_6 x1 x0 _ _ _)
  · exact fun x => (congrFun (read_tile 1 _ _ (by decide) (by decide) _ _ _ _) x).trans (product_6 x1 x0 _ _ _)

/-- The next block's first activations, after the first block. -/
theorem next_A (c : Dev nD) (t : Fin cfg0.N) (h0 : t.val % 16 = 0) (h1 : ¬t.val % 16 = 15) (x0 : Vec Ideal S2048x512 .bf16) (x1 : Vec Ideal S1x1024x2048 .bf16) (x2 : Vec Ideal S1x512x2048 .bf16)
    (x3 : Vec Ideal S1x2048x1024 .bf16) (x4 x5 : Vec Ideal S8x128x512 .bf16) (x6 x7 : Vec Ideal S8x8x512 .f32)
    (x8 : Vec Ideal S512x2048 .f32) (x9 : Vec Ideal S1x2048 .f32)
    (r n : Fin 512) :
    sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (fun h => h1 ((hcond0_1 t).mp h)) x0 x1 x2 x3 x4 x5 x6 x7 x8 x9 (ix3 0 r n)
      = ahead x2 x0 r n := by
  unfold sout0_A_1
  frame_open
  simp (disch := decide) only [↓ View.readCov_skip, ↓ View.readCov_cons_toLoadRect, ↓ View.readCov_fill]
  frame_out
  simp only [same1, same2, same3, same4, same5, same6, same7, same8, same9, same10, same11, same12, same13, same14, same15, same16,
    same17, same18, same19, same20, same21, same22, same23, same24, same25, same26, same27, same28, same29, same30, same31,
    same32, same33, same34, same35, same36, same37, same38, same39, same40, same41, same42, same43, same44, same45, same46,
    same47, same48, same49, same50, same51, same52, same53, same54, same55, same56, same57, same58, same59, same60, same61,
    same62, same63, same64, same65, same66, same67, same68, same69, same70, same71, same72, same73, same74, same75, same76,
    same77, same78, same79, same80, same81, same82, same83, same84, same85, same86, same87, same88, same89, same90, same91,
    same92, same93, same94, same95, same96, same97, same98, same99, same100, same101, same102, same103, same104, same105,
    same106, same107, same108, same109, same110, same111, same112, same113, same114, same115, same116, same117, same118,
    same119, same120, same121, same122, same123, same124, same125, same126, same127, same128, same129, same130, same131,
    same132, same133, same134, same135, same136, same137, same138, same139, same140, same141, same142, same143, same144,
    same145, same146, same147, same148, same149, same150, same151, same152, same153, same154, same155, same156, same157,
    same158, same159, same160, same161, same162, same163, same164, same165, same166, same167, same168, same169, same170,
    same171, same172, same173, same174, same175, same176, same177, same178, same179, same180, same181, same182, same183,
    same184, same185, same186, same187, same188, same189, same190, same191, same192, same193, same194, same195, same196,
    same197, same198, same199, same200, same201, same202, same203, same204, same205, same206, same207, same208, same209,
    same210, same211, same212, same213, same214, same215, same216, same217, same218, same219, same220, same221, same222,
    same223, same224, same225, same226, same227, same228, same229, same230, same231, same232, same233, same234, same235,
    same236, same237, same238, same239, same240, same241]
  exact (first_half _ _ _ _ _).trans (pay1_apply x2 x0 (ix3 0 r n))

/-- The next block's first activations, after a block between. -/
theorem next_B (c : Dev nD) (t : Fin cfg0.N) (h0 : ¬t.val % 16 = 0) (h1 : ¬t.val % 16 = 15) (x0 : Vec Ideal S2048x512 .bf16) (x1 : Vec Ideal S1x1024x2048 .bf16) (x2 : Vec Ideal S1x512x2048 .bf16)
    (x3 : Vec Ideal S1x2048x1024 .bf16) (x4 x5 : Vec Ideal S8x128x512 .bf16) (x6 x7 : Vec Ideal S8x8x512 .f32)
    (x8 : Vec Ideal S512x2048 .f32) (x9 : Vec Ideal S1x2048 .f32)
    (y : Vec Ideal S2048x512 .f32) (a : Vec Ideal S2x512x512 .f32)
    (r n : Fin 512) :
    sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (fun h => h1 ((hcond0_1 t).mp h)) x0 x1 x2 x3 x4 x5 x6 x7 x8 x9 y a (ix3 0 r n)
      = ahead x2 x0 r n := by
  unfold sout0_B_1
  frame_open
  simp (disch := decide) only [↓ View.readCov_skip, ↓ View.readCov_cons_toLoadRect, ↓ View.readCov_fill]
  frame_out
  simp only [same1, same2, same3, same4, same5, same6, same7, same8, same9, same10, same11, same12, same13, same14, same15, same16,
    same17, same18, same19, same20, same21, same22, same23, same24, same25, same26, same27, same28, same29, same30, same31,
    same32, same33, same34, same35, same36, same37, same38, same39, same40, same41, same42, same43, same44, same45, same46,
    same47, same48, same49, same50, same51, same52, same53, same54, same55, same56, same57, same58, same59, same60, same61,
    same62, same63, same64, same65, same66, same67, same68, same69, same70, same71, same72, same73, same74, same75, same76,
    same77, same78, same79, same80, same81, same82, same83, same84, same85, same86, same87, same88, same89, same90, same91,
    same92, same93, same94, same95, same96, same97, same98, same99, same100, same101, same102, same103, same104, same105,
    same106, same107, same108, same109, same110, same111, same112, same113, same114, same115, same116, same117, same118,
    same119, same120, same121, same122, same123, same124, same125, same126, same127, same128, same129, same130, same131,
    same132, same133, same134, same135, same136, same137, same138, same139, same140, same141, same142, same143, same144,
    same145, same146, same147, same148, same149, same150, same151, same152, same153, same154, same155, same156, same157,
    same158, same159, same160, same161, same162, same163, same164, same165, same166, same167, same168, same169, same170,
    same171, same172, same173, same174, same175, same176, same177, same178, same179, same180, same181, same182, same183,
    same184, same185, same186, same187, same188, same189, same190, same191, same192, same193, same194, same195, same196,
    same197, same198, same199, same200, same201, same202, same203, same204, same205, same206, same207, same208, same209,
    same210, same211, same212, same213, same214, same215, same216, same217, same218, same219, same220, same221, same222,
    same223, same224, same225, same226, same227, same228, same229, same230, same231, same232, same233, same234, same235,
    same236, same237, same238, same239, same240, same241]
  exact (first_half _ _ _ _ _).trans (pay1_apply x2 x0 (ix3 0 r n))

end Cert.PeerSIdeal.Hand
-- ==== Proof.PeerSTerms.lean ====
module

public import proofs.«01_k».proof.Proof.PeerPieces
public import proofs.«01_k».proof.Proof.Project
public import proofs.«01_k».proof.PeerSIdeal

@[expose] public section

noncomputable section

/-! What every expert adds to every token, as plain sums over the arguments, for the sample batch. -/

namespace Cert.PeerSIdeal.Hand

open Cert.PeerSIdeal
open Cert.PeerIdeal.Hand (weight act)
open Idealize.ShloMosaic Idealize.ShloMosaic.TcCoe

/-- The activation of expert `q` on token `n`, before the nonlinearity. -/
def hidden (x : Vec Ideal S2048x1024 .bf16) (u : Vec Ideal S2x16384x2048 .f32) (q : Fin 16384) (n : Fin 1024) : EReal :=
  ∑ k : Fin 2048, u (ix3 1 q k) * x (ix2 k n)

/-- The routing's weight of expert `q` for token `n`, summed over the heads. -/
def routed (r e : Vec Ideal S8x128x1024 .bf16) (c d : Vec Ideal S8x128x1024 .f32) (q : Fin 16384) (n : Fin 1024) : EReal :=
  ∑ h : Fin 8, weight (r (ix3 h ⟨q.val % 128, Nat.mod_lt _ (by omega)⟩ n)) (e (ix3 h ⟨q.val % 128, Nat.mod_lt _ (by omega)⟩ n))
    (c (ix3 h ⟨q.val / 128, by omega⟩ n)) (d (ix3 h ⟨q.val / 128, by omega⟩ n))

/-- What expert `q` adds to feature `j` of token `n`. -/
def added (x : Vec Ideal S2048x1024 .bf16) (u v : Vec Ideal S2x16384x2048 .f32) (r e : Vec Ideal S8x128x1024 .bf16)
    (c d : Vec Ideal S8x128x1024 .f32) (n : Fin 1024) (j : Fin 2048) (q : Fin 16384) : EReal :=
  v (ix3 1 q j) * (routed r e c d q n * act (hidden x u q n))

/-- The experts' sums added to the residual, normalised by rows. -/
def result (x : Vec Ideal S2048x1024 .bf16) (u v : Vec Ideal S2x16384x2048 .f32) (r e : Vec Ideal S8x128x1024 .bf16)
    (c d : Vec Ideal S8x128x1024 .f32) (z : Vec Ideal S1024x2048 .f32) (g : Vec Ideal S2048 .f32) (i : S1024x2048.Idx) : EReal :=
  Project.normed (fun j => z (ix2 (i 0) j) + ∑ q : Fin 16384, added x u v r e c d (i 0) j q) (fun j => g (ix1 j)) (i 1)

end Cert.PeerSIdeal.Hand
-- ==== Proof.PeerSState.lean ====
module

public import proofs.«01_k».proof.Proof.PeerSKernel
public import proofs.«01_k».proof.Proof.PeerSTerms

@[expose] public section

noncomputable section

/-! The experts' sums over the grid: block after block of 1024 experts the scratch holds the sum of what the experts so far
    add, and the last block of a tile of tokens writes it out, normalised. -/

namespace Cert.PeerSIdeal.Hand

open Cert.PeerSIdeal Cert.PeerSIdeal.Gen
open Cert.PeerIdeal.Hand (weight act coef gate product ahead closed grown)
open Idealize.ShloMosaic Idealize.ShloMosaic.TcCoe Idealize.SL.Sem

theorem idx_0 : ∀ t : Fin cfg0.N, win0_0.index t = ![0, t.val / 16] :=
  (by decide +kernel : ∀ t : Fin grid0.N, win0_0.index t = ![0, t.val / 16])
theorem idx_1 : ∀ t : Fin cfg0.N, win0_1.index t = ![1, t.val % 16, 0] :=
  (by decide +kernel : ∀ t : Fin grid0.N, win0_1.index t = ![1, t.val % 16, 0])
theorem idx_2 : ∀ t : Fin cfg0.N, win0_2.index t = ![1, min (2 * (t.val % 16) + 2) 31, 0] :=
  (by decide +kernel : ∀ t : Fin grid0.N, win0_2.index t = ![1, min (2 * (t.val % 16) + 2) 31, 0])
theorem idx_3 : ∀ t : Fin cfg0.N, win0_3.index t = ![1, 0, t.val % 16] :=
  (by decide +kernel : ∀ t : Fin grid0.N, win0_3.index t = ![1, 0, t.val % 16])
theorem idx_4 : ∀ t : Fin cfg0.N, win0_4.index t = ![0, 0, t.val / 16] :=
  (by decide +kernel : ∀ t : Fin grid0.N, win0_4.index t = ![0, 0, t.val / 16])
theorem idx_5 : ∀ t : Fin cfg0.N, win0_5.index t = ![0, 0, t.val / 16] :=
  (by decide +kernel : ∀ t : Fin grid0.N, win0_5.index t = ![0, 0, t.val / 16])
theorem idx_6 : ∀ t : Fin cfg0.N, win0_6.index t = ![0, t.val % 16, t.val / 16] :=
  (by decide +kernel : ∀ t : Fin grid0.N, win0_6.index t = ![0, t.val % 16, t.val / 16])
theorem idx_7 : ∀ t : Fin cfg0.N, win0_7.index t = ![0, t.val % 16, t.val / 16] :=
  (by decide +kernel : ∀ t : Fin grid0.N, win0_7.index t = ![0, t.val % 16, t.val / 16])
theorem idx_8 : ∀ t : Fin cfg0.N, win0_8.index t = ![t.val / 16, 0] :=
  (by decide +kernel : ∀ t : Fin grid0.N, win0_8.index t = ![t.val / 16, 0])
theorem idx_9 : ∀ t : Fin cfg0.N, win0_9.index t = ![0, 0] :=
  (by decide +kernel : ∀ t : Fin grid0.N, win0_9.index t = ![0, 0])
theorem idx_10 : ∀ t : Fin cfg0.N, win0_10.index t = ![t.val / 16, 0] :=
  (by decide +kernel : ∀ t : Fin grid0.N, win0_10.index t = ![t.val / 16, 0])

theorem lt_points (t : Fin cfg0.N) : t.val < 32 := lt_of_lt_of_eq t.isLt (show cfg0.N = 32 from N_0)

/-- The token that column `r` of a point's tile is. -/
def token (n : ℕ) (r : Fin 512) : Fin 1024 := ⟨512 * (n / 16 % 2) + r.val, by omega⟩

theorem token_val (t : Fin cfg0.N) (r : Fin 512) : (token t.val r).val = 512 * (t.val / 16) + r.val := by
  have := lt_points t
  show 512 * (t.val / 16 % 2) + r.val = _
  omega

variable (m : (ℓ : Loc nD τ sig) → Buf (Elt Ideal) ℓ)

theorem host_v (c : Dev nD) (i : S2x2048x16384.Idx) : V m c main_v1 i = m ((c : Thread nD τ).loc main_arg2) (ix3 (i 0) (i 2) (i 1)) := by
  entry_read
  pointwise

theorem host_u (c : Dev nD) (i : S2x16384x2048.Idx) : V m c main_v2 i = m ((c : Thread nD τ).loc main_arg1) i := by
  entry_read
  pointwise

theorem host_g (c : Dev nD) (i : S1x2048.Idx) : V m c main_v3 i = m ((c : Thread nD τ).loc main_arg8) (ix1 (i 1)) := by
  entry_read
  pointwise

theorem read_0 (c : Dev nD) (t : Fin cfg0.N) (k : Fin 2048) (n : Fin 512) :
    iblk m c 0 t (ix2 k n) = (m ((c : Thread nD τ).loc main_arg0)) (ix2 k (token t.val n)) := by
  have e := idx_0 t
  have en := token_val t
  blk_simp [iblk]
  rw [V_main_arg0]
  refine congrArg _ ?_
  blk_ext [e, en]

theorem read_1 (c : Dev nD) (t : Fin cfg0.N) (r : Fin 1024) (k : Fin 2048) (q : Fin 16384) (hq : q.val = 1024 * (t.val % 16) + r.val) :
    iblk m c 1 t (ix3 0 r k) = (m ((c : Thread nD τ).loc main_arg1)) (ix3 1 q k) := by
  have e := idx_1 t
  have en := token_val t
  blk_simp [iblk]
  rw [host_u]
  refine congrArg _ ?_
  blk_ext [e, en, hq]

theorem read_2 (c : Dev nD) (t : Fin cfg0.N) (r : Fin 512) (k : Fin 2048) (q : Fin 16384) (hq : q.val = 1024 * (t.val % 16 + 1) + r.val) :
    iblk m c 2 t (ix3 0 r k) = (m ((c : Thread nD τ).loc main_arg1)) (ix3 1 q k) := by
  have e := idx_2 t
  rw [show min (2 * (t.val % 16) + 2) 31 = 2 * (t.val % 16) + 2 by omega] at e
  have en := token_val t
  blk_simp [iblk]
  rw [host_u]
  refine congrArg _ ?_
  blk_ext [e, en, hq]

theorem read_3 (c : Dev nD) (t : Fin cfg0.N) (d : Fin 2048) (r : Fin 1024) (q : Fin 16384) (hq : q.val = 1024 * (t.val % 16) + r.val) :
    iblk m c 3 t (ix3 0 d r) = (m ((c : Thread nD τ).loc main_arg2)) (ix3 1 q d) := by
  have e := idx_3 t
  have en := token_val t
  blk_simp [iblk]
  rw [host_v]
  refine congrArg _ ?_
  blk_ext [e, en, hq]

theorem read_4 (c : Dev nD) (t : Fin cfg0.N) (h : Fin 8) (k : Fin 128) (n : Fin 512) :
    iblk m c 4 t (ix3 h k n) = (m ((c : Thread nD τ).loc main_arg3)) (ix3 h k (token t.val n)) := by
  have e := idx_4 t
  have en := token_val t
  blk_simp [iblk]
  rw [V_main_arg3]
  refine congrArg _ ?_
  blk_ext [e, en]

theorem read_5 (c : Dev nD) (t : Fin cfg0.N) (h : Fin 8) (k : Fin 128) (n : Fin 512) :
    iblk m c 5 t (ix3 h k n) = (m ((c : Thread nD τ).loc main_arg4)) (ix3 h k (token t.val n)) := by
  have e := idx_5 t
  have en := token_val t
  blk_simp [iblk]
  rw [V_main_arg4]
  refine congrArg _ ?_
  blk_ext [e, en]

theorem read_6 (c : Dev nD) (t : Fin cfg0.N) (h : Fin 8) (i : Fin 8) (n : Fin 512) (p : Fin 128) (hp : p.val = 8 * (t.val % 16) + i.val) :
    iblk m c 6 t (ix3 h i n) = (m ((c : Thread nD τ).loc main_arg5)) (ix3 h p (token t.val n)) := by
  have e := idx_6 t
  have en := token_val t
  blk_simp [iblk]
  rw [V_main_arg5]
  refine congrArg _ ?_
  blk_ext [e, en, hp]

theorem read_7 (c : Dev nD) (t : Fin cfg0.N) (h : Fin 8) (i : Fin 8) (n : Fin 512) (p : Fin 128) (hp : p.val = 8 * (t.val % 16) + i.val) :
    iblk m c 7 t (ix3 h i n) = (m ((c : Thread nD τ).loc main_arg6)) (ix3 h p (token t.val n)) := by
  have e := idx_7 t
  have en := token_val t
  blk_simp [iblk]
  rw [V_main_arg6]
  refine congrArg _ ?_
  blk_ext [e, en, hp]

theorem read_8 (c : Dev nD) (t : Fin cfg0.N) (n : Fin 512) (j : Fin 2048) :
    iblk m c 8 t (ix2 n j) = (m ((c : Thread nD τ).loc main_arg7)) (ix2 (token t.val n) j) := by
  have e := idx_8 t
  have en := token_val t
  blk_simp [iblk]
  rw [V_main_arg7]
  refine congrArg _ ?_
  blk_ext [e, en]

theorem read_9 (c : Dev nD) (t : Fin cfg0.N) (j : Fin 2048) :
    iblk m c 9 t (ix2 0 j) = (m ((c : Thread nD τ).loc main_arg8)) (ix1 j) := by
  have e := idx_9 t
  have en := token_val t
  blk_simp [iblk]
  rw [host_g]
  refine congrArg _ ?_
  blk_ext [e, en]

theorem product_point (c : Dev nD) (t : Fin cfg0.N) (o : ℕ) (ho : o ≤ 512) (r n : Fin 512) (q : Fin 16384)
    (hq : q.val = 1024 * (t.val % 16) + (o + r.val)) :
    product (iblk m c 1 t) (iblk m c 0 t) o ho r n = hidden (m ((c : Thread nD τ).loc main_arg0)) (m ((c : Thread nD τ).loc main_arg1)) q (token t.val n) :=
  Finset.sum_congr (M := EReal) rfl fun k _ => congrArg₂ (· * ·) (read_1 m c t ⟨o + r.val, by omega⟩ k q hq) (read_0 m c t k n)

theorem next_point (c : Dev nD) (t : Fin cfg0.N) (r n : Fin 512) (q : Fin 16384) (hq : q.val = 1024 * (t.val % 16 + 1) + r.val) :
    ahead (iblk m c 2 t) (iblk m c 0 t) r n
      = hidden (m ((c : Thread nD τ).loc main_arg0)) (m ((c : Thread nD τ).loc main_arg1)) q (token t.val n) :=
  Finset.sum_congr (M := EReal) rfl fun k _ => congrArg₂ (· * ·) (read_2 m c t r k q hq) (read_0 m c t k n)

/-- A block's coefficients are the routing's weights times the activations. -/
theorem coef_point (c : Dev nD) (t : Fin cfg0.N) (k : Fin 2) (a : Fin 512 → Fin 512 → EReal) (row n : Fin 512) (q : Fin 16384)
    (hq : q.val = 1024 * (t.val % 16) + (512 * k.val + row.val)) (ha : a row n = hidden (m ((c : Thread nD τ).loc main_arg0)) (m ((c : Thread nD τ).loc main_arg1)) q (token t.val n)) :
    coef (iblk m c 4 t) (iblk m c 5 t) (iblk m c 6 t) (iblk m c 7 t) k a row n
      = routed (m ((c : Thread nD τ).loc main_arg3)) (m ((c : Thread nD τ).loc main_arg4)) (m ((c : Thread nD τ).loc main_arg5)) (m ((c : Thread nD τ).loc main_arg6)) q (token t.val n) * act (hidden (m ((c : Thread nD τ).loc main_arg0)) (m ((c : Thread nD τ).loc main_arg1)) q (token t.val n)) := by
  unfold coef
  refine congrArg₂ (· * ·) ?_ (congrArg act ha)
  unfold gate routed
  have hr : (⟨q.val % 128, Nat.mod_lt _ (by omega)⟩ : Fin 128) = ⟨row.val % 128, Nat.mod_lt _ (by omega)⟩ := Fin.ext (by dsimp only; omega)
  rw [hr]
  refine Finset.sum_congr rfl fun h _ => ?_
  rw [read_4 m c t, read_5 m c t, read_6 m c t h _ n ⟨q.val / 128, by omega⟩ (by dsimp only; omega),
    read_7 m c t h _ n ⟨q.val / 128, by omega⟩ (by dsimp only; omega)]

/-- What expert `q` adds, nought past the last. -/
def share (c : Dev nD) (n : Fin 1024) (j : Fin 2048) (q : ℕ) : EReal :=
  if h : q < 16384 then added (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) n j ⟨q, h⟩ else 0

/-- One block of 1024 experts takes the sum 1024 experts on. -/
theorem grown_point (c : Dev nD) (t : Fin cfg0.N) (y : EReal) (a : Fin 512 → Fin 512 → EReal) (d : Fin 2048) (n : Fin 512)
    (hy : y = ∑ q ∈ Finset.range (1024 * (t.val % 16)), share m c (token t.val n) d q)
    (ha : ∀ (r : Fin 512) (q : Fin 16384), q.val = 1024 * (t.val % 16) + r.val → a r n = hidden (m ((c : Thread nD τ).loc main_arg0)) (m ((c : Thread nD τ).loc main_arg1)) q (token t.val n)) :
    grown (iblk m c 0 t) (iblk m c 1 t) (iblk m c 3 t) (iblk m c 4 t) (iblk m c 5 t) (iblk m c 6 t) (iblk m c 7 t) y a d n
      = ∑ q ∈ Finset.range (1024 * (t.val % 16 + 1)), share m c (token t.val n) d q := by
  have ht := lt_points t
  unfold grown
  rw [hy, show 1024 * (t.val % 16 + 1) = 1024 * (t.val % 16) + 512 + 512 by omega, Finset.sum_range_add, Finset.sum_range_add,
    Finset.sum_range (n := 512), Finset.sum_range (n := 512)]
  refine congrArg₂ (· + ·) (congrArg₂ (· + ·) rfl ?_) ?_
  · refine Finset.sum_congr rfl fun k _ => ?_
    have hk := k.isLt
    have hlt : 1024 * (t.val % 16) + k.val < 16384 := by omega
    unfold share
    rw [dif_pos hlt]
    unfold added
    refine congrArg₂ (· * ·) (read_3 m c t d _ ⟨_, hlt⟩ (by dsimp only; omega)) ?_
    exact coef_point m c t 0 a k n ⟨_, hlt⟩ (by show _ = 1024 * (t.val % 16) + (512 * 0 + k.val); dsimp only; omega) (ha k ⟨_, hlt⟩ rfl)
  · refine Finset.sum_congr rfl fun k _ => ?_
    have hk := k.isLt
    have hlt : 1024 * (t.val % 16) + 512 + k.val < 16384 := by omega
    unfold share
    rw [dif_pos hlt]
    unfold added
    refine congrArg₂ (· * ·) (read_3 m c t d _ ⟨_, hlt⟩ (by dsimp only; omega)) ?_
    exact coef_point m c t 1 _ k n ⟨_, hlt⟩ (by show _ = 1024 * (t.val % 16) + (512 * 1 + k.val); dsimp only; omega)
      (product_point m c t 512 (by omega) k n ⟨_, hlt⟩ (by dsimp only; omega))

/-- The sums the first point of a tile leaves, -/
theorem left_A (c : Dev nD) (t : Fin cfg0.N) (h0 : t.val % 16 = 0) (h1 : ¬t.val % 16 = 15) (i : S2048x512.Idx) :
    (outsAt0 m c t.val t.isLt).2.1 i = grown (iblk m c 0 t) (iblk m c 1 t) (iblk m c 3 t) (iblk m c 4 t) (iblk m c 5 t) (iblk m c 6 t) (iblk m c 7 t) 0 (product (iblk m c 1 t) (iblk m c 0 t) 0 (by omega)) (i 0) (i 1) := by
  rw [← sums_A c t h0 h1 (iblk m c 0 t) (iblk m c 1 t) (iblk m c 2 t) (iblk m c 3 t) (iblk m c 4 t) (iblk m c 5 t) (iblk m c 6 t) (iblk m c 7 t) (iblk m c 8 t) (iblk m c 9 t) i, outsAt0_A m c t h0 h1]

/-- a point between, -/
theorem left_B (c : Dev nD) (t : Fin cfg0.N) (h0 : ¬t.val % 16 = 0) (h1 : ¬t.val % 16 = 15) (i : S2048x512.Idx) :
    (outsAt0 m c t.val t.isLt).2.1 i = grown (iblk m c 0 t) (iblk m c 1 t) (iblk m c 3 t) (iblk m c 4 t) (iblk m c 5 t) (iblk m c 6 t) (iblk m c 7 t) ((outsAt0 m c (t.val - 1) (Nat.lt_of_le_of_lt (Nat.sub_le _ _) t.isLt)).2.1 i) (fun r n => (outsAt0 m c (t.val - 1) (Nat.lt_of_le_of_lt (Nat.sub_le _ _) t.isLt)).2.2 (ix3 0 r n)) (i 0) (i 1) := by
  rw [← sums_B c t h0 h1 (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2 i, outsAt0_B m c t h0 h1]

/-- and what the last writes out. -/
theorem left_C (c : Dev nD) (t : Fin cfg0.N) (h0 : ¬t.val % 16 = 0) (h1 : t.val % 16 = 15) (i : S512x2048.Idx) :
    (outsAt0 m c t.val t.isLt).1 i = closed (iblk m c 8 t) (iblk m c 9 t)
      (fun j => grown (iblk m c 0 t) (iblk m c 1 t) (iblk m c 3 t) (iblk m c 4 t) (iblk m c 5 t) (iblk m c 6 t) (iblk m c 7 t) ((outsAt0 m c (t.val - 1) (Nat.lt_of_le_of_lt (Nat.sub_le _ _) t.isLt)).2.1 (ix2 j (i 0))) (fun r n => (outsAt0 m c (t.val - 1) (Nat.lt_of_le_of_lt (Nat.sub_le _ _) t.isLt)).2.2 (ix3 0 r n)) j (i 0)) i := by
  rw [← written c t h0 h1 (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2 i, outsAt0_C m c t h0 h1]

/-- The next activations after the first point, -/
theorem ahead_A (c : Dev nD) (t : Fin cfg0.N) (h0 : t.val % 16 = 0) (h1 : ¬t.val % 16 = 15) (r n : Fin 512) :
    (outsAt0 m c t.val t.isLt).2.2 (ix3 0 r n)
      = ahead (iblk m c 2 t) (iblk m c 0 t) r n := by
  rw [← next_A c t h0 h1 (iblk m c 0 t) (iblk m c 1 t) (iblk m c 2 t) (iblk m c 3 t) (iblk m c 4 t) (iblk m c 5 t) (iblk m c 6 t) (iblk m c 7 t) (iblk m c 8 t) (iblk m c 9 t) r n, outsAt0_A m c t h0 h1]

/-- and after a point between. -/
theorem ahead_B (c : Dev nD) (t : Fin cfg0.N) (h0 : ¬t.val % 16 = 0) (h1 : ¬t.val % 16 = 15) (r n : Fin 512) :
    (outsAt0 m c t.val t.isLt).2.2 (ix3 0 r n)
      = ahead (iblk m c 2 t) (iblk m c 0 t) r n := by
  rw [← next_B c t h0 h1 (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2 r n, outsAt0_B m c t h0 h1]

/-- What holds after point `n` of the two scratches, unless it is the last of its tile. -/
def Held (c : Dev nD) (n : ℕ) (hn : n < cfg0.N) : Prop :=
  (∀ i : S2048x512.Idx, (outsAt0 m c n hn).2.1 i = ∑ q ∈ Finset.range (1024 * (n % 16 + 1)), share m c (token n (i 1)) (i 0) q)
    ∧ ∀ (r l : Fin 512) (q : Fin 16384), q.val = 1024 * (n % 16 + 1) + r.val →
      (outsAt0 m c n hn).2.2 (ix3 0 r l) = hidden (m ((c : Thread nD τ).loc main_arg0)) (m ((c : Thread nD τ).loc main_arg1)) q (token n l)

theorem token_pred (n : ℕ) (h0 : ¬n % 16 = 0) (r : Fin 512) : token (n - 1) r = token n r :=
  Fin.ext (by show 512 * ((n - 1) / 16 % 2) + r.val = 512 * (n / 16 % 2) + r.val; omega)

theorem sums_pred (c : Dev nD) (t : Fin cfg0.N) (h0 : ¬t.val % 16 = 0)
    (hp : Held m c (t.val - 1) (Nat.lt_of_le_of_lt (Nat.sub_le _ _) t.isLt)) (i : S2048x512.Idx) :
    (outsAt0 m c (t.val - 1) (Nat.lt_of_le_of_lt (Nat.sub_le _ _) t.isLt)).2.1 i = ∑ q ∈ Finset.range (1024 * (t.val % 16)), share m c (token t.val (i 1)) (i 0) q :=
  (hp.1 i).trans (congrArg₂ (fun k w => ∑ q ∈ Finset.range (1024 * k), share m c w (i 0) q)
    (by omega : (t.val - 1) % 16 + 1 = t.val % 16) (token_pred _ h0 _))

theorem ahead_pred (c : Dev nD) (t : Fin cfg0.N) (h0 : ¬t.val % 16 = 0)
    (hp : Held m c (t.val - 1) (Nat.lt_of_le_of_lt (Nat.sub_le _ _) t.isLt)) (r n : Fin 512) (q : Fin 16384)
    (hq : q.val = 1024 * (t.val % 16) + r.val) :
    (outsAt0 m c (t.val - 1) (Nat.lt_of_le_of_lt (Nat.sub_le _ _) t.isLt)).2.2 (ix3 0 r n) = hidden (m ((c : Thread nD τ).loc main_arg0)) (m ((c : Thread nD τ).loc main_arg1)) q (token t.val n) :=
  (hp.2 r n q (by omega)).trans (congrArg (hidden (m ((c : Thread nD τ).loc main_arg0)) (m ((c : Thread nD τ).loc main_arg1)) q) (token_pred _ h0 n))

theorem held_A (c : Dev nD) (t : Fin cfg0.N) (h0 : t.val % 16 = 0) : Held m c t.val t.isLt := by
  refine ⟨fun i => ?_, fun r l q hq => ?_⟩
  · rw [left_A m c t h0 (by omega) i]
    refine grown_point m c t 0 _ (i 0) (i 1) ?_ fun r q hq => product_point m c t 0 (by omega) r (i 1) q (by omega)
    rw [h0]
    rfl
  · rw [ahead_A m c t h0 (by omega) r l]
    exact next_point m c t r l q hq

theorem held_B (c : Dev nD) (t : Fin cfg0.N) (h0 : ¬t.val % 16 = 0) (h1 : ¬t.val % 16 = 15)
    (hp : Held m c (t.val - 1) (Nat.lt_of_le_of_lt (Nat.sub_le _ _) t.isLt)) : Held m c t.val t.isLt := by
  refine ⟨fun i => ?_, fun r l q hq => ?_⟩
  · rw [left_B m c t h0 h1 i]
    exact grown_point m c t _ _ (i 0) (i 1) (sums_pred m c t h0 hp i) fun r q hq => ahead_pred m c t h0 hp r (i 1) q hq
  · rw [ahead_B m c t h0 h1 r l]
    exact next_point m c t r l q hq

/-- Every point but a tile's last leaves the two scratches so. -/
theorem held (c : Dev nD) (n : ℕ) : ∀ hn : n < cfg0.N, ¬n % 16 = 15 → Held m c n hn := by
  induction n with
  | zero => exact fun hn _ => held_A m c ⟨0, hn⟩ (Nat.zero_mod _)
  | succ n ih =>
    intro hn h1
    by_cases h0 : (n + 1) % 16 = 0
    · exact held_A m c ⟨n + 1, hn⟩ h0
    · exact held_B m c ⟨n + 1, hn⟩ h0 h1 (ih (Nat.lt_of_succ_lt hn) (by omega))

/-- All the experts' shares are the sum over the experts. -/
theorem sum_share (c : Dev nD) (n : Fin 1024) (j : Fin 2048) :
    ∑ q ∈ Finset.range 16384, share m c n j q = ∑ q : Fin 16384, added (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) n j q := by
  rw [Finset.sum_range]
  exact Finset.sum_congr rfl fun q _ => dif_pos q.isLt

/-- What the last block of a tile writes out. -/
theorem written_apply (c : Dev nD) (t : Fin cfg0.N) (h1 : t.val % 16 = 15) (i : S512x2048.Idx) :
    (outsAt0 m c t.val t.isLt).1 i = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 (token t.val (i 0)) (i 1)) := by
  have h0 : ¬t.val % 16 = 0 := by omega
  have hp := held m c (t.val - 1) (Nat.lt_of_le_of_lt (Nat.sub_le _ _) t.isLt) (by omega)
  rw [left_C m c t h0 h1 i]
  unfold closed result
  refine congrArg₂ (fun w g => Project.normed w g (i 1)) (funext fun j => ?_) (funext fun j => read_9 m c t j)
  refine congrArg₂ (· + ·) (read_8 m c t (i 0) j) ?_
  refine (grown_point m c t _ _ j (i 0) (sums_pred m c t h0 hp (ix2 j (i 0))) fun r q hq => ahead_pred m c t h0 hp r (i 0) q hq).trans ?_
  rw [h1]
  exact sum_share m c _ j

/-- The result array holds the experts' sums, normalised. -/
theorem final (c : Dev nD) : (dats m 0 c).arrAt 10 cfg0.N = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 10 _ (by decide +kernel) fun t hf y => ?_
  blk_simp
  rw [after0_10]
  have e := idx_10 t
  have en := token_val t (y 0)
  refine (written_apply m c t ((flush0_10 t).mp hf) y).trans ?_
  refine congrArg _ ?_
  blk_ext [e, en]

/-- Every run ends with the result array at what the points wrote, and the arguments as they were. -/
theorem ran (ρ : Dev nD → PrngReg) : θ_run defs (onTc (τ := τ) (main (F := Ideal))) ⟨m, fun _ => 0, ρ⟩ fun r => ∀ c : Dev nD,
      r.2.mem ((c : Thread nD τ).loc main_v4) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1 10,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 4).trans (((dats m 0 c).arrAt_in 4 rfl _).trans ((A_eq m c 4).trans (V_main_arg3 m c))),
      ((h c).1 5).trans (((dats m 0 c).arrAt_in 5 rfl _).trans ((A_eq m c 5).trans (V_main_arg4 m c))),
      ((h c).1 6).trans (((dats m 0 c).arrAt_in 6 rfl _).trans ((A_eq m c 6).trans (V_main_arg5 m c))),
      ((h c).1 7).trans (((dats m 0 c).arrAt_in 7 rfl _).trans ((A_eq m c 7).trans (V_main_arg6 m c))),
      ((h c).1 8).trans (((dats m 0 c).arrAt_in 8 rfl _).trans ((A_eq m c 8).trans (V_main_arg7 m c))),
      ((h c).2 main_arg8 (Pipeline.mem_restRefs_of main_arg8 (by decide) (by decide))).trans (V_main_arg8 m c)⟩)
    (run_main m ρ)

end Cert.PeerSIdeal.Hand
-- ==== Proof.PeerSClaim.lean ====
module

public import proofs.«01_k».proof.Defs
public import proofs.«01_k».proof.Proof.Gen.PeerSRefIdeal.Read
public import proofs.«01_k».proof.Proof.PeerSState

@[expose] public section

/-! The experts' kernel on the sample batch and its reference end with the same array. -/

namespace Cert.PeerSClaim

open Idealize.ShloMosaic Idealize.ShloMosaic.TcCoe Idealize.SL.Sem
open Cert.PeerSRefIdeal Cert.PeerSRefIdeal.Gen Cert.PeerSRefIdeal.Read
open Cert.PeerSIdeal.Hand (hidden routed added result)
open Cert.PeerIdeal.Hand (weight act)

theorem flat_u (u : Vec Ideal S2x16384x2048 .f32) (q : Fin 16384) (k : Fin 2048) :
    val_main_v15 (F := Ideal) u (ix2 q k) = u (ix3 1 q k) := by
  pointwise [val_main_v15, val_main_v14]

theorem flat_v (v : Vec Ideal S2x16384x2048 .f32) (q : Fin 16384) (k : Fin 2048) :
    val_main_v26 (F := Ideal) v (ix2 q k) = v (ix3 1 q k) := by
  pointwise [val_main_v26, val_main_v25]

theorem hidden_apply (x : Vec Ideal S2048x1024 .bf16) (u : Vec Ideal S2x16384x2048 .f32) (q : Fin 16384) (n : Fin 1024) :
    val_main_v16 (F := Ideal) x u (ix2 q n) = hidden x u q n := by
  rw [val_main_v16_apply]
  refine Finset.sum_congr (M := EReal) rfl fun k _ => congrArg₂ (· * ·) ((congrArg _ ?_).trans (flat_u u q k)) (congrArg x ?_)
  · funext a
    match a with
    | ⟨0, _⟩ => rfl
    | ⟨1, _⟩ => rfl
  · funext a
    match a with
    | ⟨0, _⟩ => rfl
    | ⟨1, _⟩ => rfl

theorem act_apply (x : Vec Ideal S2048x1024 .bf16) (u : Vec Ideal S2x16384x2048 .f32) (q : Fin 16384) (n : Fin 1024) :
    val_main_v23 (F := Ideal) x u (ix2 q n) = act (hidden x u q n) := by
  rw [← hidden_apply]
  unfold val_main_v23 val_main_v22 val_main_v21 val_main_v20 val_main_v19 val_main_v18 val_main_v17 act
  generalize val_main_v16 (F := Ideal) x u = p
  pointwise [val_main_cst_1, val_main_cst_2]
  rw [EReal.neg_mul, Ideal.erfc_neg]

theorem head_apply (r e : Vec Ideal S8x128x1024 .bf16) (c d : Vec Ideal S8x128x1024 .f32) (h : Fin 8) (i j : Fin 128) (n : Fin 1024) :
    val_main_v11 (F := Ideal) r e c d (ix4 h i j n) = weight (r (ix3 h j n)) (e (ix3 h j n)) (c (ix3 h i n)) (d (ix3 h i n)) := by
  pointwise [val_main_v11, val_main_v10, val_main_v9, val_main_v8, val_main_call0_v2, val_main_call0_v1, val_main_call0_v0, val_main_cst,
    val_main_v7, val_main_v6, val_main_v5, val_main_v4, val_main_v3, val_main_v2, val_main_v1, val_main_v0, weight]
  exact congrArg (fun w => (if r (ix3 h j n) < c (ix3 h i n) then e (ix3 h j n) else w) * d (ix3 h i n)) Ideal.ofBits_zero_f32

theorem routed_apply (r e : Vec Ideal S8x128x1024 .bf16) (c d : Vec Ideal S8x128x1024 .f32) (q : Fin 16384) (n : Fin 1024) :
    val_main_v13 (F := Ideal) r e c d (ix2 q n) = routed r e c d q n := by
  rw [val_main_v13_apply, val_main_v12_apply]
  have hq := q.isLt
  have hn := n.isLt
  refine (congrArg₂ (· + ·) (Ideal.ofBits_zero_f32 : Ideal.ofBits .f32 0x00000000#32 = 0) (Finset.sum_congr (M := EReal) rfl fun h _ => ?_)).trans (zero_add _)
  refine Eq.trans (congrArg _ (funext fun a => ?_)) (head_apply r e c d h ⟨q.val / 128, by omega⟩ ⟨q.val % 128, Nat.mod_lt _ (by omega)⟩ n)
  match a with
  | ⟨0, _⟩ => rfl
  | ⟨1, _⟩ => exact Fin.ext (by show (q.val * 1024 + n.val) / 131072 = q.val / 128; omega)
  | ⟨2, _⟩ => exact Fin.ext (by show (q.val * 1024 + n.val) / 1024 % 128 = q.val % 128; omega)
  | ⟨3, _⟩ => exact Fin.ext (by show (q.val * 1024 + n.val) % 1024 = n.val; omega)

theorem summed (x : Vec Ideal S2048x1024 .bf16) (u v : Vec Ideal S2x16384x2048 .f32) (r e : Vec Ideal S8x128x1024 .bf16)
    (c d : Vec Ideal S8x128x1024 .f32) (n : Fin 1024) (j : Fin 2048) :
    val_main_v27 (F := Ideal) x u v r e c d (ix2 n j) = ∑ q : Fin 16384, added x u v r e c d n j q := by
  rw [val_main_v27_apply]
  refine Finset.sum_congr (M := EReal) rfl fun q _ => ?_
  rw [show lidx_main_v27 (ix2 n j) q = ix2 q n from funext fun a => match a with | ⟨0, _⟩ => rfl | ⟨1, _⟩ => rfl,
    show ridx_main_v27 (ix2 n j) q = ix2 q j from funext fun a => match a with | ⟨0, _⟩ => rfl | ⟨1, _⟩ => rfl,
    flat_v, val_main_v24_apply, act_apply, routed_apply]
  exact mul_comm _ _

theorem reference (x : Vec Ideal S2048x1024 .bf16) (u v : Vec Ideal S2x16384x2048 .f32) (r e : Vec Ideal S8x128x1024 .bf16)
    (c d : Vec Ideal S8x128x1024 .f32) (z : Vec Ideal S1024x2048 .f32) (g : Vec Ideal S2048 .f32) :
    val_main_v41 (F := Ideal) x u v r e c d z g = result x u v r e c d z g := by
  funext i
  have h : result x u v r e c d z g i = Cert.Project.normed (fun j => z (ix2 (i 0) j) + val_main_v27 (F := Ideal) x u v r e c d (ix2 (i 0) j))
      (fun j => g (ix1 j)) (i 1) :=
    congrArg (fun w => Cert.Project.normed w (fun j => g (ix1 j)) (i 1))
      (funext fun j => congrArg (z (ix2 (i 0) j) + ·) (summed x u v r e c d (i 0) j).symm)
  rw [h]
  unfold val_main_v41 val_main_v40 val_main_v39 val_main_v38 val_main_v37 val_main_v36 val_main_v35 val_main_v33 val_main_v31
    val_main_v30 val_main_v29 val_main_v28
  generalize val_main_v27 (F := Ideal) x u v r e c d = p
  pointwise [val_main_cst_3, val_main_cst_4, val_main_cst_5, val_main_v34, val_main_v32, Cert.Project.normed]

theorem algebraic : Cert.algebraic_PeerSIdeal_PeerSRefIdeal := by
  intro m g m' g' _ h
  refine ⟨fun c => result
      (m ((c.tc : Thread Cert.PeerSIdeal.nD Cert.PeerSIdeal.τ).loc Cert.PeerSIdeal.main_arg0))
      (m ((c.tc : Thread Cert.PeerSIdeal.nD Cert.PeerSIdeal.τ).loc Cert.PeerSIdeal.main_arg1))
      (m ((c.tc : Thread Cert.PeerSIdeal.nD Cert.PeerSIdeal.τ).loc Cert.PeerSIdeal.main_arg2))
      (m ((c.tc : Thread Cert.PeerSIdeal.nD Cert.PeerSIdeal.τ).loc Cert.PeerSIdeal.main_arg3))
      (m ((c.tc : Thread Cert.PeerSIdeal.nD Cert.PeerSIdeal.τ).loc Cert.PeerSIdeal.main_arg4))
      (m ((c.tc : Thread Cert.PeerSIdeal.nD Cert.PeerSIdeal.τ).loc Cert.PeerSIdeal.main_arg5))
      (m ((c.tc : Thread Cert.PeerSIdeal.nD Cert.PeerSIdeal.τ).loc Cert.PeerSIdeal.main_arg6))
      (m ((c.tc : Thread Cert.PeerSIdeal.nD Cert.PeerSIdeal.τ).loc Cert.PeerSIdeal.main_arg7))
      (m ((c.tc : Thread Cert.PeerSIdeal.nD Cert.PeerSIdeal.τ).loc Cert.PeerSIdeal.main_arg8)), ?_, ?_⟩
  · exact (θ_run _ _ _).mono (fun r hr c => ⟨(hr c).1.trans (Cert.PeerSIdeal.Hand.final m c), (hr c).2⟩) (Cert.PeerSIdeal.Hand.ran m g)
  · refine (θ_run _ _ _).mono (fun r hr c => ⟨(hr c).1.trans ?_, (hr c).2⟩) (Cert.PeerSRefIdeal.Value.run m' g')
    obtain ⟨h0, h1, h2, h3, h4, h5, h6, h7, h8⟩ := h c
    rw [val_main_v41_eq, h0, h1, h2, h3, h4, h5, h6, h7, h8]
    exact reference _ _ _ _ _ _ _ _ _

end Cert.PeerSClaim
-- ==== Proof.lean ====
/- The claim, put together: the frames are the generated runs, each value equation is the theorem of its own module. -/
module

public import proofs.«01_k».proof.Defs
public import proofs.«01_k».proof.Proof.Gen.ProjA.Frame
public import proofs.«01_k».proof.Proof.Gen.ProjA
public import proofs.«01_k».proof.Proof.Gen.ProjAIdeal
public import proofs.«01_k».proof.Proof.Gen.ProjAIdeal.Value
public import proofs.«01_k».proof.Proof.Gen.ProjARefIdeal
public import proofs.«01_k».proof.Proof.Gen.ProjARefIdeal.Read
public import proofs.«01_k».proof.Proof.ProjAClaim
public import proofs.«01_k».proof.Proof.Gen.ProjAS.Frame
public import proofs.«01_k».proof.Proof.Gen.ProjAS
public import proofs.«01_k».proof.Proof.Gen.ProjASIdeal
public import proofs.«01_k».proof.Proof.Gen.ProjASIdeal.Value
public import proofs.«01_k».proof.Proof.Gen.ProjASRefIdeal
public import proofs.«01_k».proof.Proof.Gen.ProjASRefIdeal.Read
public import proofs.«01_k».proof.Proof.ProjASClaim
public import proofs.«01_k».proof.Proof.Gen.ProjB.Frame
public import proofs.«01_k».proof.Proof.Gen.ProjB
public import proofs.«01_k».proof.Proof.Gen.ProjBIdeal
public import proofs.«01_k».proof.Proof.Gen.ProjBIdeal.Value
public import proofs.«01_k».proof.Proof.Gen.ProjBRefIdeal
public import proofs.«01_k».proof.Proof.Gen.ProjBRefIdeal.Read
public import proofs.«01_k».proof.Proof.ProjBClaim
public import proofs.«01_k».proof.Proof.Gen.MemKv0.Frame
public import proofs.«01_k».proof.Proof.Gen.MemKv0
public import proofs.«01_k».proof.Proof.Gen.MemKv0Ideal
public import proofs.«01_k».proof.Proof.Gen.MemKv0Ideal.Value
public import proofs.«01_k».proof.Proof.Gen.MemKv0RefIdeal
public import proofs.«01_k».proof.Proof.Gen.MemKv0RefIdeal.Read
public import proofs.«01_k».proof.Proof.MemKv0Claim
public import proofs.«01_k».proof.Proof.Gen.MemKv1.Frame
public import proofs.«01_k».proof.Proof.Gen.MemKv1
public import proofs.«01_k».proof.Proof.Gen.MemKv1Ideal
public import proofs.«01_k».proof.Proof.Gen.MemKv1Ideal.Value
public import proofs.«01_k».proof.Proof.Gen.MemKv1RefIdeal
public import proofs.«01_k».proof.Proof.Gen.MemKv1RefIdeal.Read
public import proofs.«01_k».proof.Proof.MemKv1Claim
public import proofs.«01_k».proof.Proof.Gen.MemAttn.Frame
public import proofs.«01_k».proof.Proof.Gen.MemAttn
public import proofs.«01_k».proof.Proof.Gen.MemAttnIdeal
public import proofs.«01_k».proof.Proof.Gen.MemAttnIdeal.Value
public import proofs.«01_k».proof.Proof.Gen.MemAttnRefIdeal
public import proofs.«01_k».proof.Proof.Gen.MemAttnRefIdeal.Read
public import proofs.«01_k».proof.Proof.MemAttnClaim
public import proofs.«01_k».proof.Proof.Gen.OutProj.Frame
public import proofs.«01_k».proof.Proof.Gen.OutProj
public import proofs.«01_k».proof.Proof.Gen.OutProjIdeal
public import proofs.«01_k».proof.Proof.Gen.OutProjIdeal.Value
public import proofs.«01_k».proof.Proof.Gen.OutProjRefIdeal
public import proofs.«01_k».proof.Proof.Gen.OutProjRefIdeal.Read
public import proofs.«01_k».proof.Proof.OutProjClaim
public import proofs.«01_k».proof.Proof.Gen.Scores.Frame
public import proofs.«01_k».proof.Proof.Gen.Scores
public import proofs.«01_k».proof.Proof.Gen.ScoresIdeal
public import proofs.«01_k».proof.Proof.Gen.ScoresIdeal.Value
public import proofs.«01_k».proof.Proof.Gen.ScoresRefIdeal
public import proofs.«01_k».proof.Proof.Gen.ScoresRefIdeal.Read
public import proofs.«01_k».proof.Proof.ScoresClaim
public import proofs.«01_k».proof.Proof.Gen.Attn.Frame
public import proofs.«01_k».proof.Proof.Gen.Attn
public import proofs.«01_k».proof.Proof.Gen.AttnIdeal
public import proofs.«01_k».proof.Proof.Gen.AttnIdeal.Value
public import proofs.«01_k».proof.Proof.Gen.AttnRefIdeal
public import proofs.«01_k».proof.Proof.Gen.AttnRefIdeal.Read
public import proofs.«01_k».proof.Proof.AttnClaim
public import proofs.«01_k».proof.Proof.Gen.HgrnS.Frame
public import proofs.«01_k».proof.Proof.Gen.HgrnS
public import proofs.«01_k».proof.Proof.Gen.HgrnSIdeal
public import proofs.«01_k».proof.Proof.Gen.HgrnSIdeal.Value
public import proofs.«01_k».proof.Proof.Gen.HgrnSRefIdeal
public import proofs.«01_k».proof.Proof.Gen.HgrnSRefIdeal.Read
public import proofs.«01_k».proof.Proof.HgrnSClaim
public import proofs.«01_k».proof.Proof.Gen.HgrnP.Frame
public import proofs.«01_k».proof.Proof.Gen.HgrnP
public import proofs.«01_k».proof.Proof.Gen.HgrnPIdeal
public import proofs.«01_k».proof.Proof.Gen.HgrnPIdeal.Value
public import proofs.«01_k».proof.Proof.Gen.HgrnPRefIdeal
public import proofs.«01_k».proof.Proof.Gen.HgrnPRefIdeal.Step
public import proofs.«01_k».proof.Proof.Gen.HgrnPRefIdeal.StepRun
public import proofs.«01_k».proof.Proof.HgrnPClaim
public import proofs.«01_k».proof.Proof.Gen.Peer.Frame
public import proofs.«01_k».proof.Proof.Gen.Peer
public import proofs.«01_k».proof.Proof.Gen.PeerIdeal
public import proofs.«01_k».proof.Proof.Gen.PeerIdeal.Frame
public import proofs.«01_k».proof.Proof.Gen.PeerRefIdeal
public import proofs.«01_k».proof.Proof.Gen.PeerRefIdeal.Read
public import proofs.«01_k».proof.Proof.PeerClaim
public import proofs.«01_k».proof.Proof.Gen.PeerS.Frame
public import proofs.«01_k».proof.Proof.Gen.PeerS
public import proofs.«01_k».proof.Proof.Gen.PeerSIdeal
public import proofs.«01_k».proof.Proof.Gen.PeerSIdeal.Frame
public import proofs.«01_k».proof.Proof.Gen.PeerSRefIdeal
public import proofs.«01_k».proof.Proof.Gen.PeerSRefIdeal.Read
public import proofs.«01_k».proof.Proof.PeerSClaim
public import proofs.«01_k».proof.Proof.Gen.Pre_finite_attn
public import proofs.«01_k».proof.Proof.Gen.Pre_finite_lower_s
public import proofs.«01_k».proof.Proof.Gen.Pre_finite_lower_p
public import Idealize.ShloMosaic.Adequacy
public import Idealize.ShloMosaic.Init

@[expose] public section

noncomputable section

namespace Cert.Proof

open Idealize.ShloMosaic Idealize.SL.Sem

/-- Every run of `ProjA` ends without a fault, its arguments and semaphores as at the start. -/
theorem frame_ProjA : Cert.quiescent_ProjA := fun m ρ _ => Cert.ProjA.Gen.frame m ρ

/-- Every run of `ProjAIdeal` ends without a fault, its arguments and semaphores as at the start. -/
theorem frame_ProjAIdeal : Cert.quiescent_ProjAIdeal := fun m ρ _ => Cert.ProjAIdeal.Gen.frame m ρ

/-- The same of the reference `ProjARefIdeal`. -/
theorem frame_ProjARefIdeal : Cert.quiescent_ProjARefIdeal := fun m ρ _ =>
  (θ_run _ _ _).mono (fun r h => ⟨fun c => (h c).2, sem_eq_zero_of_no_sems (by decide) r.2⟩)
    (Cert.ProjARefIdeal.Value.run (F := Ideal) m ρ)

/-- Every run of `ProjAS` ends without a fault, its arguments and semaphores as at the start. -/
theorem frame_ProjAS : Cert.quiescent_ProjAS := fun m ρ _ => Cert.ProjAS.Gen.frame m ρ

/-- Every run of `ProjASIdeal` ends without a fault, its arguments and semaphores as at the start. -/
theorem frame_ProjASIdeal : Cert.quiescent_ProjASIdeal := fun m ρ _ => Cert.ProjASIdeal.Gen.frame m ρ

/-- The same of the reference `ProjASRefIdeal`. -/
theorem frame_ProjASRefIdeal : Cert.quiescent_ProjASRefIdeal := fun m ρ _ =>
  (θ_run _ _ _).mono (fun r h => ⟨fun c => (h c).2, sem_eq_zero_of_no_sems (by decide) r.2⟩)
    (Cert.ProjASRefIdeal.Value.run (F := Ideal) m ρ)

/-- Every run of `ProjB` ends without a fault, its arguments and semaphores as at the start. -/
theorem frame_ProjB : Cert.quiescent_ProjB := fun m ρ _ => Cert.ProjB.Gen.frame m ρ

/-- Every run of `ProjBIdeal` ends without a fault, its arguments and semaphores as at the start. -/
theorem frame_ProjBIdeal : Cert.quiescent_ProjBIdeal := fun m ρ _ => Cert.ProjBIdeal.Gen.frame m ρ

/-- The same of the reference `ProjBRefIdeal`. -/
theorem frame_ProjBRefIdeal : Cert.quiescent_ProjBRefIdeal := fun m ρ _ =>
  (θ_run _ _ _).mono (fun r h => ⟨fun c => (h c).2, sem_eq_zero_of_no_sems (by decide) r.2⟩)
    (Cert.ProjBRefIdeal.Value.run (F := Ideal) m ρ)

/-- Every run of `MemKv0` ends without a fault, its arguments and semaphores as at the start. -/
theorem frame_MemKv0 : Cert.quiescent_MemKv0 := fun m ρ _ => Cert.MemKv0.Gen.frame m ρ

/-- Every run of `MemKv0Ideal` ends without a fault, its arguments and semaphores as at the start. -/
theorem frame_MemKv0Ideal : Cert.quiescent_MemKv0Ideal := fun m ρ _ => Cert.MemKv0Ideal.Gen.frame m ρ

/-- The same of the reference `MemKv0RefIdeal`. -/
theorem frame_MemKv0RefIdeal : Cert.quiescent_MemKv0RefIdeal := fun m ρ _ =>
  (θ_run _ _ _).mono (fun r h => ⟨fun c => (h c).2, sem_eq_zero_of_no_sems (by decide) r.2⟩)
    (Cert.MemKv0RefIdeal.Value.run (F := Ideal) m ρ)

/-- Every run of `MemKv1` ends without a fault, its arguments and semaphores as at the start. -/
theorem frame_MemKv1 : Cert.quiescent_MemKv1 := fun m ρ _ => Cert.MemKv1.Gen.frame m ρ

/-- Every run of `MemKv1Ideal` ends without a fault, its arguments and semaphores as at the start. -/
theorem frame_MemKv1Ideal : Cert.quiescent_MemKv1Ideal := fun m ρ _ => Cert.MemKv1Ideal.Gen.frame m ρ

/-- The same of the reference `MemKv1RefIdeal`. -/
theorem frame_MemKv1RefIdeal : Cert.quiescent_MemKv1RefIdeal := fun m ρ _ =>
  (θ_run _ _ _).mono (fun r h => ⟨fun c => (h c).2, sem_eq_zero_of_no_sems (by decide) r.2⟩)
    (Cert.MemKv1RefIdeal.Value.run (F := Ideal) m ρ)

/-- Every run of `MemAttn` ends without a fault, its arguments and semaphores as at the start. -/
theorem frame_MemAttn : Cert.quiescent_MemAttn := fun m ρ _ => Cert.MemAttn.Gen.frame m ρ

/-- Every run of `MemAttnIdeal` ends without a fault, its arguments and semaphores as at the start. -/
theorem frame_MemAttnIdeal : Cert.quiescent_MemAttnIdeal := fun m ρ _ => Cert.MemAttnIdeal.Gen.frame m ρ

/-- The same of the reference `MemAttnRefIdeal`. -/
theorem frame_MemAttnRefIdeal : Cert.quiescent_MemAttnRefIdeal := fun m ρ _ =>
  (θ_run _ _ _).mono (fun r h => ⟨fun c => (h c).2, sem_eq_zero_of_no_sems (by decide) r.2⟩)
    (Cert.MemAttnRefIdeal.Value.run (F := Ideal) m ρ)

/-- Every run of `OutProj` ends without a fault, its arguments and semaphores as at the start. -/
theorem frame_OutProj : Cert.quiescent_OutProj := fun m ρ _ => Cert.OutProj.Gen.frame m ρ

/-- Every run of `OutProjIdeal` ends without a fault, its arguments and semaphores as at the start. -/
theorem frame_OutProjIdeal : Cert.quiescent_OutProjIdeal := fun m ρ _ => Cert.OutProjIdeal.Gen.frame m ρ

/-- The same of the reference `OutProjRefIdeal`. -/
theorem frame_OutProjRefIdeal : Cert.quiescent_OutProjRefIdeal := fun m ρ _ =>
  (θ_run _ _ _).mono (fun r h => ⟨fun c => (h c).2.2, sem_eq_zero_of_no_sems (by decide) r.2⟩)
    (Cert.OutProjRefIdeal.Value.run (F := Ideal) m ρ)

/-- Every run of `Scores` ends without a fault, its arguments and semaphores as at the start. -/
theorem frame_Scores : Cert.quiescent_Scores := fun m ρ _ => Cert.Scores.Gen.frame m ρ

/-- Every run of `ScoresIdeal` ends without a fault, its arguments and semaphores as at the start. -/
theorem frame_ScoresIdeal : Cert.quiescent_ScoresIdeal := fun m ρ _ => Cert.ScoresIdeal.Gen.frame m ρ

/-- The same of the reference `ScoresRefIdeal`. -/
theorem frame_ScoresRefIdeal : Cert.quiescent_ScoresRefIdeal := fun m ρ _ =>
  (θ_run _ _ _).mono (fun r h => ⟨fun c => (h c).2, sem_eq_zero_of_no_sems (by decide) r.2⟩)
    (Cert.ScoresRefIdeal.Value.run (F := Ideal) m ρ)

/-- Every run of `Attn` ends without a fault, its arguments and semaphores as at the start. -/
theorem frame_Attn : Cert.quiescent_Attn := fun m ρ _ => Cert.Attn.Gen.frame m ρ

/-- Every run of `AttnIdeal` ends without a fault, its arguments and semaphores as at the start. -/
theorem frame_AttnIdeal : Cert.quiescent_AttnIdeal := fun m ρ _ => Cert.AttnIdeal.Gen.frame m ρ

/-- The same of the reference `AttnRefIdeal`. -/
theorem frame_AttnRefIdeal : Cert.quiescent_AttnRefIdeal := fun m ρ _ =>
  (θ_run _ _ _).mono (fun r h => ⟨fun c => (h c).2, sem_eq_zero_of_no_sems (by decide) r.2⟩)
    (Cert.AttnRefIdeal.Value.run (F := Ideal) m ρ)

/-- The frames once more, from the arguments that the precondition admits. -/
theorem frame_AttnIdeal_pre : Cert.quiescent_AttnIdeal_pre_finite_attn := fun m ρ _ => Cert.AttnIdeal.Gen.frame m ρ

theorem frame_AttnRefIdeal_pre : Cert.quiescent_AttnRefIdeal_pre_finite_attn := fun m ρ _ =>
  (θ_run _ _ _).mono (fun r h => ⟨fun c => (h c).2, sem_eq_zero_of_no_sems (by decide) r.2⟩)
    (Cert.AttnRefIdeal.Value.run (F := Ideal) m ρ)

/-- Every run of `HgrnS` ends without a fault, its arguments and semaphores as at the start. -/
theorem frame_HgrnS : Cert.quiescent_HgrnS := fun m ρ _ => Cert.HgrnS.Gen.frame m ρ

/-- Every run of `HgrnSIdeal` ends without a fault, its arguments and semaphores as at the start. -/
theorem frame_HgrnSIdeal : Cert.quiescent_HgrnSIdeal := fun m ρ _ => Cert.HgrnSIdeal.Gen.frame m ρ

/-- The same of the reference `HgrnSRefIdeal`. -/
theorem frame_HgrnSRefIdeal : Cert.quiescent_HgrnSRefIdeal := fun m ρ _ =>
  (θ_run _ _ _).mono (fun r h => ⟨fun c => (h c).2, sem_eq_zero_of_no_sems (by decide) r.2⟩)
    (Cert.HgrnSRefIdeal.Value.run (F := Ideal) m ρ)

/-- The frames once more, from the arguments that the precondition admits. -/
theorem frame_HgrnSIdeal_pre : Cert.quiescent_HgrnSIdeal_pre_finite_lower_s := fun m ρ _ => Cert.HgrnSIdeal.Gen.frame m ρ

theorem frame_HgrnSRefIdeal_pre : Cert.quiescent_HgrnSRefIdeal_pre_finite_lower_s := fun m ρ _ =>
  (θ_run _ _ _).mono (fun r h => ⟨fun c => (h c).2, sem_eq_zero_of_no_sems (by decide) r.2⟩)
    (Cert.HgrnSRefIdeal.Value.run (F := Ideal) m ρ)

/-- Every run of `HgrnP` ends without a fault, its arguments and semaphores as at the start. -/
theorem frame_HgrnP : Cert.quiescent_HgrnP := fun m ρ _ => Cert.HgrnP.Gen.frame m ρ

/-- Every run of `HgrnPIdeal` ends without a fault, its arguments and semaphores as at the start. -/
theorem frame_HgrnPIdeal : Cert.quiescent_HgrnPIdeal := fun m ρ _ => Cert.HgrnPIdeal.Gen.frame m ρ

/-- The same of the reference `HgrnPRefIdeal`. -/
theorem frame_HgrnPRefIdeal : Cert.quiescent_HgrnPRefIdeal := fun m ρ _ =>
  (θ_run _ _ _).mono (fun r h => ⟨fun c => (h c).2, sem_eq_zero_of_no_sems (by decide) r.2⟩)
    (Cert.HgrnPRefIdeal.Value.run (F := Ideal) m ρ)

/-- The frames once more, from the arguments that the precondition admits. -/
theorem frame_HgrnPIdeal_pre : Cert.quiescent_HgrnPIdeal_pre_finite_lower_p := fun m ρ _ => Cert.HgrnPIdeal.Gen.frame m ρ

theorem frame_HgrnPRefIdeal_pre : Cert.quiescent_HgrnPRefIdeal_pre_finite_lower_p := fun m ρ _ =>
  (θ_run _ _ _).mono (fun r h => ⟨fun c => (h c).2, sem_eq_zero_of_no_sems (by decide) r.2⟩)
    (Cert.HgrnPRefIdeal.Value.run (F := Ideal) m ρ)

/-- Every run of `Peer` ends without a fault, its arguments and semaphores as at the start. -/
theorem frame_Peer : Cert.quiescent_Peer := fun m ρ _ => Cert.Peer.Gen.frame m ρ

/-- Every run of `PeerIdeal` ends without a fault, its arguments and semaphores as at the start. -/
theorem frame_PeerIdeal : Cert.quiescent_PeerIdeal := fun m ρ _ => Cert.PeerIdeal.Gen.frame m ρ

/-- The same of the reference `PeerRefIdeal`. -/
theorem frame_PeerRefIdeal : Cert.quiescent_PeerRefIdeal := fun m ρ _ =>
  (θ_run _ _ _).mono (fun r h => ⟨fun c => (h c).2, sem_eq_zero_of_no_sems (by decide) r.2⟩)
    (Cert.PeerRefIdeal.Value.run (F := Ideal) m ρ)

/-- Every run of `PeerS` ends without a fault, its arguments and semaphores as at the start. -/
theorem frame_PeerS : Cert.quiescent_PeerS := fun m ρ _ => Cert.PeerS.Gen.frame m ρ

/-- Every run of `PeerSIdeal` ends without a fault, its arguments and semaphores as at the start. -/
theorem frame_PeerSIdeal : Cert.quiescent_PeerSIdeal := fun m ρ _ => Cert.PeerSIdeal.Gen.frame m ρ

/-- The same of the reference `PeerSRefIdeal`. -/
theorem frame_PeerSRefIdeal : Cert.quiescent_PeerSRefIdeal := fun m ρ _ =>
  (θ_run _ _ _).mono (fun r h => ⟨fun c => (h c).2, sem_eq_zero_of_no_sems (by decide) r.2⟩)
    (Cert.PeerSRefIdeal.Value.run (F := Ideal) m ρ)

/-- Every claim of the certificate. -/
theorem claim : Cert.Claim :=
  ⟨Cert.ProjA.Gen.facts,
    Cert.ProjAIdeal.Gen.facts,
    Cert.ProjARefIdeal.Gen.facts,
    Cert.ProjAS.Gen.facts,
    Cert.ProjASIdeal.Gen.facts,
    Cert.ProjASRefIdeal.Gen.facts,
    Cert.ProjB.Gen.facts,
    Cert.ProjBIdeal.Gen.facts,
    Cert.ProjBRefIdeal.Gen.facts,
    Cert.MemKv0.Gen.facts,
    Cert.MemKv0Ideal.Gen.facts,
    Cert.MemKv0RefIdeal.Gen.facts,
    Cert.MemKv1.Gen.facts,
    Cert.MemKv1Ideal.Gen.facts,
    Cert.MemKv1RefIdeal.Gen.facts,
    Cert.MemAttn.Gen.facts,
    Cert.MemAttnIdeal.Gen.facts,
    Cert.MemAttnRefIdeal.Gen.facts,
    Cert.OutProj.Gen.facts,
    Cert.OutProjIdeal.Gen.facts,
    Cert.OutProjRefIdeal.Gen.facts,
    Cert.Scores.Gen.facts,
    Cert.ScoresIdeal.Gen.facts,
    Cert.ScoresRefIdeal.Gen.facts,
    Cert.Attn.Gen.facts,
    Cert.AttnIdeal.Gen.facts,
    Cert.AttnRefIdeal.Gen.facts,
    Cert.HgrnS.Gen.facts,
    Cert.HgrnSIdeal.Gen.facts,
    Cert.HgrnSRefIdeal.Gen.facts,
    Cert.HgrnP.Gen.facts,
    Cert.HgrnPIdeal.Gen.facts,
    Cert.HgrnPRefIdeal.Gen.facts,
    Cert.Peer.Gen.facts,
    Cert.PeerIdeal.Gen.facts,
    Cert.PeerRefIdeal.Gen.facts,
    Cert.PeerS.Gen.facts,
    Cert.PeerSIdeal.Gen.facts,
    Cert.PeerSRefIdeal.Gen.facts,
    Cert.Pre_finite_attn.Gen.facts,
    Cert.Pre_finite_lower_s.Gen.facts,
    Cert.Pre_finite_lower_p.Gen.facts,
    frame_ProjA,
    frame_ProjAIdeal,
    frame_ProjARefIdeal,
    frame_ProjAS,
    frame_ProjASIdeal,
    frame_ProjASRefIdeal,
    frame_ProjB,
    frame_ProjBIdeal,
    frame_ProjBRefIdeal,
    frame_MemKv0,
    frame_MemKv0Ideal,
    frame_MemKv0RefIdeal,
    frame_MemKv1,
    frame_MemKv1Ideal,
    frame_MemKv1RefIdeal,
    frame_MemAttn,
    frame_MemAttnIdeal,
    frame_MemAttnRefIdeal,
    frame_OutProj,
    frame_OutProjIdeal,
    frame_OutProjRefIdeal,
    frame_Scores,
    frame_ScoresIdeal,
    frame_ScoresRefIdeal,
    frame_Attn,
    frame_AttnIdeal,
    frame_AttnIdeal_pre,
    frame_AttnRefIdeal,
    frame_AttnRefIdeal_pre,
    frame_HgrnS,
    frame_HgrnSIdeal,
    frame_HgrnSIdeal_pre,
    frame_HgrnSRefIdeal,
    frame_HgrnSRefIdeal_pre,
    frame_HgrnP,
    frame_HgrnPIdeal,
    frame_HgrnPIdeal_pre,
    frame_HgrnPRefIdeal,
    frame_HgrnPRefIdeal_pre,
    frame_Peer,
    frame_PeerIdeal,
    frame_PeerRefIdeal,
    frame_PeerS,
    frame_PeerSIdeal,
    frame_PeerSRefIdeal,
    trivial,
    Cert.ProjAClaim.algebraic,
    trivial,
    Cert.ProjASClaim.algebraic,
    trivial,
    Cert.ProjBClaim.algebraic,
    trivial,
    Cert.MemKv0Claim.algebraic,
    trivial,
    Cert.MemKv1Claim.algebraic,
    trivial,
    Cert.MemAttnClaim.algebraic,
    trivial,
    Cert.OutProjClaim.algebraic,
    trivial,
    Cert.ScoresClaim.algebraic,
    Cert.AttnClaim.preserves,
    Cert.AttnClaim.algebraic,
    trivial,
    Cert.HgrnSClaim.algebraic,
    trivial,
    Cert.HgrnPClaim.algebraic,
    IdealRules.shift_out.by16TwiceStatement _,
    Cert.PeerClaim.algebraic,
    IdealRules.shift_out.by16TwiceStatement _,
    Cert.PeerSClaim.algebraic⟩

end Cert.Proof

end
